-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v386) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v61) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
-- ==== Kernel.lean ====
abbrev S2x8192x1024 : Shape := ⟨3, ![2, 8192, 1024]⟩
abbrev S1x1024 : Shape := ⟨2, ![1, 1024]⟩
abbrev S1x1024x7184 : Shape := ⟨3, ![1, 1024, 7184]⟩
abbrev S1x31x1024 : Shape := ⟨3, ![1, 31, 1024]⟩
abbrev S1x1024x1024 : Shape := ⟨3, ![1, 1024, 1024]⟩
abbrev S1x16x512 : Shape := ⟨3, ![1, 16, 512]⟩
abbrev S1x512 : Shape := ⟨2, ![1, 512]⟩
abbrev S1x256 : Shape := ⟨2, ![1, 256]⟩
abbrev S256x256 : Shape := ⟨2, ![256, 256]⟩
abbrev S1024x7184 : Shape := ⟨2, ![1024, 7184]⟩
abbrev S1024x5120 : Shape := ⟨2, ![1024, 5120]⟩
abbrev S1024x2048 : Shape := ⟨2, ![1024, 2048]⟩
abbrev S1024x16 : Shape := ⟨2, ![1024, 16]⟩
abbrev S_ : Shape := ⟨0, ![]⟩
abbrev S1024x128 : Shape := ⟨2, ![1024, 128]⟩
abbrev S1024x7296 : Shape := ⟨2, ![1024, 7296]⟩
abbrev S16x512 : Shape := ⟨2, ![16, 512]⟩
abbrev S128x512 : Shape := ⟨2, ![128, 512]⟩
abbrev S16384x1024 : Shape := ⟨2, ![16384, 1024]⟩
abbrev S1024 : Shape := ⟨1, ![1024]⟩
abbrev S31x1024 : Shape := ⟨2, ![31, 1024]⟩
abbrev S1024x1024 : Shape := ⟨2, ![1024, 1024]⟩
abbrev S512 : Shape := ⟨1, ![512]⟩
abbrev S256 : Shape := ⟨1, ![256]⟩
abbrev S256x1024 : Shape := ⟨2, ![256, 1024]⟩
abbrev S288x1024 : Shape := ⟨2, ![288, 1024]⟩
abbrev S4x256x128 : Shape := ⟨3, ![4, 256, 128]⟩
abbrev S32x1024 : Shape := ⟨2, ![32, 1024]⟩
abbrev S256x1 : Shape := ⟨2, ![256, 1]⟩
abbrev S256x128 : Shape := ⟨2, ![256, 128]⟩
abbrev S1024x256 : Shape := ⟨2, ![1024, 256]⟩
abbrev S256x512 : Shape := ⟨2, ![256, 512]⟩
abbrev S1024x512 : Shape := ⟨2, ![1024, 512]⟩
abbrev S1x128 : Shape := ⟨2, ![1, 128]⟩
abbrev S128x128 : Shape := ⟨2, ![128, 128]⟩
abbrev S136x128 : Shape := ⟨2, ![136, 128]⟩
abbrev S32x128 : Shape := ⟨2, ![32, 128]⟩
abbrev S64x64 : Shape := ⟨2, ![64, 64]⟩
abbrev S64x512 : Shape := ⟨2, ![64, 512]⟩
abbrev S64x128 : Shape := ⟨2, ![64, 128]⟩
abbrev S64x256 : Shape := ⟨2, ![64, 256]⟩
abbrev S1x256x128 : Shape := ⟨3, ![1, 256, 128]⟩
abbrev S64 : Shape := ⟨1, ![64]⟩
abbrev S64x1 : Shape := ⟨2, ![64, 1]⟩
abbrev S64x1024 : Shape := ⟨2, ![64, 1024]⟩

abbrev nBuf : Space → Nat
  | .hbm => 49
  | .vmem => 24
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x7184, .f32⟩
  | .hbm, ⟨3, _⟩ => ⟨S1x31x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024x1024, .f32⟩
  | .hbm, ⟨8, _⟩ => ⟨S1x16x512, .f32⟩
  | .hbm, ⟨9, _⟩ => ⟨S1x512, .f32⟩
  | .hbm, ⟨10, _⟩ => ⟨S1x256, .f32⟩
  | .hbm, ⟨11, _⟩ => ⟨S1x1024x1024, .f32⟩
  | .hbm, ⟨12, _⟩ => ⟨S1x1024x1024, .f32⟩
  | .hbm, ⟨13, _⟩ => ⟨S256x256, .bf16⟩
  | .hbm, ⟨14, _⟩ => ⟨S1024x7184, .f32⟩
  | .hbm, ⟨15, _⟩ => ⟨S1024x7184, .bf16⟩
  | .hbm, ⟨16, _⟩ => ⟨S1024x5120, .bf16⟩
  | .hbm, ⟨17, _⟩ => ⟨S1024x2048, .bf16⟩
  | .hbm, ⟨18, _⟩ => ⟨S1024x16, .bf16⟩
  | .hbm, ⟨19, _⟩ => ⟨S_, .i32⟩
  | .hbm, ⟨20, _⟩ => ⟨S_, .bf16⟩
  | .hbm, ⟨21, _⟩ => ⟨S1024x128, .bf16⟩
  | .hbm, ⟨22, _⟩ => ⟨S1024x7296, .bf16⟩
  | .hbm, ⟨23, _⟩ => ⟨S16x512, .f32⟩
  | .hbm, ⟨24, _⟩ => ⟨S_, .i32⟩
  | .hbm, ⟨25, _⟩ => ⟨S_, .f32⟩
  | .hbm, ⟨26, _⟩ => ⟨S128x512, .f32⟩
  | .hbm, ⟨27, _⟩ => ⟨S128x512, .bf16⟩
  | .hbm, ⟨28, _⟩ => ⟨S16384x1024, .f32⟩
  | .hbm, ⟨29, _⟩ => ⟨S1024, .f32⟩
  | .hbm, ⟨30, _⟩ => ⟨S1x1024, .f32⟩
  | .hbm, ⟨31, _⟩ => ⟨S31x1024, .f32⟩
  | .hbm, ⟨32, _⟩ => ⟨S1024, .f32⟩
  | .hbm, ⟨33, _⟩ => ⟨S1x1024, .f32⟩
  | .hbm, ⟨34, _⟩ => ⟨S1024, .f32⟩
  | .hbm, ⟨35, _⟩ => ⟨S1x1024, .f32⟩
  | .hbm, ⟨36, _⟩ => ⟨S1024, .f32⟩
  | .hbm, ⟨37, _⟩ => ⟨S1x1024, .f32⟩
  | .hbm, ⟨38, _⟩ => ⟨S1024x1024, .f32⟩
  | .hbm, ⟨39, _⟩ => ⟨S1024x1024, .bf16⟩
  | .hbm, ⟨40, _⟩ => ⟨S512, .f32⟩
  | .hbm, ⟨41, _⟩ => ⟨S1x512, .f32⟩
  | .hbm, ⟨42, _⟩ => ⟨S256, .f32⟩
  | .hbm, ⟨43, _⟩ => ⟨S1x256, .f32⟩
  | .hbm, ⟨44, _⟩ => ⟨S1024x1024, .f32⟩
  | .hbm, ⟨45, _⟩ => ⟨S1024x1024, .bf16⟩
  | .hbm, ⟨46, _⟩ => ⟨S1024x1024, .f32⟩
  | .hbm, ⟨47, _⟩ => ⟨S1024x1024, .bf16⟩
  | .hbm, ⟨48, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1024x7296, .bf16⟩
  | .local _ .vmem, ⟨6, _⟩ => ⟨S31x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S128x512, .bf16⟩
  | .local _ .vmem, ⟨12, _⟩ => ⟨S1x512, .f32⟩
  | .local _ .vmem, ⟨13, _⟩ => ⟨S1x256, .f32⟩
  | .local _ .vmem, ⟨14, _⟩ => ⟨S1024x1024, .bf16⟩
  | .local _ .vmem, ⟨15, _⟩ => ⟨S1024x1024, .bf16⟩
  | .local _ .vmem, ⟨16, _⟩ => ⟨S256x256, .bf16⟩
  | .local _ .vmem, ⟨17, _⟩ => ⟨S256x1024, .f32⟩
  | .local _ .vmem, ⟨18, _⟩ => ⟨S256x1024, .f32⟩
  | .local _ .vmem, ⟨19, _⟩ => ⟨S288x1024, .f32⟩
  | .local _ .vmem, ⟨20, _⟩ => ⟨S256x1024, .f32⟩
  | .local _ .vmem, ⟨21, _⟩ => ⟨S4x256x128, .f32⟩
  | .local _ .vmem, ⟨22, _⟩ => ⟨S256x1024, .bf16⟩
  | .local _ .vmem, ⟨23, _⟩ => ⟨S256x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_call0_v0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c_0 : Ref sig .tc := ⟨.hbm, 24, rfl⟩
abbrev main_call1_v0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg15_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem15_1 : DmaSem sig := 18

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x7296 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S31x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ReferenceIdeal.lean ====
abbrev S2x8192x1024 : Shape := ⟨3, ![2, 8192, 1024]⟩
abbrev S1x1024 : Shape := ⟨2, ![1, 1024]⟩
abbrev S1x1024x7184 : Shape := ⟨3, ![1, 1024, 7184]⟩
abbrev S1x31x1024 : Shape := ⟨3, ![1, 31, 1024]⟩
abbrev S1x1024x1024 : Shape := ⟨3, ![1, 1024, 1024]⟩
abbrev S1x16x512 : Shape := ⟨3, ![1, 16, 512]⟩
abbrev S1x512 : Shape := ⟨2, ![1, 512]⟩
abbrev S1x256 : Shape := ⟨2, ![1, 256]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x7184 : Shape := ⟨2, ![1024, 7184]⟩
abbrev S2x8192x7184 : Shape := ⟨3, ![2, 8192, 7184]⟩
abbrev S2x8192x2048 : Shape := ⟨3, ![2, 8192, 2048]⟩
abbrev S2x8192x512 : Shape := ⟨3, ![2, 8192, 512]⟩
abbrev S2x8192x16 : Shape := ⟨3, ![2, 8192, 16]⟩
abbrev S31x1024 : Shape := ⟨2, ![31, 1024]⟩
abbrev S2x8222x1024 : Shape := ⟨3, ![2, 8222, 1024]⟩
abbrev S1024x1024 : Shape := ⟨2, ![1024, 1024]⟩
abbrev S16x512 : Shape := ⟨2, ![16, 512]⟩
abbrev S512 : Shape := ⟨1, ![512]⟩
abbrev S1x1x512 : Shape := ⟨3, ![1, 1, 512]⟩
abbrev S2x8192x4x128 : Shape := ⟨4, ![2, 8192, 4, 128]⟩
abbrev S2x8192x4x256 : Shape := ⟨4, ![2, 8192, 4, 256]⟩
abbrev S2x128x64x4x128 : Shape := ⟨5, ![2, 128, 64, 4, 128]⟩
abbrev S2x4x128x64x128 : Shape := ⟨5, ![2, 4, 128, 64, 128]⟩
abbrev S2x128x64x4x256 : Shape := ⟨5, ![2, 128, 64, 4, 256]⟩
abbrev S2x4x128x64x256 : Shape := ⟨5, ![2, 4, 128, 64, 256]⟩
abbrev S64x64 : Shape := ⟨2, ![64, 64]⟩
abbrev S2x4x128x128x64 : Shape := ⟨5, ![2, 4, 128, 128, 64]⟩
abbrev S2x4x128x1x128 : Shape := ⟨5, ![2, 4, 128, 1, 128]⟩
abbrev S2x4x128x64x64 : Shape := ⟨5, ![2, 4, 128, 64, 64]⟩
abbrev S2x4x128x128x256 : Shape := ⟨5, ![2, 4, 128, 128, 256]⟩
abbrev S128 : Shape := ⟨1, ![128]⟩
abbrev S1x128 : Shape := ⟨2, ![1, 128]⟩
abbrev S128x1 : Shape := ⟨2, ![128, 1]⟩
abbrev S128x128 : Shape := ⟨2, ![128, 128]⟩
abbrev S1x128x128 : Shape := ⟨3, ![1, 128, 128]⟩
abbrev S128x1x128 : Shape := ⟨3, ![128, 1, 128]⟩
abbrev S128x128x128 : Shape := ⟨3, ![128, 128, 128]⟩
abbrev S2x4x128x128 : Shape := ⟨4, ![2, 4, 128, 128]⟩
abbrev S2x4x128x128x128 : Shape := ⟨5, ![2, 4, 128, 128, 128]⟩
abbrev S128x128x1 : Shape := ⟨3, ![128, 128, 1]⟩
abbrev S2x4x128x256x128 : Shape := ⟨5, ![2, 4, 128, 256, 128]⟩
abbrev S2x8192x4 : Shape := ⟨3, ![2, 8192, 4]⟩
abbrev S2x8192x4x1 : Shape := ⟨4, ![2, 8192, 4, 1]⟩
abbrev S256 : Shape := ⟨1, ![256]⟩
abbrev S1x1x1x256 : Shape := ⟨4, ![1, 1, 1, 256]⟩
abbrev S16384x1024 : Shape := ⟨2, ![16384, 1024]⟩

abbrev nBuf : Space → Nat
  | .hbm => 469
  | .vmem => 0
  | .smem => 0
  | _ => 0

abbrev hbmTy0_0 (i : Nat) : BufTy := match i % 128 with
  | 0 => ⟨S2x8192x1024, .f32⟩
  | 1 => ⟨S1x1024, .f32⟩
  | 2 => ⟨S1x1024x7184, .f32⟩
  | 3 => ⟨S1x31x1024, .f32⟩
  | 4 => ⟨S1x1024, .f32⟩
  | 5 => ⟨S1x1024, .f32⟩
  | 6 => ⟨S1x1024, .f32⟩
  | 7 => ⟨S1x1024x1024, .f32⟩
  | 8 => ⟨S1x16x512, .f32⟩
  | 9 => ⟨S1x512, .f32⟩
  | 10 => ⟨S1x256, .f32⟩
  | 11 => ⟨S1x1024x1024, .f32⟩
  | 12 => ⟨S1x1024x1024, .f32⟩
  | 13 => ⟨S1024, .f32⟩
  | 14 => ⟨S2x8192x1024, .f32⟩
  | 15 => ⟨S_, .f32⟩
  | 16 => ⟨S2x8192, .f32⟩
  | 17 => ⟨S2x8192x1, .f32⟩
  | 18 => ⟨S_, .f32⟩
  | 19 => ⟨S2x8192x1, .f32⟩
  | 20 => ⟨S2x8192x1, .f32⟩
  | 21 => ⟨S_, .f32⟩
  | 22 => ⟨S2x8192x1, .f32⟩
  | 23 => ⟨S2x8192x1, .f32⟩
  | 24 => ⟨S2x8192x1, .f32⟩
  | 25 => ⟨S2x8192x1024, .f32⟩
  | 26 => ⟨S2x8192x1024, .f32⟩
  | 27 => ⟨S1x1x1024, .f32⟩
  | 28 => ⟨S2x8192x1024, .f32⟩
  | 29 => ⟨S2x8192x1024, .f32⟩
  | 30 => ⟨S1024x7184, .f32⟩
  | 31 => ⟨S2x8192x7184, .f32⟩
  | 32 => ⟨S2x8192x2048, .f32⟩
  | 33 => ⟨S2x8192x512, .f32⟩
  | 34 => ⟨S2x8192x512, .f32⟩
  | 35 => ⟨S2x8192x1024, .f32⟩
  | 36 => ⟨S2x8192x1024, .f32⟩
  | 37 => ⟨S2x8192x16, .f32⟩
  | 38 => ⟨S2x8192x1024, .f32⟩
  | 39 => ⟨S2x8192x1024, .f32⟩
  | 40 => ⟨S2x8192x1024, .f32⟩
  | 41 => ⟨S2x8192x1024, .f32⟩
  | 42 => ⟨S2x8192x1024, .f32⟩
  | 43 => ⟨S2x8192x1024, .f32⟩
  | 44 => ⟨S_, .f32⟩
  | 45 => ⟨S2x8192x1024, .f32⟩
  | 46 => ⟨S2x8192x1024, .f32⟩
  | 47 => ⟨S_, .f32⟩
  | 48 => ⟨S2x8192x1024, .f32⟩
  | 49 => ⟨S2x8192x1024, .f32⟩
  | 50 => ⟨S2x8192x1024, .f32⟩
  | 51 => ⟨S31x1024, .f32⟩
  | 52 => ⟨S1024, .f32⟩
  | 53 => ⟨S_, .i32⟩
  | 54 => ⟨S_, .f32⟩
  | 55 => ⟨S2x8222x1024, .f32⟩
  | 56 => ⟨S1x1024, .f32⟩
  | 57 => ⟨S1024, .f32⟩
  | 58 => ⟨S2x8192x1024, .f32⟩
  | 59 => ⟨S1x1x1024, .f32⟩
  | 60 => ⟨S2x8192x1024, .f32⟩
  | 61 => ⟨S2x8192x1024, .f32⟩
  | 62 => ⟨S1x1024, .f32⟩
  | 63 => ⟨S1024, .f32⟩
  | 64 => ⟨S2x8192x1024, .f32⟩
  | 65 => ⟨S1x1x1024, .f32⟩
  | 66 => ⟨S2x8192x1024, .f32⟩
  | 67 => ⟨S2x8192x1024, .f32⟩
  | 68 => ⟨S2x8192x1024, .f32⟩
  | 69 => ⟨S1x1024, .f32⟩
  | 70 => ⟨S1024, .f32⟩
  | 71 => ⟨S2x8192x1024, .f32⟩
  | 72 => ⟨S1x1x1024, .f32⟩
  | 73 => ⟨S2x8192x1024, .f32⟩
  | 74 => ⟨S2x8192x1024, .f32⟩
  | 75 => ⟨S2x8192x1024, .f32⟩
  | 76 => ⟨S1x1024, .f32⟩
  | 77 => ⟨S1024, .f32⟩
  | 78 => ⟨S2x8192x1024, .f32⟩
  | 79 => ⟨S1x1x1024, .f32⟩
  | 80 => ⟨S2x8192x1024, .f32⟩
  | 81 => ⟨S2x8192x1024, .f32⟩
  | 82 => ⟨S2x8192x1024, .f32⟩
  | 83 => ⟨S1x1024, .f32⟩
  | 84 => ⟨S1024, .f32⟩
  | 85 => ⟨S2x8192x1024, .f32⟩
  | 86 => ⟨S1x1x1024, .f32⟩
  | 87 => ⟨S2x8192x1024, .f32⟩
  | 88 => ⟨S2x8192x1024, .f32⟩
  | 89 => ⟨S2x8192x1024, .f32⟩
  | 90 => ⟨S1x1024, .f32⟩
  | 91 => ⟨S1024, .f32⟩
  | 92 => ⟨S2x8192x1024, .f32⟩
  | 93 => ⟨S1x1x1024, .f32⟩
  | 94 => ⟨S2x8192x1024, .f32⟩
  | 95 => ⟨S2x8192x1024, .f32⟩
  | 96 => ⟨S2x8192x1024, .f32⟩
  | 97 => ⟨S1x1024, .f32⟩
  | 98 => ⟨S1024, .f32⟩
  | 99 => ⟨S2x8192x1024, .f32⟩
  | 100 => ⟨S1x1x1024, .f32⟩
  | 101 => ⟨S2x8192x1024, .f32⟩
  | 102 => ⟨S2x8192x1024, .f32⟩
  | 103 => ⟨S2x8192x1024, .f32⟩
  | 104 => ⟨S1x1024, .f32⟩
  | 105 => ⟨S1024, .f32⟩
  | 106 => ⟨S2x8192x1024, .f32⟩
  | 107 => ⟨S1x1x1024, .f32⟩
  | 108 => ⟨S2x8192x1024, .f32⟩
  | 109 => ⟨S2x8192x1024, .f32⟩
  | 110 => ⟨S2x8192x1024, .f32⟩
  | 111 => ⟨S1x1024, .f32⟩
  | 112 => ⟨S1024, .f32⟩
  | 113 => ⟨S2x8192x1024, .f32⟩
  | 114 => ⟨S1x1x1024, .f32⟩
  | 115 => ⟨S2x8192x1024, .f32⟩
  | 116 => ⟨S2x8192x1024, .f32⟩
  | 117 => ⟨S2x8192x1024, .f32⟩
  | 118 => ⟨S1x1024, .f32⟩
  | 119 => ⟨S1024, .f32⟩
  | 120 => ⟨S2x8192x1024, .f32⟩
  | 121 => ⟨S1x1x1024, .f32⟩
  | 122 => ⟨S2x8192x1024, .f32⟩
  | 123 => ⟨S2x8192x1024, .f32⟩
  | 124 => ⟨S2x8192x1024, .f32⟩
  | 125 => ⟨S1x1024, .f32⟩
  | 126 => ⟨S1024, .f32⟩
  | 127 => ⟨S2x8192x1024, .f32⟩
  | _ => ⟨S2x8192x1024, .f32⟩

abbrev hbmTy0_1 (i : Nat) : BufTy := match i % 128 with
  | 0 => ⟨S1x1x1024, .f32⟩
  | 1 => ⟨S2x8192x1024, .f32⟩
  | 2 => ⟨S2x8192x1024, .f32⟩
  | 3 => ⟨S2x8192x1024, .f32⟩
  | 4 => ⟨S1x1024, .f32⟩
  | 5 => ⟨S1024, .f32⟩
  | 6 => ⟨S2x8192x1024, .f32⟩
  | 7 => ⟨S1x1x1024, .f32⟩
  | 8 => ⟨S2x8192x1024, .f32⟩
  | 9 => ⟨S2x8192x1024, .f32⟩
  | 10 => ⟨S2x8192x1024, .f32⟩
  | 11 => ⟨S1x1024, .f32⟩
  | 12 => ⟨S1024, .f32⟩
  | 13 => ⟨S2x8192x1024, .f32⟩
  | 14 => ⟨S1x1x1024, .f32⟩
  | 15 => ⟨S2x8192x1024, .f32⟩
  | 16 => ⟨S2x8192x1024, .f32⟩
  | 17 => ⟨S2x8192x1024, .f32⟩
  | 18 => ⟨S1x1024, .f32⟩
  | 19 => ⟨S1024, .f32⟩
  | 20 => ⟨S2x8192x1024, .f32⟩
  | 21 => ⟨S1x1x1024, .f32⟩
  | 22 => ⟨S2x8192x1024, .f32⟩
  | 23 => ⟨S2x8192x1024, .f32⟩
  | 24 => ⟨S2x8192x1024, .f32⟩
  | 25 => ⟨S1x1024, .f32⟩
  | 26 => ⟨S1024, .f32⟩
  | 27 => ⟨S2x8192x1024, .f32⟩
  | 28 => ⟨S1x1x1024, .f32⟩
  | 29 => ⟨S2x8192x1024, .f32⟩
  | 30 => ⟨S2x8192x1024, .f32⟩
  | 31 => ⟨S2x8192x1024, .f32⟩
  | 32 => ⟨S1x1024, .f32⟩
  | 33 => ⟨S1024, .f32⟩
  | 34 => ⟨S2x8192x1024, .f32⟩
  | 35 => ⟨S1x1x1024, .f32⟩
  | 36 => ⟨S2x8192x1024, .f32⟩
  | 37 => ⟨S2x8192x1024, .f32⟩
  | 38 => ⟨S2x8192x1024, .f32⟩
  | 39 => ⟨S1x1024, .f32⟩
  | 40 => ⟨S1024, .f32⟩
  | 41 => ⟨S2x8192x1024, .f32⟩
  | 42 => ⟨S1x1x1024, .f32⟩
  | 43 => ⟨S2x8192x1024, .f32⟩
  | 44 => ⟨S2x8192x1024, .f32⟩
  | 45 => ⟨S2x8192x1024, .f32⟩
  | 46 => ⟨S1x1024, .f32⟩
  | 47 => ⟨S1024, .f32⟩
  | 48 => ⟨S2x8192x1024, .f32⟩
  | 49 => ⟨S1x1x1024, .f32⟩
  | 50 => ⟨S2x8192x1024, .f32⟩
  | 51 => ⟨S2x8192x1024, .f32⟩
  | 52 => ⟨S2x8192x1024, .f32⟩
  | 53 => ⟨S1x1024, .f32⟩
  | 54 => ⟨S1024, .f32⟩
  | 55 => ⟨S2x8192x1024, .f32⟩
  | 56 => ⟨S1x1x1024, .f32⟩
  | 57 => ⟨S2x8192x1024, .f32⟩
  | 58 => ⟨S2x8192x1024, .f32⟩
  | 59 => ⟨S2x8192x1024, .f32⟩
  | 60 => ⟨S1x1024, .f32⟩
  | 61 => ⟨S1024, .f32⟩
  | 62 => ⟨S2x8192x1024, .f32⟩
  | 63 => ⟨S1x1x1024, .f32⟩
  | 64 => ⟨S2x8192x1024, .f32⟩
  | 65 => ⟨S2x8192x1024, .f32⟩
  | 66 => ⟨S2x8192x1024, .f32⟩
  | 67 => ⟨S1x1024, .f32⟩
  | 68 => ⟨S1024, .f32⟩
  | 69 => ⟨S2x8192x1024, .f32⟩
  | 70 => ⟨S1x1x1024, .f32⟩
  | 71 => ⟨S2x8192x1024, .f32⟩
  | 72 => ⟨S2x8192x1024, .f32⟩
  | 73 => ⟨S2x8192x1024, .f32⟩
  | 74 => ⟨S1x1024, .f32⟩
  | 75 => ⟨S1024, .f32⟩
  | 76 => ⟨S2x8192x1024, .f32⟩
  | 77 => ⟨S1x1x1024, .f32⟩
  | 78 => ⟨S2x8192x1024, .f32⟩
  | 79 => ⟨S2x8192x1024, .f32⟩
  | 80 => ⟨S2x8192x1024, .f32⟩
  | 81 => ⟨S1x1024, .f32⟩
  | 82 => ⟨S1024, .f32⟩
  | 83 => ⟨S2x8192x1024, .f32⟩
  | 84 => ⟨S1x1x1024, .f32⟩
  | 85 => ⟨S2x8192x1024, .f32⟩
  | 86 => ⟨S2x8192x1024, .f32⟩
  | 87 => ⟨S2x8192x1024, .f32⟩
  | 88 => ⟨S1x1024, .f32⟩
  | 89 => ⟨S1024, .f32⟩
  | 90 => ⟨S2x8192x1024, .f32⟩
  | 91 => ⟨S1x1x1024, .f32⟩
  | 92 => ⟨S2x8192x1024, .f32⟩
  | 93 => ⟨S2x8192x1024, .f32⟩
  | 94 => ⟨S2x8192x1024, .f32⟩
  | 95 => ⟨S1x1024, .f32⟩
  | 96 => ⟨S1024, .f32⟩
  | 97 => ⟨S2x8192x1024, .f32⟩
  | 98 => ⟨S1x1x1024, .f32⟩
  | 99 => ⟨S2x8192x1024, .f32⟩
  | 100 => ⟨S2x8192x1024, .f32⟩
  | 101 => ⟨S2x8192x1024, .f32⟩
  | 102 => ⟨S1x1024, .f32⟩
  | 103 => ⟨S1024, .f32⟩
  | 104 => ⟨S2x8192x1024, .f32⟩
  | 105 => ⟨S1x1x1024, .f32⟩
  | 106 => ⟨S2x8192x1024, .f32⟩
  | 107 => ⟨S2x8192x1024, .f32⟩
  | 108 => ⟨S2x8192x1024, .f32⟩
  | 109 => ⟨S1x1024, .f32⟩
  | 110 => ⟨S1024, .f32⟩
  | 111 => ⟨S2x8192x1024, .f32⟩
  | 112 => ⟨S1x1x1024, .f32⟩
  | 113 => ⟨S2x8192x1024, .f32⟩
  | 114 => ⟨S2x8192x1024, .f32⟩
  | 115 => ⟨S2x8192x1024, .f32⟩
  | 116 => ⟨S1x1024, .f32⟩
  | 117 => ⟨S1024, .f32⟩
  | 118 => ⟨S2x8192x1024, .f32⟩
  | 119 => ⟨S1x1x1024, .f32⟩
  | 120 => ⟨S2x8192x1024, .f32⟩
  | 121 => ⟨S2x8192x1024, .f32⟩
  | 122 => ⟨S2x8192x1024, .f32⟩
  | 123 => ⟨S1x1024, .f32⟩
  | 124 => ⟨S1024, .f32⟩
  | 125 => ⟨S2x8192x1024, .f32⟩
  | 126 => ⟨S1x1x1024, .f32⟩
  | 127 => ⟨S2x8192x1024, .f32⟩
  | _ => ⟨S2x8192x1024, .f32⟩

abbrev hbmTy0_2 (i : Nat) : BufTy := match i % 128 with
  | 0 => ⟨S2x8192x1024, .f32⟩
  | 1 => ⟨S2x8192x1024, .f32⟩
  | 2 => ⟨S1x1024, .f32⟩
  | 3 => ⟨S1024, .f32⟩
  | 4 => ⟨S2x8192x1024, .f32⟩
  | 5 => ⟨S1x1x1024, .f32⟩
  | 6 => ⟨S2x8192x1024, .f32⟩
  | 7 => ⟨S2x8192x1024, .f32⟩
  | 8 => ⟨S2x8192x1024, .f32⟩
  | 9 => ⟨S1x1024, .f32⟩
  | 10 => ⟨S1024, .f32⟩
  | 11 => ⟨S2x8192x1024, .f32⟩
  | 12 => ⟨S1x1x1024, .f32⟩
  | 13 => ⟨S2x8192x1024, .f32⟩
  | 14 => ⟨S2x8192x1024, .f32⟩
  | 15 => ⟨S2x8192x1024, .f32⟩
  | 16 => ⟨S1x1x1024, .f32⟩
  | 17 => ⟨S2x8192x1024, .f32⟩
  | 18 => ⟨S2x8192x1024, .f32⟩
  | 19 => ⟨S1024, .f32⟩
  | 20 => ⟨S1024, .f32⟩
  | 21 => ⟨S_, .f32⟩
  | 22 => ⟨S2x8192, .f32⟩
  | 23 => ⟨S2x8192x1, .f32⟩
  | 24 => ⟨S_, .f32⟩
  | 25 => ⟨S2x8192x1, .f32⟩
  | 26 => ⟨S2x8192x1, .f32⟩
  | 27 => ⟨S2x8192x1024, .f32⟩
  | 28 => ⟨S2x8192x1024, .f32⟩
  | 29 => ⟨S2x8192x1024, .f32⟩
  | 30 => ⟨S_, .f32⟩
  | 31 => ⟨S2x8192, .f32⟩
  | 32 => ⟨S2x8192x1, .f32⟩
  | 33 => ⟨S_, .f32⟩
  | 34 => ⟨S2x8192x1, .f32⟩
  | 35 => ⟨S2x8192x1, .f32⟩
  | 36 => ⟨S_, .f32⟩
  | 37 => ⟨S2x8192x1, .f32⟩
  | 38 => ⟨S2x8192x1, .f32⟩
  | 39 => ⟨S2x8192x1, .f32⟩
  | 40 => ⟨S2x8192x1024, .f32⟩
  | 41 => ⟨S2x8192x1024, .f32⟩
  | 42 => ⟨S1x1x1024, .f32⟩
  | 43 => ⟨S2x8192x1024, .f32⟩
  | 44 => ⟨S2x8192x1024, .f32⟩
  | 45 => ⟨S1x1x1024, .f32⟩
  | 46 => ⟨S2x8192x1024, .f32⟩
  | 47 => ⟨S2x8192x1024, .f32⟩
  | 48 => ⟨S2x8192x1024, .f32⟩
  | 49 => ⟨S2x8192x1024, .f32⟩
  | 50 => ⟨S_, .f32⟩
  | 51 => ⟨S2x8192x1024, .f32⟩
  | 52 => ⟨S2x8192x1024, .f32⟩
  | 53 => ⟨S_, .f32⟩
  | 54 => ⟨S2x8192x1024, .f32⟩
  | 55 => ⟨S2x8192x1024, .f32⟩
  | 56 => ⟨S2x8192x1024, .f32⟩
  | 57 => ⟨S1024x1024, .f32⟩
  | 58 => ⟨S2x8192x1024, .f32⟩
  | 59 => ⟨S16x512, .f32⟩
  | 60 => ⟨S2x8192x512, .f32⟩
  | 61 => ⟨S512, .f32⟩
  | 62 => ⟨S1x1x512, .f32⟩
  | 63 => ⟨S2x8192x512, .f32⟩
  | 64 => ⟨S2x8192x512, .f32⟩
  | 65 => ⟨S2x8192x512, .f32⟩
  | 66 => ⟨S_, .f32⟩
  | 67 => ⟨S2x8192x512, .f32⟩
  | 68 => ⟨S2x8192x512, .f32⟩
  | 69 => ⟨S2x8192x512, .f32⟩
  | 70 => ⟨S2x8192x512, .f32⟩
  | 71 => ⟨S2x8192x512, .i1⟩
  | 72 => ⟨S2x8192x512, .f32⟩
  | 73 => ⟨S2x8192x512, .f32⟩
  | 74 => ⟨S2x8192x512, .f32⟩
  | 75 => ⟨S2x8192x512, .f32⟩
  | 76 => ⟨S2x8192x512, .f32⟩
  | 77 => ⟨S2x8192x512, .f32⟩
  | 78 => ⟨S2x8192x512, .f32⟩
  | 79 => ⟨S2x8192x512, .f32⟩
  | 80 => ⟨S2x8192x512, .f32⟩
  | 81 => ⟨S_, .f32⟩
  | 82 => ⟨S2x8192x512, .f32⟩
  | 83 => ⟨S2x8192x512, .f32⟩
  | 84 => ⟨S2x8192x4x128, .f32⟩
  | 85 => ⟨S_, .f32⟩
  | 86 => ⟨S2x8192x4x128, .f32⟩
  | 87 => ⟨S2x8192x4x128, .f32⟩
  | 88 => ⟨S2x8192x4x128, .f32⟩
  | 89 => ⟨S2x8192x4x256, .f32⟩
  | 90 => ⟨S2x8192x4x128, .f32⟩
  | 91 => ⟨S2x128x64x4x128, .f32⟩
  | 92 => ⟨S2x4x128x64x128, .f32⟩
  | 93 => ⟨S2x128x64x4x128, .f32⟩
  | 94 => ⟨S2x4x128x64x128, .f32⟩
  | 95 => ⟨S2x128x64x4x256, .f32⟩
  | 96 => ⟨S2x4x128x64x256, .f32⟩
  | 97 => ⟨S2x128x64x4x128, .f32⟩
  | 98 => ⟨S2x4x128x64x128, .f32⟩
  | 99 => ⟨S_, .i1⟩
  | 100 => ⟨S64x64, .i1⟩
  | 101 => ⟨S64x64, .i32⟩
  | 102 => ⟨S_, .i32⟩
  | 103 => ⟨S64x64, .i32⟩
  | 104 => ⟨S64x64, .i32⟩
  | 105 => ⟨S64x64, .i32⟩
  | 106 => ⟨S64x64, .i1⟩
  | 107 => ⟨S_, .i1⟩
  | 108 => ⟨S64x64, .i1⟩
  | 109 => ⟨S64x64, .i1⟩
  | 110 => ⟨S64x64, .f32⟩
  | 111 => ⟨S2x4x128x128x64, .f32⟩
  | 112 => ⟨S2x4x128x64x128, .f32⟩
  | 113 => ⟨S2x4x128x1x128, .f32⟩
  | 114 => ⟨S2x4x128x64x128, .f32⟩
  | 115 => ⟨S2x4x128x64x128, .f32⟩
  | 116 => ⟨S2x4x128x64x128, .f32⟩
  | 117 => ⟨S2x4x128x64x128, .f32⟩
  | 118 => ⟨S2x4x128x64x128, .f32⟩
  | 119 => ⟨S2x4x128x64x128, .f32⟩
  | 120 => ⟨S2x4x128x64x128, .f32⟩
  | 121 => ⟨S2x4x128x64x128, .f32⟩
  | 122 => ⟨S2x4x128x64x128, .f32⟩
  | 123 => ⟨S2x4x128x64x64, .f32⟩
  | 124 => ⟨S_, .f32⟩
  | 125 => ⟨S_, .f32⟩
  | 126 => ⟨S2x4x128x64x64, .i1⟩
  | 127 => ⟨S2x4x128x64x64, .f32⟩
  | _ => ⟨S2x8192x1024, .f32⟩

abbrev hbmTy0_3 (i : Nat) : BufTy := match i % 128 with
  | 0 => ⟨S2x4x128x64x64, .f32⟩
  | 1 => ⟨S2x4x128x64x256, .f32⟩
  | 2 => ⟨S2x4x128x128x256, .f32⟩
  | 3 => ⟨S128, .i32⟩
  | 4 => ⟨S1x128, .i32⟩
  | 5 => ⟨S128x1, .i32⟩
  | 6 => ⟨S128x128, .i32⟩
  | 7 => ⟨S128x128, .i32⟩
  | 8 => ⟨S128x128, .i1⟩
  | 9 => ⟨S128x128, .i1⟩
  | 10 => ⟨S1x128x128, .i1⟩
  | 11 => ⟨S128x1x128, .i1⟩
  | 12 => ⟨S128x128x128, .i1⟩
  | 13 => ⟨S128x128x128, .i1⟩
  | 14 => ⟨S128x128x128, .i1⟩
  | 15 => ⟨S128x128x128, .f32⟩
  | 16 => ⟨S2x4x128x128, .f32⟩
  | 17 => ⟨S2x4x128x128x128, .f32⟩
  | 18 => ⟨S2x4x128x128x128, .f32⟩
  | 19 => ⟨S2x4x128x128x128, .f32⟩
  | 20 => ⟨S128x128x1, .i1⟩
  | 21 => ⟨S_, .f32⟩
  | 22 => ⟨S_, .f32⟩
  | 23 => ⟨S2x4x128x128x128, .i1⟩
  | 24 => ⟨S2x4x128x128x128, .f32⟩
  | 25 => ⟨S2x4x128x128x128, .f32⟩
  | 26 => ⟨S2x4x128x256x128, .f32⟩
  | 27 => ⟨S2x4x128x128x256, .f32⟩
  | 28 => ⟨S2x4x128x64x256, .f32⟩
  | 29 => ⟨S2x4x128x64x256, .f32⟩
  | 30 => ⟨S2x128x64x4x256, .f32⟩
  | 31 => ⟨S2x8192x4x256, .f32⟩
  | 32 => ⟨S2x8192x4x256, .f32⟩
  | 33 => ⟨S_, .f32⟩
  | 34 => ⟨S2x8192x4, .f32⟩
  | 35 => ⟨S2x8192x4x1, .f32⟩
  | 36 => ⟨S_, .f32⟩
  | 37 => ⟨S2x8192x4x1, .f32⟩
  | 38 => ⟨S2x8192x4x1, .f32⟩
  | 39 => ⟨S_, .f32⟩
  | 40 => ⟨S2x8192x4x1, .f32⟩
  | 41 => ⟨S2x8192x4x1, .f32⟩
  | 42 => ⟨S2x8192x4x1, .f32⟩
  | 43 => ⟨S2x8192x4x256, .f32⟩
  | 44 => ⟨S2x8192x4x256, .f32⟩
  | 45 => ⟨S256, .f32⟩
  | 46 => ⟨S1x1x1x256, .f32⟩
  | 47 => ⟨S2x8192x4x256, .f32⟩
  | 48 => ⟨S2x8192x4x256, .f32⟩
  | 49 => ⟨S2x8192x1024, .f32⟩
  | 50 => ⟨S2x8192x1024, .f32⟩
  | 51 => ⟨S2x8192x1024, .f32⟩
  | 52 => ⟨S_, .f32⟩
  | 53 => ⟨S2x8192x1024, .f32⟩
  | 54 => ⟨S2x8192x1024, .f32⟩
  | 55 => ⟨S_, .f32⟩
  | 56 => ⟨S2x8192x1024, .f32⟩
  | 57 => ⟨S2x8192x1024, .f32⟩
  | 58 => ⟨S2x8192x1024, .f32⟩
  | 59 => ⟨S2x8192x1024, .f32⟩
  | 60 => ⟨S1024x1024, .f32⟩
  | 61 => ⟨S2x8192x1024, .f32⟩
  | 62 => ⟨S2x8192x1024, .f32⟩
  | 63 => ⟨S2x8192x1024, .f32⟩
  | 64 => ⟨S_, .f32⟩
  | 65 => ⟨S2x8192x1024, .f32⟩
  | 66 => ⟨S2x8192x1024, .f32⟩
  | 67 => ⟨S_, .f32⟩
  | 68 => ⟨S2x8192x1024, .f32⟩
  | 69 => ⟨S2x8192x1024, .f32⟩
  | 70 => ⟨S2x8192x1024, .f32⟩
  | 71 => ⟨S2x8192x1024, .f32⟩
  | 72 => ⟨S2x8192x1024, .f32⟩
  | 73 => ⟨S_, .f32⟩
  | 74 => ⟨S2x8192x1024, .f32⟩
  | 75 => ⟨S2x8192x1024, .f32⟩
  | 76 => ⟨S_, .f32⟩
  | 77 => ⟨S2x8192x1024, .f32⟩
  | 78 => ⟨S2x8192x1024, .f32⟩
  | 79 => ⟨S2x8192x1024, .f32⟩
  | 80 => ⟨S2x8192x1024, .f32⟩
  | 81 => ⟨S1024x1024, .f32⟩
  | 82 => ⟨S2x8192x1024, .f32⟩
  | 83 => ⟨S2x8192x1024, .f32⟩
  | 84 => ⟨S16384x1024, .f32⟩
  | _ => ⟨S2x8192x1024, .f32⟩

abbrev hbmTy (i : Nat) : BufTy := match i / 128 with
  | 0 => hbmTy0_0 i
  | 1 => hbmTy0_1 i
  | 2 => hbmTy0_2 i
  | 3 => hbmTy0_3 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_2 : Ref sig .tc := ⟨.hbm, 44, rfl⟩
abbrev main_v28 : Ref sig .tc := ⟨.hbm, 45, rfl⟩
abbrev main_v29 : Ref sig .tc := ⟨.hbm, 46, rfl⟩
abbrev main_cst_3 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c : Ref sig .tc := ⟨.hbm, 53, rfl⟩
abbrev main_call0_v0 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_v161 : Ref sig .tc := ⟨.hbm, 181, rfl⟩
abbrev main_v162 : Ref sig .tc := ⟨.hbm, 182, rfl⟩
abbrev main_v163 : Ref sig .tc := ⟨.hbm, 183, rfl⟩
abbrev main_v164 : Ref sig .tc := ⟨.hbm, 184, rfl⟩
abbrev main_v165 : Ref sig .tc := ⟨.hbm, 185, rfl⟩
abbrev main_v166 : Ref sig .tc := ⟨.hbm, 186, rfl⟩
abbrev main_v167 : Ref sig .tc := ⟨.hbm, 187, rfl⟩
abbrev main_v168 : Ref sig .tc := ⟨.hbm, 188, rfl⟩
abbrev main_v169 : Ref sig .tc := ⟨.hbm, 189, rfl⟩
abbrev main_v170 : Ref sig .tc := ⟨.hbm, 190, rfl⟩
abbrev main_v171 : Ref sig .tc := ⟨.hbm, 191, rfl⟩
abbrev main_v172 : Ref sig .tc := ⟨.hbm, 192, rfl⟩
abbrev main_v173 : Ref sig .tc := ⟨.hbm, 193, rfl⟩
abbrev main_v174 : Ref sig .tc := ⟨.hbm, 194, rfl⟩
abbrev main_v175 : Ref sig .tc := ⟨.hbm, 195, rfl⟩
abbrev main_v176 : Ref sig .tc := ⟨.hbm, 196, rfl⟩
abbrev main_v177 : Ref sig .tc := ⟨.hbm, 197, rfl⟩
abbrev main_v178 : Ref sig .tc := ⟨.hbm, 198, rfl⟩
abbrev main_v179 : Ref sig .tc := ⟨.hbm, 199, rfl⟩
abbrev main_v180 : Ref sig .tc := ⟨.hbm, 200, rfl⟩
abbrev main_v181 : Ref sig .tc := ⟨.hbm, 201, rfl⟩
abbrev main_v182 : Ref sig .tc := ⟨.hbm, 202, rfl⟩
abbrev main_v183 : Ref sig .tc := ⟨.hbm, 203, rfl⟩
abbrev main_v184 : Ref sig .tc := ⟨.hbm, 204, rfl⟩
abbrev main_v185 : Ref sig .tc := ⟨.hbm, 205, rfl⟩
abbrev main_v186 : Ref sig .tc := ⟨.hbm, 206, rfl⟩
abbrev main_v187 : Ref sig .tc := ⟨.hbm, 207, rfl⟩
abbrev main_v188 : Ref sig .tc := ⟨.hbm, 208, rfl⟩
abbrev main_v189 : Ref sig .tc := ⟨.hbm, 209, rfl⟩
abbrev main_v190 : Ref sig .tc := ⟨.hbm, 210, rfl⟩
abbrev main_v191 : Ref sig .tc := ⟨.hbm, 211, rfl⟩
abbrev main_v192 : Ref sig .tc := ⟨.hbm, 212, rfl⟩
abbrev main_v193 : Ref sig .tc := ⟨.hbm, 213, rfl⟩
abbrev main_v194 : Ref sig .tc := ⟨.hbm, 214, rfl⟩
abbrev main_v195 : Ref sig .tc := ⟨.hbm, 215, rfl⟩
abbrev main_v196 : Ref sig .tc := ⟨.hbm, 216, rfl⟩
abbrev main_v197 : Ref sig .tc := ⟨.hbm, 217, rfl⟩
abbrev main_v198 : Ref sig .tc := ⟨.hbm, 218, rfl⟩
abbrev main_v199 : Ref sig .tc := ⟨.hbm, 219, rfl⟩
abbrev main_v200 : Ref sig .tc := ⟨.hbm, 220, rfl⟩
abbrev main_v201 : Ref sig .tc := ⟨.hbm, 221, rfl⟩
abbrev main_v202 : Ref sig .tc := ⟨.hbm, 222, rfl⟩
abbrev main_v203 : Ref sig .tc := ⟨.hbm, 223, rfl⟩
abbrev main_v204 : Ref sig .tc := ⟨.hbm, 224, rfl⟩
abbrev main_v205 : Ref sig .tc := ⟨.hbm, 225, rfl⟩
abbrev main_v206 : Ref sig .tc := ⟨.hbm, 226, rfl⟩
abbrev main_v207 : Ref sig .tc := ⟨.hbm, 227, rfl⟩
abbrev main_v208 : Ref sig .tc := ⟨.hbm, 228, rfl⟩
abbrev main_v209 : Ref sig .tc := ⟨.hbm, 229, rfl⟩
abbrev main_v210 : Ref sig .tc := ⟨.hbm, 230, rfl⟩
abbrev main_v211 : Ref sig .tc := ⟨.hbm, 231, rfl⟩
abbrev main_v212 : Ref sig .tc := ⟨.hbm, 232, rfl⟩
abbrev main_v213 : Ref sig .tc := ⟨.hbm, 233, rfl⟩
abbrev main_v214 : Ref sig .tc := ⟨.hbm, 234, rfl⟩
abbrev main_v215 : Ref sig .tc := ⟨.hbm, 235, rfl⟩
abbrev main_v216 : Ref sig .tc := ⟨.hbm, 236, rfl⟩
abbrev main_v217 : Ref sig .tc := ⟨.hbm, 237, rfl⟩
abbrev main_v218 : Ref sig .tc := ⟨.hbm, 238, rfl⟩
abbrev main_v219 : Ref sig .tc := ⟨.hbm, 239, rfl⟩
abbrev main_v220 : Ref sig .tc := ⟨.hbm, 240, rfl⟩
abbrev main_v221 : Ref sig .tc := ⟨.hbm, 241, rfl⟩
abbrev main_v222 : Ref sig .tc := ⟨.hbm, 242, rfl⟩
abbrev main_v223 : Ref sig .tc := ⟨.hbm, 243, rfl⟩
abbrev main_v224 : Ref sig .tc := ⟨.hbm, 244, rfl⟩
abbrev main_v225 : Ref sig .tc := ⟨.hbm, 245, rfl⟩
abbrev main_v226 : Ref sig .tc := ⟨.hbm, 246, rfl⟩
abbrev main_v227 : Ref sig .tc := ⟨.hbm, 247, rfl⟩
abbrev main_v228 : Ref sig .tc := ⟨.hbm, 248, rfl⟩
abbrev main_v229 : Ref sig .tc := ⟨.hbm, 249, rfl⟩
abbrev main_v230 : Ref sig .tc := ⟨.hbm, 250, rfl⟩
abbrev main_v231 : Ref sig .tc := ⟨.hbm, 251, rfl⟩
abbrev main_v232 : Ref sig .tc := ⟨.hbm, 252, rfl⟩
abbrev main_v233 : Ref sig .tc := ⟨.hbm, 253, rfl⟩
abbrev main_v234 : Ref sig .tc := ⟨.hbm, 254, rfl⟩
abbrev main_v235 : Ref sig .tc := ⟨.hbm, 255, rfl⟩
abbrev main_v236 : Ref sig .tc := ⟨.hbm, 256, rfl⟩
abbrev main_v237 : Ref sig .tc := ⟨.hbm, 257, rfl⟩
abbrev main_v238 : Ref sig .tc := ⟨.hbm, 258, rfl⟩
abbrev main_v239 : Ref sig .tc := ⟨.hbm, 259, rfl⟩
abbrev main_v240 : Ref sig .tc := ⟨.hbm, 260, rfl⟩
abbrev main_v241 : Ref sig .tc := ⟨.hbm, 261, rfl⟩
abbrev main_v242 : Ref sig .tc := ⟨.hbm, 262, rfl⟩
abbrev main_v243 : Ref sig .tc := ⟨.hbm, 263, rfl⟩
abbrev main_v244 : Ref sig .tc := ⟨.hbm, 264, rfl⟩
abbrev main_v245 : Ref sig .tc := ⟨.hbm, 265, rfl⟩
abbrev main_v246 : Ref sig .tc := ⟨.hbm, 266, rfl⟩
abbrev main_v247 : Ref sig .tc := ⟨.hbm, 267, rfl⟩
abbrev main_v248 : Ref sig .tc := ⟨.hbm, 268, rfl⟩
abbrev main_v249 : Ref sig .tc := ⟨.hbm, 269, rfl⟩
abbrev main_v250 : Ref sig .tc := ⟨.hbm, 270, rfl⟩
abbrev main_v251 : Ref sig .tc := ⟨.hbm, 271, rfl⟩
abbrev main_v252 : Ref sig .tc := ⟨.hbm, 272, rfl⟩
abbrev main_v253 : Ref sig .tc := ⟨.hbm, 273, rfl⟩
abbrev main_v254 : Ref sig .tc := ⟨.hbm, 274, rfl⟩
abbrev main_v255 : Ref sig .tc := ⟨.hbm, 275, rfl⟩
abbrev main_v256 : Ref sig .tc := ⟨.hbm, 276, rfl⟩
abbrev main_cst_4 : Ref sig .tc := ⟨.hbm, 277, rfl⟩
abbrev main_v257 : Ref sig .tc := ⟨.hbm, 278, rfl⟩
abbrev main_v258 : Ref sig .tc := ⟨.hbm, 279, rfl⟩
abbrev main_cst_5 : Ref sig .tc := ⟨.hbm, 280, rfl⟩
abbrev main_v259 : Ref sig .tc := ⟨.hbm, 281, rfl⟩
abbrev main_v260 : Ref sig .tc := ⟨.hbm, 282, rfl⟩
abbrev main_v261 : Ref sig .tc := ⟨.hbm, 283, rfl⟩
abbrev main_v262 : Ref sig .tc := ⟨.hbm, 284, rfl⟩
abbrev main_v263 : Ref sig .tc := ⟨.hbm, 285, rfl⟩
abbrev main_cst_6 : Ref sig .tc := ⟨.hbm, 286, rfl⟩
abbrev main_v264 : Ref sig .tc := ⟨.hbm, 287, rfl⟩
abbrev main_v265 : Ref sig .tc := ⟨.hbm, 288, rfl⟩
abbrev main_cst_7 : Ref sig .tc := ⟨.hbm, 289, rfl⟩
abbrev main_v266 : Ref sig .tc := ⟨.hbm, 290, rfl⟩
abbrev main_v267 : Ref sig .tc := ⟨.hbm, 291, rfl⟩
abbrev main_cst_8 : Ref sig .tc := ⟨.hbm, 292, rfl⟩
abbrev main_v268 : Ref sig .tc := ⟨.hbm, 293, rfl⟩
abbrev main_v269 : Ref sig .tc := ⟨.hbm, 294, rfl⟩
abbrev main_v270 : Ref sig .tc := ⟨.hbm, 295, rfl⟩
abbrev main_v271 : Ref sig .tc := ⟨.hbm, 296, rfl⟩
abbrev main_v272 : Ref sig .tc := ⟨.hbm, 297, rfl⟩
abbrev main_v273 : Ref sig .tc := ⟨.hbm, 298, rfl⟩
abbrev main_v274 : Ref sig .tc := ⟨.hbm, 299, rfl⟩
abbrev main_v275 : Ref sig .tc := ⟨.hbm, 300, rfl⟩
abbrev main_v276 : Ref sig .tc := ⟨.hbm, 301, rfl⟩
abbrev main_v277 : Ref sig .tc := ⟨.hbm, 302, rfl⟩
abbrev main_v278 : Ref sig .tc := ⟨.hbm, 303, rfl⟩
abbrev main_call1_v0 : Ref sig .tc := ⟨.hbm, 304, rfl⟩
abbrev main_call1_v1 : Ref sig .tc := ⟨.hbm, 305, rfl⟩
abbrev main_call1_cst : Ref sig .tc := ⟨.hbm, 306, rfl⟩
abbrev main_call1_v2 : Ref sig .tc := ⟨.hbm, 307, rfl⟩
abbrev main_call1_v3 : Ref sig .tc := ⟨.hbm, 308, rfl⟩
abbrev main_call1_cst_0 : Ref sig .tc := ⟨.hbm, 309, rfl⟩
abbrev main_call1_v4 : Ref sig .tc := ⟨.hbm, 310, rfl⟩
abbrev main_call1_v5 : Ref sig .tc := ⟨.hbm, 311, rfl⟩
abbrev main_v279 : Ref sig .tc := ⟨.hbm, 312, rfl⟩
abbrev main_v280 : Ref sig .tc := ⟨.hbm, 313, rfl⟩
abbrev main_v281 : Ref sig .tc := ⟨.hbm, 314, rfl⟩
abbrev main_v282 : Ref sig .tc := ⟨.hbm, 315, rfl⟩
abbrev main_v283 : Ref sig .tc := ⟨.hbm, 316, rfl⟩
abbrev main_v284 : Ref sig .tc := ⟨.hbm, 317, rfl⟩
abbrev main_v285 : Ref sig .tc := ⟨.hbm, 318, rfl⟩
abbrev main_v286 : Ref sig .tc := ⟨.hbm, 319, rfl⟩
abbrev main_v287 : Ref sig .tc := ⟨.hbm, 320, rfl⟩
abbrev main_call2_v0 : Ref sig .tc := ⟨.hbm, 321, rfl⟩
abbrev main_call2_call0_cst : Ref sig .tc := ⟨.hbm, 322, rfl⟩
abbrev main_call2_call0_v0 : Ref sig .tc := ⟨.hbm, 323, rfl⟩
abbrev main_call2_call0_v1 : Ref sig .tc := ⟨.hbm, 324, rfl⟩
abbrev main_call2_call0_v2 : Ref sig .tc := ⟨.hbm, 325, rfl⟩
abbrev main_call2_call0_v3 : Ref sig .tc := ⟨.hbm, 326, rfl⟩
abbrev main_call2_call0_v4 : Ref sig .tc := ⟨.hbm, 327, rfl⟩
abbrev main_call2_call0_v5 : Ref sig .tc := ⟨.hbm, 328, rfl⟩
abbrev main_call2_call0_v6 : Ref sig .tc := ⟨.hbm, 329, rfl⟩
abbrev main_call2_call0_v7 : Ref sig .tc := ⟨.hbm, 330, rfl⟩
abbrev main_call2_call0_v8 : Ref sig .tc := ⟨.hbm, 331, rfl⟩
abbrev main_call2_call0_v9 : Ref sig .tc := ⟨.hbm, 332, rfl⟩
abbrev main_call2_call0_v10 : Ref sig .tc := ⟨.hbm, 333, rfl⟩
abbrev main_call2_call0_v11 : Ref sig .tc := ⟨.hbm, 334, rfl⟩
abbrev main_call2_v1 : Ref sig .tc := ⟨.hbm, 335, rfl⟩
abbrev main_v288 : Ref sig .tc := ⟨.hbm, 336, rfl⟩
abbrev main_cst_9 : Ref sig .tc := ⟨.hbm, 337, rfl⟩
abbrev main_v289 : Ref sig .tc := ⟨.hbm, 338, rfl⟩
abbrev main_v290 : Ref sig .tc := ⟨.hbm, 339, rfl⟩
abbrev main_v291 : Ref sig .tc := ⟨.hbm, 340, rfl⟩
abbrev main_cst_10 : Ref sig .tc := ⟨.hbm, 341, rfl⟩
abbrev main_v292 : Ref sig .tc := ⟨.hbm, 342, rfl⟩
abbrev main_v293 : Ref sig .tc := ⟨.hbm, 343, rfl⟩
abbrev main_v294 : Ref sig .tc := ⟨.hbm, 344, rfl⟩
abbrev main_v295 : Ref sig .tc := ⟨.hbm, 345, rfl⟩
abbrev main_v296 : Ref sig .tc := ⟨.hbm, 346, rfl⟩
abbrev main_v297 : Ref sig .tc := ⟨.hbm, 347, rfl⟩
abbrev main_v298 : Ref sig .tc := ⟨.hbm, 348, rfl⟩
abbrev main_v299 : Ref sig .tc := ⟨.hbm, 349, rfl⟩
abbrev main_v300 : Ref sig .tc := ⟨.hbm, 350, rfl⟩
abbrev main_v301 : Ref sig .tc := ⟨.hbm, 351, rfl⟩
abbrev main_v302 : Ref sig .tc := ⟨.hbm, 352, rfl⟩
abbrev main_v303 : Ref sig .tc := ⟨.hbm, 353, rfl⟩
abbrev main_v304 : Ref sig .tc := ⟨.hbm, 354, rfl⟩
abbrev main_c_11 : Ref sig .tc := ⟨.hbm, 355, rfl⟩
abbrev main_v305 : Ref sig .tc := ⟨.hbm, 356, rfl⟩
abbrev main_call3_v0 : Ref sig .tc := ⟨.hbm, 357, rfl⟩
abbrev main_call3_c : Ref sig .tc := ⟨.hbm, 358, rfl⟩
abbrev main_call3_v1 : Ref sig .tc := ⟨.hbm, 359, rfl⟩
abbrev main_call3_v2 : Ref sig .tc := ⟨.hbm, 360, rfl⟩
abbrev main_call3_v3 : Ref sig .tc := ⟨.hbm, 361, rfl⟩
abbrev main_call3_v4 : Ref sig .tc := ⟨.hbm, 362, rfl⟩
abbrev main_call3_c_0 : Ref sig .tc := ⟨.hbm, 363, rfl⟩
abbrev main_call3_v5 : Ref sig .tc := ⟨.hbm, 364, rfl⟩
abbrev main_v306 : Ref sig .tc := ⟨.hbm, 365, rfl⟩
abbrev main_v307 : Ref sig .tc := ⟨.hbm, 366, rfl⟩
abbrev main_v308 : Ref sig .tc := ⟨.hbm, 367, rfl⟩
abbrev main_v309 : Ref sig .tc := ⟨.hbm, 368, rfl⟩
abbrev main_v310 : Ref sig .tc := ⟨.hbm, 369, rfl⟩
abbrev main_v311 : Ref sig .tc := ⟨.hbm, 370, rfl⟩
abbrev main_v312 : Ref sig .tc := ⟨.hbm, 371, rfl⟩
abbrev main_v313 : Ref sig .tc := ⟨.hbm, 372, rfl⟩
abbrev main_v314 : Ref sig .tc := ⟨.hbm, 373, rfl⟩
abbrev main_v315 : Ref sig .tc := ⟨.hbm, 374, rfl⟩
abbrev main_v316 : Ref sig .tc := ⟨.hbm, 375, rfl⟩
abbrev main_v317 : Ref sig .tc := ⟨.hbm, 376, rfl⟩
abbrev main_v318 : Ref sig .tc := ⟨.hbm, 377, rfl⟩
abbrev main_v319 : Ref sig .tc := ⟨.hbm, 378, rfl⟩
abbrev main_v320 : Ref sig .tc := ⟨.hbm, 379, rfl⟩
abbrev main_cst_12 : Ref sig .tc := ⟨.hbm, 380, rfl⟩
abbrev main_call4_v0 : Ref sig .tc := ⟨.hbm, 381, rfl⟩
abbrev main_call4_v1 : Ref sig .tc := ⟨.hbm, 382, rfl⟩
abbrev main_call4_v2 : Ref sig .tc := ⟨.hbm, 383, rfl⟩
abbrev main_v321 : Ref sig .tc := ⟨.hbm, 384, rfl⟩
abbrev main_v322 : Ref sig .tc := ⟨.hbm, 385, rfl⟩
abbrev main_v323 : Ref sig .tc := ⟨.hbm, 386, rfl⟩
abbrev main_v324 : Ref sig .tc := ⟨.hbm, 387, rfl⟩
abbrev main_v325 : Ref sig .tc := ⟨.hbm, 388, rfl⟩
abbrev main_v326 : Ref sig .tc := ⟨.hbm, 389, rfl⟩
abbrev main_v327 : Ref sig .tc := ⟨.hbm, 390, rfl⟩
abbrev main_v328 : Ref sig .tc := ⟨.hbm, 391, rfl⟩
abbrev main_v329 : Ref sig .tc := ⟨.hbm, 392, rfl⟩
abbrev main_v330 : Ref sig .tc := ⟨.hbm, 393, rfl⟩
abbrev main_v331 : Ref sig .tc := ⟨.hbm, 394, rfl⟩
abbrev main_v332 : Ref sig .tc := ⟨.hbm, 395, rfl⟩
abbrev main_v333 : Ref sig .tc := ⟨.hbm, 396, rfl⟩
abbrev main_v334 : Ref sig .tc := ⟨.hbm, 397, rfl⟩
abbrev main_v335 : Ref sig .tc := ⟨.hbm, 398, rfl⟩
abbrev main_v336 : Ref sig .tc := ⟨.hbm, 399, rfl⟩
abbrev main_v337 : Ref sig .tc := ⟨.hbm, 400, rfl⟩
abbrev main_v338 : Ref sig .tc := ⟨.hbm, 401, rfl⟩
abbrev main_v339 : Ref sig .tc := ⟨.hbm, 402, rfl⟩
abbrev main_v340 : Ref sig .tc := ⟨.hbm, 403, rfl⟩
abbrev main_v341 : Ref sig .tc := ⟨.hbm, 404, rfl⟩
abbrev main_cst_13 : Ref sig .tc := ⟨.hbm, 405, rfl⟩
abbrev main_call5_v0 : Ref sig .tc := ⟨.hbm, 406, rfl⟩
abbrev main_call5_v1 : Ref sig .tc := ⟨.hbm, 407, rfl⟩
abbrev main_call5_v2 : Ref sig .tc := ⟨.hbm, 408, rfl⟩
abbrev main_v342 : Ref sig .tc := ⟨.hbm, 409, rfl⟩
abbrev main_v343 : Ref sig .tc := ⟨.hbm, 410, rfl⟩
abbrev main_v344 : Ref sig .tc := ⟨.hbm, 411, rfl⟩
abbrev main_v345 : Ref sig .tc := ⟨.hbm, 412, rfl⟩
abbrev main_v346 : Ref sig .tc := ⟨.hbm, 413, rfl⟩
abbrev main_v347 : Ref sig .tc := ⟨.hbm, 414, rfl⟩
abbrev main_v348 : Ref sig .tc := ⟨.hbm, 415, rfl⟩
abbrev main_v349 : Ref sig .tc := ⟨.hbm, 416, rfl⟩
abbrev main_cst_14 : Ref sig .tc := ⟨.hbm, 417, rfl⟩
abbrev main_v350 : Ref sig .tc := ⟨.hbm, 418, rfl⟩
abbrev main_v351 : Ref sig .tc := ⟨.hbm, 419, rfl⟩
abbrev main_cst_15 : Ref sig .tc := ⟨.hbm, 420, rfl⟩
abbrev main_v352 : Ref sig .tc := ⟨.hbm, 421, rfl⟩
abbrev main_v353 : Ref sig .tc := ⟨.hbm, 422, rfl⟩
abbrev main_cst_16 : Ref sig .tc := ⟨.hbm, 423, rfl⟩
abbrev main_v354 : Ref sig .tc := ⟨.hbm, 424, rfl⟩
abbrev main_v355 : Ref sig .tc := ⟨.hbm, 425, rfl⟩
abbrev main_v356 : Ref sig .tc := ⟨.hbm, 426, rfl⟩
abbrev main_v357 : Ref sig .tc := ⟨.hbm, 427, rfl⟩
abbrev main_v358 : Ref sig .tc := ⟨.hbm, 428, rfl⟩
abbrev main_v359 : Ref sig .tc := ⟨.hbm, 429, rfl⟩
abbrev main_v360 : Ref sig .tc := ⟨.hbm, 430, rfl⟩
abbrev main_v361 : Ref sig .tc := ⟨.hbm, 431, rfl⟩
abbrev main_v362 : Ref sig .tc := ⟨.hbm, 432, rfl⟩
abbrev main_v363 : Ref sig .tc := ⟨.hbm, 433, rfl⟩
abbrev main_call6_v0 : Ref sig .tc := ⟨.hbm, 434, rfl⟩
abbrev main_call6_v1 : Ref sig .tc := ⟨.hbm, 435, rfl⟩
abbrev main_call6_cst : Ref sig .tc := ⟨.hbm, 436, rfl⟩
abbrev main_call6_v2 : Ref sig .tc := ⟨.hbm, 437, rfl⟩
abbrev main_call6_v3 : Ref sig .tc := ⟨.hbm, 438, rfl⟩
abbrev main_call6_cst_0 : Ref sig .tc := ⟨.hbm, 439, rfl⟩
abbrev main_call6_v4 : Ref sig .tc := ⟨.hbm, 440, rfl⟩
abbrev main_call6_v5 : Ref sig .tc := ⟨.hbm, 441, rfl⟩
abbrev main_v364 : Ref sig .tc := ⟨.hbm, 442, rfl⟩
abbrev main_v365 : Ref sig .tc := ⟨.hbm, 443, rfl⟩
abbrev main_v366 : Ref sig .tc := ⟨.hbm, 444, rfl⟩
abbrev main_v367 : Ref sig .tc := ⟨.hbm, 445, rfl⟩
abbrev main_v368 : Ref sig .tc := ⟨.hbm, 446, rfl⟩
abbrev main_v369 : Ref sig .tc := ⟨.hbm, 447, rfl⟩
abbrev main_cst_17 : Ref sig .tc := ⟨.hbm, 448, rfl⟩
abbrev main_v370 : Ref sig .tc := ⟨.hbm, 449, rfl⟩
abbrev main_v371 : Ref sig .tc := ⟨.hbm, 450, rfl⟩
abbrev main_cst_18 : Ref sig .tc := ⟨.hbm, 451, rfl⟩
abbrev main_v372 : Ref sig .tc := ⟨.hbm, 452, rfl⟩
abbrev main_v373 : Ref sig .tc := ⟨.hbm, 453, rfl⟩
abbrev main_v374 : Ref sig .tc := ⟨.hbm, 454, rfl⟩
abbrev main_v375 : Ref sig .tc := ⟨.hbm, 455, rfl⟩
abbrev main_v376 : Ref sig .tc := ⟨.hbm, 456, rfl⟩
abbrev main_cst_19 : Ref sig .tc := ⟨.hbm, 457, rfl⟩
abbrev main_v377 : Ref sig .tc := ⟨.hbm, 458, rfl⟩
abbrev main_v378 : Ref sig .tc := ⟨.hbm, 459, rfl⟩
abbrev main_cst_20 : Ref sig .tc := ⟨.hbm, 460, rfl⟩
abbrev main_v379 : Ref sig .tc := ⟨.hbm, 461, rfl⟩
abbrev main_v380 : Ref sig .tc := ⟨.hbm, 462, rfl⟩
abbrev main_v381 : Ref sig .tc := ⟨.hbm, 463, rfl⟩
abbrev main_v382 : Ref sig .tc := ⟨.hbm, 464, rfl⟩
abbrev main_v383 : Ref sig .tc := ⟨.hbm, 465, rfl⟩
abbrev main_v384 : Ref sig .tc := ⟨.hbm, 466, rfl⟩
abbrev main_v385 : Ref sig .tc := ⟨.hbm, 467, rfl⟩
abbrev main_v386 : Ref sig .tc := ⟨.hbm, 468, rfl⟩

abbrev nD : Nat := 1
abbrev τ : Topo := Topo.v7x

variable {F : FTy → Type} [FloatOps F]
-- ==== Kernel2.lean ====
abbrev S2x8192x1024 : Shape := ⟨3, ![2, 8192, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1x512x1024 : Shape := ⟨3, ![1, 512, 1024]⟩
abbrev S520x5632 : Shape := ⟨2, ![520, 5632]⟩
abbrev S8x5632 : Shape := ⟨2, ![8, 5632]⟩
abbrev S512x1024 : Shape := ⟨2, ![512, 1024]⟩
abbrev S512 : Shape := ⟨1, ![512]⟩
abbrev S512x1 : Shape := ⟨2, ![512, 1]⟩
abbrev S512x5632 : Shape := ⟨2, ![512, 5632]⟩
abbrev S512x2816 : Shape := ⟨2, ![512, 2816]⟩

abbrev nBuf : Space → Nat
  | .hbm => 18
  | .vmem => 11
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x5632, .f32⟩
  | .hbm, ⟨3, _⟩ => ⟨S1x3x5632, .f32⟩
  | .hbm, ⟨4, _⟩ => ⟨S1x5632, .f32⟩
  | .hbm, ⟨5, _⟩ => ⟨S1x2816x1024, .f32⟩
  | .hbm, ⟨6, _⟩ => ⟨S1024, .f32⟩
  | .hbm, ⟨7, _⟩ => ⟨S1024, .f32⟩
  | .hbm, ⟨8, _⟩ => ⟨S1x1024, .f32⟩
  | .hbm, ⟨9, _⟩ => ⟨S1024x5632, .f32⟩
  | .hbm, ⟨10, _⟩ => ⟨S1024x5632, .bf16⟩
  | .hbm, ⟨11, _⟩ => ⟨S3x5632, .f32⟩
  | .hbm, ⟨12, _⟩ => ⟨S5632, .f32⟩
  | .hbm, ⟨13, _⟩ => ⟨S1x5632, .f32⟩
  | .hbm, ⟨14, _⟩ => ⟨S2816x1024, .f32⟩
  | .hbm, ⟨15, _⟩ => ⟨S2816x1024, .bf16⟩
  | .hbm, ⟨16, _⟩ => ⟨S1x1024, .f32⟩
  | .hbm, ⟨17, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x5632, .bf16⟩
  | .local _ .vmem, ⟨4, _⟩ => ⟨S3x5632, .f32⟩
  | .local _ .vmem, ⟨5, _⟩ => ⟨S1x5632, .f32⟩
  | .local _ .vmem, ⟨6, _⟩ => ⟨S2816x1024, .bf16⟩
  | .local _ .vmem, ⟨7, _⟩ => ⟨S1x1024, .f32⟩
  | .local _ .vmem, ⟨8, _⟩ => ⟨S1x512x1024, .f32⟩
  | .local _ .vmem, ⟨9, _⟩ => ⟨S1x512x1024, .f32⟩
  | .local _ .vmem, ⟨10, _⟩ => ⟨S520x5632, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference2Ideal.lean ====
abbrev S2x8192x1024 : Shape := ⟨3, ![2, 8192, 1024]⟩
abbrev S1x1024 : Shape := ⟨2, ![1, 1024]⟩
abbrev S1x1024x5632 : Shape := ⟨3, ![1, 1024, 5632]⟩
abbrev S1x3x5632 : Shape := ⟨3, ![1, 3, 5632]⟩
abbrev S1x5632 : Shape := ⟨2, ![1, 5632]⟩
abbrev S1x2816x1024 : Shape := ⟨3, ![1, 2816, 1024]⟩
abbrev S1024 : Shape := ⟨1, ![1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S1024x5632 : Shape := ⟨2, ![1024, 5632]⟩
abbrev S2x8192x5632 : Shape := ⟨3, ![2, 8192, 5632]⟩
abbrev S3x5632 : Shape := ⟨2, ![3, 5632]⟩
abbrev S5632 : Shape := ⟨1, ![5632]⟩
abbrev S2x8194x5632 : Shape := ⟨3, ![2, 8194, 5632]⟩
abbrev S1x1x5632 : Shape := ⟨3, ![1, 1, 5632]⟩
abbrev S2x8192x2816 : Shape := ⟨3, ![2, 8192, 2816]⟩
abbrev S2816x1024 : Shape := ⟨2, ![2816, 1024]⟩

abbrev nBuf : Space → Nat
  | .hbm => 85
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1x1024, .f32⟩
  | .hbm, ⟨2, _⟩ => ⟨S1x1024x5632, .f32⟩
  | .hbm, ⟨3, _⟩ => ⟨S1x3x5632, .f32⟩
  | .hbm, ⟨4, _⟩ => ⟨S1x5632, .f32⟩
  | .hbm, ⟨5, _⟩ => ⟨S1x2816x1024, .f32⟩
  | .hbm, ⟨6, _⟩ => ⟨S1024, .f32⟩
  | .hbm, ⟨7, _⟩ => ⟨S1024, .f32⟩
  | .hbm, ⟨8, _⟩ => ⟨S2x8192x1024, .f32⟩
  | .hbm, ⟨9, _⟩ => ⟨S_, .f32⟩
  | .hbm, ⟨10, _⟩ => ⟨S2x8192, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S2x8192x1, .f32⟩
  | .hbm, ⟨19, _⟩ => ⟨S2x8192x1024, .f32⟩
  | .hbm, ⟨20, _⟩ => ⟨S2x8192x1024, .f32⟩
  | .hbm, ⟨21, _⟩ => ⟨S1x1x1024, .f32⟩
  | .hbm, ⟨22, _⟩ => ⟨S2x8192x1024, .f32⟩
  | .hbm, ⟨23, _⟩ => ⟨S2x8192x1024, .f32⟩
  | .hbm, ⟨24, _⟩ => ⟨S1024x5632, .f32⟩
  | .hbm, ⟨25, _⟩ => ⟨S2x8192x5632, .f32⟩
  | .hbm, ⟨26, _⟩ => ⟨S3x5632, .f32⟩
  | .hbm, ⟨27, _⟩ => ⟨S5632, .f32⟩
  | .hbm, ⟨28, _⟩ => ⟨S_, .i32⟩
  | .hbm, ⟨29, _⟩ => ⟨S_, .f32⟩
  | .hbm, ⟨30, _⟩ => ⟨S2x8194x5632, .f32⟩
  | .hbm, ⟨31, _⟩ => ⟨S1x5632, .f32⟩
  | .hbm, ⟨32, _⟩ => ⟨S5632, .f32⟩
  | .hbm, ⟨33, _⟩ => ⟨S2x8192x5632, .f32⟩
  | .hbm, ⟨34, _⟩ => ⟨S1x1x5632, .f32⟩
  | .hbm, ⟨35, _⟩ => ⟨S2x8192x5632, .f32⟩
  | .hbm, ⟨36, _⟩ => ⟨S2x8192x5632, .f32⟩
  | .hbm, ⟨37, _⟩ => ⟨S1x5632, .f32⟩
  | .hbm, ⟨38, _⟩ => ⟨S5632, .f32⟩
  | .hbm, ⟨39, _⟩ => ⟨S2x8192x5632, .f32⟩
  | .hbm, ⟨40, _⟩ => ⟨S1x1x5632, .f32⟩
  | .hbm, ⟨41, _⟩ => ⟨S2x8192x5632, .f32⟩
  | .hbm, ⟨42, _⟩ => ⟨S2x8192x5632, .f32⟩
  | .hbm, ⟨43, _⟩ => ⟨S2x8192x5632, .f32⟩
  | .hbm, ⟨44, _⟩ => ⟨S1x5632, .f32⟩
  | .hbm, ⟨45, _⟩ => ⟨S5632, .f32⟩
  | .hbm, ⟨46, _⟩ => ⟨S2x8192x5632, .f32⟩
  | .hbm, ⟨47, _⟩ => ⟨S1x1x5632, .f32⟩
  | .hbm, ⟨48, _⟩ => ⟨S2x8192x5632, .f32⟩
  | .hbm, ⟨49, _⟩ => ⟨S2x8192x5632, .f32⟩
  | .hbm, ⟨50, _⟩ => ⟨S2x8192x5632, .f32⟩
  | .hbm, ⟨51, _⟩ => ⟨S1x1x5632, .f32⟩
  | .hbm, ⟨52, _⟩ => ⟨S2x8192x5632, .f32⟩
  | .hbm, ⟨53, _⟩ => ⟨S2x8192x5632, .f32⟩
  | .hbm, ⟨54, _⟩ => ⟨S2x8192x2816, .f32⟩
  | .hbm, ⟨55, _⟩ => ⟨S2x8192x2816, .f32⟩
  | .hbm, ⟨56, _⟩ => ⟨S2x8192x2816, .f32⟩
  | .hbm, ⟨57, _⟩ => ⟨S_, .f32⟩
  | .hbm, ⟨58, _⟩ => ⟨S2x8192x2816, .f32⟩
  | .hbm, ⟨59, _⟩ => ⟨S2x8192x2816, .f32⟩
  | .hbm, ⟨60, _⟩ => ⟨S_, .f32⟩
  | .hbm, ⟨61, _⟩ => ⟨S2x8192x2816, .f32⟩
  | .hbm, ⟨62, _⟩ => ⟨S2x8192x2816, .f32⟩
  | .hbm, ⟨63, _⟩ => ⟨S2x8192x2816, .f32⟩
  | .hbm, ⟨64, _⟩ => ⟨S2x8192x2816, .f32⟩
  | .hbm, ⟨65, _⟩ => ⟨S2x8192x2816, .f32⟩
  | .hbm, ⟨66, _⟩ => ⟨S2816x1024, .f32⟩
  | .hbm, ⟨67, _⟩ => ⟨S2x8192x1024, .f32⟩
  | .hbm, ⟨68, _⟩ => ⟨S2x8192x1024, .f32⟩
  | .hbm, ⟨69, _⟩ => ⟨S2x8192x1024, .f32⟩
  | .hbm, ⟨70, _⟩ => ⟨S_, .f32⟩
  | .hbm, ⟨71, _⟩ => ⟨S2x8192, .f32⟩
  | .hbm, ⟨72, _⟩ => ⟨S2x8192x1, .f32⟩
  | .hbm, ⟨73, _⟩ => ⟨S_, .f32⟩
  | .hbm, ⟨74, _⟩ => ⟨S2x8192x1, .f32⟩
  | .hbm, ⟨75, _⟩ => ⟨S2x8192x1, .f32⟩
  | .hbm, ⟨76, _⟩ => ⟨S_, .f32⟩
  | .hbm, ⟨77, _⟩ => ⟨S2x8192x1, .f32⟩
  | .hbm, ⟨78, _⟩ => ⟨S2x8192x1, .f32⟩
  | .hbm, ⟨79, _⟩ => ⟨S2x8192x1, .f32⟩
  | .hbm, ⟨80, _⟩ => ⟨S2x8192x1024, .f32⟩
  | .hbm, ⟨81, _⟩ => ⟨S2x8192x1024, .f32⟩
  | .hbm, ⟨82, _⟩ => ⟨S1x1x1024, .f32⟩
  | .hbm, ⟨83, _⟩ => ⟨S2x8192x1024, .f32⟩
  | .hbm, ⟨84, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_call0_v0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_call1_v0 : Ref sig .tc := ⟨.hbm, 55, rfl⟩
abbrev main_call1_v1 : Ref sig .tc := ⟨.hbm, 56, rfl⟩
abbrev main_call1_cst : Ref sig .tc := ⟨.hbm, 57, rfl⟩
abbrev main_call1_v2 : Ref sig .tc := ⟨.hbm, 58, rfl⟩
abbrev main_call1_v3 : Ref sig .tc := ⟨.hbm, 59, rfl⟩
abbrev main_call1_cst_0 : Ref sig .tc := ⟨.hbm, 60, rfl⟩
abbrev main_call1_v4 : Ref sig .tc := ⟨.hbm, 61, rfl⟩
abbrev main_call1_v5 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_2 : Ref sig .tc := ⟨.hbm, 70, rfl⟩
abbrev main_v50 : Ref sig .tc := ⟨.hbm, 71, rfl⟩
abbrev main_v51 : Ref sig .tc := ⟨.hbm, 72, rfl⟩
abbrev main_cst_3 : Ref sig .tc := ⟨.hbm, 73, rfl⟩
abbrev main_v52 : Ref sig .tc := ⟨.hbm, 74, rfl⟩
abbrev main_v53 : Ref sig .tc := ⟨.hbm, 75, rfl⟩
abbrev main_cst_4 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩

abbrev nD : Nat := 1
abbrev τ : Topo := Topo.v7x

variable {F : FTy → Type} [FloatOps F]
-- ==== Proof.Rows.lean ====
module

public import Idealize.ShloMosaic.Lib.Pipeline.Value
public import Idealize.ShloMosaic.Lib.Pipeline.ValueKit.Basic
public import Idealize.ShloMosaic.Lib.WritesUnit
public import Idealize.ShloMosaic.Lib.Pointwise

@[expose] public section

noncomputable section

/-! Reading a list of stores of rectangles at one element. -/

namespace Cert.Rows

open Idealize.ShloMosaic

variable {Val : EltTy → Type} {e : EltTy} [∀ e, Nonempty (Val e)]

section General
variable {s : Shape}

/-- An element the newest unit-stride rectangle holds at position `x` reads that rectangle's payload at `x`. -/
theorem canon_hit {off size : Fin s.rank → ℕ} (inb : ∀ a, off a + size a ≤ s.size a)
    (w : (Rect.unit off size inb).shape.Idx → Val e) (L : List (View.Piece Val s e)) (y : s.Idx)
    (x : (Rect.unit off size inb).shape.Idx) (hx : ∀ a, (y a).val = off a + (x a).val) :
    View.canon ((⟨Rect.unit off size inb, w⟩ : View.Piece Val s e) :: L) y = w x := by
  have hy : (Rect.unit off size inb).emb x = y := funext fun a => Fin.ext (by
    show off a + 1 * (x a).val = (y a).val
    rw [hx a, Nat.one_mul])
  rw [← hy]
  exact View.canon_cons_emb _ _ _ _

/-- An element outside the newest unit-stride rectangle on axis `a` reads the earlier stores. -/
theorem canon_miss {off size : Fin s.rank → ℕ} (inb : ∀ a, off a + size a ≤ s.size a)
    (w : (Rect.unit off size inb).shape.Idx → Val e) (L : List (View.Piece Val s e)) (y : s.Idx)
    (a : Fin s.rank) (ha : (y a).val < off a ∨ off a + size a ≤ (y a).val) :
    View.canon ((⟨Rect.unit off size inb, w⟩ : View.Piece Val s e) :: L) y = View.canon L y := by
  refine View.canon_cons_of_not_mem _ _ ?_
  rw [Rect.mem_set_unit]
  intro hall
  have := hall a
  omega

end General

section Rank2
variable {a b : ℕ}

/-- Rank two: row `r`, column `c` inside the newest rectangle. -/
theorem canon2_hit {r0 c0 H W : ℕ} (inb : ∀ x : Fin 2, (![r0, c0] : Fin 2 → ℕ) x + (![H, W] : Fin 2 → ℕ) x ≤ (![a, b] : Fin 2 → ℕ) x)
    (w : (⟨2, ![H, W]⟩ : Shape).Idx → Val e) (L : List (View.Piece Val (⟨2, ![a, b]⟩ : Shape) e)) (r : Fin a) (c : Fin b)
    (hr : r0 ≤ r.val ∧ r.val < r0 + H) (hc : c0 ≤ c.val ∧ c.val < c0 + W) :
    View.canon ((⟨Rect.unit (s := ⟨2, ![a, b]⟩) ![r0, c0] ![H, W] inb, w⟩ : View.Piece Val (⟨2, ![a, b]⟩ : Shape) e) :: L) (ix2 r c)
      = w (ix2 ⟨r.val - r0, by omega⟩ ⟨c.val - c0, by omega⟩) :=
  canon_hit (s := ⟨2, ![a, b]⟩) inb w L (ix2 r c) (ix2 ⟨r.val - r0, by omega⟩ ⟨c.val - c0, by omega⟩)
    (Fin.forall_fin_two.mpr ⟨by show r.val = r0 + (r.val - r0); omega, by show c.val = c0 + (c.val - c0); omega⟩)

/-- Rank two: a row outside the newest rectangle's rows. -/
theorem canon2_miss_row {r0 c0 H W : ℕ} (inb : ∀ x : Fin 2, (![r0, c0] : Fin 2 → ℕ) x + (![H, W] : Fin 2 → ℕ) x ≤ (![a, b] : Fin 2 → ℕ) x)
    (w : (⟨2, ![H, W]⟩ : Shape).Idx → Val e) (L : List (View.Piece Val (⟨2, ![a, b]⟩ : Shape) e)) (r : Fin a) (c : Fin b)
    (hr : r.val < r0 ∨ r0 + H ≤ r.val) :
    View.canon ((⟨Rect.unit (s := ⟨2, ![a, b]⟩) ![r0, c0] ![H, W] inb, w⟩ : View.Piece Val (⟨2, ![a, b]⟩ : Shape) e) :: L) (ix2 r c)
      = View.canon L (ix2 r c) :=
  canon_miss (s := ⟨2, ![a, b]⟩) inb w L (ix2 r c) 0 hr

/-- Rank two: a column outside the newest rectangle's columns. -/
theorem canon2_miss_col {r0 c0 H W : ℕ} (inb : ∀ x : Fin 2, (![r0, c0] : Fin 2 → ℕ) x + (![H, W] : Fin 2 → ℕ) x ≤ (![a, b] : Fin 2 → ℕ) x)
    (w : (⟨2, ![H, W]⟩ : Shape).Idx → Val e) (L : List (View.Piece Val (⟨2, ![a, b]⟩ : Shape) e)) (r : Fin a) (c : Fin b)
    (hc : c.val < c0 ∨ c0 + W ≤ c.val) :
    View.canon ((⟨Rect.unit (s := ⟨2, ![a, b]⟩) ![r0, c0] ![H, W] inb, w⟩ : View.Piece Val (⟨2, ![a, b]⟩ : Shape) e) :: L) (ix2 r c)
      = View.canon L (ix2 r c) :=
  canon_miss (s := ⟨2, ![a, b]⟩) inb w L (ix2 r c) 1 hc

variable {sig : RefSig} {κ : Kind} {sp : Space}

/-- The same over earlier contents: row `r`, column `c` inside the newest rectangle. -/
theorem read2_hit (v : View sig κ sp (⟨2, ![a, b]⟩ : Shape) e) (f : v.ty.Contents Val) {r0 c0 H W : ℕ} (inb : ∀ x : Fin 2, (![r0, c0] : Fin 2 → ℕ) x + (![H, W] : Fin 2 → ℕ) x ≤ (![a, b] : Fin 2 → ℕ) x)
    (w : (⟨2, ![H, W]⟩ : Shape).Idx → Val e) (L : List (View.Piece Val (⟨2, ![a, b]⟩ : Shape) e)) (r : Fin a) (c : Fin b)
    (hr : r0 ≤ r.val ∧ r.val < r0 + H) (hc : c0 ≤ c.val ∧ c.val < c0 + W) :
    v.read Val (v.writes Val f ((⟨Rect.unit (s := ⟨2, ![a, b]⟩) ![r0, c0] ![H, W] inb, w⟩ : View.Piece Val (⟨2, ![a, b]⟩ : Shape) e) :: L)) (ix2 r c)
      = w (ix2 ⟨r.val - r0, by omega⟩ ⟨c.val - c0, by omega⟩) :=
  View.read_writes_cons_unit_of_mem (s := ⟨2, ![a, b]⟩) v f inb w L (ix2 r c) (ix2 ⟨r.val - r0, by omega⟩ ⟨c.val - c0, by omega⟩) rfl
    (Fin.forall_fin_two.mpr ⟨by show r.val = r0 + (r.val - r0); omega, by show c.val = c0 + (c.val - c0); omega⟩)

/-- The same over earlier contents: a row outside the newest rectangle's rows. -/
theorem read2_miss_row (v : View sig κ sp (⟨2, ![a, b]⟩ : Shape) e) (f : v.ty.Contents Val) {r0 c0 H W : ℕ} (inb : ∀ x : Fin 2, (![r0, c0] : Fin 2 → ℕ) x + (![H, W] : Fin 2 → ℕ) x ≤ (![a, b] : Fin 2 → ℕ) x)
    (w : (⟨2, ![H, W]⟩ : Shape).Idx → Val e) (L : List (View.Piece Val (⟨2, ![a, b]⟩ : Shape) e)) (r : Fin a) (c : Fin b)
    (hr : r.val < r0 ∨ r0 + H ≤ r.val) :
    v.read Val (v.writes Val f ((⟨Rect.unit (s := ⟨2, ![a, b]⟩) ![r0, c0] ![H, W] inb, w⟩ : View.Piece Val (⟨2, ![a, b]⟩ : Shape) e) :: L)) (ix2 r c)
      = v.read Val (v.writes Val f L) (ix2 r c) :=
  View.read_writes_cons_unit_of_not_mem (s := ⟨2, ![a, b]⟩) v f inb w L (ix2 r c) rfl 0 hr

/-- The same over earlier contents: a column outside the newest rectangle's columns. -/
theorem read2_miss_col (v : View sig κ sp (⟨2, ![a, b]⟩ : Shape) e) (f : v.ty.Contents Val) {r0 c0 H W : ℕ} (inb : ∀ x : Fin 2, (![r0, c0] : Fin 2 → ℕ) x + (![H, W] : Fin 2 → ℕ) x ≤ (![a, b] : Fin 2 → ℕ) x)
    (w : (⟨2, ![H, W]⟩ : Shape).Idx → Val e) (L : List (View.Piece Val (⟨2, ![a, b]⟩ : Shape) e)) (r : Fin a) (c : Fin b)
    (hc : c.val < c0 ∨ c0 + W ≤ c.val) :
    v.read Val (v.writes Val f ((⟨Rect.unit (s := ⟨2, ![a, b]⟩) ![r0, c0] ![H, W] inb, w⟩ : View.Piece Val (⟨2, ![a, b]⟩ : Shape) e) :: L)) (ix2 r c)
      = v.read Val (v.writes Val f L) (ix2 r c) :=
  View.read_writes_cons_unit_of_not_mem (s := ⟨2, ![a, b]⟩) v f inb w L (ix2 r c) rfl 1 hc

/-- A load of a rectangle that earlier stores cover, at row `r`, column `c` of the rectangle. -/
theorem readCov2 (v : View sig κ sp (⟨2, ![a, b]⟩ : Shape) e) (L : List (View.Piece Val (⟨2, ![a, b]⟩ : Shape) e)) {r0 c0 H W : ℕ}
    (inb : ∀ x : Fin 2, (![r0, c0] : Fin 2 → ℕ) x + (![H, W] : Fin 2 → ℕ) x ≤ (![a, b] : Fin 2 → ℕ) x) (r : Fin H) (c : Fin W) :
    v.readCov L (Rect.unit (s := ⟨2, ![a, b]⟩) ![r0, c0] ![H, W] inb).toLoadRect (ix2 r c)
      = View.canon L (ix2 (⟨r0 + r.val, by have h : r0 + H ≤ a := inb 0; omega⟩ : Fin a) (⟨c0 + c.val, by have h : c0 + W ≤ b := inb 1; omega⟩ : Fin b)) := by
  rw [View.readCov_eq_canon']
  show View.canon L _ = _
  congr 1
  funext x
  apply Fin.ext
  revert x
  refine Fin.forall_fin_two.mpr ⟨?_, ?_⟩
  · show r0 + 1 * r.val = r0 + r.val; omega
  · show c0 + 1 * c.val = c0 + c.val; omega

omit [∀ e, Nonempty (Val e)] in
/-- A load of a rectangle of known contents, at row `r`, column `c` of the rectangle. -/
theorem ld2 (X : (⟨2, ![a, b]⟩ : Shape).Idx → Val e) {r0 c0 H W : ℕ}
    (inb : ∀ x : Fin 2, (![r0, c0] : Fin 2 → ℕ) x + (![H, W] : Fin 2 → ℕ) x ≤ (![a, b] : Fin 2 → ℕ) x) (r : Fin H) (c : Fin W) :
    View.ld X (Rect.unit (s := ⟨2, ![a, b]⟩) ![r0, c0] ![H, W] inb) (ix2 r c)
      = X (ix2 (⟨r0 + r.val, by have h : r0 + H ≤ a := inb 0; omega⟩ : Fin a) (⟨c0 + c.val, by have h : c0 + W ≤ b := inb 1; omega⟩ : Fin b)) := by
  show X _ = _
  congr 1
  funext x
  apply Fin.ext
  revert x
  refine Fin.forall_fin_two.mpr ⟨?_, ?_⟩
  · show r0 + 1 * r.val = r0 + r.val; omega
  · show c0 + 1 * c.val = c0 + c.val; omega

end Rank2

section Whole
variable {a b c : ℕ}

/-- The offsets of a whole array of rank three are zero. -/
theorem zero3 : ∀ x : Fin 3, (![0, 0, 0] : Fin 3 → ℕ) x = 0 := by decide

omit [∀ e, Nonempty (Val e)] in
/-- A load of a whole matrix. -/
theorem ld_whole2 (X : (⟨2, ![a, b]⟩ : Shape).Idx → Val e)
    (inb : ∀ x : Fin 2, (![0, 0] : Fin 2 → ℕ) x + (![a, b] : Fin 2 → ℕ) x ≤ (![a, b] : Fin 2 → ℕ) x) :
    View.ld X (Rect.unit (s := ⟨2, ![a, b]⟩) ![0, 0] ![a, b] inb) = X :=
  View.ld_unit_lit (S := ⟨2, ![a, b]⟩) inb X (Fin.forall_fin_two.mpr ⟨rfl, rfl⟩)

omit [∀ e, Nonempty (Val e)] in
/-- A load of a whole array of rank three. -/
theorem ld_whole3 (X : (⟨3, ![a, b, c]⟩ : Shape).Idx → Val e)
    (inb : ∀ x : Fin 3, (![0, 0, 0] : Fin 3 → ℕ) x + (![a, b, c] : Fin 3 → ℕ) x ≤ (![a, b, c] : Fin 3 → ℕ) x) :
    View.ld X (Rect.unit (s := ⟨3, ![a, b, c]⟩) ![0, 0, 0] ![a, b, c] inb) = X :=
  View.ld_unit_lit (S := ⟨3, ![a, b, c]⟩) inb X zero3

/-- A store of a whole matrix hides what came before. -/
theorem canon_whole2 (w : (⟨2, ![a, b]⟩ : Shape).Idx → Val e) (L : List (View.Piece Val (⟨2, ![a, b]⟩ : Shape) e))
    (inb : ∀ x : Fin 2, (![0, 0] : Fin 2 → ℕ) x + (![a, b] : Fin 2 → ℕ) x ≤ (![a, b] : Fin 2 → ℕ) x) :
    View.canon ((⟨Rect.unit (s := ⟨2, ![a, b]⟩) ![0, 0] ![a, b] inb, w⟩ : View.Piece Val (⟨2, ![a, b]⟩ : Shape) e) :: L) = w :=
  View.canon_cons_unit_lit (S := ⟨2, ![a, b]⟩) inb w L (Fin.forall_fin_two.mpr ⟨rfl, rfl⟩)

/-- A store of a whole array of rank three hides what came before. -/
theorem canon_whole3 (w : (⟨3, ![a, b, c]⟩ : Shape).Idx → Val e) (L : List (View.Piece Val (⟨3, ![a, b, c]⟩ : Shape) e))
    (inb : ∀ x : Fin 3, (![0, 0, 0] : Fin 3 → ℕ) x + (![a, b, c] : Fin 3 → ℕ) x ≤ (![a, b, c] : Fin 3 → ℕ) x) :
    View.canon ((⟨Rect.unit (s := ⟨3, ![a, b, c]⟩) ![0, 0, 0] ![a, b, c] inb, w⟩ : View.Piece Val (⟨3, ![a, b, c]⟩ : Shape) e) :: L) = w :=
  View.canon_cons_unit_lit (S := ⟨3, ![a, b, c]⟩) inb w L zero3

end Whole

end Cert.Rows
end
-- ==== Proof.FfnSpec.lean ====
module

public import Idealize.ShloMosaic.Lib.Pointwise

@[expose] public section

noncomputable section

/-! The gated feed-forward layer of one token, as plain functions of rows of extended reals. -/

namespace Cert.FfnSpec

open Idealize.ShloMosaic

/-- A row divided by its root mean square and scaled. -/
def nrm (v g : Fin 1024 → EReal) (k : Fin 1024) : EReal :=
  v k * Ideal.rsqrt (Ideal.div (∑ k', v k' * v k') (Ideal.ofBits .f32 0x44800000#32) + Ideal.ofBits .f32 0x358637BD#32) * g k

/-- The widening projection of a normalised row. -/
def up (v g : Fin 1024 → EReal) (W : Fin 1024 → Fin 5632 → EReal) (j : Fin 5632) : EReal :=
  ∑ k, nrm v g k * W k j

/-- The depthwise convolution of three consecutive widened rows, oldest first. -/
def conv (w : Fin 3 → Fin 5632 → EReal) (b z0 z1 z2 : Fin 5632 → EReal) (j : Fin 5632) : EReal :=
  b j + w 0 j * z0 j + w 1 j * z1 j + w 2 j * z2 j

/-- The gate times the value half. -/
def gate (c : Fin 5632 → EReal) (d : Fin 2816) : EReal :=
  c ⟨d.val, by omega⟩ * Ideal.div 1 (1 + Ideal.exp (0 - c ⟨d.val, by omega⟩)) * c ⟨2816 + d.val, by omega⟩

/-- The narrowing projection added to the row. -/
def res (x : Fin 1024 → EReal) (c : Fin 5632 → EReal) (Wd : Fin 2816 → Fin 1024 → EReal) (k : Fin 1024) : EReal :=
  x k + ∑ d, gate c d * Wd d k

/-- The result row from the row and its three widened rows. -/
def fin (x : Fin 1024 → EReal) (w : Fin 3 → Fin 5632 → EReal) (b z0 z1 z2 : Fin 5632 → EReal)
    (Wd : Fin 2816 → Fin 1024 → EReal) (gf : Fin 1024 → EReal) (k : Fin 1024) : EReal :=
  nrm (res x (conv w b z0 z1 z2) Wd) gf k

/-- The widened row `d` tokens before token `s` of a sequence, zero before its start. -/
def back (X : ℕ → Fin 1024 → EReal) (g : Fin 1024 → EReal) (W : Fin 1024 → Fin 5632 → EReal) (s d : ℕ) (j : Fin 5632) : EReal :=
  if d ≤ s then up (X (s - d)) g W j else 0

/-- The layer's result at token `s` of a sequence. -/
def layer (X : ℕ → Fin 1024 → EReal) (g : Fin 1024 → EReal) (W : Fin 1024 → Fin 5632 → EReal)
    (w : Fin 3 → Fin 5632 → EReal) (b : Fin 5632 → EReal) (Wd : Fin 2816 → Fin 1024 → EReal) (gf : Fin 1024 → EReal)
    (s : ℕ) (k : Fin 1024) : EReal :=
  fin (X s) w b (back X g W s 2) (back X g W s 1) (back X g W s 0) Wd gf k

end Cert.FfnSpec
end
-- ==== Proof.FfnBlock.lean ====
module

public import proofs.«01_k».proof.Proof.Gen.Kernel2Ideal.Value
public import proofs.«01_k».proof.Proof.Rows
public import proofs.«01_k».proof.Proof.FfnSpec

@[expose] public section

set_option maxRecDepth 16384

noncomputable section

/-! One grid step of the feed-forward kernel: its result block and the rows it carries to the next step. -/

namespace Cert.Kernel2Ideal.Ffn

open Cert.Kernel2Ideal Cert.Kernel2Ideal.Gen Cert.FfnSpec Idealize.ShloMosaic Idealize.ShloMosaic.TcCoe Idealize.ShloMosaic.Tactic

/-- Row `i` of the buffer of widened rows: eight carried rows, then the block's own. -/
def ext (x0 : Vec Ideal S1x512x1024 .f32) (x1 : Vec Ideal S1x1024 .f32) (x2 : Vec Ideal S1024x5632 .bf16)
    (H : Fin 8 → Fin 5632 → EReal) (i : Fin 520) (j : Fin 5632) : EReal :=
  if h : i.val < 8 then H ⟨i.val, h⟩ j
  else up (fun k => x0 (ix3 0 ⟨i.val - 8, by omega⟩ k)) (fun k => x1 (ix2 0 k)) (fun k j => x2 (ix2 k j)) j

/-- The result block at row `r` from the buffer of widened rows. -/
def blk (x0 : Vec Ideal S1x512x1024 .f32) (x3 : Vec Ideal S3x5632 .f32) (x4 : Vec Ideal S1x5632 .f32)
    (x5 : Vec Ideal S2816x1024 .bf16) (x6 : Vec Ideal S1x1024 .f32) (Z : Fin 520 → Fin 5632 → EReal) (r : Fin 512) (k : Fin 1024) : EReal :=
  fin (fun k => x0 (ix3 0 r k)) (fun a j => x3 (ix2 a j)) (fun j => x4 (ix2 0 j))
    (Z ⟨6 + r.val, by omega⟩) (Z ⟨7 + r.val, by omega⟩) (Z ⟨8 + r.val, by omega⟩)
    (fun d k => x5 (ix2 d k)) (fun k => x6 (ix2 0 k)) k

/-- The widened rows of a block. -/
theorem pay4_apply (x0 : Vec Ideal S1x512x1024 .f32) (x1 : Vec Ideal S1x1024 .f32) (x2 : Vec Ideal S1024x5632 .bf16)
    (r : Fin 512) (j : Fin 5632) :
    k0_pay4 x0 x1 x2 (ix2 r j)
      = up (fun k => x0 (ix3 0 r k)) (fun k => x1 (ix2 0 k)) (fun k j => x2 (ix2 k j)) j := by
  pointwise [k0_pay4, k0_pay3]
  rfl

/-- The body's last stages from three loads of the buffer of widened rows. -/
theorem tail_apply (x0 : Vec Ideal S1x512x1024 .f32) (x3 : Vec Ideal S3x5632 .f32) (x4 : Vec Ideal S1x5632 .f32)
    (x5 : Vec Ideal S2816x1024 .bf16) (x6 : Vec Ideal S1x1024 .f32)
    (w0 w1 w2 : Vec Ideal S1x5632 .f32) (z0 z1 z2 : Vec Ideal S512x5632 .f32) (Z : Fin 520 → Fin 5632 → EReal)
    (hw0 : ∀ j, w0 (ix2 0 j) = x3 (ix2 0 j)) (hw1 : ∀ j, w1 (ix2 0 j) = x3 (ix2 1 j)) (hw2 : ∀ j, w2 (ix2 0 j) = x3 (ix2 2 j))
    (h0 : ∀ r : Fin 512, ∀ j, z0 (ix2 r j) = Z ⟨6 + r.val, by omega⟩ j)
    (h1 : ∀ r : Fin 512, ∀ j, z1 (ix2 r j) = Z ⟨7 + r.val, by omega⟩ j)
    (h2 : ∀ r : Fin 512, ∀ j, z2 (ix2 r j) = Z ⟨8 + r.val, by omega⟩ j) (r : Fin 512) (k : Fin 1024) :
    k0_pay1 (k0_pay8 (k0_pay3 x0) (k0_pay5 x4) (k0_pay6 w0 z0) w1 z1 w2 z2 x5) (k0_pay9 x6)
      (k0_pay10 (k0_pay3 x0) (k0_pay5 x4) (k0_pay6 w0 z0) w1 z1 w2 z2 x5) (ix3 0 r k)
      = blk x0 x3 x4 x5 x6 Z r k := by
  have e8 : ∀ k, k0_pay8 (k0_pay3 x0) (k0_pay5 x4) (k0_pay6 w0 z0) w1 z1 w2 z2 x5 (ix2 r k)
      = res (fun k => x0 (ix3 0 r k)) (conv (fun a j => x3 (ix2 a j)) (fun j => x4 (ix2 0 j))
          (Z ⟨6 + r.val, by omega⟩) (Z ⟨7 + r.val, by omega⟩) (Z ⟨8 + r.val, by omega⟩)) (fun d k => x5 (ix2 d k)) k := by
    intro k
    pointwise [k0_pay8, k0_pay3, k0_pay5, k0_pay6]
    simp only [hw0, hw1, hw2, h0, h1, h2]
    rfl
  pointwise [k0_pay1, k0_pay9, k0_pay10]
  simp only [e8]
  rfl

/-- A row the block's own store holds. -/
theorem ext_own (x0 : Vec Ideal S1x512x1024 .f32) (x1 : Vec Ideal S1x1024 .f32) (x2 : Vec Ideal S1024x5632 .bf16)
    (H : Fin 8 → Fin 5632 → EReal) (inb) (L) (i : Fin 520) (j : Fin 5632) (hi : 8 ≤ i.val) :
    View.canon ((⟨Rect.unit (s := S520x5632) ![8, 0] ![512, 5632] inb, k0_pay4 x0 x1 x2⟩ : View.Piece (Elt Ideal) S520x5632 .f32) :: L) (ix2 i j)
      = ext x0 x1 x2 H i j := by
  rw [Cert.Rows.canon2_hit (Val := Elt Ideal) inb _ L i j ⟨hi, by omega⟩ ⟨by omega, by omega⟩, pay4_apply, ext, dif_neg (by omega)]
  rfl

/-- The buffer of widened rows at the start of a sequence. -/
theorem ext_A (x0 : Vec Ideal S1x512x1024 .f32) (x1 : Vec Ideal S1x1024 .f32) (x2 : Vec Ideal S1024x5632 .bf16)
    (inb inb') (i : Fin 520) (j : Fin 5632) :
    View.canon [(⟨Rect.unit (s := S520x5632) ![8, 0] ![512, 5632] inb, k0_pay4 x0 x1 x2⟩ : View.Piece (Elt Ideal) S520x5632 .f32),
        ⟨Rect.unit (s := S520x5632) ![0, 0] ![8, 5632] inb', k0_pay2 (F := Ideal)⟩] (ix2 i j)
      = ext x0 x1 x2 (fun _ _ => 0) i j := by
  by_cases hi : 8 ≤ i.val
  · exact ext_own x0 x1 x2 _ inb _ i j hi
  · rw [Cert.Rows.canon2_miss_row (Val := Elt Ideal) inb _ _ i j (.inl (by omega)),
      Cert.Rows.canon2_hit (Val := Elt Ideal) inb' _ _ i j ⟨by omega, by omega⟩ ⟨by omega, by omega⟩, ext, dif_pos (by omega)]
    pointwise [k0_pay2]

/-- The buffer of widened rows within a sequence. -/
theorem ext_B (x0 : Vec Ideal S1x512x1024 .f32) (x1 : Vec Ideal S1x1024 .f32) (x2 : Vec Ideal S1024x5632 .bf16)
    (arg10 : Memref sig .tc .vmem S520x5632 .f32) (harg10 : arg10.IsWhole) (xs0 : Vec Ideal S520x5632 .f32) (inb) (i : Fin 520) (j : Fin 5632) :
    arg10.view.read (Elt Ideal) (arg10.view.writes (Elt Ideal) (harg10.unread xs0)
        [(⟨Rect.unit (s := S520x5632) ![8, 0] ![512, 5632] inb, k0_pay4 x0 x1 x2⟩ : View.Piece (Elt Ideal) S520x5632 .f32)]) (ix2 i j)
      = ext x0 x1 x2 (fun a j => xs0 (ix2 ⟨a.val, by omega⟩ j)) i j := by
  by_cases hi : 8 ≤ i.val
  · rw [Cert.Rows.read2_hit (Val := Elt Ideal) arg10.view _ inb _ _ i j ⟨hi, by omega⟩ ⟨by omega, by omega⟩, pay4_apply, ext, dif_neg (by omega)]
    rfl
  · rw [Cert.Rows.read2_miss_row (Val := Elt Ideal) arg10.view _ inb _ _ i j (.inl (by omega)), View.writes_nil, harg10.read_unread, ext,
      dif_pos (by omega)]

/-- The rows a step carries on: the last eight of its own. -/
theorem carry (x0 : Vec Ideal S1x512x1024 .f32) (x1 : Vec Ideal S1x1024 .f32) (x2 : Vec Ideal S1024x5632 .bf16)
    (H : Fin 8 → Fin 5632 → EReal) (inb) (v : Vec Ideal S8x5632 .f32) (L)
    (hv : ∀ a : Fin 8, ∀ j, v (ix2 a j) = ext x0 x1 x2 H ⟨512 + a.val, by omega⟩ j) (a : Fin 8) (j : Fin 5632) :
    View.canon ((⟨Rect.unit (s := S520x5632) ![0, 0] ![8, 5632] inb, k0_pay7 v⟩ : View.Piece (Elt Ideal) S520x5632 .f32) :: L) (ix2 ⟨a.val, by omega⟩ j)
      = up (fun k => x0 (ix3 0 ⟨504 + a.val, by omega⟩ k)) (fun k => x1 (ix2 0 k)) (fun k j => x2 (ix2 k j)) j := by
  rw [Cert.Rows.canon2_hit (Val := Elt Ideal) inb _ L ⟨a.val, by omega⟩ j ⟨by omega, by show a.val < 0 + 8; omega⟩ ⟨by omega, by omega⟩]
  have e : ∀ (a' : Fin 8) (j' : Fin 5632), k0_pay7 v (ix2 a' j') = v (ix2 a' j') := by
    intro a' j'
    pointwise [k0_pay7]
  refine (e a j).trans ?_
  rw [hv, ext, dif_neg (by show ¬(512 + a.val < 8); omega)]
  have e8 : (⟨512 + a.val - 8, by omega⟩ : Fin 512) = ⟨504 + a.val, by omega⟩ := Fin.ext (by show 512 + a.val - 8 = 504 + a.val; omega)
  exact congrArg (fun q : Fin 512 => up (fun k => x0 (ix3 0 q k)) (fun k => x1 (ix2 0 k)) (fun k j => x2 (ix2 k j)) j) e8

set_option maxHeartbeats 1000000 in
/-- The result block of a step at the start of a sequence. -/
theorem out_A (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S520x5632 .f32) (harg10 : arg10.IsWhole) (hc0 : cond0_0 i)
    (x0 : Vec Ideal S1x512x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x1024 .f32) (r : Fin 512) (k : Fin 1024) :
    out0_A_7 c i arg2 harg2 arg3 harg3 arg4 harg4 arg5 harg5 arg6 harg6 arg7 harg7 arg8 harg8 arg9 harg9 arg10 harg10 hc0 x0 x1 x2 x3 x4 x5 x6 (ix3 0 r k) = blk x0 x3 x4 x5 x6 (ext x0 x1 x2 (fun _ _ => 0)) r k := by
  unfold out0_A_7
  rw [View.read_writes_eq_canon _ _ _ (cover0_A_7 c i arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  simp only [View.readAt_eq_ld, harg2.read_unread, harg3.read_unread, harg4.read_unread, harg5.read_unread, harg6.read_unread, harg7.read_unread, harg8.read_unread]
  simp only [Cert.Rows.ld_whole2, Cert.Rows.ld_whole3]
  rw [Cert.Rows.canon_whole3]
  refine tail_apply _ _ _ _ _ _ _ _ _ _ _ _ ?_ ?_ ?_ ?_ ?_ ?_ r k
  · intro j; rw [Cert.Rows.ld2]; pointwise
  · intro j; rw [Cert.Rows.ld2]; pointwise
  · intro j; rw [Cert.Rows.ld2]; pointwise
  · intro r j; rw [Cert.Rows.readCov2, ext_A]; congr 1; exact Fin.ext (Nat.zero_add _)
  · intro r j; rw [Cert.Rows.readCov2, ext_A]; congr 1; exact Fin.ext (Nat.zero_add _)
  · intro r j; rw [Cert.Rows.readCov2, ext_A]; congr 1; exact Fin.ext (Nat.zero_add _)

set_option maxHeartbeats 1000000 in
/-- The carried rows after a step at the start of a sequence. -/
theorem sout_A (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S520x5632 .f32) (harg10 : arg10.IsWhole) (hc0 : cond0_0 i)
    (x0 : Vec Ideal S1x512x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x1024 .f32) (a : Fin 8) (j : Fin 5632) :
    sout0_A_0 c i arg2 harg2 arg3 harg3 arg4 harg4 arg5 harg5 arg6 harg6 arg7 harg7 arg8 harg8 arg9 harg9 arg10 harg10 hc0 x0 x1 x2 x3 x4 x5 x6 (ix2 ⟨a.val, by omega⟩ j)
      = up (fun k => x0 (ix3 0 ⟨504 + a.val, by omega⟩ k)) (fun k => x1 (ix2 0 k)) (fun k j => x2 (ix2 k j)) j := by
  unfold sout0_A_0
  rw [View.read_writes_eq_canon _ _ _ (scover0_A_0 c i arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  simp only [View.readAt_eq_ld, harg2.read_unread, harg3.read_unread, harg4.read_unread, harg5.read_unread, harg6.read_unread, harg7.read_unread, harg8.read_unread]
  simp only [Cert.Rows.ld_whole2, Cert.Rows.ld_whole3]
  refine carry x0 x1 x2 (fun _ _ => 0) _ _ _ ?_ a j
  intro a j
  rw [Cert.Rows.readCov2, ext_own _ _ _ (fun _ _ => 0) _ _ _ _ (by show 8 ≤ 512 + a.val; omega)]
  congr 1
  exact Fin.ext (Nat.zero_add _)

set_option maxHeartbeats 1000000 in
/-- The result block of a step within a sequence. -/
theorem out_B (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S520x5632 .f32) (harg10 : arg10.IsWhole) (hc0 : ¬cond0_0 i)
    (x0 : Vec Ideal S1x512x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x1024 .f32) (xs0 : Vec Ideal S520x5632 .f32) (r : Fin 512) (k : Fin 1024) :
    out0_B_7 c i arg2 harg2 arg3 harg3 arg4 harg4 arg5 harg5 arg6 harg6 arg7 harg7 arg8 harg8 arg9 harg9 arg10 harg10 hc0 x0 x1 x2 x3 x4 x5 x6 xs0 (ix3 0 r k) = blk x0 x3 x4 x5 x6 (ext x0 x1 x2 (fun a j => xs0 (ix2 ⟨a.val, by omega⟩ j))) r k := by
  unfold out0_B_7
  rw [View.read_writes_eq_canon _ _ _ (cover0_B_7 c i arg2 harg2 arg3 harg3 arg4 harg4 arg5 harg5 arg6 harg6 arg7 harg7 arg8 harg8 arg9 harg9 arg10 harg10 hc0 x0 x1 x2 x3 x4 x5 x6 xs0)]
  unfold kernelRun0_B
  dsimp only
  sl_unfold_words
  simp only [View.readAt_eq_ld, harg2.read_unread, harg3.read_unread, harg4.read_unread, harg5.read_unread, harg6.read_unread, harg7.read_unread, harg8.read_unread, harg10.read_unread]
  simp only [Cert.Rows.ld_whole2, Cert.Rows.ld_whole3]
  rw [Cert.Rows.canon_whole3]
  refine tail_apply _ _ _ _ _ _ _ _ _ _ _ _ ?_ ?_ ?_ ?_ ?_ ?_ r k
  · intro j; rw [Cert.Rows.ld2]; pointwise
  · intro j; rw [Cert.Rows.ld2]; pointwise
  · intro j; rw [Cert.Rows.ld2]; pointwise
  · intro r j; rw [Cert.Rows.ld2, ext_B]; congr 1; exact Fin.ext (Nat.zero_add _)
  · intro r j; rw [Cert.Rows.ld2, ext_B]; congr 1; exact Fin.ext (Nat.zero_add _)
  · intro r j; rw [Cert.Rows.readCov2, ext_own _ _ _ (fun a j => xs0 (ix2 ⟨a.val, by omega⟩ j)) _ _ _ _ (by show 8 ≤ 8 + r.val; omega)]; congr 1; exact Fin.ext (Nat.zero_add _)

set_option maxHeartbeats 1000000 in
/-- The carried rows after a step within a sequence. -/
theorem sout_B (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x5632 .bf16) (harg4 : arg4.IsWhole) (arg5 : Memref sig .tc .vmem S3x5632 .f32) (harg5 : arg5.IsWhole) (arg6 : Memref sig .tc .vmem S1x5632 .f32) (harg6 : arg6.IsWhole) (arg7 : Memref sig .tc .vmem S2816x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S520x5632 .f32) (harg10 : arg10.IsWhole) (hc0 : ¬cond0_0 i)
    (x0 : Vec Ideal S1x512x1024 .f32) (x1 : Vec Ideal S1x1024 .f32) (x2 : Vec Ideal S1024x5632 .bf16) (x3 : Vec Ideal S3x5632 .f32) (x4 : Vec Ideal S1x5632 .f32) (x5 : Vec Ideal S2816x1024 .bf16) (x6 : Vec Ideal S1x1024 .f32) (xs0 : Vec Ideal S520x5632 .f32) (a : Fin 8) (j : Fin 5632) :
    sout0_B_0 c i arg2 harg2 arg3 harg3 arg4 harg4 arg5 harg5 arg6 harg6 arg7 harg7 arg8 harg8 arg9 harg9 arg10 harg10 hc0 x0 x1 x2 x3 x4 x5 x6 xs0 (ix2 ⟨a.val, by omega⟩ j)
      = up (fun k => x0 (ix3 0 ⟨504 + a.val, by omega⟩ k)) (fun k => x1 (ix2 0 k)) (fun k j => x2 (ix2 k j)) j := by
  unfold sout0_B_0
  rw [View.read_writes_eq_canon _ _ _ (scover0_B_0 c i arg2 harg2 arg3 harg3 arg4 harg4 arg5 harg5 arg6 harg6 arg7 harg7 arg8 harg8 arg9 harg9 arg10 harg10 hc0 x0 x1 x2 x3 x4 x5 x6 xs0)]
  unfold kernelRun0_B
  dsimp only
  sl_unfold_words
  simp only [View.readAt_eq_ld, harg2.read_unread, harg3.read_unread, harg4.read_unread, harg5.read_unread, harg6.read_unread, harg7.read_unread, harg8.read_unread, harg10.read_unread]
  simp only [Cert.Rows.ld_whole2, Cert.Rows.ld_whole3]
  refine carry x0 x1 x2 (fun _ _ => 0) _ _ _ ?_ a j
  intro a j
  rw [Cert.Rows.readCov2, ext_own _ _ _ (fun _ _ => 0) _ _ _ _ (by show 8 ≤ 512 + a.val; omega)]
  congr 1
  exact Fin.ext (Nat.zero_add _)

end Cert.Kernel2Ideal.Ffn
end
-- ==== Proof.FfnValue.lean ====
module

public import proofs.«01_k».proof.Proof.FfnBlock
public import Idealize.ShloMosaic.Lib.Pipeline.ValueKit
public import Idealize.ShloMosaic.Lib.Claim

@[expose] public section

set_option maxRecDepth 16384

noncomputable section

/-! The feed-forward kernel's result array, element by element. -/

namespace Cert.Kernel2Ideal.Ffn

open Cert.Kernel2Ideal Cert.Kernel2Ideal.Gen Cert.FfnSpec Idealize.ShloMosaic Idealize.ShloMosaic.TcCoe Idealize.ShloMosaic.Tactic

variable (m : (ℓ : Loc nD τ sig) → Buf (Elt Ideal) ℓ)

/-- The block the first window reads at a point. -/
theorem idx0 : ∀ t : Fin cfg0.N, (cfg0.win 0).index t (0 : Fin 3) = t.val / 16 ∧ (cfg0.win 0).index t (1 : Fin 3) = t.val % 16
    ∧ (cfg0.win 0).index t (2 : Fin 3) = 0 :=
  (by decide +kernel : ∀ t : Fin grid0.N, _)

theorem blk0 (c : Dev nD) (t : Fin cfg0.N) (b : Fin 2) (hb : b.val = t.val / 16) (r : Fin 512) (q : Fin 8192) (hq : q.val = 512 * (t.val % 16) + r.val) (k : Fin 1024) :
    (iblk m c 0 t : Vec Ideal S1x512x1024 .f32) (ix3 0 r k) = (m ((c : Thread nD τ).loc main_arg0) : Vec Ideal S2x8192x1024 .f32) (ix3 b q k) := by
  obtain ⟨h0, h1, h2⟩ := idx0 t
  blk_ext [iblk, V, h0, h1, h2]

theorem blk1 (c : Dev nD) (t : Fin cfg0.N) (k : Fin 1024) :
    (iblk m c 1 t : Vec Ideal S1x1024 .f32) (ix2 0 k) = (m ((c : Thread nD τ).loc main_arg1) : Vec Ideal S1x1024 .f32) (ix2 0 k) := by
  have h : ∀ t : Fin cfg0.N, (cfg0.win 1).index t (0 : Fin 2) = 0 ∧ (cfg0.win 1).index t (1 : Fin 2) = 0 :=
    (by decide +kernel : ∀ t : Fin grid0.N, _)
  obtain ⟨h0, h1⟩ := h t
  blk_ext! [iblk, h0, h1]

theorem blk2 (c : Dev nD) (t : Fin cfg0.N) (k : Fin 1024) (j : Fin 5632) :
    (iblk m c 2 t : Vec Ideal S1024x5632 .bf16) (ix2 k j) = (m ((c : Thread nD τ).loc main_arg2) : Vec Ideal S1x1024x5632 .f32) (ix3 0 k j) := by
  have h : ∀ t : Fin cfg0.N, (cfg0.win 2).index t (0 : Fin 2) = 0 ∧ (cfg0.win 2).index t (1 : Fin 2) = 0 :=
    (by decide +kernel : ∀ t : Fin grid0.N, _)
  obtain ⟨h0, h1⟩ := h t
  blk_ext! [iblk, h0, h1]

theorem blk3 (c : Dev nD) (t : Fin cfg0.N) (a : Fin 3) (j : Fin 5632) :
    (iblk m c 3 t : Vec Ideal S3x5632 .f32) (ix2 a j) = (m ((c : Thread nD τ).loc main_arg3) : Vec Ideal S1x3x5632 .f32) (ix3 0 a j) := by
  have h : ∀ t : Fin cfg0.N, (cfg0.win 3).index t (0 : Fin 2) = 0 ∧ (cfg0.win 3).index t (1 : Fin 2) = 0 :=
    (by decide +kernel : ∀ t : Fin grid0.N, _)
  obtain ⟨h0, h1⟩ := h t
  blk_ext! [iblk, h0, h1]

theorem blk4 (c : Dev nD) (t : Fin cfg0.N) (j : Fin 5632) :
    (iblk m c 4 t : Vec Ideal S1x5632 .f32) (ix2 0 j) = (m ((c : Thread nD τ).loc main_arg4) : Vec Ideal S1x5632 .f32) (ix2 0 j) := by
  have h : ∀ t : Fin cfg0.N, (cfg0.win 4).index t (0 : Fin 2) = 0 ∧ (cfg0.win 4).index t (1 : Fin 2) = 0 :=
    (by decide +kernel : ∀ t : Fin grid0.N, _)
  obtain ⟨h0, h1⟩ := h t
  blk_ext! [iblk, h0, h1]

theorem blk5 (c : Dev nD) (t : Fin cfg0.N) (d : Fin 2816) (k : Fin 1024) :
    (iblk m c 5 t : Vec Ideal S2816x1024 .bf16) (ix2 d k) = (m ((c : Thread nD τ).loc main_arg5) : Vec Ideal S1x2816x1024 .f32) (ix3 0 d k) := by
  have h : ∀ t : Fin cfg0.N, (cfg0.win 5).index t (0 : Fin 2) = 0 ∧ (cfg0.win 5).index t (1 : Fin 2) = 0 :=
    (by decide +kernel : ∀ t : Fin grid0.N, _)
  obtain ⟨h0, h1⟩ := h t
  blk_ext! [iblk, h0, h1]

theorem blk6 (c : Dev nD) (t : Fin cfg0.N) (k : Fin 1024) :
    (iblk m c 6 t : Vec Ideal S1x1024 .f32) (ix2 0 k) = (m ((c : Thread nD τ).loc main_arg6) : Vec Ideal S1024 .f32) (ix1 k) := by
  have h : ∀ t : Fin cfg0.N, (cfg0.win 6).index t (0 : Fin 2) = 0 ∧ (cfg0.win 6).index t (1 : Fin 2) = 0 :=
    (by decide +kernel : ∀ t : Fin grid0.N, _)
  obtain ⟨h0, h1⟩ := h t
  blk_ext! [iblk, h0, h1]

/-- Token `s` of sequence `b`, zero past the end. -/
def Xs (c : Dev nD) (b : Fin 2) (s : ℕ) (k : Fin 1024) : EReal :=
  if h : s < 8192 then (m ((c : Thread nD τ).loc main_arg0) : Vec Ideal S2x8192x1024 .f32) (ix3 b ⟨s, h⟩ k) else 0
/-- The gain of the first normalisation. -/
def gU (c : Dev nD) (k : Fin 1024) : EReal := (m ((c : Thread nD τ).loc main_arg1) : Vec Ideal S1x1024 .f32) (ix2 0 k)
/-- The widening matrix. -/
def wU (c : Dev nD) (k : Fin 1024) (j : Fin 5632) : EReal := (m ((c : Thread nD τ).loc main_arg2) : Vec Ideal S1x1024x5632 .f32) (ix3 0 k j)
/-- The convolution's taps. -/
def wC (c : Dev nD) (a : Fin 3) (j : Fin 5632) : EReal := (m ((c : Thread nD τ).loc main_arg3) : Vec Ideal S1x3x5632 .f32) (ix3 0 a j)
/-- The convolution's bias. -/
def bC (c : Dev nD) (j : Fin 5632) : EReal := (m ((c : Thread nD τ).loc main_arg4) : Vec Ideal S1x5632 .f32) (ix2 0 j)
/-- The narrowing matrix. -/
def wD (c : Dev nD) (d : Fin 2816) (k : Fin 1024) : EReal := (m ((c : Thread nD τ).loc main_arg5) : Vec Ideal S1x2816x1024 .f32) (ix3 0 d k)
/-- The gain of the last normalisation. -/
def gF (c : Dev nD) (k : Fin 1024) : EReal := (m ((c : Thread nD τ).loc main_arg6) : Vec Ideal S1024 .f32) (ix1 k)

/-- The block of tokens a point reads. -/
theorem blk0_row (c : Dev nD) (t : Fin cfg0.N) (b : Fin 2) (hb : b.val = t.val / 16) (r : Fin 512) :
    (fun k => (iblk m c 0 t : Vec Ideal S1x512x1024 .f32) (ix3 0 r k)) = Xs m c b (512 * (t.val % 16) + r.val) := by
  funext k
  have hq : 512 * (t.val % 16) + r.val < 8192 := by omega
  rw [Xs, dif_pos hq]
  exact blk0 m c t b hb r ⟨_, hq⟩ rfl k

/-- The widened rows of a block are those of its tokens. -/
theorem up_blk (c : Dev nD) (t : Fin cfg0.N) (b : Fin 2) (hb : b.val = t.val / 16) (r : Fin 512) (j : Fin 5632) :
    up (fun k => (iblk m c 0 t : Vec Ideal S1x512x1024 .f32) (ix3 0 r k)) (fun k => (iblk m c 1 t : Vec Ideal S1x1024 .f32) (ix2 0 k))
        (fun k j => (iblk m c 2 t : Vec Ideal S1024x5632 .bf16) (ix2 k j)) j
      = up (Xs m c b (512 * (t.val % 16) + r.val)) (gU m c) (wU m c) j := by
  rw [blk0_row m c t b hb r, show (fun k => (iblk m c 1 t : Vec Ideal S1x1024 .f32) (ix2 0 k)) = gU m c from funext fun k => blk1 m c t k,
    show (fun k j => (iblk m c 2 t : Vec Ideal S1024x5632 .bf16) (ix2 k j)) = wU m c from funext fun k => funext fun j => blk2 m c t k j]

/-- The carried rows after a point. -/
theorem carried (c : Dev nD) (t : Fin cfg0.N) (b : Fin 2) (hb : b.val = t.val / 16) (acc) (a : Fin 8) (j : Fin 5632) :
    (Value.stAt0 m c t.val t.isLt acc).2 (ix2 ⟨a.val, by omega⟩ j) = up (Xs m c b (512 * (t.val % 16) + (504 + a.val))) (gU m c) (wU m c) j := by
  by_cases h0 : t.val % 16 = 0
  · rw [Value.stAt0_A m c t acc h0]
    dsimp only
    exact (sout_A c _ _ _ _ _ _ _ _ _ _ _ _ _ _ _ _ _ _ _ _ _ _ _ _ _ _ _ a j).trans (up_blk m c t b hb ⟨504 + a.val, by omega⟩ j)
  · rw [Value.stAt0_B m c t acc h0]
    dsimp only
    exact (sout_B c _ _ _ _ _ _ _ _ _ _ _ _ _ _ _ _ _ _ _ _ _ _ _ _ _ _ _ _ a j).trans (up_blk m c t b hb ⟨504 + a.val, by omega⟩ j)

/-- The result block of a point, given the carried rows are those of the tokens just before it. -/
theorem blk_layer (c : Dev nD) (t : Fin cfg0.N) (b : Fin 2) (hb : b.val = t.val / 16) (H : Fin 8 → Fin 5632 → EReal)
    (hH : ∀ a : Fin 8, ∀ j, 6 ≤ a.val → H a j = back (Xs m c b) (gU m c) (wU m c) (512 * (t.val % 16)) (8 - a.val) j)
    (r : Fin 512) (k : Fin 1024) :
    blk (iblk m c 0 t) (iblk m c 3 t) (iblk m c 4 t) (iblk m c 5 t) (iblk m c 6 t) (ext (iblk m c 0 t) (iblk m c 1 t) (iblk m c 2 t) H) r k
      = layer (Xs m c b) (gU m c) (wU m c) (wC m c) (bC m c) (wD m c) (gF m c) (512 * (t.val % 16) + r.val) k := by
  have hZ : ∀ d : ℕ, ∀ hd : d ≤ 2, ext (iblk m c 0 t) (iblk m c 1 t) (iblk m c 2 t) H ⟨8 - d + r.val, by omega⟩
      = back (Xs m c b) (gU m c) (wU m c) (512 * (t.val % 16) + r.val) d := by
    intro d hd
    funext j
    unfold ext
    split_ifs with h
    · rw [hH _ _ (by show 6 ≤ 8 - d + r.val; omega)]
      have h' : 8 - d + r.val < 8 := h
      unfold back
      show (if 8 - (8 - d + r.val) ≤ _ then _ else _) = _
      have e : 512 * (t.val % 16) - (8 - (8 - d + r.val)) = 512 * (t.val % 16) + r.val - d := by omega
      by_cases hc : d ≤ 512 * (t.val % 16) + r.val
      · rw [if_pos (by omega), if_pos hc, e]
      · rw [if_neg (by omega), if_neg hc]
    · have h' : ¬(8 - d + r.val < 8) := h
      rw [up_blk m c t b hb, back, if_pos (by omega)]
      congr 2
      show 512 * (t.val % 16) + (8 - d + r.val - 8) = _
      omega
  unfold blk layer
  rw [show (⟨6 + r.val, by omega⟩ : Fin 520) = ⟨8 - 2 + r.val, by omega⟩ from rfl, hZ 2 (by omega),
    show (⟨7 + r.val, by omega⟩ : Fin 520) = ⟨8 - 1 + r.val, by omega⟩ from rfl, hZ 1 (by omega),
    show (⟨8 + r.val, by omega⟩ : Fin 520) = ⟨8 - 0 + r.val, by omega⟩ from rfl, hZ 0 (by omega),
    blk0_row m c t b hb r,
    show (fun a j => (iblk m c 3 t : Vec Ideal S3x5632 .f32) (ix2 a j)) = wC m c from funext fun a => funext fun j => blk3 m c t a j,
    show (fun j => (iblk m c 4 t : Vec Ideal S1x5632 .f32) (ix2 0 j)) = bC m c from funext fun j => blk4 m c t j,
    show (fun d k => (iblk m c 5 t : Vec Ideal S2816x1024 .bf16) (ix2 d k)) = wD m c from funext fun d => funext fun k => blk5 m c t d k,
    show (fun k => (iblk m c 6 t : Vec Ideal S1x1024 .f32) (ix2 0 k)) = gF m c from funext fun k => blk6 m c t k]

/-- The result block of a point. -/
theorem outs_layer (c : Dev nD) (n : ℕ) (hn : n < cfg0.N) (b : Fin 2) (hb : b.val = n / 16) (r : Fin 512) (k : Fin 1024) :
    (outsAt0 m c n hn).1 (ix3 0 r k)
      = layer (Xs m c b) (gU m c) (wU m c) (wC m c) (bC m c) (wD m c) (gF m c) (512 * (n % 16) + r.val) k := by
  by_cases h0 : n % 16 = 0
  · rw [outsAt0_A m c ⟨n, hn⟩ h0]
    dsimp only
    refine (out_A c _ _ _ _ _ _ _ _ _ _ _ _ _ _ _ _ _ _ _ _ _ _ _ _ _ _ _ r k).trans (blk_layer m c ⟨n, hn⟩ b hb _ ?_ r k)
    intro a j ha
    rw [back, if_neg]
    show ¬(8 - a.val ≤ 512 * (n % 16))
    omega
  · obtain ⟨n', rfl⟩ : ∃ n', n = n' + 1 := ⟨n - 1, by omega⟩
    rw [Value.outsAt0_succ m c n' hn, Value.stAt0_B m c ⟨n' + 1, hn⟩ _ h0]
    dsimp only
    refine (out_B c _ _ _ _ _ _ _ _ _ _ _ _ _ _ _ _ _ _ _ _ _ _ _ _ _ _ _ _ r k).trans (blk_layer m c ⟨n' + 1, hn⟩ b hb _ ?_ r k)
    intro a j ha
    have hn' : n' < cfg0.N := Nat.lt_of_succ_lt hn
    have e : ∃ acc, outsAt0 m c n' hn' = Value.stAt0 m c n' hn' acc := by
      rcases n' with _ | n''
      · exact ⟨_, Value.outsAt0_zero m c hn'⟩
      · exact ⟨_, Value.outsAt0_succ m c n'' hn'⟩
    obtain ⟨acc, e⟩ := e
    rw [e, carried m c ⟨n', hn'⟩ b (by show b.val = n' / 16; omega) acc a j, back, if_pos (by show 8 - a.val ≤ 512 * ((n' + 1) % 16); omega)]
    congr 2
    show 512 * (n' % 16) + (504 + a.val) = 512 * ((n' + 1) % 16) - (8 - a.val)
    omega

/-- The result array, element by element. -/
theorem G7_apply (c : Dev nD) (b : Fin 2) (s : Fin 8192) (k : Fin 1024) :
    (Value.G7 m c : Vec Ideal S2x8192x1024 .f32) (ix3 b s k)
      = layer (Xs m c b) (gU m c) (wU m c) (wC m c) (bC m c) (wD m c) (gF m c) s.val k := by
  have hN : cfg0.N = 32 := N_0
  have hp : Value.pt7Of (ix3 b s k) = 16 * b.val + s.val / 512 := by
    show 16 * (b.val / 1 - 0) + 1 * (s.val / 512 - 0) + 1 * (k.val / 1024 - 0) = _
    omega
  have hlt : Value.pt7Of (ix3 b s k) < cfg0.N := by rw [hp, hN]; omega
  have hl : Value.loc7Of (ix3 b s k) = ix3 0 ⟨s.val % 512, by omega⟩ k := by
    funext a
    apply Fin.ext
    match a with
    | ⟨0, _⟩ => show b.val % 1 = 0; omega
    | ⟨1, _⟩ => rfl
    | ⟨2, _⟩ => show k.val % 1024 = k.val; omega
  unfold Value.G7
  rw [dif_pos hlt, ← Value.outsAt0_sweep m c _ hlt, hl, outs_layer m c _ hlt b (by rw [hp]; omega)]
  congr 1
  rw [hp]
  show 512 * ((16 * b.val + s.val / 512) % 16) + s.val % 512 = s.val
  omega

end Cert.Kernel2Ideal.Ffn
end
-- ==== Proof.FfnRef.lean ====
module

public import proofs.«01_k».proof.Proof.Gen.Reference2Ideal.Read
public import proofs.«01_k».proof.Proof.FfnSpec

@[expose] public section

set_option maxRecDepth 16384

noncomputable section

/-! The feed-forward reference's result, element by element. -/

namespace Cert.Reference2Ideal.Ffn

open Cert.Reference2Ideal Cert.Reference2Ideal.Gen Cert.Reference2Ideal.Read Cert.FfnSpec Idealize.ShloMosaic Idealize.ShloMosaic.TcCoe

variable (x0 : (⟨S2x8192x1024, .f32⟩ : BufTy).Contents (Elt Ideal)) (x1 : (⟨S1x1024, .f32⟩ : BufTy).Contents (Elt Ideal)) (x2 : (⟨S1x1024x5632, .f32⟩ : BufTy).Contents (Elt Ideal)) (x3 : (⟨S1x3x5632, .f32⟩ : BufTy).Contents (Elt Ideal)) (x4 : (⟨S1x5632, .f32⟩ : BufTy).Contents (Elt Ideal)) (x5 : (⟨S1x2816x1024, .f32⟩ : BufTy).Contents (Elt Ideal)) (x6 : (⟨S1024, .f32⟩ : BufTy).Contents (Elt Ideal))

/-- Token `s` of sequence `b`, zero past the end. -/
def Xs (b : Fin 2) (s : ℕ) (k : Fin 1024) : EReal :=
  if h : s < 8192 then x0 (ix3 b ⟨s, h⟩ k) else 0

theorem Xs_row (b : Fin 2) (s : Fin 8192) : (fun k => x0 (ix3 b s k)) = Xs x0 b s.val := by
  funext k
  rw [Xs, dif_pos s.isLt]

/-- The widened rows. -/
theorem v15_apply (b : Fin 2) (s : Fin 8192) (j : Fin 5632) :
    val_main_v15 (F := Ideal) x0 x1 x2 (ix3 b s j) = up (Xs x0 b s.val) (fun k => x1 (ix2 0 k)) (fun k j => x2 (ix3 0 k j)) j := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_v14, val_main_v15]
  rw [← Xs_row]
  rfl

/-- The widened rows behind two rows of zeros. -/
theorem v18_apply (b : Fin 2) (i : Fin 8194) (j : Fin 5632) :
    val_main_v18 (F := Ideal) x0 x1 x2 (ix3 b i j)
      = if h : 2 ≤ i.val then up (Xs x0 b (i.val - 2)) (fun k => x1 (ix2 0 k)) (fun k j => x2 (ix3 0 k j)) j else 0 := by
  pointwise [val_main_v18, val_main_call0_v0, val_main_c]
  have hz : (FloatOps.sitofp (F := Ideal) (w := 32) FTy.f32 0#32 : EReal) = 0 := by
    simp [FloatOps.sitofp]
  by_cases h : 2 ≤ i.val
  · rw [dif_pos ⟨h, by omega⟩, dif_pos h, v15_apply]
  · rw [dif_neg (fun h' => h h'.1), dif_neg h, hz]

/-- The convolved rows. -/
theorem v41_apply (b : Fin 2) (s : Fin 8192) (j : Fin 5632) :
    val_main_v41 (F := Ideal) x0 x1 x2 x3 x4 (ix3 b s j)
      = conv (fun a j => x3 (ix3 0 a j)) (fun j => x4 (ix2 0 j)) (back (Xs x0 b) (fun k => x1 (ix2 0 k)) (fun k j => x2 (ix3 0 k j)) s.val 2)
        (back (Xs x0 b) (fun k => x1 (ix2 0 k)) (fun k j => x2 (ix3 0 k j)) s.val 1)
        (back (Xs x0 b) (fun k => x1 (ix2 0 k)) (fun k j => x2 (ix3 0 k j)) s.val 0) j := by
  pointwise [val_main_v16, val_main_v17, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41]
  simp only [v18_apply]
  unfold conv back
  simp only [dite_eq_ite]
  rw [show (1 + s.val - 2) = s.val - 1 by omega, show 2 + s.val - 2 = s.val - 0 by omega]
  simp only [show (2 ≤ 1 + s.val) = (1 ≤ s.val) from propext ⟨fun _ => by omega, fun _ => by omega⟩,
    show (2 ≤ 2 + s.val) = (0 ≤ s.val) from propext ⟨fun _ => by omega, fun _ => by omega⟩]
  rw [add_comm, ← add_assoc, ← add_assoc]

/-- The rows before the last normalisation. -/
theorem v48_apply (b : Fin 2) (s : Fin 8192) (k : Fin 1024) :
    val_main_v48 (F := Ideal) x0 x1 x2 x3 x4 x5 (ix3 b s k)
      = res (Xs x0 b s.val) (fun j => val_main_v41 (F := Ideal) x0 x1 x2 x3 x4 (ix3 b s j)) (fun d k => x5 (ix3 0 d k)) k := by
  pointwise [val_main_v42, val_main_call1_v0, val_main_call1_v1, val_main_call1_cst, val_main_call1_v2, val_main_call1_v3, val_main_call1_cst_0, val_main_call1_v4, val_main_call1_v5, val_main_v43, val_main_v44, val_main_v45, val_main_v46, val_main_v47, val_main_v48]
  rw [← Xs_row]
  unfold res gate
  simp only [zero_sub]

/-- The result. -/
theorem v61_apply (b : Fin 2) (s : Fin 8192) (k : Fin 1024) :
    val_main_v61 (F := Ideal) x0 x1 x2 x3 x4 x5 x6 (ix3 b s k)
      = layer (Xs x0 b) (fun k => x1 (ix2 0 k)) (fun k j => x2 (ix3 0 k j)) (fun a j => x3 (ix3 0 a j)) (fun j => x4 (ix2 0 j))
        (fun d k => x5 (ix3 0 d k)) (fun k => x6 (ix1 k)) s.val k := by
  pointwise [val_main_v49, val_main_cst_2, val_main_v50, val_main_v51, val_main_cst_3, val_main_v52, val_main_v53, val_main_cst_4, val_main_v54, val_main_v55, val_main_v56, val_main_v57, val_main_v58, val_main_v59, val_main_v60, val_main_v61]
  simp only [v48_apply, v41_apply]
  rfl

end Cert.Reference2Ideal.Ffn
end
-- ==== Proof.FfnClaims.lean ====
/-
The channel mixer's claims: its reference leaves every argument and semaphore alone, and the kernel's result is the
reference's result at every index, since both are `FfnSpec.layer` of the same arguments.
-/
module

public import proofs.«01_k».proof.Defs
public import proofs.«01_k».proof.Proof.FfnValue
public import proofs.«01_k».proof.Proof.FfnRef
public import proofs.«01_k».proof.Proof.Gen.Reference2Ideal.Run
public import proofs.«01_k».proof.Proof.Gen.Reference2Ideal.Read
public import Idealize.ShloMosaic.Lib.Quiescent

@[expose] public section

noncomputable section

open Idealize.ShloMosaic Idealize.ShloMosaic.TcCoe Idealize.SL.Sem

namespace Cert.Proof.Ffn

/-- The reference ends with its arguments as they were and every semaphore at zero. -/
theorem frame_r : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- The kernel's result and the reference's are equal, as extended reals, at every index. -/
theorem algebraic : Cert.algebraic_Kernel2Ideal_Reference2Ideal := by
  intro m ρ m' ρ' _ hag
  refine ⟨fun c => Cert.Kernel2Ideal.Value.G7 m c, Cert.Kernel2Ideal.Value.run (F := Ideal) m ρ, ?_⟩
  refine (θ_run Cert.Reference2Ideal.defs _ _).mono (fun _ h c => ⟨((h c).1.trans
      (Cert.Reference2Ideal.Read.val_main_v61_eq m' c)).trans ?_, (h c).2⟩)
    (Cert.Reference2Ideal.Value.run (F := Ideal) m' ρ')
  obtain ⟨e0, e1, e2, e3, e4, e5, e6⟩ := hag c
  rw [e0, e1, e2, e3, e4, e5, e6]
  funext i
  obtain ⟨b, s, k, rfl⟩ : ∃ (b : Fin 2) (s : Fin 8192) (k : Fin 1024), i = ix3 b s k := ⟨i 0, i 1, i 2, by
    funext a; match a with | 0 => rfl | 1 => rfl | 2 => rfl⟩
  exact (Cert.Reference2Ideal.Ffn.v61_apply _ _ _ _ _ _ _ b s k).trans
    (Cert.Kernel2Ideal.Ffn.G7_apply m c b s k).symm

end Cert.Proof.Ffn

end
-- ==== Proof.MixSpec.lean ====
module

public import Idealize.ShloMosaic.Lib.Pointwise

@[expose] public section

noncomputable section

/-! The token mixer's mathematics on rows and on chunks of 64 rows, over the extended reals: the normalised input, the
gated convolution, the gated linear attention with its carried state, and the merged result. -/

namespace Cert.MixSpec

open Idealize.ShloMosaic

/-- The constant added before a reciprocal square root. -/
abbrev eps : EReal := Ideal.ofBits FTy.f32 897988541#32
/-- The width of a row, as the programs' constant. -/
abbrev width : EReal := Ideal.ofBits FTy.f32 1149239296#32
/-- The width of a head's value, as the programs' constant. -/
abbrev widthV : EReal := Ideal.ofBits FTy.f32 1132462080#32
/-- The queries' scale, as the programs' constant. -/
abbrev scale : EReal := Ideal.ofBits FTy.f32 1035273459#32
/-- One sixteenth, as the kernel's constant. -/
abbrev sixteenth : EReal := Ideal.ofBits FTy.f32 1031798784#32

/-- The logistic function. -/
def sg (x : EReal) : EReal := Ideal.div 1 (1 + Ideal.exp (0 - x))

/-- The mixer's parameters. The projection's columns stand in the order: gated unit, its gate, queries, keys, values,
    output gate, the two merge gates, the decay's 128 (of which 16 are the layer's own). -/
structure Wt where
  n1g : Fin 1024 → EReal
  wi : Fin 1024 → Fin 7296 → EReal
  cw : Fin 31 → Fin 1024 → EReal
  cb : Fin 1024 → EReal
  lng : Fin 1024 → EReal
  lnb : Fin 1024 → EReal
  wco : Fin 1024 → Fin 1024 → EReal
  wu : Fin 128 → Fin 512 → EReal
  bg : Fin 512 → EReal
  gng : Fin 256 → EReal
  wgo : Fin 1024 → Fin 1024 → EReal
  wo : Fin 1024 → Fin 1024 → EReal

variable (W : Wt)

/-- The normalised row. -/
def urow (x : Fin 1024 → EReal) (c : Fin 1024) : EReal :=
  x c * Ideal.rsqrt (Ideal.div (∑ k, x k * x k) width + eps) * W.n1g c

/-- Column `o + j` of the projection of a normalised row. -/
def prj (u : Fin 1024 → EReal) (o : ℕ) {n : ℕ} (h : o + n ≤ 7296) (j : Fin n) : EReal :=
  ∑ k, u k * W.wi k ⟨o + j.val, by omega⟩

/-- The gated unit. -/
def glu (u : Fin 1024 → EReal) (c : Fin 1024) : EReal :=
  prj W u 0 (by omega) c * sg (prj W u 1024 (by omega) c)

/-- The convolution's sum over its 31 taps, first tap first. -/
def taps (w : ℕ → EReal) (E : ℕ → EReal) : EReal :=
  w 0 * E 0 + w 1 * E 1 + w 2 * E 2 + w 3 * E 3 + w 4 * E 4 + w 5 * E 5 + w 6 * E 6 + w 7 * E 7 + w 8 * E 8 + w 9 * E 9 + w 10 * E 10 + w 11 * E 11 + w 12 * E 12 + w 13 * E 13 + w 14 * E 14 + w 15 * E 15 + w 16 * E 16 + w 17 * E 17 + w 18 * E 18 + w 19 * E 19 + w 20 * E 20 + w 21 * E 21 + w 22 * E 22 + w 23 * E 23 + w 24 * E 24 + w 25 * E 25 + w 26 * E 26 + w 27 * E 27 + w 28 * E 28 + w 29 * E 29 + w 30 * E 30

/-- A tap's weight. -/
def tap (c : Fin 1024) (j : ℕ) : EReal := if h : j < 31 then W.cw ⟨j, h⟩ c else 0

/-- A convolved value from the 31 gated units that end at its row. -/
def conv (E : ℕ → EReal) (c : Fin 1024) : EReal := taps (tap W c) E + W.cb c

/-- A convolved row less its mean. -/
def xc (a : Fin 1024 → EReal) (c : Fin 1024) : EReal := a c - Ideal.div (∑ k, a k) width

/-- The layer normalisation of a convolved row. -/
def ln (a : Fin 1024 → EReal) (c : Fin 1024) : EReal :=
  xc a c * Ideal.rsqrt (Ideal.div (∑ k, xc a k * xc a k) width + eps) * W.lng c + W.lnb c

/-- The decay gate's argument. -/
def gpre (u : Fin 1024 → EReal) (d : Fin 512) : EReal :=
  ∑ j : Fin 128, prj W u 7168 (by omega) j * W.wu j d + W.bg d

/-- The logarithm of the logistic function. -/
def lsg (x : EReal) : EReal := min x 0 - Ideal.log1p (Ideal.exp (0 - FloatOps.absf (F := Ideal) (φ := .f32) x))

/-- The decay gate. -/
def gk (u : Fin 1024 → EReal) (d : Fin 512) : EReal := lsg (gpre W u d) * sixteenth

/-- The running sum of a chunk's decay gates. -/
def csum (g : Fin 64 → Fin 512 → EReal) (i : Fin 64) (d : Fin 512) : EReal :=
  ∑ j : Fin 64, if j ≤ i then g j d else 0

/-- Column `d` of head `h` among the keys' columns. -/
def hk (h : Fin 4) (d : Fin 128) : Fin 512 := ⟨128 * h.val + d.val, by omega⟩
/-- Column `e` of head `h` among the values' columns. -/
def hv (h : Fin 4) (e : Fin 256) : Fin 1024 := ⟨256 * h.val + e.val, by omega⟩

/-- The decayed, scaled queries of a chunk. -/
def qd (B q : Fin 64 → Fin 512 → EReal) (i : Fin 64) (d : Fin 512) : EReal := q i d * scale * Ideal.exp (B i d)
/-- The keys of a chunk with the decay undone. -/
def ki (B k : Fin 64 → Fin 512 → EReal) (i : Fin 64) (d : Fin 512) : EReal := k i d * Ideal.exp (0 - B i d)
/-- The keys of a chunk decayed to its end. -/
def ke (B k : Fin 64 → Fin 512 → EReal) (i : Fin 64) (d : Fin 512) : EReal := k i d * Ideal.exp (B 63 d - B i d)
/-- The decay of a whole chunk. -/
def dec (B : Fin 64 → Fin 512 → EReal) (d : Fin 512) : EReal := Ideal.exp (B 63 d)

/-- The attention weights within a chunk. -/
def att (Q K : Fin 64 → Fin 512 → EReal) (h : Fin 4) (i j : Fin 64) : EReal :=
  if j ≤ i then ∑ d : Fin 128, Q i (hk h d) * K j (hk h d) else 0
/-- A chunk's contribution to the state. -/
def kv (V : Fin 64 → Fin 1024 → EReal) (K : Fin 64 → Fin 512 → EReal) (h : Fin 4) (e : Fin 256) (d : Fin 128) : EReal :=
  ∑ i : Fin 64, V i (hv h e) * K i (hk h d)
/-- The state after a chunk. -/
def nxt (D : Fin 512 → EReal) (KV : Fin 4 → Fin 256 → Fin 128 → EReal) (S : Fin 4 → Fin 256 → Fin 128 → EReal)
    (h : Fin 4) (e : Fin 256) (d : Fin 128) : EReal := D (hk h d) * S h e d + KV h e d
/-- A head's output before its normalisation. -/
def oraw (A : Fin 4 → Fin 64 → Fin 64 → EReal) (V : Fin 64 → Fin 1024 → EReal) (Q : Fin 64 → Fin 512 → EReal)
    (S : Fin 4 → Fin 256 → Fin 128 → EReal) (h : Fin 4) (i : Fin 64) (e : Fin 256) : EReal :=
  ∑ j : Fin 64, A h i j * V j (hv h e) + ∑ d : Fin 128, Q i (hk h d) * S h e d
/-- A head's output, normalised and gated. -/
def ohead (o : Fin 256 → EReal) (r : Fin 256 → EReal) (e : Fin 256) : EReal :=
  o e * Ideal.rsqrt (Ideal.div (∑ k, o k * o k) widthV + eps) * W.gng e * (r e * sg (r e))

/-- The attention branch's row before its output matrix, one chunk at a time. -/
def obuf (B q k : Fin 64 → Fin 512 → EReal) (v r : Fin 64 → Fin 1024 → EReal) (S : Fin 4 → Fin 256 → Fin 128 → EReal)
    (h : Fin 4) (i : Fin 64) (e : Fin 256) : EReal :=
  ohead W (fun e => oraw (att (qd B q) (ki B k)) v (qd B q) S h i e) (fun e => r i (hv h e)) e

/-- The merged value of the two branches. -/
def merged (u a o : Fin 1024 → EReal) (c : Fin 1024) : EReal :=
  sg (prj W u 5120 (by omega) c) * (∑ k, (ln W a k * sg (ln W a k)) * W.wco k c)
    + sg (prj W u 6144 (by omega) c) * (∑ k, o k * W.wgo k c)

/-- The result row. -/
def result (x u a o : Fin 1024 → EReal) (c : Fin 1024) : EReal := x c + ∑ k, merged W u a o k * W.wo k c

/-! The sequence: token `n` of 16384, chunk `n / 64` of 256, a new sequence every 8192 tokens. -/

variable (X : ℕ → Fin 1024 → EReal)

/-- The normalised row of a token. -/
def U (n : ℕ) : Fin 1024 → EReal := urow W (X n)

/-- The gated unit `30 - j` tokens before token `n`, zero before the sequence's start. -/
def past (n : ℕ) (c : Fin 1024) (j : ℕ) : EReal := if 30 ≤ n % 8192 + j then glu W (U W X (n + j - 30)) c else 0

/-- The convolved row of a token. -/
def A (n : ℕ) (c : Fin 1024) : EReal := conv W (past W X n c) c

/-- A chunk's normalised rows. -/
def Uc (n : ℕ) (i : Fin 64) : Fin 1024 → EReal := U W X (64 * n + i.val)
/-- A chunk's running decay. -/
def Bc (n : ℕ) : Fin 64 → Fin 512 → EReal := csum fun i => gk W (Uc W X n i)
/-- A chunk's queries. -/
def Qc (n : ℕ) (i : Fin 64) (d : Fin 512) : EReal := prj W (Uc W X n i) 2048 (by omega) d
/-- A chunk's keys. -/
def Kc (n : ℕ) (i : Fin 64) (d : Fin 512) : EReal := prj W (Uc W X n i) 2560 (by omega) d
/-- A chunk's values. -/
def Vc (n : ℕ) (i : Fin 64) (d : Fin 1024) : EReal := prj W (Uc W X n i) 3072 (by omega) d
/-- A chunk's output gates. -/
def Rc (n : ℕ) (i : Fin 64) (d : Fin 1024) : EReal := prj W (Uc W X n i) 4096 (by omega) d

/-- The state after chunk `n` from the state before it. -/
def after (n : ℕ) (S : Fin 4 → Fin 256 → Fin 128 → EReal) : Fin 4 → Fin 256 → Fin 128 → EReal :=
  nxt (dec (Bc W X n)) (kv (Vc W X n) (ke (Bc W X n) (Kc W X n))) S

/-- The state before chunk `n`: zero at a sequence's start. -/
def S : ℕ → Fin 4 → Fin 256 → Fin 128 → EReal
  | 0 => fun _ _ _ => 0
  | n + 1 => if (n + 1) % 128 = 0 then fun _ _ _ => 0 else after W X n (S n)

/-- The attention branch's row of a token. -/
def O (n : ℕ) (c : Fin 1024) : EReal :=
  obuf W (Bc W X (n / 64)) (Qc W X (n / 64)) (Kc W X (n / 64)) (Vc W X (n / 64)) (Rc W X (n / 64)) (S W X (n / 64))
    ⟨c.val / 256, by omega⟩ ⟨n % 64, by omega⟩ ⟨c.val % 256, by omega⟩

/-- The mixer's result row of a token. -/
def Y (n : ℕ) : Fin 1024 → EReal := result W (X n) (U W X n) (A W X n) (O W X n)

end Cert.MixSpec

end
-- ==== Proof.MixGla.lean ====
module

public import proofs.«01_k».proof.Proof.Gen.KernelIdeal.Value
public import proofs.«01_k».proof.Proof.Rows
public import proofs.«01_k».proof.Proof.MixSpec
public import Idealize.ShloMosaic.Lib.Pointwise

@[expose] public section

set_option maxRecDepth 16384

noncomputable section

namespace Cert.KernelIdeal.Mix

open Cert.KernelIdeal Cert.KernelIdeal.Gen Cert.MixSpec Idealize.ShloMosaic Idealize.ShloMosaic.TcCoe Idealize.ShloMosaic.Tactic

/-! The attention branch of one step: the decayed queries and keys, the weights, the states and the gated heads, each read
at an index, over the step's running decays, queries, keys, values and gates. -/

/-- Rows `64 n ..` of a step's block of 512 columns. -/
def cB (v : Vec Ideal S256x512 .f32) (n : Fin 4) (i : Fin 64) (d : Fin 512) : EReal := v (ix2 ⟨64 * n.val + i.val, by omega⟩ d)
/-- Rows `64 n ..` of a step's block of 1024 columns. -/
def cW (v : Vec Ideal S256x1024 .f32) (n : Fin 4) (i : Fin 64) (d : Fin 1024) : EReal := v (ix2 ⟨64 * n.val + i.val, by omega⟩ d)

/-- The decayed queries of chunk 0. -/
theorem qd_0 (v206 : Vec Ideal S256x512 .f32) (v149 : Vec Ideal S256x512 .f32) (i : Fin 64) (d : Fin 512) :
    (k0_pay188 (F := Ideal) v149 v206) (ix2 i d) = qd (cB v206 0) (cB v149 0) i d := by
  pointwise [k0_pay186, k0_pay188]
  first | rfl | simp [qd, ki, ke, dec, att, kv, ohead, oraw, cB, cW, hk, hv]
/-- The keys with the decay undone of chunk 0. -/
theorem ki_0 (v206 : Vec Ideal S256x512 .f32) (v152 : Vec Ideal S256x512 .f32) (i : Fin 64) (d : Fin 512) :
    (k0_pay189 (F := Ideal) v152 v206) (ix2 i d) = ki (cB v206 0) (cB v152 0) i d := by
  pointwise [k0_pay186, k0_pay189]
  first | rfl | simp [qd, ki, ke, dec, att, kv, ohead, oraw, cB, cW, hk, hv]
/-- The keys decayed to the chunk's end of chunk 0. -/
theorem ke_0 (v206 : Vec Ideal S256x512 .f32) (v152 : Vec Ideal S256x512 .f32) (i : Fin 64) (d : Fin 512) :
    (k0_pay190 (F := Ideal) v152 v206) (ix2 i d) = ke (cB v206 0) (cB v152 0) i d := by
  pointwise [k0_pay186, k0_pay187, k0_pay190]
  first | rfl | simp [qd, ki, ke, dec, att, kv, ohead, oraw, cB, cW, hk, hv]
/-- The decay of chunk 0. -/
theorem dec_0 (v206 : Vec Ideal S256x512 .f32) (d : Fin 512) :
    (k0_pay191 (F := Ideal) (k0_pay187 (F := Ideal) v206)) (ix2 0 d) = dec (cB v206 0) d := by
  pointwise [k0_pay186, k0_pay187, k0_pay191]
  first | rfl | simp [qd, ki, ke, dec, att, kv, ohead, oraw, cB, cW, hk, hv]
/-- The decayed queries of chunk 1. -/
theorem qd_1 (v206 : Vec Ideal S256x512 .f32) (v149 : Vec Ideal S256x512 .f32) (i : Fin 64) (d : Fin 512) :
    (k0_pay194 (F := Ideal) v149 v206) (ix2 i d) = qd (cB v206 1) (cB v149 1) i d := by
  pointwise [k0_pay192, k0_pay194]
  first | rfl | simp [qd, ki, ke, dec, att, kv, ohead, oraw, cB, cW, hk, hv]
/-- The keys with the decay undone of chunk 1. -/
theorem ki_1 (v206 : Vec Ideal S256x512 .f32) (v152 : Vec Ideal S256x512 .f32) (i : Fin 64) (d : Fin 512) :
    (k0_pay195 (F := Ideal) v152 v206) (ix2 i d) = ki (cB v206 1) (cB v152 1) i d := by
  pointwise [k0_pay192, k0_pay195]
  first | rfl | simp [qd, ki, ke, dec, att, kv, ohead, oraw, cB, cW, hk, hv]
/-- The keys decayed to the chunk's end of chunk 1. -/
theorem ke_1 (v206 : Vec Ideal S256x512 .f32) (v152 : Vec Ideal S256x512 .f32) (i : Fin 64) (d : Fin 512) :
    (k0_pay196 (F := Ideal) v152 v206) (ix2 i d) = ke (cB v206 1) (cB v152 1) i d := by
  pointwise [k0_pay192, k0_pay193, k0_pay196]
  first | rfl | simp [qd, ki, ke, dec, att, kv, ohead, oraw, cB, cW, hk, hv]
/-- The decay of chunk 1. -/
theorem dec_1 (v206 : Vec Ideal S256x512 .f32) (d : Fin 512) :
    (k0_pay197 (F := Ideal) v206) (ix2 0 d) = dec (cB v206 1) d := by
  pointwise [k0_pay192, k0_pay193, k0_pay197]
  first | rfl | simp [qd, ki, ke, dec, att, kv, ohead, oraw, cB, cW, hk, hv]
/-- The decayed queries of chunk 2. -/
theorem qd_2 (v206 : Vec Ideal S256x512 .f32) (v149 : Vec Ideal S256x512 .f32) (i : Fin 64) (d : Fin 512) :
    (k0_pay200 (F := Ideal) v149 v206) (ix2 i d) = qd (cB v206 2) (cB v149 2) i d := by
  pointwise [k0_pay198, k0_pay200]
  first | rfl | simp [qd, ki, ke, dec, att, kv, ohead, oraw, cB, cW, hk, hv]
/-- The keys with the decay undone of chunk 2. -/
theorem ki_2 (v206 : Vec Ideal S256x512 .f32) (v152 : Vec Ideal S256x512 .f32) (i : Fin 64) (d : Fin 512) :
    (k0_pay201 (F := Ideal) v152 v206) (ix2 i d) = ki (cB v206 2) (cB v152 2) i d := by
  pointwise [k0_pay198, k0_pay201]
  first | rfl | simp [qd, ki, ke, dec, att, kv, ohead, oraw, cB, cW, hk, hv]
/-- The keys decayed to the chunk's end of chunk 2. -/
theorem ke_2 (v206 : Vec Ideal S256x512 .f32) (v152 : Vec Ideal S256x512 .f32) (i : Fin 64) (d : Fin 512) :
    (k0_pay202 (F := Ideal) v152 v206) (ix2 i d) = ke (cB v206 2) (cB v152 2) i d := by
  pointwise [k0_pay198, k0_pay199, k0_pay202]
  first | rfl | simp [qd, ki, ke, dec, att, kv, ohead, oraw, cB, cW, hk, hv]
/-- The decay of chunk 2. -/
theorem dec_2 (v206 : Vec Ideal S256x512 .f32) (d : Fin 512) :
    (k0_pay203 (F := Ideal) v206) (ix2 0 d) = dec (cB v206 2) d := by
  pointwise [k0_pay198, k0_pay199, k0_pay203]
  first | rfl | simp [qd, ki, ke, dec, att, kv, ohead, oraw, cB, cW, hk, hv]
/-- The decayed queries of chunk 3. -/
theorem qd_3 (v206 : Vec Ideal S256x512 .f32) (v149 : Vec Ideal S256x512 .f32) (i : Fin 64) (d : Fin 512) :
    (k0_pay206 (F := Ideal) v149 v206) (ix2 i d) = qd (cB v206 3) (cB v149 3) i d := by
  pointwise [k0_pay204, k0_pay206]
  first | rfl | simp [qd, ki, ke, dec, att, kv, ohead, oraw, cB, cW, hk, hv]
/-- The keys with the decay undone of chunk 3. -/
theorem ki_3 (v206 : Vec Ideal S256x512 .f32) (v152 : Vec Ideal S256x512 .f32) (i : Fin 64) (d : Fin 512) :
    (k0_pay209 (F := Ideal) (k0_pay207 (F := Ideal) v152) (k0_pay208 (F := Ideal) v206)) (ix2 i d) = ki (cB v206 3) (cB v152 3) i d := by
  pointwise [k0_pay204, k0_pay207, k0_pay208, k0_pay209]
  first | rfl | simp [qd, ki, ke, dec, att, kv, ohead, oraw, cB, cW, hk, hv]
/-- The keys decayed to the chunk's end of chunk 3. -/
theorem ke_3 (v206 : Vec Ideal S256x512 .f32) (v152 : Vec Ideal S256x512 .f32) (i : Fin 64) (d : Fin 512) :
    (k0_pay210 (F := Ideal) v152 (k0_pay204 (F := Ideal) v206) (k0_pay205 (F := Ideal) v206)) (ix2 i d) = ke (cB v206 3) (cB v152 3) i d := by
  pointwise [k0_pay204, k0_pay205, k0_pay210]
  first | rfl | simp [qd, ki, ke, dec, att, kv, ohead, oraw, cB, cW, hk, hv]
/-- The decay of chunk 3. -/
theorem dec_3 (v206 : Vec Ideal S256x512 .f32) (d : Fin 512) :
    (k0_pay211 (F := Ideal) (k0_pay205 (F := Ideal) v206)) (ix2 0 d) = dec (cB v206 3) d := by
  pointwise [k0_pay204, k0_pay205, k0_pay211]
  first | rfl | simp [qd, ki, ke, dec, att, kv, ohead, oraw, cB, cW, hk, hv]
/-- The mask of a chunk's weights: a key no later than the query. -/
theorem mask_apply (i j : Fin 64) (a b : EReal) : Scalar.select (k0_pay184 (ix2 i j)) a b = if j ≤ i then a else b := by
  pointwise [k0_pay184]
  have h : ∀ i j : Fin 64, IntOp.cmpi .sle (BitVec.ofNat 32 j.val) (BitVec.ofNat 32 i.val) = if j ≤ i then 1#1 else 0#1 := by
    decide +kernel
  rw [h]
  by_cases c : j ≤ i
  · rw [if_pos c, if_pos c]; rfl
  · rw [if_neg c, if_neg c]; rfl

/-- The weights of chunk 0, head 0. -/
theorem att_0_0 (v2645 : Vec Ideal S64x512 .bf16) (v2651 : Vec Ideal S64x512 .bf16) (i j : Fin 64) :
    (k0_pay212 (F := Ideal) k0_pay184 v2645 v2651) (ix2 i j) = att (fun i d => v2645 (ix2 i d)) (fun i d => v2651 (ix2 i d)) 0 i j := by
  pointwise [k0_pay212]
  rw [mask_apply]
  first | rfl | simp [qd, ki, ke, dec, att, kv, ohead, oraw, cB, cW, hk, hv]
/-- The weights of chunk 0, head 1. -/
theorem att_0_1 (v2645 : Vec Ideal S64x512 .bf16) (v2651 : Vec Ideal S64x512 .bf16) (i j : Fin 64) :
    (k0_pay213 (F := Ideal) k0_pay184 v2645 v2651) (ix2 i j) = att (fun i d => v2645 (ix2 i d)) (fun i d => v2651 (ix2 i d)) 1 i j := by
  pointwise [k0_pay213]
  rw [mask_apply]
  first | rfl | simp [qd, ki, ke, dec, att, kv, ohead, oraw, cB, cW, hk, hv]
/-- The weights of chunk 0, head 2. -/
theorem att_0_2 (v2645 : Vec Ideal S64x512 .bf16) (v2651 : Vec Ideal S64x512 .bf16) (i j : Fin 64) :
    (k0_pay214 (F := Ideal) k0_pay184 v2645 v2651) (ix2 i j) = att (fun i d => v2645 (ix2 i d)) (fun i d => v2651 (ix2 i d)) 2 i j := by
  pointwise [k0_pay214]
  rw [mask_apply]
  first | rfl | simp [qd, ki, ke, dec, att, kv, ohead, oraw, cB, cW, hk, hv]
/-- The weights of chunk 0, head 3. -/
theorem att_0_3 (v2645 : Vec Ideal S64x512 .bf16) (v2651 : Vec Ideal S64x512 .bf16) (i j : Fin 64) :
    (k0_pay215 (F := Ideal) k0_pay184 v2645 v2651) (ix2 i j) = att (fun i d => v2645 (ix2 i d)) (fun i d => v2651 (ix2 i d)) 3 i j := by
  pointwise [k0_pay215]
  rw [mask_apply]
  first | rfl | simp [qd, ki, ke, dec, att, kv, ohead, oraw, cB, cW, hk, hv]
/-- The weights of chunk 1, head 0. -/
theorem att_1_0 (v2666 : Vec Ideal S64x512 .bf16) (v2672 : Vec Ideal S64x512 .bf16) (i j : Fin 64) :
    (k0_pay216 (F := Ideal) k0_pay184 v2666 v2672) (ix2 i j) = att (fun i d => v2666 (ix2 i d)) (fun i d => v2672 (ix2 i d)) 0 i j := by
  pointwise [k0_pay216]
  rw [mask_apply]
  first | rfl | simp [qd, ki, ke, dec, att, kv, ohead, oraw, cB, cW, hk, hv]
/-- The weights of chunk 1, head 1. -/
theorem att_1_1 (v2666 : Vec Ideal S64x512 .bf16) (v2672 : Vec Ideal S64x512 .bf16) (i j : Fin 64) :
    (k0_pay217 (F := Ideal) k0_pay184 v2666 v2672) (ix2 i j) = att (fun i d => v2666 (ix2 i d)) (fun i d => v2672 (ix2 i d)) 1 i j := by
  pointwise [k0_pay217]
  rw [mask_apply]
  first | rfl | simp [qd, ki, ke, dec, att, kv, ohead, oraw, cB, cW, hk, hv]
/-- The weights of chunk 1, head 2. -/
theorem att_1_2 (v2666 : Vec Ideal S64x512 .bf16) (v2672 : Vec Ideal S64x512 .bf16) (i j : Fin 64) :
    (k0_pay220 (F := Ideal) k0_pay184 (k0_pay218 (F := Ideal) v2666) (k0_pay219 (F := Ideal) v2672)) (ix2 i j) = att (fun i d => v2666 (ix2 i d)) (fun i d => v2672 (ix2 i d)) 2 i j := by
  pointwise [k0_pay218, k0_pay219, k0_pay220]
  rw [mask_apply]
  first | rfl | simp [qd, ki, ke, dec, att, kv, ohead, oraw, cB, cW, hk, hv]
/-- The weights of chunk 1, head 3. -/
theorem att_1_3 (v2666 : Vec Ideal S64x512 .bf16) (v2672 : Vec Ideal S64x512 .bf16) (i j : Fin 64) :
    (k0_pay221 (F := Ideal) k0_pay184 v2666 v2672) (ix2 i j) = att (fun i d => v2666 (ix2 i d)) (fun i d => v2672 (ix2 i d)) 3 i j := by
  pointwise [k0_pay221]
  rw [mask_apply]
  first | rfl | simp [qd, ki, ke, dec, att, kv, ohead, oraw, cB, cW, hk, hv]
/-- The weights of chunk 2, head 0. -/
theorem att_2_0 (v2687 : Vec Ideal S64x512 .bf16) (v2693 : Vec Ideal S64x512 .bf16) (i j : Fin 64) :
    (k0_pay222 (F := Ideal) k0_pay184 v2687 v2693) (ix2 i j) = att (fun i d => v2687 (ix2 i d)) (fun i d => v2693 (ix2 i d)) 0 i j := by
  pointwise [k0_pay222]
  rw [mask_apply]
  first | rfl | simp [qd, ki, ke, dec, att, kv, ohead, oraw, cB, cW, hk, hv]
/-- The weights of chunk 2, head 1. -/
theorem att_2_1 (v2687 : Vec Ideal S64x512 .bf16) (v2693 : Vec Ideal S64x512 .bf16) (i j : Fin 64) :
    (k0_pay223 (F := Ideal) k0_pay184 v2687 v2693) (ix2 i j) = att (fun i d => v2687 (ix2 i d)) (fun i d => v2693 (ix2 i d)) 1 i j := by
  pointwise [k0_pay223]
  rw [mask_apply]
  first | rfl | simp [qd, ki, ke, dec, att, kv, ohead, oraw, cB, cW, hk, hv]
/-- The weights of chunk 2, head 2. -/
theorem att_2_2 (v2687 : Vec Ideal S64x512 .bf16) (v2693 : Vec Ideal S64x512 .bf16) (i j : Fin 64) :
    (k0_pay224 (F := Ideal) k0_pay184 v2687 v2693) (ix2 i j) = att (fun i d => v2687 (ix2 i d)) (fun i d => v2693 (ix2 i d)) 2 i j := by
  pointwise [k0_pay224]
  rw [mask_apply]
  first | rfl | simp [qd, ki, ke, dec, att, kv, ohead, oraw, cB, cW, hk, hv]
/-- The weights of chunk 2, head 3. -/
theorem att_2_3 (v2687 : Vec Ideal S64x512 .bf16) (v2693 : Vec Ideal S64x512 .bf16) (i j : Fin 64) :
    (k0_pay225 (F := Ideal) k0_pay184 v2687 v2693) (ix2 i j) = att (fun i d => v2687 (ix2 i d)) (fun i d => v2693 (ix2 i d)) 3 i j := by
  pointwise [k0_pay225]
  rw [mask_apply]
  first | rfl | simp [qd, ki, ke, dec, att, kv, ohead, oraw, cB, cW, hk, hv]
/-- The weights of chunk 3, head 0. -/
theorem att_3_0 (v2708 : Vec Ideal S64x512 .bf16) (v2714 : Vec Ideal S64x512 .bf16) (i j : Fin 64) :
    (k0_pay226 (F := Ideal) k0_pay184 v2708 v2714) (ix2 i j) = att (fun i d => v2708 (ix2 i d)) (fun i d => v2714 (ix2 i d)) 0 i j := by
  pointwise [k0_pay226]
  rw [mask_apply]
  first | rfl | simp [qd, ki, ke, dec, att, kv, ohead, oraw, cB, cW, hk, hv]
/-- The weights of chunk 3, head 1. -/
theorem att_3_1 (v2708 : Vec Ideal S64x512 .bf16) (v2714 : Vec Ideal S64x512 .bf16) (i j : Fin 64) :
    (k0_pay229 (F := Ideal) k0_pay184 (k0_pay227 (F := Ideal) v2708 v2714) (k0_pay228 (F := Ideal))) (ix2 i j) = att (fun i d => v2708 (ix2 i d)) (fun i d => v2714 (ix2 i d)) 1 i j := by
  pointwise [k0_pay227, k0_pay228, k0_pay229]
  rw [mask_apply]
  first | rfl | simp [qd, ki, ke, dec, att, kv, ohead, oraw, cB, cW, hk, hv]
/-- The weights of chunk 3, head 2. -/
theorem att_3_2 (v2708 : Vec Ideal S64x512 .bf16) (v2714 : Vec Ideal S64x512 .bf16) (i j : Fin 64) :
    (k0_pay230 (F := Ideal) k0_pay184 v2708 v2714) (ix2 i j) = att (fun i d => v2708 (ix2 i d)) (fun i d => v2714 (ix2 i d)) 2 i j := by
  pointwise [k0_pay230]
  rw [mask_apply]
  first | rfl | simp [qd, ki, ke, dec, att, kv, ohead, oraw, cB, cW, hk, hv]
/-- The weights of chunk 3, head 3. -/
theorem att_3_3 (v2708 : Vec Ideal S64x512 .bf16) (v2714 : Vec Ideal S64x512 .bf16) (i j : Fin 64) :
    (k0_pay231 (F := Ideal) k0_pay184 v2708 v2714) (ix2 i j) = att (fun i d => v2708 (ix2 i d)) (fun i d => v2714 (ix2 i d)) 3 i j := by
  pointwise [k0_pay231]
  rw [mask_apply]
  first | rfl | simp [qd, ki, ke, dec, att, kv, ohead, oraw, cB, cW, hk, hv]
/-- What chunk 0 adds to head 0's state. -/
theorem kv_0_0 (v156 : Vec Ideal S256x1024 .bf16) (v2657 : Vec Ideal S64x512 .bf16) (e : Fin 256) (d : Fin 128) :
    (k0_pay232 (F := Ideal) v156 v2657) (ix2 e d) = kv (cW v156 0) (fun i d => v2657 (ix2 i d)) 0 e d := by
  pointwise [k0_pay232]
  first | rfl | simp [qd, ki, ke, dec, att, kv, ohead, oraw, cB, cW, hk, hv]
/-- What chunk 0 adds to head 1's state. -/
theorem kv_0_1 (v156 : Vec Ideal S256x1024 .bf16) (v2657 : Vec Ideal S64x512 .bf16) (e : Fin 256) (d : Fin 128) :
    (k0_pay233 (F := Ideal) v156 v2657) (ix2 e d) = kv (cW v156 0) (fun i d => v2657 (ix2 i d)) 1 e d := by
  pointwise [k0_pay233]
  first | rfl | simp [qd, ki, ke, dec, att, kv, ohead, oraw, cB, cW, hk, hv]
/-- What chunk 0 adds to head 2's state. -/
theorem kv_0_2 (v156 : Vec Ideal S256x1024 .bf16) (v2657 : Vec Ideal S64x512 .bf16) (e : Fin 256) (d : Fin 128) :
    (k0_pay234 (F := Ideal) v156 v2657) (ix2 e d) = kv (cW v156 0) (fun i d => v2657 (ix2 i d)) 2 e d := by
  pointwise [k0_pay234]
  first | rfl | simp [qd, ki, ke, dec, att, kv, ohead, oraw, cB, cW, hk, hv]
/-- What chunk 0 adds to head 3's state. -/
theorem kv_0_3 (v156 : Vec Ideal S256x1024 .bf16) (v2657 : Vec Ideal S64x512 .bf16) (e : Fin 256) (d : Fin 128) :
    (k0_pay235 (F := Ideal) v156 v2657) (ix2 e d) = kv (cW v156 0) (fun i d => v2657 (ix2 i d)) 3 e d := by
  pointwise [k0_pay235]
  first | rfl | simp [qd, ki, ke, dec, att, kv, ohead, oraw, cB, cW, hk, hv]
/-- What chunk 1 adds to head 0's state. -/
theorem kv_1_0 (v156 : Vec Ideal S256x1024 .bf16) (v2678 : Vec Ideal S64x512 .bf16) (e : Fin 256) (d : Fin 128) :
    (k0_pay236 (F := Ideal) v156 v2678) (ix2 e d) = kv (cW v156 1) (fun i d => v2678 (ix2 i d)) 0 e d := by
  pointwise [k0_pay236]
  first | rfl | simp [qd, ki, ke, dec, att, kv, ohead, oraw, cB, cW, hk, hv]
/-- What chunk 1 adds to head 1's state. -/
theorem kv_1_1 (v156 : Vec Ideal S256x1024 .bf16) (v2678 : Vec Ideal S64x512 .bf16) (e : Fin 256) (d : Fin 128) :
    (k0_pay237 (F := Ideal) v156 v2678) (ix2 e d) = kv (cW v156 1) (fun i d => v2678 (ix2 i d)) 1 e d := by
  pointwise [k0_pay237]
  first | rfl | simp [qd, ki, ke, dec, att, kv, ohead, oraw, cB, cW, hk, hv]
/-- What chunk 1 adds to head 2's state. -/
theorem kv_1_2 (v156 : Vec Ideal S256x1024 .bf16) (v2678 : Vec Ideal S64x512 .bf16) (e : Fin 256) (d : Fin 128) :
    (k0_pay238 (F := Ideal) v156 v2678) (ix2 e d) = kv (cW v156 1) (fun i d => v2678 (ix2 i d)) 2 e d := by
  pointwise [k0_pay238]
  first | rfl | simp [qd, ki, ke, dec, att, kv, ohead, oraw, cB, cW, hk, hv]
/-- What chunk 1 adds to head 3's state. -/
theorem kv_1_3 (v156 : Vec Ideal S256x1024 .bf16) (v2678 : Vec Ideal S64x512 .bf16) (e : Fin 256) (d : Fin 128) :
    (k0_pay239 (F := Ideal) v156 v2678) (ix2 e d) = kv (cW v156 1) (fun i d => v2678 (ix2 i d)) 3 e d := by
  pointwise [k0_pay239]
  first | rfl | simp [qd, ki, ke, dec, att, kv, ohead, oraw, cB, cW, hk, hv]
/-- What chunk 2 adds to head 0's state. -/
theorem kv_2_0 (v156 : Vec Ideal S256x1024 .bf16) (v2699 : Vec Ideal S64x512 .bf16) (e : Fin 256) (d : Fin 128) :
    (k0_pay240 (F := Ideal) v156 v2699) (ix2 e d) = kv (cW v156 2) (fun i d => v2699 (ix2 i d)) 0 e d := by
  pointwise [k0_pay240]
  first | rfl | simp [qd, ki, ke, dec, att, kv, ohead, oraw, cB, cW, hk, hv]
/-- What chunk 2 adds to head 1's state. -/
theorem kv_2_1 (v156 : Vec Ideal S256x1024 .bf16) (v2699 : Vec Ideal S64x512 .bf16) (e : Fin 256) (d : Fin 128) :
    (k0_pay241 (F := Ideal) v156 v2699) (ix2 e d) = kv (cW v156 2) (fun i d => v2699 (ix2 i d)) 1 e d := by
  pointwise [k0_pay241]
  first | rfl | simp [qd, ki, ke, dec, att, kv, ohead, oraw, cB, cW, hk, hv]
/-- What chunk 2 adds to head 2's state. -/
theorem kv_2_2 (v156 : Vec Ideal S256x1024 .bf16) (v2699 : Vec Ideal S64x512 .bf16) (e : Fin 256) (d : Fin 128) :
    (k0_pay244 (F := Ideal) (k0_pay242 (F := Ideal) v156) (k0_pay243 (F := Ideal) v2699)) (ix2 e d) = kv (cW v156 2) (fun i d => v2699 (ix2 i d)) 2 e d := by
  pointwise [k0_pay242, k0_pay243, k0_pay244]
  first | rfl | simp [qd, ki, ke, dec, att, kv, ohead, oraw, cB, cW, hk, hv]
/-- What chunk 2 adds to head 3's state. -/
theorem kv_2_3 (v156 : Vec Ideal S256x1024 .bf16) (v2699 : Vec Ideal S64x512 .bf16) (e : Fin 256) (d : Fin 128) :
    (k0_pay245 (F := Ideal) v156 v2699) (ix2 e d) = kv (cW v156 2) (fun i d => v2699 (ix2 i d)) 3 e d := by
  pointwise [k0_pay245]
  first | rfl | simp [qd, ki, ke, dec, att, kv, ohead, oraw, cB, cW, hk, hv]
/-- What chunk 3 adds to head 1's state. -/
theorem kv_3_1 (v156 : Vec Ideal S256x1024 .bf16) (v2720 : Vec Ideal S64x512 .bf16) (e : Fin 256) (d : Fin 128) :
    (k0_pay246 (F := Ideal) v156 v2720) (ix2 e d) = kv (cW v156 3) (fun i d => v2720 (ix2 i d)) 1 e d := by
  pointwise [k0_pay246]
  first | rfl | simp [qd, ki, ke, dec, att, kv, ohead, oraw, cB, cW, hk, hv]
/-- What chunk 3 adds to head 2's state. -/
theorem kv_3_2 (v156 : Vec Ideal S256x1024 .bf16) (v2720 : Vec Ideal S64x512 .bf16) (e : Fin 256) (d : Fin 128) :
    (k0_pay247 (F := Ideal) v156 v2720) (ix2 e d) = kv (cW v156 3) (fun i d => v2720 (ix2 i d)) 2 e d := by
  pointwise [k0_pay247]
  first | rfl | simp [qd, ki, ke, dec, att, kv, ohead, oraw, cB, cW, hk, hv]
/-- What chunk 3 adds to head 3's state. -/
theorem kv_3_3 (v156 : Vec Ideal S256x1024 .bf16) (v2720 : Vec Ideal S64x512 .bf16) (e : Fin 256) (d : Fin 128) :
    (k0_pay248 (F := Ideal) v156 v2720) (ix2 e d) = kv (cW v156 3) (fun i d => v2720 (ix2 i d)) 3 e d := by
  pointwise [k0_pay248]
  first | rfl | simp [qd, ki, ke, dec, att, kv, ohead, oraw, cB, cW, hk, hv]
/-- Head 0's state before chunk 0. -/
theorem st_0_0 (v2866 : Vec Ideal S1x256x128 .f32) (e : Fin 256) (d : Fin 128) :
    (k0_pay249 (F := Ideal) v2866) (ix2 e d) = v2866 (ix3 0 e d) := by
  pointwise [k0_pay249]
/-- Head 1's state before chunk 0. -/
theorem st_0_1 (v2887 : Vec Ideal S1x256x128 .f32) (e : Fin 256) (d : Fin 128) :
    (k0_pay254 (F := Ideal) v2887) (ix2 e d) = v2887 (ix3 0 e d) := by
  pointwise [k0_pay254]
/-- Head 2's state before chunk 0. -/
theorem st_0_2 (v2908 : Vec Ideal S1x256x128 .f32) (e : Fin 256) (d : Fin 128) :
    (k0_pay260 (F := Ideal) v2908) (ix2 e d) = v2908 (ix3 0 e d) := by
  pointwise [k0_pay260]
/-- Head 3's state before chunk 0. -/
theorem st_0_3 (v2929 : Vec Ideal S1x256x128 .f32) (e : Fin 256) (d : Fin 128) :
    (k0_pay265 (F := Ideal) v2929) (ix2 e d) = v2929 (ix3 0 e d) := by
  pointwise [k0_pay265]
/-- Head 0's state before chunk 1. -/
theorem st_1_0 (v2658 : Vec Ideal S1x512 .f32) (v2820 : Vec Ideal S256x128 .f32) (v2866 : Vec Ideal S1x256x128 .f32) (e : Fin 256) (d : Fin 128) :
    (k0_pay250 (F := Ideal) v2658 v2820 v2866) (ix2 e d) = v2658 (ix2 0 (hk 0 d)) * v2866 (ix3 0 e d) + v2820 (ix2 e d) := by
  pointwise [k0_pay249, k0_pay250]
  first | rfl | simp [qd, ki, ke, dec, att, kv, ohead, oraw, cB, cW, hk, hv]
/-- Head 1's state before chunk 1. -/
theorem st_1_1 (v2658 : Vec Ideal S1x512 .f32) (v2823 : Vec Ideal S256x128 .f32) (v2887 : Vec Ideal S1x256x128 .f32) (e : Fin 256) (d : Fin 128) :
    (k0_pay255 (F := Ideal) v2658 v2823 v2887) (ix2 e d) = v2658 (ix2 0 (hk 1 d)) * v2887 (ix3 0 e d) + v2823 (ix2 e d) := by
  pointwise [k0_pay254, k0_pay255]
  first | rfl | simp [qd, ki, ke, dec, att, kv, ohead, oraw, cB, cW, hk, hv]
/-- Head 2's state before chunk 1. -/
theorem st_1_2 (v2658 : Vec Ideal S1x512 .f32) (v2826 : Vec Ideal S256x128 .f32) (v2908 : Vec Ideal S1x256x128 .f32) (e : Fin 256) (d : Fin 128) :
    (k0_pay261 (F := Ideal) v2658 v2826 v2908) (ix2 e d) = v2658 (ix2 0 (hk 2 d)) * v2908 (ix3 0 e d) + v2826 (ix2 e d) := by
  pointwise [k0_pay260, k0_pay261]
  first | rfl | simp [qd, ki, ke, dec, att, kv, ohead, oraw, cB, cW, hk, hv]
/-- Head 3's state before chunk 1. -/
theorem st_1_3 (v2658 : Vec Ideal S1x512 .f32) (v2829 : Vec Ideal S256x128 .f32) (v2929 : Vec Ideal S1x256x128 .f32) (e : Fin 256) (d : Fin 128) :
    (k0_pay266 (F := Ideal) v2658 v2829 v2929) (ix2 e d) = v2658 (ix2 0 (hk 3 d)) * v2929 (ix3 0 e d) + v2829 (ix2 e d) := by
  pointwise [k0_pay265, k0_pay266]
  first | rfl | simp [qd, ki, ke, dec, att, kv, ohead, oraw, cB, cW, hk, hv]
/-- Head 0's state before chunk 2. -/
theorem st_2_0 (v2658 : Vec Ideal S1x512 .f32) (v2679 : Vec Ideal S1x512 .f32) (v2820 : Vec Ideal S256x128 .f32) (v2832 : Vec Ideal S256x128 .f32) (v2866 : Vec Ideal S1x256x128 .f32) (e : Fin 256) (d : Fin 128) :
    (k0_pay251 (F := Ideal) v2658 v2679 v2820 v2832 v2866) (ix2 e d) = v2679 (ix2 0 (hk 0 d)) * (v2658 (ix2 0 (hk 0 d)) * v2866 (ix3 0 e d) + v2820 (ix2 e d)) + v2832 (ix2 e d) := by
  pointwise [k0_pay249, k0_pay250, k0_pay251]
  first | rfl | simp [qd, ki, ke, dec, att, kv, ohead, oraw, cB, cW, hk, hv]
/-- Head 1's state before chunk 2. -/
theorem st_2_1 (v2835 : Vec Ideal S256x128 .f32) (v2658 : Vec Ideal S1x512 .f32) (v2823 : Vec Ideal S256x128 .f32) (v2887 : Vec Ideal S1x256x128 .f32) (v2679 : Vec Ideal S1x512 .f32) (e : Fin 256) (d : Fin 128) :
    (k0_pay257 (F := Ideal) v2835 (k0_pay255 (F := Ideal) v2658 v2823 v2887) (k0_pay256 (F := Ideal) v2679)) (ix2 e d) = v2679 (ix2 0 (hk 1 d)) * (v2658 (ix2 0 (hk 1 d)) * v2887 (ix3 0 e d) + v2823 (ix2 e d)) + v2835 (ix2 e d) := by
  pointwise [k0_pay254, k0_pay255, k0_pay256, k0_pay257]
  first | rfl | simp [qd, ki, ke, dec, att, kv, ohead, oraw, cB, cW, hk, hv]
/-- Head 2's state before chunk 2. -/
theorem st_2_2 (v2658 : Vec Ideal S1x512 .f32) (v2679 : Vec Ideal S1x512 .f32) (v2826 : Vec Ideal S256x128 .f32) (v2838 : Vec Ideal S256x128 .f32) (v2908 : Vec Ideal S1x256x128 .f32) (e : Fin 256) (d : Fin 128) :
    (k0_pay262 (F := Ideal) v2658 v2679 v2826 v2838 v2908) (ix2 e d) = v2679 (ix2 0 (hk 2 d)) * (v2658 (ix2 0 (hk 2 d)) * v2908 (ix3 0 e d) + v2826 (ix2 e d)) + v2838 (ix2 e d) := by
  pointwise [k0_pay260, k0_pay261, k0_pay262]
  first | rfl | simp [qd, ki, ke, dec, att, kv, ohead, oraw, cB, cW, hk, hv]
/-- Head 3's state before chunk 2. -/
theorem st_2_3 (v2658 : Vec Ideal S1x512 .f32) (v2679 : Vec Ideal S1x512 .f32) (v2829 : Vec Ideal S256x128 .f32) (v2841 : Vec Ideal S256x128 .f32) (v2929 : Vec Ideal S1x256x128 .f32) (e : Fin 256) (d : Fin 128) :
    (k0_pay267 (F := Ideal) v2658 v2679 v2829 v2841 v2929) (ix2 e d) = v2679 (ix2 0 (hk 3 d)) * (v2658 (ix2 0 (hk 3 d)) * v2929 (ix3 0 e d) + v2829 (ix2 e d)) + v2841 (ix2 e d) := by
  pointwise [k0_pay265, k0_pay266, k0_pay267]
  first | rfl | simp [qd, ki, ke, dec, att, kv, ohead, oraw, cB, cW, hk, hv]
/-- Head 0's state before chunk 3. -/
theorem st_3_0 (v2658 : Vec Ideal S1x512 .f32) (v2679 : Vec Ideal S1x512 .f32) (v2700 : Vec Ideal S1x512 .f32) (v2820 : Vec Ideal S256x128 .f32) (v2832 : Vec Ideal S256x128 .f32) (v2844 : Vec Ideal S256x128 .f32) (v2866 : Vec Ideal S1x256x128 .f32) (e : Fin 256) (d : Fin 128) :
    (k0_pay252 (F := Ideal) v2658 v2679 v2700 v2820 v2832 v2844 v2866) (ix2 e d) = v2700 (ix2 0 (hk 0 d)) * (v2679 (ix2 0 (hk 0 d)) * (v2658 (ix2 0 (hk 0 d)) * v2866 (ix3 0 e d) + v2820 (ix2 e d)) + v2832 (ix2 e d)) + v2844 (ix2 e d) := by
  pointwise [k0_pay249, k0_pay250, k0_pay251, k0_pay252]
  first | rfl | simp [qd, ki, ke, dec, att, kv, ohead, oraw, cB, cW, hk, hv]
/-- Head 1's state before chunk 3. -/
theorem st_3_1 (v2700 : Vec Ideal S1x512 .f32) (v2835 : Vec Ideal S256x128 .f32) (v2847 : Vec Ideal S256x128 .f32) (v2658 : Vec Ideal S1x512 .f32) (v2823 : Vec Ideal S256x128 .f32) (v2887 : Vec Ideal S1x256x128 .f32) (v2679 : Vec Ideal S1x512 .f32) (e : Fin 256) (d : Fin 128) :
    (k0_pay258 (F := Ideal) v2700 v2835 v2847 (k0_pay255 (F := Ideal) v2658 v2823 v2887) (k0_pay256 (F := Ideal) v2679)) (ix2 e d) = v2700 (ix2 0 (hk 1 d)) * (v2679 (ix2 0 (hk 1 d)) * (v2658 (ix2 0 (hk 1 d)) * v2887 (ix3 0 e d) + v2823 (ix2 e d)) + v2835 (ix2 e d)) + v2847 (ix2 e d) := by
  pointwise [k0_pay254, k0_pay255, k0_pay256, k0_pay257, k0_pay258]
  first | rfl | simp [qd, ki, ke, dec, att, kv, ohead, oraw, cB, cW, hk, hv]
/-- Head 2's state before chunk 3. -/
theorem st_3_2 (v2658 : Vec Ideal S1x512 .f32) (v2679 : Vec Ideal S1x512 .f32) (v2700 : Vec Ideal S1x512 .f32) (v2826 : Vec Ideal S256x128 .f32) (v2838 : Vec Ideal S256x128 .f32) (v2850 : Vec Ideal S256x128 .f32) (v2908 : Vec Ideal S1x256x128 .f32) (e : Fin 256) (d : Fin 128) :
    (k0_pay263 (F := Ideal) v2658 v2679 v2700 v2826 v2838 v2850 v2908) (ix2 e d) = v2700 (ix2 0 (hk 2 d)) * (v2679 (ix2 0 (hk 2 d)) * (v2658 (ix2 0 (hk 2 d)) * v2908 (ix3 0 e d) + v2826 (ix2 e d)) + v2838 (ix2 e d)) + v2850 (ix2 e d) := by
  pointwise [k0_pay260, k0_pay261, k0_pay262, k0_pay263]
  first | rfl | simp [qd, ki, ke, dec, att, kv, ohead, oraw, cB, cW, hk, hv]
/-- Head 3's state before chunk 3. -/
theorem st_3_3 (v2853 : Vec Ideal S256x128 .f32) (v2658 : Vec Ideal S1x512 .f32) (v2679 : Vec Ideal S1x512 .f32) (v2829 : Vec Ideal S256x128 .f32) (v2841 : Vec Ideal S256x128 .f32) (v2929 : Vec Ideal S1x256x128 .f32) (v2700 : Vec Ideal S1x512 .f32) (e : Fin 256) (d : Fin 128) :
    (k0_pay269 (F := Ideal) v2853 (k0_pay267 (F := Ideal) v2658 v2679 v2829 v2841 v2929) (k0_pay268 (F := Ideal) v2700)) (ix2 e d) = v2700 (ix2 0 (hk 3 d)) * (v2679 (ix2 0 (hk 3 d)) * (v2658 (ix2 0 (hk 3 d)) * v2929 (ix3 0 e d) + v2829 (ix2 e d)) + v2841 (ix2 e d)) + v2853 (ix2 e d) := by
  pointwise [k0_pay265, k0_pay266, k0_pay267, k0_pay268, k0_pay269]
  first | rfl | simp [qd, ki, ke, dec, att, kv, ohead, oraw, cB, cW, hk, hv]
/-- Head 0's state after the step. -/
theorem st_4_0 (v156 : Vec Ideal S256x1024 .bf16) (v2658 : Vec Ideal S1x512 .f32) (v2679 : Vec Ideal S1x512 .f32) (v2700 : Vec Ideal S1x512 .f32) (v2720 : Vec Ideal S64x512 .bf16) (v2721 : Vec Ideal S1x512 .f32) (v2820 : Vec Ideal S256x128 .f32) (v2832 : Vec Ideal S256x128 .f32) (v2844 : Vec Ideal S256x128 .f32) (v2866 : Vec Ideal S1x256x128 .f32) (e : Fin 256) (d : Fin 128) :
    (k0_pay253 (F := Ideal) v156 v2658 v2679 v2700 v2720 v2721 v2820 v2832 v2844 v2866) (ix3 0 e d) = v2721 (ix2 0 (hk 0 d)) * (v2700 (ix2 0 (hk 0 d)) * (v2679 (ix2 0 (hk 0 d)) * (v2658 (ix2 0 (hk 0 d)) * v2866 (ix3 0 e d) + v2820 (ix2 e d)) + v2832 (ix2 e d)) + v2844 (ix2 e d)) + kv (cW v156 3) (fun i d => v2720 (ix2 i d)) 0 e d := by
  pointwise [k0_pay249, k0_pay250, k0_pay251, k0_pay252, k0_pay253]
  first | rfl | simp [qd, ki, ke, dec, att, kv, ohead, oraw, cB, cW, hk, hv]
/-- Head 1's state after the step. -/
theorem st_4_1 (v2700 : Vec Ideal S1x512 .f32) (v2721 : Vec Ideal S1x512 .f32) (v2835 : Vec Ideal S256x128 .f32) (v2847 : Vec Ideal S256x128 .f32) (v2859 : Vec Ideal S256x128 .f32) (v2658 : Vec Ideal S1x512 .f32) (v2823 : Vec Ideal S256x128 .f32) (v2887 : Vec Ideal S1x256x128 .f32) (v2679 : Vec Ideal S1x512 .f32) (e : Fin 256) (d : Fin 128) :
    (k0_pay259 (F := Ideal) v2700 v2721 v2835 v2847 v2859 (k0_pay255 (F := Ideal) v2658 v2823 v2887) (k0_pay256 (F := Ideal) v2679)) (ix3 0 e d) = v2721 (ix2 0 (hk 1 d)) * (v2700 (ix2 0 (hk 1 d)) * (v2679 (ix2 0 (hk 1 d)) * (v2658 (ix2 0 (hk 1 d)) * v2887 (ix3 0 e d) + v2823 (ix2 e d)) + v2835 (ix2 e d)) + v2847 (ix2 e d)) + v2859 (ix2 e d) := by
  pointwise [k0_pay254, k0_pay255, k0_pay256, k0_pay257, k0_pay258, k0_pay259]
  first | rfl | simp [qd, ki, ke, dec, att, kv, ohead, oraw, cB, cW, hk, hv]
/-- Head 2's state after the step. -/
theorem st_4_2 (v2658 : Vec Ideal S1x512 .f32) (v2679 : Vec Ideal S1x512 .f32) (v2700 : Vec Ideal S1x512 .f32) (v2721 : Vec Ideal S1x512 .f32) (v2826 : Vec Ideal S256x128 .f32) (v2838 : Vec Ideal S256x128 .f32) (v2850 : Vec Ideal S256x128 .f32) (v2862 : Vec Ideal S256x128 .f32) (v2908 : Vec Ideal S1x256x128 .f32) (e : Fin 256) (d : Fin 128) :
    (k0_pay264 (F := Ideal) v2658 v2679 v2700 v2721 v2826 v2838 v2850 v2862 v2908) (ix3 0 e d) = v2721 (ix2 0 (hk 2 d)) * (v2700 (ix2 0 (hk 2 d)) * (v2679 (ix2 0 (hk 2 d)) * (v2658 (ix2 0 (hk 2 d)) * v2908 (ix3 0 e d) + v2826 (ix2 e d)) + v2838 (ix2 e d)) + v2850 (ix2 e d)) + v2862 (ix2 e d) := by
  pointwise [k0_pay260, k0_pay261, k0_pay262, k0_pay263, k0_pay264]
  first | rfl | simp [qd, ki, ke, dec, att, kv, ohead, oraw, cB, cW, hk, hv]
/-- Head 3's state after the step. -/
theorem st_4_3 (v2721 : Vec Ideal S1x512 .f32) (v2853 : Vec Ideal S256x128 .f32) (v2865 : Vec Ideal S256x128 .f32) (v2658 : Vec Ideal S1x512 .f32) (v2679 : Vec Ideal S1x512 .f32) (v2829 : Vec Ideal S256x128 .f32) (v2841 : Vec Ideal S256x128 .f32) (v2929 : Vec Ideal S1x256x128 .f32) (v2700 : Vec Ideal S1x512 .f32) (e : Fin 256) (d : Fin 128) :
    (k0_pay270 (F := Ideal) v2721 v2853 v2865 (k0_pay267 (F := Ideal) v2658 v2679 v2829 v2841 v2929) (k0_pay268 (F := Ideal) v2700)) (ix3 0 e d) = v2721 (ix2 0 (hk 3 d)) * (v2700 (ix2 0 (hk 3 d)) * (v2679 (ix2 0 (hk 3 d)) * (v2658 (ix2 0 (hk 3 d)) * v2929 (ix3 0 e d) + v2829 (ix2 e d)) + v2841 (ix2 e d)) + v2853 (ix2 e d)) + v2865 (ix2 e d) := by
  pointwise [k0_pay265, k0_pay266, k0_pay267, k0_pay268, k0_pay269, k0_pay270]
  first | rfl | simp [qd, ki, ke, dec, att, kv, ohead, oraw, cB, cW, hk, hv]

end Cert.KernelIdeal.Mix
end
-- ==== Proof.MixOb.lean ====
module

public import proofs.«01_k».proof.Proof.Gen.KernelIdeal.Value
public import proofs.«01_k».proof.Proof.Rows
public import proofs.«01_k».proof.Proof.MixGla
public import Idealize.ShloMosaic.Lib.Pointwise

@[expose] public section

set_option maxRecDepth 16384

noncomputable section

/-! The gated heads of one step, over the weights, queries and states. -/

namespace Cert.KernelIdeal.Mix

open Cert.KernelIdeal Cert.KernelIdeal.Gen Cert.MixSpec Idealize.ShloMosaic Idealize.ShloMosaic.TcCoe Idealize.ShloMosaic.Tactic

/-- Chunk 0, head 0: the gated, normalised output. -/
theorem ob_0_0 (W : Wt) (v156 : Vec Ideal S256x1024 .bf16) (v2636 : Vec Ideal S1x256 .f32) (v2645 : Vec Ideal S64x512 .bf16) (v2739 : Vec Ideal S64x64 .bf16) (v2745 : Vec Ideal S64x64 .bf16) (v2909 : Vec Ideal S256x128 .f32) (v2930 : Vec Ideal S256x128 .f32) (v2727 : Vec Ideal S64x64 .bf16) (v2867 : Vec Ideal S256x128 .f32) (v2733 : Vec Ideal S64x64 .bf16) (v2888 : Vec Ideal S256x128 .f32) (v159 : Vec Ideal S256x1024 .f32) (hg : ∀ e : Fin 256, v2636 (ix2 (0 : Fin 1) e) = W.gng e) (i : Fin 64) (e : Fin 256) (c : Fin 1024) (hc : c.val = 0 + e.val) :
    (k0_pay330 (F := Ideal) (k0_pay327 (F := Ideal) v156 (k0_pay185 (F := Ideal) v2636) v2645 v2739 v2745 v2909 v2930 (k0_pay324 (F := Ideal) v156 (k0_pay185 (F := Ideal) v2636) v2645 v2727 v2867) (k0_pay325 (F := Ideal) v156 v2645 v2733 v2888) (k0_pay326 (F := Ideal) v156 v2645 v2733 v2888) (Scalar.ofBits (F := Ideal) .f32 0x43800000#32)) (k0_pay328 (F := Ideal) v159) (k0_pay329 (F := Ideal))) (ix2 i c)
      = ohead W (fun e => oraw (fun _ i j => v2727 (ix2 i j)) (cW v156 0) (fun i d => v2645 (ix2 i d)) (fun _ e d => v2867 (ix2 e d)) 0 i e) (fun e => cW v159 0 i (hv 0 e)) e := by
  pointwise [k0_pay185, k0_pay324, k0_pay325, k0_pay326, k0_pay327, k0_pay328, k0_pay329, k0_pay330]
  rw [dif_pos (show c.val < 256 by omega)]
  simp only [show c.val = e.val by omega, hg]
  obtain rfl : c = hv 0 e := Fin.ext (by simpa [hv] using hc)
  simp [ohead, oraw, cW, hk, hv, sg, eps, widthV]
/-- Chunk 0, head 1: the gated, normalised output. -/
theorem ob_0_1 (W : Wt) (v156 : Vec Ideal S256x1024 .bf16) (v2636 : Vec Ideal S1x256 .f32) (v2645 : Vec Ideal S64x512 .bf16) (v2739 : Vec Ideal S64x64 .bf16) (v2745 : Vec Ideal S64x64 .bf16) (v2909 : Vec Ideal S256x128 .f32) (v2930 : Vec Ideal S256x128 .f32) (v2727 : Vec Ideal S64x64 .bf16) (v2867 : Vec Ideal S256x128 .f32) (v2733 : Vec Ideal S64x64 .bf16) (v2888 : Vec Ideal S256x128 .f32) (v159 : Vec Ideal S256x1024 .f32) (hg : ∀ e : Fin 256, v2636 (ix2 (0 : Fin 1) e) = W.gng e) (i : Fin 64) (e : Fin 256) (c : Fin 1024) (hc : c.val = 256 + e.val) :
    (k0_pay330 (F := Ideal) (k0_pay327 (F := Ideal) v156 (k0_pay185 (F := Ideal) v2636) v2645 v2739 v2745 v2909 v2930 (k0_pay324 (F := Ideal) v156 (k0_pay185 (F := Ideal) v2636) v2645 v2727 v2867) (k0_pay325 (F := Ideal) v156 v2645 v2733 v2888) (k0_pay326 (F := Ideal) v156 v2645 v2733 v2888) (Scalar.ofBits (F := Ideal) .f32 0x43800000#32)) (k0_pay328 (F := Ideal) v159) (k0_pay329 (F := Ideal))) (ix2 i c)
      = ohead W (fun e => oraw (fun _ i j => v2733 (ix2 i j)) (cW v156 0) (fun i d => v2645 (ix2 i d)) (fun _ e d => v2888 (ix2 e d)) 1 i e) (fun e => cW v159 0 i (hv 1 e)) e := by
  pointwise [k0_pay185, k0_pay324, k0_pay325, k0_pay326, k0_pay327, k0_pay328, k0_pay329, k0_pay330]
  rw [dif_neg (show ¬ c.val < 256 by omega)]
  rw [dif_pos (show c.val - 256 < 256 by omega)]
  simp only [show c.val - 256 = e.val by omega, hg]
  obtain rfl : c = hv 1 e := Fin.ext (by simpa [hv] using hc)
  first | rfl | simp [ohead, oraw, cW, hk, hv, sg, eps, widthV]
/-- Chunk 0, head 2: the gated, normalised output. -/
theorem ob_0_2 (W : Wt) (v156 : Vec Ideal S256x1024 .bf16) (v2636 : Vec Ideal S1x256 .f32) (v2645 : Vec Ideal S64x512 .bf16) (v2739 : Vec Ideal S64x64 .bf16) (v2745 : Vec Ideal S64x64 .bf16) (v2909 : Vec Ideal S256x128 .f32) (v2930 : Vec Ideal S256x128 .f32) (v2727 : Vec Ideal S64x64 .bf16) (v2867 : Vec Ideal S256x128 .f32) (v2733 : Vec Ideal S64x64 .bf16) (v2888 : Vec Ideal S256x128 .f32) (v159 : Vec Ideal S256x1024 .f32) (hg : ∀ e : Fin 256, v2636 (ix2 (0 : Fin 1) e) = W.gng e) (i : Fin 64) (e : Fin 256) (c : Fin 1024) (hc : c.val = 512 + e.val) :
    (k0_pay330 (F := Ideal) (k0_pay327 (F := Ideal) v156 (k0_pay185 (F := Ideal) v2636) v2645 v2739 v2745 v2909 v2930 (k0_pay324 (F := Ideal) v156 (k0_pay185 (F := Ideal) v2636) v2645 v2727 v2867) (k0_pay325 (F := Ideal) v156 v2645 v2733 v2888) (k0_pay326 (F := Ideal) v156 v2645 v2733 v2888) (Scalar.ofBits (F := Ideal) .f32 0x43800000#32)) (k0_pay328 (F := Ideal) v159) (k0_pay329 (F := Ideal))) (ix2 i c)
      = ohead W (fun e => oraw (fun _ i j => v2739 (ix2 i j)) (cW v156 0) (fun i d => v2645 (ix2 i d)) (fun _ e d => v2909 (ix2 e d)) 2 i e) (fun e => cW v159 0 i (hv 2 e)) e := by
  pointwise [k0_pay185, k0_pay324, k0_pay325, k0_pay326, k0_pay327, k0_pay328, k0_pay329, k0_pay330]
  rw [dif_neg (show ¬ c.val < 256 by omega)]
  rw [dif_neg (show ¬ c.val - 256 < 256 by omega)]
  rw [dif_pos (show c.val - 256 - 256 < 256 by omega)]
  simp only [show c.val - 256 - 256 = e.val by omega, hg]
  obtain rfl : c = hv 2 e := Fin.ext (by simpa [hv] using hc)
  first | rfl | simp [ohead, oraw, cW, hk, hv, sg, eps, widthV]
/-- Chunk 0, head 3: the gated, normalised output. -/
theorem ob_0_3 (W : Wt) (v156 : Vec Ideal S256x1024 .bf16) (v2636 : Vec Ideal S1x256 .f32) (v2645 : Vec Ideal S64x512 .bf16) (v2739 : Vec Ideal S64x64 .bf16) (v2745 : Vec Ideal S64x64 .bf16) (v2909 : Vec Ideal S256x128 .f32) (v2930 : Vec Ideal S256x128 .f32) (v2727 : Vec Ideal S64x64 .bf16) (v2867 : Vec Ideal S256x128 .f32) (v2733 : Vec Ideal S64x64 .bf16) (v2888 : Vec Ideal S256x128 .f32) (v159 : Vec Ideal S256x1024 .f32) (hg : ∀ e : Fin 256, v2636 (ix2 (0 : Fin 1) e) = W.gng e) (i : Fin 64) (e : Fin 256) (c : Fin 1024) (hc : c.val = 768 + e.val) :
    (k0_pay330 (F := Ideal) (k0_pay327 (F := Ideal) v156 (k0_pay185 (F := Ideal) v2636) v2645 v2739 v2745 v2909 v2930 (k0_pay324 (F := Ideal) v156 (k0_pay185 (F := Ideal) v2636) v2645 v2727 v2867) (k0_pay325 (F := Ideal) v156 v2645 v2733 v2888) (k0_pay326 (F := Ideal) v156 v2645 v2733 v2888) (Scalar.ofBits (F := Ideal) .f32 0x43800000#32)) (k0_pay328 (F := Ideal) v159) (k0_pay329 (F := Ideal))) (ix2 i c)
      = ohead W (fun e => oraw (fun _ i j => v2745 (ix2 i j)) (cW v156 0) (fun i d => v2645 (ix2 i d)) (fun _ e d => v2930 (ix2 e d)) 3 i e) (fun e => cW v159 0 i (hv 3 e)) e := by
  pointwise [k0_pay185, k0_pay324, k0_pay325, k0_pay326, k0_pay327, k0_pay328, k0_pay329, k0_pay330]
  rw [dif_neg (show ¬ c.val < 256 by omega)]
  rw [dif_neg (show ¬ c.val - 256 < 256 by omega)]
  rw [dif_neg (show ¬ c.val - 256 - 256 < 256 by omega)]
  simp only [show c.val - 256 - 256 - 256 = e.val by omega, hg]
  obtain rfl : c = hv 3 e := Fin.ext (by simpa [hv] using hc)
  first | rfl | simp [ohead, oraw, cW, hk, hv, sg, eps, widthV]
/-- Chunk 1, head 0: the gated, normalised output. -/
theorem ob_1_0 (W : Wt) (v156 : Vec Ideal S256x1024 .bf16) (v2636 : Vec Ideal S1x256 .f32) (v2666 : Vec Ideal S64x512 .bf16) (v2763 : Vec Ideal S64x64 .bf16) (v2769 : Vec Ideal S64x64 .bf16) (v2913 : Vec Ideal S256x128 .f32) (v2934 : Vec Ideal S256x128 .f32) (v2751 : Vec Ideal S64x64 .bf16) (v2871 : Vec Ideal S256x128 .f32) (v2757 : Vec Ideal S64x64 .bf16) (v2892 : Vec Ideal S256x128 .f32) (v159 : Vec Ideal S256x1024 .f32) (hg : ∀ e : Fin 256, v2636 (ix2 (0 : Fin 1) e) = W.gng e) (i : Fin 64) (e : Fin 256) (c : Fin 1024) (hc : c.val = 0 + e.val) :
    (k0_pay338 (F := Ideal) (k0_pay334 (F := Ideal) v156 (k0_pay185 (F := Ideal) v2636) v2666 v2763 v2769 v2913 v2934 (k0_pay331 (F := Ideal) v156 (k0_pay185 (F := Ideal) v2636) v2666 v2751 v2871) (k0_pay332 (F := Ideal) v156 v2666 v2757 v2892) (k0_pay333 (F := Ideal) v156 v2666 v2757 v2892)) (k0_pay335 (F := Ideal) v159) (k0_pay336 (F := Ideal) v159) (k0_pay337 (F := Ideal))) (ix2 i c)
      = ohead W (fun e => oraw (fun _ i j => v2751 (ix2 i j)) (cW v156 1) (fun i d => v2666 (ix2 i d)) (fun _ e d => v2871 (ix2 e d)) 0 i e) (fun e => cW v159 1 i (hv 0 e)) e := by
  pointwise [k0_pay185, k0_pay331, k0_pay332, k0_pay333, k0_pay334, k0_pay335, k0_pay336, k0_pay337, k0_pay338]
  rw [dif_pos (show c.val < 256 by omega)]
  simp only [show c.val = e.val by omega, hg]
  obtain rfl : c = hv 0 e := Fin.ext (by simpa [hv] using hc)
  simp [ohead, oraw, cW, hk, hv, sg, eps, widthV]
/-- Chunk 1, head 1: the gated, normalised output. -/
theorem ob_1_1 (W : Wt) (v156 : Vec Ideal S256x1024 .bf16) (v2636 : Vec Ideal S1x256 .f32) (v2666 : Vec Ideal S64x512 .bf16) (v2763 : Vec Ideal S64x64 .bf16) (v2769 : Vec Ideal S64x64 .bf16) (v2913 : Vec Ideal S256x128 .f32) (v2934 : Vec Ideal S256x128 .f32) (v2751 : Vec Ideal S64x64 .bf16) (v2871 : Vec Ideal S256x128 .f32) (v2757 : Vec Ideal S64x64 .bf16) (v2892 : Vec Ideal S256x128 .f32) (v159 : Vec Ideal S256x1024 .f32) (hg : ∀ e : Fin 256, v2636 (ix2 (0 : Fin 1) e) = W.gng e) (i : Fin 64) (e : Fin 256) (c : Fin 1024) (hc : c.val = 256 + e.val) :
    (k0_pay338 (F := Ideal) (k0_pay334 (F := Ideal) v156 (k0_pay185 (F := Ideal) v2636) v2666 v2763 v2769 v2913 v2934 (k0_pay331 (F := Ideal) v156 (k0_pay185 (F := Ideal) v2636) v2666 v2751 v2871) (k0_pay332 (F := Ideal) v156 v2666 v2757 v2892) (k0_pay333 (F := Ideal) v156 v2666 v2757 v2892)) (k0_pay335 (F := Ideal) v159) (k0_pay336 (F := Ideal) v159) (k0_pay337 (F := Ideal))) (ix2 i c)
      = ohead W (fun e => oraw (fun _ i j => v2757 (ix2 i j)) (cW v156 1) (fun i d => v2666 (ix2 i d)) (fun _ e d => v2892 (ix2 e d)) 1 i e) (fun e => cW v159 1 i (hv 1 e)) e := by
  pointwise [k0_pay185, k0_pay331, k0_pay332, k0_pay333, k0_pay334, k0_pay335, k0_pay336, k0_pay337, k0_pay338]
  rw [dif_neg (show ¬ c.val < 256 by omega)]
  rw [dif_pos (show c.val - 256 < 256 by omega)]
  simp only [show c.val - 256 = e.val by omega, hg]
  obtain rfl : c = hv 1 e := Fin.ext (by simpa [hv] using hc)
  first | rfl | simp [ohead, oraw, cW, hk, hv, sg, eps, widthV]
/-- Chunk 1, head 2: the gated, normalised output. -/
theorem ob_1_2 (W : Wt) (v156 : Vec Ideal S256x1024 .bf16) (v2636 : Vec Ideal S1x256 .f32) (v2666 : Vec Ideal S64x512 .bf16) (v2763 : Vec Ideal S64x64 .bf16) (v2769 : Vec Ideal S64x64 .bf16) (v2913 : Vec Ideal S256x128 .f32) (v2934 : Vec Ideal S256x128 .f32) (v2751 : Vec Ideal S64x64 .bf16) (v2871 : Vec Ideal S256x128 .f32) (v2757 : Vec Ideal S64x64 .bf16) (v2892 : Vec Ideal S256x128 .f32) (v159 : Vec Ideal S256x1024 .f32) (hg : ∀ e : Fin 256, v2636 (ix2 (0 : Fin 1) e) = W.gng e) (i : Fin 64) (e : Fin 256) (c : Fin 1024) (hc : c.val = 512 + e.val) :
    (k0_pay338 (F := Ideal) (k0_pay334 (F := Ideal) v156 (k0_pay185 (F := Ideal) v2636) v2666 v2763 v2769 v2913 v2934 (k0_pay331 (F := Ideal) v156 (k0_pay185 (F := Ideal) v2636) v2666 v2751 v2871) (k0_pay332 (F := Ideal) v156 v2666 v2757 v2892) (k0_pay333 (F := Ideal) v156 v2666 v2757 v2892)) (k0_pay335 (F := Ideal) v159) (k0_pay336 (F := Ideal) v159) (k0_pay337 (F := Ideal))) (ix2 i c)
      = ohead W (fun e => oraw (fun _ i j => v2763 (ix2 i j)) (cW v156 1) (fun i d => v2666 (ix2 i d)) (fun _ e d => v2913 (ix2 e d)) 2 i e) (fun e => cW v159 1 i (hv 2 e)) e := by
  pointwise [k0_pay185, k0_pay331, k0_pay332, k0_pay333, k0_pay334, k0_pay335, k0_pay336, k0_pay337, k0_pay338]
  rw [dif_neg (show ¬ c.val < 256 by omega)]
  rw [dif_neg (show ¬ c.val - 256 < 256 by omega)]
  rw [dif_pos (show c.val - 256 - 256 < 256 by omega)]
  simp only [show c.val - 256 - 256 = e.val by omega, hg]
  obtain rfl : c = hv 2 e := Fin.ext (by simpa [hv] using hc)
  first | rfl | simp [ohead, oraw, cW, hk, hv, sg, eps, widthV]
/-- Chunk 1, head 3: the gated, normalised output. -/
theorem ob_1_3 (W : Wt) (v156 : Vec Ideal S256x1024 .bf16) (v2636 : Vec Ideal S1x256 .f32) (v2666 : Vec Ideal S64x512 .bf16) (v2763 : Vec Ideal S64x64 .bf16) (v2769 : Vec Ideal S64x64 .bf16) (v2913 : Vec Ideal S256x128 .f32) (v2934 : Vec Ideal S256x128 .f32) (v2751 : Vec Ideal S64x64 .bf16) (v2871 : Vec Ideal S256x128 .f32) (v2757 : Vec Ideal S64x64 .bf16) (v2892 : Vec Ideal S256x128 .f32) (v159 : Vec Ideal S256x1024 .f32) (hg : ∀ e : Fin 256, v2636 (ix2 (0 : Fin 1) e) = W.gng e) (i : Fin 64) (e : Fin 256) (c : Fin 1024) (hc : c.val = 768 + e.val) :
    (k0_pay338 (F := Ideal) (k0_pay334 (F := Ideal) v156 (k0_pay185 (F := Ideal) v2636) v2666 v2763 v2769 v2913 v2934 (k0_pay331 (F := Ideal) v156 (k0_pay185 (F := Ideal) v2636) v2666 v2751 v2871) (k0_pay332 (F := Ideal) v156 v2666 v2757 v2892) (k0_pay333 (F := Ideal) v156 v2666 v2757 v2892)) (k0_pay335 (F := Ideal) v159) (k0_pay336 (F := Ideal) v159) (k0_pay337 (F := Ideal))) (ix2 i c)
      = ohead W (fun e => oraw (fun _ i j => v2769 (ix2 i j)) (cW v156 1) (fun i d => v2666 (ix2 i d)) (fun _ e d => v2934 (ix2 e d)) 3 i e) (fun e => cW v159 1 i (hv 3 e)) e := by
  pointwise [k0_pay185, k0_pay331, k0_pay332, k0_pay333, k0_pay334, k0_pay335, k0_pay336, k0_pay337, k0_pay338]
  rw [dif_neg (show ¬ c.val < 256 by omega)]
  rw [dif_neg (show ¬ c.val - 256 < 256 by omega)]
  rw [dif_neg (show ¬ c.val - 256 - 256 < 256 by omega)]
  simp only [show c.val - 256 - 256 - 256 = e.val by omega, hg]
  obtain rfl : c = hv 3 e := Fin.ext (by simpa [hv] using hc)
  first | rfl | simp [ohead, oraw, cW, hk, hv, sg, eps, widthV]
/-- Chunk 2, head 0: the gated, normalised output. -/
theorem ob_2_0 (W : Wt) (v156 : Vec Ideal S256x1024 .bf16) (v159 : Vec Ideal S256x1024 .f32) (v2636 : Vec Ideal S1x256 .f32) (v2687 : Vec Ideal S64x512 .bf16) (v2793 : Vec Ideal S64x64 .bf16) (v2917 : Vec Ideal S256x128 .f32) (v2938 : Vec Ideal S256x128 .f32) (v2775 : Vec Ideal S64x64 .bf16) (v2875 : Vec Ideal S256x128 .f32) (v2781 : Vec Ideal S64x64 .bf16) (v2896 : Vec Ideal S256x128 .f32) (v2787 : Vec Ideal S64x64 .bf16) (hg : ∀ e : Fin 256, v2636 (ix2 (0 : Fin 1) e) = W.gng e) (i : Fin 64) (e : Fin 256) (c : Fin 1024) (hc : c.val = 0 + e.val) :
    (k0_pay344 (F := Ideal) (k0_pay343 (F := Ideal) v156 v159 (k0_pay185 (F := Ideal) v2636) v2687 v2793 v2917 v2938 (k0_pay339 (F := Ideal) v156 (k0_pay185 (F := Ideal) v2636) v2687 v2775 v2875) (k0_pay340 (F := Ideal) v156 (k0_pay185 (F := Ideal) v2636) v2687 v2781 v2896) (k0_pay341 (F := Ideal) v156 v2787) (k0_pay342 (F := Ideal) v2687))) (ix2 i c)
      = ohead W (fun e => oraw (fun _ i j => v2775 (ix2 i j)) (cW v156 2) (fun i d => v2687 (ix2 i d)) (fun _ e d => v2875 (ix2 e d)) 0 i e) (fun e => cW v159 2 i (hv 0 e)) e := by
  pointwise [k0_pay185, k0_pay339, k0_pay340, k0_pay341, k0_pay342, k0_pay343, k0_pay344]
  rw [dif_pos (show c.val < 256 by omega)]
  simp only [show c.val = e.val by omega, hg]
  obtain rfl : c = hv 0 e := Fin.ext (by simpa [hv] using hc)
  simp [ohead, oraw, cW, hk, hv, sg, eps, widthV]
/-- Chunk 2, head 1: the gated, normalised output. -/
theorem ob_2_1 (W : Wt) (v156 : Vec Ideal S256x1024 .bf16) (v159 : Vec Ideal S256x1024 .f32) (v2636 : Vec Ideal S1x256 .f32) (v2687 : Vec Ideal S64x512 .bf16) (v2793 : Vec Ideal S64x64 .bf16) (v2917 : Vec Ideal S256x128 .f32) (v2938 : Vec Ideal S256x128 .f32) (v2775 : Vec Ideal S64x64 .bf16) (v2875 : Vec Ideal S256x128 .f32) (v2781 : Vec Ideal S64x64 .bf16) (v2896 : Vec Ideal S256x128 .f32) (v2787 : Vec Ideal S64x64 .bf16) (hg : ∀ e : Fin 256, v2636 (ix2 (0 : Fin 1) e) = W.gng e) (i : Fin 64) (e : Fin 256) (c : Fin 1024) (hc : c.val = 256 + e.val) :
    (k0_pay344 (F := Ideal) (k0_pay343 (F := Ideal) v156 v159 (k0_pay185 (F := Ideal) v2636) v2687 v2793 v2917 v2938 (k0_pay339 (F := Ideal) v156 (k0_pay185 (F := Ideal) v2636) v2687 v2775 v2875) (k0_pay340 (F := Ideal) v156 (k0_pay185 (F := Ideal) v2636) v2687 v2781 v2896) (k0_pay341 (F := Ideal) v156 v2787) (k0_pay342 (F := Ideal) v2687))) (ix2 i c)
      = ohead W (fun e => oraw (fun _ i j => v2781 (ix2 i j)) (cW v156 2) (fun i d => v2687 (ix2 i d)) (fun _ e d => v2896 (ix2 e d)) 1 i e) (fun e => cW v159 2 i (hv 1 e)) e := by
  pointwise [k0_pay185, k0_pay339, k0_pay340, k0_pay341, k0_pay342, k0_pay343, k0_pay344]
  rw [dif_neg (show ¬ c.val < 256 by omega)]
  rw [dif_pos (show c.val - 256 < 256 by omega)]
  simp only [show c.val - 256 = e.val by omega, hg]
  obtain rfl : c = hv 1 e := Fin.ext (by simpa [hv] using hc)
  first | rfl | simp [ohead, oraw, cW, hk, hv, sg, eps, widthV]
/-- Chunk 2, head 2: the gated, normalised output. -/
theorem ob_2_2 (W : Wt) (v156 : Vec Ideal S256x1024 .bf16) (v159 : Vec Ideal S256x1024 .f32) (v2636 : Vec Ideal S1x256 .f32) (v2687 : Vec Ideal S64x512 .bf16) (v2793 : Vec Ideal S64x64 .bf16) (v2917 : Vec Ideal S256x128 .f32) (v2938 : Vec Ideal S256x128 .f32) (v2775 : Vec Ideal S64x64 .bf16) (v2875 : Vec Ideal S256x128 .f32) (v2781 : Vec Ideal S64x64 .bf16) (v2896 : Vec Ideal S256x128 .f32) (v2787 : Vec Ideal S64x64 .bf16) (hg : ∀ e : Fin 256, v2636 (ix2 (0 : Fin 1) e) = W.gng e) (i : Fin 64) (e : Fin 256) (c : Fin 1024) (hc : c.val = 512 + e.val) :
    (k0_pay344 (F := Ideal) (k0_pay343 (F := Ideal) v156 v159 (k0_pay185 (F := Ideal) v2636) v2687 v2793 v2917 v2938 (k0_pay339 (F := Ideal) v156 (k0_pay185 (F := Ideal) v2636) v2687 v2775 v2875) (k0_pay340 (F := Ideal) v156 (k0_pay185 (F := Ideal) v2636) v2687 v2781 v2896) (k0_pay341 (F := Ideal) v156 v2787) (k0_pay342 (F := Ideal) v2687))) (ix2 i c)
      = ohead W (fun e => oraw (fun _ i j => v2787 (ix2 i j)) (cW v156 2) (fun i d => v2687 (ix2 i d)) (fun _ e d => v2917 (ix2 e d)) 2 i e) (fun e => cW v159 2 i (hv 2 e)) e := by
  pointwise [k0_pay185, k0_pay339, k0_pay340, k0_pay341, k0_pay342, k0_pay343, k0_pay344]
  rw [dif_neg (show ¬ c.val < 256 by omega)]
  rw [dif_neg (show ¬ c.val - 256 < 256 by omega)]
  rw [dif_pos (show c.val - 256 - 256 < 256 by omega)]
  simp only [show c.val - 256 - 256 = e.val by omega, hg]
  obtain rfl : c = hv 2 e := Fin.ext (by simpa [hv] using hc)
  first | rfl | simp [ohead, oraw, cW, hk, hv, sg, eps, widthV]
/-- Chunk 2, head 3: the gated, normalised output. -/
theorem ob_2_3 (W : Wt) (v156 : Vec Ideal S256x1024 .bf16) (v159 : Vec Ideal S256x1024 .f32) (v2636 : Vec Ideal S1x256 .f32) (v2687 : Vec Ideal S64x512 .bf16) (v2793 : Vec Ideal S64x64 .bf16) (v2917 : Vec Ideal S256x128 .f32) (v2938 : Vec Ideal S256x128 .f32) (v2775 : Vec Ideal S64x64 .bf16) (v2875 : Vec Ideal S256x128 .f32) (v2781 : Vec Ideal S64x64 .bf16) (v2896 : Vec Ideal S256x128 .f32) (v2787 : Vec Ideal S64x64 .bf16) (hg : ∀ e : Fin 256, v2636 (ix2 (0 : Fin 1) e) = W.gng e) (i : Fin 64) (e : Fin 256) (c : Fin 1024) (hc : c.val = 768 + e.val) :
    (k0_pay344 (F := Ideal) (k0_pay343 (F := Ideal) v156 v159 (k0_pay185 (F := Ideal) v2636) v2687 v2793 v2917 v2938 (k0_pay339 (F := Ideal) v156 (k0_pay185 (F := Ideal) v2636) v2687 v2775 v2875) (k0_pay340 (F := Ideal) v156 (k0_pay185 (F := Ideal) v2636) v2687 v2781 v2896) (k0_pay341 (F := Ideal) v156 v2787) (k0_pay342 (F := Ideal) v2687))) (ix2 i c)
      = ohead W (fun e => oraw (fun _ i j => v2793 (ix2 i j)) (cW v156 2) (fun i d => v2687 (ix2 i d)) (fun _ e d => v2938 (ix2 e d)) 3 i e) (fun e => cW v159 2 i (hv 3 e)) e := by
  pointwise [k0_pay185, k0_pay339, k0_pay340, k0_pay341, k0_pay342, k0_pay343, k0_pay344]
  rw [dif_neg (show ¬ c.val < 256 by omega)]
  rw [dif_neg (show ¬ c.val - 256 < 256 by omega)]
  rw [dif_neg (show ¬ c.val - 256 - 256 < 256 by omega)]
  simp only [show c.val - 256 - 256 - 256 = e.val by omega, hg]
  obtain rfl : c = hv 3 e := Fin.ext (by simpa [hv] using hc)
  first | rfl | simp [ohead, oraw, cW, hk, hv, sg, eps, widthV]
/-- Chunk 3, head 0: the gated, normalised output. -/
theorem ob_3_0 (W : Wt) (v156 : Vec Ideal S256x1024 .bf16) (v159 : Vec Ideal S256x1024 .f32) (v2636 : Vec Ideal S1x256 .f32) (v2708 : Vec Ideal S64x512 .bf16) (v2817 : Vec Ideal S64x64 .bf16) (v2942 : Vec Ideal S256x128 .f32) (v2799 : Vec Ideal S64x64 .bf16) (v2879 : Vec Ideal S256x128 .f32) (v2805 : Vec Ideal S64x64 .bf16) (v2900 : Vec Ideal S256x128 .f32) (v2811 : Vec Ideal S64x64 .bf16) (v2921 : Vec Ideal S256x128 .f32) (hg : ∀ e : Fin 256, v2636 (ix2 (0 : Fin 1) e) = W.gng e) (i : Fin 64) (e : Fin 256) (c : Fin 1024) (hc : c.val = 0 + e.val) :
    (k0_pay349 (F := Ideal) v156 v159 (k0_pay185 (F := Ideal) v2636) v2708 v2817 v2942 (k0_pay345 (F := Ideal) v156 (k0_pay185 (F := Ideal) v2636) v2708 v2799 v2879) (k0_pay346 (F := Ideal) v156 (k0_pay185 (F := Ideal) v2636) v2708 v2805 v2900) (k0_pay347 (F := Ideal) v156 v2708 v2811 v2921) (k0_pay348 (F := Ideal) v156 v2708 v2811 v2921)) (ix2 i c)
      = ohead W (fun e => oraw (fun _ i j => v2799 (ix2 i j)) (cW v156 3) (fun i d => v2708 (ix2 i d)) (fun _ e d => v2879 (ix2 e d)) 0 i e) (fun e => cW v159 3 i (hv 0 e)) e := by
  pointwise [k0_pay185, k0_pay345, k0_pay346, k0_pay347, k0_pay348, k0_pay349]
  rw [dif_pos (show c.val < 256 by omega)]
  simp only [show c.val = e.val by omega, hg]
  obtain rfl : c = hv 0 e := Fin.ext (by simpa [hv] using hc)
  simp [ohead, oraw, cW, hk, hv, sg, eps, widthV]
/-- Chunk 3, head 1: the gated, normalised output. -/
theorem ob_3_1 (W : Wt) (v156 : Vec Ideal S256x1024 .bf16) (v159 : Vec Ideal S256x1024 .f32) (v2636 : Vec Ideal S1x256 .f32) (v2708 : Vec Ideal S64x512 .bf16) (v2817 : Vec Ideal S64x64 .bf16) (v2942 : Vec Ideal S256x128 .f32) (v2799 : Vec Ideal S64x64 .bf16) (v2879 : Vec Ideal S256x128 .f32) (v2805 : Vec Ideal S64x64 .bf16) (v2900 : Vec Ideal S256x128 .f32) (v2811 : Vec Ideal S64x64 .bf16) (v2921 : Vec Ideal S256x128 .f32) (hg : ∀ e : Fin 256, v2636 (ix2 (0 : Fin 1) e) = W.gng e) (i : Fin 64) (e : Fin 256) (c : Fin 1024) (hc : c.val = 256 + e.val) :
    (k0_pay349 (F := Ideal) v156 v159 (k0_pay185 (F := Ideal) v2636) v2708 v2817 v2942 (k0_pay345 (F := Ideal) v156 (k0_pay185 (F := Ideal) v2636) v2708 v2799 v2879) (k0_pay346 (F := Ideal) v156 (k0_pay185 (F := Ideal) v2636) v2708 v2805 v2900) (k0_pay347 (F := Ideal) v156 v2708 v2811 v2921) (k0_pay348 (F := Ideal) v156 v2708 v2811 v2921)) (ix2 i c)
      = ohead W (fun e => oraw (fun _ i j => v2805 (ix2 i j)) (cW v156 3) (fun i d => v2708 (ix2 i d)) (fun _ e d => v2900 (ix2 e d)) 1 i e) (fun e => cW v159 3 i (hv 1 e)) e := by
  pointwise [k0_pay185, k0_pay345, k0_pay346, k0_pay347, k0_pay348, k0_pay349]
  rw [dif_neg (show ¬ c.val < 256 by omega)]
  rw [dif_pos (show c.val - 256 < 256 by omega)]
  simp only [show c.val - 256 = e.val by omega, hg]
  obtain rfl : c = hv 1 e := Fin.ext (by simpa [hv] using hc)
  first | rfl | simp [ohead, oraw, cW, hk, hv, sg, eps, widthV]
/-- Chunk 3, head 2: the gated, normalised output. -/
theorem ob_3_2 (W : Wt) (v156 : Vec Ideal S256x1024 .bf16) (v159 : Vec Ideal S256x1024 .f32) (v2636 : Vec Ideal S1x256 .f32) (v2708 : Vec Ideal S64x512 .bf16) (v2817 : Vec Ideal S64x64 .bf16) (v2942 : Vec Ideal S256x128 .f32) (v2799 : Vec Ideal S64x64 .bf16) (v2879 : Vec Ideal S256x128 .f32) (v2805 : Vec Ideal S64x64 .bf16) (v2900 : Vec Ideal S256x128 .f32) (v2811 : Vec Ideal S64x64 .bf16) (v2921 : Vec Ideal S256x128 .f32) (hg : ∀ e : Fin 256, v2636 (ix2 (0 : Fin 1) e) = W.gng e) (i : Fin 64) (e : Fin 256) (c : Fin 1024) (hc : c.val = 512 + e.val) :
    (k0_pay349 (F := Ideal) v156 v159 (k0_pay185 (F := Ideal) v2636) v2708 v2817 v2942 (k0_pay345 (F := Ideal) v156 (k0_pay185 (F := Ideal) v2636) v2708 v2799 v2879) (k0_pay346 (F := Ideal) v156 (k0_pay185 (F := Ideal) v2636) v2708 v2805 v2900) (k0_pay347 (F := Ideal) v156 v2708 v2811 v2921) (k0_pay348 (F := Ideal) v156 v2708 v2811 v2921)) (ix2 i c)
      = ohead W (fun e => oraw (fun _ i j => v2811 (ix2 i j)) (cW v156 3) (fun i d => v2708 (ix2 i d)) (fun _ e d => v2921 (ix2 e d)) 2 i e) (fun e => cW v159 3 i (hv 2 e)) e := by
  pointwise [k0_pay185, k0_pay345, k0_pay346, k0_pay347, k0_pay348, k0_pay349]
  rw [dif_neg (show ¬ c.val < 256 by omega)]
  rw [dif_neg (show ¬ c.val - 256 < 256 by omega)]
  rw [dif_pos (show c.val - 256 - 256 < 256 by omega)]
  simp only [show c.val - 256 - 256 = e.val by omega, hg]
  obtain rfl : c = hv 2 e := Fin.ext (by simpa [hv] using hc)
  first | rfl | simp [ohead, oraw, cW, hk, hv, sg, eps, widthV]
/-- Chunk 3, head 3: the gated, normalised output. -/
theorem ob_3_3 (W : Wt) (v156 : Vec Ideal S256x1024 .bf16) (v159 : Vec Ideal S256x1024 .f32) (v2636 : Vec Ideal S1x256 .f32) (v2708 : Vec Ideal S64x512 .bf16) (v2817 : Vec Ideal S64x64 .bf16) (v2942 : Vec Ideal S256x128 .f32) (v2799 : Vec Ideal S64x64 .bf16) (v2879 : Vec Ideal S256x128 .f32) (v2805 : Vec Ideal S64x64 .bf16) (v2900 : Vec Ideal S256x128 .f32) (v2811 : Vec Ideal S64x64 .bf16) (v2921 : Vec Ideal S256x128 .f32) (hg : ∀ e : Fin 256, v2636 (ix2 (0 : Fin 1) e) = W.gng e) (i : Fin 64) (e : Fin 256) (c : Fin 1024) (hc : c.val = 768 + e.val) :
    (k0_pay349 (F := Ideal) v156 v159 (k0_pay185 (F := Ideal) v2636) v2708 v2817 v2942 (k0_pay345 (F := Ideal) v156 (k0_pay185 (F := Ideal) v2636) v2708 v2799 v2879) (k0_pay346 (F := Ideal) v156 (k0_pay185 (F := Ideal) v2636) v2708 v2805 v2900) (k0_pay347 (F := Ideal) v156 v2708 v2811 v2921) (k0_pay348 (F := Ideal) v156 v2708 v2811 v2921)) (ix2 i c)
      = ohead W (fun e => oraw (fun _ i j => v2817 (ix2 i j)) (cW v156 3) (fun i d => v2708 (ix2 i d)) (fun _ e d => v2942 (ix2 e d)) 3 i e) (fun e => cW v159 3 i (hv 3 e)) e := by
  pointwise [k0_pay185, k0_pay345, k0_pay346, k0_pay347, k0_pay348, k0_pay349]
  rw [dif_neg (show ¬ c.val < 256 by omega)]
  rw [dif_neg (show ¬ c.val - 256 < 256 by omega)]
  rw [dif_neg (show ¬ c.val - 256 - 256 < 256 by omega)]
  simp only [show c.val - 256 - 256 - 256 = e.val by omega, hg]
  obtain rfl : c = hv 3 e := Fin.ext (by simpa [hv] using hc)
  first | rfl | simp [ohead, oraw, cW, hk, hv, sg, eps, widthV]

end Cert.KernelIdeal.Mix
end
-- ==== Proof.MixBase.lean ====
module

public import proofs.«01_k».proof.Proof.Gen.KernelIdeal.Value
public import proofs.«01_k».proof.Proof.Rows
public import proofs.«01_k».proof.Proof.MixOb
public import proofs.«01_k».proof.Proof.MixGla
public import Idealize.ShloMosaic.Lib.Pointwise

@[expose] public section

set_option maxRecDepth 16384

noncomputable section

/-! The projections, the running decay and the result of one step, each read at an index. -/

namespace Cert.KernelIdeal.Mix

open Cert.KernelIdeal Cert.KernelIdeal.Gen Cert.MixSpec Idealize.ShloMosaic Idealize.ShloMosaic.TcCoe Idealize.ShloMosaic.Tactic

open Idealize.ShloMosaic (Ideal)

theorem exp_nonneg (x : EReal) : 0 ≤ Ideal.exp x := by
  induction x with
  | bot => exact le_refl _
  | top => exact le_top
  | coe r => exact EReal.coe_nonneg.mpr (Real.exp_pos r).le

theorem log1p_exp_ne_bot (x : EReal) : Ideal.log1p (Ideal.exp x) ≠ ⊥ := by
  induction x with
  | bot =>
    have h : Ideal.log1p (Ideal.exp ⊥) = Ideal.log ((1 : ℝ) : EReal) := by simp [Ideal.log1p]
    rw [h, Ideal.log_coe, if_neg (by norm_num)]
    exact EReal.coe_ne_bot _
  | top =>
    have h : Ideal.log1p (Ideal.exp ⊤) = ⊤ := by
      rw [Ideal.exp_top, Ideal.log1p, show (1 : EReal) + ⊤ = ⊤ from rfl]; rfl
    rw [h]; exact top_ne_bot
  | coe r =>
    have h : (1 : EReal) + Ideal.exp (r : EReal) = ((1 + Real.exp r : ℝ) : EReal) := by
      rw [Ideal.exp_coe]; norm_cast
    have : ¬ (1 + Real.exp r ≤ 0) := by have := Real.exp_pos r; linarith
    rw [Ideal.log1p, h, Ideal.log_coe, if_neg this]
    exact EReal.coe_ne_bot _

theorem lsg_ne_top (x : EReal) : lsg x ≠ ⊤ := by
  unfold lsg
  have h1 : min x 0 ≠ ⊤ := ne_of_lt (lt_of_le_of_lt (min_le_right _ _) EReal.zero_lt_top)
  have h2 := log1p_exp_ne_bot (0 - FloatOps.absf (F := Ideal) (φ := .f32) x)
  rw [sub_eq_add_neg]
  exact EReal.add_ne_top h1 (by simpa using h2)

theorem sixteenth_eq : sixteenth = ((1 / 16 : ℝ) : EReal) := by
  show Ideal.ofBits .f32 0x3D800000#32 = _
  simp [Ideal.ofBits, Ideal.ieee, -EReal.coe_mul]; norm_num

theorem gk_ne_top (W : Wt) (u : Fin 1024 → EReal) (d : Fin 512) : gk W u d ≠ ⊤ := by
  unfold gk
  rw [sixteenth_eq]
  generalize hx : lsg (gpre W u d) = x
  have hx' : x ≠ ⊤ := hx ▸ lsg_ne_top _
  induction x with
  | bot => rw [EReal.bot_mul_coe_of_pos (by norm_num)]; exact bot_ne_top
  | top => exact absurd rfl hx'
  | coe r => rw [← EReal.coe_mul]; exact EReal.coe_ne_top _

/-- A gate's three narrower parts add up to it, under a weight of zero or one. -/
theorem split3 (g : EReal) (hg : g ≠ ⊤) : g + (g - g) + (g - g - (g - g)) = g := by
  induction g with
  | bot => rfl
  | top => exact absurd rfl hg
  | coe r => rw [← EReal.coe_sub, sub_self, ← EReal.coe_sub]; simp

/-- The sum over a step's earlier rows of the same chunk is the chunk's running sum. -/
theorem sum_tri (g : Fin 256 → EReal) (n : Fin 4) (i : Fin 64) :
    (∑ x : Fin 256, (if (64 * n.val + i.val) / 64 = x.val / 64 ∧ x.val ≤ 64 * n.val + i.val then (1 : EReal) else 0) * g x)
      = ∑ j : Fin 64, if j ≤ i then g ⟨64 * n.val + j.val, by omega⟩ else 0 := by
  symm
  refine Finset.sum_of_injOn (fun j : Fin 64 => (⟨64 * n.val + j.val, by omega⟩ : Fin 256)) ?_ ?_ ?_ ?_
  · intro a _ b _ h
    have := congrArg Fin.val h
    exact Fin.ext (by simpa using this)
  · intro _ _; simp
  · intro x _ hx
    rw [if_neg, zero_mul]
    rintro ⟨h1, h2⟩
    exact hx ⟨⟨x.val - 64 * n.val, by omega⟩, by simp, Fin.ext (by simp; omega)⟩
  · intro j _
    by_cases h : j ≤ i
    · have := Fin.le_def.mp h
      rw [if_pos h, if_pos (by simp; omega), one_mul]
    · have := fun q => h (Fin.le_def.mpr q)
      rw [if_neg h, if_neg (by simp; omega), zero_mul]

variable (W : Wt)

/-- A row's running decays: three products with the table add up to the chunk's running sum. -/
theorem sum_split (g : Fin 256 → EReal) (hg : ∀ x, g x ≠ ⊤) (n : Fin 4) (i : Fin 64) (t : Fin 256 → EReal)
    (ht : ∀ x, t x = if (64 * n.val + i.val) / 64 = x.val / 64 ∧ x.val ≤ 64 * n.val + i.val then (1 : EReal) else 0) :
    (∑ x, t x * g x) + (∑ x, t x * (g x - g x)) + (∑ x, t x * (g x - g x - (g x - g x)))
      = ∑ j : Fin 64, if j ≤ i then g ⟨64 * n.val + j.val, by omega⟩ else 0 := by
  rw [← sum_tri, ← Finset.sum_add_distrib, ← Finset.sum_add_distrib]
  refine Finset.sum_congr rfl fun x _ => ?_
  rw [ht]
  by_cases h : (64 * n.val + i.val) / 64 = x.val / 64 ∧ x.val ≤ 64 * n.val + i.val
  · rw [if_pos h, one_mul, one_mul, one_mul, split3 _ (hg x)]
  · rw [if_neg h, zero_mul, zero_mul, zero_mul]; simp

/-- The normalised row. -/
theorem u_pay (v16 : Vec Ideal S256x1024 .f32) (v18 : Vec Ideal S1x1024 .f32) (hn : ∀ c, v18 (ix2 (0 : Fin 1) c) = W.n1g c) (r : Fin 256) (c : Fin 1024) :
    k0_pay7 (F := Ideal) v16 v18 (ix2 r c) = urow W (fun k => v16 (ix2 r k)) c := by
  pointwise [k0_pay7]
  rw [hn]
  first | rfl | simp [qd, ki, ke, dec, att, kv, ohead, oraw, cB, cW, hk, hv]
/-- A projection of the step's rows. -/
theorem q_pay (v32 : Vec Ideal S256x1024 .bf16) (v147 : Vec Ideal S1024x512 .bf16) (hw : ∀ (k : Fin 1024) (j : Fin 512), v147 (ix2 k j) = W.wi k ⟨2048 + j.val, by omega⟩) (r : Fin 256) (j : Fin 512) :
    k0_pay18 (F := Ideal) v32 v147 (ix2 r j) = prj W (fun k => v32 (ix2 r k)) 2048 (by omega) j := by
  pointwise [k0_pay18]
  simp only [hw]
  first | rfl | simp [qd, ki, ke, dec, att, kv, ohead, oraw, cB, cW, hk, hv]
/-- A projection of the step's rows. -/
theorem k_pay (v32 : Vec Ideal S256x1024 .bf16) (v150 : Vec Ideal S1024x512 .bf16) (hw : ∀ (k : Fin 1024) (j : Fin 512), v150 (ix2 k j) = W.wi k ⟨2560 + j.val, by omega⟩) (r : Fin 256) (j : Fin 512) :
    k0_pay19 (F := Ideal) v32 v150 (ix2 r j) = prj W (fun k => v32 (ix2 r k)) 2560 (by omega) j := by
  pointwise [k0_pay19]
  simp only [hw]
  first | rfl | simp [qd, ki, ke, dec, att, kv, ohead, oraw, cB, cW, hk, hv]
/-- A projection of the step's rows. -/
theorem v_pay (v32 : Vec Ideal S256x1024 .bf16) (v153 : Vec Ideal S1024x1024 .bf16) (hw : ∀ (k : Fin 1024) (j : Fin 1024), v153 (ix2 k j) = W.wi k ⟨3072 + j.val, by omega⟩) (r : Fin 256) (j : Fin 1024) :
    k0_pay20 (F := Ideal) v32 v153 (ix2 r j) = prj W (fun k => v32 (ix2 r k)) 3072 (by omega) j := by
  pointwise [k0_pay20]
  simp only [hw]
  first | rfl | simp [qd, ki, ke, dec, att, kv, ohead, oraw, cB, cW, hk, hv]
/-- A projection of the step's rows. -/
theorem r_pay (v32 : Vec Ideal S256x1024 .bf16) (v157 : Vec Ideal S1024x1024 .bf16) (hw : ∀ (k : Fin 1024) (j : Fin 1024), v157 (ix2 k j) = W.wi k ⟨4096 + j.val, by omega⟩) (r : Fin 256) (j : Fin 1024) :
    k0_pay21 (F := Ideal) v32 v157 (ix2 r j) = prj W (fun k => v32 (ix2 r k)) 4096 (by omega) j := by
  pointwise [k0_pay21]
  simp only [hw]
  first | rfl | simp [qd, ki, ke, dec, att, kv, ohead, oraw, cB, cW, hk, hv]
/-- The gated unit, one group of columns. -/
theorem glu_pay_0 (v32 : Vec Ideal S256x1024 .bf16) (v72 v75 : Vec Ideal S1024x256 .bf16) (ha : ∀ (k : Fin 1024) (j : Fin 256), v72 (ix2 k j) = W.wi k ⟨0 + j.val, by omega⟩) (hb : ∀ (k : Fin 1024) (j : Fin 256), v75 (ix2 k j) = W.wi k ⟨1024 + j.val, by omega⟩) (r : Fin 256) (j : Fin 256) :
    (k0_pay11 (F := Ideal) v32 (k0_pay10 (F := Ideal) v32 v72) v75) (ix2 r j) = glu W (fun k => v32 (ix2 r k)) ⟨0 + j.val, by omega⟩ := by
  pointwise [k0_pay10, k0_pay11]
  simp only [ha, hb]
  simp [glu, prj, sg, Nat.add_assoc, ← Nat.add_assoc]
/-- The gated unit, one group of columns. -/
theorem glu_pay_1 (v32 : Vec Ideal S256x1024 .bf16) (v89 v92 : Vec Ideal S1024x256 .bf16) (ha : ∀ (k : Fin 1024) (j : Fin 256), v89 (ix2 k j) = W.wi k ⟨256 + j.val, by omega⟩) (hb : ∀ (k : Fin 1024) (j : Fin 256), v92 (ix2 k j) = W.wi k ⟨1280 + j.val, by omega⟩) (r : Fin 256) (j : Fin 256) :
    (k0_pay12 (F := Ideal) v32 v89 v92) (ix2 r j) = glu W (fun k => v32 (ix2 r k)) ⟨256 + j.val, by omega⟩ := by
  pointwise [k0_pay12]
  simp only [ha, hb]
  simp [glu, prj, sg, Nat.add_assoc, ← Nat.add_assoc]
/-- The gated unit, one group of columns. -/
theorem glu_pay_2 (v32 : Vec Ideal S256x1024 .bf16) (v106 v109 : Vec Ideal S1024x256 .bf16) (ha : ∀ (k : Fin 1024) (j : Fin 256), v106 (ix2 k j) = W.wi k ⟨512 + j.val, by omega⟩) (hb : ∀ (k : Fin 1024) (j : Fin 256), v109 (ix2 k j) = W.wi k ⟨1536 + j.val, by omega⟩) (r : Fin 256) (j : Fin 256) :
    (k0_pay15 (F := Ideal) v32 (k0_pay13 (F := Ideal) v32 v106) (k0_pay14 (F := Ideal) v109) (constant (F := Ideal) S256x256 .f32 0x00000000#32)) (ix2 r j) = glu W (fun k => v32 (ix2 r k)) ⟨512 + j.val, by omega⟩ := by
  pointwise [k0_pay13, k0_pay14, k0_pay15]
  simp only [ha, hb]
  simp [glu, prj, sg, Nat.add_assoc, ← Nat.add_assoc]
/-- The gated unit, one group of columns. -/
theorem glu_pay_3 (v32 : Vec Ideal S256x1024 .bf16) (v123 v126 : Vec Ideal S1024x256 .bf16) (ha : ∀ (k : Fin 1024) (j : Fin 256), v123 (ix2 k j) = W.wi k ⟨768 + j.val, by omega⟩) (hb : ∀ (k : Fin 1024) (j : Fin 256), v126 (ix2 k j) = W.wi k ⟨1792 + j.val, by omega⟩) (r : Fin 256) (j : Fin 256) :
    (k0_pay16 (F := Ideal) v32 v123 v126) (ix2 r j) = glu W (fun k => v32 (ix2 r k)) ⟨768 + j.val, by omega⟩ := by
  pointwise [k0_pay16]
  simp only [ha, hb]
  simp [glu, prj, sg, Nat.add_assoc, ← Nat.add_assoc]
/-- The running decays of a chunk. -/
theorem b_pay (v32 : Vec Ideal S256x1024 .bf16) (v68 : Vec Ideal S1024x128 .bf16) (v140 : Vec Ideal S128x512 .bf16) (v143 : Vec Ideal S1x512 .f32) (v194 : Vec Ideal S256x256 .bf16) (hw : ∀ (k : Fin 1024) (j : Fin 128), v68 (ix2 k j) = W.wi k ⟨7168 + j.val, by omega⟩) (hu : ∀ j d, v140 (ix2 j d) = W.wu j d) (hb : ∀ d, v143 (ix2 (0 : Fin 1) d) = W.bg d) (ht : ∀ a b : Fin 256, v194 (ix2 a b) = if a.val / 64 = b.val / 64 ∧ b.val ≤ a.val then (1 : EReal) else 0) (n : Fin 4) (i : Fin 64) (d : Fin 512) :
    cB (k0_pay25 (F := Ideal) (k0_pay17 (F := Ideal) (k0_pay9 (F := Ideal) v32 v68) v140 v143) v194) n i d = csum (fun i => gk W (fun k => v32 (ix2 ⟨64 * n.val + i.val, by omega⟩ k))) i d := by
  have hg : ∀ x : Fin 256, k0_pay17 (F := Ideal) (k0_pay9 (F := Ideal) v32 v68) v140 v143 (ix2 x d) = gpre W (fun k => v32 (ix2 x k)) d := by
    intro x
    pointwise [k0_pay17, k0_pay9]
    simp only [hw, hu, hb]
    rfl
  have h := sum_split (fun x => gk W (fun k => v32 (ix2 x k)) d) (fun x => gk_ne_top W _ d) n i
    (fun x => v194 (ix2 ⟨64 * n.val + i.val, by omega⟩ x)) (fun x => ht _ x)
  refine Eq.trans ?_ h
  unfold cB
  generalize k0_pay17 (F := Ideal) (k0_pay9 (F := Ideal) v32 v68) v140 v143 = z at hg ⊢
  pointwise [k0_pay25]
  simp only [hg]
  first | rfl | simp [qd, ki, ke, dec, att, kv, ohead, oraw, cB, cW, hk, hv]
/-- The result row. -/
theorem out_pay (v34 : Vec Ideal S256x1024 .f32) (v51 v55 : Vec Ideal S1x1024 .f32) (v160 v33 : Vec Ideal S256x1024 .bf16) (v161 v207 v216 v164 v174 : Vec Ideal S1024x1024 .bf16) (v214 : Vec Ideal S256x1024 .f32) (hlg : ∀ c, v51 (ix2 (0 : Fin 1) c) = W.lng c) (hlb : ∀ c, v55 (ix2 (0 : Fin 1) c) = W.lnb c) (hgo : ∀ k c, v161 (ix2 k c) = W.wgo k c) (hco : ∀ k c, v207 (ix2 k c) = W.wco k c) (ho : ∀ k c, v216 (ix2 k c) = W.wo k c) (ha : ∀ (k c : Fin 1024), v164 (ix2 k c) = W.wi k ⟨5120 + c.val, by omega⟩) (hb : ∀ (k c : Fin 1024), v174 (ix2 k c) = W.wi k ⟨6144 + c.val, by omega⟩) (r : Fin 256) (c : Fin 1024) :
    (k0_pay26 (F := Ideal) (k0_pay8 (F := Ideal) v34 v51 v55) (k0_pay22 (F := Ideal) v160 v161) (k0_pay23 (F := Ideal) v33 v164) (k0_pay24 (F := Ideal) v33 v174) (Scalar.ofBits (F := Ideal) .f32 0x3F800000#32) v207 v214 v216) (ix2 r c) = result W (fun k => v214 (ix2 r k)) (fun k => v33 (ix2 r k)) (fun k => v34 (ix2 r k)) (fun k => v160 (ix2 r k)) c := by
  pointwise [k0_pay8, k0_pay22, k0_pay23, k0_pay24, k0_pay26]
  simp only [hlg, hlb, hgo, hco, ho, ha, hb]
  first | rfl | simp [qd, ki, ke, dec, att, kv, ohead, oraw, cB, cW, hk, hv]

end Cert.KernelIdeal.Mix
end
-- ==== Proof.MixStep.lean ====
module

public import proofs.«01_k».proof.Proof.Gen.KernelIdeal.Value
public import proofs.«01_k».proof.Proof.Rows
public import proofs.«01_k».proof.Proof.MixBase
public import Idealize.ShloMosaic.Lib.Pointwise

@[expose] public section

set_option maxRecDepth 16384

noncomputable section

/-! One step of the attention branch over its running decays, queries, keys, values, gates and states. -/

namespace Cert.KernelIdeal.Mix

open Cert.KernelIdeal Cert.KernelIdeal.Gen Cert.MixSpec Idealize.ShloMosaic Idealize.ShloMosaic.TcCoe Idealize.ShloMosaic.Tactic

/-- The states after chunk `n` of a step. -/
def stp (b k : Vec Ideal S256x512 .f32) (v : Vec Ideal S256x1024 .bf16) (n : Fin 4) (S : Fin 4 → Fin 256 → Fin 128 → EReal) :
    Fin 4 → Fin 256 → Fin 128 → EReal :=
  nxt (dec (cB b n)) (kv (cW v n) (ke (cB b n) (cB k n))) S

/-- The states before chunk `n` of a step. -/
def sts (b k : Vec Ideal S256x512 .f32) (v : Vec Ideal S256x1024 .bf16) (S : Fin 4 → Fin 256 → Fin 128 → EReal) :
    ℕ → Fin 4 → Fin 256 → Fin 128 → EReal
  | 0 => S
  | 1 => stp b k v 0 S
  | 2 => stp b k v 1 (stp b k v 0 S)
  | 3 => stp b k v 2 (stp b k v 1 (stp b k v 0 S))
  | _ => stp b k v 3 (stp b k v 2 (stp b k v 1 (stp b k v 0 S)))

variable (W : Wt) (v206 v149 v152 : Vec Ideal S256x512 .f32) (v156 : Vec Ideal S256x1024 .bf16) (v159 : Vec Ideal S256x1024 .f32)
  (v2636 : Vec Ideal S1x256 .f32) (v2866 v2887 v2908 v2929 : Vec Ideal S1x256x128 .f32) (S : Fin 4 → Fin 256 → Fin 128 → EReal)

/-- The stored state of head 0. -/
def sp0 : FVec Ideal S1x256x128 .f32 :=
  (k0_pay253 (F := Ideal) v156 (k0_pay191 (F := Ideal) (k0_pay187 (F := Ideal) v206)) (k0_pay197 (F := Ideal) v206) (k0_pay203 (F := Ideal) v206) (k0_pay210 (F := Ideal) v152 (k0_pay204 (F := Ideal) v206) (k0_pay205 (F := Ideal) v206)) (k0_pay211 (F := Ideal) (k0_pay205 (F := Ideal) v206)) (k0_pay232 (F := Ideal) v156 (k0_pay190 (F := Ideal) v152 v206)) (k0_pay236 (F := Ideal) v156 (k0_pay196 (F := Ideal) v152 v206)) (k0_pay240 (F := Ideal) v156 (k0_pay202 (F := Ideal) v152 v206)) v2866)

/-- The stored state of head 1. -/
def sp1 : FVec Ideal S1x256x128 .f32 :=
  (k0_pay259 (F := Ideal) (k0_pay203 (F := Ideal) v206) (k0_pay211 (F := Ideal) (k0_pay205 (F := Ideal) v206)) (k0_pay237 (F := Ideal) v156 (k0_pay196 (F := Ideal) v152 v206)) (k0_pay241 (F := Ideal) v156 (k0_pay202 (F := Ideal) v152 v206)) (k0_pay246 (F := Ideal) v156 (k0_pay210 (F := Ideal) v152 (k0_pay204 (F := Ideal) v206) (k0_pay205 (F := Ideal) v206))) (k0_pay255 (F := Ideal) (k0_pay191 (F := Ideal) (k0_pay187 (F := Ideal) v206)) (k0_pay233 (F := Ideal) v156 (k0_pay190 (F := Ideal) v152 v206)) v2887) (k0_pay256 (F := Ideal) (k0_pay197 (F := Ideal) v206)))

/-- The stored state of head 2. -/
def sp2 : FVec Ideal S1x256x128 .f32 :=
  (k0_pay264 (F := Ideal) (k0_pay191 (F := Ideal) (k0_pay187 (F := Ideal) v206)) (k0_pay197 (F := Ideal) v206) (k0_pay203 (F := Ideal) v206) (k0_pay211 (F := Ideal) (k0_pay205 (F := Ideal) v206)) (k0_pay234 (F := Ideal) v156 (k0_pay190 (F := Ideal) v152 v206)) (k0_pay238 (F := Ideal) v156 (k0_pay196 (F := Ideal) v152 v206)) (k0_pay244 (F := Ideal) (k0_pay242 (F := Ideal) v156) (k0_pay243 (F := Ideal) (k0_pay202 (F := Ideal) v152 v206))) (k0_pay247 (F := Ideal) v156 (k0_pay210 (F := Ideal) v152 (k0_pay204 (F := Ideal) v206) (k0_pay205 (F := Ideal) v206))) v2908)

/-- The stored state of head 3. -/
def sp3 : FVec Ideal S1x256x128 .f32 :=
  (k0_pay270 (F := Ideal) (k0_pay211 (F := Ideal) (k0_pay205 (F := Ideal) v206)) (k0_pay245 (F := Ideal) v156 (k0_pay202 (F := Ideal) v152 v206)) (k0_pay248 (F := Ideal) v156 (k0_pay210 (F := Ideal) v152 (k0_pay204 (F := Ideal) v206) (k0_pay205 (F := Ideal) v206))) (k0_pay267 (F := Ideal) (k0_pay191 (F := Ideal) (k0_pay187 (F := Ideal) v206)) (k0_pay197 (F := Ideal) v206) (k0_pay235 (F := Ideal) v156 (k0_pay190 (F := Ideal) v152 v206)) (k0_pay239 (F := Ideal) v156 (k0_pay196 (F := Ideal) v152 v206)) v2929) (k0_pay268 (F := Ideal) (k0_pay203 (F := Ideal) v206)))

/-- The stored rows of chunk 0. -/
def pb0 : FVec Ideal S64x1024 .bf16 :=
  (k0_pay330 (F := Ideal) (k0_pay327 (F := Ideal) v156 (k0_pay185 (F := Ideal) v2636) (k0_pay188 (F := Ideal) v149 v206) (k0_pay214 (F := Ideal) k0_pay184 (k0_pay188 (F := Ideal) v149 v206) (k0_pay189 (F := Ideal) v152 v206)) (k0_pay215 (F := Ideal) k0_pay184 (k0_pay188 (F := Ideal) v149 v206) (k0_pay189 (F := Ideal) v152 v206)) (k0_pay260 (F := Ideal) v2908) (k0_pay265 (F := Ideal) v2929) (k0_pay324 (F := Ideal) v156 (k0_pay185 (F := Ideal) v2636) (k0_pay188 (F := Ideal) v149 v206) (k0_pay212 (F := Ideal) k0_pay184 (k0_pay188 (F := Ideal) v149 v206) (k0_pay189 (F := Ideal) v152 v206)) (k0_pay249 (F := Ideal) v2866)) (k0_pay325 (F := Ideal) v156 (k0_pay188 (F := Ideal) v149 v206) (k0_pay213 (F := Ideal) k0_pay184 (k0_pay188 (F := Ideal) v149 v206) (k0_pay189 (F := Ideal) v152 v206)) (k0_pay254 (F := Ideal) v2887)) (k0_pay326 (F := Ideal) v156 (k0_pay188 (F := Ideal) v149 v206) (k0_pay213 (F := Ideal) k0_pay184 (k0_pay188 (F := Ideal) v149 v206) (k0_pay189 (F := Ideal) v152 v206)) (k0_pay254 (F := Ideal) v2887)) (Scalar.ofBits (F := Ideal) .f32 0x43800000#32)) (k0_pay328 (F := Ideal) v159) (k0_pay329 (F := Ideal)))

/-- The stored rows of chunk 1. -/
def pb1 : FVec Ideal S64x1024 .bf16 :=
  (k0_pay338 (F := Ideal) (k0_pay334 (F := Ideal) v156 (k0_pay185 (F := Ideal) v2636) (k0_pay194 (F := Ideal) v149 v206) (k0_pay220 (F := Ideal) k0_pay184 (k0_pay218 (F := Ideal) (k0_pay194 (F := Ideal) v149 v206)) (k0_pay219 (F := Ideal) (k0_pay195 (F := Ideal) v152 v206))) (k0_pay221 (F := Ideal) k0_pay184 (k0_pay194 (F := Ideal) v149 v206) (k0_pay195 (F := Ideal) v152 v206)) (k0_pay261 (F := Ideal) (k0_pay191 (F := Ideal) (k0_pay187 (F := Ideal) v206)) (k0_pay234 (F := Ideal) v156 (k0_pay190 (F := Ideal) v152 v206)) v2908) (k0_pay266 (F := Ideal) (k0_pay191 (F := Ideal) (k0_pay187 (F := Ideal) v206)) (k0_pay235 (F := Ideal) v156 (k0_pay190 (F := Ideal) v152 v206)) v2929) (k0_pay331 (F := Ideal) v156 (k0_pay185 (F := Ideal) v2636) (k0_pay194 (F := Ideal) v149 v206) (k0_pay216 (F := Ideal) k0_pay184 (k0_pay194 (F := Ideal) v149 v206) (k0_pay195 (F := Ideal) v152 v206)) (k0_pay250 (F := Ideal) (k0_pay191 (F := Ideal) (k0_pay187 (F := Ideal) v206)) (k0_pay232 (F := Ideal) v156 (k0_pay190 (F := Ideal) v152 v206)) v2866)) (k0_pay332 (F := Ideal) v156 (k0_pay194 (F := Ideal) v149 v206) (k0_pay217 (F := Ideal) k0_pay184 (k0_pay194 (F := Ideal) v149 v206) (k0_pay195 (F := Ideal) v152 v206)) (k0_pay255 (F := Ideal) (k0_pay191 (F := Ideal) (k0_pay187 (F := Ideal) v206)) (k0_pay233 (F := Ideal) v156 (k0_pay190 (F := Ideal) v152 v206)) v2887)) (k0_pay333 (F := Ideal) v156 (k0_pay194 (F := Ideal) v149 v206) (k0_pay217 (F := Ideal) k0_pay184 (k0_pay194 (F := Ideal) v149 v206) (k0_pay195 (F := Ideal) v152 v206)) (k0_pay255 (F := Ideal) (k0_pay191 (F := Ideal) (k0_pay187 (F := Ideal) v206)) (k0_pay233 (F := Ideal) v156 (k0_pay190 (F := Ideal) v152 v206)) v2887))) (k0_pay335 (F := Ideal) v159) (k0_pay336 (F := Ideal) v159) (k0_pay337 (F := Ideal)))

/-- The stored rows of chunk 2. -/
def pb2 : FVec Ideal S64x1024 .bf16 :=
  (k0_pay344 (F := Ideal) (k0_pay343 (F := Ideal) v156 v159 (k0_pay185 (F := Ideal) v2636) (k0_pay200 (F := Ideal) v149 v206) (k0_pay225 (F := Ideal) k0_pay184 (k0_pay200 (F := Ideal) v149 v206) (k0_pay201 (F := Ideal) v152 v206)) (k0_pay262 (F := Ideal) (k0_pay191 (F := Ideal) (k0_pay187 (F := Ideal) v206)) (k0_pay197 (F := Ideal) v206) (k0_pay234 (F := Ideal) v156 (k0_pay190 (F := Ideal) v152 v206)) (k0_pay238 (F := Ideal) v156 (k0_pay196 (F := Ideal) v152 v206)) v2908) (k0_pay267 (F := Ideal) (k0_pay191 (F := Ideal) (k0_pay187 (F := Ideal) v206)) (k0_pay197 (F := Ideal) v206) (k0_pay235 (F := Ideal) v156 (k0_pay190 (F := Ideal) v152 v206)) (k0_pay239 (F := Ideal) v156 (k0_pay196 (F := Ideal) v152 v206)) v2929) (k0_pay339 (F := Ideal) v156 (k0_pay185 (F := Ideal) v2636) (k0_pay200 (F := Ideal) v149 v206) (k0_pay222 (F := Ideal) k0_pay184 (k0_pay200 (F := Ideal) v149 v206) (k0_pay201 (F := Ideal) v152 v206)) (k0_pay251 (F := Ideal) (k0_pay191 (F := Ideal) (k0_pay187 (F := Ideal) v206)) (k0_pay197 (F := Ideal) v206) (k0_pay232 (F := Ideal) v156 (k0_pay190 (F := Ideal) v152 v206)) (k0_pay236 (F := Ideal) v156 (k0_pay196 (F := Ideal) v152 v206)) v2866)) (k0_pay340 (F := Ideal) v156 (k0_pay185 (F := Ideal) v2636) (k0_pay200 (F := Ideal) v149 v206) (k0_pay223 (F := Ideal) k0_pay184 (k0_pay200 (F := Ideal) v149 v206) (k0_pay201 (F := Ideal) v152 v206)) (k0_pay257 (F := Ideal) (k0_pay237 (F := Ideal) v156 (k0_pay196 (F := Ideal) v152 v206)) (k0_pay255 (F := Ideal) (k0_pay191 (F := Ideal) (k0_pay187 (F := Ideal) v206)) (k0_pay233 (F := Ideal) v156 (k0_pay190 (F := Ideal) v152 v206)) v2887) (k0_pay256 (F := Ideal) (k0_pay197 (F := Ideal) v206)))) (k0_pay341 (F := Ideal) v156 (k0_pay224 (F := Ideal) k0_pay184 (k0_pay200 (F := Ideal) v149 v206) (k0_pay201 (F := Ideal) v152 v206))) (k0_pay342 (F := Ideal) (k0_pay200 (F := Ideal) v149 v206))))

/-- The stored rows of chunk 3. -/
def pb3 : FVec Ideal S64x1024 .bf16 :=
  (k0_pay349 (F := Ideal) v156 v159 (k0_pay185 (F := Ideal) v2636) (k0_pay206 (F := Ideal) v149 v206) (k0_pay231 (F := Ideal) k0_pay184 (k0_pay206 (F := Ideal) v149 v206) (k0_pay209 (F := Ideal) (k0_pay207 (F := Ideal) v152) (k0_pay208 (F := Ideal) v206))) (k0_pay269 (F := Ideal) (k0_pay245 (F := Ideal) v156 (k0_pay202 (F := Ideal) v152 v206)) (k0_pay267 (F := Ideal) (k0_pay191 (F := Ideal) (k0_pay187 (F := Ideal) v206)) (k0_pay197 (F := Ideal) v206) (k0_pay235 (F := Ideal) v156 (k0_pay190 (F := Ideal) v152 v206)) (k0_pay239 (F := Ideal) v156 (k0_pay196 (F := Ideal) v152 v206)) v2929) (k0_pay268 (F := Ideal) (k0_pay203 (F := Ideal) v206))) (k0_pay345 (F := Ideal) v156 (k0_pay185 (F := Ideal) v2636) (k0_pay206 (F := Ideal) v149 v206) (k0_pay226 (F := Ideal) k0_pay184 (k0_pay206 (F := Ideal) v149 v206) (k0_pay209 (F := Ideal) (k0_pay207 (F := Ideal) v152) (k0_pay208 (F := Ideal) v206))) (k0_pay252 (F := Ideal) (k0_pay191 (F := Ideal) (k0_pay187 (F := Ideal) v206)) (k0_pay197 (F := Ideal) v206) (k0_pay203 (F := Ideal) v206) (k0_pay232 (F := Ideal) v156 (k0_pay190 (F := Ideal) v152 v206)) (k0_pay236 (F := Ideal) v156 (k0_pay196 (F := Ideal) v152 v206)) (k0_pay240 (F := Ideal) v156 (k0_pay202 (F := Ideal) v152 v206)) v2866)) (k0_pay346 (F := Ideal) v156 (k0_pay185 (F := Ideal) v2636) (k0_pay206 (F := Ideal) v149 v206) (k0_pay229 (F := Ideal) k0_pay184 (k0_pay227 (F := Ideal) (k0_pay206 (F := Ideal) v149 v206) (k0_pay209 (F := Ideal) (k0_pay207 (F := Ideal) v152) (k0_pay208 (F := Ideal) v206))) (k0_pay228 (F := Ideal))) (k0_pay258 (F := Ideal) (k0_pay203 (F := Ideal) v206) (k0_pay237 (F := Ideal) v156 (k0_pay196 (F := Ideal) v152 v206)) (k0_pay241 (F := Ideal) v156 (k0_pay202 (F := Ideal) v152 v206)) (k0_pay255 (F := Ideal) (k0_pay191 (F := Ideal) (k0_pay187 (F := Ideal) v206)) (k0_pay233 (F := Ideal) v156 (k0_pay190 (F := Ideal) v152 v206)) v2887) (k0_pay256 (F := Ideal) (k0_pay197 (F := Ideal) v206)))) (k0_pay347 (F := Ideal) v156 (k0_pay206 (F := Ideal) v149 v206) (k0_pay230 (F := Ideal) k0_pay184 (k0_pay206 (F := Ideal) v149 v206) (k0_pay209 (F := Ideal) (k0_pay207 (F := Ideal) v152) (k0_pay208 (F := Ideal) v206))) (k0_pay263 (F := Ideal) (k0_pay191 (F := Ideal) (k0_pay187 (F := Ideal) v206)) (k0_pay197 (F := Ideal) v206) (k0_pay203 (F := Ideal) v206) (k0_pay234 (F := Ideal) v156 (k0_pay190 (F := Ideal) v152 v206)) (k0_pay238 (F := Ideal) v156 (k0_pay196 (F := Ideal) v152 v206)) (k0_pay244 (F := Ideal) (k0_pay242 (F := Ideal) v156) (k0_pay243 (F := Ideal) (k0_pay202 (F := Ideal) v152 v206))) v2908)) (k0_pay348 (F := Ideal) v156 (k0_pay206 (F := Ideal) v149 v206) (k0_pay230 (F := Ideal) k0_pay184 (k0_pay206 (F := Ideal) v149 v206) (k0_pay209 (F := Ideal) (k0_pay207 (F := Ideal) v152) (k0_pay208 (F := Ideal) v206))) (k0_pay263 (F := Ideal) (k0_pay191 (F := Ideal) (k0_pay187 (F := Ideal) v206)) (k0_pay197 (F := Ideal) v206) (k0_pay203 (F := Ideal) v206) (k0_pay234 (F := Ideal) v156 (k0_pay190 (F := Ideal) v152 v206)) (k0_pay238 (F := Ideal) v156 (k0_pay196 (F := Ideal) v152 v206)) (k0_pay244 (F := Ideal) (k0_pay242 (F := Ideal) v156) (k0_pay243 (F := Ideal) (k0_pay202 (F := Ideal) v152 v206))) v2908)))

/-- Head 0: the state after the step. -/
theorem state_0 (h0 : ∀ e d, v2866 (ix3 (0 : Fin 1) e d) = S 0 e d) (e : Fin 256) (d : Fin 128) :
    sp0 v206 v152 v156 v2866 (ix3 (0 : Fin 1) e d) = sts v206 v152 v156 S 4 0 e d := by
  unfold sp0
  rw [st_4_0]
  simp only [dec_0, ke_0, kv_0_0, dec_1, ke_1, kv_1_0, dec_2, ke_2, kv_2_0, dec_3, ke_3, h0]
  simp only [sts, stp, nxt]
/-- Head 1: the state after the step. -/
theorem state_1 (h0 : ∀ e d, v2887 (ix3 (0 : Fin 1) e d) = S 1 e d) (e : Fin 256) (d : Fin 128) :
    sp1 v206 v152 v156 v2887 (ix3 (0 : Fin 1) e d) = sts v206 v152 v156 S 4 1 e d := by
  unfold sp1
  rw [st_4_1]
  simp only [dec_0, ke_0, kv_0_1, dec_1, ke_1, kv_1_1, dec_2, ke_2, kv_2_1, dec_3, ke_3, kv_3_1, h0]
  simp only [sts, stp, nxt]
/-- Head 2: the state after the step. -/
theorem state_2 (h0 : ∀ e d, v2908 (ix3 (0 : Fin 1) e d) = S 2 e d) (e : Fin 256) (d : Fin 128) :
    sp2 v206 v152 v156 v2908 (ix3 (0 : Fin 1) e d) = sts v206 v152 v156 S 4 2 e d := by
  unfold sp2
  rw [st_4_2]
  simp only [dec_0, ke_0, kv_0_2, dec_1, ke_1, kv_1_2, dec_2, ke_2, kv_2_2, dec_3, ke_3, kv_3_2, h0]
  simp only [sts, stp, nxt]
/-- Head 3: the state after the step. -/
theorem state_3 (h0 : ∀ e d, v2929 (ix3 (0 : Fin 1) e d) = S 3 e d) (e : Fin 256) (d : Fin 128) :
    sp3 v206 v152 v156 v2929 (ix3 (0 : Fin 1) e d) = sts v206 v152 v156 S 4 3 e d := by
  unfold sp3
  rw [st_4_3]
  simp only [dec_0, ke_0, kv_0_3, dec_1, ke_1, kv_1_3, dec_2, ke_2, kv_2_3, dec_3, ke_3, kv_3_3, h0]
  simp only [sts, stp, nxt]
variable (hg : ∀ e : Fin 256, v2636 (ix2 (0 : Fin 1) e) = W.gng e) (h0 : ∀ e d, v2866 (ix3 (0 : Fin 1) e d) = S 0 e d) (h1 : ∀ e d, v2887 (ix3 (0 : Fin 1) e d) = S 1 e d) (h2 : ∀ e d, v2908 (ix3 (0 : Fin 1) e d) = S 2 e d) (h3 : ∀ e d, v2929 (ix3 (0 : Fin 1) e d) = S 3 e d)
include hg h0 h1 h2 h3

/-- Chunk 0, head 0. -/
theorem heads_0_0 (i : Fin 64) (e : Fin 256) (c : Fin 1024) (hc : c.val = 0 + e.val) :
    pb0 v206 v149 v152 v156 v159 v2636 v2866 v2887 v2908 v2929 (ix2 i c)
      = obuf W (cB v206 0) (cB v149 0) (cB v152 0) (cW v156 0) (cW v159 0) (sts v206 v152 v156 S 0) 0 i e := by
  unfold pb0
  rw [ob_0_0 W (hg := hg) (hc := hc)]
  simp only [qd_0, ki_0, att_0_0, st_0_0, h0]
  simp only [obuf, ohead, oraw, sts, stp, nxt]
/-- Chunk 0, head 1. -/
theorem heads_0_1 (i : Fin 64) (e : Fin 256) (c : Fin 1024) (hc : c.val = 256 + e.val) :
    pb0 v206 v149 v152 v156 v159 v2636 v2866 v2887 v2908 v2929 (ix2 i c)
      = obuf W (cB v206 0) (cB v149 0) (cB v152 0) (cW v156 0) (cW v159 0) (sts v206 v152 v156 S 0) 1 i e := by
  unfold pb0
  rw [ob_0_1 W (hg := hg) (hc := hc)]
  simp only [qd_0, ki_0, att_0_1, st_0_1, h1]
  simp only [obuf, ohead, oraw, sts, stp, nxt]
/-- Chunk 0, head 2. -/
theorem heads_0_2 (i : Fin 64) (e : Fin 256) (c : Fin 1024) (hc : c.val = 512 + e.val) :
    pb0 v206 v149 v152 v156 v159 v2636 v2866 v2887 v2908 v2929 (ix2 i c)
      = obuf W (cB v206 0) (cB v149 0) (cB v152 0) (cW v156 0) (cW v159 0) (sts v206 v152 v156 S 0) 2 i e := by
  unfold pb0
  rw [ob_0_2 W (hg := hg) (hc := hc)]
  simp only [qd_0, ki_0, att_0_2, st_0_2, h2]
  simp only [obuf, ohead, oraw, sts, stp, nxt]
/-- Chunk 0, head 3. -/
theorem heads_0_3 (i : Fin 64) (e : Fin 256) (c : Fin 1024) (hc : c.val = 768 + e.val) :
    pb0 v206 v149 v152 v156 v159 v2636 v2866 v2887 v2908 v2929 (ix2 i c)
      = obuf W (cB v206 0) (cB v149 0) (cB v152 0) (cW v156 0) (cW v159 0) (sts v206 v152 v156 S 0) 3 i e := by
  unfold pb0
  rw [ob_0_3 W (hg := hg) (hc := hc)]
  simp only [qd_0, ki_0, att_0_3, st_0_3, h3]
  simp only [obuf, ohead, oraw, sts, stp, nxt]
/-- Chunk 1, head 0. -/
theorem heads_1_0 (i : Fin 64) (e : Fin 256) (c : Fin 1024) (hc : c.val = 0 + e.val) :
    pb1 v206 v149 v152 v156 v159 v2636 v2866 v2887 v2908 v2929 (ix2 i c)
      = obuf W (cB v206 1) (cB v149 1) (cB v152 1) (cW v156 1) (cW v159 1) (sts v206 v152 v156 S 1) 0 i e := by
  unfold pb1
  rw [ob_1_0 W (hg := hg) (hc := hc)]
  simp only [qd_1, ki_1, att_1_0, st_1_0, dec_0, ke_0, kv_0_0, h0]
  simp only [obuf, ohead, oraw, sts, stp, nxt]
/-- Chunk 1, head 1. -/
theorem heads_1_1 (i : Fin 64) (e : Fin 256) (c : Fin 1024) (hc : c.val = 256 + e.val) :
    pb1 v206 v149 v152 v156 v159 v2636 v2866 v2887 v2908 v2929 (ix2 i c)
      = obuf W (cB v206 1) (cB v149 1) (cB v152 1) (cW v156 1) (cW v159 1) (sts v206 v152 v156 S 1) 1 i e := by
  unfold pb1
  rw [ob_1_1 W (hg := hg) (hc := hc)]
  simp only [qd_1, ki_1, att_1_1, st_1_1, dec_0, ke_0, kv_0_1, h1]
  simp only [obuf, ohead, oraw, sts, stp, nxt]
/-- Chunk 1, head 2. -/
theorem heads_1_2 (i : Fin 64) (e : Fin 256) (c : Fin 1024) (hc : c.val = 512 + e.val) :
    pb1 v206 v149 v152 v156 v159 v2636 v2866 v2887 v2908 v2929 (ix2 i c)
      = obuf W (cB v206 1) (cB v149 1) (cB v152 1) (cW v156 1) (cW v159 1) (sts v206 v152 v156 S 1) 2 i e := by
  unfold pb1
  rw [ob_1_2 W (hg := hg) (hc := hc)]
  simp only [qd_1, ki_1, att_1_2, st_1_2, dec_0, ke_0, kv_0_2, h2]
  simp only [obuf, ohead, oraw, sts, stp, nxt]
/-- Chunk 1, head 3. -/
theorem heads_1_3 (i : Fin 64) (e : Fin 256) (c : Fin 1024) (hc : c.val = 768 + e.val) :
    pb1 v206 v149 v152 v156 v159 v2636 v2866 v2887 v2908 v2929 (ix2 i c)
      = obuf W (cB v206 1) (cB v149 1) (cB v152 1) (cW v156 1) (cW v159 1) (sts v206 v152 v156 S 1) 3 i e := by
  unfold pb1
  rw [ob_1_3 W (hg := hg) (hc := hc)]
  simp only [qd_1, ki_1, att_1_3, st_1_3, dec_0, ke_0, kv_0_3, h3]
  simp only [obuf, ohead, oraw, sts, stp, nxt]
/-- Chunk 2, head 0. -/
theorem heads_2_0 (i : Fin 64) (e : Fin 256) (c : Fin 1024) (hc : c.val = 0 + e.val) :
    pb2 v206 v149 v152 v156 v159 v2636 v2866 v2887 v2908 v2929 (ix2 i c)
      = obuf W (cB v206 2) (cB v149 2) (cB v152 2) (cW v156 2) (cW v159 2) (sts v206 v152 v156 S 2) 0 i e := by
  unfold pb2
  rw [ob_2_0 W (hg := hg) (hc := hc)]
  simp only [qd_2, ki_2, att_2_0, st_2_0, dec_0, dec_1, ke_0, ke_1, kv_0_0, kv_1_0, h0]
  simp only [obuf, ohead, oraw, sts, stp, nxt]
/-- Chunk 2, head 1. -/
theorem heads_2_1 (i : Fin 64) (e : Fin 256) (c : Fin 1024) (hc : c.val = 256 + e.val) :
    pb2 v206 v149 v152 v156 v159 v2636 v2866 v2887 v2908 v2929 (ix2 i c)
      = obuf W (cB v206 2) (cB v149 2) (cB v152 2) (cW v156 2) (cW v159 2) (sts v206 v152 v156 S 2) 1 i e := by
  unfold pb2
  rw [ob_2_1 W (hg := hg) (hc := hc)]
  simp only [qd_2, ki_2, att_2_1, st_2_1, dec_0, dec_1, ke_0, ke_1, kv_0_1, kv_1_1, h1]
  simp only [obuf, ohead, oraw, sts, stp, nxt]
/-- Chunk 2, head 2. -/
theorem heads_2_2 (i : Fin 64) (e : Fin 256) (c : Fin 1024) (hc : c.val = 512 + e.val) :
    pb2 v206 v149 v152 v156 v159 v2636 v2866 v2887 v2908 v2929 (ix2 i c)
      = obuf W (cB v206 2) (cB v149 2) (cB v152 2) (cW v156 2) (cW v159 2) (sts v206 v152 v156 S 2) 2 i e := by
  unfold pb2
  rw [ob_2_2 W (hg := hg) (hc := hc)]
  simp only [qd_2, ki_2, att_2_2, st_2_2, dec_0, dec_1, ke_0, ke_1, kv_0_2, kv_1_2, h2]
  simp only [obuf, ohead, oraw, sts, stp, nxt]
/-- Chunk 2, head 3. -/
theorem heads_2_3 (i : Fin 64) (e : Fin 256) (c : Fin 1024) (hc : c.val = 768 + e.val) :
    pb2 v206 v149 v152 v156 v159 v2636 v2866 v2887 v2908 v2929 (ix2 i c)
      = obuf W (cB v206 2) (cB v149 2) (cB v152 2) (cW v156 2) (cW v159 2) (sts v206 v152 v156 S 2) 3 i e := by
  unfold pb2
  rw [ob_2_3 W (hg := hg) (hc := hc)]
  simp only [qd_2, ki_2, att_2_3, st_2_3, dec_0, dec_1, ke_0, ke_1, kv_0_3, kv_1_3, h3]
  simp only [obuf, ohead, oraw, sts, stp, nxt]
/-- Chunk 3, head 0. -/
theorem heads_3_0 (i : Fin 64) (e : Fin 256) (c : Fin 1024) (hc : c.val = 0 + e.val) :
    pb3 v206 v149 v152 v156 v159 v2636 v2866 v2887 v2908 v2929 (ix2 i c)
      = obuf W (cB v206 3) (cB v149 3) (cB v152 3) (cW v156 3) (cW v159 3) (sts v206 v152 v156 S 3) 0 i e := by
  unfold pb3
  rw [ob_3_0 W (hg := hg) (hc := hc)]
  simp only [qd_3, ki_3, att_3_0, st_3_0, dec_0, dec_1, dec_2, ke_0, ke_1, ke_2, kv_0_0, kv_1_0, kv_2_0, h0]
  simp only [obuf, ohead, oraw, sts, stp, nxt]
/-- Chunk 3, head 1. -/
theorem heads_3_1 (i : Fin 64) (e : Fin 256) (c : Fin 1024) (hc : c.val = 256 + e.val) :
    pb3 v206 v149 v152 v156 v159 v2636 v2866 v2887 v2908 v2929 (ix2 i c)
      = obuf W (cB v206 3) (cB v149 3) (cB v152 3) (cW v156 3) (cW v159 3) (sts v206 v152 v156 S 3) 1 i e := by
  unfold pb3
  rw [ob_3_1 W (hg := hg) (hc := hc)]
  simp only [qd_3, ki_3, att_3_1, st_3_1, dec_0, dec_1, dec_2, ke_0, ke_1, ke_2, kv_0_1, kv_1_1, kv_2_1, h1]
  simp only [obuf, ohead, oraw, sts, stp, nxt]
/-- Chunk 3, head 2. -/
theorem heads_3_2 (i : Fin 64) (e : Fin 256) (c : Fin 1024) (hc : c.val = 512 + e.val) :
    pb3 v206 v149 v152 v156 v159 v2636 v2866 v2887 v2908 v2929 (ix2 i c)
      = obuf W (cB v206 3) (cB v149 3) (cB v152 3) (cW v156 3) (cW v159 3) (sts v206 v152 v156 S 3) 2 i e := by
  unfold pb3
  rw [ob_3_2 W (hg := hg) (hc := hc)]
  simp only [qd_3, ki_3, att_3_2, st_3_2, dec_0, dec_1, dec_2, ke_0, ke_1, ke_2, kv_0_2, kv_1_2, kv_2_2, h2]
  simp only [obuf, ohead, oraw, sts, stp, nxt]
/-- Chunk 3, head 3. -/
theorem heads_3_3 (i : Fin 64) (e : Fin 256) (c : Fin 1024) (hc : c.val = 768 + e.val) :
    pb3 v206 v149 v152 v156 v159 v2636 v2866 v2887 v2908 v2929 (ix2 i c)
      = obuf W (cB v206 3) (cB v149 3) (cB v152 3) (cW v156 3) (cW v159 3) (sts v206 v152 v156 S 3) 3 i e := by
  unfold pb3
  rw [ob_3_3 W (hg := hg) (hc := hc)]
  simp only [qd_3, ki_3, att_3_3, st_3_3, dec_0, dec_1, dec_2, ke_0, ke_1, ke_2, kv_0_3, kv_1_3, kv_2_3, h3]
  simp only [obuf, ohead, oraw, sts, stp, nxt]
/-- Chunk 0: its rows of gated heads. -/
theorem heads_0 (i : Fin 64) (c : Fin 1024) :
    pb0 v206 v149 v152 v156 v159 v2636 v2866 v2887 v2908 v2929 (ix2 i c)
      = obuf W (cB v206 0) (cB v149 0) (cB v152 0) (cW v156 0) (cW v159 0) (sts v206 v152 v156 S 0) ⟨c.val / 256, by omega⟩ i ⟨c.val % 256, by omega⟩ := by
  obtain h | h | h | h : c.val / 256 = 0 ∨ c.val / 256 = 1 ∨ c.val / 256 = 2 ∨ c.val / 256 = 3 := by omega
  · rw [heads_0_0 W v206 v149 v152 v156 v159 v2636 v2866 v2887 v2908 v2929 S hg h0 h1 h2 h3 i ⟨c.val % 256, by omega⟩ c (by simp only []; omega)]
    congr 1
    exact Fin.ext (by simp [h])
  · rw [heads_0_1 W v206 v149 v152 v156 v159 v2636 v2866 v2887 v2908 v2929 S hg h0 h1 h2 h3 i ⟨c.val % 256, by omega⟩ c (by simp only []; omega)]
    congr 1
    exact Fin.ext (by simp [h])
  · rw [heads_0_2 W v206 v149 v152 v156 v159 v2636 v2866 v2887 v2908 v2929 S hg h0 h1 h2 h3 i ⟨c.val % 256, by omega⟩ c (by simp only []; omega)]
    congr 1
    exact Fin.ext (by simp [h])
  · rw [heads_0_3 W v206 v149 v152 v156 v159 v2636 v2866 v2887 v2908 v2929 S hg h0 h1 h2 h3 i ⟨c.val % 256, by omega⟩ c (by simp only []; omega)]
    congr 1
    exact Fin.ext (by simp [h])

/-- Chunk 1: its rows of gated heads. -/
theorem heads_1 (i : Fin 64) (c : Fin 1024) :
    pb1 v206 v149 v152 v156 v159 v2636 v2866 v2887 v2908 v2929 (ix2 i c)
      = obuf W (cB v206 1) (cB v149 1) (cB v152 1) (cW v156 1) (cW v159 1) (sts v206 v152 v156 S 1) ⟨c.val / 256, by omega⟩ i ⟨c.val % 256, by omega⟩ := by
  obtain h | h | h | h : c.val / 256 = 0 ∨ c.val / 256 = 1 ∨ c.val / 256 = 2 ∨ c.val / 256 = 3 := by omega
  · rw [heads_1_0 W v206 v149 v152 v156 v159 v2636 v2866 v2887 v2908 v2929 S hg h0 h1 h2 h3 i ⟨c.val % 256, by omega⟩ c (by simp only []; omega)]
    congr 1
    exact Fin.ext (by simp [h])
  · rw [heads_1_1 W v206 v149 v152 v156 v159 v2636 v2866 v2887 v2908 v2929 S hg h0 h1 h2 h3 i ⟨c.val % 256, by omega⟩ c (by simp only []; omega)]
    congr 1
    exact Fin.ext (by simp [h])
  · rw [heads_1_2 W v206 v149 v152 v156 v159 v2636 v2866 v2887 v2908 v2929 S hg h0 h1 h2 h3 i ⟨c.val % 256, by omega⟩ c (by simp only []; omega)]
    congr 1
    exact Fin.ext (by simp [h])
  · rw [heads_1_3 W v206 v149 v152 v156 v159 v2636 v2866 v2887 v2908 v2929 S hg h0 h1 h2 h3 i ⟨c.val % 256, by omega⟩ c (by simp only []; omega)]
    congr 1
    exact Fin.ext (by simp [h])

/-- Chunk 2: its rows of gated heads. -/
theorem heads_2 (i : Fin 64) (c : Fin 1024) :
    pb2 v206 v149 v152 v156 v159 v2636 v2866 v2887 v2908 v2929 (ix2 i c)
      = obuf W (cB v206 2) (cB v149 2) (cB v152 2) (cW v156 2) (cW v159 2) (sts v206 v152 v156 S 2) ⟨c.val / 256, by omega⟩ i ⟨c.val % 256, by omega⟩ := by
  obtain h | h | h | h : c.val / 256 = 0 ∨ c.val / 256 = 1 ∨ c.val / 256 = 2 ∨ c.val / 256 = 3 := by omega
  · rw [heads_2_0 W v206 v149 v152 v156 v159 v2636 v2866 v2887 v2908 v2929 S hg h0 h1 h2 h3 i ⟨c.val % 256, by omega⟩ c (by simp only []; omega)]
    congr 1
    exact Fin.ext (by simp [h])
  · rw [heads_2_1 W v206 v149 v152 v156 v159 v2636 v2866 v2887 v2908 v2929 S hg h0 h1 h2 h3 i ⟨c.val % 256, by omega⟩ c (by simp only []; omega)]
    congr 1
    exact Fin.ext (by simp [h])
  · rw [heads_2_2 W v206 v149 v152 v156 v159 v2636 v2866 v2887 v2908 v2929 S hg h0 h1 h2 h3 i ⟨c.val % 256, by omega⟩ c (by simp only []; omega)]
    congr 1
    exact Fin.ext (by simp [h])
  · rw [heads_2_3 W v206 v149 v152 v156 v159 v2636 v2866 v2887 v2908 v2929 S hg h0 h1 h2 h3 i ⟨c.val % 256, by omega⟩ c (by simp only []; omega)]
    congr 1
    exact Fin.ext (by simp [h])

/-- Chunk 3: its rows of gated heads. -/
theorem heads_3 (i : Fin 64) (c : Fin 1024) :
    pb3 v206 v149 v152 v156 v159 v2636 v2866 v2887 v2908 v2929 (ix2 i c)
      = obuf W (cB v206 3) (cB v149 3) (cB v152 3) (cW v156 3) (cW v159 3) (sts v206 v152 v156 S 3) ⟨c.val / 256, by omega⟩ i ⟨c.val % 256, by omega⟩ := by
  obtain h | h | h | h : c.val / 256 = 0 ∨ c.val / 256 = 1 ∨ c.val / 256 = 2 ∨ c.val / 256 = 3 := by omega
  · rw [heads_3_0 W v206 v149 v152 v156 v159 v2636 v2866 v2887 v2908 v2929 S hg h0 h1 h2 h3 i ⟨c.val % 256, by omega⟩ c (by simp only []; omega)]
    congr 1
    exact Fin.ext (by simp [h])
  · rw [heads_3_1 W v206 v149 v152 v156 v159 v2636 v2866 v2887 v2908 v2929 S hg h0 h1 h2 h3 i ⟨c.val % 256, by omega⟩ c (by simp only []; omega)]
    congr 1
    exact Fin.ext (by simp [h])
  · rw [heads_3_2 W v206 v149 v152 v156 v159 v2636 v2866 v2887 v2908 v2929 S hg h0 h1 h2 h3 i ⟨c.val % 256, by omega⟩ c (by simp only []; omega)]
    congr 1
    exact Fin.ext (by simp [h])
  · rw [heads_3_3 W v206 v149 v152 v156 v159 v2636 v2866 v2887 v2908 v2929 S hg h0 h1 h2 h3 i ⟨c.val % 256, by omega⟩ c (by simp only []; omega)]
    congr 1
    exact Fin.ext (by simp [h])

end Cert.KernelIdeal.Mix
end
-- ==== Proof.MixBlk.lean ====
module

public import proofs.«01_k».proof.Proof.Gen.KernelIdeal.Value
public import proofs.«01_k».proof.Proof.Rows
public import Idealize.ShloMosaic.Lib.Pointwise
public import Idealize.ShloMosaic.Lib.Tactic.RunNames
public import proofs.«01_k».proof.Proof.MixStep

@[expose] public section

set_option maxRecDepth 16384

noncomputable section

/-! What one step of the mixer makes of its blocks: the parameters the blocks hold, and the convolution's window. -/

namespace Cert.KernelIdeal.Mix

open Cert.KernelIdeal Cert.KernelIdeal.Gen Cert.MixSpec Idealize.ShloMosaic Idealize.ShloMosaic.TcCoe Idealize.ShloMosaic.Tactic

/-- The blocks of one step hold the parameters `W`. -/
structure Fit (W : Wt) (x2 : Vec Ideal S1x1024 .f32) (x3 : Vec Ideal S1024x7296 .bf16) (x4 : Vec Ideal S31x1024 .f32) (x5 x6 x7 : Vec Ideal S1x1024 .f32)
    (x8 : Vec Ideal S1024x1024 .bf16) (x9 : Vec Ideal S128x512 .bf16) (x10 : Vec Ideal S1x512 .f32) (x11 : Vec Ideal S1x256 .f32)
    (x12 x13 : Vec Ideal S1024x1024 .bf16) (x14 : Vec Ideal S256x256 .bf16) : Prop where
  n1g : ∀ c, x2 (ix2 (0 : Fin 1) c) = W.n1g c
  wi : ∀ k c, x3 (ix2 k c) = W.wi k c
  cw : ∀ j c, x4 (ix2 j c) = W.cw j c
  cb : ∀ c, x5 (ix2 (0 : Fin 1) c) = W.cb c
  lng : ∀ c, x6 (ix2 (0 : Fin 1) c) = W.lng c
  lnb : ∀ c, x7 (ix2 (0 : Fin 1) c) = W.lnb c
  wco : ∀ k c, x8 (ix2 k c) = W.wco k c
  wu : ∀ k c, x9 (ix2 k c) = W.wu k c
  bg : ∀ c, x10 (ix2 (0 : Fin 1) c) = W.bg c
  gng : ∀ c, x11 (ix2 (0 : Fin 1) c) = W.gng c
  wgo : ∀ k c, x12 (ix2 k c) = W.wgo k c
  wo : ∀ k c, x13 (ix2 k c) = W.wo k c
  tri : ∀ a b : Fin 256, x14 (ix2 a b) = if a.val / 64 = b.val / 64 ∧ b.val ≤ a.val then (1 : EReal) else 0

variable (W : Wt)

/-- The normalised rows of a step's block. -/
def us (x0 : Vec Ideal S256x1024 .f32) (r : Fin 256) : Fin 1024 → EReal := urow W (fun k => x0 (ix2 r k))

/-- The convolution's window: 32 rows carried in, then the step's gated units. -/
def cx (H : Fin 32 → Fin 1024 → EReal) (u : Fin 256 → Fin 1024 → EReal) (i : ℕ) (c : Fin 1024) : EReal :=
  if h : i < 32 then H ⟨i, h⟩ c else if h' : i - 32 < 256 then glu W (u ⟨i - 32, h'⟩) c else 0

theorem cx_hi (H : Fin 32 → Fin 1024 → EReal) (u : Fin 256 → Fin 1024 → EReal) (i : ℕ) (c : Fin 1024) (h : 32 ≤ i) (h' : i - 32 < 256) :
    cx W H u i c = glu W (u ⟨i - 32, h'⟩) c := by
  unfold cx; rw [dif_neg (by omega), dif_pos h']

theorem cx_lo (H : Fin 32 → Fin 1024 → EReal) (u : Fin 256 → Fin 1024 → EReal) (i : ℕ) (c : Fin 1024) (h : i < 32) :
    cx W H u i c = H ⟨i, h⟩ c := by
  unfold cx; rw [dif_pos h]

theorem tap_eq (j : Fin 31) (c : Fin 1024) : W.cw j c = tap W c j.val := by
  unfold tap; rw [dif_pos j.isLt]

/-- The taps summed by their offset modulo eight. -/
theorem taps_phases (w E : ℕ → EReal) :
    w 6 * E 6 + w 14 * E 14 + w 22 * E 22 + w 30 * E 30 + (w 7 * E 7 + w 15 * E 15 + w 23 * E 23) + (w 0 * E 0 + w 8 * E 8 + w 16 * E 16 + w 24 * E 24) + (w 1 * E 1 + w 9 * E 9 + w 17 * E 17 + w 25 * E 25) + (w 2 * E 2 + w 10 * E 10 + w 18 * E 18 + w 26 * E 26) + (w 3 * E 3 + w 11 * E 11 + w 19 * E 19 + w 27 * E 27) + (w 4 * E 4 + w 12 * E 12 + w 20 * E 20 + w 28 * E 28) + (w 5 * E 5 + w 13 * E 13 + w 21 * E 21 + w 29 * E 29) = taps w E := by
  unfold taps
  abel

/-- The normalised rows, as the step computes them. -/
theorem u_rows (x0 : Vec Ideal S256x1024 .f32) (x2 : Vec Ideal S1x1024 .f32) (hn : ∀ c, x2 (ix2 (0 : Fin 1) c) = W.n1g c) (r : Fin 256) :
    (fun k => k0_pay7 (F := Ideal) x0 x2 (ix2 r k)) = us W x0 r :=
  funext fun k => u_pay W x0 x2 hn r k

/-- A group of the projection's columns. -/
theorem wi_ld (x3 : Vec Ideal S1024x7296 .bf16) (hw : ∀ k c, x3 (ix2 k c) = W.wi k c) (o w : ℕ)
    (inb : ∀ x : Fin 2, (![0, o] : Fin 2 → ℕ) x + (![1024, w] : Fin 2 → ℕ) x ≤ (![1024, 7296] : Fin 2 → ℕ) x) (k : Fin 1024) (j : Fin w) :
    View.ld (Val := Elt Ideal) (e' := .bf16) x3 (Rect.unit (s := ⟨2, ![1024, 7296]⟩) ![0, o] ![1024, w] inb) (ix2 k j)
      = W.wi k ⟨o + j.val, by have h : o + w ≤ 7296 := inb 1; omega⟩ := by
  rw [Cert.Rows.ld2, hw]
  congr 1
  exact Fin.ext (Nat.zero_add _)

end Cert.KernelIdeal.Mix
end
-- ==== Proof.MixBlk2.lean ====
module

public import proofs.«01_k».proof.Proof.Gen.KernelIdeal.Value
public import proofs.«01_k».proof.Proof.Rows
public import Idealize.ShloMosaic.Lib.Pointwise
public import Idealize.ShloMosaic.Lib.Tactic.RunNames
public import proofs.«01_k».proof.Proof.MixStep
public import proofs.«01_k».proof.Proof.MixBlk

@[expose] public section

set_option maxRecDepth 16384

noncomputable section

/-! One step of the attention branch over its blocks. -/

namespace Cert.KernelIdeal.Mix

open Cert.KernelIdeal Cert.KernelIdeal.Gen Cert.MixSpec Idealize.ShloMosaic Idealize.ShloMosaic.TcCoe Idealize.ShloMosaic.Tactic

section spec
variable (W : Wt) (u : Fin 256 → Fin 1024 → EReal)

/-- Row `i` of chunk `n` of a step. -/
def uc (n : Fin 4) (i : Fin 64) : Fin 1024 → EReal := u ⟨64 * n.val + i.val, by omega⟩
/-- The running decays of a step's chunk. -/
def bS (n : Fin 4) : Fin 64 → Fin 512 → EReal := csum fun i => gk W (uc u n i)
/-- The queries of a step's chunk. -/
def qS (n : Fin 4) (i : Fin 64) (d : Fin 512) : EReal := prj W (uc u n i) 2048 (by omega) d
/-- The keys of a step's chunk. -/
def kS (n : Fin 4) (i : Fin 64) (d : Fin 512) : EReal := prj W (uc u n i) 2560 (by omega) d
/-- The values of a step's chunk. -/
def vS (n : Fin 4) (i : Fin 64) (d : Fin 1024) : EReal := prj W (uc u n i) 3072 (by omega) d
/-- The output gates of a step's chunk. -/
def rS (n : Fin 4) (i : Fin 64) (d : Fin 1024) : EReal := prj W (uc u n i) 4096 (by omega) d
/-- The states after a step's chunk. -/
def nS (n : Fin 4) (S : Fin 4 → Fin 256 → Fin 128 → EReal) : Fin 4 → Fin 256 → Fin 128 → EReal :=
  nxt (dec (bS W u n)) (kv (vS W u n) (ke (bS W u n) (kS W u n))) S
/-- The states before a step's chunk. -/
def sS (S : Fin 4 → Fin 256 → Fin 128 → EReal) : ℕ → Fin 4 → Fin 256 → Fin 128 → EReal
  | 0 => S
  | 1 => nS W u 0 S
  | 2 => nS W u 1 (nS W u 0 S)
  | 3 => nS W u 2 (nS W u 1 (nS W u 0 S))
  | _ => nS W u 3 (nS W u 2 (nS W u 1 (nS W u 0 S)))

/-- The gated heads of a step's chunk. -/
def obS (S : Fin 4 → Fin 256 → Fin 128 → EReal) (n h : Fin 4) (i : Fin 64) (e : Fin 256) : EReal :=
  obuf W (bS W u n) (qS W u n) (kS W u n) (vS W u n) (rS W u n) (sS W u S n) h i e

theorem obS_eq (S : Fin 4 → Fin 256 → Fin 128 → EReal) (n n' h h' : Fin 4) (i i' : Fin 64) (e e' : Fin 256)
    (hn : n = n') (hh : h = h') (hi : i = i') (he : e = e') : obS W u S n h i e = obS W u S n' h' i' e' := by
  subst hn hh hi he
  rfl

theorem sts_eq (b k : Vec Ideal S256x512 .f32) (v : Vec Ideal S256x1024 .bf16) (hb : ∀ n, cB b n = bS W u n) (hk : ∀ n, cB k n = kS W u n)
    (hv : ∀ n, cW v n = vS W u n) (S : Fin 4 → Fin 256 → Fin 128 → EReal) (m : ℕ) : sts b k v S m = sS W u S m := by
  have e : stp b k v = nS W u := by
    funext n S
    unfold stp nS
    rw [hb, hk, hv]
  unfold sts sS
  rw [e]
  rcases m with _ | _ | _ | _ | m <;> rfl
end spec

theorem pay1_eq (v : Vec Ideal S256x1024 .bf16) (r : Fin 256) (j : Fin 1024) : k0_pay1 (F := Ideal) v (ix2 r j) = v (ix2 r j) := by
  pointwise [k0_pay1]

theorem head_emb (h : Fin 4) (inb : ∀ a : Fin 3, (![h.val, 0, 0] : Fin 3 → ℕ) a + (![1, 256, 128] : Fin 3 → ℕ) a ≤ (![4, 256, 128] : Fin 3 → ℕ) a)
    (e : Fin 256) (d : Fin 128) : (Rect.unit (s := S4x256x128) ![h.val, 0, 0] ![1, 256, 128] inb).emb (ix3 (0 : Fin 1) e d) = ix3 h e d := by
  funext a
  apply Fin.ext
  fin_cases a
  · show h.val + 1 * 0 = h.val; omega
  · show 0 + 1 * e.val = e.val; omega
  · show 0 + 1 * d.val = d.val; omega

/-- A head the newest store wrote. -/
theorem canon3_hit (k h : Fin 4) (hk : k = h) (inb : ∀ a : Fin 3, (![k.val, 0, 0] : Fin 3 → ℕ) a + (![1, 256, 128] : Fin 3 → ℕ) a ≤ (![4, 256, 128] : Fin 3 → ℕ) a)
    (w : Vec Ideal S1x256x128 .f32) (L : List (View.Piece (Elt Ideal) S4x256x128 .f32)) (e : Fin 256) (d : Fin 128) :
    View.canon ((⟨Rect.unit (s := S4x256x128) ![k.val, 0, 0] ![1, 256, 128] inb, w⟩ : View.Piece (Elt Ideal) S4x256x128 .f32) :: L) (ix3 h e d) = w (ix3 (0 : Fin 1) e d) := by
  subst hk
  rw [← head_emb k inb e d]
  exact View.canon_cons_emb _ _ _ _

/-- A head the newest store did not write. -/
theorem canon3_miss (k h : Fin 4) (hk : k ≠ h) (inb : ∀ a : Fin 3, (![k.val, 0, 0] : Fin 3 → ℕ) a + (![1, 256, 128] : Fin 3 → ℕ) a ≤ (![4, 256, 128] : Fin 3 → ℕ) a)
    (w : Vec Ideal S1x256x128 .f32) (L : List (View.Piece (Elt Ideal) S4x256x128 .f32)) (e : Fin 256) (d : Fin 128) :
    View.canon ((⟨Rect.unit (s := S4x256x128) ![k.val, 0, 0] ![1, 256, 128] inb, w⟩ : View.Piece (Elt Ideal) S4x256x128 .f32) :: L) (ix3 h e d) = View.canon L (ix3 h e d) := by
  refine Cert.Rows.canon_miss (Val := Elt Ideal) (s := S4x256x128) inb w L (ix3 h e d) 0 ?_
  have : k.val ≠ h.val := fun q => hk (Fin.ext q)
  show h.val < k.val ∨ k.val + 1 ≤ h.val
  omega

/-- A head of the states, read alone. -/
theorem ld3_head (X : Vec Ideal S4x256x128 .f32) (h : Fin 4) (inb : ∀ a : Fin 3, (![h.val, 0, 0] : Fin 3 → ℕ) a + (![1, 256, 128] : Fin 3 → ℕ) a ≤ (![4, 256, 128] : Fin 3 → ℕ) a)
    (e : Fin 256) (d : Fin 128) :
    View.ld (Val := Elt Ideal) (e' := .f32) X (Rect.unit (s := S4x256x128) ![h.val, 0, 0] ![1, 256, 128] inb) (ix3 (0 : Fin 1) e d) = X (ix3 h e d) :=
  congrArg X (head_emb h inb e d)

/-- A head of the states, read alone after stores that cover it. -/
theorem readCov3_head {sig : RefSig} {κ : Kind} {sp : Space} (v : View sig κ sp S4x256x128 .f32) (L : List (View.Piece (Elt Ideal) S4x256x128 .f32)) (h : Fin 4) (inb : ∀ a : Fin 3, (![h.val, 0, 0] : Fin 3 → ℕ) a + (![1, 256, 128] : Fin 3 → ℕ) a ≤ (![4, 256, 128] : Fin 3 → ℕ) a)
    (e : Fin 256) (d : Fin 128) :
    v.readCov L (Rect.unit (s := S4x256x128) ![h.val, 0, 0] ![1, 256, 128] inb).toLoadRect (ix3 (0 : Fin 1) e d) = View.canon L (ix3 h e d) := by
  rw [View.readCov_eq_canon']
  exact congrArg (View.canon L) (head_emb h inb e d)

variable (W : Wt) (x0 : Vec Ideal S256x1024 .f32) (x2 : Vec Ideal S1x1024 .f32) (x3 : Vec Ideal S1024x7296 .bf16) (x4 : Vec Ideal S31x1024 .f32) (x5 : Vec Ideal S1x1024 .f32) (x6 : Vec Ideal S1x1024 .f32) (x7 : Vec Ideal S1x1024 .f32) (x8 : Vec Ideal S1024x1024 .bf16) (x9 : Vec Ideal S128x512 .bf16) (x10 : Vec Ideal S1x512 .f32) (x11 : Vec Ideal S1x256 .f32) (x12 : Vec Ideal S1024x1024 .bf16) (x13 : Vec Ideal S1024x1024 .bf16) (x14 : Vec Ideal S256x256 .bf16)
  (hF : Fit W x2 x3 x4 x5 x6 x7 x8 x9 x10 x11 x12 x13 x14)
include hF

theorem b_blk (n : Fin 4) : cB (k0_pay25 (F := Ideal) (k0_pay17 (F := Ideal) (k0_pay9 (F := Ideal) (k0_pay7 (F := Ideal) x0 x2) (View.ld (Val := Elt Ideal) (e' := .bf16) x3 (Rect.unit ![0, 7168] S1024x128.size inb_S1024x7296_S1024x128_0_7168))) x9 x10) x14) n = bS W (us W x0) n := by
  funext i d
  refine (b_pay W _ _ _ _ _ (fun k j => wi_ld W _ hF.wi _ _ _ k j) hF.wu hF.bg hF.tri n i d).trans ?_
  simp only [u_rows W x0 x2 hF.n1g]
  rfl

theorem q_blk (n : Fin 4) : cB (k0_pay18 (F := Ideal) (k0_pay7 (F := Ideal) x0 x2) (View.ld (Val := Elt Ideal) (e' := .bf16) x3 (Rect.unit ![0, 2048] S1024x512.size inb_S1024x7296_S1024x512_0_2048))) n = qS W (us W x0) n := by
  funext i d
  refine (q_pay W _ _ (fun k j => wi_ld W _ hF.wi _ _ _ k j) _ d).trans ?_
  rw [u_rows W x0 x2 hF.n1g]
  rfl

theorem k_blk (n : Fin 4) : cB (k0_pay19 (F := Ideal) (k0_pay7 (F := Ideal) x0 x2) (View.ld (Val := Elt Ideal) (e' := .bf16) x3 (Rect.unit ![0, 2560] S1024x512.size inb_S1024x7296_S1024x512_0_2560))) n = kS W (us W x0) n := by
  funext i d
  refine (k_pay W _ _ (fun k j => wi_ld W _ hF.wi _ _ _ k j) _ d).trans ?_
  rw [u_rows W x0 x2 hF.n1g]
  rfl

theorem v_blk (n : Fin 4) : cW (k0_pay20 (F := Ideal) (k0_pay7 (F := Ideal) x0 x2) (View.ld (Val := Elt Ideal) (e' := .bf16) x3 (Rect.unit ![0, 3072] S1024x1024.size inb_S1024x7296_S1024x1024_0_3072))) n = vS W (us W x0) n := by
  funext i d
  refine (v_pay W _ _ (fun k j => wi_ld W _ hF.wi _ _ _ k j) _ d).trans ?_
  rw [u_rows W x0 x2 hF.n1g]
  rfl

theorem r_blk (n : Fin 4) : cW (k0_pay21 (F := Ideal) (k0_pay7 (F := Ideal) x0 x2) (View.ld (Val := Elt Ideal) (e' := .bf16) x3 (Rect.unit ![0, 4096] S1024x1024.size inb_S1024x7296_S1024x1024_0_4096))) n = rS W (us W x0) n := by
  funext i d
  refine (r_pay W _ _ (fun k j => wi_ld W _ hF.wi _ _ _ k j) _ d).trans ?_
  rw [u_rows W x0 x2 hF.n1g]
  rfl
/-- Head 0: the state after the step. -/
theorem blk_state_0 (v2866 : Vec Ideal S1x256x128 .f32) (S : Fin 4 → Fin 256 → Fin 128 → EReal) (h0 : ∀ e d, v2866 (ix3 (0 : Fin 1) e d) = S 0 e d) (e : Fin 256) (d : Fin 128) :
    sp0 (k0_pay25 (F := Ideal) (k0_pay17 (F := Ideal) (k0_pay9 (F := Ideal) (k0_pay7 (F := Ideal) x0 x2) (View.ld (Val := Elt Ideal) (e' := .bf16) x3 (Rect.unit ![0, 7168] S1024x128.size inb_S1024x7296_S1024x128_0_7168))) x9 x10) x14) (k0_pay19 (F := Ideal) (k0_pay7 (F := Ideal) x0 x2) (View.ld (Val := Elt Ideal) (e' := .bf16) x3 (Rect.unit ![0, 2560] S1024x512.size inb_S1024x7296_S1024x512_0_2560))) (k0_pay20 (F := Ideal) (k0_pay7 (F := Ideal) x0 x2) (View.ld (Val := Elt Ideal) (e' := .bf16) x3 (Rect.unit ![0, 3072] S1024x1024.size inb_S1024x7296_S1024x1024_0_3072))) v2866 (ix3 (0 : Fin 1) e d) = sS W (us W x0) S 4 0 e d := by
  refine (state_0 (S := S) (h0 := h0) ..).trans ?_
  rw [sts_eq W (us W x0) _ _ _ (fun n => b_blk (hF := hF) (n := n) ..) (fun n => k_blk (hF := hF) (n := n) ..) (fun n => v_blk (hF := hF) (n := n) ..)]
/-- Head 1: the state after the step. -/
theorem blk_state_1 (v2887 : Vec Ideal S1x256x128 .f32) (S : Fin 4 → Fin 256 → Fin 128 → EReal) (h0 : ∀ e d, v2887 (ix3 (0 : Fin 1) e d) = S 1 e d) (e : Fin 256) (d : Fin 128) :
    sp1 (k0_pay25 (F := Ideal) (k0_pay17 (F := Ideal) (k0_pay9 (F := Ideal) (k0_pay7 (F := Ideal) x0 x2) (View.ld (Val := Elt Ideal) (e' := .bf16) x3 (Rect.unit ![0, 7168] S1024x128.size inb_S1024x7296_S1024x128_0_7168))) x9 x10) x14) (k0_pay19 (F := Ideal) (k0_pay7 (F := Ideal) x0 x2) (View.ld (Val := Elt Ideal) (e' := .bf16) x3 (Rect.unit ![0, 2560] S1024x512.size inb_S1024x7296_S1024x512_0_2560))) (k0_pay20 (F := Ideal) (k0_pay7 (F := Ideal) x0 x2) (View.ld (Val := Elt Ideal) (e' := .bf16) x3 (Rect.unit ![0, 3072] S1024x1024.size inb_S1024x7296_S1024x1024_0_3072))) v2887 (ix3 (0 : Fin 1) e d) = sS W (us W x0) S 4 1 e d := by
  refine (state_1 (S := S) (h0 := h0) ..).trans ?_
  rw [sts_eq W (us W x0) _ _ _ (fun n => b_blk (hF := hF) (n := n) ..) (fun n => k_blk (hF := hF) (n := n) ..) (fun n => v_blk (hF := hF) (n := n) ..)]
/-- Head 2: the state after the step. -/
theorem blk_state_2 (v2908 : Vec Ideal S1x256x128 .f32) (S : Fin 4 → Fin 256 → Fin 128 → EReal) (h0 : ∀ e d, v2908 (ix3 (0 : Fin 1) e d) = S 2 e d) (e : Fin 256) (d : Fin 128) :
    sp2 (k0_pay25 (F := Ideal) (k0_pay17 (F := Ideal) (k0_pay9 (F := Ideal) (k0_pay7 (F := Ideal) x0 x2) (View.ld (Val := Elt Ideal) (e' := .bf16) x3 (Rect.unit ![0, 7168] S1024x128.size inb_S1024x7296_S1024x128_0_7168))) x9 x10) x14) (k0_pay19 (F := Ideal) (k0_pay7 (F := Ideal) x0 x2) (View.ld (Val := Elt Ideal) (e' := .bf16) x3 (Rect.unit ![0, 2560] S1024x512.size inb_S1024x7296_S1024x512_0_2560))) (k0_pay20 (F := Ideal) (k0_pay7 (F := Ideal) x0 x2) (View.ld (Val := Elt Ideal) (e' := .bf16) x3 (Rect.unit ![0, 3072] S1024x1024.size inb_S1024x7296_S1024x1024_0_3072))) v2908 (ix3 (0 : Fin 1) e d) = sS W (us W x0) S 4 2 e d := by
  refine (state_2 (S := S) (h0 := h0) ..).trans ?_
  rw [sts_eq W (us W x0) _ _ _ (fun n => b_blk (hF := hF) (n := n) ..) (fun n => k_blk (hF := hF) (n := n) ..) (fun n => v_blk (hF := hF) (n := n) ..)]
/-- Head 3: the state after the step. -/
theorem blk_state_3 (v2929 : Vec Ideal S1x256x128 .f32) (S : Fin 4 → Fin 256 → Fin 128 → EReal) (h0 : ∀ e d, v2929 (ix3 (0 : Fin 1) e d) = S 3 e d) (e : Fin 256) (d : Fin 128) :
    sp3 (k0_pay25 (F := Ideal) (k0_pay17 (F := Ideal) (k0_pay9 (F := Ideal) (k0_pay7 (F := Ideal) x0 x2) (View.ld (Val := Elt Ideal) (e' := .bf16) x3 (Rect.unit ![0, 7168] S1024x128.size inb_S1024x7296_S1024x128_0_7168))) x9 x10) x14) (k0_pay19 (F := Ideal) (k0_pay7 (F := Ideal) x0 x2) (View.ld (Val := Elt Ideal) (e' := .bf16) x3 (Rect.unit ![0, 2560] S1024x512.size inb_S1024x7296_S1024x512_0_2560))) (k0_pay20 (F := Ideal) (k0_pay7 (F := Ideal) x0 x2) (View.ld (Val := Elt Ideal) (e' := .bf16) x3 (Rect.unit ![0, 3072] S1024x1024.size inb_S1024x7296_S1024x1024_0_3072))) v2929 (ix3 (0 : Fin 1) e d) = sS W (us W x0) S 4 3 e d := by
  refine (state_3 (S := S) (h0 := h0) ..).trans ?_
  rw [sts_eq W (us W x0) _ _ _ (fun n => b_blk (hF := hF) (n := n) ..) (fun n => k_blk (hF := hF) (n := n) ..) (fun n => v_blk (hF := hF) (n := n) ..)]
/-- Chunk 0: its rows of gated heads. -/
theorem blk_heads_0 (v2866 v2887 v2908 v2929 : Vec Ideal S1x256x128 .f32) (S : Fin 4 → Fin 256 → Fin 128 → EReal) (h0 : ∀ e d, v2866 (ix3 (0 : Fin 1) e d) = S 0 e d) (h1 : ∀ e d, v2887 (ix3 (0 : Fin 1) e d) = S 1 e d) (h2 : ∀ e d, v2908 (ix3 (0 : Fin 1) e d) = S 2 e d) (h3 : ∀ e d, v2929 (ix3 (0 : Fin 1) e d) = S 3 e d) (i : Fin 64) (c : Fin 1024) :
    pb0 (k0_pay25 (F := Ideal) (k0_pay17 (F := Ideal) (k0_pay9 (F := Ideal) (k0_pay7 (F := Ideal) x0 x2) (View.ld (Val := Elt Ideal) (e' := .bf16) x3 (Rect.unit ![0, 7168] S1024x128.size inb_S1024x7296_S1024x128_0_7168))) x9 x10) x14) (k0_pay18 (F := Ideal) (k0_pay7 (F := Ideal) x0 x2) (View.ld (Val := Elt Ideal) (e' := .bf16) x3 (Rect.unit ![0, 2048] S1024x512.size inb_S1024x7296_S1024x512_0_2048))) (k0_pay19 (F := Ideal) (k0_pay7 (F := Ideal) x0 x2) (View.ld (Val := Elt Ideal) (e' := .bf16) x3 (Rect.unit ![0, 2560] S1024x512.size inb_S1024x7296_S1024x512_0_2560))) (k0_pay20 (F := Ideal) (k0_pay7 (F := Ideal) x0 x2) (View.ld (Val := Elt Ideal) (e' := .bf16) x3 (Rect.unit ![0, 3072] S1024x1024.size inb_S1024x7296_S1024x1024_0_3072))) (k0_pay21 (F := Ideal) (k0_pay7 (F := Ideal) x0 x2) (View.ld (Val := Elt Ideal) (e' := .bf16) x3 (Rect.unit ![0, 4096] S1024x1024.size inb_S1024x7296_S1024x1024_0_4096))) x11 v2866 v2887 v2908 v2929 (ix2 i c)
      = obuf W (bS W (us W x0) 0) (qS W (us W x0) 0) (kS W (us W x0) 0) (vS W (us W x0) 0) (rS W (us W x0) 0) (sS W (us W x0) S 0) ⟨c.val / 256, by omega⟩ i ⟨c.val % 256, by omega⟩ := by
  refine (heads_0 (W := W) (S := S) (hg := hF.gng) (h0 := h0) (h1 := h1) (h2 := h2) (h3 := h3) (v2866 := v2866) (v2887 := v2887) (v2908 := v2908) (v2929 := v2929) ..).trans ?_
  rw [sts_eq W (us W x0) _ _ _ (fun n => b_blk (hF := hF) (n := n) ..) (fun n => k_blk (hF := hF) (n := n) ..) (fun n => v_blk (hF := hF) (n := n) ..),
    b_blk (hF := hF), q_blk (hF := hF), k_blk (hF := hF), v_blk (hF := hF), r_blk (hF := hF)]
/-- Chunk 1: its rows of gated heads. -/
theorem blk_heads_1 (v2866 v2887 v2908 v2929 : Vec Ideal S1x256x128 .f32) (S : Fin 4 → Fin 256 → Fin 128 → EReal) (h0 : ∀ e d, v2866 (ix3 (0 : Fin 1) e d) = S 0 e d) (h1 : ∀ e d, v2887 (ix3 (0 : Fin 1) e d) = S 1 e d) (h2 : ∀ e d, v2908 (ix3 (0 : Fin 1) e d) = S 2 e d) (h3 : ∀ e d, v2929 (ix3 (0 : Fin 1) e d) = S 3 e d) (i : Fin 64) (c : Fin 1024) :
    pb1 (k0_pay25 (F := Ideal) (k0_pay17 (F := Ideal) (k0_pay9 (F := Ideal) (k0_pay7 (F := Ideal) x0 x2) (View.ld (Val := Elt Ideal) (e' := .bf16) x3 (Rect.unit ![0, 7168] S1024x128.size inb_S1024x7296_S1024x128_0_7168))) x9 x10) x14) (k0_pay18 (F := Ideal) (k0_pay7 (F := Ideal) x0 x2) (View.ld (Val := Elt Ideal) (e' := .bf16) x3 (Rect.unit ![0, 2048] S1024x512.size inb_S1024x7296_S1024x512_0_2048))) (k0_pay19 (F := Ideal) (k0_pay7 (F := Ideal) x0 x2) (View.ld (Val := Elt Ideal) (e' := .bf16) x3 (Rect.unit ![0, 2560] S1024x512.size inb_S1024x7296_S1024x512_0_2560))) (k0_pay20 (F := Ideal) (k0_pay7 (F := Ideal) x0 x2) (View.ld (Val := Elt Ideal) (e' := .bf16) x3 (Rect.unit ![0, 3072] S1024x1024.size inb_S1024x7296_S1024x1024_0_3072))) (k0_pay21 (F := Ideal) (k0_pay7 (F := Ideal) x0 x2) (View.ld (Val := Elt Ideal) (e' := .bf16) x3 (Rect.unit ![0, 4096] S1024x1024.size inb_S1024x7296_S1024x1024_0_4096))) x11 v2866 v2887 v2908 v2929 (ix2 i c)
      = obuf W (bS W (us W x0) 1) (qS W (us W x0) 1) (kS W (us W x0) 1) (vS W (us W x0) 1) (rS W (us W x0) 1) (sS W (us W x0) S 1) ⟨c.val / 256, by omega⟩ i ⟨c.val % 256, by omega⟩ := by
  refine (heads_1 (W := W) (S := S) (hg := hF.gng) (h0 := h0) (h1 := h1) (h2 := h2) (h3 := h3) (v2866 := v2866) (v2887 := v2887) (v2908 := v2908) (v2929 := v2929) ..).trans ?_
  rw [sts_eq W (us W x0) _ _ _ (fun n => b_blk (hF := hF) (n := n) ..) (fun n => k_blk (hF := hF) (n := n) ..) (fun n => v_blk (hF := hF) (n := n) ..),
    b_blk (hF := hF), q_blk (hF := hF), k_blk (hF := hF), v_blk (hF := hF), r_blk (hF := hF)]
/-- Chunk 2: its rows of gated heads. -/
theorem blk_heads_2 (v2866 v2887 v2908 v2929 : Vec Ideal S1x256x128 .f32) (S : Fin 4 → Fin 256 → Fin 128 → EReal) (h0 : ∀ e d, v2866 (ix3 (0 : Fin 1) e d) = S 0 e d) (h1 : ∀ e d, v2887 (ix3 (0 : Fin 1) e d) = S 1 e d) (h2 : ∀ e d, v2908 (ix3 (0 : Fin 1) e d) = S 2 e d) (h3 : ∀ e d, v2929 (ix3 (0 : Fin 1) e d) = S 3 e d) (i : Fin 64) (c : Fin 1024) :
    pb2 (k0_pay25 (F := Ideal) (k0_pay17 (F := Ideal) (k0_pay9 (F := Ideal) (k0_pay7 (F := Ideal) x0 x2) (View.ld (Val := Elt Ideal) (e' := .bf16) x3 (Rect.unit ![0, 7168] S1024x128.size inb_S1024x7296_S1024x128_0_7168))) x9 x10) x14) (k0_pay18 (F := Ideal) (k0_pay7 (F := Ideal) x0 x2) (View.ld (Val := Elt Ideal) (e' := .bf16) x3 (Rect.unit ![0, 2048] S1024x512.size inb_S1024x7296_S1024x512_0_2048))) (k0_pay19 (F := Ideal) (k0_pay7 (F := Ideal) x0 x2) (View.ld (Val := Elt Ideal) (e' := .bf16) x3 (Rect.unit ![0, 2560] S1024x512.size inb_S1024x7296_S1024x512_0_2560))) (k0_pay20 (F := Ideal) (k0_pay7 (F := Ideal) x0 x2) (View.ld (Val := Elt Ideal) (e' := .bf16) x3 (Rect.unit ![0, 3072] S1024x1024.size inb_S1024x7296_S1024x1024_0_3072))) (k0_pay21 (F := Ideal) (k0_pay7 (F := Ideal) x0 x2) (View.ld (Val := Elt Ideal) (e' := .bf16) x3 (Rect.unit ![0, 4096] S1024x1024.size inb_S1024x7296_S1024x1024_0_4096))) x11 v2866 v2887 v2908 v2929 (ix2 i c)
      = obuf W (bS W (us W x0) 2) (qS W (us W x0) 2) (kS W (us W x0) 2) (vS W (us W x0) 2) (rS W (us W x0) 2) (sS W (us W x0) S 2) ⟨c.val / 256, by omega⟩ i ⟨c.val % 256, by omega⟩ := by
  refine (heads_2 (W := W) (S := S) (hg := hF.gng) (h0 := h0) (h1 := h1) (h2 := h2) (h3 := h3) (v2866 := v2866) (v2887 := v2887) (v2908 := v2908) (v2929 := v2929) ..).trans ?_
  rw [sts_eq W (us W x0) _ _ _ (fun n => b_blk (hF := hF) (n := n) ..) (fun n => k_blk (hF := hF) (n := n) ..) (fun n => v_blk (hF := hF) (n := n) ..),
    b_blk (hF := hF), q_blk (hF := hF), k_blk (hF := hF), v_blk (hF := hF), r_blk (hF := hF)]
/-- Chunk 3: its rows of gated heads. -/
theorem blk_heads_3 (v2866 v2887 v2908 v2929 : Vec Ideal S1x256x128 .f32) (S : Fin 4 → Fin 256 → Fin 128 → EReal) (h0 : ∀ e d, v2866 (ix3 (0 : Fin 1) e d) = S 0 e d) (h1 : ∀ e d, v2887 (ix3 (0 : Fin 1) e d) = S 1 e d) (h2 : ∀ e d, v2908 (ix3 (0 : Fin 1) e d) = S 2 e d) (h3 : ∀ e d, v2929 (ix3 (0 : Fin 1) e d) = S 3 e d) (i : Fin 64) (c : Fin 1024) :
    pb3 (k0_pay25 (F := Ideal) (k0_pay17 (F := Ideal) (k0_pay9 (F := Ideal) (k0_pay7 (F := Ideal) x0 x2) (View.ld (Val := Elt Ideal) (e' := .bf16) x3 (Rect.unit ![0, 7168] S1024x128.size inb_S1024x7296_S1024x128_0_7168))) x9 x10) x14) (k0_pay18 (F := Ideal) (k0_pay7 (F := Ideal) x0 x2) (View.ld (Val := Elt Ideal) (e' := .bf16) x3 (Rect.unit ![0, 2048] S1024x512.size inb_S1024x7296_S1024x512_0_2048))) (k0_pay19 (F := Ideal) (k0_pay7 (F := Ideal) x0 x2) (View.ld (Val := Elt Ideal) (e' := .bf16) x3 (Rect.unit ![0, 2560] S1024x512.size inb_S1024x7296_S1024x512_0_2560))) (k0_pay20 (F := Ideal) (k0_pay7 (F := Ideal) x0 x2) (View.ld (Val := Elt Ideal) (e' := .bf16) x3 (Rect.unit ![0, 3072] S1024x1024.size inb_S1024x7296_S1024x1024_0_3072))) (k0_pay21 (F := Ideal) (k0_pay7 (F := Ideal) x0 x2) (View.ld (Val := Elt Ideal) (e' := .bf16) x3 (Rect.unit ![0, 4096] S1024x1024.size inb_S1024x7296_S1024x1024_0_4096))) x11 v2866 v2887 v2908 v2929 (ix2 i c)
      = obuf W (bS W (us W x0) 3) (qS W (us W x0) 3) (kS W (us W x0) 3) (vS W (us W x0) 3) (rS W (us W x0) 3) (sS W (us W x0) S 3) ⟨c.val / 256, by omega⟩ i ⟨c.val % 256, by omega⟩ := by
  refine (heads_3 (W := W) (S := S) (hg := hF.gng) (h0 := h0) (h1 := h1) (h2 := h2) (h3 := h3) (v2866 := v2866) (v2887 := v2887) (v2908 := v2908) (v2929 := v2929) ..).trans ?_
  rw [sts_eq W (us W x0) _ _ _ (fun n => b_blk (hF := hF) (n := n) ..) (fun n => k_blk (hF := hF) (n := n) ..) (fun n => v_blk (hF := hF) (n := n) ..),
    b_blk (hF := hF), q_blk (hF := hF), k_blk (hF := hF), v_blk (hF := hF), r_blk (hF := hF)]

end Cert.KernelIdeal.Mix
end
-- ==== Proof.MixSeq.lean ====
module

public import proofs.«01_k».proof.Proof.MixBlk2

@[expose] public section

set_option maxRecDepth 16384

noncomputable section

/-! A step's rows within the sequence: step `n` holds the tokens `256 n` to `256 n + 255`, its chunks are `4 n` to `4 n + 3`. -/

namespace Cert.KernelIdeal.Mix

open Cert.KernelIdeal Cert.KernelIdeal.Gen Cert.MixSpec Idealize.ShloMosaic Idealize.ShloMosaic.TcCoe Idealize.ShloMosaic.Tactic

/-- Equal gated units give an equal convolution. -/
theorem conv_congr (W : Wt) (E E' : ℕ → EReal) (c : Fin 1024) (h : ∀ j, j < 31 → E j = E' j) : conv W E c = conv W E' c := by
  unfold conv taps
  simp only [h 0 (by omega), h 1 (by omega), h 2 (by omega), h 3 (by omega), h 4 (by omega), h 5 (by omega), h 6 (by omega), h 7 (by omega), h 8 (by omega), h 9 (by omega), h 10 (by omega), h 11 (by omega), h 12 (by omega), h 13 (by omega), h 14 (by omega), h 15 (by omega), h 16 (by omega), h 17 (by omega), h 18 (by omega), h 19 (by omega), h 20 (by omega), h 21 (by omega), h 22 (by omega), h 23 (by omega), h 24 (by omega), h 25 (by omega), h 26 (by omega), h 27 (by omega), h 28 (by omega), h 29 (by omega), h 30 (by omega)]

variable (W : Wt) (X : ℕ → Fin 1024 → EReal) (n : ℕ) (u : Fin 256 → Fin 1024 → EReal)

theorem uc_seq (hu : ∀ r : Fin 256, u r = U W X (256 * n + r.val)) (k : Fin 4) : uc u k = Uc W X (4 * n + k.val) := by
  funext i
  unfold uc Uc
  rw [hu]
  congr 1
  show 256 * n + (64 * k.val + i.val) = 64 * (4 * n + k.val) + i.val
  omega

variable (hu : ∀ r : Fin 256, u r = U W X (256 * n + r.val))
include hu

theorem bS_seq (k : Fin 4) : bS W u k = Bc W X (4 * n + k.val) := by
  unfold bS Bc; rw [uc_seq W X n u hu]
theorem qS_seq (k : Fin 4) : qS W u k = Qc W X (4 * n + k.val) := by
  funext i d; unfold qS Qc; rw [uc_seq W X n u hu]
theorem kS_seq (k : Fin 4) : kS W u k = Kc W X (4 * n + k.val) := by
  funext i d; unfold kS Kc; rw [uc_seq W X n u hu]
theorem vS_seq (k : Fin 4) : vS W u k = Vc W X (4 * n + k.val) := by
  funext i d; unfold vS Vc; rw [uc_seq W X n u hu]
theorem rS_seq (k : Fin 4) : rS W u k = Rc W X (4 * n + k.val) := by
  funext i d; unfold rS Rc; rw [uc_seq W X n u hu]
theorem nS_seq (k : Fin 4) (S : Fin 4 → Fin 256 → Fin 128 → EReal) : nS W u k S = after W X (4 * n + k.val) S := by
  unfold nS after; rw [bS_seq W X n u hu, kS_seq W X n u hu, vS_seq W X n u hu]

omit hu in
theorem S_next (k : ℕ) (h : ¬(k + 1) % 128 = 0) : S W X (k + 1) = after W X k (S W X k) := by
  rw [S, if_neg h]

/-- The states before a step's chunks. -/
theorem sS_seq (T : Fin 4 → Fin 256 → Fin 128 → EReal) (hT : T = S W X (4 * n)) : ∀ k : Fin 4, sS W u T k.val = S W X (4 * n + k.val) := by
  have e1 : nS W u 0 T = S W X (4 * n + 1) := by
    rw [nS_seq W X n u hu, hT, S_next W X (4 * n) (by omega)]; rfl
  have e2 : nS W u 1 (nS W u 0 T) = S W X (4 * n + 2) := by
    rw [e1, nS_seq W X n u hu, S_next W X (4 * n + 1) (by omega)]; rfl
  have e3 : nS W u 2 (nS W u 1 (nS W u 0 T)) = S W X (4 * n + 3) := by
    rw [e2, nS_seq W X n u hu, S_next W X (4 * n + 2) (by omega)]; rfl
  intro k
  fin_cases k
  · exact hT
  · exact e1
  · exact e2
  · exact e3

/-- The states after a step. -/
theorem sS_end (T : Fin 4 → Fin 256 → Fin 128 → EReal) (hT : T = S W X (4 * n)) : sS W u T 4 = after W X (4 * n + 3) (S W X (4 * n + 3)) := by
  show nS W u 3 (sS W u T (3 : Fin 4).val) = _
  rw [sS_seq W X n u hu T hT, nS_seq W X n u hu]
  rfl

/-- A step's gated heads. -/
theorem obS_seq (T : Fin 4 → Fin 256 → Fin 128 → EReal) (hT : T = S W X (4 * n)) (r : Fin 256) (j : Fin 1024) :
    obS W u T ⟨r.val / 64, by omega⟩ ⟨j.val / 256, by omega⟩ ⟨r.val % 64, by omega⟩ ⟨j.val % 256, by omega⟩ = O W X (256 * n + r.val) j := by
  unfold obS O
  rw [bS_seq W X n u hu, qS_seq W X n u hu, kS_seq W X n u hu, vS_seq W X n u hu, rS_seq W X n u hu,
    show sS W u T (⟨r.val / 64, by omega⟩ : Fin 4).val = _ from sS_seq W X n u hu T hT ⟨r.val / 64, by omega⟩]
  have e : (256 * n + r.val) / 64 = 4 * n + r.val / 64 := by omega
  have e' : (⟨(256 * n + r.val) % 64, by omega⟩ : Fin 64) = ⟨r.val % 64, by omega⟩ := Fin.ext (by show (256 * n + r.val) % 64 = r.val % 64; omega)
  rw [e, e']

/-- A step's convolution. -/
theorem conv_seq (H : Fin 32 → Fin 1024 → EReal) (h0 : n % 32 = 0 → H = fun _ _ => 0)
    (h1 : ¬n % 32 = 0 → ∀ i c, H i c = glu W (U W X (256 * n + i.val - 32)) c) (r : Fin 256) (c : Fin 1024) :
    conv W (fun k => cx W H u (k + 2 + r.val) c) c = A W X (256 * n + r.val) c := by
  unfold A
  refine conv_congr W _ _ c fun k hk => ?_
  unfold past
  by_cases h : 30 ≤ r.val + k
  · rw [cx_hi W H u _ c (by omega) (by omega), hu, if_pos (by omega)]
    congr 2
    show 256 * n + (k + 2 + r.val - 32) = 256 * n + r.val + k - 30
    omega
  · unfold cx
    rw [dif_pos (by omega)]
    by_cases g : n % 32 = 0
    · rw [h0 g, if_neg (by omega)]
    · rw [h1 g, if_pos (by omega)]
      congr 2
      show 256 * n + (k + 2 + r.val) - 32 = 256 * n + r.val + k - 30
      omega

end Cert.KernelIdeal.Mix
end
-- ==== Proof.MixTri.lean ====
module

public import proofs.«01_k».proof.Proof.MixSpec
public import proofs.«01_k».proof.Proof.Gen.KernelIdeal.Value

@[expose] public section

set_option maxRecDepth 16384

noncomputable section

/-! The table of the running sum: one where the column is of the row's chunk and not past the row. A half row of the table is zero or one of 128 patterns. -/

namespace Cert.KernelIdeal.Mix

open Cert.KernelIdeal Cert.KernelIdeal.Gen Cert.MixSpec Idealize.ShloMosaic Idealize.ShloMosaic.TcCoe Idealize.ShloMosaic.Tactic

/-- The table's word at row `a`, column `b`. -/
def tr (a b : ℕ) : BitVec 16 := if a / 64 = b / 64 ∧ b ≤ a then 0x3F80#16 else 0#16

theorem tr_zero (a b : ℕ) (h : ¬(a / 64 = b / 64 ∧ b ≤ a)) : tr a b = 0#16 := if_neg h

theorem tr_shift (a b : ℕ) : tr (128 + a) (128 + b) = tr a b := by
  unfold tr
  have h : ((128 + a) / 64 = (128 + b) / 64 ∧ 128 + b ≤ 128 + a) ↔ (a / 64 = b / 64 ∧ b ≤ a) := by omega
  simp only [h]

/-- A half row that repeats every 128 words is known from its first 128. -/
theorem row {f : ℕ → BitVec 16} {a : ℕ} (hm : ∀ i, f (i % 128) = f i) (hs : ∀ b : Fin 128, f b.val = tr a b.val) (i : ℕ) :
    f i = tr a (0 + i % 128) := by
  rw [Nat.zero_add, ← hs ⟨i % 128, Nat.mod_lt _ (by decide)⟩]
  exact (hm i).symm

theorem r_0 (i : ℕ) : lit0t0_0 i = tr 0 (0 + i % 128) :=
  row (fun i => by unfold lit0t0_0; rw [Nat.mod_mod]) (by decide +kernel) i
theorem r_2 (i : ℕ) : lit0t0_2 i = tr 1 (0 + i % 128) :=
  row (fun i => by unfold lit0t0_2; rw [Nat.mod_mod]) (by decide +kernel) i
theorem r_4 (i : ℕ) : lit0t0_4 i = tr 2 (0 + i % 128) :=
  row (fun i => by unfold lit0t0_4; rw [Nat.mod_mod]) (by decide +kernel) i
theorem r_6 (i : ℕ) : lit0t0_6 i = tr 3 (0 + i % 128) :=
  row (fun i => by unfold lit0t0_6; rw [Nat.mod_mod]) (by decide +kernel) i
theorem r_8 (i : ℕ) : lit0t0_8 i = tr 4 (0 + i % 128) :=
  row (fun i => by unfold lit0t0_8; rw [Nat.mod_mod]) (by decide +kernel) i
theorem r_10 (i : ℕ) : lit0t0_10 i = tr 5 (0 + i % 128) :=
  row (fun i => by unfold lit0t0_10; rw [Nat.mod_mod]) (by decide +kernel) i
theorem r_12 (i : ℕ) : lit0t0_12 i = tr 6 (0 + i % 128) :=
  row (fun i => by unfold lit0t0_12; rw [Nat.mod_mod]) (by decide +kernel) i
theorem r_14 (i : ℕ) : lit0t0_14 i = tr 7 (0 + i % 128) :=
  row (fun i => by unfold lit0t0_14; rw [Nat.mod_mod]) (by decide +kernel) i
theorem r_16 (i : ℕ) : lit0t0_16 i = tr 8 (0 + i % 128) :=
  row (fun i => by unfold lit0t0_16; rw [Nat.mod_mod]) (by decide +kernel) i
theorem r_18 (i : ℕ) : lit0t0_18 i = tr 9 (0 + i % 128) :=
  row (fun i => by unfold lit0t0_18; rw [Nat.mod_mod]) (by decide +kernel) i
theorem r_20 (i : ℕ) : lit0t0_20 i = tr 10 (0 + i % 128) :=
  row (fun i => by unfold lit0t0_20; rw [Nat.mod_mod]) (by decide +kernel) i
theorem r_22 (i : ℕ) : lit0t0_22 i = tr 11 (0 + i % 128) :=
  row (fun i => by unfold lit0t0_22; rw [Nat.mod_mod]) (by decide +kernel) i
theorem r_24 (i : ℕ) : lit0t0_24 i = tr 12 (0 + i % 128) :=
  row (fun i => by unfold lit0t0_24; rw [Nat.mod_mod]) (by decide +kernel) i
theorem r_26 (i : ℕ) : lit0t0_26 i = tr 13 (0 + i % 128) :=
  row (fun i => by unfold lit0t0_26; rw [Nat.mod_mod]) (by decide +kernel) i
theorem r_28 (i : ℕ) : lit0t0_28 i = tr 14 (0 + i % 128) :=
  row (fun i => by unfold lit0t0_28; rw [Nat.mod_mod]) (by decide +kernel) i
theorem r_30 (i : ℕ) : lit0t0_30 i = tr 15 (0 + i % 128) :=
  row (fun i => by unfold lit0t0_30; rw [Nat.mod_mod]) (by decide +kernel) i
theorem r_32 (i : ℕ) : lit0t0_32 i = tr 16 (0 + i % 128) :=
  row (fun i => by unfold lit0t0_32; rw [Nat.mod_mod]) (by decide +kernel) i
theorem r_34 (i : ℕ) : lit0t0_34 i = tr 17 (0 + i % 128) :=
  row (fun i => by unfold lit0t0_34; rw [Nat.mod_mod]) (by decide +kernel) i
theorem r_36 (i : ℕ) : lit0t0_36 i = tr 18 (0 + i % 128) :=
  row (fun i => by unfold lit0t0_36; rw [Nat.mod_mod]) (by decide +kernel) i
theorem r_38 (i : ℕ) : lit0t0_38 i = tr 19 (0 + i % 128) :=
  row (fun i => by unfold lit0t0_38; rw [Nat.mod_mod]) (by decide +kernel) i
theorem r_40 (i : ℕ) : lit0t0_40 i = tr 20 (0 + i % 128) :=
  row (fun i => by unfold lit0t0_40; rw [Nat.mod_mod]) (by decide +kernel) i
theorem r_42 (i : ℕ) : lit0t0_42 i = tr 21 (0 + i % 128) :=
  row (fun i => by unfold lit0t0_42; rw [Nat.mod_mod]) (by decide +kernel) i
theorem r_44 (i : ℕ) : lit0t0_44 i = tr 22 (0 + i % 128) :=
  row (fun i => by unfold lit0t0_44; rw [Nat.mod_mod]) (by decide +kernel) i
theorem r_46 (i : ℕ) : lit0t0_46 i = tr 23 (0 + i % 128) :=
  row (fun i => by unfold lit0t0_46; rw [Nat.mod_mod]) (by decide +kernel) i
theorem r_48 (i : ℕ) : lit0t0_48 i = tr 24 (0 + i % 128) :=
  row (fun i => by unfold lit0t0_48; rw [Nat.mod_mod]) (by decide +kernel) i
theorem r_50 (i : ℕ) : lit0t0_50 i = tr 25 (0 + i % 128) :=
  row (fun i => by unfold lit0t0_50; rw [Nat.mod_mod]) (by decide +kernel) i
theorem r_52 (i : ℕ) : lit0t0_52 i = tr 26 (0 + i % 128) :=
  row (fun i => by unfold lit0t0_52; rw [Nat.mod_mod]) (by decide +kernel) i
theorem r_54 (i : ℕ) : lit0t0_54 i = tr 27 (0 + i % 128) :=
  row (fun i => by unfold lit0t0_54; rw [Nat.mod_mod]) (by decide +kernel) i
theorem r_56 (i : ℕ) : lit0t0_56 i = tr 28 (0 + i % 128) :=
  row (fun i => by unfold lit0t0_56; rw [Nat.mod_mod]) (by decide +kernel) i
theorem r_58 (i : ℕ) : lit0t0_58 i = tr 29 (0 + i % 128) :=
  row (fun i => by unfold lit0t0_58; rw [Nat.mod_mod]) (by decide +kernel) i
theorem r_60 (i : ℕ) : lit0t0_60 i = tr 30 (0 + i % 128) :=
  row (fun i => by unfold lit0t0_60; rw [Nat.mod_mod]) (by decide +kernel) i
theorem r_62 (i : ℕ) : lit0t0_62 i = tr 31 (0 + i % 128) :=
  row (fun i => by unfold lit0t0_62; rw [Nat.mod_mod]) (by decide +kernel) i
theorem r_64 (i : ℕ) : lit0t0_64 i = tr 32 (0 + i % 128) :=
  row (fun i => by unfold lit0t0_64; rw [Nat.mod_mod]) (by decide +kernel) i
theorem r_66 (i : ℕ) : lit0t0_66 i = tr 33 (0 + i % 128) :=
  row (fun i => by unfold lit0t0_66; rw [Nat.mod_mod]) (by decide +kernel) i
theorem r_68 (i : ℕ) : lit0t0_68 i = tr 34 (0 + i % 128) :=
  row (fun i => by unfold lit0t0_68; rw [Nat.mod_mod]) (by decide +kernel) i
theorem r_70 (i : ℕ) : lit0t0_70 i = tr 35 (0 + i % 128) :=
  row (fun i => by unfold lit0t0_70; rw [Nat.mod_mod]) (by decide +kernel) i
theorem r_72 (i : ℕ) : lit0t0_72 i = tr 36 (0 + i % 128) :=
  row (fun i => by unfold lit0t0_72; rw [Nat.mod_mod]) (by decide +kernel) i
theorem r_74 (i : ℕ) : lit0t0_74 i = tr 37 (0 + i % 128) :=
  row (fun i => by unfold lit0t0_74; rw [Nat.mod_mod]) (by decide +kernel) i
theorem r_76 (i : ℕ) : lit0t0_76 i = tr 38 (0 + i % 128) :=
  row (fun i => by unfold lit0t0_76; rw [Nat.mod_mod]) (by decide +kernel) i
theorem r_78 (i : ℕ) : lit0t0_78 i = tr 39 (0 + i % 128) :=
  row (fun i => by unfold lit0t0_78; rw [Nat.mod_mod]) (by decide +kernel) i
theorem r_80 (i : ℕ) : lit0t0_80 i = tr 40 (0 + i % 128) :=
  row (fun i => by unfold lit0t0_80; rw [Nat.mod_mod]) (by decide +kernel) i
theorem r_82 (i : ℕ) : lit0t0_82 i = tr 41 (0 + i % 128) :=
  row (fun i => by unfold lit0t0_82; rw [Nat.mod_mod]) (by decide +kernel) i
theorem r_84 (i : ℕ) : lit0t0_84 i = tr 42 (0 + i % 128) :=
  row (fun i => by unfold lit0t0_84; rw [Nat.mod_mod]) (by decide +kernel) i
theorem r_86 (i : ℕ) : lit0t0_86 i = tr 43 (0 + i % 128) :=
  row (fun i => by unfold lit0t0_86; rw [Nat.mod_mod]) (by decide +kernel) i
theorem r_88 (i : ℕ) : lit0t0_88 i = tr 44 (0 + i % 128) :=
  row (fun i => by unfold lit0t0_88; rw [Nat.mod_mod]) (by decide +kernel) i
theorem r_90 (i : ℕ) : lit0t0_90 i = tr 45 (0 + i % 128) :=
  row (fun i => by unfold lit0t0_90; rw [Nat.mod_mod]) (by decide +kernel) i
theorem r_92 (i : ℕ) : lit0t0_92 i = tr 46 (0 + i % 128) :=
  row (fun i => by unfold lit0t0_92; rw [Nat.mod_mod]) (by decide +kernel) i
theorem r_94 (i : ℕ) : lit0t0_94 i = tr 47 (0 + i % 128) :=
  row (fun i => by unfold lit0t0_94; rw [Nat.mod_mod]) (by decide +kernel) i
theorem r_96 (i : ℕ) : lit0t0_96 i = tr 48 (0 + i % 128) :=
  row (fun i => by unfold lit0t0_96; rw [Nat.mod_mod]) (by decide +kernel) i
theorem r_98 (i : ℕ) : lit0t0_98 i = tr 49 (0 + i % 128) :=
  row (fun i => by unfold lit0t0_98; rw [Nat.mod_mod]) (by decide +kernel) i
theorem r_100 (i : ℕ) : lit0t0_100 i = tr 50 (0 + i % 128) :=
  row (fun i => by unfold lit0t0_100; rw [Nat.mod_mod]) (by decide +kernel) i
theorem r_102 (i : ℕ) : lit0t0_102 i = tr 51 (0 + i % 128) :=
  row (fun i => by unfold lit0t0_102; rw [Nat.mod_mod]) (by decide +kernel) i
theorem r_104 (i : ℕ) : lit0t0_104 i = tr 52 (0 + i % 128) :=
  row (fun i => by unfold lit0t0_104; rw [Nat.mod_mod]) (by decide +kernel) i
theorem r_106 (i : ℕ) : lit0t0_106 i = tr 53 (0 + i % 128) :=
  row (fun i => by unfold lit0t0_106; rw [Nat.mod_mod]) (by decide +kernel) i
theorem r_108 (i : ℕ) : lit0t0_108 i = tr 54 (0 + i % 128) :=
  row (fun i => by unfold lit0t0_108; rw [Nat.mod_mod]) (by decide +kernel) i
theorem r_110 (i : ℕ) : lit0t0_110 i = tr 55 (0 + i % 128) :=
  row (fun i => by unfold lit0t0_110; rw [Nat.mod_mod]) (by decide +kernel) i
theorem r_112 (i : ℕ) : lit0t0_112 i = tr 56 (0 + i % 128) :=
  row (fun i => by unfold lit0t0_112; rw [Nat.mod_mod]) (by decide +kernel) i
theorem r_114 (i : ℕ) : lit0t0_114 i = tr 57 (0 + i % 128) :=
  row (fun i => by unfold lit0t0_114; rw [Nat.mod_mod]) (by decide +kernel) i
theorem r_116 (i : ℕ) : lit0t0_116 i = tr 58 (0 + i % 128) :=
  row (fun i => by unfold lit0t0_116; rw [Nat.mod_mod]) (by decide +kernel) i
theorem r_118 (i : ℕ) : lit0t0_118 i = tr 59 (0 + i % 128) :=
  row (fun i => by unfold lit0t0_118; rw [Nat.mod_mod]) (by decide +kernel) i
theorem r_120 (i : ℕ) : lit0t0_120 i = tr 60 (0 + i % 128) :=
  row (fun i => by unfold lit0t0_120; rw [Nat.mod_mod]) (by decide +kernel) i
theorem r_122 (i : ℕ) : lit0t0_122 i = tr 61 (0 + i % 128) :=
  row (fun i => by unfold lit0t0_122; rw [Nat.mod_mod]) (by decide +kernel) i
theorem r_124 (i : ℕ) : lit0t0_124 i = tr 62 (0 + i % 128) :=
  row (fun i => by unfold lit0t0_124; rw [Nat.mod_mod]) (by decide +kernel) i
theorem r_126 (i : ℕ) : lit0t0_126 i = tr 63 (0 + i % 128) :=
  row (fun i => by unfold lit0t0_126; rw [Nat.mod_mod]) (by decide +kernel) i
theorem r_128 (i : ℕ) : lit0t0_128 i = tr 64 (0 + i % 128) :=
  row (fun i => by unfold lit0t0_128; rw [Nat.mod_mod]) (by decide +kernel) i
theorem r_130 (i : ℕ) : lit0t0_130 i = tr 65 (0 + i % 128) :=
  row (fun i => by unfold lit0t0_130; rw [Nat.mod_mod]) (by decide +kernel) i
theorem r_132 (i : ℕ) : lit0t0_132 i = tr 66 (0 + i % 128) :=
  row (fun i => by unfold lit0t0_132; rw [Nat.mod_mod]) (by decide +kernel) i
theorem r_134 (i : ℕ) : lit0t0_134 i = tr 67 (0 + i % 128) :=
  row (fun i => by unfold lit0t0_134; rw [Nat.mod_mod]) (by decide +kernel) i
theorem r_136 (i : ℕ) : lit0t0_136 i = tr 68 (0 + i % 128) :=
  row (fun i => by unfold lit0t0_136; rw [Nat.mod_mod]) (by decide +kernel) i
theorem r_138 (i : ℕ) : lit0t0_138 i = tr 69 (0 + i % 128) :=
  row (fun i => by unfold lit0t0_138; rw [Nat.mod_mod]) (by decide +kernel) i
theorem r_140 (i : ℕ) : lit0t0_140 i = tr 70 (0 + i % 128) :=
  row (fun i => by unfold lit0t0_140; rw [Nat.mod_mod]) (by decide +kernel) i
theorem r_142 (i : ℕ) : lit0t0_142 i = tr 71 (0 + i % 128) :=
  row (fun i => by unfold lit0t0_142; rw [Nat.mod_mod]) (by decide +kernel) i
theorem r_144 (i : ℕ) : lit0t0_144 i = tr 72 (0 + i % 128) :=
  row (fun i => by unfold lit0t0_144; rw [Nat.mod_mod]) (by decide +kernel) i
theorem r_146 (i : ℕ) : lit0t0_146 i = tr 73 (0 + i % 128) :=
  row (fun i => by unfold lit0t0_146; rw [Nat.mod_mod]) (by decide +kernel) i
theorem r_148 (i : ℕ) : lit0t0_148 i = tr 74 (0 + i % 128) :=
  row (fun i => by unfold lit0t0_148; rw [Nat.mod_mod]) (by decide +kernel) i
theorem r_150 (i : ℕ) : lit0t0_150 i = tr 75 (0 + i % 128) :=
  row (fun i => by unfold lit0t0_150; rw [Nat.mod_mod]) (by decide +kernel) i
theorem r_152 (i : ℕ) : lit0t0_152 i = tr 76 (0 + i % 128) :=
  row (fun i => by unfold lit0t0_152; rw [Nat.mod_mod]) (by decide +kernel) i
theorem r_154 (i : ℕ) : lit0t0_154 i = tr 77 (0 + i % 128) :=
  row (fun i => by unfold lit0t0_154; rw [Nat.mod_mod]) (by decide +kernel) i
theorem r_156 (i : ℕ) : lit0t0_156 i = tr 78 (0 + i % 128) :=
  row (fun i => by unfold lit0t0_156; rw [Nat.mod_mod]) (by decide +kernel) i
theorem r_158 (i : ℕ) : lit0t0_158 i = tr 79 (0 + i % 128) :=
  row (fun i => by unfold lit0t0_158; rw [Nat.mod_mod]) (by decide +kernel) i
theorem r_160 (i : ℕ) : lit0t0_160 i = tr 80 (0 + i % 128) :=
  row (fun i => by unfold lit0t0_160; rw [Nat.mod_mod]) (by decide +kernel) i
theorem r_162 (i : ℕ) : lit0t0_162 i = tr 81 (0 + i % 128) :=
  row (fun i => by unfold lit0t0_162; rw [Nat.mod_mod]) (by decide +kernel) i
theorem r_164 (i : ℕ) : lit0t0_164 i = tr 82 (0 + i % 128) :=
  row (fun i => by unfold lit0t0_164; rw [Nat.mod_mod]) (by decide +kernel) i
theorem r_166 (i : ℕ) : lit0t0_166 i = tr 83 (0 + i % 128) :=
  row (fun i => by unfold lit0t0_166; rw [Nat.mod_mod]) (by decide +kernel) i
theorem r_168 (i : ℕ) : lit0t0_168 i = tr 84 (0 + i % 128) :=
  row (fun i => by unfold lit0t0_168; rw [Nat.mod_mod]) (by decide +kernel) i
theorem r_170 (i : ℕ) : lit0t0_170 i = tr 85 (0 + i % 128) :=
  row (fun i => by unfold lit0t0_170; rw [Nat.mod_mod]) (by decide +kernel) i
theorem r_172 (i : ℕ) : lit0t0_172 i = tr 86 (0 + i % 128) :=
  row (fun i => by unfold lit0t0_172; rw [Nat.mod_mod]) (by decide +kernel) i
theorem r_174 (i : ℕ) : lit0t0_174 i = tr 87 (0 + i % 128) :=
  row (fun i => by unfold lit0t0_174; rw [Nat.mod_mod]) (by decide +kernel) i
theorem r_176 (i : ℕ) : lit0t0_176 i = tr 88 (0 + i % 128) :=
  row (fun i => by unfold lit0t0_176; rw [Nat.mod_mod]) (by decide +kernel) i
theorem r_178 (i : ℕ) : lit0t0_178 i = tr 89 (0 + i % 128) :=
  row (fun i => by unfold lit0t0_178; rw [Nat.mod_mod]) (by decide +kernel) i
theorem r_180 (i : ℕ) : lit0t0_180 i = tr 90 (0 + i % 128) :=
  row (fun i => by unfold lit0t0_180; rw [Nat.mod_mod]) (by decide +kernel) i
theorem r_182 (i : ℕ) : lit0t0_182 i = tr 91 (0 + i % 128) :=
  row (fun i => by unfold lit0t0_182; rw [Nat.mod_mod]) (by decide +kernel) i
theorem r_184 (i : ℕ) : lit0t0_184 i = tr 92 (0 + i % 128) :=
  row (fun i => by unfold lit0t0_184; rw [Nat.mod_mod]) (by decide +kernel) i
theorem r_186 (i : ℕ) : lit0t0_186 i = tr 93 (0 + i % 128) :=
  row (fun i => by unfold lit0t0_186; rw [Nat.mod_mod]) (by decide +kernel) i
theorem r_188 (i : ℕ) : lit0t0_188 i = tr 94 (0 + i % 128) :=
  row (fun i => by unfold lit0t0_188; rw [Nat.mod_mod]) (by decide +kernel) i
theorem r_190 (i : ℕ) : lit0t0_190 i = tr 95 (0 + i % 128) :=
  row (fun i => by unfold lit0t0_190; rw [Nat.mod_mod]) (by decide +kernel) i
theorem r_192 (i : ℕ) : lit0t0_192 i = tr 96 (0 + i % 128) :=
  row (fun i => by unfold lit0t0_192; rw [Nat.mod_mod]) (by decide +kernel) i
theorem r_194 (i : ℕ) : lit0t0_194 i = tr 97 (0 + i % 128) :=
  row (fun i => by unfold lit0t0_194; rw [Nat.mod_mod]) (by decide +kernel) i
theorem r_196 (i : ℕ) : lit0t0_196 i = tr 98 (0 + i % 128) :=
  row (fun i => by unfold lit0t0_196; rw [Nat.mod_mod]) (by decide +kernel) i
theorem r_198 (i : ℕ) : lit0t0_198 i = tr 99 (0 + i % 128) :=
  row (fun i => by unfold lit0t0_198; rw [Nat.mod_mod]) (by decide +kernel) i
theorem r_200 (i : ℕ) : lit0t0_200 i = tr 100 (0 + i % 128) :=
  row (fun i => by unfold lit0t0_200; rw [Nat.mod_mod]) (by decide +kernel) i
theorem r_202 (i : ℕ) : lit0t0_202 i = tr 101 (0 + i % 128) :=
  row (fun i => by unfold lit0t0_202; rw [Nat.mod_mod]) (by decide +kernel) i
theorem r_204 (i : ℕ) : lit0t0_204 i = tr 102 (0 + i % 128) :=
  row (fun i => by unfold lit0t0_204; rw [Nat.mod_mod]) (by decide +kernel) i
theorem r_206 (i : ℕ) : lit0t0_206 i = tr 103 (0 + i % 128) :=
  row (fun i => by unfold lit0t0_206; rw [Nat.mod_mod]) (by decide +kernel) i
theorem r_208 (i : ℕ) : lit0t0_208 i = tr 104 (0 + i % 128) :=
  row (fun i => by unfold lit0t0_208; rw [Nat.mod_mod]) (by decide +kernel) i
theorem r_210 (i : ℕ) : lit0t0_210 i = tr 105 (0 + i % 128) :=
  row (fun i => by unfold lit0t0_210; rw [Nat.mod_mod]) (by decide +kernel) i
theorem r_212 (i : ℕ) : lit0t0_212 i = tr 106 (0 + i % 128) :=
  row (fun i => by unfold lit0t0_212; rw [Nat.mod_mod]) (by decide +kernel) i
theorem r_214 (i : ℕ) : lit0t0_214 i = tr 107 (0 + i % 128) :=
  row (fun i => by unfold lit0t0_214; rw [Nat.mod_mod]) (by decide +kernel) i
theorem r_216 (i : ℕ) : lit0t0_216 i = tr 108 (0 + i % 128) :=
  row (fun i => by unfold lit0t0_216; rw [Nat.mod_mod]) (by decide +kernel) i
theorem r_218 (i : ℕ) : lit0t0_218 i = tr 109 (0 + i % 128) :=
  row (fun i => by unfold lit0t0_218; rw [Nat.mod_mod]) (by decide +kernel) i
theorem r_220 (i : ℕ) : lit0t0_220 i = tr 110 (0 + i % 128) :=
  row (fun i => by unfold lit0t0_220; rw [Nat.mod_mod]) (by decide +kernel) i
theorem r_222 (i : ℕ) : lit0t0_222 i = tr 111 (0 + i % 128) :=
  row (fun i => by unfold lit0t0_222; rw [Nat.mod_mod]) (by decide +kernel) i
theorem r_224 (i : ℕ) : lit0t0_224 i = tr 112 (0 + i % 128) :=
  row (fun i => by unfold lit0t0_224; rw [Nat.mod_mod]) (by decide +kernel) i
theorem r_226 (i : ℕ) : lit0t0_226 i = tr 113 (0 + i % 128) :=
  row (fun i => by unfold lit0t0_226; rw [Nat.mod_mod]) (by decide +kernel) i
theorem r_228 (i : ℕ) : lit0t0_228 i = tr 114 (0 + i % 128) :=
  row (fun i => by unfold lit0t0_228; rw [Nat.mod_mod]) (by decide +kernel) i
theorem r_230 (i : ℕ) : lit0t0_230 i = tr 115 (0 + i % 128) :=
  row (fun i => by unfold lit0t0_230; rw [Nat.mod_mod]) (by decide +kernel) i
theorem r_232 (i : ℕ) : lit0t0_232 i = tr 116 (0 + i % 128) :=
  row (fun i => by unfold lit0t0_232; rw [Nat.mod_mod]) (by decide +kernel) i
theorem r_234 (i : ℕ) : lit0t0_234 i = tr 117 (0 + i % 128) :=
  row (fun i => by unfold lit0t0_234; rw [Nat.mod_mod]) (by decide +kernel) i
theorem r_236 (i : ℕ) : lit0t0_236 i = tr 118 (0 + i % 128) :=
  row (fun i => by unfold lit0t0_236; rw [Nat.mod_mod]) (by decide +kernel) i
theorem r_238 (i : ℕ) : lit0t0_238 i = tr 119 (0 + i % 128) :=
  row (fun i => by unfold lit0t0_238; rw [Nat.mod_mod]) (by decide +kernel) i
theorem r_240 (i : ℕ) : lit0t0_240 i = tr 120 (0 + i % 128) :=
  row (fun i => by unfold lit0t0_240; rw [Nat.mod_mod]) (by decide +kernel) i
theorem r_242 (i : ℕ) : lit0t0_242 i = tr 121 (0 + i % 128) :=
  row (fun i => by unfold lit0t0_242; rw [Nat.mod_mod]) (by decide +kernel) i
theorem r_244 (i : ℕ) : lit0t0_244 i = tr 122 (0 + i % 128) :=
  row (fun i => by unfold lit0t0_244; rw [Nat.mod_mod]) (by decide +kernel) i
theorem r_246 (i : ℕ) : lit0t0_246 i = tr 123 (0 + i % 128) :=
  row (fun i => by unfold lit0t0_246; rw [Nat.mod_mod]) (by decide +kernel) i
theorem r_248 (i : ℕ) : lit0t0_248 i = tr 124 (0 + i % 128) :=
  row (fun i => by unfold lit0t0_248; rw [Nat.mod_mod]) (by decide +kernel) i
theorem r_250 (i : ℕ) : lit0t0_250 i = tr 125 (0 + i % 128) :=
  row (fun i => by unfold lit0t0_250; rw [Nat.mod_mod]) (by decide +kernel) i
theorem r_252 (i : ℕ) : lit0t0_252 i = tr 126 (0 + i % 128) :=
  row (fun i => by unfold lit0t0_252; rw [Nat.mod_mod]) (by decide +kernel) i
theorem r_254 (i : ℕ) : lit0t0_254 i = tr 127 (0 + i % 128) :=
  row (fun i => by unfold lit0t0_254; rw [Nat.mod_mod]) (by decide +kernel) i
theorem s_1 : ∀ b : Fin 128, lit0t0_1 b.val = 0#16 := by decide +kernel
theorem r0_1 (i : ℕ) : lit0t0_1 i = 0#16 := by
  rw [← s_1 ⟨i % 128, Nat.mod_lt _ (by decide)⟩]
  unfold lit0t0_1
  rw [Nat.mod_mod]

/-- A half row with the words of the half row of zeros. -/
theorem zr {x : BitVec 16} {i a b : ℕ} (h : x = lit0t0_1 i) (hz : ¬(a / 64 = b / 64 ∧ b ≤ a)) : x = tr a b :=
  h.trans ((r0_1 i).trans (tr_zero _ _ hz).symm)

/-- A half row of the lower half is the half row 128 above and 128 to the left. -/
theorem sh (a : ℕ) {x y : BitVec 16} {i : ℕ} (h : x = y) (hy : y = tr a (0 + i % 128)) : x = tr (128 + a) (128 + i % 128) :=
  h.trans (hy.trans (by rw [Nat.zero_add]; exact (tr_shift a _).symm))

theorem r_1 (i : ℕ) : lit0t0_1 i = tr 0 (128 + i % 128) := zr (i := i) rfl (by omega)
theorem r_3 (i : ℕ) : lit0t0_3 i = tr 1 (128 + i % 128) := zr (i := i) rfl (by omega)
theorem r_5 (i : ℕ) : lit0t0_5 i = tr 2 (128 + i % 128) := zr (i := i) rfl (by omega)
theorem r_7 (i : ℕ) : lit0t0_7 i = tr 3 (128 + i % 128) := zr (i := i) rfl (by omega)
theorem r_9 (i : ℕ) : lit0t0_9 i = tr 4 (128 + i % 128) := zr (i := i) rfl (by omega)
theorem r_11 (i : ℕ) : lit0t0_11 i = tr 5 (128 + i % 128) := zr (i := i) rfl (by omega)
theorem r_13 (i : ℕ) : lit0t0_13 i = tr 6 (128 + i % 128) := zr (i := i) rfl (by omega)
theorem r_15 (i : ℕ) : lit0t0_15 i = tr 7 (128 + i % 128) := zr (i := i) rfl (by omega)
theorem r_17 (i : ℕ) : lit0t0_17 i = tr 8 (128 + i % 128) := zr (i := i) rfl (by omega)
theorem r_19 (i : ℕ) : lit0t0_19 i = tr 9 (128 + i % 128) := zr (i := i) rfl (by omega)
theorem r_21 (i : ℕ) : lit0t0_21 i = tr 10 (128 + i % 128) := zr (i := i) rfl (by omega)
theorem r_23 (i : ℕ) : lit0t0_23 i = tr 11 (128 + i % 128) := zr (i := i) rfl (by omega)
theorem r_25 (i : ℕ) : lit0t0_25 i = tr 12 (128 + i % 128) := zr (i := i) rfl (by omega)
theorem r_27 (i : ℕ) : lit0t0_27 i = tr 13 (128 + i % 128) := zr (i := i) rfl (by omega)
theorem r_29 (i : ℕ) : lit0t0_29 i = tr 14 (128 + i % 128) := zr (i := i) rfl (by omega)
theorem r_31 (i : ℕ) : lit0t0_31 i = tr 15 (128 + i % 128) := zr (i := i) rfl (by omega)
theorem r_33 (i : ℕ) : lit0t0_33 i = tr 16 (128 + i % 128) := zr (i := i) rfl (by omega)
theorem r_35 (i : ℕ) : lit0t0_35 i = tr 17 (128 + i % 128) := zr (i := i) rfl (by omega)
theorem r_37 (i : ℕ) : lit0t0_37 i = tr 18 (128 + i % 128) := zr (i := i) rfl (by omega)
theorem r_39 (i : ℕ) : lit0t0_39 i = tr 19 (128 + i % 128) := zr (i := i) rfl (by omega)
theorem r_41 (i : ℕ) : lit0t0_41 i = tr 20 (128 + i % 128) := zr (i := i) rfl (by omega)
theorem r_43 (i : ℕ) : lit0t0_43 i = tr 21 (128 + i % 128) := zr (i := i) rfl (by omega)
theorem r_45 (i : ℕ) : lit0t0_45 i = tr 22 (128 + i % 128) := zr (i := i) rfl (by omega)
theorem r_47 (i : ℕ) : lit0t0_47 i = tr 23 (128 + i % 128) := zr (i := i) rfl (by omega)
theorem r_49 (i : ℕ) : lit0t0_49 i = tr 24 (128 + i % 128) := zr (i := i) rfl (by omega)
theorem r_51 (i : ℕ) : lit0t0_51 i = tr 25 (128 + i % 128) := zr (i := i) rfl (by omega)
theorem r_53 (i : ℕ) : lit0t0_53 i = tr 26 (128 + i % 128) := zr (i := i) rfl (by omega)
theorem r_55 (i : ℕ) : lit0t0_55 i = tr 27 (128 + i % 128) := zr (i := i) rfl (by omega)
theorem r_57 (i : ℕ) : lit0t0_57 i = tr 28 (128 + i % 128) := zr (i := i) rfl (by omega)
theorem r_59 (i : ℕ) : lit0t0_59 i = tr 29 (128 + i % 128) := zr (i := i) rfl (by omega)
theorem r_61 (i : ℕ) : lit0t0_61 i = tr 30 (128 + i % 128) := zr (i := i) rfl (by omega)
theorem r_63 (i : ℕ) : lit0t0_63 i = tr 31 (128 + i % 128) := zr (i := i) rfl (by omega)
theorem r_65 (i : ℕ) : lit0t0_65 i = tr 32 (128 + i % 128) := zr (i := i) rfl (by omega)
theorem r_67 (i : ℕ) : lit0t0_67 i = tr 33 (128 + i % 128) := zr (i := i) rfl (by omega)
theorem r_69 (i : ℕ) : lit0t0_69 i = tr 34 (128 + i % 128) := zr (i := i) rfl (by omega)
theorem r_71 (i : ℕ) : lit0t0_71 i = tr 35 (128 + i % 128) := zr (i := i) rfl (by omega)
theorem r_73 (i : ℕ) : lit0t0_73 i = tr 36 (128 + i % 128) := zr (i := i) rfl (by omega)
theorem r_75 (i : ℕ) : lit0t0_75 i = tr 37 (128 + i % 128) := zr (i := i) rfl (by omega)
theorem r_77 (i : ℕ) : lit0t0_77 i = tr 38 (128 + i % 128) := zr (i := i) rfl (by omega)
theorem r_79 (i : ℕ) : lit0t0_79 i = tr 39 (128 + i % 128) := zr (i := i) rfl (by omega)
theorem r_81 (i : ℕ) : lit0t0_81 i = tr 40 (128 + i % 128) := zr (i := i) rfl (by omega)
theorem r_83 (i : ℕ) : lit0t0_83 i = tr 41 (128 + i % 128) := zr (i := i) rfl (by omega)
theorem r_85 (i : ℕ) : lit0t0_85 i = tr 42 (128 + i % 128) := zr (i := i) rfl (by omega)
theorem r_87 (i : ℕ) : lit0t0_87 i = tr 43 (128 + i % 128) := zr (i := i) rfl (by omega)
theorem r_89 (i : ℕ) : lit0t0_89 i = tr 44 (128 + i % 128) := zr (i := i) rfl (by omega)
theorem r_91 (i : ℕ) : lit0t0_91 i = tr 45 (128 + i % 128) := zr (i := i) rfl (by omega)
theorem r_93 (i : ℕ) : lit0t0_93 i = tr 46 (128 + i % 128) := zr (i := i) rfl (by omega)
theorem r_95 (i : ℕ) : lit0t0_95 i = tr 47 (128 + i % 128) := zr (i := i) rfl (by omega)
theorem r_97 (i : ℕ) : lit0t0_97 i = tr 48 (128 + i % 128) := zr (i := i) rfl (by omega)
theorem r_99 (i : ℕ) : lit0t0_99 i = tr 49 (128 + i % 128) := zr (i := i) rfl (by omega)
theorem r_101 (i : ℕ) : lit0t0_101 i = tr 50 (128 + i % 128) := zr (i := i) rfl (by omega)
theorem r_103 (i : ℕ) : lit0t0_103 i = tr 51 (128 + i % 128) := zr (i := i) rfl (by omega)
theorem r_105 (i : ℕ) : lit0t0_105 i = tr 52 (128 + i % 128) := zr (i := i) rfl (by omega)
theorem r_107 (i : ℕ) : lit0t0_107 i = tr 53 (128 + i % 128) := zr (i := i) rfl (by omega)
theorem r_109 (i : ℕ) : lit0t0_109 i = tr 54 (128 + i % 128) := zr (i := i) rfl (by omega)
theorem r_111 (i : ℕ) : lit0t0_111 i = tr 55 (128 + i % 128) := zr (i := i) rfl (by omega)
theorem r_113 (i : ℕ) : lit0t0_113 i = tr 56 (128 + i % 128) := zr (i := i) rfl (by omega)
theorem r_115 (i : ℕ) : lit0t0_115 i = tr 57 (128 + i % 128) := zr (i := i) rfl (by omega)
theorem r_117 (i : ℕ) : lit0t0_117 i = tr 58 (128 + i % 128) := zr (i := i) rfl (by omega)
theorem r_119 (i : ℕ) : lit0t0_119 i = tr 59 (128 + i % 128) := zr (i := i) rfl (by omega)
theorem r_121 (i : ℕ) : lit0t0_121 i = tr 60 (128 + i % 128) := zr (i := i) rfl (by omega)
theorem r_123 (i : ℕ) : lit0t0_123 i = tr 61 (128 + i % 128) := zr (i := i) rfl (by omega)
theorem r_125 (i : ℕ) : lit0t0_125 i = tr 62 (128 + i % 128) := zr (i := i) rfl (by omega)
theorem r_127 (i : ℕ) : lit0t0_127 i = tr 63 (128 + i % 128) := zr (i := i) rfl (by omega)
theorem r_129 (i : ℕ) : lit0t0_129 i = tr 64 (128 + i % 128) := zr (i := i) rfl (by omega)
theorem r_131 (i : ℕ) : lit0t0_131 i = tr 65 (128 + i % 128) := zr (i := i) rfl (by omega)
theorem r_133 (i : ℕ) : lit0t0_133 i = tr 66 (128 + i % 128) := zr (i := i) rfl (by omega)
theorem r_135 (i : ℕ) : lit0t0_135 i = tr 67 (128 + i % 128) := zr (i := i) rfl (by omega)
theorem r_137 (i : ℕ) : lit0t0_137 i = tr 68 (128 + i % 128) := zr (i := i) rfl (by omega)
theorem r_139 (i : ℕ) : lit0t0_139 i = tr 69 (128 + i % 128) := zr (i := i) rfl (by omega)
theorem r_141 (i : ℕ) : lit0t0_141 i = tr 70 (128 + i % 128) := zr (i := i) rfl (by omega)
theorem r_143 (i : ℕ) : lit0t0_143 i = tr 71 (128 + i % 128) := zr (i := i) rfl (by omega)
theorem r_145 (i : ℕ) : lit0t0_145 i = tr 72 (128 + i % 128) := zr (i := i) rfl (by omega)
theorem r_147 (i : ℕ) : lit0t0_147 i = tr 73 (128 + i % 128) := zr (i := i) rfl (by omega)
theorem r_149 (i : ℕ) : lit0t0_149 i = tr 74 (128 + i % 128) := zr (i := i) rfl (by omega)
theorem r_151 (i : ℕ) : lit0t0_151 i = tr 75 (128 + i % 128) := zr (i := i) rfl (by omega)
theorem r_153 (i : ℕ) : lit0t0_153 i = tr 76 (128 + i % 128) := zr (i := i) rfl (by omega)
theorem r_155 (i : ℕ) : lit0t0_155 i = tr 77 (128 + i % 128) := zr (i := i) rfl (by omega)
theorem r_157 (i : ℕ) : lit0t0_157 i = tr 78 (128 + i % 128) := zr (i := i) rfl (by omega)
theorem r_159 (i : ℕ) : lit0t0_159 i = tr 79 (128 + i % 128) := zr (i := i) rfl (by omega)
theorem r_161 (i : ℕ) : lit0t0_161 i = tr 80 (128 + i % 128) := zr (i := i) rfl (by omega)
theorem r_163 (i : ℕ) : lit0t0_163 i = tr 81 (128 + i % 128) := zr (i := i) rfl (by omega)
theorem r_165 (i : ℕ) : lit0t0_165 i = tr 82 (128 + i % 128) := zr (i := i) rfl (by omega)
theorem r_167 (i : ℕ) : lit0t0_167 i = tr 83 (128 + i % 128) := zr (i := i) rfl (by omega)
theorem r_169 (i : ℕ) : lit0t0_169 i = tr 84 (128 + i % 128) := zr (i := i) rfl (by omega)
theorem r_171 (i : ℕ) : lit0t0_171 i = tr 85 (128 + i % 128) := zr (i := i) rfl (by omega)
theorem r_173 (i : ℕ) : lit0t0_173 i = tr 86 (128 + i % 128) := zr (i := i) rfl (by omega)
theorem r_175 (i : ℕ) : lit0t0_175 i = tr 87 (128 + i % 128) := zr (i := i) rfl (by omega)
theorem r_177 (i : ℕ) : lit0t0_177 i = tr 88 (128 + i % 128) := zr (i := i) rfl (by omega)
theorem r_179 (i : ℕ) : lit0t0_179 i = tr 89 (128 + i % 128) := zr (i := i) rfl (by omega)
theorem r_181 (i : ℕ) : lit0t0_181 i = tr 90 (128 + i % 128) := zr (i := i) rfl (by omega)
theorem r_183 (i : ℕ) : lit0t0_183 i = tr 91 (128 + i % 128) := zr (i := i) rfl (by omega)
theorem r_185 (i : ℕ) : lit0t0_185 i = tr 92 (128 + i % 128) := zr (i := i) rfl (by omega)
theorem r_187 (i : ℕ) : lit0t0_187 i = tr 93 (128 + i % 128) := zr (i := i) rfl (by omega)
theorem r_189 (i : ℕ) : lit0t0_189 i = tr 94 (128 + i % 128) := zr (i := i) rfl (by omega)
theorem r_191 (i : ℕ) : lit0t0_191 i = tr 95 (128 + i % 128) := zr (i := i) rfl (by omega)
theorem r_193 (i : ℕ) : lit0t0_193 i = tr 96 (128 + i % 128) := zr (i := i) rfl (by omega)
theorem r_195 (i : ℕ) : lit0t0_195 i = tr 97 (128 + i % 128) := zr (i := i) rfl (by omega)
theorem r_197 (i : ℕ) : lit0t0_197 i = tr 98 (128 + i % 128) := zr (i := i) rfl (by omega)
theorem r_199 (i : ℕ) : lit0t0_199 i = tr 99 (128 + i % 128) := zr (i := i) rfl (by omega)
theorem r_201 (i : ℕ) : lit0t0_201 i = tr 100 (128 + i % 128) := zr (i := i) rfl (by omega)
theorem r_203 (i : ℕ) : lit0t0_203 i = tr 101 (128 + i % 128) := zr (i := i) rfl (by omega)
theorem r_205 (i : ℕ) : lit0t0_205 i = tr 102 (128 + i % 128) := zr (i := i) rfl (by omega)
theorem r_207 (i : ℕ) : lit0t0_207 i = tr 103 (128 + i % 128) := zr (i := i) rfl (by omega)
theorem r_209 (i : ℕ) : lit0t0_209 i = tr 104 (128 + i % 128) := zr (i := i) rfl (by omega)
theorem r_211 (i : ℕ) : lit0t0_211 i = tr 105 (128 + i % 128) := zr (i := i) rfl (by omega)
theorem r_213 (i : ℕ) : lit0t0_213 i = tr 106 (128 + i % 128) := zr (i := i) rfl (by omega)
theorem r_215 (i : ℕ) : lit0t0_215 i = tr 107 (128 + i % 128) := zr (i := i) rfl (by omega)
theorem r_217 (i : ℕ) : lit0t0_217 i = tr 108 (128 + i % 128) := zr (i := i) rfl (by omega)
theorem r_219 (i : ℕ) : lit0t0_219 i = tr 109 (128 + i % 128) := zr (i := i) rfl (by omega)
theorem r_221 (i : ℕ) : lit0t0_221 i = tr 110 (128 + i % 128) := zr (i := i) rfl (by omega)
theorem r_223 (i : ℕ) : lit0t0_223 i = tr 111 (128 + i % 128) := zr (i := i) rfl (by omega)
theorem r_225 (i : ℕ) : lit0t0_225 i = tr 112 (128 + i % 128) := zr (i := i) rfl (by omega)
theorem r_227 (i : ℕ) : lit0t0_227 i = tr 113 (128 + i % 128) := zr (i := i) rfl (by omega)
theorem r_229 (i : ℕ) : lit0t0_229 i = tr 114 (128 + i % 128) := zr (i := i) rfl (by omega)
theorem r_231 (i : ℕ) : lit0t0_231 i = tr 115 (128 + i % 128) := zr (i := i) rfl (by omega)
theorem r_233 (i : ℕ) : lit0t0_233 i = tr 116 (128 + i % 128) := zr (i := i) rfl (by omega)
theorem r_235 (i : ℕ) : lit0t0_235 i = tr 117 (128 + i % 128) := zr (i := i) rfl (by omega)
theorem r_237 (i : ℕ) : lit0t0_237 i = tr 118 (128 + i % 128) := zr (i := i) rfl (by omega)
theorem r_239 (i : ℕ) : lit0t0_239 i = tr 119 (128 + i % 128) := zr (i := i) rfl (by omega)
theorem r_241 (i : ℕ) : lit0t0_241 i = tr 120 (128 + i % 128) := zr (i := i) rfl (by omega)
theorem r_243 (i : ℕ) : lit0t0_243 i = tr 121 (128 + i % 128) := zr (i := i) rfl (by omega)
theorem r_245 (i : ℕ) : lit0t0_245 i = tr 122 (128 + i % 128) := zr (i := i) rfl (by omega)
theorem r_247 (i : ℕ) : lit0t0_247 i = tr 123 (128 + i % 128) := zr (i := i) rfl (by omega)
theorem r_249 (i : ℕ) : lit0t0_249 i = tr 124 (128 + i % 128) := zr (i := i) rfl (by omega)
theorem r_251 (i : ℕ) : lit0t0_251 i = tr 125 (128 + i % 128) := zr (i := i) rfl (by omega)
theorem r_253 (i : ℕ) : lit0t0_253 i = tr 126 (128 + i % 128) := zr (i := i) rfl (by omega)
theorem r_255 (i : ℕ) : lit0t0_255 i = tr 127 (128 + i % 128) := zr (i := i) rfl (by omega)
theorem r_256 (i : ℕ) : lit0t0_256 i = tr 128 (0 + i % 128) := zr (i := i) rfl (by omega)
theorem r_257 (i : ℕ) : lit0t0_257 i = tr 128 (128 + i % 128) := sh 0 rfl (r_0 i)
theorem r_258 (i : ℕ) : lit0t0_258 i = tr 129 (0 + i % 128) := zr (i := i) rfl (by omega)
theorem r_259 (i : ℕ) : lit0t0_259 i = tr 129 (128 + i % 128) := sh 1 rfl (r_2 i)
theorem r_260 (i : ℕ) : lit0t0_260 i = tr 130 (0 + i % 128) := zr (i := i) rfl (by omega)
theorem r_261 (i : ℕ) : lit0t0_261 i = tr 130 (128 + i % 128) := sh 2 rfl (r_4 i)
theorem r_262 (i : ℕ) : lit0t0_262 i = tr 131 (0 + i % 128) := zr (i := i) rfl (by omega)
theorem r_263 (i : ℕ) : lit0t0_263 i = tr 131 (128 + i % 128) := sh 3 rfl (r_6 i)
theorem r_264 (i : ℕ) : lit0t0_264 i = tr 132 (0 + i % 128) := zr (i := i) rfl (by omega)
theorem r_265 (i : ℕ) : lit0t0_265 i = tr 132 (128 + i % 128) := sh 4 rfl (r_8 i)
theorem r_266 (i : ℕ) : lit0t0_266 i = tr 133 (0 + i % 128) := zr (i := i) rfl (by omega)
theorem r_267 (i : ℕ) : lit0t0_267 i = tr 133 (128 + i % 128) := sh 5 rfl (r_10 i)
theorem r_268 (i : ℕ) : lit0t0_268 i = tr 134 (0 + i % 128) := zr (i := i) rfl (by omega)
theorem r_269 (i : ℕ) : lit0t0_269 i = tr 134 (128 + i % 128) := sh 6 rfl (r_12 i)
theorem r_270 (i : ℕ) : lit0t0_270 i = tr 135 (0 + i % 128) := zr (i := i) rfl (by omega)
theorem r_271 (i : ℕ) : lit0t0_271 i = tr 135 (128 + i % 128) := sh 7 rfl (r_14 i)
theorem r_272 (i : ℕ) : lit0t0_272 i = tr 136 (0 + i % 128) := zr (i := i) rfl (by omega)
theorem r_273 (i : ℕ) : lit0t0_273 i = tr 136 (128 + i % 128) := sh 8 rfl (r_16 i)
theorem r_274 (i : ℕ) : lit0t0_274 i = tr 137 (0 + i % 128) := zr (i := i) rfl (by omega)
theorem r_275 (i : ℕ) : lit0t0_275 i = tr 137 (128 + i % 128) := sh 9 rfl (r_18 i)
theorem r_276 (i : ℕ) : lit0t0_276 i = tr 138 (0 + i % 128) := zr (i := i) rfl (by omega)
theorem r_277 (i : ℕ) : lit0t0_277 i = tr 138 (128 + i % 128) := sh 10 rfl (r_20 i)
theorem r_278 (i : ℕ) : lit0t0_278 i = tr 139 (0 + i % 128) := zr (i := i) rfl (by omega)
theorem r_279 (i : ℕ) : lit0t0_279 i = tr 139 (128 + i % 128) := sh 11 rfl (r_22 i)
theorem r_280 (i : ℕ) : lit0t0_280 i = tr 140 (0 + i % 128) := zr (i := i) rfl (by omega)
theorem r_281 (i : ℕ) : lit0t0_281 i = tr 140 (128 + i % 128) := sh 12 rfl (r_24 i)
theorem r_282 (i : ℕ) : lit0t0_282 i = tr 141 (0 + i % 128) := zr (i := i) rfl (by omega)
theorem r_283 (i : ℕ) : lit0t0_283 i = tr 141 (128 + i % 128) := sh 13 rfl (r_26 i)
theorem r_284 (i : ℕ) : lit0t0_284 i = tr 142 (0 + i % 128) := zr (i := i) rfl (by omega)
theorem r_285 (i : ℕ) : lit0t0_285 i = tr 142 (128 + i % 128) := sh 14 rfl (r_28 i)
theorem r_286 (i : ℕ) : lit0t0_286 i = tr 143 (0 + i % 128) := zr (i := i) rfl (by omega)
theorem r_287 (i : ℕ) : lit0t0_287 i = tr 143 (128 + i % 128) := sh 15 rfl (r_30 i)
theorem r_288 (i : ℕ) : lit0t0_288 i = tr 144 (0 + i % 128) := zr (i := i) rfl (by omega)
theorem r_289 (i : ℕ) : lit0t0_289 i = tr 144 (128 + i % 128) := sh 16 rfl (r_32 i)
theorem r_290 (i : ℕ) : lit0t0_290 i = tr 145 (0 + i % 128) := zr (i := i) rfl (by omega)
theorem r_291 (i : ℕ) : lit0t0_291 i = tr 145 (128 + i % 128) := sh 17 rfl (r_34 i)
theorem r_292 (i : ℕ) : lit0t0_292 i = tr 146 (0 + i % 128) := zr (i := i) rfl (by omega)
theorem r_293 (i : ℕ) : lit0t0_293 i = tr 146 (128 + i % 128) := sh 18 rfl (r_36 i)
theorem r_294 (i : ℕ) : lit0t0_294 i = tr 147 (0 + i % 128) := zr (i := i) rfl (by omega)
theorem r_295 (i : ℕ) : lit0t0_295 i = tr 147 (128 + i % 128) := sh 19 rfl (r_38 i)
theorem r_296 (i : ℕ) : lit0t0_296 i = tr 148 (0 + i % 128) := zr (i := i) rfl (by omega)
theorem r_297 (i : ℕ) : lit0t0_297 i = tr 148 (128 + i % 128) := sh 20 rfl (r_40 i)
theorem r_298 (i : ℕ) : lit0t0_298 i = tr 149 (0 + i % 128) := zr (i := i) rfl (by omega)
theorem r_299 (i : ℕ) : lit0t0_299 i = tr 149 (128 + i % 128) := sh 21 rfl (r_42 i)
theorem r_300 (i : ℕ) : lit0t0_300 i = tr 150 (0 + i % 128) := zr (i := i) rfl (by omega)
theorem r_301 (i : ℕ) : lit0t0_301 i = tr 150 (128 + i % 128) := sh 22 rfl (r_44 i)
theorem r_302 (i : ℕ) : lit0t0_302 i = tr 151 (0 + i % 128) := zr (i := i) rfl (by omega)
theorem r_303 (i : ℕ) : lit0t0_303 i = tr 151 (128 + i % 128) := sh 23 rfl (r_46 i)
theorem r_304 (i : ℕ) : lit0t0_304 i = tr 152 (0 + i % 128) := zr (i := i) rfl (by omega)
theorem r_305 (i : ℕ) : lit0t0_305 i = tr 152 (128 + i % 128) := sh 24 rfl (r_48 i)
theorem r_306 (i : ℕ) : lit0t0_306 i = tr 153 (0 + i % 128) := zr (i := i) rfl (by omega)
theorem r_307 (i : ℕ) : lit0t0_307 i = tr 153 (128 + i % 128) := sh 25 rfl (r_50 i)
theorem r_308 (i : ℕ) : lit0t0_308 i = tr 154 (0 + i % 128) := zr (i := i) rfl (by omega)
theorem r_309 (i : ℕ) : lit0t0_309 i = tr 154 (128 + i % 128) := sh 26 rfl (r_52 i)
theorem r_310 (i : ℕ) : lit0t0_310 i = tr 155 (0 + i % 128) := zr (i := i) rfl (by omega)
theorem r_311 (i : ℕ) : lit0t0_311 i = tr 155 (128 + i % 128) := sh 27 rfl (r_54 i)
theorem r_312 (i : ℕ) : lit0t0_312 i = tr 156 (0 + i % 128) := zr (i := i) rfl (by omega)
theorem r_313 (i : ℕ) : lit0t0_313 i = tr 156 (128 + i % 128) := sh 28 rfl (r_56 i)
theorem r_314 (i : ℕ) : lit0t0_314 i = tr 157 (0 + i % 128) := zr (i := i) rfl (by omega)
theorem r_315 (i : ℕ) : lit0t0_315 i = tr 157 (128 + i % 128) := sh 29 rfl (r_58 i)
theorem r_316 (i : ℕ) : lit0t0_316 i = tr 158 (0 + i % 128) := zr (i := i) rfl (by omega)
theorem r_317 (i : ℕ) : lit0t0_317 i = tr 158 (128 + i % 128) := sh 30 rfl (r_60 i)
theorem r_318 (i : ℕ) : lit0t0_318 i = tr 159 (0 + i % 128) := zr (i := i) rfl (by omega)
theorem r_319 (i : ℕ) : lit0t0_319 i = tr 159 (128 + i % 128) := sh 31 rfl (r_62 i)
theorem r_320 (i : ℕ) : lit0t0_320 i = tr 160 (0 + i % 128) := zr (i := i) rfl (by omega)
theorem r_321 (i : ℕ) : lit0t0_321 i = tr 160 (128 + i % 128) := sh 32 rfl (r_64 i)
theorem r_322 (i : ℕ) : lit0t0_322 i = tr 161 (0 + i % 128) := zr (i := i) rfl (by omega)
theorem r_323 (i : ℕ) : lit0t0_323 i = tr 161 (128 + i % 128) := sh 33 rfl (r_66 i)
theorem r_324 (i : ℕ) : lit0t0_324 i = tr 162 (0 + i % 128) := zr (i := i) rfl (by omega)
theorem r_325 (i : ℕ) : lit0t0_325 i = tr 162 (128 + i % 128) := sh 34 rfl (r_68 i)
theorem r_326 (i : ℕ) : lit0t0_326 i = tr 163 (0 + i % 128) := zr (i := i) rfl (by omega)
theorem r_327 (i : ℕ) : lit0t0_327 i = tr 163 (128 + i % 128) := sh 35 rfl (r_70 i)
theorem r_328 (i : ℕ) : lit0t0_328 i = tr 164 (0 + i % 128) := zr (i := i) rfl (by omega)
theorem r_329 (i : ℕ) : lit0t0_329 i = tr 164 (128 + i % 128) := sh 36 rfl (r_72 i)
theorem r_330 (i : ℕ) : lit0t0_330 i = tr 165 (0 + i % 128) := zr (i := i) rfl (by omega)
theorem r_331 (i : ℕ) : lit0t0_331 i = tr 165 (128 + i % 128) := sh 37 rfl (r_74 i)
theorem r_332 (i : ℕ) : lit0t0_332 i = tr 166 (0 + i % 128) := zr (i := i) rfl (by omega)
theorem r_333 (i : ℕ) : lit0t0_333 i = tr 166 (128 + i % 128) := sh 38 rfl (r_76 i)
theorem r_334 (i : ℕ) : lit0t0_334 i = tr 167 (0 + i % 128) := zr (i := i) rfl (by omega)
theorem r_335 (i : ℕ) : lit0t0_335 i = tr 167 (128 + i % 128) := sh 39 rfl (r_78 i)
theorem r_336 (i : ℕ) : lit0t0_336 i = tr 168 (0 + i % 128) := zr (i := i) rfl (by omega)
theorem r_337 (i : ℕ) : lit0t0_337 i = tr 168 (128 + i % 128) := sh 40 rfl (r_80 i)
theorem r_338 (i : ℕ) : lit0t0_338 i = tr 169 (0 + i % 128) := zr (i := i) rfl (by omega)
theorem r_339 (i : ℕ) : lit0t0_339 i = tr 169 (128 + i % 128) := sh 41 rfl (r_82 i)
theorem r_340 (i : ℕ) : lit0t0_340 i = tr 170 (0 + i % 128) := zr (i := i) rfl (by omega)
theorem r_341 (i : ℕ) : lit0t0_341 i = tr 170 (128 + i % 128) := sh 42 rfl (r_84 i)
theorem r_342 (i : ℕ) : lit0t0_342 i = tr 171 (0 + i % 128) := zr (i := i) rfl (by omega)
theorem r_343 (i : ℕ) : lit0t0_343 i = tr 171 (128 + i % 128) := sh 43 rfl (r_86 i)
theorem r_344 (i : ℕ) : lit0t0_344 i = tr 172 (0 + i % 128) := zr (i := i) rfl (by omega)
theorem r_345 (i : ℕ) : lit0t0_345 i = tr 172 (128 + i % 128) := sh 44 rfl (r_88 i)
theorem r_346 (i : ℕ) : lit0t0_346 i = tr 173 (0 + i % 128) := zr (i := i) rfl (by omega)
theorem r_347 (i : ℕ) : lit0t0_347 i = tr 173 (128 + i % 128) := sh 45 rfl (r_90 i)
theorem r_348 (i : ℕ) : lit0t0_348 i = tr 174 (0 + i % 128) := zr (i := i) rfl (by omega)
theorem r_349 (i : ℕ) : lit0t0_349 i = tr 174 (128 + i % 128) := sh 46 rfl (r_92 i)
theorem r_350 (i : ℕ) : lit0t0_350 i = tr 175 (0 + i % 128) := zr (i := i) rfl (by omega)
theorem r_351 (i : ℕ) : lit0t0_351 i = tr 175 (128 + i % 128) := sh 47 rfl (r_94 i)
theorem r_352 (i : ℕ) : lit0t0_352 i = tr 176 (0 + i % 128) := zr (i := i) rfl (by omega)
theorem r_353 (i : ℕ) : lit0t0_353 i = tr 176 (128 + i % 128) := sh 48 rfl (r_96 i)
theorem r_354 (i : ℕ) : lit0t0_354 i = tr 177 (0 + i % 128) := zr (i := i) rfl (by omega)
theorem r_355 (i : ℕ) : lit0t0_355 i = tr 177 (128 + i % 128) := sh 49 rfl (r_98 i)
theorem r_356 (i : ℕ) : lit0t0_356 i = tr 178 (0 + i % 128) := zr (i := i) rfl (by omega)
theorem r_357 (i : ℕ) : lit0t0_357 i = tr 178 (128 + i % 128) := sh 50 rfl (r_100 i)
theorem r_358 (i : ℕ) : lit0t0_358 i = tr 179 (0 + i % 128) := zr (i := i) rfl (by omega)
theorem r_359 (i : ℕ) : lit0t0_359 i = tr 179 (128 + i % 128) := sh 51 rfl (r_102 i)
theorem r_360 (i : ℕ) : lit0t0_360 i = tr 180 (0 + i % 128) := zr (i := i) rfl (by omega)
theorem r_361 (i : ℕ) : lit0t0_361 i = tr 180 (128 + i % 128) := sh 52 rfl (r_104 i)
theorem r_362 (i : ℕ) : lit0t0_362 i = tr 181 (0 + i % 128) := zr (i := i) rfl (by omega)
theorem r_363 (i : ℕ) : lit0t0_363 i = tr 181 (128 + i % 128) := sh 53 rfl (r_106 i)
theorem r_364 (i : ℕ) : lit0t0_364 i = tr 182 (0 + i % 128) := zr (i := i) rfl (by omega)
theorem r_365 (i : ℕ) : lit0t0_365 i = tr 182 (128 + i % 128) := sh 54 rfl (r_108 i)
theorem r_366 (i : ℕ) : lit0t0_366 i = tr 183 (0 + i % 128) := zr (i := i) rfl (by omega)
theorem r_367 (i : ℕ) : lit0t0_367 i = tr 183 (128 + i % 128) := sh 55 rfl (r_110 i)
theorem r_368 (i : ℕ) : lit0t0_368 i = tr 184 (0 + i % 128) := zr (i := i) rfl (by omega)
theorem r_369 (i : ℕ) : lit0t0_369 i = tr 184 (128 + i % 128) := sh 56 rfl (r_112 i)
theorem r_370 (i : ℕ) : lit0t0_370 i = tr 185 (0 + i % 128) := zr (i := i) rfl (by omega)
theorem r_371 (i : ℕ) : lit0t0_371 i = tr 185 (128 + i % 128) := sh 57 rfl (r_114 i)
theorem r_372 (i : ℕ) : lit0t0_372 i = tr 186 (0 + i % 128) := zr (i := i) rfl (by omega)
theorem r_373 (i : ℕ) : lit0t0_373 i = tr 186 (128 + i % 128) := sh 58 rfl (r_116 i)
theorem r_374 (i : ℕ) : lit0t0_374 i = tr 187 (0 + i % 128) := zr (i := i) rfl (by omega)
theorem r_375 (i : ℕ) : lit0t0_375 i = tr 187 (128 + i % 128) := sh 59 rfl (r_118 i)
theorem r_376 (i : ℕ) : lit0t0_376 i = tr 188 (0 + i % 128) := zr (i := i) rfl (by omega)
theorem r_377 (i : ℕ) : lit0t0_377 i = tr 188 (128 + i % 128) := sh 60 rfl (r_120 i)
theorem r_378 (i : ℕ) : lit0t0_378 i = tr 189 (0 + i % 128) := zr (i := i) rfl (by omega)
theorem r_379 (i : ℕ) : lit0t0_379 i = tr 189 (128 + i % 128) := sh 61 rfl (r_122 i)
theorem r_380 (i : ℕ) : lit0t0_380 i = tr 190 (0 + i % 128) := zr (i := i) rfl (by omega)
theorem r_381 (i : ℕ) : lit0t0_381 i = tr 190 (128 + i % 128) := sh 62 rfl (r_124 i)
theorem r_382 (i : ℕ) : lit0t0_382 i = tr 191 (0 + i % 128) := zr (i := i) rfl (by omega)
theorem r_383 (i : ℕ) : lit0t0_383 i = tr 191 (128 + i % 128) := sh 63 rfl (r_126 i)
theorem r_384 (i : ℕ) : lit0t0_384 i = tr 192 (0 + i % 128) := zr (i := i) rfl (by omega)
theorem r_385 (i : ℕ) : lit0t0_385 i = tr 192 (128 + i % 128) := sh 64 rfl (r_128 i)
theorem r_386 (i : ℕ) : lit0t0_386 i = tr 193 (0 + i % 128) := zr (i := i) rfl (by omega)
theorem r_387 (i : ℕ) : lit0t0_387 i = tr 193 (128 + i % 128) := sh 65 rfl (r_130 i)
theorem r_388 (i : ℕ) : lit0t0_388 i = tr 194 (0 + i % 128) := zr (i := i) rfl (by omega)
theorem r_389 (i : ℕ) : lit0t0_389 i = tr 194 (128 + i % 128) := sh 66 rfl (r_132 i)
theorem r_390 (i : ℕ) : lit0t0_390 i = tr 195 (0 + i % 128) := zr (i := i) rfl (by omega)
theorem r_391 (i : ℕ) : lit0t0_391 i = tr 195 (128 + i % 128) := sh 67 rfl (r_134 i)
theorem r_392 (i : ℕ) : lit0t0_392 i = tr 196 (0 + i % 128) := zr (i := i) rfl (by omega)
theorem r_393 (i : ℕ) : lit0t0_393 i = tr 196 (128 + i % 128) := sh 68 rfl (r_136 i)
theorem r_394 (i : ℕ) : lit0t0_394 i = tr 197 (0 + i % 128) := zr (i := i) rfl (by omega)
theorem r_395 (i : ℕ) : lit0t0_395 i = tr 197 (128 + i % 128) := sh 69 rfl (r_138 i)
theorem r_396 (i : ℕ) : lit0t0_396 i = tr 198 (0 + i % 128) := zr (i := i) rfl (by omega)
theorem r_397 (i : ℕ) : lit0t0_397 i = tr 198 (128 + i % 128) := sh 70 rfl (r_140 i)
theorem r_398 (i : ℕ) : lit0t0_398 i = tr 199 (0 + i % 128) := zr (i := i) rfl (by omega)
theorem r_399 (i : ℕ) : lit0t0_399 i = tr 199 (128 + i % 128) := sh 71 rfl (r_142 i)
theorem r_400 (i : ℕ) : lit0t0_400 i = tr 200 (0 + i % 128) := zr (i := i) rfl (by omega)
theorem r_401 (i : ℕ) : lit0t0_401 i = tr 200 (128 + i % 128) := sh 72 rfl (r_144 i)
theorem r_402 (i : ℕ) : lit0t0_402 i = tr 201 (0 + i % 128) := zr (i := i) rfl (by omega)
theorem r_403 (i : ℕ) : lit0t0_403 i = tr 201 (128 + i % 128) := sh 73 rfl (r_146 i)
theorem r_404 (i : ℕ) : lit0t0_404 i = tr 202 (0 + i % 128) := zr (i := i) rfl (by omega)
theorem r_405 (i : ℕ) : lit0t0_405 i = tr 202 (128 + i % 128) := sh 74 rfl (r_148 i)
theorem r_406 (i : ℕ) : lit0t0_406 i = tr 203 (0 + i % 128) := zr (i := i) rfl (by omega)
theorem r_407 (i : ℕ) : lit0t0_407 i = tr 203 (128 + i % 128) := sh 75 rfl (r_150 i)
theorem r_408 (i : ℕ) : lit0t0_408 i = tr 204 (0 + i % 128) := zr (i := i) rfl (by omega)
theorem r_409 (i : ℕ) : lit0t0_409 i = tr 204 (128 + i % 128) := sh 76 rfl (r_152 i)
theorem r_410 (i : ℕ) : lit0t0_410 i = tr 205 (0 + i % 128) := zr (i := i) rfl (by omega)
theorem r_411 (i : ℕ) : lit0t0_411 i = tr 205 (128 + i % 128) := sh 77 rfl (r_154 i)
theorem r_412 (i : ℕ) : lit0t0_412 i = tr 206 (0 + i % 128) := zr (i := i) rfl (by omega)
theorem r_413 (i : ℕ) : lit0t0_413 i = tr 206 (128 + i % 128) := sh 78 rfl (r_156 i)
theorem r_414 (i : ℕ) : lit0t0_414 i = tr 207 (0 + i % 128) := zr (i := i) rfl (by omega)
theorem r_415 (i : ℕ) : lit0t0_415 i = tr 207 (128 + i % 128) := sh 79 rfl (r_158 i)
theorem r_416 (i : ℕ) : lit0t0_416 i = tr 208 (0 + i % 128) := zr (i := i) rfl (by omega)
theorem r_417 (i : ℕ) : lit0t0_417 i = tr 208 (128 + i % 128) := sh 80 rfl (r_160 i)
theorem r_418 (i : ℕ) : lit0t0_418 i = tr 209 (0 + i % 128) := zr (i := i) rfl (by omega)
theorem r_419 (i : ℕ) : lit0t0_419 i = tr 209 (128 + i % 128) := sh 81 rfl (r_162 i)
theorem r_420 (i : ℕ) : lit0t0_420 i = tr 210 (0 + i % 128) := zr (i := i) rfl (by omega)
theorem r_421 (i : ℕ) : lit0t0_421 i = tr 210 (128 + i % 128) := sh 82 rfl (r_164 i)
theorem r_422 (i : ℕ) : lit0t0_422 i = tr 211 (0 + i % 128) := zr (i := i) rfl (by omega)
theorem r_423 (i : ℕ) : lit0t0_423 i = tr 211 (128 + i % 128) := sh 83 rfl (r_166 i)
theorem r_424 (i : ℕ) : lit0t0_424 i = tr 212 (0 + i % 128) := zr (i := i) rfl (by omega)
theorem r_425 (i : ℕ) : lit0t0_425 i = tr 212 (128 + i % 128) := sh 84 rfl (r_168 i)
theorem r_426 (i : ℕ) : lit0t0_426 i = tr 213 (0 + i % 128) := zr (i := i) rfl (by omega)
theorem r_427 (i : ℕ) : lit0t0_427 i = tr 213 (128 + i % 128) := sh 85 rfl (r_170 i)
theorem r_428 (i : ℕ) : lit0t0_428 i = tr 214 (0 + i % 128) := zr (i := i) rfl (by omega)
theorem r_429 (i : ℕ) : lit0t0_429 i = tr 214 (128 + i % 128) := sh 86 rfl (r_172 i)
theorem r_430 (i : ℕ) : lit0t0_430 i = tr 215 (0 + i % 128) := zr (i := i) rfl (by omega)
theorem r_431 (i : ℕ) : lit0t0_431 i = tr 215 (128 + i % 128) := sh 87 rfl (r_174 i)
theorem r_432 (i : ℕ) : lit0t0_432 i = tr 216 (0 + i % 128) := zr (i := i) rfl (by omega)
theorem r_433 (i : ℕ) : lit0t0_433 i = tr 216 (128 + i % 128) := sh 88 rfl (r_176 i)
theorem r_434 (i : ℕ) : lit0t0_434 i = tr 217 (0 + i % 128) := zr (i := i) rfl (by omega)
theorem r_435 (i : ℕ) : lit0t0_435 i = tr 217 (128 + i % 128) := sh 89 rfl (r_178 i)
theorem r_436 (i : ℕ) : lit0t0_436 i = tr 218 (0 + i % 128) := zr (i := i) rfl (by omega)
theorem r_437 (i : ℕ) : lit0t0_437 i = tr 218 (128 + i % 128) := sh 90 rfl (r_180 i)
theorem r_438 (i : ℕ) : lit0t0_438 i = tr 219 (0 + i % 128) := zr (i := i) rfl (by omega)
theorem r_439 (i : ℕ) : lit0t0_439 i = tr 219 (128 + i % 128) := sh 91 rfl (r_182 i)
theorem r_440 (i : ℕ) : lit0t0_440 i = tr 220 (0 + i % 128) := zr (i := i) rfl (by omega)
theorem r_441 (i : ℕ) : lit0t0_441 i = tr 220 (128 + i % 128) := sh 92 rfl (r_184 i)
theorem r_442 (i : ℕ) : lit0t0_442 i = tr 221 (0 + i % 128) := zr (i := i) rfl (by omega)
theorem r_443 (i : ℕ) : lit0t0_443 i = tr 221 (128 + i % 128) := sh 93 rfl (r_186 i)
theorem r_444 (i : ℕ) : lit0t0_444 i = tr 222 (0 + i % 128) := zr (i := i) rfl (by omega)
theorem r_445 (i : ℕ) : lit0t0_445 i = tr 222 (128 + i % 128) := sh 94 rfl (r_188 i)
theorem r_446 (i : ℕ) : lit0t0_446 i = tr 223 (0 + i % 128) := zr (i := i) rfl (by omega)
theorem r_447 (i : ℕ) : lit0t0_447 i = tr 223 (128 + i % 128) := sh 95 rfl (r_190 i)
theorem r_448 (i : ℕ) : lit0t0_448 i = tr 224 (0 + i % 128) := zr (i := i) rfl (by omega)
theorem r_449 (i : ℕ) : lit0t0_449 i = tr 224 (128 + i % 128) := sh 96 rfl (r_192 i)
theorem r_450 (i : ℕ) : lit0t0_450 i = tr 225 (0 + i % 128) := zr (i := i) rfl (by omega)
theorem r_451 (i : ℕ) : lit0t0_451 i = tr 225 (128 + i % 128) := sh 97 rfl (r_194 i)
theorem r_452 (i : ℕ) : lit0t0_452 i = tr 226 (0 + i % 128) := zr (i := i) rfl (by omega)
theorem r_453 (i : ℕ) : lit0t0_453 i = tr 226 (128 + i % 128) := sh 98 rfl (r_196 i)
theorem r_454 (i : ℕ) : lit0t0_454 i = tr 227 (0 + i % 128) := zr (i := i) rfl (by omega)
theorem r_455 (i : ℕ) : lit0t0_455 i = tr 227 (128 + i % 128) := sh 99 rfl (r_198 i)
theorem r_456 (i : ℕ) : lit0t0_456 i = tr 228 (0 + i % 128) := zr (i := i) rfl (by omega)
theorem r_457 (i : ℕ) : lit0t0_457 i = tr 228 (128 + i % 128) := sh 100 rfl (r_200 i)
theorem r_458 (i : ℕ) : lit0t0_458 i = tr 229 (0 + i % 128) := zr (i := i) rfl (by omega)
theorem r_459 (i : ℕ) : lit0t0_459 i = tr 229 (128 + i % 128) := sh 101 rfl (r_202 i)
theorem r_460 (i : ℕ) : lit0t0_460 i = tr 230 (0 + i % 128) := zr (i := i) rfl (by omega)
theorem r_461 (i : ℕ) : lit0t0_461 i = tr 230 (128 + i % 128) := sh 102 rfl (r_204 i)
theorem r_462 (i : ℕ) : lit0t0_462 i = tr 231 (0 + i % 128) := zr (i := i) rfl (by omega)
theorem r_463 (i : ℕ) : lit0t0_463 i = tr 231 (128 + i % 128) := sh 103 rfl (r_206 i)
theorem r_464 (i : ℕ) : lit0t0_464 i = tr 232 (0 + i % 128) := zr (i := i) rfl (by omega)
theorem r_465 (i : ℕ) : lit0t0_465 i = tr 232 (128 + i % 128) := sh 104 rfl (r_208 i)
theorem r_466 (i : ℕ) : lit0t0_466 i = tr 233 (0 + i % 128) := zr (i := i) rfl (by omega)
theorem r_467 (i : ℕ) : lit0t0_467 i = tr 233 (128 + i % 128) := sh 105 rfl (r_210 i)
theorem r_468 (i : ℕ) : lit0t0_468 i = tr 234 (0 + i % 128) := zr (i := i) rfl (by omega)
theorem r_469 (i : ℕ) : lit0t0_469 i = tr 234 (128 + i % 128) := sh 106 rfl (r_212 i)
theorem r_470 (i : ℕ) : lit0t0_470 i = tr 235 (0 + i % 128) := zr (i := i) rfl (by omega)
theorem r_471 (i : ℕ) : lit0t0_471 i = tr 235 (128 + i % 128) := sh 107 rfl (r_214 i)
theorem r_472 (i : ℕ) : lit0t0_472 i = tr 236 (0 + i % 128) := zr (i := i) rfl (by omega)
theorem r_473 (i : ℕ) : lit0t0_473 i = tr 236 (128 + i % 128) := sh 108 rfl (r_216 i)
theorem r_474 (i : ℕ) : lit0t0_474 i = tr 237 (0 + i % 128) := zr (i := i) rfl (by omega)
theorem r_475 (i : ℕ) : lit0t0_475 i = tr 237 (128 + i % 128) := sh 109 rfl (r_218 i)
theorem r_476 (i : ℕ) : lit0t0_476 i = tr 238 (0 + i % 128) := zr (i := i) rfl (by omega)
theorem r_477 (i : ℕ) : lit0t0_477 i = tr 238 (128 + i % 128) := sh 110 rfl (r_220 i)
theorem r_478 (i : ℕ) : lit0t0_478 i = tr 239 (0 + i % 128) := zr (i := i) rfl (by omega)
theorem r_479 (i : ℕ) : lit0t0_479 i = tr 239 (128 + i % 128) := sh 111 rfl (r_222 i)
theorem r_480 (i : ℕ) : lit0t0_480 i = tr 240 (0 + i % 128) := zr (i := i) rfl (by omega)
theorem r_481 (i : ℕ) : lit0t0_481 i = tr 240 (128 + i % 128) := sh 112 rfl (r_224 i)
theorem r_482 (i : ℕ) : lit0t0_482 i = tr 241 (0 + i % 128) := zr (i := i) rfl (by omega)
theorem r_483 (i : ℕ) : lit0t0_483 i = tr 241 (128 + i % 128) := sh 113 rfl (r_226 i)
theorem r_484 (i : ℕ) : lit0t0_484 i = tr 242 (0 + i % 128) := zr (i := i) rfl (by omega)
theorem r_485 (i : ℕ) : lit0t0_485 i = tr 242 (128 + i % 128) := sh 114 rfl (r_228 i)
theorem r_486 (i : ℕ) : lit0t0_486 i = tr 243 (0 + i % 128) := zr (i := i) rfl (by omega)
theorem r_487 (i : ℕ) : lit0t0_487 i = tr 243 (128 + i % 128) := sh 115 rfl (r_230 i)
theorem r_488 (i : ℕ) : lit0t0_488 i = tr 244 (0 + i % 128) := zr (i := i) rfl (by omega)
theorem r_489 (i : ℕ) : lit0t0_489 i = tr 244 (128 + i % 128) := sh 116 rfl (r_232 i)
theorem r_490 (i : ℕ) : lit0t0_490 i = tr 245 (0 + i % 128) := zr (i := i) rfl (by omega)
theorem r_491 (i : ℕ) : lit0t0_491 i = tr 245 (128 + i % 128) := sh 117 rfl (r_234 i)
theorem r_492 (i : ℕ) : lit0t0_492 i = tr 246 (0 + i % 128) := zr (i := i) rfl (by omega)
theorem r_493 (i : ℕ) : lit0t0_493 i = tr 246 (128 + i % 128) := sh 118 rfl (r_236 i)
theorem r_494 (i : ℕ) : lit0t0_494 i = tr 247 (0 + i % 128) := zr (i := i) rfl (by omega)
theorem r_495 (i : ℕ) : lit0t0_495 i = tr 247 (128 + i % 128) := sh 119 rfl (r_238 i)
theorem r_496 (i : ℕ) : lit0t0_496 i = tr 248 (0 + i % 128) := zr (i := i) rfl (by omega)
theorem r_497 (i : ℕ) : lit0t0_497 i = tr 248 (128 + i % 128) := sh 120 rfl (r_240 i)
theorem r_498 (i : ℕ) : lit0t0_498 i = tr 249 (0 + i % 128) := zr (i := i) rfl (by omega)
theorem r_499 (i : ℕ) : lit0t0_499 i = tr 249 (128 + i % 128) := sh 121 rfl (r_242 i)
theorem r_500 (i : ℕ) : lit0t0_500 i = tr 250 (0 + i % 128) := zr (i := i) rfl (by omega)
theorem r_501 (i : ℕ) : lit0t0_501 i = tr 250 (128 + i % 128) := sh 122 rfl (r_244 i)
theorem r_502 (i : ℕ) : lit0t0_502 i = tr 251 (0 + i % 128) := zr (i := i) rfl (by omega)
theorem r_503 (i : ℕ) : lit0t0_503 i = tr 251 (128 + i % 128) := sh 123 rfl (r_246 i)
theorem r_504 (i : ℕ) : lit0t0_504 i = tr 252 (0 + i % 128) := zr (i := i) rfl (by omega)
theorem r_505 (i : ℕ) : lit0t0_505 i = tr 252 (128 + i % 128) := sh 124 rfl (r_248 i)
theorem r_506 (i : ℕ) : lit0t0_506 i = tr 253 (0 + i % 128) := zr (i := i) rfl (by omega)
theorem r_507 (i : ℕ) : lit0t0_507 i = tr 253 (128 + i % 128) := sh 125 rfl (r_250 i)
theorem r_508 (i : ℕ) : lit0t0_508 i = tr 254 (0 + i % 128) := zr (i := i) rfl (by omega)
theorem r_509 (i : ℕ) : lit0t0_509 i = tr 254 (128 + i % 128) := sh 126 rfl (r_252 i)
theorem r_510 (i : ℕ) : lit0t0_510 i = tr 255 (0 + i % 128) := zr (i := i) rfl (by omega)
theorem r_511 (i : ℕ) : lit0t0_511 i = tr 255 (128 + i % 128) := sh 127 rfl (r_254 i)
theorem u_0 (i m : ℕ) (h : i / 128 % 128 = m) (hm : m < 128) : lit0t1_0 i = tr (0 + m / 2) (128 * (m % 2) + i % 128) := by
  unfold lit0t1_0
  rw [h]
  exact match m, hm with
  | 0, _ => r_0 i
  | 1, _ => r_1 i
  | 2, _ => r_2 i
  | 3, _ => r_3 i
  | 4, _ => r_4 i
  | 5, _ => r_5 i
  | 6, _ => r_6 i
  | 7, _ => r_7 i
  | 8, _ => r_8 i
  | 9, _ => r_9 i
  | 10, _ => r_10 i
  | 11, _ => r_11 i
  | 12, _ => r_12 i
  | 13, _ => r_13 i
  | 14, _ => r_14 i
  | 15, _ => r_15 i
  | 16, _ => r_16 i
  | 17, _ => r_17 i
  | 18, _ => r_18 i
  | 19, _ => r_19 i
  | 20, _ => r_20 i
  | 21, _ => r_21 i
  | 22, _ => r_22 i
  | 23, _ => r_23 i
  | 24, _ => r_24 i
  | 25, _ => r_25 i
  | 26, _ => r_26 i
  | 27, _ => r_27 i
  | 28, _ => r_28 i
  | 29, _ => r_29 i
  | 30, _ => r_30 i
  | 31, _ => r_31 i
  | 32, _ => r_32 i
  | 33, _ => r_33 i
  | 34, _ => r_34 i
  | 35, _ => r_35 i
  | 36, _ => r_36 i
  | 37, _ => r_37 i
  | 38, _ => r_38 i
  | 39, _ => r_39 i
  | 40, _ => r_40 i
  | 41, _ => r_41 i
  | 42, _ => r_42 i
  | 43, _ => r_43 i
  | 44, _ => r_44 i
  | 45, _ => r_45 i
  | 46, _ => r_46 i
  | 47, _ => r_47 i
  | 48, _ => r_48 i
  | 49, _ => r_49 i
  | 50, _ => r_50 i
  | 51, _ => r_51 i
  | 52, _ => r_52 i
  | 53, _ => r_53 i
  | 54, _ => r_54 i
  | 55, _ => r_55 i
  | 56, _ => r_56 i
  | 57, _ => r_57 i
  | 58, _ => r_58 i
  | 59, _ => r_59 i
  | 60, _ => r_60 i
  | 61, _ => r_61 i
  | 62, _ => r_62 i
  | 63, _ => r_63 i
  | 64, _ => r_64 i
  | 65, _ => r_65 i
  | 66, _ => r_66 i
  | 67, _ => r_67 i
  | 68, _ => r_68 i
  | 69, _ => r_69 i
  | 70, _ => r_70 i
  | 71, _ => r_71 i
  | 72, _ => r_72 i
  | 73, _ => r_73 i
  | 74, _ => r_74 i
  | 75, _ => r_75 i
  | 76, _ => r_76 i
  | 77, _ => r_77 i
  | 78, _ => r_78 i
  | 79, _ => r_79 i
  | 80, _ => r_80 i
  | 81, _ => r_81 i
  | 82, _ => r_82 i
  | 83, _ => r_83 i
  | 84, _ => r_84 i
  | 85, _ => r_85 i
  | 86, _ => r_86 i
  | 87, _ => r_87 i
  | 88, _ => r_88 i
  | 89, _ => r_89 i
  | 90, _ => r_90 i
  | 91, _ => r_91 i
  | 92, _ => r_92 i
  | 93, _ => r_93 i
  | 94, _ => r_94 i
  | 95, _ => r_95 i
  | 96, _ => r_96 i
  | 97, _ => r_97 i
  | 98, _ => r_98 i
  | 99, _ => r_99 i
  | 100, _ => r_100 i
  | 101, _ => r_101 i
  | 102, _ => r_102 i
  | 103, _ => r_103 i
  | 104, _ => r_104 i
  | 105, _ => r_105 i
  | 106, _ => r_106 i
  | 107, _ => r_107 i
  | 108, _ => r_108 i
  | 109, _ => r_109 i
  | 110, _ => r_110 i
  | 111, _ => r_111 i
  | 112, _ => r_112 i
  | 113, _ => r_113 i
  | 114, _ => r_114 i
  | 115, _ => r_115 i
  | 116, _ => r_116 i
  | 117, _ => r_117 i
  | 118, _ => r_118 i
  | 119, _ => r_119 i
  | 120, _ => r_120 i
  | 121, _ => r_121 i
  | 122, _ => r_122 i
  | 123, _ => r_123 i
  | 124, _ => r_124 i
  | 125, _ => r_125 i
  | 126, _ => r_126 i
  | 127, _ => r_127 i
  | n + 128, h => absurd h (by omega)
theorem u_1 (i m : ℕ) (h : i / 128 % 128 = m) (hm : m < 128) : lit0t1_1 i = tr (64 + m / 2) (128 * (m % 2) + i % 128) := by
  unfold lit0t1_1
  rw [h]
  exact match m, hm with
  | 0, _ => r_128 i
  | 1, _ => r_129 i
  | 2, _ => r_130 i
  | 3, _ => r_131 i
  | 4, _ => r_132 i
  | 5, _ => r_133 i
  | 6, _ => r_134 i
  | 7, _ => r_135 i
  | 8, _ => r_136 i
  | 9, _ => r_137 i
  | 10, _ => r_138 i
  | 11, _ => r_139 i
  | 12, _ => r_140 i
  | 13, _ => r_141 i
  | 14, _ => r_142 i
  | 15, _ => r_143 i
  | 16, _ => r_144 i
  | 17, _ => r_145 i
  | 18, _ => r_146 i
  | 19, _ => r_147 i
  | 20, _ => r_148 i
  | 21, _ => r_149 i
  | 22, _ => r_150 i
  | 23, _ => r_151 i
  | 24, _ => r_152 i
  | 25, _ => r_153 i
  | 26, _ => r_154 i
  | 27, _ => r_155 i
  | 28, _ => r_156 i
  | 29, _ => r_157 i
  | 30, _ => r_158 i
  | 31, _ => r_159 i
  | 32, _ => r_160 i
  | 33, _ => r_161 i
  | 34, _ => r_162 i
  | 35, _ => r_163 i
  | 36, _ => r_164 i
  | 37, _ => r_165 i
  | 38, _ => r_166 i
  | 39, _ => r_167 i
  | 40, _ => r_168 i
  | 41, _ => r_169 i
  | 42, _ => r_170 i
  | 43, _ => r_171 i
  | 44, _ => r_172 i
  | 45, _ => r_173 i
  | 46, _ => r_174 i
  | 47, _ => r_175 i
  | 48, _ => r_176 i
  | 49, _ => r_177 i
  | 50, _ => r_178 i
  | 51, _ => r_179 i
  | 52, _ => r_180 i
  | 53, _ => r_181 i
  | 54, _ => r_182 i
  | 55, _ => r_183 i
  | 56, _ => r_184 i
  | 57, _ => r_185 i
  | 58, _ => r_186 i
  | 59, _ => r_187 i
  | 60, _ => r_188 i
  | 61, _ => r_189 i
  | 62, _ => r_190 i
  | 63, _ => r_191 i
  | 64, _ => r_192 i
  | 65, _ => r_193 i
  | 66, _ => r_194 i
  | 67, _ => r_195 i
  | 68, _ => r_196 i
  | 69, _ => r_197 i
  | 70, _ => r_198 i
  | 71, _ => r_199 i
  | 72, _ => r_200 i
  | 73, _ => r_201 i
  | 74, _ => r_202 i
  | 75, _ => r_203 i
  | 76, _ => r_204 i
  | 77, _ => r_205 i
  | 78, _ => r_206 i
  | 79, _ => r_207 i
  | 80, _ => r_208 i
  | 81, _ => r_209 i
  | 82, _ => r_210 i
  | 83, _ => r_211 i
  | 84, _ => r_212 i
  | 85, _ => r_213 i
  | 86, _ => r_214 i
  | 87, _ => r_215 i
  | 88, _ => r_216 i
  | 89, _ => r_217 i
  | 90, _ => r_218 i
  | 91, _ => r_219 i
  | 92, _ => r_220 i
  | 93, _ => r_221 i
  | 94, _ => r_222 i
  | 95, _ => r_223 i
  | 96, _ => r_224 i
  | 97, _ => r_225 i
  | 98, _ => r_226 i
  | 99, _ => r_227 i
  | 100, _ => r_228 i
  | 101, _ => r_229 i
  | 102, _ => r_230 i
  | 103, _ => r_231 i
  | 104, _ => r_232 i
  | 105, _ => r_233 i
  | 106, _ => r_234 i
  | 107, _ => r_235 i
  | 108, _ => r_236 i
  | 109, _ => r_237 i
  | 110, _ => r_238 i
  | 111, _ => r_239 i
  | 112, _ => r_240 i
  | 113, _ => r_241 i
  | 114, _ => r_242 i
  | 115, _ => r_243 i
  | 116, _ => r_244 i
  | 117, _ => r_245 i
  | 118, _ => r_246 i
  | 119, _ => r_247 i
  | 120, _ => r_248 i
  | 121, _ => r_249 i
  | 122, _ => r_250 i
  | 123, _ => r_251 i
  | 124, _ => r_252 i
  | 125, _ => r_253 i
  | 126, _ => r_254 i
  | 127, _ => r_255 i
  | n + 128, h => absurd h (by omega)
theorem u_2 (i m : ℕ) (h : i / 128 % 128 = m) (hm : m < 128) : lit0t1_2 i = tr (128 + m / 2) (128 * (m % 2) + i % 128) := by
  unfold lit0t1_2
  rw [h]
  exact match m, hm with
  | 0, _ => r_256 i
  | 1, _ => r_257 i
  | 2, _ => r_258 i
  | 3, _ => r_259 i
  | 4, _ => r_260 i
  | 5, _ => r_261 i
  | 6, _ => r_262 i
  | 7, _ => r_263 i
  | 8, _ => r_264 i
  | 9, _ => r_265 i
  | 10, _ => r_266 i
  | 11, _ => r_267 i
  | 12, _ => r_268 i
  | 13, _ => r_269 i
  | 14, _ => r_270 i
  | 15, _ => r_271 i
  | 16, _ => r_272 i
  | 17, _ => r_273 i
  | 18, _ => r_274 i
  | 19, _ => r_275 i
  | 20, _ => r_276 i
  | 21, _ => r_277 i
  | 22, _ => r_278 i
  | 23, _ => r_279 i
  | 24, _ => r_280 i
  | 25, _ => r_281 i
  | 26, _ => r_282 i
  | 27, _ => r_283 i
  | 28, _ => r_284 i
  | 29, _ => r_285 i
  | 30, _ => r_286 i
  | 31, _ => r_287 i
  | 32, _ => r_288 i
  | 33, _ => r_289 i
  | 34, _ => r_290 i
  | 35, _ => r_291 i
  | 36, _ => r_292 i
  | 37, _ => r_293 i
  | 38, _ => r_294 i
  | 39, _ => r_295 i
  | 40, _ => r_296 i
  | 41, _ => r_297 i
  | 42, _ => r_298 i
  | 43, _ => r_299 i
  | 44, _ => r_300 i
  | 45, _ => r_301 i
  | 46, _ => r_302 i
  | 47, _ => r_303 i
  | 48, _ => r_304 i
  | 49, _ => r_305 i
  | 50, _ => r_306 i
  | 51, _ => r_307 i
  | 52, _ => r_308 i
  | 53, _ => r_309 i
  | 54, _ => r_310 i
  | 55, _ => r_311 i
  | 56, _ => r_312 i
  | 57, _ => r_313 i
  | 58, _ => r_314 i
  | 59, _ => r_315 i
  | 60, _ => r_316 i
  | 61, _ => r_317 i
  | 62, _ => r_318 i
  | 63, _ => r_319 i
  | 64, _ => r_320 i
  | 65, _ => r_321 i
  | 66, _ => r_322 i
  | 67, _ => r_323 i
  | 68, _ => r_324 i
  | 69, _ => r_325 i
  | 70, _ => r_326 i
  | 71, _ => r_327 i
  | 72, _ => r_328 i
  | 73, _ => r_329 i
  | 74, _ => r_330 i
  | 75, _ => r_331 i
  | 76, _ => r_332 i
  | 77, _ => r_333 i
  | 78, _ => r_334 i
  | 79, _ => r_335 i
  | 80, _ => r_336 i
  | 81, _ => r_337 i
  | 82, _ => r_338 i
  | 83, _ => r_339 i
  | 84, _ => r_340 i
  | 85, _ => r_341 i
  | 86, _ => r_342 i
  | 87, _ => r_343 i
  | 88, _ => r_344 i
  | 89, _ => r_345 i
  | 90, _ => r_346 i
  | 91, _ => r_347 i
  | 92, _ => r_348 i
  | 93, _ => r_349 i
  | 94, _ => r_350 i
  | 95, _ => r_351 i
  | 96, _ => r_352 i
  | 97, _ => r_353 i
  | 98, _ => r_354 i
  | 99, _ => r_355 i
  | 100, _ => r_356 i
  | 101, _ => r_357 i
  | 102, _ => r_358 i
  | 103, _ => r_359 i
  | 104, _ => r_360 i
  | 105, _ => r_361 i
  | 106, _ => r_362 i
  | 107, _ => r_363 i
  | 108, _ => r_364 i
  | 109, _ => r_365 i
  | 110, _ => r_366 i
  | 111, _ => r_367 i
  | 112, _ => r_368 i
  | 113, _ => r_369 i
  | 114, _ => r_370 i
  | 115, _ => r_371 i
  | 116, _ => r_372 i
  | 117, _ => r_373 i
  | 118, _ => r_374 i
  | 119, _ => r_375 i
  | 120, _ => r_376 i
  | 121, _ => r_377 i
  | 122, _ => r_378 i
  | 123, _ => r_379 i
  | 124, _ => r_380 i
  | 125, _ => r_381 i
  | 126, _ => r_382 i
  | 127, _ => r_383 i
  | n + 128, h => absurd h (by omega)
theorem u_3 (i m : ℕ) (h : i / 128 % 128 = m) (hm : m < 128) : lit0t1_3 i = tr (192 + m / 2) (128 * (m % 2) + i % 128) := by
  unfold lit0t1_3
  rw [h]
  exact match m, hm with
  | 0, _ => r_384 i
  | 1, _ => r_385 i
  | 2, _ => r_386 i
  | 3, _ => r_387 i
  | 4, _ => r_388 i
  | 5, _ => r_389 i
  | 6, _ => r_390 i
  | 7, _ => r_391 i
  | 8, _ => r_392 i
  | 9, _ => r_393 i
  | 10, _ => r_394 i
  | 11, _ => r_395 i
  | 12, _ => r_396 i
  | 13, _ => r_397 i
  | 14, _ => r_398 i
  | 15, _ => r_399 i
  | 16, _ => r_400 i
  | 17, _ => r_401 i
  | 18, _ => r_402 i
  | 19, _ => r_403 i
  | 20, _ => r_404 i
  | 21, _ => r_405 i
  | 22, _ => r_406 i
  | 23, _ => r_407 i
  | 24, _ => r_408 i
  | 25, _ => r_409 i
  | 26, _ => r_410 i
  | 27, _ => r_411 i
  | 28, _ => r_412 i
  | 29, _ => r_413 i
  | 30, _ => r_414 i
  | 31, _ => r_415 i
  | 32, _ => r_416 i
  | 33, _ => r_417 i
  | 34, _ => r_418 i
  | 35, _ => r_419 i
  | 36, _ => r_420 i
  | 37, _ => r_421 i
  | 38, _ => r_422 i
  | 39, _ => r_423 i
  | 40, _ => r_424 i
  | 41, _ => r_425 i
  | 42, _ => r_426 i
  | 43, _ => r_427 i
  | 44, _ => r_428 i
  | 45, _ => r_429 i
  | 46, _ => r_430 i
  | 47, _ => r_431 i
  | 48, _ => r_432 i
  | 49, _ => r_433 i
  | 50, _ => r_434 i
  | 51, _ => r_435 i
  | 52, _ => r_436 i
  | 53, _ => r_437 i
  | 54, _ => r_438 i
  | 55, _ => r_439 i
  | 56, _ => r_440 i
  | 57, _ => r_441 i
  | 58, _ => r_442 i
  | 59, _ => r_443 i
  | 60, _ => r_444 i
  | 61, _ => r_445 i
  | 62, _ => r_446 i
  | 63, _ => r_447 i
  | 64, _ => r_448 i
  | 65, _ => r_449 i
  | 66, _ => r_450 i
  | 67, _ => r_451 i
  | 68, _ => r_452 i
  | 69, _ => r_453 i
  | 70, _ => r_454 i
  | 71, _ => r_455 i
  | 72, _ => r_456 i
  | 73, _ => r_457 i
  | 74, _ => r_458 i
  | 75, _ => r_459 i
  | 76, _ => r_460 i
  | 77, _ => r_461 i
  | 78, _ => r_462 i
  | 79, _ => r_463 i
  | 80, _ => r_464 i
  | 81, _ => r_465 i
  | 82, _ => r_466 i
  | 83, _ => r_467 i
  | 84, _ => r_468 i
  | 85, _ => r_469 i
  | 86, _ => r_470 i
  | 87, _ => r_471 i
  | 88, _ => r_472 i
  | 89, _ => r_473 i
  | 90, _ => r_474 i
  | 91, _ => r_475 i
  | 92, _ => r_476 i
  | 93, _ => r_477 i
  | 94, _ => r_478 i
  | 95, _ => r_479 i
  | 96, _ => r_480 i
  | 97, _ => r_481 i
  | 98, _ => r_482 i
  | 99, _ => r_483 i
  | 100, _ => r_484 i
  | 101, _ => r_485 i
  | 102, _ => r_486 i
  | 103, _ => r_487 i
  | 104, _ => r_488 i
  | 105, _ => r_489 i
  | 106, _ => r_490 i
  | 107, _ => r_491 i
  | 108, _ => r_492 i
  | 109, _ => r_493 i
  | 110, _ => r_494 i
  | 111, _ => r_495 i
  | 112, _ => r_496 i
  | 113, _ => r_497 i
  | 114, _ => r_498 i
  | 115, _ => r_499 i
  | 116, _ => r_500 i
  | 117, _ => r_501 i
  | 118, _ => r_502 i
  | 119, _ => r_503 i
  | 120, _ => r_504 i
  | 121, _ => r_505 i
  | 122, _ => r_506 i
  | 123, _ => r_507 i
  | 124, _ => r_508 i
  | 125, _ => r_509 i
  | 126, _ => r_510 i
  | 127, _ => r_511 i
  | n + 128, h => absurd h (by omega)
theorem tri_lit (a b : Fin 256) (h : 256 * a.val + b.val < 65536) : lit0 ⟨256 * a.val + b.val, h⟩ = tr a.val b.val := by
  show lit0t (256 * a.val + b.val) = _
  obtain ⟨k, hk⟩ : ∃ k, (256 * a.val + b.val) / 16384 = k := ⟨_, rfl⟩
  unfold lit0t
  rw [hk]
  have e : (256 * a.val + b.val) % 128 = b.val % 128 := by omega
  obtain g | g | g | g : k = 0 ∨ k = 1 ∨ k = 2 ∨ k = 3 := by omega
  · subst g
    refine (u_0 _ _ rfl (Nat.mod_lt _ (by decide))).trans ?_
    congr 1 <;> omega
  · subst g
    refine (u_1 _ _ rfl (Nat.mod_lt _ (by decide))).trans ?_
    congr 1 <;> omega
  · subst g
    refine (u_2 _ _ rfl (Nat.mod_lt _ (by decide))).trans ?_
    congr 1 <;> omega
  · subst g
    refine (u_3 _ _ rfl (Nat.mod_lt _ (by decide))).trans ?_
    congr 1 <;> omega

theorem tri_val (a b : Fin 256) (h : 256 * a.val + b.val < 65536) :
    Ideal.ofBits .bf16 (lit0 ⟨256 * a.val + b.val, h⟩) = if a.val / 64 = b.val / 64 ∧ b.val ≤ a.val then (1 : EReal) else 0 := by
  rw [tri_lit]
  unfold tr
  split_ifs
  · exact Ideal.ofBits_one_bf16
  · exact Ideal.ofBits_zero_bf16
end Cert.KernelIdeal.Mix
end
-- ==== Proof.MixVal.lean ====
module

public import proofs.«01_k».proof.Proof.MixSeq
public import proofs.«01_k».proof.Proof.MixTri
public import proofs.«01_k».proof.Proof.Gen.KernelIdeal.Value
public import Idealize.ShloMosaic.Lib.Pipeline.ValueKit
public import Idealize.ShloMosaic.Lib.Claim

@[expose] public section

set_option maxRecDepth 16384

noncomputable section

/-! The token mixer's operands read from the arguments, block by block. -/

namespace Cert.KernelIdeal.Mix

open Cert.KernelIdeal Cert.KernelIdeal.Gen Cert.MixSpec Idealize.ShloMosaic Idealize.ShloMosaic.TcCoe Idealize.ShloMosaic.Tactic

variable (m : (ℓ : Loc nD τ sig) → Buf (Elt Ideal) ℓ)

/-- Token `n` of the 16384, zero past the end. -/
def Xs (c : Dev nD) (n : ℕ) (k : Fin 1024) : EReal :=
  if h : n < 16384 then (m ((c : Thread nD τ).loc main_arg0) : Vec Ideal S2x8192x1024 .f32) (ix3 ⟨n / 8192, by omega⟩ ⟨n % 8192, by omega⟩ k) else 0

/-- The weights, the projection's columns in the kernel's order. -/
def wt (c : Dev nD) : Wt where
  n1g k := (m ((c : Thread nD τ).loc main_arg1) : Vec Ideal S1x1024 .f32) (ix2 0 k)
  wi k j := if h : j.val < 5120 then (m ((c : Thread nD τ).loc main_arg2) : Vec Ideal S1x1024x7184 .f32) (ix3 0 k ⟨j.val, by omega⟩)
    else if h : j.val < 7168 then (m ((c : Thread nD τ).loc main_arg2) : Vec Ideal S1x1024x7184 .f32) (ix3 0 k ⟨j.val + 16, by omega⟩)
    else if h : j.val - 7168 < 16 then (m ((c : Thread nD τ).loc main_arg2) : Vec Ideal S1x1024x7184 .f32) (ix3 0 k ⟨5120 + (j.val - 7168), by omega⟩) else 0
  cw j k := (m ((c : Thread nD τ).loc main_arg3) : Vec Ideal S1x31x1024 .f32) (ix3 0 j k)
  cb k := (m ((c : Thread nD τ).loc main_arg4) : Vec Ideal S1x1024 .f32) (ix2 0 k)
  lng k := (m ((c : Thread nD τ).loc main_arg5) : Vec Ideal S1x1024 .f32) (ix2 0 k)
  lnb k := (m ((c : Thread nD τ).loc main_arg6) : Vec Ideal S1x1024 .f32) (ix2 0 k)
  wco k j := (m ((c : Thread nD τ).loc main_arg7) : Vec Ideal S1x1024x1024 .f32) (ix3 0 k j)
  wu k j := if h : k.val < 16 then (m ((c : Thread nD τ).loc main_arg8) : Vec Ideal S1x16x512 .f32) (ix3 0 ⟨k.val, h⟩ j) else 0
  bg j := (m ((c : Thread nD τ).loc main_arg9) : Vec Ideal S1x512 .f32) (ix2 0 j)
  gng e := (m ((c : Thread nD τ).loc main_arg10) : Vec Ideal S1x256 .f32) (ix2 0 e)
  wgo k j := (m ((c : Thread nD τ).loc main_arg11) : Vec Ideal S1x1024x1024 .f32) (ix3 0 k j)
  wo k j := (m ((c : Thread nD τ).loc main_arg12) : Vec Ideal S1x1024x1024 .f32) (ix3 0 k j)

theorem idx0 : ∀ t : Fin cfg0.N, (cfg0.win 0).index t (0 : Fin 2) = min t.val 63 ∧ (cfg0.win 0).index t (1 : Fin 2) = 0 :=
  (by decide +kernel : ∀ t : Fin grid0.N, _)

theorem idx1 : ∀ t : Fin cfg0.N, (cfg0.win 1).index t (0 : Fin 2) = t.val - 1 ∧ (cfg0.win 1).index t (1 : Fin 2) = 0 :=
  (by decide +kernel : ∀ t : Fin grid0.N, _)

theorem v10 (c : Dev nD) (n : Fin 16384) (k : Fin 1024) : (V m c main_v10 : Vec Ideal S16384x1024 .f32) (ix2 n k) = Xs m c n.val k := by
  unfold V
  simp only [hostOps0, hostOps0_1, hostOps0_2, hostOps0_3, hostOps0_4, List.flatten_cons, List.flatten_nil, List.append_nil, List.cons_append, List.nil_append]
  entry_read
  rw [Xs, dif_pos n.isLt]
  pointwise

theorem v12 (c : Dev nD) (k : Fin 1024) : (V m c main_v12 : Vec Ideal S1x1024 .f32) (ix2 0 k) = (m ((c : Thread nD τ).loc main_arg1) : Vec Ideal S1x1024 .f32) (ix2 0 k) := by
  unfold V
  simp only [hostOps0, hostOps0_1, hostOps0_2, hostOps0_3, hostOps0_4, List.flatten_cons, List.flatten_nil, List.append_nil, List.cons_append, List.nil_append]
  entry_read
  pointwise

theorem v13 (c : Dev nD) (j : Fin 31) (k : Fin 1024) : (V m c main_v13 : Vec Ideal S31x1024 .f32) (ix2 j k) = (m ((c : Thread nD τ).loc main_arg3) : Vec Ideal S1x31x1024 .f32) (ix3 0 j k) := by
  unfold V
  simp only [hostOps0, hostOps0_1, hostOps0_2, hostOps0_3, hostOps0_4, List.flatten_cons, List.flatten_nil, List.append_nil, List.cons_append, List.nil_append]
  entry_read
  pointwise

theorem v15 (c : Dev nD) (k : Fin 1024) : (V m c main_v15 : Vec Ideal S1x1024 .f32) (ix2 0 k) = (m ((c : Thread nD τ).loc main_arg4) : Vec Ideal S1x1024 .f32) (ix2 0 k) := by
  unfold V
  simp only [hostOps0, hostOps0_1, hostOps0_2, hostOps0_3, hostOps0_4, List.flatten_cons, List.flatten_nil, List.append_nil, List.cons_append, List.nil_append]
  entry_read
  pointwise

theorem v17 (c : Dev nD) (k : Fin 1024) : (V m c main_v17 : Vec Ideal S1x1024 .f32) (ix2 0 k) = (m ((c : Thread nD τ).loc main_arg5) : Vec Ideal S1x1024 .f32) (ix2 0 k) := by
  unfold V
  simp only [hostOps0, hostOps0_1, hostOps0_2, hostOps0_3, hostOps0_4, List.flatten_cons, List.flatten_nil, List.append_nil, List.cons_append, List.nil_append]
  entry_read
  pointwise

theorem v19 (c : Dev nD) (k : Fin 1024) : (V m c main_v19 : Vec Ideal S1x1024 .f32) (ix2 0 k) = (m ((c : Thread nD τ).loc main_arg6) : Vec Ideal S1x1024 .f32) (ix2 0 k) := by
  unfold V
  simp only [hostOps0, hostOps0_1, hostOps0_2, hostOps0_3, hostOps0_4, List.flatten_cons, List.flatten_nil, List.append_nil, List.cons_append, List.nil_append]
  entry_read
  pointwise

theorem v21 (c : Dev nD) (j : Fin 1024) (k : Fin 1024) : (V m c main_v21 : Vec Ideal S1024x1024 .bf16) (ix2 j k) = (m ((c : Thread nD τ).loc main_arg7) : Vec Ideal S1x1024x1024 .f32) (ix3 0 j k) := by
  unfold V
  simp only [hostOps0, hostOps0_1, hostOps0_2, hostOps0_3, hostOps0_4, List.flatten_cons, List.flatten_nil, List.append_nil, List.cons_append, List.nil_append]
  entry_read
  pointwise

theorem v23 (c : Dev nD) (k : Fin 512) : (V m c main_v23 : Vec Ideal S1x512 .f32) (ix2 0 k) = (m ((c : Thread nD τ).loc main_arg9) : Vec Ideal S1x512 .f32) (ix2 0 k) := by
  unfold V
  simp only [hostOps0, hostOps0_1, hostOps0_2, hostOps0_3, hostOps0_4, List.flatten_cons, List.flatten_nil, List.append_nil, List.cons_append, List.nil_append]
  entry_read
  pointwise

theorem v25 (c : Dev nD) (k : Fin 256) : (V m c main_v25 : Vec Ideal S1x256 .f32) (ix2 0 k) = (m ((c : Thread nD τ).loc main_arg10) : Vec Ideal S1x256 .f32) (ix2 0 k) := by
  unfold V
  simp only [hostOps0, hostOps0_1, hostOps0_2, hostOps0_3, hostOps0_4, List.flatten_cons, List.flatten_nil, List.append_nil, List.cons_append, List.nil_append]
  entry_read
  pointwise

theorem v27 (c : Dev nD) (j : Fin 1024) (k : Fin 1024) : (V m c main_v27 : Vec Ideal S1024x1024 .bf16) (ix2 j k) = (m ((c : Thread nD τ).loc main_arg11) : Vec Ideal S1x1024x1024 .f32) (ix3 0 j k) := by
  unfold V
  simp only [hostOps0, hostOps0_1, hostOps0_2, hostOps0_3, hostOps0_4, List.flatten_cons, List.flatten_nil, List.append_nil, List.cons_append, List.nil_append]
  entry_read
  pointwise

theorem v29 (c : Dev nD) (j : Fin 1024) (k : Fin 1024) : (V m c main_v29 : Vec Ideal S1024x1024 .bf16) (ix2 j k) = (m ((c : Thread nD τ).loc main_arg12) : Vec Ideal S1x1024x1024 .f32) (ix3 0 j k) := by
  unfold V
  simp only [hostOps0, hostOps0_1, hostOps0_2, hostOps0_3, hostOps0_4, List.flatten_cons, List.flatten_nil, List.append_nil, List.cons_append, List.nil_append]
  entry_read
  pointwise

/-- A matrix padded below. -/
theorem pad_rows (x : Vec Ideal S16x512 .f32) (v : Vec Ideal S_ .f32) (k : Fin 128) (j : Fin 512) :
    (pad S128x512 ![0, 0] ![112, 0] ![0, 0] x v pads_S16x512_S128x512_01120_000 h_S_ : Vec Ideal S128x512 .f32) (ix2 k j)
      = if h : k.val < 16 then x (ix2 ⟨k.val, h⟩ j) else v (Shape.Idx.first h_S_) := by
  unfold pad
  by_cases h : k.val < 16
  · rw [dif_pos h, dif_pos]
    · refine congrArg x (funext fun a => Fin.ext ?_)
      fin_cases a
      · show (k.val - 0) / (0 + 1) = k.val; omega
      · show (j.val - 0) / (0 + 1) = j.val; omega
    · intro a
      fin_cases a
      · show 0 ≤ k.val ∧ (k.val - 0) % (0 + 1) = 0 ∧ (k.val - 0) / (0 + 1) < 16; omega
      · show 0 ≤ j.val ∧ (j.val - 0) % (0 + 1) = 0 ∧ (j.val - 0) / (0 + 1) < 512; omega
  · rw [dif_neg h, dif_neg]
    intro g
    have g0 : 0 ≤ k.val ∧ (k.val - 0) % (0 + 1) = 0 ∧ (k.val - 0) / (0 + 1) < 16 := g 0
    omega

/-- A matrix padded to the right. -/
theorem pad_cols (x : Vec Ideal S1024x16 .bf16) (v : Vec Ideal S_ .bf16) (k : Fin 1024) (j : Fin 128) :
    (pad S1024x128 ![0, 0] ![0, 112] ![0, 0] x v pads_S1024x16_S1024x128_000_01120 h_S_ : Vec Ideal S1024x128 .bf16) (ix2 k j)
      = if h : j.val < 16 then x (ix2 k ⟨j.val, h⟩) else v (Shape.Idx.first h_S_) := by
  unfold pad
  by_cases h : j.val < 16
  · rw [dif_pos h, dif_pos]
    · refine congrArg x (funext fun a => Fin.ext ?_)
      fin_cases a
      · show (k.val - 0) / (0 + 1) = k.val; omega
      · show (j.val - 0) / (0 + 1) = j.val; omega
    · intro a
      fin_cases a
      · show 0 ≤ k.val ∧ (k.val - 0) % (0 + 1) = 0 ∧ (k.val - 0) / (0 + 1) < 1024; omega
      · show 0 ≤ j.val ∧ (j.val - 0) % (0 + 1) = 0 ∧ (j.val - 0) / (0 + 1) < 16; omega
  · rw [dif_neg h, dif_neg]
    intro g
    have g0 : 0 ≤ j.val ∧ (j.val - 0) % (0 + 1) = 0 ∧ (j.val - 0) / (0 + 1) < 16 := g 1
    omega

/-- Three matrices side by side. -/
theorem concat3 (x : Vec Ideal S1024x5120 .bf16) (y : Vec Ideal S1024x2048 .bf16) (z : Vec Ideal S1024x128 .bf16) (k : Fin 1024) (j : Fin 7296) :
    (concatenate S1024x7296 1 [⟨S1024x5120, x⟩, ⟨S1024x2048, y⟩, ⟨S1024x128, z⟩] concatenates_S1024x5120_S1024x2048_S1024x128_S1024x7296_d1 : Vec Ideal S1024x7296 .bf16) (ix2 k j)
      = if h : j.val < 5120 then x (ix2 k ⟨j.val, h⟩) else if h : j.val - 5120 < 2048 then y (ix2 k ⟨j.val - 5120, by omega⟩) else z (ix2 k ⟨j.val - 5120 - 2048, by omega⟩) := by
  pointwise

theorem cast_up (x : Vec Ideal S1x16x512 .f32) (k : Fin 16) (j : Fin 512) :
    (shapeCast S16x512 x shapeCasts_S1x16x512_S16x512 : Vec Ideal S16x512 .f32) (ix2 k j) = x (ix3 0 k j) := by
  pointwise

theorem cast_wi (x : Vec Ideal S1x1024x7184 .f32) (k : Fin 1024) (j : Fin 7184) :
    (shapeCast S1024x7184 x shapeCasts_S1x1024x7184_S1024x7184 : Vec Ideal S1024x7184 .f32) (ix2 k j) = x (ix3 0 k j) := by
  pointwise

theorem zero_f (i : S_.Idx) : (sitofp (F := Ideal) .f32 (constantI S_ 32 0#32) : Vec Ideal S_ .f32) i = 0 := by
  show ((((0#32).toInt : ℤ) : ℝ) : EReal) = 0
  simp

theorem zero_b (i : S_.Idx) : (sitofp (F := Ideal) .bf16 (constantI S_ 32 0#32) : Vec Ideal S_ .bf16) i = 0 := by
  show ((((0#32).toInt : ℤ) : ℝ) : EReal) = 0
  simp

theorem after_app (l₁ l₂ : List (HloOp τ sig (Elt Ideal))) : ∀ V, StableHlo.after (l₁ ++ l₂) V = StableHlo.after l₂ (StableHlo.after l₁ V) := by
  induction l₁ with
  | nil => intro V; rfl
  | cons op l ih => intro V; exact ih _

set_option maxHeartbeats 1000000 in
theorem v9 (c : Dev nD) (k : Fin 128) (j : Fin 512) : (V m c main_v9 : Vec Ideal S128x512 .bf16) (ix2 k j) = (wt m c).wu k j := by
  unfold V
  simp only [hostOps0, hostOps0_1, hostOps0_2, hostOps0_3, hostOps0_4, List.flatten_cons, List.flatten_nil, List.append_nil, List.cons_append, List.nil_append]
  entry_read
  refine (pad_rows (shapeCast S16x512 ((m ((c : Thread nD τ).loc main_arg8) : Vec Ideal S1x16x512 .f32)) shapeCasts_S1x16x512_S16x512) (sitofp (F := Ideal) .f32 (constantI S_ 32 0#32)) k j).trans ?_
  unfold wt
  dsimp only
  rw [zero_f]
  split_ifs with h
  · exact cast_up _ _ _
  · rfl

/-- The stage of the first operations. -/
def st1 (c : Dev nD) := StableHlo.after (hostOps0 ++ hostOps0_1) (fun b => m (c, b))

theorem v6_st (c : Dev nD) : (V m c main_v6 : Vec Ideal S1024x7296 .bf16)
    = concatenate S1024x7296 1 [⟨S1024x5120, (st1 m c (Proc.devRef .tc main_v2) : Vec Ideal S1024x5120 .bf16)⟩, ⟨S1024x2048, (st1 m c (Proc.devRef .tc main_v3) : Vec Ideal S1024x2048 .bf16)⟩,
        ⟨S1024x128, (st1 m c (Proc.devRef .tc main_v5) : Vec Ideal S1024x128 .bf16)⟩] concatenates_S1024x5120_S1024x2048_S1024x128_S1024x7296_d1 := by
  unfold V
  have e : [hostOps0, hostOps0_1, hostOps0_2, hostOps0_3, hostOps0_4].flatten = (hostOps0 ++ hostOps0_1) ++ (hostOps0_2 ++ (hostOps0_3 ++ hostOps0_4) : List (HloOp τ sig (Elt Ideal))) := by
    simp only [List.flatten_cons, List.flatten_nil, List.append_nil, List.append_assoc]
  rw [e, after_app]
  unfold hostOps0_2
  rw [List.cons_append, StableHlo.after_cons, StableHlo.after_of_forall_not_mem]
  · exact StableHlo.nary_result _ _ _ _ _ _
  · exact List.forall_iff_forall_mem.mp (by
    simp only [hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide))

set_option maxHeartbeats 1000000 in
theorem v2_st (c : Dev nD) (k : Fin 1024) (j : Fin 5120) : (st1 m c (Proc.devRef .tc main_v2) : Vec Ideal S1024x5120 .bf16) (ix2 k j) = (m ((c : Thread nD τ).loc main_arg2) : Vec Ideal S1x1024x7184 .f32) (ix3 0 k ⟨j.val, by omega⟩) := by
  unfold st1
  simp only [hostOps0, hostOps0_1, List.append_nil, List.cons_append, List.nil_append]
  entry_read
  pointwise

set_option maxHeartbeats 1000000 in
theorem v3_st (c : Dev nD) (k : Fin 1024) (j : Fin 2048) : (st1 m c (Proc.devRef .tc main_v3) : Vec Ideal S1024x2048 .bf16) (ix2 k j) = (m ((c : Thread nD τ).loc main_arg2) : Vec Ideal S1x1024x7184 .f32) (ix3 0 k ⟨5136 + j.val, by omega⟩) := by
  unfold st1
  simp only [hostOps0, hostOps0_1, List.append_nil, List.cons_append, List.nil_append]
  entry_read
  pointwise

set_option maxHeartbeats 1000000 in
theorem v5_st (c : Dev nD) (k : Fin 1024) (j : Fin 128) : (st1 m c (Proc.devRef .tc main_v5) : Vec Ideal S1024x128 .bf16) (ix2 k j)
    = if h : j.val < 16 then (m ((c : Thread nD τ).loc main_arg2) : Vec Ideal S1x1024x7184 .f32) (ix3 0 k ⟨5120 + j.val, by omega⟩) else (0 : EReal) := by
  unfold st1
  simp only [hostOps0, hostOps0_1, List.append_nil, List.cons_append, List.nil_append]
  entry_read
  simp only [StableHlo.TRef.ofBuf_toBuf]
  generalize hq : (truncf FTy.bf16 _ bitsLt_bf16_f32 : FVec Ideal S1024x7184 .bf16) = q
  refine (pad_cols (extractStridedSlice S1024x16 ![0, 5120] q slices_S1024x7184_S1024x16_0_5120) (sitofp (F := Ideal) .bf16 (constantI S_ 32 0#32)) k j).trans ?_
  rw [zero_b]
  split_ifs with h
  · subst hq
    pointwise
  · rfl

theorem v6 (c : Dev nD) (k : Fin 1024) (j : Fin 7296) : (V m c main_v6 : Vec Ideal S1024x7296 .bf16) (ix2 k j) = (wt m c).wi k j := by
  rw [v6_st, concat3]
  unfold wt
  dsimp only
  by_cases h1 : j.val < 5120
  · rw [dif_pos h1, dif_pos h1]
    exact v2_st m c k _
  · rw [dif_neg h1, dif_neg h1]
    by_cases h2 : j.val < 7168
    · rw [dif_pos h2, dif_pos (by omega)]
      refine (v3_st m c k _).trans (congrArg _ (congrArg (ix3 0 k) (Fin.ext ?_)))
      show 5136 + (j.val - 5120) = j.val + 16
      omega
    · rw [dif_neg h2, dif_neg (by omega)]
      have e : j.val - 5120 - 2048 = j.val - 7168 := by omega
      refine (v5_st m c k _).trans ?_
      simp only [e]

/-- The table's operand. -/
theorem vcst (c : Dev nD) (a b : Fin 256) : (V m c main_cst : Vec Ideal S256x256 .bf16) (ix2 a b) = if a.val / 64 = b.val / 64 ∧ b.val ≤ a.val then (1 : EReal) else 0 := by
  unfold V
  simp only [hostOps0, hostOps0_1, hostOps0_2, hostOps0_3, hostOps0_4, List.flatten_cons, List.flatten_nil, List.append_nil, List.cons_append, List.nil_append]
  entry_read
  have hr : (S256x256.rowMajor (ix2 a b)).val = 256 * a.val + b.val := by
    refine (Shape.rowMajor_val_two _).trans ?_
    show a.val * 256 + b.val = _
    omega
  refine Eq.trans (congrArg (fun i => Ideal.ofBits .bf16 (lit0 i)) (show S256x256.rowMajor (ix2 a b) = ⟨256 * a.val + b.val, by omega⟩ from Fin.ext hr)) (tri_val a b (by omega))

end Cert.KernelIdeal.Mix
end
-- ==== Proof.MixPtA.lean ====
module

public import proofs.«01_k».proof.Proof.MixVal
public import Idealize.ShloMosaic.Lib.Pipeline.ValueKit

@[expose] public section

set_option maxRecDepth 16384

noncomputable section

/-! The blocks each point reads, and what each point leaves, token by token. -/

namespace Cert.KernelIdeal.Mix

open Cert.KernelIdeal Cert.KernelIdeal.Gen Cert.MixSpec Idealize.ShloMosaic Idealize.ShloMosaic.TcCoe Idealize.ShloMosaic.Tactic

variable (m : (ℓ : Loc nD τ sig) → Buf (Elt Ideal) ℓ)

theorem blk0 (c : Dev nD) (t : Fin cfg0.N) (r : Fin 256) (k : Fin 1024) (n : Fin 16384) (hn : n.val = 256 * min t.val 63 + r.val) :
    (iblk m c 0 t : Vec Ideal S256x1024 .f32) (ix2 r k) = (V m c main_v10 : Vec Ideal S16384x1024 .f32) (ix2 n k) := by
  obtain ⟨h0, h1⟩ := idx0 t
  blk_ext [iblk, h0, h1]

theorem blk1 (c : Dev nD) (t : Fin cfg0.N) (r : Fin 256) (k : Fin 1024) (n : Fin 16384) (hn : n.val = 256 * (t.val - 1) + r.val) :
    (iblk m c 1 t : Vec Ideal S256x1024 .f32) (ix2 r k) = (V m c main_v10 : Vec Ideal S16384x1024 .f32) (ix2 n k) := by
  obtain ⟨h0, h1⟩ := idx1 t
  blk_ext [iblk, h0, h1]

theorem blk2 (c : Dev nD) (t : Fin cfg0.N) (k : Fin 1) (j : Fin 1024) :
    (iblk m c 2 t : Vec Ideal S1x1024 .f32) (ix2 k j) = (V m c main_v12 : Vec Ideal S1x1024 .f32) (ix2 k j) := by
  have h : ∀ t : Fin cfg0.N, (cfg0.win 2).index t (0 : Fin 2) = 0 ∧ (cfg0.win 2).index t (1 : Fin 2) = 0 :=
    (by decide +kernel : ∀ t : Fin grid0.N, _)
  obtain ⟨h0, h1⟩ := h t
  blk_ext [iblk, h0, h1]

theorem blk3 (c : Dev nD) (t : Fin cfg0.N) (k : Fin 1024) (j : Fin 7296) :
    (iblk m c 3 t : Vec Ideal S1024x7296 .bf16) (ix2 k j) = (V m c main_v6 : Vec Ideal S1024x7296 .bf16) (ix2 k j) := by
  have h : ∀ t : Fin cfg0.N, (cfg0.win 3).index t (0 : Fin 2) = 0 ∧ (cfg0.win 3).index t (1 : Fin 2) = 0 :=
    (by decide +kernel : ∀ t : Fin grid0.N, _)
  obtain ⟨h0, h1⟩ := h t
  blk_ext [iblk, h0, h1]

theorem blk4 (c : Dev nD) (t : Fin cfg0.N) (k : Fin 31) (j : Fin 1024) :
    (iblk m c 4 t : Vec Ideal S31x1024 .f32) (ix2 k j) = (V m c main_v13 : Vec Ideal S31x1024 .f32) (ix2 k j) := by
  have h : ∀ t : Fin cfg0.N, (cfg0.win 4).index t (0 : Fin 2) = 0 ∧ (cfg0.win 4).index t (1 : Fin 2) = 0 :=
    (by decide +kernel : ∀ t : Fin grid0.N, _)
  obtain ⟨h0, h1⟩ := h t
  blk_ext [iblk, h0, h1]

theorem blk5 (c : Dev nD) (t : Fin cfg0.N) (k : Fin 1) (j : Fin 1024) :
    (iblk m c 5 t : Vec Ideal S1x1024 .f32) (ix2 k j) = (V m c main_v15 : Vec Ideal S1x1024 .f32) (ix2 k j) := by
  have h : ∀ t : Fin cfg0.N, (cfg0.win 5).index t (0 : Fin 2) = 0 ∧ (cfg0.win 5).index t (1 : Fin 2) = 0 :=
    (by decide +kernel : ∀ t : Fin grid0.N, _)
  obtain ⟨h0, h1⟩ := h t
  blk_ext [iblk, h0, h1]

theorem blk6 (c : Dev nD) (t : Fin cfg0.N) (k : Fin 1) (j : Fin 1024) :
    (iblk m c 6 t : Vec Ideal S1x1024 .f32) (ix2 k j) = (V m c main_v17 : Vec Ideal S1x1024 .f32) (ix2 k j) := by
  have h : ∀ t : Fin cfg0.N, (cfg0.win 6).index t (0 : Fin 2) = 0 ∧ (cfg0.win 6).index t (1 : Fin 2) = 0 :=
    (by decide +kernel : ∀ t : Fin grid0.N, _)
  obtain ⟨h0, h1⟩ := h t
  blk_ext [iblk, h0, h1]

theorem blk7 (c : Dev nD) (t : Fin cfg0.N) (k : Fin 1) (j : Fin 1024) :
    (iblk m c 7 t : Vec Ideal S1x1024 .f32) (ix2 k j) = (V m c main_v19 : Vec Ideal S1x1024 .f32) (ix2 k j) := by
  have h : ∀ t : Fin cfg0.N, (cfg0.win 7).index t (0 : Fin 2) = 0 ∧ (cfg0.win 7).index t (1 : Fin 2) = 0 :=
    (by decide +kernel : ∀ t : Fin grid0.N, _)
  obtain ⟨h0, h1⟩ := h t
  blk_ext [iblk, h0, h1]

theorem blk8 (c : Dev nD) (t : Fin cfg0.N) (k : Fin 1024) (j : Fin 1024) :
    (iblk m c 8 t : Vec Ideal S1024x1024 .bf16) (ix2 k j) = (V m c main_v21 : Vec Ideal S1024x1024 .bf16) (ix2 k j) := by
  have h : ∀ t : Fin cfg0.N, (cfg0.win 8).index t (0 : Fin 2) = 0 ∧ (cfg0.win 8).index t (1 : Fin 2) = 0 :=
    (by decide +kernel : ∀ t : Fin grid0.N, _)
  obtain ⟨h0, h1⟩ := h t
  blk_ext [iblk, h0, h1]

theorem blk9 (c : Dev nD) (t : Fin cfg0.N) (k : Fin 128) (j : Fin 512) :
    (iblk m c 9 t : Vec Ideal S128x512 .bf16) (ix2 k j) = (V m c main_v9 : Vec Ideal S128x512 .bf16) (ix2 k j) := by
  have h : ∀ t : Fin cfg0.N, (cfg0.win 9).index t (0 : Fin 2) = 0 ∧ (cfg0.win 9).index t (1 : Fin 2) = 0 :=
    (by decide +kernel : ∀ t : Fin grid0.N, _)
  obtain ⟨h0, h1⟩ := h t
  blk_ext [iblk, h0, h1]

theorem blk10 (c : Dev nD) (t : Fin cfg0.N) (k : Fin 1) (j : Fin 512) :
    (iblk m c 10 t : Vec Ideal S1x512 .f32) (ix2 k j) = (V m c main_v23 : Vec Ideal S1x512 .f32) (ix2 k j) := by
  have h : ∀ t : Fin cfg0.N, (cfg0.win 10).index t (0 : Fin 2) = 0 ∧ (cfg0.win 10).index t (1 : Fin 2) = 0 :=
    (by decide +kernel : ∀ t : Fin grid0.N, _)
  obtain ⟨h0, h1⟩ := h t
  blk_ext [iblk, h0, h1]

theorem blk11 (c : Dev nD) (t : Fin cfg0.N) (k : Fin 1) (j : Fin 256) :
    (iblk m c 11 t : Vec Ideal S1x256 .f32) (ix2 k j) = (V m c main_v25 : Vec Ideal S1x256 .f32) (ix2 k j) := by
  have h : ∀ t : Fin cfg0.N, (cfg0.win 11).index t (0 : Fin 2) = 0 ∧ (cfg0.win 11).index t (1 : Fin 2) = 0 :=
    (by decide +kernel : ∀ t : Fin grid0.N, _)
  obtain ⟨h0, h1⟩ := h t
  blk_ext [iblk, h0, h1]

theorem blk12 (c : Dev nD) (t : Fin cfg0.N) (k : Fin 1024) (j : Fin 1024) :
    (iblk m c 12 t : Vec Ideal S1024x1024 .bf16) (ix2 k j) = (V m c main_v27 : Vec Ideal S1024x1024 .bf16) (ix2 k j) := by
  have h : ∀ t : Fin cfg0.N, (cfg0.win 12).index t (0 : Fin 2) = 0 ∧ (cfg0.win 12).index t (1 : Fin 2) = 0 :=
    (by decide +kernel : ∀ t : Fin grid0.N, _)
  obtain ⟨h0, h1⟩ := h t
  blk_ext [iblk, h0, h1]

theorem blk13 (c : Dev nD) (t : Fin cfg0.N) (k : Fin 1024) (j : Fin 1024) :
    (iblk m c 13 t : Vec Ideal S1024x1024 .bf16) (ix2 k j) = (V m c main_v29 : Vec Ideal S1024x1024 .bf16) (ix2 k j) := by
  have h : ∀ t : Fin cfg0.N, (cfg0.win 13).index t (0 : Fin 2) = 0 ∧ (cfg0.win 13).index t (1 : Fin 2) = 0 :=
    (by decide +kernel : ∀ t : Fin grid0.N, _)
  obtain ⟨h0, h1⟩ := h t
  blk_ext [iblk, h0, h1]

theorem blk14 (c : Dev nD) (t : Fin cfg0.N) (k : Fin 256) (j : Fin 256) :
    (iblk m c 14 t : Vec Ideal S256x256 .bf16) (ix2 k j) = (V m c main_cst : Vec Ideal S256x256 .bf16) (ix2 k j) := by
  have h : ∀ t : Fin cfg0.N, (cfg0.win 14).index t (0 : Fin 2) = 0 ∧ (cfg0.win 14).index t (1 : Fin 2) = 0 :=
    (by decide +kernel : ∀ t : Fin grid0.N, _)
  obtain ⟨h0, h1⟩ := h t
  blk_ext [iblk, h0, h1]

end Cert.KernelIdeal.Mix
end
-- ==== Proof.MixA0.lean ====
module

public import proofs.«01_k».proof.Proof.Gen.KernelIdeal.Value
public import proofs.«01_k».proof.Proof.Rows
public import Idealize.ShloMosaic.Lib.Pointwise
public import Idealize.ShloMosaic.Lib.Tactic.RunNames
public import proofs.«01_k».proof.Proof.MixStep
public import proofs.«01_k».proof.Proof.MixBlk

@[expose] public section

set_option maxRecDepth 16384

noncomputable section

/-! The convolution's window of a step, after its own rows are stored and after each group of columns is carried over (case A). -/

namespace Cert.KernelIdeal.Mix

open Cert.KernelIdeal Cert.KernelIdeal.Gen Cert.MixSpec Idealize.ShloMosaic Idealize.ShloMosaic.TcCoe Idealize.ShloMosaic.Tactic

variable (W : Wt) (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x7296 .bf16) (harg4 : arg4.IsWhole) (arg5 : Memref sig .tc .vmem S31x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x256 .f32) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S256x256 .bf16) (harg15 : arg15.IsWhole) (arg16 : Memref sig .tc .vmem S256x1024 .f32) (harg16 : arg16.IsWhole) (arg17 : Memref sig .tc .vmem S288x1024 .f32) (harg17 : arg17.IsWhole) (arg18 : Memref sig .tc .vmem S256x1024 .f32) (harg18 : arg18.IsWhole) (arg19 : Memref sig .tc .vmem S4x256x128 .f32) (harg19 : arg19.IsWhole) (arg20 : Memref sig .tc .vmem S256x1024 .bf16) (harg20 : arg20.IsWhole) (arg21 : Memref sig .tc .vmem S256x1024 .bf16) (harg21 : arg21.IsWhole) (hc0 : cond0_0 i) (hc1 : cond0_1 i) (x0 : Vec Ideal S256x1024 .f32) (x1 : Vec Ideal S256x1024 .f32) (x2 : Vec Ideal S1x1024 .f32) (x3 : Vec Ideal S1024x7296 .bf16) (x4 : Vec Ideal S31x1024 .f32) (x5 : Vec Ideal S1x1024 .f32) (x6 : Vec Ideal S1x1024 .f32) (x7 : Vec Ideal S1x1024 .f32) (x8 : Vec Ideal S1024x1024 .bf16) (x9 : Vec Ideal S128x512 .bf16) (x10 : Vec Ideal S1x512 .f32) (x11 : Vec Ideal S1x256 .f32) (x12 : Vec Ideal S1024x1024 .bf16) (x13 : Vec Ideal S1024x1024 .bf16) (x14 : Vec Ideal S256x256 .bf16)
  (hF : Fit W x2 x3 x4 x5 x6 x7 x8 x9 x10 x11 x12 x13 x14)

include hF

/-- The step's own rows of the window. -/
theorem own_can_A (p : Fin 288) (j : Fin 1024) (h : 32 ≤ p.val) :
    View.canon (kernelRun0_A.sl.HS0_5 c arg1 harg1 arg3 harg3 arg4 harg4 x0 x2 x3) (ix2 p j) = glu W (us W x0 ⟨p.val - 32, by omega⟩) j := by
  obtain g | g | g | g : j.val < 256 ∨ (256 ≤ j.val ∧ j.val < 512) ∨ (512 ≤ j.val ∧ j.val < 768) ∨ 768 ≤ j.val := by omega
  · unfold kernelRun0_A.sl.HS0_5
    iterate 3 rw [Cert.Rows.canon2_miss_col (Val := Elt Ideal) _ _ _ _ _ (by simp; try omega)]
    rw [Cert.Rows.canon2_hit (Val := Elt Ideal) _ _ _ _ _ (by simp; try omega) (by simp; try omega)]
    sl_unfold_run_values
    simp only [View.readAt_eq_ld, harg1.read_unread, harg3.read_unread, harg4.read_unread, Cert.Rows.ld_whole2]
    refine (glu_pay_0 W _ _ _ (fun k j => ?_) (fun k j => ?_) _ _).trans ?_
    · exact wi_ld W _ hF.wi _ _ _ k j
    · exact wi_ld W _ hF.wi _ _ _ k j
    · rw [u_rows W x0 x2 hF.n1g]
      congr 1
      exact Fin.ext (by simp; try omega)
  · unfold kernelRun0_A.sl.HS0_5
    iterate 2 rw [Cert.Rows.canon2_miss_col (Val := Elt Ideal) _ _ _ _ _ (by simp; try omega)]
    rw [Cert.Rows.canon2_hit (Val := Elt Ideal) _ _ _ _ _ (by simp; try omega) (by simp; try omega)]
    sl_unfold_run_values
    simp only [View.readAt_eq_ld, harg1.read_unread, harg3.read_unread, harg4.read_unread, Cert.Rows.ld_whole2]
    refine (glu_pay_1 W _ _ _ (fun k j => ?_) (fun k j => ?_) _ _).trans ?_
    · exact wi_ld W _ hF.wi _ _ _ k j
    · exact wi_ld W _ hF.wi _ _ _ k j
    · rw [u_rows W x0 x2 hF.n1g]
      congr 1
      exact Fin.ext (by simp; try omega)
  · unfold kernelRun0_A.sl.HS0_5
    iterate 1 rw [Cert.Rows.canon2_miss_col (Val := Elt Ideal) _ _ _ _ _ (by simp; try omega)]
    rw [Cert.Rows.canon2_hit (Val := Elt Ideal) _ _ _ _ _ (by simp; try omega) (by simp; try omega)]
    sl_unfold_run_values
    simp only [View.readAt_eq_ld, harg1.read_unread, harg3.read_unread, harg4.read_unread, Cert.Rows.ld_whole2]
    refine (glu_pay_2 W _ _ _ (fun k j => ?_) (fun k j => ?_) _ _).trans ?_
    · exact wi_ld W _ hF.wi _ _ _ k j
    · exact wi_ld W _ hF.wi _ _ _ k j
    · rw [u_rows W x0 x2 hF.n1g]
      congr 1
      exact Fin.ext (by simp; try omega)
  · unfold kernelRun0_A.sl.HS0_5
    rw [Cert.Rows.canon2_hit (Val := Elt Ideal) _ _ _ _ _ (by simp; try omega) (by simp; try omega)]
    sl_unfold_run_values
    simp only [View.readAt_eq_ld, harg1.read_unread, harg3.read_unread, harg4.read_unread, Cert.Rows.ld_whole2]
    refine (glu_pay_3 W _ _ _ (fun k j => ?_) (fun k j => ?_) _ _).trans ?_
    · exact wi_ld W _ hF.wi _ _ _ k j
    · exact wi_ld W _ hF.wi _ _ _ k j
    · rw [u_rows W x0 x2 hF.n1g]
      congr 1
      exact Fin.ext (by simp; try omega)
/-- The window when 0 groups of columns are carried over. -/
theorem win_can_A_0 (p : Fin 288) (j : Fin 1024) (h : 32 ≤ p.val ∨ 0 ≤ j.val) :
    View.canon (kernelRun0_A.sl.HS0_5 c arg1 harg1 arg3 harg3 arg4 harg4 x0 x2 x3) (ix2 p j) = cx W (fun _ _ => 0) (us W x0) p.val j := by
  by_cases q : 32 ≤ p.val
  · rw [cx_hi W _ _ _ _ q (by omega)]
    exact own_can_A (hF := hF) (h := q) ..
  · rw [cx_lo W _ _ _ _ (by omega)]
    unfold kernelRun0_A.sl.HS0_5
    iterate 4 rw [Cert.Rows.canon2_miss_row (Val := Elt Ideal) _ _ _ _ _ (by simp; try omega)]
    rw [Cert.Rows.canon2_hit (Val := Elt Ideal) _ _ _ _ _ (by simp; try omega) (by simp; try omega)]
    pointwise [k0_pay5]
/-- The window when 1 groups of columns are carried over. -/
theorem win_can_A_1 (p : Fin 288) (j : Fin 1024) (h : 32 ≤ p.val ∨ 128 ≤ j.val) :
    View.canon (kernelRun0_A.sl.HS0_6 c arg1 harg1 arg3 harg3 arg4 harg4 arg17 x0 x2 x3) (ix2 p j) = cx W (fun _ _ => 0) (us W x0) p.val j := by
  unfold kernelRun0_A.sl.HS0_6
  by_cases q : 32 ≤ p.val
  · rw [Cert.Rows.canon2_miss_row (Val := Elt Ideal) _ _ _ _ _ (by simp; try omega)]
    exact win_can_A_0 (hF := hF) (h := Or.inl q) ..
  · rw [Cert.Rows.canon2_miss_col (Val := Elt Ideal) _ _ _ _ _ (by simp; try omega)]
    exact win_can_A_0 (hF := hF) (h := by omega) ..
/-- The window when 2 groups of columns are carried over. -/
theorem win_can_A_2 (p : Fin 288) (j : Fin 1024) (h : 32 ≤ p.val ∨ 256 ≤ j.val) :
    View.canon (kernelRun0_A.sl.HS0_7 c arg1 harg1 arg3 harg3 arg4 harg4 arg17 x0 x2 x3) (ix2 p j) = cx W (fun _ _ => 0) (us W x0) p.val j := by
  unfold kernelRun0_A.sl.HS0_7
  by_cases q : 32 ≤ p.val
  · rw [Cert.Rows.canon2_miss_row (Val := Elt Ideal) _ _ _ _ _ (by simp; try omega)]
    exact win_can_A_1 (hF := hF) (h := Or.inl q) ..
  · rw [Cert.Rows.canon2_miss_col (Val := Elt Ideal) _ _ _ _ _ (by simp; try omega)]
    exact win_can_A_1 (hF := hF) (h := by omega) ..
/-- The window when 3 groups of columns are carried over. -/
theorem win_can_A_3 (p : Fin 288) (j : Fin 1024) (h : 32 ≤ p.val ∨ 384 ≤ j.val) :
    View.canon (kernelRun0_A.sl.HS0_8 c arg1 harg1 arg3 harg3 arg4 harg4 arg17 x0 x2 x3) (ix2 p j) = cx W (fun _ _ => 0) (us W x0) p.val j := by
  unfold kernelRun0_A.sl.HS0_8
  by_cases q : 32 ≤ p.val
  · rw [Cert.Rows.canon2_miss_row (Val := Elt Ideal) _ _ _ _ _ (by simp; try omega)]
    exact win_can_A_2 (hF := hF) (h := Or.inl q) ..
  · rw [Cert.Rows.canon2_miss_col (Val := Elt Ideal) _ _ _ _ _ (by simp; try omega)]
    exact win_can_A_2 (hF := hF) (h := by omega) ..
/-- The window when 4 groups of columns are carried over. -/
theorem win_can_A_4 (p : Fin 288) (j : Fin 1024) (h : 32 ≤ p.val ∨ 512 ≤ j.val) :
    View.canon (kernelRun0_A.sl.HS0_9 c arg1 harg1 arg3 harg3 arg4 harg4 arg17 x0 x2 x3) (ix2 p j) = cx W (fun _ _ => 0) (us W x0) p.val j := by
  unfold kernelRun0_A.sl.HS0_9
  by_cases q : 32 ≤ p.val
  · rw [Cert.Rows.canon2_miss_row (Val := Elt Ideal) _ _ _ _ _ (by simp; try omega)]
    exact win_can_A_3 (hF := hF) (h := Or.inl q) ..
  · rw [Cert.Rows.canon2_miss_col (Val := Elt Ideal) _ _ _ _ _ (by simp; try omega)]
    exact win_can_A_3 (hF := hF) (h := by omega) ..
/-- The window when 5 groups of columns are carried over. -/
theorem win_can_A_5 (p : Fin 288) (j : Fin 1024) (h : 32 ≤ p.val ∨ 640 ≤ j.val) :
    View.canon (kernelRun0_A.sl.HS0_10 c arg1 harg1 arg3 harg3 arg4 harg4 arg17 x0 x2 x3) (ix2 p j) = cx W (fun _ _ => 0) (us W x0) p.val j := by
  unfold kernelRun0_A.sl.HS0_10
  by_cases q : 32 ≤ p.val
  · rw [Cert.Rows.canon2_miss_row (Val := Elt Ideal) _ _ _ _ _ (by simp; try omega)]
    exact win_can_A_4 (hF := hF) (h := Or.inl q) ..
  · rw [Cert.Rows.canon2_miss_col (Val := Elt Ideal) _ _ _ _ _ (by simp; try omega)]
    exact win_can_A_4 (hF := hF) (h := by omega) ..
/-- The window when 6 groups of columns are carried over. -/
theorem win_can_A_6 (p : Fin 288) (j : Fin 1024) (h : 32 ≤ p.val ∨ 768 ≤ j.val) :
    View.canon (kernelRun0_A.sl.HS0_11 c arg1 harg1 arg3 harg3 arg4 harg4 arg17 x0 x2 x3) (ix2 p j) = cx W (fun _ _ => 0) (us W x0) p.val j := by
  unfold kernelRun0_A.sl.HS0_11
  by_cases q : 32 ≤ p.val
  · rw [Cert.Rows.canon2_miss_row (Val := Elt Ideal) _ _ _ _ _ (by simp; try omega)]
    exact win_can_A_5 (hF := hF) (h := Or.inl q) ..
  · rw [Cert.Rows.canon2_miss_col (Val := Elt Ideal) _ _ _ _ _ (by simp; try omega)]
    exact win_can_A_5 (hF := hF) (h := by omega) ..
/-- The window when 7 groups of columns are carried over. -/
theorem win_can_A_7 (p : Fin 288) (j : Fin 1024) (h : 32 ≤ p.val ∨ 896 ≤ j.val) :
    View.canon (kernelRun0_A.sl.HS0_12 c arg1 harg1 arg3 harg3 arg4 harg4 arg17 x0 x2 x3) (ix2 p j) = cx W (fun _ _ => 0) (us W x0) p.val j := by
  unfold kernelRun0_A.sl.HS0_12
  by_cases q : 32 ≤ p.val
  · rw [Cert.Rows.canon2_miss_row (Val := Elt Ideal) _ _ _ _ _ (by simp; try omega)]
    exact win_can_A_6 (hF := hF) (h := Or.inl q) ..
  · rw [Cert.Rows.canon2_miss_col (Val := Elt Ideal) _ _ _ _ _ (by simp; try omega)]
    exact win_can_A_6 (hF := hF) (h := by omega) ..

end Cert.KernelIdeal.Mix
end
-- ==== Proof.MixA1.lean ====
module

public import proofs.«01_k».proof.Proof.Gen.KernelIdeal.Value
public import proofs.«01_k».proof.Proof.Rows
public import Idealize.ShloMosaic.Lib.Pointwise
public import Idealize.ShloMosaic.Lib.Tactic.RunNames
public import proofs.«01_k».proof.Proof.MixStep
public import proofs.«01_k».proof.Proof.MixA0

@[expose] public section

set_option maxRecDepth 16384

noncomputable section

/-! The convolution's rows of a step (case A). -/

namespace Cert.KernelIdeal.Mix

open Cert.KernelIdeal Cert.KernelIdeal.Gen Cert.MixSpec Idealize.ShloMosaic Idealize.ShloMosaic.TcCoe Idealize.ShloMosaic.Tactic

variable (W : Wt) (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x7296 .bf16) (harg4 : arg4.IsWhole) (arg5 : Memref sig .tc .vmem S31x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x256 .f32) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S256x256 .bf16) (harg15 : arg15.IsWhole) (arg16 : Memref sig .tc .vmem S256x1024 .f32) (harg16 : arg16.IsWhole) (arg17 : Memref sig .tc .vmem S288x1024 .f32) (harg17 : arg17.IsWhole) (arg18 : Memref sig .tc .vmem S256x1024 .f32) (harg18 : arg18.IsWhole) (arg19 : Memref sig .tc .vmem S4x256x128 .f32) (harg19 : arg19.IsWhole) (arg20 : Memref sig .tc .vmem S256x1024 .bf16) (harg20 : arg20.IsWhole) (arg21 : Memref sig .tc .vmem S256x1024 .bf16) (harg21 : arg21.IsWhole) (hc0 : cond0_0 i) (hc1 : cond0_1 i) (x0 : Vec Ideal S256x1024 .f32) (x1 : Vec Ideal S256x1024 .f32) (x2 : Vec Ideal S1x1024 .f32) (x3 : Vec Ideal S1024x7296 .bf16) (x4 : Vec Ideal S31x1024 .f32) (x5 : Vec Ideal S1x1024 .f32) (x6 : Vec Ideal S1x1024 .f32) (x7 : Vec Ideal S1x1024 .f32) (x8 : Vec Ideal S1024x1024 .bf16) (x9 : Vec Ideal S128x512 .bf16) (x10 : Vec Ideal S1x512 .f32) (x11 : Vec Ideal S1x256 .f32) (x12 : Vec Ideal S1024x1024 .bf16) (x13 : Vec Ideal S1024x1024 .bf16) (x14 : Vec Ideal S256x256 .bf16)
  (hF : Fit W x2 x3 x4 x5 x6 x7 x8 x9 x10 x11 x12 x13 x14)

include hF

/-- The convolution's rows 0.. in columns 0... -/
theorem conv_A_0_0 (r : Fin 256) (j : Fin 1024) (hr : 0 ≤ r.val ∧ r.val < 128) (hj : 0 ≤ j.val ∧ j.val < 128) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 (ix2 r j) = conv W (fun n => cx W (fun _ _ => 0) (us W x0) (n + 2 + r.val) j) j := by
  obtain ⟨a, rfl⟩ : ∃ a : Fin 128, r = (⟨0 + a.val, by clear hr hj; omega⟩ : Fin 256) := ⟨⟨r.val - 0, by omega⟩, Fin.ext (by simp only []; omega)⟩
  obtain ⟨b, rfl⟩ : ∃ b : Fin 128, j = (⟨0 + b.val, by clear hr hj; omega⟩ : Fin 1024) := ⟨⟨j.val - 0, by omega⟩, Fin.ext (by simp only []; omega)⟩
  clear hr hj
  unfold sout0_A_1
  refine (View.read_writes_apply_eq_canon _ _ _ _ (scover0_A_1 ..)).trans ?_
  unfold kernelRun0_A
  dsimp only
  iterate 14 rw [Cert.Rows.canon2_miss_col (Val := Elt Ideal) _ _ _ _ _ (by simp; try omega)]
  rw [Cert.Rows.canon2_miss_row (Val := Elt Ideal) _ _ _ _ _ (by simp; try omega)]
  rw [Cert.Rows.canon2_hit (Val := Elt Ideal) _ _ _ _ _ (by simp; try omega) (by simp; try omega)]
  simp only [Nat.add_sub_cancel_left, Nat.sub_zero, Nat.zero_add, Fin.eta]
  sl_unfold_run_values
  simp only [View.readAt_eq_ld, harg5.read_unread, harg6.read_unread]
  pointwise [k0_pay27, k0_pay28, k0_pay29, k0_pay30, k0_pay31, k0_pay32, k0_pay33, k0_pay34, k0_pay35, k0_pay36, k0_pay37, k0_pay38, k0_pay39]
  simp only [Cert.Rows.ld2, Cert.Rows.readCov2, Nat.zero_add, Nat.add_zero]
  simp (disch := (simp <;> omega)) only [win_can_A_0 (hF := hF)]
  simp only [hF.cw, hF.cb, tap_eq, ← Nat.add_assoc, Nat.reduceAdd]
  have p := taps_phases (tap W ⟨0 + b.val, by omega⟩) (fun n => cx W (fun _ _ => 0) (us W x0) (n + 2 + a.val) ⟨0 + b.val, by omega⟩)
  simp only [Nat.reduceAdd, Nat.zero_add] at p
  have q := congrArg (· + W.cb ⟨0 + b.val, by omega⟩) p
  simp only [Nat.zero_add] at q ⊢

  exact q
/-- The convolution's rows 128.. in columns 0... -/
theorem conv_A_1_0 (r : Fin 256) (j : Fin 1024) (hr : 128 ≤ r.val ∧ r.val < 256) (hj : 0 ≤ j.val ∧ j.val < 128) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 (ix2 r j) = conv W (fun n => cx W (fun _ _ => 0) (us W x0) (n + 2 + r.val) j) j := by
  obtain ⟨a, rfl⟩ : ∃ a : Fin 128, r = (⟨128 + a.val, by clear hr hj; omega⟩ : Fin 256) := ⟨⟨r.val - 128, by omega⟩, Fin.ext (by simp only []; omega)⟩
  obtain ⟨b, rfl⟩ : ∃ b : Fin 128, j = (⟨0 + b.val, by clear hr hj; omega⟩ : Fin 1024) := ⟨⟨j.val - 0, by omega⟩, Fin.ext (by simp only []; omega)⟩
  clear hr hj
  unfold sout0_A_1
  refine (View.read_writes_apply_eq_canon _ _ _ _ (scover0_A_1 ..)).trans ?_
  unfold kernelRun0_A
  dsimp only
  iterate 14 rw [Cert.Rows.canon2_miss_col (Val := Elt Ideal) _ _ _ _ _ (by simp; try omega)]
  rw [Cert.Rows.canon2_hit (Val := Elt Ideal) _ _ _ _ _ (by simp; try omega) (by simp; try omega)]
  simp only [Nat.add_sub_cancel_left, Nat.sub_zero, Nat.zero_add, Fin.eta]
  sl_unfold_run_values
  simp only [View.readAt_eq_ld, harg5.read_unread, harg6.read_unread]
  pointwise [k0_pay40, k0_pay41, k0_pay42, k0_pay43, k0_pay44, k0_pay45, k0_pay46, k0_pay47, k0_pay48, k0_pay49, k0_pay50, k0_pay51]
  simp only [Cert.Rows.ld2, Cert.Rows.readCov2, Nat.zero_add, Nat.add_zero]
  simp (disch := (simp <;> omega)) only [win_can_A_0 (hF := hF)]
  simp only [hF.cw, hF.cb, tap_eq, ← Nat.add_assoc, Nat.reduceAdd]
  have p := taps_phases (tap W ⟨0 + b.val, by omega⟩) (fun n => cx W (fun _ _ => 0) (us W x0) (n + 130 + a.val) ⟨0 + b.val, by omega⟩)
  simp only [Nat.reduceAdd, Nat.zero_add] at p
  have q := congrArg (· + W.cb ⟨0 + b.val, by omega⟩) p
  simp only [Nat.zero_add] at q ⊢

  exact q
/-- The convolution's rows 0.. in columns 128... -/
theorem conv_A_0_1 (r : Fin 256) (j : Fin 1024) (hr : 0 ≤ r.val ∧ r.val < 128) (hj : 128 ≤ j.val ∧ j.val < 256) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 (ix2 r j) = conv W (fun n => cx W (fun _ _ => 0) (us W x0) (n + 2 + r.val) j) j := by
  obtain ⟨a, rfl⟩ : ∃ a : Fin 128, r = (⟨0 + a.val, by clear hr hj; omega⟩ : Fin 256) := ⟨⟨r.val - 0, by omega⟩, Fin.ext (by simp only []; omega)⟩
  obtain ⟨b, rfl⟩ : ∃ b : Fin 128, j = (⟨128 + b.val, by clear hr hj; omega⟩ : Fin 1024) := ⟨⟨j.val - 128, by omega⟩, Fin.ext (by simp only []; omega)⟩
  clear hr hj
  unfold sout0_A_1
  refine (View.read_writes_apply_eq_canon _ _ _ _ (scover0_A_1 ..)).trans ?_
  unfold kernelRun0_A
  dsimp only
  iterate 12 rw [Cert.Rows.canon2_miss_col (Val := Elt Ideal) _ _ _ _ _ (by simp; try omega)]
  rw [Cert.Rows.canon2_miss_row (Val := Elt Ideal) _ _ _ _ _ (by simp; try omega)]
  rw [Cert.Rows.canon2_hit (Val := Elt Ideal) _ _ _ _ _ (by simp; try omega) (by simp; try omega)]
  simp only [Nat.add_sub_cancel_left, Nat.sub_zero, Nat.zero_add, Fin.eta]
  sl_unfold_run_values
  simp only [View.readAt_eq_ld, harg5.read_unread, harg6.read_unread]
  pointwise [k0_pay52, k0_pay53, k0_pay54, k0_pay55, k0_pay56, k0_pay57, k0_pay58, k0_pay59, k0_pay60, k0_pay61, k0_pay62]
  simp only [Cert.Rows.ld2, Cert.Rows.readCov2, Nat.zero_add, Nat.add_zero]
  simp (disch := (simp <;> omega)) only [win_can_A_1 (hF := hF)]
  simp only [hF.cw, hF.cb, tap_eq, ← Nat.add_assoc, Nat.reduceAdd]
  have p := taps_phases (tap W ⟨128 + b.val, by omega⟩) (fun n => cx W (fun _ _ => 0) (us W x0) (n + 2 + a.val) ⟨128 + b.val, by omega⟩)
  simp only [Nat.reduceAdd, Nat.zero_add] at p
  have q := congrArg (· + W.cb ⟨128 + b.val, by omega⟩) p
  simp only [Nat.zero_add] at q ⊢

  exact q
/-- The convolution's rows 128.. in columns 128... -/
theorem conv_A_1_1 (r : Fin 256) (j : Fin 1024) (hr : 128 ≤ r.val ∧ r.val < 256) (hj : 128 ≤ j.val ∧ j.val < 256) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 (ix2 r j) = conv W (fun n => cx W (fun _ _ => 0) (us W x0) (n + 2 + r.val) j) j := by
  obtain ⟨a, rfl⟩ : ∃ a : Fin 128, r = (⟨128 + a.val, by clear hr hj; omega⟩ : Fin 256) := ⟨⟨r.val - 128, by omega⟩, Fin.ext (by simp only []; omega)⟩
  obtain ⟨b, rfl⟩ : ∃ b : Fin 128, j = (⟨128 + b.val, by clear hr hj; omega⟩ : Fin 1024) := ⟨⟨j.val - 128, by omega⟩, Fin.ext (by simp only []; omega)⟩
  clear hr hj
  unfold sout0_A_1
  refine (View.read_writes_apply_eq_canon _ _ _ _ (scover0_A_1 ..)).trans ?_
  unfold kernelRun0_A
  dsimp only
  iterate 12 rw [Cert.Rows.canon2_miss_col (Val := Elt Ideal) _ _ _ _ _ (by simp; try omega)]
  rw [Cert.Rows.canon2_hit (Val := Elt Ideal) _ _ _ _ _ (by simp; try omega) (by simp; try omega)]
  simp only [Nat.add_sub_cancel_left, Nat.sub_zero, Nat.zero_add, Fin.eta]
  sl_unfold_run_values
  simp only [View.readAt_eq_ld, harg5.read_unread, harg6.read_unread]
  pointwise [k0_pay63, k0_pay64, k0_pay65, k0_pay66, k0_pay67, k0_pay68, k0_pay69, k0_pay70, k0_pay71, k0_pay72, k0_pay73, k0_pay74, k0_pay75, k0_pay76, k0_pay77]
  simp only [Cert.Rows.ld2, Cert.Rows.readCov2, Nat.zero_add, Nat.add_zero]
  simp (disch := (simp <;> omega)) only [win_can_A_1 (hF := hF)]
  simp only [hF.cw, hF.cb, tap_eq, ← Nat.add_assoc, Nat.reduceAdd]
  have p := taps_phases (tap W ⟨128 + b.val, by omega⟩) (fun n => cx W (fun _ _ => 0) (us W x0) (n + 130 + a.val) ⟨128 + b.val, by omega⟩)
  simp only [Nat.reduceAdd, Nat.zero_add] at p
  have q := congrArg (· + W.cb ⟨128 + b.val, by omega⟩) p
  simp only [Nat.zero_add] at q ⊢

  exact q
/-- The convolution's rows 0.. in columns 256... -/
theorem conv_A_0_2 (r : Fin 256) (j : Fin 1024) (hr : 0 ≤ r.val ∧ r.val < 128) (hj : 256 ≤ j.val ∧ j.val < 384) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 (ix2 r j) = conv W (fun n => cx W (fun _ _ => 0) (us W x0) (n + 2 + r.val) j) j := by
  obtain ⟨a, rfl⟩ : ∃ a : Fin 128, r = (⟨0 + a.val, by clear hr hj; omega⟩ : Fin 256) := ⟨⟨r.val - 0, by omega⟩, Fin.ext (by simp only []; omega)⟩
  obtain ⟨b, rfl⟩ : ∃ b : Fin 128, j = (⟨256 + b.val, by clear hr hj; omega⟩ : Fin 1024) := ⟨⟨j.val - 256, by omega⟩, Fin.ext (by simp only []; omega)⟩
  clear hr hj
  unfold sout0_A_1
  refine (View.read_writes_apply_eq_canon _ _ _ _ (scover0_A_1 ..)).trans ?_
  unfold kernelRun0_A
  dsimp only
  iterate 10 rw [Cert.Rows.canon2_miss_col (Val := Elt Ideal) _ _ _ _ _ (by simp; try omega)]
  rw [Cert.Rows.canon2_miss_row (Val := Elt Ideal) _ _ _ _ _ (by simp; try omega)]
  rw [Cert.Rows.canon2_hit (Val := Elt Ideal) _ _ _ _ _ (by simp; try omega) (by simp; try omega)]
  simp only [Nat.add_sub_cancel_left, Nat.sub_zero, Nat.zero_add, Fin.eta]
  sl_unfold_run_values
  simp only [View.readAt_eq_ld, harg5.read_unread, harg6.read_unread]
  pointwise [k0_pay78, k0_pay79, k0_pay80, k0_pay81, k0_pay82, k0_pay83, k0_pay84, k0_pay85, k0_pay86, k0_pay87, k0_pay88, k0_pay89, k0_pay90, k0_pay91, k0_pay92]
  simp only [Cert.Rows.ld2, Cert.Rows.readCov2, Nat.zero_add, Nat.add_zero]
  simp (disch := (simp <;> omega)) only [win_can_A_2 (hF := hF)]
  simp only [hF.cw, hF.cb, tap_eq, ← Nat.add_assoc, Nat.reduceAdd]
  have p := taps_phases (tap W ⟨256 + b.val, by omega⟩) (fun n => cx W (fun _ _ => 0) (us W x0) (n + 2 + a.val) ⟨256 + b.val, by omega⟩)
  simp only [Nat.reduceAdd, Nat.zero_add] at p
  have q := congrArg (· + W.cb ⟨256 + b.val, by omega⟩) p
  simp only [Nat.zero_add] at q ⊢

  exact q
/-- The convolution's rows 128.. in columns 256... -/
theorem conv_A_1_2 (r : Fin 256) (j : Fin 1024) (hr : 128 ≤ r.val ∧ r.val < 256) (hj : 256 ≤ j.val ∧ j.val < 384) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 (ix2 r j) = conv W (fun n => cx W (fun _ _ => 0) (us W x0) (n + 2 + r.val) j) j := by
  obtain ⟨a, rfl⟩ : ∃ a : Fin 128, r = (⟨128 + a.val, by clear hr hj; omega⟩ : Fin 256) := ⟨⟨r.val - 128, by omega⟩, Fin.ext (by simp only []; omega)⟩
  obtain ⟨b, rfl⟩ : ∃ b : Fin 128, j = (⟨256 + b.val, by clear hr hj; omega⟩ : Fin 1024) := ⟨⟨j.val - 256, by omega⟩, Fin.ext (by simp only []; omega)⟩
  clear hr hj
  unfold sout0_A_1
  refine (View.read_writes_apply_eq_canon _ _ _ _ (scover0_A_1 ..)).trans ?_
  unfold kernelRun0_A
  dsimp only
  iterate 10 rw [Cert.Rows.canon2_miss_col (Val := Elt Ideal) _ _ _ _ _ (by simp; try omega)]
  rw [Cert.Rows.canon2_hit (Val := Elt Ideal) _ _ _ _ _ (by simp; try omega) (by simp; try omega)]
  simp only [Nat.add_sub_cancel_left, Nat.sub_zero, Nat.zero_add, Fin.eta]
  sl_unfold_run_values
  simp only [View.readAt_eq_ld, harg5.read_unread, harg6.read_unread]
  pointwise [k0_pay93, k0_pay94, k0_pay95, k0_pay96, k0_pay97, k0_pay98, k0_pay99, k0_pay100, k0_pay101, k0_pay102, k0_pay103, k0_pay104, k0_pay105]
  simp only [Cert.Rows.ld2, Cert.Rows.readCov2, Nat.zero_add, Nat.add_zero]
  simp (disch := (simp <;> omega)) only [win_can_A_2 (hF := hF)]
  simp only [hF.cw, hF.cb, tap_eq, ← Nat.add_assoc, Nat.reduceAdd]
  have p := taps_phases (tap W ⟨256 + b.val, by omega⟩) (fun n => cx W (fun _ _ => 0) (us W x0) (n + 130 + a.val) ⟨256 + b.val, by omega⟩)
  simp only [Nat.reduceAdd, Nat.zero_add] at p
  have q := congrArg (· + W.cb ⟨256 + b.val, by omega⟩) p
  simp only [Nat.zero_add] at q ⊢

  exact q
/-- The convolution's rows 0.. in columns 384... -/
theorem conv_A_0_3 (r : Fin 256) (j : Fin 1024) (hr : 0 ≤ r.val ∧ r.val < 128) (hj : 384 ≤ j.val ∧ j.val < 512) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 (ix2 r j) = conv W (fun n => cx W (fun _ _ => 0) (us W x0) (n + 2 + r.val) j) j := by
  obtain ⟨a, rfl⟩ : ∃ a : Fin 128, r = (⟨0 + a.val, by clear hr hj; omega⟩ : Fin 256) := ⟨⟨r.val - 0, by omega⟩, Fin.ext (by simp only []; omega)⟩
  obtain ⟨b, rfl⟩ : ∃ b : Fin 128, j = (⟨384 + b.val, by clear hr hj; omega⟩ : Fin 1024) := ⟨⟨j.val - 384, by omega⟩, Fin.ext (by simp only []; omega)⟩
  clear hr hj
  unfold sout0_A_1
  refine (View.read_writes_apply_eq_canon _ _ _ _ (scover0_A_1 ..)).trans ?_
  unfold kernelRun0_A
  dsimp only
  iterate 8 rw [Cert.Rows.canon2_miss_col (Val := Elt Ideal) _ _ _ _ _ (by simp; try omega)]
  rw [Cert.Rows.canon2_miss_row (Val := Elt Ideal) _ _ _ _ _ (by simp; try omega)]
  rw [Cert.Rows.canon2_hit (Val := Elt Ideal) _ _ _ _ _ (by simp; try omega) (by simp; try omega)]
  simp only [Nat.add_sub_cancel_left, Nat.sub_zero, Nat.zero_add, Fin.eta]
  sl_unfold_run_values
  simp only [View.readAt_eq_ld, harg5.read_unread, harg6.read_unread]
  pointwise [k0_pay106, k0_pay107, k0_pay108, k0_pay109, k0_pay110, k0_pay111, k0_pay112, k0_pay113, k0_pay114, k0_pay115, k0_pay116, k0_pay117, k0_pay118]
  simp only [Cert.Rows.ld2, Cert.Rows.readCov2, Nat.zero_add, Nat.add_zero]
  simp (disch := (simp <;> omega)) only [win_can_A_3 (hF := hF)]
  simp only [hF.cw, hF.cb, tap_eq, ← Nat.add_assoc, Nat.reduceAdd]
  have p := taps_phases (tap W ⟨384 + b.val, by omega⟩) (fun n => cx W (fun _ _ => 0) (us W x0) (n + 2 + a.val) ⟨384 + b.val, by omega⟩)
  simp only [Nat.reduceAdd, Nat.zero_add] at p
  have q := congrArg (· + W.cb ⟨384 + b.val, by omega⟩) p
  simp only [Nat.zero_add] at q ⊢

  exact q
/-- The convolution's rows 128.. in columns 384... -/
theorem conv_A_1_3 (r : Fin 256) (j : Fin 1024) (hr : 128 ≤ r.val ∧ r.val < 256) (hj : 384 ≤ j.val ∧ j.val < 512) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 (ix2 r j) = conv W (fun n => cx W (fun _ _ => 0) (us W x0) (n + 2 + r.val) j) j := by
  obtain ⟨a, rfl⟩ : ∃ a : Fin 128, r = (⟨128 + a.val, by clear hr hj; omega⟩ : Fin 256) := ⟨⟨r.val - 128, by omega⟩, Fin.ext (by simp only []; omega)⟩
  obtain ⟨b, rfl⟩ : ∃ b : Fin 128, j = (⟨384 + b.val, by clear hr hj; omega⟩ : Fin 1024) := ⟨⟨j.val - 384, by omega⟩, Fin.ext (by simp only []; omega)⟩
  clear hr hj
  unfold sout0_A_1
  refine (View.read_writes_apply_eq_canon _ _ _ _ (scover0_A_1 ..)).trans ?_
  unfold kernelRun0_A
  dsimp only
  iterate 8 rw [Cert.Rows.canon2_miss_col (Val := Elt Ideal) _ _ _ _ _ (by simp; try omega)]
  rw [Cert.Rows.canon2_hit (Val := Elt Ideal) _ _ _ _ _ (by simp; try omega) (by simp; try omega)]
  simp only [Nat.add_sub_cancel_left, Nat.sub_zero, Nat.zero_add, Fin.eta]
  sl_unfold_run_values
  simp only [View.readAt_eq_ld, harg5.read_unread, harg6.read_unread]
  pointwise [k0_pay119, k0_pay120, k0_pay121, k0_pay122, k0_pay123, k0_pay124, k0_pay125, k0_pay126, k0_pay127, k0_pay128, k0_pay129, k0_pay130]
  simp only [Cert.Rows.ld2, Cert.Rows.readCov2, Nat.zero_add, Nat.add_zero]
  simp (disch := (simp <;> omega)) only [win_can_A_3 (hF := hF)]
  simp only [hF.cw, hF.cb, tap_eq, ← Nat.add_assoc, Nat.reduceAdd]
  have p := taps_phases (tap W ⟨384 + b.val, by omega⟩) (fun n => cx W (fun _ _ => 0) (us W x0) (n + 130 + a.val) ⟨384 + b.val, by omega⟩)
  simp only [Nat.reduceAdd, Nat.zero_add] at p
  have q := congrArg (· + W.cb ⟨384 + b.val, by omega⟩) p
  simp only [Nat.zero_add] at q ⊢

  exact q

end Cert.KernelIdeal.Mix
end
-- ==== Proof.MixA2.lean ====
module

public import proofs.«01_k».proof.Proof.Gen.KernelIdeal.Value
public import proofs.«01_k».proof.Proof.Rows
public import Idealize.ShloMosaic.Lib.Pointwise
public import Idealize.ShloMosaic.Lib.Tactic.RunNames
public import proofs.«01_k».proof.Proof.MixStep
public import proofs.«01_k».proof.Proof.MixA0

@[expose] public section

set_option maxRecDepth 16384

noncomputable section

/-! The convolution's rows of a step (case A). -/

namespace Cert.KernelIdeal.Mix

open Cert.KernelIdeal Cert.KernelIdeal.Gen Cert.MixSpec Idealize.ShloMosaic Idealize.ShloMosaic.TcCoe Idealize.ShloMosaic.Tactic

variable (W : Wt) (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x7296 .bf16) (harg4 : arg4.IsWhole) (arg5 : Memref sig .tc .vmem S31x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x256 .f32) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S256x256 .bf16) (harg15 : arg15.IsWhole) (arg16 : Memref sig .tc .vmem S256x1024 .f32) (harg16 : arg16.IsWhole) (arg17 : Memref sig .tc .vmem S288x1024 .f32) (harg17 : arg17.IsWhole) (arg18 : Memref sig .tc .vmem S256x1024 .f32) (harg18 : arg18.IsWhole) (arg19 : Memref sig .tc .vmem S4x256x128 .f32) (harg19 : arg19.IsWhole) (arg20 : Memref sig .tc .vmem S256x1024 .bf16) (harg20 : arg20.IsWhole) (arg21 : Memref sig .tc .vmem S256x1024 .bf16) (harg21 : arg21.IsWhole) (hc0 : cond0_0 i) (hc1 : cond0_1 i) (x0 : Vec Ideal S256x1024 .f32) (x1 : Vec Ideal S256x1024 .f32) (x2 : Vec Ideal S1x1024 .f32) (x3 : Vec Ideal S1024x7296 .bf16) (x4 : Vec Ideal S31x1024 .f32) (x5 : Vec Ideal S1x1024 .f32) (x6 : Vec Ideal S1x1024 .f32) (x7 : Vec Ideal S1x1024 .f32) (x8 : Vec Ideal S1024x1024 .bf16) (x9 : Vec Ideal S128x512 .bf16) (x10 : Vec Ideal S1x512 .f32) (x11 : Vec Ideal S1x256 .f32) (x12 : Vec Ideal S1024x1024 .bf16) (x13 : Vec Ideal S1024x1024 .bf16) (x14 : Vec Ideal S256x256 .bf16)
  (hF : Fit W x2 x3 x4 x5 x6 x7 x8 x9 x10 x11 x12 x13 x14)

include hF

/-- The convolution's rows 0.. in columns 512... -/
theorem conv_A_0_4 (r : Fin 256) (j : Fin 1024) (hr : 0 ≤ r.val ∧ r.val < 128) (hj : 512 ≤ j.val ∧ j.val < 640) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 (ix2 r j) = conv W (fun n => cx W (fun _ _ => 0) (us W x0) (n + 2 + r.val) j) j := by
  obtain ⟨a, rfl⟩ : ∃ a : Fin 128, r = (⟨0 + a.val, by clear hr hj; omega⟩ : Fin 256) := ⟨⟨r.val - 0, by omega⟩, Fin.ext (by simp only []; omega)⟩
  obtain ⟨b, rfl⟩ : ∃ b : Fin 128, j = (⟨512 + b.val, by clear hr hj; omega⟩ : Fin 1024) := ⟨⟨j.val - 512, by omega⟩, Fin.ext (by simp only []; omega)⟩
  clear hr hj
  unfold sout0_A_1
  refine (View.read_writes_apply_eq_canon _ _ _ _ (scover0_A_1 ..)).trans ?_
  unfold kernelRun0_A
  dsimp only
  iterate 6 rw [Cert.Rows.canon2_miss_col (Val := Elt Ideal) _ _ _ _ _ (by simp; try omega)]
  rw [Cert.Rows.canon2_miss_row (Val := Elt Ideal) _ _ _ _ _ (by simp; try omega)]
  rw [Cert.Rows.canon2_hit (Val := Elt Ideal) _ _ _ _ _ (by simp; try omega) (by simp; try omega)]
  simp only [Nat.add_sub_cancel_left, Nat.sub_zero, Nat.zero_add, Fin.eta]
  sl_unfold_run_values
  simp only [View.readAt_eq_ld, harg5.read_unread, harg6.read_unread]
  pointwise [k0_pay131, k0_pay132, k0_pay133, k0_pay134, k0_pay135, k0_pay136, k0_pay137, k0_pay138, k0_pay139, k0_pay140, k0_pay141, k0_pay142]
  simp only [Cert.Rows.ld2, Cert.Rows.readCov2, Nat.zero_add, Nat.add_zero]
  simp (disch := (simp <;> omega)) only [win_can_A_4 (hF := hF)]
  simp only [hF.cw, hF.cb, tap_eq, ← Nat.add_assoc, Nat.reduceAdd]
  have p := taps_phases (tap W ⟨512 + b.val, by omega⟩) (fun n => cx W (fun _ _ => 0) (us W x0) (n + 2 + a.val) ⟨512 + b.val, by omega⟩)
  simp only [Nat.reduceAdd, Nat.zero_add] at p
  have q := congrArg (· + W.cb ⟨512 + b.val, by omega⟩) p
  simp only [Nat.zero_add] at q ⊢

  exact q
/-- The convolution's rows 128.. in columns 512... -/
theorem conv_A_1_4 (r : Fin 256) (j : Fin 1024) (hr : 128 ≤ r.val ∧ r.val < 256) (hj : 512 ≤ j.val ∧ j.val < 640) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 (ix2 r j) = conv W (fun n => cx W (fun _ _ => 0) (us W x0) (n + 2 + r.val) j) j := by
  obtain ⟨a, rfl⟩ : ∃ a : Fin 128, r = (⟨128 + a.val, by clear hr hj; omega⟩ : Fin 256) := ⟨⟨r.val - 128, by omega⟩, Fin.ext (by simp only []; omega)⟩
  obtain ⟨b, rfl⟩ : ∃ b : Fin 128, j = (⟨512 + b.val, by clear hr hj; omega⟩ : Fin 1024) := ⟨⟨j.val - 512, by omega⟩, Fin.ext (by simp only []; omega)⟩
  clear hr hj
  unfold sout0_A_1
  refine (View.read_writes_apply_eq_canon _ _ _ _ (scover0_A_1 ..)).trans ?_
  unfold kernelRun0_A
  dsimp only
  iterate 6 rw [Cert.Rows.canon2_miss_col (Val := Elt Ideal) _ _ _ _ _ (by simp; try omega)]
  rw [Cert.Rows.canon2_hit (Val := Elt Ideal) _ _ _ _ _ (by simp; try omega) (by simp; try omega)]
  simp only [Nat.add_sub_cancel_left, Nat.sub_zero, Nat.zero_add, Fin.eta]
  sl_unfold_run_values
  simp only [View.readAt_eq_ld, harg5.read_unread, harg6.read_unread]
  pointwise [k0_pay143, k0_pay144, k0_pay145, k0_pay146, k0_pay147, k0_pay148, k0_pay149, k0_pay150, k0_pay151, k0_pay152, k0_pay153, k0_pay154, k0_pay155]
  simp only [Cert.Rows.ld2, Cert.Rows.readCov2, Nat.zero_add, Nat.add_zero]
  simp (disch := (simp <;> omega)) only [win_can_A_4 (hF := hF)]
  simp only [hF.cw, hF.cb, tap_eq, ← Nat.add_assoc, Nat.reduceAdd]
  have p := taps_phases (tap W ⟨512 + b.val, by omega⟩) (fun n => cx W (fun _ _ => 0) (us W x0) (n + 130 + a.val) ⟨512 + b.val, by omega⟩)
  simp only [Nat.reduceAdd, Nat.zero_add] at p
  have q := congrArg (· + W.cb ⟨512 + b.val, by omega⟩) p
  simp only [Nat.zero_add] at q ⊢

  exact q
/-- The convolution's rows 0.. in columns 640... -/
theorem conv_A_0_5 (r : Fin 256) (j : Fin 1024) (hr : 0 ≤ r.val ∧ r.val < 128) (hj : 640 ≤ j.val ∧ j.val < 768) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 (ix2 r j) = conv W (fun n => cx W (fun _ _ => 0) (us W x0) (n + 2 + r.val) j) j := by
  obtain ⟨a, rfl⟩ : ∃ a : Fin 128, r = (⟨0 + a.val, by clear hr hj; omega⟩ : Fin 256) := ⟨⟨r.val - 0, by omega⟩, Fin.ext (by simp only []; omega)⟩
  obtain ⟨b, rfl⟩ : ∃ b : Fin 128, j = (⟨640 + b.val, by clear hr hj; omega⟩ : Fin 1024) := ⟨⟨j.val - 640, by omega⟩, Fin.ext (by simp only []; omega)⟩
  clear hr hj
  unfold sout0_A_1
  refine (View.read_writes_apply_eq_canon _ _ _ _ (scover0_A_1 ..)).trans ?_
  unfold kernelRun0_A
  dsimp only
  iterate 4 rw [Cert.Rows.canon2_miss_col (Val := Elt Ideal) _ _ _ _ _ (by simp; try omega)]
  rw [Cert.Rows.canon2_miss_row (Val := Elt Ideal) _ _ _ _ _ (by simp; try omega)]
  rw [Cert.Rows.canon2_hit (Val := Elt Ideal) _ _ _ _ _ (by simp; try omega) (by simp; try omega)]
  simp only [Nat.add_sub_cancel_left, Nat.sub_zero, Nat.zero_add, Fin.eta]
  sl_unfold_run_values
  simp only [View.readAt_eq_ld, harg5.read_unread, harg6.read_unread]
  pointwise [k0_pay156, k0_pay157, k0_pay158, k0_pay159, k0_pay160, k0_pay161, k0_pay162, k0_pay163, k0_pay164, k0_pay165, k0_pay166, k0_pay167]
  simp only [Cert.Rows.ld2, Cert.Rows.readCov2, Nat.zero_add, Nat.add_zero]
  simp (disch := (simp <;> omega)) only [win_can_A_5 (hF := hF)]
  simp only [hF.cw, hF.cb, tap_eq, ← Nat.add_assoc, Nat.reduceAdd]
  have p := taps_phases (tap W ⟨640 + b.val, by omega⟩) (fun n => cx W (fun _ _ => 0) (us W x0) (n + 2 + a.val) ⟨640 + b.val, by omega⟩)
  simp only [Nat.reduceAdd, Nat.zero_add] at p
  have q := congrArg (· + W.cb ⟨640 + b.val, by omega⟩) p
  simp only [Nat.zero_add] at q ⊢

  exact q
/-- The convolution's rows 128.. in columns 640... -/
theorem conv_A_1_5 (r : Fin 256) (j : Fin 1024) (hr : 128 ≤ r.val ∧ r.val < 256) (hj : 640 ≤ j.val ∧ j.val < 768) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 (ix2 r j) = conv W (fun n => cx W (fun _ _ => 0) (us W x0) (n + 2 + r.val) j) j := by
  obtain ⟨a, rfl⟩ : ∃ a : Fin 128, r = (⟨128 + a.val, by clear hr hj; omega⟩ : Fin 256) := ⟨⟨r.val - 128, by omega⟩, Fin.ext (by simp only []; omega)⟩
  obtain ⟨b, rfl⟩ : ∃ b : Fin 128, j = (⟨640 + b.val, by clear hr hj; omega⟩ : Fin 1024) := ⟨⟨j.val - 640, by omega⟩, Fin.ext (by simp only []; omega)⟩
  clear hr hj
  unfold sout0_A_1
  refine (View.read_writes_apply_eq_canon _ _ _ _ (scover0_A_1 ..)).trans ?_
  unfold kernelRun0_A
  dsimp only
  iterate 4 rw [Cert.Rows.canon2_miss_col (Val := Elt Ideal) _ _ _ _ _ (by simp; try omega)]
  rw [Cert.Rows.canon2_hit (Val := Elt Ideal) _ _ _ _ _ (by simp; try omega) (by simp; try omega)]
  simp only [Nat.add_sub_cancel_left, Nat.sub_zero, Nat.zero_add, Fin.eta]
  sl_unfold_run_values
  simp only [View.readAt_eq_ld, harg5.read_unread, harg6.read_unread]
  pointwise [k0_pay168, k0_pay169, k0_pay170, k0_pay171, k0_pay172, k0_pay173, k0_pay174, k0_pay175, k0_pay176, k0_pay177, k0_pay178, k0_pay179, k0_pay180, k0_pay181, k0_pay182]
  simp only [Cert.Rows.ld2, Cert.Rows.readCov2, Nat.zero_add, Nat.add_zero]
  simp (disch := (simp <;> omega)) only [win_can_A_5 (hF := hF)]
  simp only [hF.cw, hF.cb, tap_eq, ← Nat.add_assoc, Nat.reduceAdd]
  have p := taps_phases (tap W ⟨640 + b.val, by omega⟩) (fun n => cx W (fun _ _ => 0) (us W x0) (n + 130 + a.val) ⟨640 + b.val, by omega⟩)
  simp only [Nat.reduceAdd, Nat.zero_add] at p
  have q := congrArg (· + W.cb ⟨640 + b.val, by omega⟩) p
  simp only [Nat.zero_add] at q ⊢

  exact q
/-- The convolution's rows 0.. in columns 768... -/
theorem conv_A_0_6 (r : Fin 256) (j : Fin 1024) (hr : 0 ≤ r.val ∧ r.val < 128) (hj : 768 ≤ j.val ∧ j.val < 896) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 (ix2 r j) = conv W (fun n => cx W (fun _ _ => 0) (us W x0) (n + 2 + r.val) j) j := by
  obtain ⟨a, rfl⟩ : ∃ a : Fin 128, r = (⟨0 + a.val, by clear hr hj; omega⟩ : Fin 256) := ⟨⟨r.val - 0, by omega⟩, Fin.ext (by simp only []; omega)⟩
  obtain ⟨b, rfl⟩ : ∃ b : Fin 128, j = (⟨768 + b.val, by clear hr hj; omega⟩ : Fin 1024) := ⟨⟨j.val - 768, by omega⟩, Fin.ext (by simp only []; omega)⟩
  clear hr hj
  unfold sout0_A_1
  refine (View.read_writes_apply_eq_canon _ _ _ _ (scover0_A_1 ..)).trans ?_
  unfold kernelRun0_A
  dsimp only
  iterate 2 rw [Cert.Rows.canon2_miss_col (Val := Elt Ideal) _ _ _ _ _ (by simp; try omega)]
  rw [Cert.Rows.canon2_miss_row (Val := Elt Ideal) _ _ _ _ _ (by simp; try omega)]
  rw [Cert.Rows.canon2_hit (Val := Elt Ideal) _ _ _ _ _ (by simp; try omega) (by simp; try omega)]
  simp only [Nat.add_sub_cancel_left, Nat.sub_zero, Nat.zero_add, Fin.eta]
  sl_unfold_run_values
  simp only [View.readAt_eq_ld, harg5.read_unread, harg6.read_unread]
  pointwise [k0_pay183, k0_pay271, k0_pay272, k0_pay273, k0_pay274, k0_pay275, k0_pay276, k0_pay277, k0_pay278, k0_pay279, k0_pay280, k0_pay281, k0_pay282, k0_pay283, k0_pay284]
  simp only [Cert.Rows.ld2, Cert.Rows.readCov2, Nat.zero_add, Nat.add_zero]
  simp (disch := (simp <;> omega)) only [win_can_A_6 (hF := hF)]
  simp only [hF.cw, hF.cb, tap_eq, ← Nat.add_assoc, Nat.reduceAdd]
  have p := taps_phases (tap W ⟨768 + b.val, by omega⟩) (fun n => cx W (fun _ _ => 0) (us W x0) (n + 2 + a.val) ⟨768 + b.val, by omega⟩)
  simp only [Nat.reduceAdd, Nat.zero_add] at p
  have q := congrArg (· + W.cb ⟨768 + b.val, by omega⟩) p
  simp only [Nat.zero_add] at q ⊢

  exact q
/-- The convolution's rows 128.. in columns 768... -/
theorem conv_A_1_6 (r : Fin 256) (j : Fin 1024) (hr : 128 ≤ r.val ∧ r.val < 256) (hj : 768 ≤ j.val ∧ j.val < 896) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 (ix2 r j) = conv W (fun n => cx W (fun _ _ => 0) (us W x0) (n + 2 + r.val) j) j := by
  obtain ⟨a, rfl⟩ : ∃ a : Fin 128, r = (⟨128 + a.val, by clear hr hj; omega⟩ : Fin 256) := ⟨⟨r.val - 128, by omega⟩, Fin.ext (by simp only []; omega)⟩
  obtain ⟨b, rfl⟩ : ∃ b : Fin 128, j = (⟨768 + b.val, by clear hr hj; omega⟩ : Fin 1024) := ⟨⟨j.val - 768, by omega⟩, Fin.ext (by simp only []; omega)⟩
  clear hr hj
  unfold sout0_A_1
  refine (View.read_writes_apply_eq_canon _ _ _ _ (scover0_A_1 ..)).trans ?_
  unfold kernelRun0_A
  dsimp only
  iterate 2 rw [Cert.Rows.canon2_miss_col (Val := Elt Ideal) _ _ _ _ _ (by simp; try omega)]
  rw [Cert.Rows.canon2_hit (Val := Elt Ideal) _ _ _ _ _ (by simp; try omega) (by simp; try omega)]
  simp only [Nat.add_sub_cancel_left, Nat.sub_zero, Nat.zero_add, Fin.eta]
  sl_unfold_run_values
  simp only [View.readAt_eq_ld, harg5.read_unread, harg6.read_unread]
  pointwise [k0_pay285, k0_pay286, k0_pay287, k0_pay288, k0_pay289, k0_pay290, k0_pay291, k0_pay292, k0_pay293, k0_pay294, k0_pay295, k0_pay296, k0_pay297, k0_pay298]
  simp only [Cert.Rows.ld2, Cert.Rows.readCov2, Nat.zero_add, Nat.add_zero]
  simp (disch := (simp <;> omega)) only [win_can_A_6 (hF := hF)]
  simp only [hF.cw, hF.cb, tap_eq, ← Nat.add_assoc, Nat.reduceAdd]
  have p := taps_phases (tap W ⟨768 + b.val, by omega⟩) (fun n => cx W (fun _ _ => 0) (us W x0) (n + 130 + a.val) ⟨768 + b.val, by omega⟩)
  simp only [Nat.reduceAdd, Nat.zero_add] at p
  have q := congrArg (· + W.cb ⟨768 + b.val, by omega⟩) p
  simp only [Nat.zero_add] at q ⊢

  exact q
/-- The convolution's rows 0.. in columns 896... -/
theorem conv_A_0_7 (r : Fin 256) (j : Fin 1024) (hr : 0 ≤ r.val ∧ r.val < 128) (hj : 896 ≤ j.val ∧ j.val < 1024) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 (ix2 r j) = conv W (fun n => cx W (fun _ _ => 0) (us W x0) (n + 2 + r.val) j) j := by
  obtain ⟨a, rfl⟩ : ∃ a : Fin 128, r = (⟨0 + a.val, by clear hr hj; omega⟩ : Fin 256) := ⟨⟨r.val - 0, by omega⟩, Fin.ext (by simp only []; omega)⟩
  obtain ⟨b, rfl⟩ : ∃ b : Fin 128, j = (⟨896 + b.val, by clear hr hj; omega⟩ : Fin 1024) := ⟨⟨j.val - 896, by omega⟩, Fin.ext (by simp only []; omega)⟩
  clear hr hj
  unfold sout0_A_1
  refine (View.read_writes_apply_eq_canon _ _ _ _ (scover0_A_1 ..)).trans ?_
  unfold kernelRun0_A
  dsimp only
  rw [Cert.Rows.canon2_miss_row (Val := Elt Ideal) _ _ _ _ _ (by simp; try omega)]
  rw [Cert.Rows.canon2_hit (Val := Elt Ideal) _ _ _ _ _ (by simp; try omega) (by simp; try omega)]
  simp only [Nat.add_sub_cancel_left, Nat.sub_zero, Nat.zero_add, Fin.eta]
  sl_unfold_run_values
  simp only [View.readAt_eq_ld, harg5.read_unread, harg6.read_unread]
  pointwise [k0_pay299, k0_pay300, k0_pay301, k0_pay302, k0_pay303, k0_pay304, k0_pay305, k0_pay306, k0_pay307, k0_pay308, k0_pay309, k0_pay310]
  simp only [Cert.Rows.ld2, Cert.Rows.readCov2, Nat.zero_add, Nat.add_zero]
  simp (disch := (simp <;> omega)) only [win_can_A_7 (hF := hF)]
  simp only [hF.cw, hF.cb, tap_eq, ← Nat.add_assoc, Nat.reduceAdd]
  have p := taps_phases (tap W ⟨896 + b.val, by omega⟩) (fun n => cx W (fun _ _ => 0) (us W x0) (n + 2 + a.val) ⟨896 + b.val, by omega⟩)
  simp only [Nat.reduceAdd, Nat.zero_add] at p
  have q := congrArg (· + W.cb ⟨896 + b.val, by omega⟩) p
  simp only [Nat.zero_add] at q ⊢

  exact q
/-- The convolution's rows 128.. in columns 896... -/
theorem conv_A_1_7 (r : Fin 256) (j : Fin 1024) (hr : 128 ≤ r.val ∧ r.val < 256) (hj : 896 ≤ j.val ∧ j.val < 1024) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 (ix2 r j) = conv W (fun n => cx W (fun _ _ => 0) (us W x0) (n + 2 + r.val) j) j := by
  obtain ⟨a, rfl⟩ : ∃ a : Fin 128, r = (⟨128 + a.val, by clear hr hj; omega⟩ : Fin 256) := ⟨⟨r.val - 128, by omega⟩, Fin.ext (by simp only []; omega)⟩
  obtain ⟨b, rfl⟩ : ∃ b : Fin 128, j = (⟨896 + b.val, by clear hr hj; omega⟩ : Fin 1024) := ⟨⟨j.val - 896, by omega⟩, Fin.ext (by simp only []; omega)⟩
  clear hr hj
  unfold sout0_A_1
  refine (View.read_writes_apply_eq_canon _ _ _ _ (scover0_A_1 ..)).trans ?_
  unfold kernelRun0_A
  dsimp only
  rw [Cert.Rows.canon2_hit (Val := Elt Ideal) _ _ _ _ _ (by simp; try omega) (by simp; try omega)]
  simp only [Nat.add_sub_cancel_left, Nat.sub_zero, Nat.zero_add, Fin.eta]
  sl_unfold_run_values
  simp only [View.readAt_eq_ld, harg5.read_unread, harg6.read_unread]
  pointwise [k0_pay311, k0_pay312, k0_pay313, k0_pay314, k0_pay315, k0_pay316, k0_pay317, k0_pay318, k0_pay319, k0_pay320, k0_pay321, k0_pay322]
  simp only [Cert.Rows.ld2, Cert.Rows.readCov2, Nat.zero_add, Nat.add_zero]
  simp (disch := (simp <;> omega)) only [win_can_A_7 (hF := hF)]
  simp only [hF.cw, hF.cb, tap_eq, ← Nat.add_assoc, Nat.reduceAdd]
  have p := taps_phases (tap W ⟨896 + b.val, by omega⟩) (fun n => cx W (fun _ _ => 0) (us W x0) (n + 130 + a.val) ⟨896 + b.val, by omega⟩)
  simp only [Nat.reduceAdd, Nat.zero_add] at p
  have q := congrArg (· + W.cb ⟨896 + b.val, by omega⟩) p
  simp only [Nat.zero_add] at q ⊢

  exact q

end Cert.KernelIdeal.Mix
end
-- ==== Proof.MixA3.lean ====
module

public import proofs.«01_k».proof.Proof.Gen.KernelIdeal.Value
public import proofs.«01_k».proof.Proof.Rows
public import Idealize.ShloMosaic.Lib.Pointwise
public import Idealize.ShloMosaic.Lib.Tactic.RunNames
public import proofs.«01_k».proof.Proof.MixStep
public import proofs.«01_k».proof.Proof.MixA0
public import proofs.«01_k».proof.Proof.MixBlk2

@[expose] public section

set_option maxRecDepth 16384

noncomputable section

/-! What a step leaves: the carried window, the states, the gated heads, the normalised rows, the result (case A). -/

namespace Cert.KernelIdeal.Mix

open Cert.KernelIdeal Cert.KernelIdeal.Gen Cert.MixSpec Idealize.ShloMosaic Idealize.ShloMosaic.TcCoe Idealize.ShloMosaic.Tactic

variable (W : Wt) (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x7296 .bf16) (harg4 : arg4.IsWhole) (arg5 : Memref sig .tc .vmem S31x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x256 .f32) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S256x256 .bf16) (harg15 : arg15.IsWhole) (arg16 : Memref sig .tc .vmem S256x1024 .f32) (harg16 : arg16.IsWhole) (arg17 : Memref sig .tc .vmem S288x1024 .f32) (harg17 : arg17.IsWhole) (arg18 : Memref sig .tc .vmem S256x1024 .f32) (harg18 : arg18.IsWhole) (arg19 : Memref sig .tc .vmem S4x256x128 .f32) (harg19 : arg19.IsWhole) (arg20 : Memref sig .tc .vmem S256x1024 .bf16) (harg20 : arg20.IsWhole) (arg21 : Memref sig .tc .vmem S256x1024 .bf16) (harg21 : arg21.IsWhole) (hc0 : cond0_0 i) (hc1 : cond0_1 i) (x0 : Vec Ideal S256x1024 .f32) (x1 : Vec Ideal S256x1024 .f32) (x2 : Vec Ideal S1x1024 .f32) (x3 : Vec Ideal S1024x7296 .bf16) (x4 : Vec Ideal S31x1024 .f32) (x5 : Vec Ideal S1x1024 .f32) (x6 : Vec Ideal S1x1024 .f32) (x7 : Vec Ideal S1x1024 .f32) (x8 : Vec Ideal S1024x1024 .bf16) (x9 : Vec Ideal S128x512 .bf16) (x10 : Vec Ideal S1x512 .f32) (x11 : Vec Ideal S1x256 .f32) (x12 : Vec Ideal S1024x1024 .bf16) (x13 : Vec Ideal S1024x1024 .bf16) (x14 : Vec Ideal S256x256 .bf16)
  (hF : Fit W x2 x3 x4 x5 x6 x7 x8 x9 x10 x11 x12 x13 x14)

include hF

/-- The normalised rows. -/
theorem u_A (r : Fin 256) (j : Fin 1024) : sout0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 (ix2 r j) = us W x0 r j := by
  unfold sout0_A_4
  refine (View.read_writes_apply_eq_canon _ _ _ _ (scover0_A_4 ..)).trans ?_
  unfold kernelRun0_A
  dsimp only
  sl_unfold_run_values
  rw [Cert.Rows.canon_whole2]
  simp only [View.readAt_eq_ld, Memref.IsWhole.read_unread, Cert.Rows.ld_whole2, Cert.Rows.ld_whole3]
  rw [pay1_eq]
  exact congrFun (u_rows W x0 x2 hF.n1g r) j
set_option maxHeartbeats 2000000 in
/-- The states after the step. -/
theorem st_A (h : Fin 4) (e : Fin 256) (d : Fin 128) :
    sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 (ix3 h e d) = sS W (us W x0) (fun _ _ _ => 0) 4 h e d := by
  unfold sout0_A_2
  refine (View.read_writes_apply_eq_canon _ _ _ _ (scover0_A_2 ..)).trans ?_
  unfold kernelRun0_A
  dsimp only
  obtain rfl | rfl | rfl | rfl : h = 0 ∨ h = 1 ∨ h = 2 ∨ h = 3 := by omega
  · refine (canon3_miss 3 0 (by decide) _ _ _ e d).trans ?_
    try unfold kernelRun0_A.sl.HS2_4
    refine (canon3_miss 2 0 (by decide) _ _ _ e d).trans ?_
    try unfold kernelRun0_A.sl.HS2_3
    refine (canon3_miss 1 0 (by decide) _ _ _ e d).trans ?_
    try unfold kernelRun0_A.sl.HS2_2
    refine (canon3_hit 0 0 rfl _ _ _ e d).trans ?_
    sl_unfold_run_values
    simp only [View.readAt_eq_ld, Memref.IsWhole.read_unread, Cert.Rows.ld_whole2, Cert.Rows.ld_whole3]
    exact blk_state_0 (hF := hF) (S := (fun _ _ _ => 0)) (h0 := (by intro e d; refine (readCov3_head _ _ 0 _ e d).trans ?_; unfold kernelRun0_A.sl.HS2_1; rw [Cert.Rows.canon_whole3]; pointwise [k0_pay6])) (e := e) (d := d) ..
  · refine (canon3_miss 3 1 (by decide) _ _ _ e d).trans ?_
    try unfold kernelRun0_A.sl.HS2_4
    refine (canon3_miss 2 1 (by decide) _ _ _ e d).trans ?_
    try unfold kernelRun0_A.sl.HS2_3
    refine (canon3_hit 1 1 rfl _ _ _ e d).trans ?_
    sl_unfold_run_values
    simp only [View.readAt_eq_ld, Memref.IsWhole.read_unread, Cert.Rows.ld_whole2, Cert.Rows.ld_whole3]
    exact blk_state_1 (hF := hF) (S := (fun _ _ _ => 0)) (h0 := (by intro e d; refine (readCov3_head _ _ 1 _ e d).trans ?_; unfold kernelRun0_A.sl.HS2_2; refine (canon3_miss 0 1 (by decide) _ _ _ e d).trans ?_; unfold kernelRun0_A.sl.HS2_1; rw [Cert.Rows.canon_whole3]; pointwise [k0_pay6])) (e := e) (d := d) ..
  · refine (canon3_miss 3 2 (by decide) _ _ _ e d).trans ?_
    try unfold kernelRun0_A.sl.HS2_4
    refine (canon3_hit 2 2 rfl _ _ _ e d).trans ?_
    sl_unfold_run_values
    simp only [View.readAt_eq_ld, Memref.IsWhole.read_unread, Cert.Rows.ld_whole2, Cert.Rows.ld_whole3]
    exact blk_state_2 (hF := hF) (S := (fun _ _ _ => 0)) (h0 := (by intro e d; refine (readCov3_head _ _ 2 _ e d).trans ?_; unfold kernelRun0_A.sl.HS2_3; refine (canon3_miss 1 2 (by decide) _ _ _ e d).trans ?_; unfold kernelRun0_A.sl.HS2_2; refine (canon3_miss 0 2 (by decide) _ _ _ e d).trans ?_; unfold kernelRun0_A.sl.HS2_1; rw [Cert.Rows.canon_whole3]; pointwise [k0_pay6])) (e := e) (d := d) ..
  · refine (canon3_hit 3 3 rfl _ _ _ e d).trans ?_
    sl_unfold_run_values
    simp only [View.readAt_eq_ld, Memref.IsWhole.read_unread, Cert.Rows.ld_whole2, Cert.Rows.ld_whole3]
    exact blk_state_3 (hF := hF) (S := (fun _ _ _ => 0)) (h0 := (by intro e d; refine (readCov3_head _ _ 3 _ e d).trans ?_; unfold kernelRun0_A.sl.HS2_4; refine (canon3_miss 2 3 (by decide) _ _ _ e d).trans ?_; unfold kernelRun0_A.sl.HS2_3; refine (canon3_miss 1 3 (by decide) _ _ _ e d).trans ?_; unfold kernelRun0_A.sl.HS2_2; refine (canon3_miss 0 3 (by decide) _ _ _ e d).trans ?_; unfold kernelRun0_A.sl.HS2_1; rw [Cert.Rows.canon_whole3]; pointwise [k0_pay6])) (e := e) (d := d) ..
/-- The gated heads of the step. -/
theorem ob_A (r : Fin 256) (j : Fin 1024) : sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 (ix2 r j)
      = obS W (us W x0) (fun _ _ _ => 0) ⟨r.val / 64, by omega⟩ ⟨j.val / 256, by omega⟩ ⟨r.val % 64, by omega⟩ ⟨j.val % 256, by omega⟩ := by
  unfold sout0_A_3
  refine (View.read_writes_apply_eq_canon _ _ _ _ (scover0_A_3 ..)).trans ?_
  unfold kernelRun0_A
  dsimp only
  obtain g | g | g | g : r.val < 64 ∨ (64 ≤ r.val ∧ r.val < 128) ∨ (128 ≤ r.val ∧ r.val < 192) ∨ 192 ≤ r.val := by omega
  · rw [Cert.Rows.canon2_miss_row (Val := Elt Ideal) _ _ _ _ _ (by simp; try omega)]
    try unfold kernelRun0_A.sl.HS3_4
    rw [Cert.Rows.canon2_miss_row (Val := Elt Ideal) _ _ _ _ _ (by simp; try omega)]
    try unfold kernelRun0_A.sl.HS3_3
    rw [Cert.Rows.canon2_miss_row (Val := Elt Ideal) _ _ _ _ _ (by simp; try omega)]
    try unfold kernelRun0_A.sl.HS3_2
    rw [Cert.Rows.canon2_hit (Val := Elt Ideal) _ _ _ _ _ (by simp; try omega) (by simp; try omega)]
    sl_unfold_run_values
    simp only [View.readAt_eq_ld, Memref.IsWhole.read_unread, Cert.Rows.ld_whole2, Cert.Rows.ld_whole3]
    refine (blk_heads_0 (hF := hF) (S := (fun _ _ _ => 0)) (h0 := (by intro e d; refine (readCov3_head _ _ 0 _ e d).trans ?_; unfold kernelRun0_A.sl.HS2_1; rw [Cert.Rows.canon_whole3]; pointwise [k0_pay6])) (h1 := (by intro e d; refine (readCov3_head _ _ 1 _ e d).trans ?_; unfold kernelRun0_A.sl.HS2_2; refine (canon3_miss 0 1 (by decide) _ _ _ e d).trans ?_; unfold kernelRun0_A.sl.HS2_1; rw [Cert.Rows.canon_whole3]; pointwise [k0_pay6])) (h2 := (by intro e d; refine (readCov3_head _ _ 2 _ e d).trans ?_; unfold kernelRun0_A.sl.HS2_3; refine (canon3_miss 1 2 (by decide) _ _ _ e d).trans ?_; unfold kernelRun0_A.sl.HS2_2; refine (canon3_miss 0 2 (by decide) _ _ _ e d).trans ?_; unfold kernelRun0_A.sl.HS2_1; rw [Cert.Rows.canon_whole3]; pointwise [k0_pay6])) (h3 := (by intro e d; refine (readCov3_head _ _ 3 _ e d).trans ?_; unfold kernelRun0_A.sl.HS2_4; refine (canon3_miss 2 3 (by decide) _ _ _ e d).trans ?_; unfold kernelRun0_A.sl.HS2_3; refine (canon3_miss 1 3 (by decide) _ _ _ e d).trans ?_; unfold kernelRun0_A.sl.HS2_2; refine (canon3_miss 0 3 (by decide) _ _ _ e d).trans ?_; unfold kernelRun0_A.sl.HS2_1; rw [Cert.Rows.canon_whole3]; pointwise [k0_pay6])) ..).trans (obS_eq W (us W x0) (fun _ _ _ => 0) _ _ _ _ _ _ _ _ ?_ rfl ?_ rfl) <;> (apply Fin.ext; simp; try omega)
  · rw [Cert.Rows.canon2_miss_row (Val := Elt Ideal) _ _ _ _ _ (by simp; try omega)]
    try unfold kernelRun0_A.sl.HS3_4
    rw [Cert.Rows.canon2_miss_row (Val := Elt Ideal) _ _ _ _ _ (by simp; try omega)]
    try unfold kernelRun0_A.sl.HS3_3
    rw [Cert.Rows.canon2_hit (Val := Elt Ideal) _ _ _ _ _ (by simp; try omega) (by simp; try omega)]
    sl_unfold_run_values
    simp only [View.readAt_eq_ld, Memref.IsWhole.read_unread, Cert.Rows.ld_whole2, Cert.Rows.ld_whole3]
    refine (blk_heads_1 (hF := hF) (S := (fun _ _ _ => 0)) (h0 := (by intro e d; refine (readCov3_head _ _ 0 _ e d).trans ?_; unfold kernelRun0_A.sl.HS2_1; rw [Cert.Rows.canon_whole3]; pointwise [k0_pay6])) (h1 := (by intro e d; refine (readCov3_head _ _ 1 _ e d).trans ?_; unfold kernelRun0_A.sl.HS2_2; refine (canon3_miss 0 1 (by decide) _ _ _ e d).trans ?_; unfold kernelRun0_A.sl.HS2_1; rw [Cert.Rows.canon_whole3]; pointwise [k0_pay6])) (h2 := (by intro e d; refine (readCov3_head _ _ 2 _ e d).trans ?_; unfold kernelRun0_A.sl.HS2_3; refine (canon3_miss 1 2 (by decide) _ _ _ e d).trans ?_; unfold kernelRun0_A.sl.HS2_2; refine (canon3_miss 0 2 (by decide) _ _ _ e d).trans ?_; unfold kernelRun0_A.sl.HS2_1; rw [Cert.Rows.canon_whole3]; pointwise [k0_pay6])) (h3 := (by intro e d; refine (readCov3_head _ _ 3 _ e d).trans ?_; unfold kernelRun0_A.sl.HS2_4; refine (canon3_miss 2 3 (by decide) _ _ _ e d).trans ?_; unfold kernelRun0_A.sl.HS2_3; refine (canon3_miss 1 3 (by decide) _ _ _ e d).trans ?_; unfold kernelRun0_A.sl.HS2_2; refine (canon3_miss 0 3 (by decide) _ _ _ e d).trans ?_; unfold kernelRun0_A.sl.HS2_1; rw [Cert.Rows.canon_whole3]; pointwise [k0_pay6])) ..).trans (obS_eq W (us W x0) (fun _ _ _ => 0) _ _ _ _ _ _ _ _ ?_ rfl ?_ rfl) <;> (apply Fin.ext; simp; try omega)
  · rw [Cert.Rows.canon2_miss_row (Val := Elt Ideal) _ _ _ _ _ (by simp; try omega)]
    try unfold kernelRun0_A.sl.HS3_4
    rw [Cert.Rows.canon2_hit (Val := Elt Ideal) _ _ _ _ _ (by simp; try omega) (by simp; try omega)]
    sl_unfold_run_values
    simp only [View.readAt_eq_ld, Memref.IsWhole.read_unread, Cert.Rows.ld_whole2, Cert.Rows.ld_whole3]
    refine (blk_heads_2 (hF := hF) (S := (fun _ _ _ => 0)) (h0 := (by intro e d; refine (readCov3_head _ _ 0 _ e d).trans ?_; unfold kernelRun0_A.sl.HS2_1; rw [Cert.Rows.canon_whole3]; pointwise [k0_pay6])) (h1 := (by intro e d; refine (readCov3_head _ _ 1 _ e d).trans ?_; unfold kernelRun0_A.sl.HS2_2; refine (canon3_miss 0 1 (by decide) _ _ _ e d).trans ?_; unfold kernelRun0_A.sl.HS2_1; rw [Cert.Rows.canon_whole3]; pointwise [k0_pay6])) (h2 := (by intro e d; refine (readCov3_head _ _ 2 _ e d).trans ?_; unfold kernelRun0_A.sl.HS2_3; refine (canon3_miss 1 2 (by decide) _ _ _ e d).trans ?_; unfold kernelRun0_A.sl.HS2_2; refine (canon3_miss 0 2 (by decide) _ _ _ e d).trans ?_; unfold kernelRun0_A.sl.HS2_1; rw [Cert.Rows.canon_whole3]; pointwise [k0_pay6])) (h3 := (by intro e d; refine (readCov3_head _ _ 3 _ e d).trans ?_; unfold kernelRun0_A.sl.HS2_4; refine (canon3_miss 2 3 (by decide) _ _ _ e d).trans ?_; unfold kernelRun0_A.sl.HS2_3; refine (canon3_miss 1 3 (by decide) _ _ _ e d).trans ?_; unfold kernelRun0_A.sl.HS2_2; refine (canon3_miss 0 3 (by decide) _ _ _ e d).trans ?_; unfold kernelRun0_A.sl.HS2_1; rw [Cert.Rows.canon_whole3]; pointwise [k0_pay6])) ..).trans (obS_eq W (us W x0) (fun _ _ _ => 0) _ _ _ _ _ _ _ _ ?_ rfl ?_ rfl) <;> (apply Fin.ext; simp; try omega)
  · rw [Cert.Rows.canon2_hit (Val := Elt Ideal) _ _ _ _ _ (by simp; try omega) (by simp; try omega)]
    sl_unfold_run_values
    simp only [View.readAt_eq_ld, Memref.IsWhole.read_unread, Cert.Rows.ld_whole2, Cert.Rows.ld_whole3]
    refine (blk_heads_3 (hF := hF) (S := (fun _ _ _ => 0)) (h0 := (by intro e d; refine (readCov3_head _ _ 0 _ e d).trans ?_; unfold kernelRun0_A.sl.HS2_1; rw [Cert.Rows.canon_whole3]; pointwise [k0_pay6])) (h1 := (by intro e d; refine (readCov3_head _ _ 1 _ e d).trans ?_; unfold kernelRun0_A.sl.HS2_2; refine (canon3_miss 0 1 (by decide) _ _ _ e d).trans ?_; unfold kernelRun0_A.sl.HS2_1; rw [Cert.Rows.canon_whole3]; pointwise [k0_pay6])) (h2 := (by intro e d; refine (readCov3_head _ _ 2 _ e d).trans ?_; unfold kernelRun0_A.sl.HS2_3; refine (canon3_miss 1 2 (by decide) _ _ _ e d).trans ?_; unfold kernelRun0_A.sl.HS2_2; refine (canon3_miss 0 2 (by decide) _ _ _ e d).trans ?_; unfold kernelRun0_A.sl.HS2_1; rw [Cert.Rows.canon_whole3]; pointwise [k0_pay6])) (h3 := (by intro e d; refine (readCov3_head _ _ 3 _ e d).trans ?_; unfold kernelRun0_A.sl.HS2_4; refine (canon3_miss 2 3 (by decide) _ _ _ e d).trans ?_; unfold kernelRun0_A.sl.HS2_3; refine (canon3_miss 1 3 (by decide) _ _ _ e d).trans ?_; unfold kernelRun0_A.sl.HS2_2; refine (canon3_miss 0 3 (by decide) _ _ _ e d).trans ?_; unfold kernelRun0_A.sl.HS2_1; rw [Cert.Rows.canon_whole3]; pointwise [k0_pay6])) ..).trans (obS_eq W (us W x0) (fun _ _ _ => 0) _ _ _ _ _ _ _ _ ?_ rfl ?_ rfl) <;> (apply Fin.ext; simp; try omega)
/-- The window's carried rows. -/
theorem halo_A (p : Fin 288) (j : Fin 1024) (h : p.val < 32) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 (ix2 p j) = glu W (us W x0 ⟨224 + p.val, by omega⟩) j := by
  unfold sout0_A_0
  refine (View.read_writes_apply_eq_canon _ _ _ _ (scover0_A_0 ..)).trans ?_
  unfold kernelRun0_A
  dsimp only
  obtain g | g | g | g | g | g | g | g : j.val < 128 ∨ (128 ≤ j.val ∧ j.val < 256) ∨ (256 ≤ j.val ∧ j.val < 384) ∨ (384 ≤ j.val ∧ j.val < 512) ∨ (512 ≤ j.val ∧ j.val < 640) ∨ (640 ≤ j.val ∧ j.val < 768) ∨ (768 ≤ j.val ∧ j.val < 896) ∨ 896 ≤ j.val := by omega
  · rw [Cert.Rows.canon2_miss_col (Val := Elt Ideal) _ _ _ _ _ (by simp; try omega)]
    unfold kernelRun0_A.sl.HS0_12
    rw [Cert.Rows.canon2_miss_col (Val := Elt Ideal) _ _ _ _ _ (by simp; try omega)]
    unfold kernelRun0_A.sl.HS0_11
    rw [Cert.Rows.canon2_miss_col (Val := Elt Ideal) _ _ _ _ _ (by simp; try omega)]
    unfold kernelRun0_A.sl.HS0_10
    rw [Cert.Rows.canon2_miss_col (Val := Elt Ideal) _ _ _ _ _ (by simp; try omega)]
    unfold kernelRun0_A.sl.HS0_9
    rw [Cert.Rows.canon2_miss_col (Val := Elt Ideal) _ _ _ _ _ (by simp; try omega)]
    unfold kernelRun0_A.sl.HS0_8
    rw [Cert.Rows.canon2_miss_col (Val := Elt Ideal) _ _ _ _ _ (by simp; try omega)]
    unfold kernelRun0_A.sl.HS0_7
    rw [Cert.Rows.canon2_miss_col (Val := Elt Ideal) _ _ _ _ _ (by simp; try omega)]
    unfold kernelRun0_A.sl.HS0_6
    rw [Cert.Rows.canon2_hit (Val := Elt Ideal) _ _ _ _ _ (by simp; try omega) (by simp; try omega)]
    sl_unfold_run_values
    pointwise [k0_pay52, k0_pay78, k0_pay106, k0_pay131, k0_pay156, k0_pay183, k0_pay299, k0_pay323]
    refine (Cert.Rows.readCov2 _ _ _ _ _).trans ((win_can_A_0 (hF := hF) (h := by left; simp; try omega) ..).trans ?_)
    rw [cx_hi W _ _ _ _ (by simp; try omega) (by simp; try omega)]
    exact congrArg₂ (fun a b => glu W (us W x0 a) b) (Fin.ext (by simp; try omega)) (Fin.ext (by simp; try omega))
  · rw [Cert.Rows.canon2_miss_col (Val := Elt Ideal) _ _ _ _ _ (by simp; try omega)]
    unfold kernelRun0_A.sl.HS0_12
    rw [Cert.Rows.canon2_miss_col (Val := Elt Ideal) _ _ _ _ _ (by simp; try omega)]
    unfold kernelRun0_A.sl.HS0_11
    rw [Cert.Rows.canon2_miss_col (Val := Elt Ideal) _ _ _ _ _ (by simp; try omega)]
    unfold kernelRun0_A.sl.HS0_10
    rw [Cert.Rows.canon2_miss_col (Val := Elt Ideal) _ _ _ _ _ (by simp; try omega)]
    unfold kernelRun0_A.sl.HS0_9
    rw [Cert.Rows.canon2_miss_col (Val := Elt Ideal) _ _ _ _ _ (by simp; try omega)]
    unfold kernelRun0_A.sl.HS0_8
    rw [Cert.Rows.canon2_miss_col (Val := Elt Ideal) _ _ _ _ _ (by simp; try omega)]
    unfold kernelRun0_A.sl.HS0_7
    rw [Cert.Rows.canon2_hit (Val := Elt Ideal) _ _ _ _ _ (by simp; try omega) (by simp; try omega)]
    sl_unfold_run_values
    pointwise [k0_pay52, k0_pay78, k0_pay106, k0_pay131, k0_pay156, k0_pay183, k0_pay299, k0_pay323]
    refine (Cert.Rows.readCov2 _ _ _ _ _).trans ((win_can_A_1 (hF := hF) (h := by left; simp; try omega) ..).trans ?_)
    rw [cx_hi W _ _ _ _ (by simp; try omega) (by simp; try omega)]
    exact congrArg₂ (fun a b => glu W (us W x0 a) b) (Fin.ext (by simp; try omega)) (Fin.ext (by simp; try omega))
  · rw [Cert.Rows.canon2_miss_col (Val := Elt Ideal) _ _ _ _ _ (by simp; try omega)]
    unfold kernelRun0_A.sl.HS0_12
    rw [Cert.Rows.canon2_miss_col (Val := Elt Ideal) _ _ _ _ _ (by simp; try omega)]
    unfold kernelRun0_A.sl.HS0_11
    rw [Cert.Rows.canon2_miss_col (Val := Elt Ideal) _ _ _ _ _ (by simp; try omega)]
    unfold kernelRun0_A.sl.HS0_10
    rw [Cert.Rows.canon2_miss_col (Val := Elt Ideal) _ _ _ _ _ (by simp; try omega)]
    unfold kernelRun0_A.sl.HS0_9
    rw [Cert.Rows.canon2_miss_col (Val := Elt Ideal) _ _ _ _ _ (by simp; try omega)]
    unfold kernelRun0_A.sl.HS0_8
    rw [Cert.Rows.canon2_hit (Val := Elt Ideal) _ _ _ _ _ (by simp; try omega) (by simp; try omega)]
    sl_unfold_run_values
    pointwise [k0_pay52, k0_pay78, k0_pay106, k0_pay131, k0_pay156, k0_pay183, k0_pay299, k0_pay323]
    refine (Cert.Rows.readCov2 _ _ _ _ _).trans ((win_can_A_2 (hF := hF) (h := by left; simp; try omega) ..).trans ?_)
    rw [cx_hi W _ _ _ _ (by simp; try omega) (by simp; try omega)]
    exact congrArg₂ (fun a b => glu W (us W x0 a) b) (Fin.ext (by simp; try omega)) (Fin.ext (by simp; try omega))
  · rw [Cert.Rows.canon2_miss_col (Val := Elt Ideal) _ _ _ _ _ (by simp; try omega)]
    unfold kernelRun0_A.sl.HS0_12
    rw [Cert.Rows.canon2_miss_col (Val := Elt Ideal) _ _ _ _ _ (by simp; try omega)]
    unfold kernelRun0_A.sl.HS0_11
    rw [Cert.Rows.canon2_miss_col (Val := Elt Ideal) _ _ _ _ _ (by simp; try omega)]
    unfold kernelRun0_A.sl.HS0_10
    rw [Cert.Rows.canon2_miss_col (Val := Elt Ideal) _ _ _ _ _ (by simp; try omega)]
    unfold kernelRun0_A.sl.HS0_9
    rw [Cert.Rows.canon2_hit (Val := Elt Ideal) _ _ _ _ _ (by simp; try omega) (by simp; try omega)]
    sl_unfold_run_values
    pointwise [k0_pay52, k0_pay78, k0_pay106, k0_pay131, k0_pay156, k0_pay183, k0_pay299, k0_pay323]
    refine (Cert.Rows.readCov2 _ _ _ _ _).trans ((win_can_A_3 (hF := hF) (h := by left; simp; try omega) ..).trans ?_)
    rw [cx_hi W _ _ _ _ (by simp; try omega) (by simp; try omega)]
    exact congrArg₂ (fun a b => glu W (us W x0 a) b) (Fin.ext (by simp; try omega)) (Fin.ext (by simp; try omega))
  · rw [Cert.Rows.canon2_miss_col (Val := Elt Ideal) _ _ _ _ _ (by simp; try omega)]
    unfold kernelRun0_A.sl.HS0_12
    rw [Cert.Rows.canon2_miss_col (Val := Elt Ideal) _ _ _ _ _ (by simp; try omega)]
    unfold kernelRun0_A.sl.HS0_11
    rw [Cert.Rows.canon2_miss_col (Val := Elt Ideal) _ _ _ _ _ (by simp; try omega)]
    unfold kernelRun0_A.sl.HS0_10
    rw [Cert.Rows.canon2_hit (Val := Elt Ideal) _ _ _ _ _ (by simp; try omega) (by simp; try omega)]
    sl_unfold_run_values
    pointwise [k0_pay52, k0_pay78, k0_pay106, k0_pay131, k0_pay156, k0_pay183, k0_pay299, k0_pay323]
    refine (Cert.Rows.readCov2 _ _ _ _ _).trans ((win_can_A_4 (hF := hF) (h := by left; simp; try omega) ..).trans ?_)
    rw [cx_hi W _ _ _ _ (by simp; try omega) (by simp; try omega)]
    exact congrArg₂ (fun a b => glu W (us W x0 a) b) (Fin.ext (by simp; try omega)) (Fin.ext (by simp; try omega))
  · rw [Cert.Rows.canon2_miss_col (Val := Elt Ideal) _ _ _ _ _ (by simp; try omega)]
    unfold kernelRun0_A.sl.HS0_12
    rw [Cert.Rows.canon2_miss_col (Val := Elt Ideal) _ _ _ _ _ (by simp; try omega)]
    unfold kernelRun0_A.sl.HS0_11
    rw [Cert.Rows.canon2_hit (Val := Elt Ideal) _ _ _ _ _ (by simp; try omega) (by simp; try omega)]
    sl_unfold_run_values
    pointwise [k0_pay52, k0_pay78, k0_pay106, k0_pay131, k0_pay156, k0_pay183, k0_pay299, k0_pay323]
    refine (Cert.Rows.readCov2 _ _ _ _ _).trans ((win_can_A_5 (hF := hF) (h := by left; simp; try omega) ..).trans ?_)
    rw [cx_hi W _ _ _ _ (by simp; try omega) (by simp; try omega)]
    exact congrArg₂ (fun a b => glu W (us W x0 a) b) (Fin.ext (by simp; try omega)) (Fin.ext (by simp; try omega))
  · rw [Cert.Rows.canon2_miss_col (Val := Elt Ideal) _ _ _ _ _ (by simp; try omega)]
    unfold kernelRun0_A.sl.HS0_12
    rw [Cert.Rows.canon2_hit (Val := Elt Ideal) _ _ _ _ _ (by simp; try omega) (by simp; try omega)]
    sl_unfold_run_values
    pointwise [k0_pay52, k0_pay78, k0_pay106, k0_pay131, k0_pay156, k0_pay183, k0_pay299, k0_pay323]
    refine (Cert.Rows.readCov2 _ _ _ _ _).trans ((win_can_A_6 (hF := hF) (h := by left; simp; try omega) ..).trans ?_)
    rw [cx_hi W _ _ _ _ (by simp; try omega) (by simp; try omega)]
    exact congrArg₂ (fun a b => glu W (us W x0 a) b) (Fin.ext (by simp; try omega)) (Fin.ext (by simp; try omega))
  · rw [Cert.Rows.canon2_hit (Val := Elt Ideal) _ _ _ _ _ (by simp; try omega) (by simp; try omega)]
    sl_unfold_run_values
    pointwise [k0_pay52, k0_pay78, k0_pay106, k0_pay131, k0_pay156, k0_pay183, k0_pay299, k0_pay323]
    refine (Cert.Rows.readCov2 _ _ _ _ _).trans ((win_can_A_7 (hF := hF) (h := by left; simp; try omega) ..).trans ?_)
    rw [cx_hi W _ _ _ _ (by simp; try omega) (by simp; try omega)]
    exact congrArg₂ (fun a b => glu W (us W x0 a) b) (Fin.ext (by simp; try omega)) (Fin.ext (by simp; try omega))

end Cert.KernelIdeal.Mix
end
-- ==== Proof.MixB0.lean ====
module

public import proofs.«01_k».proof.Proof.Gen.KernelIdeal.Value
public import proofs.«01_k».proof.Proof.Rows
public import Idealize.ShloMosaic.Lib.Pointwise
public import Idealize.ShloMosaic.Lib.Tactic.RunNames
public import proofs.«01_k».proof.Proof.MixStep
public import proofs.«01_k».proof.Proof.MixBlk

@[expose] public section

set_option maxRecDepth 16384

noncomputable section

/-! The convolution's window of a step, after its own rows are stored and after each group of columns is carried over (case B). -/

namespace Cert.KernelIdeal.Mix

open Cert.KernelIdeal Cert.KernelIdeal.Gen Cert.MixSpec Idealize.ShloMosaic Idealize.ShloMosaic.TcCoe Idealize.ShloMosaic.Tactic

variable (W : Wt) (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x7296 .bf16) (harg4 : arg4.IsWhole) (arg5 : Memref sig .tc .vmem S31x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x256 .f32) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S256x256 .bf16) (harg15 : arg15.IsWhole) (arg16 : Memref sig .tc .vmem S256x1024 .f32) (harg16 : arg16.IsWhole) (arg17 : Memref sig .tc .vmem S288x1024 .f32) (harg17 : arg17.IsWhole) (arg18 : Memref sig .tc .vmem S256x1024 .f32) (harg18 : arg18.IsWhole) (arg19 : Memref sig .tc .vmem S4x256x128 .f32) (harg19 : arg19.IsWhole) (arg20 : Memref sig .tc .vmem S256x1024 .bf16) (harg20 : arg20.IsWhole) (arg21 : Memref sig .tc .vmem S256x1024 .bf16) (harg21 : arg21.IsWhole) (hc0 : ¬cond0_0 i) (hc1 : ¬cond0_1 i) (x0 : Vec Ideal S256x1024 .f32) (x1 : Vec Ideal S256x1024 .f32) (x2 : Vec Ideal S1x1024 .f32) (x3 : Vec Ideal S1024x7296 .bf16) (x4 : Vec Ideal S31x1024 .f32) (x5 : Vec Ideal S1x1024 .f32) (x6 : Vec Ideal S1x1024 .f32) (x7 : Vec Ideal S1x1024 .f32) (x8 : Vec Ideal S1024x1024 .bf16) (x9 : Vec Ideal S128x512 .bf16) (x10 : Vec Ideal S1x512 .f32) (x11 : Vec Ideal S1x256 .f32) (x12 : Vec Ideal S1024x1024 .bf16) (x13 : Vec Ideal S1024x1024 .bf16) (x14 : Vec Ideal S256x256 .bf16) (xs0 : Vec Ideal S288x1024 .f32) (xs1 : Vec Ideal S256x1024 .f32) (xs2 : Vec Ideal S4x256x128 .f32) (xs3 : Vec Ideal S256x1024 .bf16) (xs4 : Vec Ideal S256x1024 .bf16)
  (hF : Fit W x2 x3 x4 x5 x6 x7 x8 x9 x10 x11 x12 x13 x14)

include hF

/-- The step's own rows of the window. -/
theorem own_can_B (p : Fin 288) (j : Fin 1024) (h : 32 ≤ p.val) :
    View.canon (kernelRun0_B.sl.HS0_4 c arg1 harg1 arg3 harg3 arg4 harg4 x0 x2 x3) (ix2 p j) = glu W (us W x0 ⟨p.val - 32, by omega⟩) j := by
  obtain g | g | g | g : j.val < 256 ∨ (256 ≤ j.val ∧ j.val < 512) ∨ (512 ≤ j.val ∧ j.val < 768) ∨ 768 ≤ j.val := by omega
  · unfold kernelRun0_B.sl.HS0_4
    iterate 3 rw [Cert.Rows.canon2_miss_col (Val := Elt Ideal) _ _ _ _ _ (by simp; try omega)]
    rw [Cert.Rows.canon2_hit (Val := Elt Ideal) _ _ _ _ _ (by simp; try omega) (by simp; try omega)]
    sl_unfold_run_values
    simp only [View.readAt_eq_ld, harg1.read_unread, harg3.read_unread, harg4.read_unread, Cert.Rows.ld_whole2]
    refine (glu_pay_0 W _ _ _ (fun k j => ?_) (fun k j => ?_) _ _).trans ?_
    · exact wi_ld W _ hF.wi _ _ _ k j
    · exact wi_ld W _ hF.wi _ _ _ k j
    · rw [u_rows W x0 x2 hF.n1g]
      congr 1
      exact Fin.ext (by simp; try omega)
  · unfold kernelRun0_B.sl.HS0_4
    iterate 2 rw [Cert.Rows.canon2_miss_col (Val := Elt Ideal) _ _ _ _ _ (by simp; try omega)]
    rw [Cert.Rows.canon2_hit (Val := Elt Ideal) _ _ _ _ _ (by simp; try omega) (by simp; try omega)]
    sl_unfold_run_values
    simp only [View.readAt_eq_ld, harg1.read_unread, harg3.read_unread, harg4.read_unread, Cert.Rows.ld_whole2]
    refine (glu_pay_1 W _ _ _ (fun k j => ?_) (fun k j => ?_) _ _).trans ?_
    · exact wi_ld W _ hF.wi _ _ _ k j
    · exact wi_ld W _ hF.wi _ _ _ k j
    · rw [u_rows W x0 x2 hF.n1g]
      congr 1
      exact Fin.ext (by simp; try omega)
  · unfold kernelRun0_B.sl.HS0_4
    iterate 1 rw [Cert.Rows.canon2_miss_col (Val := Elt Ideal) _ _ _ _ _ (by simp; try omega)]
    rw [Cert.Rows.canon2_hit (Val := Elt Ideal) _ _ _ _ _ (by simp; try omega) (by simp; try omega)]
    sl_unfold_run_values
    simp only [View.readAt_eq_ld, harg1.read_unread, harg3.read_unread, harg4.read_unread, Cert.Rows.ld_whole2]
    refine (glu_pay_2 W _ _ _ (fun k j => ?_) (fun k j => ?_) _ _).trans ?_
    · exact wi_ld W _ hF.wi _ _ _ k j
    · exact wi_ld W _ hF.wi _ _ _ k j
    · rw [u_rows W x0 x2 hF.n1g]
      congr 1
      exact Fin.ext (by simp; try omega)
  · unfold kernelRun0_B.sl.HS0_4
    rw [Cert.Rows.canon2_hit (Val := Elt Ideal) _ _ _ _ _ (by simp; try omega) (by simp; try omega)]
    sl_unfold_run_values
    simp only [View.readAt_eq_ld, harg1.read_unread, harg3.read_unread, harg4.read_unread, Cert.Rows.ld_whole2]
    refine (glu_pay_3 W _ _ _ (fun k j => ?_) (fun k j => ?_) _ _).trans ?_
    · exact wi_ld W _ hF.wi _ _ _ k j
    · exact wi_ld W _ hF.wi _ _ _ k j
    · rw [u_rows W x0 x2 hF.n1g]
      congr 1
      exact Fin.ext (by simp; try omega)
/-- The window when 0 groups of columns are carried over. -/
theorem win_can_B_0 (p : Fin 288) (j : Fin 1024) (h : 32 ≤ p.val) :
    View.canon (kernelRun0_B.sl.HS0_4 c arg1 harg1 arg3 harg3 arg4 harg4 x0 x2 x3) (ix2 p j) = cx W (fun i c => xs0 (ix2 ⟨i.val, by omega⟩ c)) (us W x0) p.val j := by
  rw [cx_hi W _ _ _ _ h (by omega)]
  exact own_can_B (hF := hF) (h := h) ..
/-- The window when 1 groups of columns are carried over. -/
theorem win_can_B_1 (p : Fin 288) (j : Fin 1024) (h : 32 ≤ p.val) :
    View.canon (kernelRun0_B.sl.HS0_5 c arg1 harg1 arg3 harg3 arg4 harg4 arg17 x0 x2 x3) (ix2 p j) = cx W (fun i c => xs0 (ix2 ⟨i.val, by omega⟩ c)) (us W x0) p.val j := by
  unfold kernelRun0_B.sl.HS0_5
  rw [Cert.Rows.canon2_miss_row (Val := Elt Ideal) _ _ _ _ _ (by simp; try omega)]
  exact win_can_B_0 (hF := hF) (h := h) ..
/-- The window when 2 groups of columns are carried over. -/
theorem win_can_B_2 (p : Fin 288) (j : Fin 1024) (h : 32 ≤ p.val) :
    View.canon (kernelRun0_B.sl.HS0_6 c arg1 harg1 arg3 harg3 arg4 harg4 arg17 x0 x2 x3) (ix2 p j) = cx W (fun i c => xs0 (ix2 ⟨i.val, by omega⟩ c)) (us W x0) p.val j := by
  unfold kernelRun0_B.sl.HS0_6
  rw [Cert.Rows.canon2_miss_row (Val := Elt Ideal) _ _ _ _ _ (by simp; try omega)]
  exact win_can_B_1 (hF := hF) (h := h) ..
/-- The window when 3 groups of columns are carried over. -/
theorem win_can_B_3 (p : Fin 288) (j : Fin 1024) (h : 32 ≤ p.val) :
    View.canon (kernelRun0_B.sl.HS0_7 c arg1 harg1 arg3 harg3 arg4 harg4 arg17 x0 x2 x3) (ix2 p j) = cx W (fun i c => xs0 (ix2 ⟨i.val, by omega⟩ c)) (us W x0) p.val j := by
  unfold kernelRun0_B.sl.HS0_7
  rw [Cert.Rows.canon2_miss_row (Val := Elt Ideal) _ _ _ _ _ (by simp; try omega)]
  exact win_can_B_2 (hF := hF) (h := h) ..
/-- The window when 4 groups of columns are carried over. -/
theorem win_can_B_4 (p : Fin 288) (j : Fin 1024) (h : 32 ≤ p.val) :
    View.canon (kernelRun0_B.sl.HS0_8 c arg1 harg1 arg3 harg3 arg4 harg4 arg17 x0 x2 x3) (ix2 p j) = cx W (fun i c => xs0 (ix2 ⟨i.val, by omega⟩ c)) (us W x0) p.val j := by
  unfold kernelRun0_B.sl.HS0_8
  rw [Cert.Rows.canon2_miss_row (Val := Elt Ideal) _ _ _ _ _ (by simp; try omega)]
  exact win_can_B_3 (hF := hF) (h := h) ..
/-- The window when 5 groups of columns are carried over. -/
theorem win_can_B_5 (p : Fin 288) (j : Fin 1024) (h : 32 ≤ p.val) :
    View.canon (kernelRun0_B.sl.HS0_9 c arg1 harg1 arg3 harg3 arg4 harg4 arg17 x0 x2 x3) (ix2 p j) = cx W (fun i c => xs0 (ix2 ⟨i.val, by omega⟩ c)) (us W x0) p.val j := by
  unfold kernelRun0_B.sl.HS0_9
  rw [Cert.Rows.canon2_miss_row (Val := Elt Ideal) _ _ _ _ _ (by simp; try omega)]
  exact win_can_B_4 (hF := hF) (h := h) ..
/-- The window when 6 groups of columns are carried over. -/
theorem win_can_B_6 (p : Fin 288) (j : Fin 1024) (h : 32 ≤ p.val) :
    View.canon (kernelRun0_B.sl.HS0_10 c arg1 harg1 arg3 harg3 arg4 harg4 arg17 x0 x2 x3) (ix2 p j) = cx W (fun i c => xs0 (ix2 ⟨i.val, by omega⟩ c)) (us W x0) p.val j := by
  unfold kernelRun0_B.sl.HS0_10
  rw [Cert.Rows.canon2_miss_row (Val := Elt Ideal) _ _ _ _ _ (by simp; try omega)]
  exact win_can_B_5 (hF := hF) (h := h) ..
/-- The window when 7 groups of columns are carried over. -/
theorem win_can_B_7 (p : Fin 288) (j : Fin 1024) (h : 32 ≤ p.val) :
    View.canon (kernelRun0_B.sl.HS0_11 c arg1 harg1 arg3 harg3 arg4 harg4 arg17 x0 x2 x3) (ix2 p j) = cx W (fun i c => xs0 (ix2 ⟨i.val, by omega⟩ c)) (us W x0) p.val j := by
  unfold kernelRun0_B.sl.HS0_11
  rw [Cert.Rows.canon2_miss_row (Val := Elt Ideal) _ _ _ _ _ (by simp; try omega)]
  exact win_can_B_6 (hF := hF) (h := h) ..
/-- The step's own rows of the window. -/
theorem own_rd_B (p : Fin 288) (j : Fin 1024) (h : 32 ≤ p.val) :
    arg17.view.read (Elt Ideal) (arg17.view.writes (Elt Ideal) (harg17.unread xs0) (kernelRun0_B.sl.HS0_4 c arg1 harg1 arg3 harg3 arg4 harg4 x0 x2 x3)) (ix2 p j) = glu W (us W x0 ⟨p.val - 32, by omega⟩) j := by
  obtain g | g | g | g : j.val < 256 ∨ (256 ≤ j.val ∧ j.val < 512) ∨ (512 ≤ j.val ∧ j.val < 768) ∨ 768 ≤ j.val := by omega
  · unfold kernelRun0_B.sl.HS0_4
    iterate 3 rw [Cert.Rows.read2_miss_col (Val := Elt Ideal) _ _ _ _ _ _ _ (by simp; try omega)]
    rw [Cert.Rows.read2_hit (Val := Elt Ideal) _ _ _ _ _ _ _ (by simp; try omega) (by simp; try omega)]
    sl_unfold_run_values
    simp only [View.readAt_eq_ld, harg1.read_unread, harg3.read_unread, harg4.read_unread, Cert.Rows.ld_whole2]
    refine (glu_pay_0 W _ _ _ (fun k j => ?_) (fun k j => ?_) _ _).trans ?_
    · exact wi_ld W _ hF.wi _ _ _ k j
    · exact wi_ld W _ hF.wi _ _ _ k j
    · rw [u_rows W x0 x2 hF.n1g]
      congr 1
      exact Fin.ext (by simp; try omega)
  · unfold kernelRun0_B.sl.HS0_4
    iterate 2 rw [Cert.Rows.read2_miss_col (Val := Elt Ideal) _ _ _ _ _ _ _ (by simp; try omega)]
    rw [Cert.Rows.read2_hit (Val := Elt Ideal) _ _ _ _ _ _ _ (by simp; try omega) (by simp; try omega)]
    sl_unfold_run_values
    simp only [View.readAt_eq_ld, harg1.read_unread, harg3.read_unread, harg4.read_unread, Cert.Rows.ld_whole2]
    refine (glu_pay_1 W _ _ _ (fun k j => ?_) (fun k j => ?_) _ _).trans ?_
    · exact wi_ld W _ hF.wi _ _ _ k j
    · exact wi_ld W _ hF.wi _ _ _ k j
    · rw [u_rows W x0 x2 hF.n1g]
      congr 1
      exact Fin.ext (by simp; try omega)
  · unfold kernelRun0_B.sl.HS0_4
    iterate 1 rw [Cert.Rows.read2_miss_col (Val := Elt Ideal) _ _ _ _ _ _ _ (by simp; try omega)]
    rw [Cert.Rows.read2_hit (Val := Elt Ideal) _ _ _ _ _ _ _ (by simp; try omega) (by simp; try omega)]
    sl_unfold_run_values
    simp only [View.readAt_eq_ld, harg1.read_unread, harg3.read_unread, harg4.read_unread, Cert.Rows.ld_whole2]
    refine (glu_pay_2 W _ _ _ (fun k j => ?_) (fun k j => ?_) _ _).trans ?_
    · exact wi_ld W _ hF.wi _ _ _ k j
    · exact wi_ld W _ hF.wi _ _ _ k j
    · rw [u_rows W x0 x2 hF.n1g]
      congr 1
      exact Fin.ext (by simp; try omega)
  · unfold kernelRun0_B.sl.HS0_4
    rw [Cert.Rows.read2_hit (Val := Elt Ideal) _ _ _ _ _ _ _ (by simp; try omega) (by simp; try omega)]
    sl_unfold_run_values
    simp only [View.readAt_eq_ld, harg1.read_unread, harg3.read_unread, harg4.read_unread, Cert.Rows.ld_whole2]
    refine (glu_pay_3 W _ _ _ (fun k j => ?_) (fun k j => ?_) _ _).trans ?_
    · exact wi_ld W _ hF.wi _ _ _ k j
    · exact wi_ld W _ hF.wi _ _ _ k j
    · rw [u_rows W x0 x2 hF.n1g]
      congr 1
      exact Fin.ext (by simp; try omega)
/-- The window when 0 groups of columns are carried over. -/
theorem win_rd_B_0 (p : Fin 288) (j : Fin 1024) (h : 32 ≤ p.val ∨ 0 ≤ j.val) :
    arg17.view.read (Elt Ideal) (arg17.view.writes (Elt Ideal) (harg17.unread xs0) (kernelRun0_B.sl.HS0_4 c arg1 harg1 arg3 harg3 arg4 harg4 x0 x2 x3)) (ix2 p j) = cx W (fun i c => xs0 (ix2 ⟨i.val, by omega⟩ c)) (us W x0) p.val j := by
  by_cases q : 32 ≤ p.val
  · rw [cx_hi W _ _ _ _ q (by omega)]
    exact own_rd_B (hF := hF) (h := q) ..
  · rw [cx_lo W _ _ _ _ (by omega)]
    unfold kernelRun0_B.sl.HS0_4
    iterate 4 rw [Cert.Rows.read2_miss_row (Val := Elt Ideal) _ _ _ _ _ _ _ (by simp; try omega)]
    show arg17.view.read (Elt Ideal) (harg17.unread xs0) (ix2 p j) = _
    rw [harg17.read_unread]
/-- The window when 1 groups of columns are carried over. -/
theorem win_rd_B_1 (p : Fin 288) (j : Fin 1024) (h : 32 ≤ p.val ∨ 128 ≤ j.val) :
    arg17.view.read (Elt Ideal) (arg17.view.writes (Elt Ideal) (harg17.unread xs0) (kernelRun0_B.sl.HS0_5 c arg1 harg1 arg3 harg3 arg4 harg4 arg17 x0 x2 x3)) (ix2 p j) = cx W (fun i c => xs0 (ix2 ⟨i.val, by omega⟩ c)) (us W x0) p.val j := by
  unfold kernelRun0_B.sl.HS0_5
  by_cases q : 32 ≤ p.val
  · rw [Cert.Rows.read2_miss_row (Val := Elt Ideal) _ _ _ _ _ _ _ (by simp; try omega)]
    exact win_rd_B_0 (hF := hF) (h := Or.inl q) ..
  · rw [Cert.Rows.read2_miss_col (Val := Elt Ideal) _ _ _ _ _ _ _ (by simp; try omega)]
    exact win_rd_B_0 (hF := hF) (h := by omega) ..
/-- The window when 2 groups of columns are carried over. -/
theorem win_rd_B_2 (p : Fin 288) (j : Fin 1024) (h : 32 ≤ p.val ∨ 256 ≤ j.val) :
    arg17.view.read (Elt Ideal) (arg17.view.writes (Elt Ideal) (harg17.unread xs0) (kernelRun0_B.sl.HS0_6 c arg1 harg1 arg3 harg3 arg4 harg4 arg17 x0 x2 x3)) (ix2 p j) = cx W (fun i c => xs0 (ix2 ⟨i.val, by omega⟩ c)) (us W x0) p.val j := by
  unfold kernelRun0_B.sl.HS0_6
  by_cases q : 32 ≤ p.val
  · rw [Cert.Rows.read2_miss_row (Val := Elt Ideal) _ _ _ _ _ _ _ (by simp; try omega)]
    exact win_rd_B_1 (hF := hF) (h := Or.inl q) ..
  · rw [Cert.Rows.read2_miss_col (Val := Elt Ideal) _ _ _ _ _ _ _ (by simp; try omega)]
    exact win_rd_B_1 (hF := hF) (h := by omega) ..
/-- The window when 3 groups of columns are carried over. -/
theorem win_rd_B_3 (p : Fin 288) (j : Fin 1024) (h : 32 ≤ p.val ∨ 384 ≤ j.val) :
    arg17.view.read (Elt Ideal) (arg17.view.writes (Elt Ideal) (harg17.unread xs0) (kernelRun0_B.sl.HS0_7 c arg1 harg1 arg3 harg3 arg4 harg4 arg17 x0 x2 x3)) (ix2 p j) = cx W (fun i c => xs0 (ix2 ⟨i.val, by omega⟩ c)) (us W x0) p.val j := by
  unfold kernelRun0_B.sl.HS0_7
  by_cases q : 32 ≤ p.val
  · rw [Cert.Rows.read2_miss_row (Val := Elt Ideal) _ _ _ _ _ _ _ (by simp; try omega)]
    exact win_rd_B_2 (hF := hF) (h := Or.inl q) ..
  · rw [Cert.Rows.read2_miss_col (Val := Elt Ideal) _ _ _ _ _ _ _ (by simp; try omega)]
    exact win_rd_B_2 (hF := hF) (h := by omega) ..
/-- The window when 4 groups of columns are carried over. -/
theorem win_rd_B_4 (p : Fin 288) (j : Fin 1024) (h : 32 ≤ p.val ∨ 512 ≤ j.val) :
    arg17.view.read (Elt Ideal) (arg17.view.writes (Elt Ideal) (harg17.unread xs0) (kernelRun0_B.sl.HS0_8 c arg1 harg1 arg3 harg3 arg4 harg4 arg17 x0 x2 x3)) (ix2 p j) = cx W (fun i c => xs0 (ix2 ⟨i.val, by omega⟩ c)) (us W x0) p.val j := by
  unfold kernelRun0_B.sl.HS0_8
  by_cases q : 32 ≤ p.val
  · rw [Cert.Rows.read2_miss_row (Val := Elt Ideal) _ _ _ _ _ _ _ (by simp; try omega)]
    exact win_rd_B_3 (hF := hF) (h := Or.inl q) ..
  · rw [Cert.Rows.read2_miss_col (Val := Elt Ideal) _ _ _ _ _ _ _ (by simp; try omega)]
    exact win_rd_B_3 (hF := hF) (h := by omega) ..
/-- The window when 5 groups of columns are carried over. -/
theorem win_rd_B_5 (p : Fin 288) (j : Fin 1024) (h : 32 ≤ p.val ∨ 640 ≤ j.val) :
    arg17.view.read (Elt Ideal) (arg17.view.writes (Elt Ideal) (harg17.unread xs0) (kernelRun0_B.sl.HS0_9 c arg1 harg1 arg3 harg3 arg4 harg4 arg17 x0 x2 x3)) (ix2 p j) = cx W (fun i c => xs0 (ix2 ⟨i.val, by omega⟩ c)) (us W x0) p.val j := by
  unfold kernelRun0_B.sl.HS0_9
  by_cases q : 32 ≤ p.val
  · rw [Cert.Rows.read2_miss_row (Val := Elt Ideal) _ _ _ _ _ _ _ (by simp; try omega)]
    exact win_rd_B_4 (hF := hF) (h := Or.inl q) ..
  · rw [Cert.Rows.read2_miss_col (Val := Elt Ideal) _ _ _ _ _ _ _ (by simp; try omega)]
    exact win_rd_B_4 (hF := hF) (h := by omega) ..
/-- The window when 6 groups of columns are carried over. -/
theorem win_rd_B_6 (p : Fin 288) (j : Fin 1024) (h : 32 ≤ p.val ∨ 768 ≤ j.val) :
    arg17.view.read (Elt Ideal) (arg17.view.writes (Elt Ideal) (harg17.unread xs0) (kernelRun0_B.sl.HS0_10 c arg1 harg1 arg3 harg3 arg4 harg4 arg17 x0 x2 x3)) (ix2 p j) = cx W (fun i c => xs0 (ix2 ⟨i.val, by omega⟩ c)) (us W x0) p.val j := by
  unfold kernelRun0_B.sl.HS0_10
  by_cases q : 32 ≤ p.val
  · rw [Cert.Rows.read2_miss_row (Val := Elt Ideal) _ _ _ _ _ _ _ (by simp; try omega)]
    exact win_rd_B_5 (hF := hF) (h := Or.inl q) ..
  · rw [Cert.Rows.read2_miss_col (Val := Elt Ideal) _ _ _ _ _ _ _ (by simp; try omega)]
    exact win_rd_B_5 (hF := hF) (h := by omega) ..
/-- The window when 7 groups of columns are carried over. -/
theorem win_rd_B_7 (p : Fin 288) (j : Fin 1024) (h : 32 ≤ p.val ∨ 896 ≤ j.val) :
    arg17.view.read (Elt Ideal) (arg17.view.writes (Elt Ideal) (harg17.unread xs0) (kernelRun0_B.sl.HS0_11 c arg1 harg1 arg3 harg3 arg4 harg4 arg17 x0 x2 x3)) (ix2 p j) = cx W (fun i c => xs0 (ix2 ⟨i.val, by omega⟩ c)) (us W x0) p.val j := by
  unfold kernelRun0_B.sl.HS0_11
  by_cases q : 32 ≤ p.val
  · rw [Cert.Rows.read2_miss_row (Val := Elt Ideal) _ _ _ _ _ _ _ (by simp; try omega)]
    exact win_rd_B_6 (hF := hF) (h := Or.inl q) ..
  · rw [Cert.Rows.read2_miss_col (Val := Elt Ideal) _ _ _ _ _ _ _ (by simp; try omega)]
    exact win_rd_B_6 (hF := hF) (h := by omega) ..

end Cert.KernelIdeal.Mix
end
-- ==== Proof.MixB1.lean ====
module

public import proofs.«01_k».proof.Proof.Gen.KernelIdeal.Value
public import proofs.«01_k».proof.Proof.Rows
public import Idealize.ShloMosaic.Lib.Pointwise
public import Idealize.ShloMosaic.Lib.Tactic.RunNames
public import proofs.«01_k».proof.Proof.MixStep
public import proofs.«01_k».proof.Proof.MixB0

@[expose] public section

set_option maxRecDepth 16384

noncomputable section

/-! The convolution's rows of a step (case B). -/

namespace Cert.KernelIdeal.Mix

open Cert.KernelIdeal Cert.KernelIdeal.Gen Cert.MixSpec Idealize.ShloMosaic Idealize.ShloMosaic.TcCoe Idealize.ShloMosaic.Tactic

variable (W : Wt) (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x7296 .bf16) (harg4 : arg4.IsWhole) (arg5 : Memref sig .tc .vmem S31x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x256 .f32) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S256x256 .bf16) (harg15 : arg15.IsWhole) (arg16 : Memref sig .tc .vmem S256x1024 .f32) (harg16 : arg16.IsWhole) (arg17 : Memref sig .tc .vmem S288x1024 .f32) (harg17 : arg17.IsWhole) (arg18 : Memref sig .tc .vmem S256x1024 .f32) (harg18 : arg18.IsWhole) (arg19 : Memref sig .tc .vmem S4x256x128 .f32) (harg19 : arg19.IsWhole) (arg20 : Memref sig .tc .vmem S256x1024 .bf16) (harg20 : arg20.IsWhole) (arg21 : Memref sig .tc .vmem S256x1024 .bf16) (harg21 : arg21.IsWhole) (hc0 : ¬cond0_0 i) (hc1 : ¬cond0_1 i) (x0 : Vec Ideal S256x1024 .f32) (x1 : Vec Ideal S256x1024 .f32) (x2 : Vec Ideal S1x1024 .f32) (x3 : Vec Ideal S1024x7296 .bf16) (x4 : Vec Ideal S31x1024 .f32) (x5 : Vec Ideal S1x1024 .f32) (x6 : Vec Ideal S1x1024 .f32) (x7 : Vec Ideal S1x1024 .f32) (x8 : Vec Ideal S1024x1024 .bf16) (x9 : Vec Ideal S128x512 .bf16) (x10 : Vec Ideal S1x512 .f32) (x11 : Vec Ideal S1x256 .f32) (x12 : Vec Ideal S1024x1024 .bf16) (x13 : Vec Ideal S1024x1024 .bf16) (x14 : Vec Ideal S256x256 .bf16) (xs0 : Vec Ideal S288x1024 .f32) (xs1 : Vec Ideal S256x1024 .f32) (xs2 : Vec Ideal S4x256x128 .f32) (xs3 : Vec Ideal S256x1024 .bf16) (xs4 : Vec Ideal S256x1024 .bf16)
  (hF : Fit W x2 x3 x4 x5 x6 x7 x8 x9 x10 x11 x12 x13 x14)

include hF

/-- The convolution's rows 0.. in columns 0... -/
theorem conv_B_0_0 (r : Fin 256) (j : Fin 1024) (hr : 0 ≤ r.val ∧ r.val < 128) (hj : 0 ≤ j.val ∧ j.val < 128) :
    sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1 xs2 xs3 xs4 (ix2 r j) = conv W (fun n => cx W (fun i c => xs0 (ix2 ⟨i.val, by omega⟩ c)) (us W x0) (n + 2 + r.val) j) j := by
  obtain ⟨a, rfl⟩ : ∃ a : Fin 128, r = (⟨0 + a.val, by clear hr hj; omega⟩ : Fin 256) := ⟨⟨r.val - 0, by omega⟩, Fin.ext (by simp only []; omega)⟩
  obtain ⟨b, rfl⟩ : ∃ b : Fin 128, j = (⟨0 + b.val, by clear hr hj; omega⟩ : Fin 1024) := ⟨⟨j.val - 0, by omega⟩, Fin.ext (by simp only []; omega)⟩
  clear hr hj
  unfold sout0_B_1
  refine (View.read_writes_apply_eq_canon _ _ _ _ (scover0_B_1 ..)).trans ?_
  unfold kernelRun0_B
  dsimp only
  iterate 14 rw [Cert.Rows.canon2_miss_col (Val := Elt Ideal) _ _ _ _ _ (by simp; try omega)]
  rw [Cert.Rows.canon2_miss_row (Val := Elt Ideal) _ _ _ _ _ (by simp; try omega)]
  rw [Cert.Rows.canon2_hit (Val := Elt Ideal) _ _ _ _ _ (by simp; try omega) (by simp; try omega)]
  simp only [Nat.add_sub_cancel_left, Nat.sub_zero, Nat.zero_add, Fin.eta]
  sl_unfold_run_values
  simp only [View.readAt_eq_ld, harg5.read_unread, harg6.read_unread]
  pointwise [k0_pay27, k0_pay28, k0_pay29, k0_pay30, k0_pay31, k0_pay32, k0_pay33, k0_pay34, k0_pay35, k0_pay36, k0_pay37, k0_pay38, k0_pay39]
  simp only [Cert.Rows.ld2, Cert.Rows.readCov2, Nat.zero_add, Nat.add_zero]
  simp (disch := (simp <;> omega)) only [win_can_B_0 (hF := hF) (xs0 := xs0), win_rd_B_0 (hF := hF)]
  simp only [hF.cw, hF.cb, tap_eq, ← Nat.add_assoc, Nat.reduceAdd]
  have p := taps_phases (tap W ⟨0 + b.val, by omega⟩) (fun n => cx W (fun i c => xs0 (ix2 ⟨i.val, by omega⟩ c)) (us W x0) (n + 2 + a.val) ⟨0 + b.val, by omega⟩)
  simp only [Nat.reduceAdd, Nat.zero_add] at p
  have q := congrArg (· + W.cb ⟨0 + b.val, by omega⟩) p
  simp only [Nat.zero_add] at q ⊢

  exact q
/-- The convolution's rows 128.. in columns 0... -/
theorem conv_B_1_0 (r : Fin 256) (j : Fin 1024) (hr : 128 ≤ r.val ∧ r.val < 256) (hj : 0 ≤ j.val ∧ j.val < 128) :
    sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1 xs2 xs3 xs4 (ix2 r j) = conv W (fun n => cx W (fun i c => xs0 (ix2 ⟨i.val, by omega⟩ c)) (us W x0) (n + 2 + r.val) j) j := by
  obtain ⟨a, rfl⟩ : ∃ a : Fin 128, r = (⟨128 + a.val, by clear hr hj; omega⟩ : Fin 256) := ⟨⟨r.val - 128, by omega⟩, Fin.ext (by simp only []; omega)⟩
  obtain ⟨b, rfl⟩ : ∃ b : Fin 128, j = (⟨0 + b.val, by clear hr hj; omega⟩ : Fin 1024) := ⟨⟨j.val - 0, by omega⟩, Fin.ext (by simp only []; omega)⟩
  clear hr hj
  unfold sout0_B_1
  refine (View.read_writes_apply_eq_canon _ _ _ _ (scover0_B_1 ..)).trans ?_
  unfold kernelRun0_B
  dsimp only
  iterate 14 rw [Cert.Rows.canon2_miss_col (Val := Elt Ideal) _ _ _ _ _ (by simp; try omega)]
  rw [Cert.Rows.canon2_hit (Val := Elt Ideal) _ _ _ _ _ (by simp; try omega) (by simp; try omega)]
  simp only [Nat.add_sub_cancel_left, Nat.sub_zero, Nat.zero_add, Fin.eta]
  sl_unfold_run_values
  simp only [View.readAt_eq_ld, harg5.read_unread, harg6.read_unread]
  pointwise [k0_pay40, k0_pay41, k0_pay42, k0_pay43, k0_pay44, k0_pay45, k0_pay46, k0_pay47, k0_pay48, k0_pay49, k0_pay50, k0_pay51]
  simp only [Cert.Rows.ld2, Cert.Rows.readCov2, Nat.zero_add, Nat.add_zero]
  simp (disch := (simp <;> omega)) only [win_can_B_0 (hF := hF) (xs0 := xs0), win_rd_B_0 (hF := hF)]
  simp only [hF.cw, hF.cb, tap_eq, ← Nat.add_assoc, Nat.reduceAdd]
  have p := taps_phases (tap W ⟨0 + b.val, by omega⟩) (fun n => cx W (fun i c => xs0 (ix2 ⟨i.val, by omega⟩ c)) (us W x0) (n + 130 + a.val) ⟨0 + b.val, by omega⟩)
  simp only [Nat.reduceAdd, Nat.zero_add] at p
  have q := congrArg (· + W.cb ⟨0 + b.val, by omega⟩) p
  simp only [Nat.zero_add] at q ⊢

  exact q
/-- The convolution's rows 0.. in columns 128... -/
theorem conv_B_0_1 (r : Fin 256) (j : Fin 1024) (hr : 0 ≤ r.val ∧ r.val < 128) (hj : 128 ≤ j.val ∧ j.val < 256) :
    sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1 xs2 xs3 xs4 (ix2 r j) = conv W (fun n => cx W (fun i c => xs0 (ix2 ⟨i.val, by omega⟩ c)) (us W x0) (n + 2 + r.val) j) j := by
  obtain ⟨a, rfl⟩ : ∃ a : Fin 128, r = (⟨0 + a.val, by clear hr hj; omega⟩ : Fin 256) := ⟨⟨r.val - 0, by omega⟩, Fin.ext (by simp only []; omega)⟩
  obtain ⟨b, rfl⟩ : ∃ b : Fin 128, j = (⟨128 + b.val, by clear hr hj; omega⟩ : Fin 1024) := ⟨⟨j.val - 128, by omega⟩, Fin.ext (by simp only []; omega)⟩
  clear hr hj
  unfold sout0_B_1
  refine (View.read_writes_apply_eq_canon _ _ _ _ (scover0_B_1 ..)).trans ?_
  unfold kernelRun0_B
  dsimp only
  iterate 12 rw [Cert.Rows.canon2_miss_col (Val := Elt Ideal) _ _ _ _ _ (by simp; try omega)]
  rw [Cert.Rows.canon2_miss_row (Val := Elt Ideal) _ _ _ _ _ (by simp; try omega)]
  rw [Cert.Rows.canon2_hit (Val := Elt Ideal) _ _ _ _ _ (by simp; try omega) (by simp; try omega)]
  simp only [Nat.add_sub_cancel_left, Nat.sub_zero, Nat.zero_add, Fin.eta]
  sl_unfold_run_values
  simp only [View.readAt_eq_ld, harg5.read_unread, harg6.read_unread]
  pointwise [k0_pay52, k0_pay53, k0_pay54, k0_pay55, k0_pay56, k0_pay57, k0_pay58, k0_pay59, k0_pay60, k0_pay61, k0_pay62]
  simp only [Cert.Rows.ld2, Cert.Rows.readCov2, Nat.zero_add, Nat.add_zero]
  simp (disch := (simp <;> omega)) only [win_can_B_1 (hF := hF) (xs0 := xs0), win_rd_B_1 (hF := hF)]
  simp only [hF.cw, hF.cb, tap_eq, ← Nat.add_assoc, Nat.reduceAdd]
  have p := taps_phases (tap W ⟨128 + b.val, by omega⟩) (fun n => cx W (fun i c => xs0 (ix2 ⟨i.val, by omega⟩ c)) (us W x0) (n + 2 + a.val) ⟨128 + b.val, by omega⟩)
  simp only [Nat.reduceAdd, Nat.zero_add] at p
  have q := congrArg (· + W.cb ⟨128 + b.val, by omega⟩) p
  simp only [Nat.zero_add] at q ⊢

  exact q
/-- The convolution's rows 128.. in columns 128... -/
theorem conv_B_1_1 (r : Fin 256) (j : Fin 1024) (hr : 128 ≤ r.val ∧ r.val < 256) (hj : 128 ≤ j.val ∧ j.val < 256) :
    sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1 xs2 xs3 xs4 (ix2 r j) = conv W (fun n => cx W (fun i c => xs0 (ix2 ⟨i.val, by omega⟩ c)) (us W x0) (n + 2 + r.val) j) j := by
  obtain ⟨a, rfl⟩ : ∃ a : Fin 128, r = (⟨128 + a.val, by clear hr hj; omega⟩ : Fin 256) := ⟨⟨r.val - 128, by omega⟩, Fin.ext (by simp only []; omega)⟩
  obtain ⟨b, rfl⟩ : ∃ b : Fin 128, j = (⟨128 + b.val, by clear hr hj; omega⟩ : Fin 1024) := ⟨⟨j.val - 128, by omega⟩, Fin.ext (by simp only []; omega)⟩
  clear hr hj
  unfold sout0_B_1
  refine (View.read_writes_apply_eq_canon _ _ _ _ (scover0_B_1 ..)).trans ?_
  unfold kernelRun0_B
  dsimp only
  iterate 12 rw [Cert.Rows.canon2_miss_col (Val := Elt Ideal) _ _ _ _ _ (by simp; try omega)]
  rw [Cert.Rows.canon2_hit (Val := Elt Ideal) _ _ _ _ _ (by simp; try omega) (by simp; try omega)]
  simp only [Nat.add_sub_cancel_left, Nat.sub_zero, Nat.zero_add, Fin.eta]
  sl_unfold_run_values
  simp only [View.readAt_eq_ld, harg5.read_unread, harg6.read_unread]
  pointwise [k0_pay63, k0_pay64, k0_pay65, k0_pay66, k0_pay67, k0_pay68, k0_pay69, k0_pay70, k0_pay71, k0_pay72, k0_pay73, k0_pay74, k0_pay75, k0_pay76, k0_pay77]
  simp only [Cert.Rows.ld2, Cert.Rows.readCov2, Nat.zero_add, Nat.add_zero]
  simp (disch := (simp <;> omega)) only [win_can_B_1 (hF := hF) (xs0 := xs0), win_rd_B_1 (hF := hF)]
  simp only [hF.cw, hF.cb, tap_eq, ← Nat.add_assoc, Nat.reduceAdd]
  have p := taps_phases (tap W ⟨128 + b.val, by omega⟩) (fun n => cx W (fun i c => xs0 (ix2 ⟨i.val, by omega⟩ c)) (us W x0) (n + 130 + a.val) ⟨128 + b.val, by omega⟩)
  simp only [Nat.reduceAdd, Nat.zero_add] at p
  have q := congrArg (· + W.cb ⟨128 + b.val, by omega⟩) p
  simp only [Nat.zero_add] at q ⊢

  exact q
/-- The convolution's rows 0.. in columns 256... -/
theorem conv_B_0_2 (r : Fin 256) (j : Fin 1024) (hr : 0 ≤ r.val ∧ r.val < 128) (hj : 256 ≤ j.val ∧ j.val < 384) :
    sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1 xs2 xs3 xs4 (ix2 r j) = conv W (fun n => cx W (fun i c => xs0 (ix2 ⟨i.val, by omega⟩ c)) (us W x0) (n + 2 + r.val) j) j := by
  obtain ⟨a, rfl⟩ : ∃ a : Fin 128, r = (⟨0 + a.val, by clear hr hj; omega⟩ : Fin 256) := ⟨⟨r.val - 0, by omega⟩, Fin.ext (by simp only []; omega)⟩
  obtain ⟨b, rfl⟩ : ∃ b : Fin 128, j = (⟨256 + b.val, by clear hr hj; omega⟩ : Fin 1024) := ⟨⟨j.val - 256, by omega⟩, Fin.ext (by simp only []; omega)⟩
  clear hr hj
  unfold sout0_B_1
  refine (View.read_writes_apply_eq_canon _ _ _ _ (scover0_B_1 ..)).trans ?_
  unfold kernelRun0_B
  dsimp only
  iterate 10 rw [Cert.Rows.canon2_miss_col (Val := Elt Ideal) _ _ _ _ _ (by simp; try omega)]
  rw [Cert.Rows.canon2_miss_row (Val := Elt Ideal) _ _ _ _ _ (by simp; try omega)]
  rw [Cert.Rows.canon2_hit (Val := Elt Ideal) _ _ _ _ _ (by simp; try omega) (by simp; try omega)]
  simp only [Nat.add_sub_cancel_left, Nat.sub_zero, Nat.zero_add, Fin.eta]
  sl_unfold_run_values
  simp only [View.readAt_eq_ld, harg5.read_unread, harg6.read_unread]
  pointwise [k0_pay78, k0_pay79, k0_pay80, k0_pay81, k0_pay82, k0_pay83, k0_pay84, k0_pay85, k0_pay86, k0_pay87, k0_pay88, k0_pay89, k0_pay90, k0_pay91, k0_pay92]
  simp only [Cert.Rows.ld2, Cert.Rows.readCov2, Nat.zero_add, Nat.add_zero]
  simp (disch := (simp <;> omega)) only [win_can_B_2 (hF := hF) (xs0 := xs0), win_rd_B_2 (hF := hF)]
  simp only [hF.cw, hF.cb, tap_eq, ← Nat.add_assoc, Nat.reduceAdd]
  have p := taps_phases (tap W ⟨256 + b.val, by omega⟩) (fun n => cx W (fun i c => xs0 (ix2 ⟨i.val, by omega⟩ c)) (us W x0) (n + 2 + a.val) ⟨256 + b.val, by omega⟩)
  simp only [Nat.reduceAdd, Nat.zero_add] at p
  have q := congrArg (· + W.cb ⟨256 + b.val, by omega⟩) p
  simp only [Nat.zero_add] at q ⊢

  exact q
/-- The convolution's rows 128.. in columns 256... -/
theorem conv_B_1_2 (r : Fin 256) (j : Fin 1024) (hr : 128 ≤ r.val ∧ r.val < 256) (hj : 256 ≤ j.val ∧ j.val < 384) :
    sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1 xs2 xs3 xs4 (ix2 r j) = conv W (fun n => cx W (fun i c => xs0 (ix2 ⟨i.val, by omega⟩ c)) (us W x0) (n + 2 + r.val) j) j := by
  obtain ⟨a, rfl⟩ : ∃ a : Fin 128, r = (⟨128 + a.val, by clear hr hj; omega⟩ : Fin 256) := ⟨⟨r.val - 128, by omega⟩, Fin.ext (by simp only []; omega)⟩
  obtain ⟨b, rfl⟩ : ∃ b : Fin 128, j = (⟨256 + b.val, by clear hr hj; omega⟩ : Fin 1024) := ⟨⟨j.val - 256, by omega⟩, Fin.ext (by simp only []; omega)⟩
  clear hr hj
  unfold sout0_B_1
  refine (View.read_writes_apply_eq_canon _ _ _ _ (scover0_B_1 ..)).trans ?_
  unfold kernelRun0_B
  dsimp only
  iterate 10 rw [Cert.Rows.canon2_miss_col (Val := Elt Ideal) _ _ _ _ _ (by simp; try omega)]
  rw [Cert.Rows.canon2_hit (Val := Elt Ideal) _ _ _ _ _ (by simp; try omega) (by simp; try omega)]
  simp only [Nat.add_sub_cancel_left, Nat.sub_zero, Nat.zero_add, Fin.eta]
  sl_unfold_run_values
  simp only [View.readAt_eq_ld, harg5.read_unread, harg6.read_unread]
  pointwise [k0_pay93, k0_pay94, k0_pay95, k0_pay96, k0_pay97, k0_pay98, k0_pay99, k0_pay100, k0_pay101, k0_pay102, k0_pay103, k0_pay104, k0_pay105]
  simp only [Cert.Rows.ld2, Cert.Rows.readCov2, Nat.zero_add, Nat.add_zero]
  simp (disch := (simp <;> omega)) only [win_can_B_2 (hF := hF) (xs0 := xs0), win_rd_B_2 (hF := hF)]
  simp only [hF.cw, hF.cb, tap_eq, ← Nat.add_assoc, Nat.reduceAdd]
  have p := taps_phases (tap W ⟨256 + b.val, by omega⟩) (fun n => cx W (fun i c => xs0 (ix2 ⟨i.val, by omega⟩ c)) (us W x0) (n + 130 + a.val) ⟨256 + b.val, by omega⟩)
  simp only [Nat.reduceAdd, Nat.zero_add] at p
  have q := congrArg (· + W.cb ⟨256 + b.val, by omega⟩) p
  simp only [Nat.zero_add] at q ⊢

  exact q
/-- The convolution's rows 0.. in columns 384... -/
theorem conv_B_0_3 (r : Fin 256) (j : Fin 1024) (hr : 0 ≤ r.val ∧ r.val < 128) (hj : 384 ≤ j.val ∧ j.val < 512) :
    sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1 xs2 xs3 xs4 (ix2 r j) = conv W (fun n => cx W (fun i c => xs0 (ix2 ⟨i.val, by omega⟩ c)) (us W x0) (n + 2 + r.val) j) j := by
  obtain ⟨a, rfl⟩ : ∃ a : Fin 128, r = (⟨0 + a.val, by clear hr hj; omega⟩ : Fin 256) := ⟨⟨r.val - 0, by omega⟩, Fin.ext (by simp only []; omega)⟩
  obtain ⟨b, rfl⟩ : ∃ b : Fin 128, j = (⟨384 + b.val, by clear hr hj; omega⟩ : Fin 1024) := ⟨⟨j.val - 384, by omega⟩, Fin.ext (by simp only []; omega)⟩
  clear hr hj
  unfold sout0_B_1
  refine (View.read_writes_apply_eq_canon _ _ _ _ (scover0_B_1 ..)).trans ?_
  unfold kernelRun0_B
  dsimp only
  iterate 8 rw [Cert.Rows.canon2_miss_col (Val := Elt Ideal) _ _ _ _ _ (by simp; try omega)]
  rw [Cert.Rows.canon2_miss_row (Val := Elt Ideal) _ _ _ _ _ (by simp; try omega)]
  rw [Cert.Rows.canon2_hit (Val := Elt Ideal) _ _ _ _ _ (by simp; try omega) (by simp; try omega)]
  simp only [Nat.add_sub_cancel_left, Nat.sub_zero, Nat.zero_add, Fin.eta]
  sl_unfold_run_values
  simp only [View.readAt_eq_ld, harg5.read_unread, harg6.read_unread]
  pointwise [k0_pay106, k0_pay107, k0_pay108, k0_pay109, k0_pay110, k0_pay111, k0_pay112, k0_pay113, k0_pay114, k0_pay115, k0_pay116, k0_pay117, k0_pay118]
  simp only [Cert.Rows.ld2, Cert.Rows.readCov2, Nat.zero_add, Nat.add_zero]
  simp (disch := (simp <;> omega)) only [win_can_B_3 (hF := hF) (xs0 := xs0), win_rd_B_3 (hF := hF)]
  simp only [hF.cw, hF.cb, tap_eq, ← Nat.add_assoc, Nat.reduceAdd]
  have p := taps_phases (tap W ⟨384 + b.val, by omega⟩) (fun n => cx W (fun i c => xs0 (ix2 ⟨i.val, by omega⟩ c)) (us W x0) (n + 2 + a.val) ⟨384 + b.val, by omega⟩)
  simp only [Nat.reduceAdd, Nat.zero_add] at p
  have q := congrArg (· + W.cb ⟨384 + b.val, by omega⟩) p
  simp only [Nat.zero_add] at q ⊢

  exact q
/-- The convolution's rows 128.. in columns 384... -/
theorem conv_B_1_3 (r : Fin 256) (j : Fin 1024) (hr : 128 ≤ r.val ∧ r.val < 256) (hj : 384 ≤ j.val ∧ j.val < 512) :
    sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1 xs2 xs3 xs4 (ix2 r j) = conv W (fun n => cx W (fun i c => xs0 (ix2 ⟨i.val, by omega⟩ c)) (us W x0) (n + 2 + r.val) j) j := by
  obtain ⟨a, rfl⟩ : ∃ a : Fin 128, r = (⟨128 + a.val, by clear hr hj; omega⟩ : Fin 256) := ⟨⟨r.val - 128, by omega⟩, Fin.ext (by simp only []; omega)⟩
  obtain ⟨b, rfl⟩ : ∃ b : Fin 128, j = (⟨384 + b.val, by clear hr hj; omega⟩ : Fin 1024) := ⟨⟨j.val - 384, by omega⟩, Fin.ext (by simp only []; omega)⟩
  clear hr hj
  unfold sout0_B_1
  refine (View.read_writes_apply_eq_canon _ _ _ _ (scover0_B_1 ..)).trans ?_
  unfold kernelRun0_B
  dsimp only
  iterate 8 rw [Cert.Rows.canon2_miss_col (Val := Elt Ideal) _ _ _ _ _ (by simp; try omega)]
  rw [Cert.Rows.canon2_hit (Val := Elt Ideal) _ _ _ _ _ (by simp; try omega) (by simp; try omega)]
  simp only [Nat.add_sub_cancel_left, Nat.sub_zero, Nat.zero_add, Fin.eta]
  sl_unfold_run_values
  simp only [View.readAt_eq_ld, harg5.read_unread, harg6.read_unread]
  pointwise [k0_pay119, k0_pay120, k0_pay121, k0_pay122, k0_pay123, k0_pay124, k0_pay125, k0_pay126, k0_pay127, k0_pay128, k0_pay129, k0_pay130]
  simp only [Cert.Rows.ld2, Cert.Rows.readCov2, Nat.zero_add, Nat.add_zero]
  simp (disch := (simp <;> omega)) only [win_can_B_3 (hF := hF) (xs0 := xs0), win_rd_B_3 (hF := hF)]
  simp only [hF.cw, hF.cb, tap_eq, ← Nat.add_assoc, Nat.reduceAdd]
  have p := taps_phases (tap W ⟨384 + b.val, by omega⟩) (fun n => cx W (fun i c => xs0 (ix2 ⟨i.val, by omega⟩ c)) (us W x0) (n + 130 + a.val) ⟨384 + b.val, by omega⟩)
  simp only [Nat.reduceAdd, Nat.zero_add] at p
  have q := congrArg (· + W.cb ⟨384 + b.val, by omega⟩) p
  simp only [Nat.zero_add] at q ⊢

  exact q

end Cert.KernelIdeal.Mix
end
-- ==== Proof.MixB2.lean ====
module

public import proofs.«01_k».proof.Proof.Gen.KernelIdeal.Value
public import proofs.«01_k».proof.Proof.Rows
public import Idealize.ShloMosaic.Lib.Pointwise
public import Idealize.ShloMosaic.Lib.Tactic.RunNames
public import proofs.«01_k».proof.Proof.MixStep
public import proofs.«01_k».proof.Proof.MixB0

@[expose] public section

set_option maxRecDepth 16384

noncomputable section

/-! The convolution's rows of a step (case B). -/

namespace Cert.KernelIdeal.Mix

open Cert.KernelIdeal Cert.KernelIdeal.Gen Cert.MixSpec Idealize.ShloMosaic Idealize.ShloMosaic.TcCoe Idealize.ShloMosaic.Tactic

variable (W : Wt) (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x7296 .bf16) (harg4 : arg4.IsWhole) (arg5 : Memref sig .tc .vmem S31x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x256 .f32) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S256x256 .bf16) (harg15 : arg15.IsWhole) (arg16 : Memref sig .tc .vmem S256x1024 .f32) (harg16 : arg16.IsWhole) (arg17 : Memref sig .tc .vmem S288x1024 .f32) (harg17 : arg17.IsWhole) (arg18 : Memref sig .tc .vmem S256x1024 .f32) (harg18 : arg18.IsWhole) (arg19 : Memref sig .tc .vmem S4x256x128 .f32) (harg19 : arg19.IsWhole) (arg20 : Memref sig .tc .vmem S256x1024 .bf16) (harg20 : arg20.IsWhole) (arg21 : Memref sig .tc .vmem S256x1024 .bf16) (harg21 : arg21.IsWhole) (hc0 : ¬cond0_0 i) (hc1 : ¬cond0_1 i) (x0 : Vec Ideal S256x1024 .f32) (x1 : Vec Ideal S256x1024 .f32) (x2 : Vec Ideal S1x1024 .f32) (x3 : Vec Ideal S1024x7296 .bf16) (x4 : Vec Ideal S31x1024 .f32) (x5 : Vec Ideal S1x1024 .f32) (x6 : Vec Ideal S1x1024 .f32) (x7 : Vec Ideal S1x1024 .f32) (x8 : Vec Ideal S1024x1024 .bf16) (x9 : Vec Ideal S128x512 .bf16) (x10 : Vec Ideal S1x512 .f32) (x11 : Vec Ideal S1x256 .f32) (x12 : Vec Ideal S1024x1024 .bf16) (x13 : Vec Ideal S1024x1024 .bf16) (x14 : Vec Ideal S256x256 .bf16) (xs0 : Vec Ideal S288x1024 .f32) (xs1 : Vec Ideal S256x1024 .f32) (xs2 : Vec Ideal S4x256x128 .f32) (xs3 : Vec Ideal S256x1024 .bf16) (xs4 : Vec Ideal S256x1024 .bf16)
  (hF : Fit W x2 x3 x4 x5 x6 x7 x8 x9 x10 x11 x12 x13 x14)

include hF

/-- The convolution's rows 0.. in columns 512... -/
theorem conv_B_0_4 (r : Fin 256) (j : Fin 1024) (hr : 0 ≤ r.val ∧ r.val < 128) (hj : 512 ≤ j.val ∧ j.val < 640) :
    sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1 xs2 xs3 xs4 (ix2 r j) = conv W (fun n => cx W (fun i c => xs0 (ix2 ⟨i.val, by omega⟩ c)) (us W x0) (n + 2 + r.val) j) j := by
  obtain ⟨a, rfl⟩ : ∃ a : Fin 128, r = (⟨0 + a.val, by clear hr hj; omega⟩ : Fin 256) := ⟨⟨r.val - 0, by omega⟩, Fin.ext (by simp only []; omega)⟩
  obtain ⟨b, rfl⟩ : ∃ b : Fin 128, j = (⟨512 + b.val, by clear hr hj; omega⟩ : Fin 1024) := ⟨⟨j.val - 512, by omega⟩, Fin.ext (by simp only []; omega)⟩
  clear hr hj
  unfold sout0_B_1
  refine (View.read_writes_apply_eq_canon _ _ _ _ (scover0_B_1 ..)).trans ?_
  unfold kernelRun0_B
  dsimp only
  iterate 6 rw [Cert.Rows.canon2_miss_col (Val := Elt Ideal) _ _ _ _ _ (by simp; try omega)]
  rw [Cert.Rows.canon2_miss_row (Val := Elt Ideal) _ _ _ _ _ (by simp; try omega)]
  rw [Cert.Rows.canon2_hit (Val := Elt Ideal) _ _ _ _ _ (by simp; try omega) (by simp; try omega)]
  simp only [Nat.add_sub_cancel_left, Nat.sub_zero, Nat.zero_add, Fin.eta]
  sl_unfold_run_values
  simp only [View.readAt_eq_ld, harg5.read_unread, harg6.read_unread]
  pointwise [k0_pay131, k0_pay132, k0_pay133, k0_pay134, k0_pay135, k0_pay136, k0_pay137, k0_pay138, k0_pay139, k0_pay140, k0_pay141, k0_pay142]
  simp only [Cert.Rows.ld2, Cert.Rows.readCov2, Nat.zero_add, Nat.add_zero]
  simp (disch := (simp <;> omega)) only [win_can_B_4 (hF := hF) (xs0 := xs0), win_rd_B_4 (hF := hF)]
  simp only [hF.cw, hF.cb, tap_eq, ← Nat.add_assoc, Nat.reduceAdd]
  have p := taps_phases (tap W ⟨512 + b.val, by omega⟩) (fun n => cx W (fun i c => xs0 (ix2 ⟨i.val, by omega⟩ c)) (us W x0) (n + 2 + a.val) ⟨512 + b.val, by omega⟩)
  simp only [Nat.reduceAdd, Nat.zero_add] at p
  have q := congrArg (· + W.cb ⟨512 + b.val, by omega⟩) p
  simp only [Nat.zero_add] at q ⊢

  exact q
/-- The convolution's rows 128.. in columns 512... -/
theorem conv_B_1_4 (r : Fin 256) (j : Fin 1024) (hr : 128 ≤ r.val ∧ r.val < 256) (hj : 512 ≤ j.val ∧ j.val < 640) :
    sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1 xs2 xs3 xs4 (ix2 r j) = conv W (fun n => cx W (fun i c => xs0 (ix2 ⟨i.val, by omega⟩ c)) (us W x0) (n + 2 + r.val) j) j := by
  obtain ⟨a, rfl⟩ : ∃ a : Fin 128, r = (⟨128 + a.val, by clear hr hj; omega⟩ : Fin 256) := ⟨⟨r.val - 128, by omega⟩, Fin.ext (by simp only []; omega)⟩
  obtain ⟨b, rfl⟩ : ∃ b : Fin 128, j = (⟨512 + b.val, by clear hr hj; omega⟩ : Fin 1024) := ⟨⟨j.val - 512, by omega⟩, Fin.ext (by simp only []; omega)⟩
  clear hr hj
  unfold sout0_B_1
  refine (View.read_writes_apply_eq_canon _ _ _ _ (scover0_B_1 ..)).trans ?_
  unfold kernelRun0_B
  dsimp only
  iterate 6 rw [Cert.Rows.canon2_miss_col (Val := Elt Ideal) _ _ _ _ _ (by simp; try omega)]
  rw [Cert.Rows.canon2_hit (Val := Elt Ideal) _ _ _ _ _ (by simp; try omega) (by simp; try omega)]
  simp only [Nat.add_sub_cancel_left, Nat.sub_zero, Nat.zero_add, Fin.eta]
  sl_unfold_run_values
  simp only [View.readAt_eq_ld, harg5.read_unread, harg6.read_unread]
  pointwise [k0_pay143, k0_pay144, k0_pay145, k0_pay146, k0_pay147, k0_pay148, k0_pay149, k0_pay150, k0_pay151, k0_pay152, k0_pay153, k0_pay154, k0_pay155]
  simp only [Cert.Rows.ld2, Cert.Rows.readCov2, Nat.zero_add, Nat.add_zero]
  simp (disch := (simp <;> omega)) only [win_can_B_4 (hF := hF) (xs0 := xs0), win_rd_B_4 (hF := hF)]
  simp only [hF.cw, hF.cb, tap_eq, ← Nat.add_assoc, Nat.reduceAdd]
  have p := taps_phases (tap W ⟨512 + b.val, by omega⟩) (fun n => cx W (fun i c => xs0 (ix2 ⟨i.val, by omega⟩ c)) (us W x0) (n + 130 + a.val) ⟨512 + b.val, by omega⟩)
  simp only [Nat.reduceAdd, Nat.zero_add] at p
  have q := congrArg (· + W.cb ⟨512 + b.val, by omega⟩) p
  simp only [Nat.zero_add] at q ⊢

  exact q
/-- The convolution's rows 0.. in columns 640... -/
theorem conv_B_0_5 (r : Fin 256) (j : Fin 1024) (hr : 0 ≤ r.val ∧ r.val < 128) (hj : 640 ≤ j.val ∧ j.val < 768) :
    sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1 xs2 xs3 xs4 (ix2 r j) = conv W (fun n => cx W (fun i c => xs0 (ix2 ⟨i.val, by omega⟩ c)) (us W x0) (n + 2 + r.val) j) j := by
  obtain ⟨a, rfl⟩ : ∃ a : Fin 128, r = (⟨0 + a.val, by clear hr hj; omega⟩ : Fin 256) := ⟨⟨r.val - 0, by omega⟩, Fin.ext (by simp only []; omega)⟩
  obtain ⟨b, rfl⟩ : ∃ b : Fin 128, j = (⟨640 + b.val, by clear hr hj; omega⟩ : Fin 1024) := ⟨⟨j.val - 640, by omega⟩, Fin.ext (by simp only []; omega)⟩
  clear hr hj
  unfold sout0_B_1
  refine (View.read_writes_apply_eq_canon _ _ _ _ (scover0_B_1 ..)).trans ?_
  unfold kernelRun0_B
  dsimp only
  iterate 4 rw [Cert.Rows.canon2_miss_col (Val := Elt Ideal) _ _ _ _ _ (by simp; try omega)]
  rw [Cert.Rows.canon2_miss_row (Val := Elt Ideal) _ _ _ _ _ (by simp; try omega)]
  rw [Cert.Rows.canon2_hit (Val := Elt Ideal) _ _ _ _ _ (by simp; try omega) (by simp; try omega)]
  simp only [Nat.add_sub_cancel_left, Nat.sub_zero, Nat.zero_add, Fin.eta]
  sl_unfold_run_values
  simp only [View.readAt_eq_ld, harg5.read_unread, harg6.read_unread]
  pointwise [k0_pay156, k0_pay157, k0_pay158, k0_pay159, k0_pay160, k0_pay161, k0_pay162, k0_pay163, k0_pay164, k0_pay165, k0_pay166, k0_pay167]
  simp only [Cert.Rows.ld2, Cert.Rows.readCov2, Nat.zero_add, Nat.add_zero]
  simp (disch := (simp <;> omega)) only [win_can_B_5 (hF := hF) (xs0 := xs0), win_rd_B_5 (hF := hF)]
  simp only [hF.cw, hF.cb, tap_eq, ← Nat.add_assoc, Nat.reduceAdd]
  have p := taps_phases (tap W ⟨640 + b.val, by omega⟩) (fun n => cx W (fun i c => xs0 (ix2 ⟨i.val, by omega⟩ c)) (us W x0) (n + 2 + a.val) ⟨640 + b.val, by omega⟩)
  simp only [Nat.reduceAdd, Nat.zero_add] at p
  have q := congrArg (· + W.cb ⟨640 + b.val, by omega⟩) p
  simp only [Nat.zero_add] at q ⊢

  exact q
/-- The convolution's rows 128.. in columns 640... -/
theorem conv_B_1_5 (r : Fin 256) (j : Fin 1024) (hr : 128 ≤ r.val ∧ r.val < 256) (hj : 640 ≤ j.val ∧ j.val < 768) :
    sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1 xs2 xs3 xs4 (ix2 r j) = conv W (fun n => cx W (fun i c => xs0 (ix2 ⟨i.val, by omega⟩ c)) (us W x0) (n + 2 + r.val) j) j := by
  obtain ⟨a, rfl⟩ : ∃ a : Fin 128, r = (⟨128 + a.val, by clear hr hj; omega⟩ : Fin 256) := ⟨⟨r.val - 128, by omega⟩, Fin.ext (by simp only []; omega)⟩
  obtain ⟨b, rfl⟩ : ∃ b : Fin 128, j = (⟨640 + b.val, by clear hr hj; omega⟩ : Fin 1024) := ⟨⟨j.val - 640, by omega⟩, Fin.ext (by simp only []; omega)⟩
  clear hr hj
  unfold sout0_B_1
  refine (View.read_writes_apply_eq_canon _ _ _ _ (scover0_B_1 ..)).trans ?_
  unfold kernelRun0_B
  dsimp only
  iterate 4 rw [Cert.Rows.canon2_miss_col (Val := Elt Ideal) _ _ _ _ _ (by simp; try omega)]
  rw [Cert.Rows.canon2_hit (Val := Elt Ideal) _ _ _ _ _ (by simp; try omega) (by simp; try omega)]
  simp only [Nat.add_sub_cancel_left, Nat.sub_zero, Nat.zero_add, Fin.eta]
  sl_unfold_run_values
  simp only [View.readAt_eq_ld, harg5.read_unread, harg6.read_unread]
  pointwise [k0_pay168, k0_pay169, k0_pay170, k0_pay171, k0_pay172, k0_pay173, k0_pay174, k0_pay175, k0_pay176, k0_pay177, k0_pay178, k0_pay179, k0_pay180, k0_pay181, k0_pay182]
  simp only [Cert.Rows.ld2, Cert.Rows.readCov2, Nat.zero_add, Nat.add_zero]
  simp (disch := (simp <;> omega)) only [win_can_B_5 (hF := hF) (xs0 := xs0), win_rd_B_5 (hF := hF)]
  simp only [hF.cw, hF.cb, tap_eq, ← Nat.add_assoc, Nat.reduceAdd]
  have p := taps_phases (tap W ⟨640 + b.val, by omega⟩) (fun n => cx W (fun i c => xs0 (ix2 ⟨i.val, by omega⟩ c)) (us W x0) (n + 130 + a.val) ⟨640 + b.val, by omega⟩)
  simp only [Nat.reduceAdd, Nat.zero_add] at p
  have q := congrArg (· + W.cb ⟨640 + b.val, by omega⟩) p
  simp only [Nat.zero_add] at q ⊢

  exact q
/-- The convolution's rows 0.. in columns 768... -/
theorem conv_B_0_6 (r : Fin 256) (j : Fin 1024) (hr : 0 ≤ r.val ∧ r.val < 128) (hj : 768 ≤ j.val ∧ j.val < 896) :
    sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1 xs2 xs3 xs4 (ix2 r j) = conv W (fun n => cx W (fun i c => xs0 (ix2 ⟨i.val, by omega⟩ c)) (us W x0) (n + 2 + r.val) j) j := by
  obtain ⟨a, rfl⟩ : ∃ a : Fin 128, r = (⟨0 + a.val, by clear hr hj; omega⟩ : Fin 256) := ⟨⟨r.val - 0, by omega⟩, Fin.ext (by simp only []; omega)⟩
  obtain ⟨b, rfl⟩ : ∃ b : Fin 128, j = (⟨768 + b.val, by clear hr hj; omega⟩ : Fin 1024) := ⟨⟨j.val - 768, by omega⟩, Fin.ext (by simp only []; omega)⟩
  clear hr hj
  unfold sout0_B_1
  refine (View.read_writes_apply_eq_canon _ _ _ _ (scover0_B_1 ..)).trans ?_
  unfold kernelRun0_B
  dsimp only
  iterate 2 rw [Cert.Rows.canon2_miss_col (Val := Elt Ideal) _ _ _ _ _ (by simp; try omega)]
  rw [Cert.Rows.canon2_miss_row (Val := Elt Ideal) _ _ _ _ _ (by simp; try omega)]
  rw [Cert.Rows.canon2_hit (Val := Elt Ideal) _ _ _ _ _ (by simp; try omega) (by simp; try omega)]
  simp only [Nat.add_sub_cancel_left, Nat.sub_zero, Nat.zero_add, Fin.eta]
  sl_unfold_run_values
  simp only [View.readAt_eq_ld, harg5.read_unread, harg6.read_unread]
  pointwise [k0_pay183, k0_pay271, k0_pay272, k0_pay273, k0_pay274, k0_pay275, k0_pay276, k0_pay277, k0_pay278, k0_pay279, k0_pay280, k0_pay281, k0_pay282, k0_pay283, k0_pay284]
  simp only [Cert.Rows.ld2, Cert.Rows.readCov2, Nat.zero_add, Nat.add_zero]
  simp (disch := (simp <;> omega)) only [win_can_B_6 (hF := hF) (xs0 := xs0), win_rd_B_6 (hF := hF)]
  simp only [hF.cw, hF.cb, tap_eq, ← Nat.add_assoc, Nat.reduceAdd]
  have p := taps_phases (tap W ⟨768 + b.val, by omega⟩) (fun n => cx W (fun i c => xs0 (ix2 ⟨i.val, by omega⟩ c)) (us W x0) (n + 2 + a.val) ⟨768 + b.val, by omega⟩)
  simp only [Nat.reduceAdd, Nat.zero_add] at p
  have q := congrArg (· + W.cb ⟨768 + b.val, by omega⟩) p
  simp only [Nat.zero_add] at q ⊢

  exact q
/-- The convolution's rows 128.. in columns 768... -/
theorem conv_B_1_6 (r : Fin 256) (j : Fin 1024) (hr : 128 ≤ r.val ∧ r.val < 256) (hj : 768 ≤ j.val ∧ j.val < 896) :
    sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1 xs2 xs3 xs4 (ix2 r j) = conv W (fun n => cx W (fun i c => xs0 (ix2 ⟨i.val, by omega⟩ c)) (us W x0) (n + 2 + r.val) j) j := by
  obtain ⟨a, rfl⟩ : ∃ a : Fin 128, r = (⟨128 + a.val, by clear hr hj; omega⟩ : Fin 256) := ⟨⟨r.val - 128, by omega⟩, Fin.ext (by simp only []; omega)⟩
  obtain ⟨b, rfl⟩ : ∃ b : Fin 128, j = (⟨768 + b.val, by clear hr hj; omega⟩ : Fin 1024) := ⟨⟨j.val - 768, by omega⟩, Fin.ext (by simp only []; omega)⟩
  clear hr hj
  unfold sout0_B_1
  refine (View.read_writes_apply_eq_canon _ _ _ _ (scover0_B_1 ..)).trans ?_
  unfold kernelRun0_B
  dsimp only
  iterate 2 rw [Cert.Rows.canon2_miss_col (Val := Elt Ideal) _ _ _ _ _ (by simp; try omega)]
  rw [Cert.Rows.canon2_hit (Val := Elt Ideal) _ _ _ _ _ (by simp; try omega) (by simp; try omega)]
  simp only [Nat.add_sub_cancel_left, Nat.sub_zero, Nat.zero_add, Fin.eta]
  sl_unfold_run_values
  simp only [View.readAt_eq_ld, harg5.read_unread, harg6.read_unread]
  pointwise [k0_pay285, k0_pay286, k0_pay287, k0_pay288, k0_pay289, k0_pay290, k0_pay291, k0_pay292, k0_pay293, k0_pay294, k0_pay295, k0_pay296, k0_pay297, k0_pay298]
  simp only [Cert.Rows.ld2, Cert.Rows.readCov2, Nat.zero_add, Nat.add_zero]
  simp (disch := (simp <;> omega)) only [win_can_B_6 (hF := hF) (xs0 := xs0), win_rd_B_6 (hF := hF)]
  simp only [hF.cw, hF.cb, tap_eq, ← Nat.add_assoc, Nat.reduceAdd]
  have p := taps_phases (tap W ⟨768 + b.val, by omega⟩) (fun n => cx W (fun i c => xs0 (ix2 ⟨i.val, by omega⟩ c)) (us W x0) (n + 130 + a.val) ⟨768 + b.val, by omega⟩)
  simp only [Nat.reduceAdd, Nat.zero_add] at p
  have q := congrArg (· + W.cb ⟨768 + b.val, by omega⟩) p
  simp only [Nat.zero_add] at q ⊢

  exact q
/-- The convolution's rows 0.. in columns 896... -/
theorem conv_B_0_7 (r : Fin 256) (j : Fin 1024) (hr : 0 ≤ r.val ∧ r.val < 128) (hj : 896 ≤ j.val ∧ j.val < 1024) :
    sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1 xs2 xs3 xs4 (ix2 r j) = conv W (fun n => cx W (fun i c => xs0 (ix2 ⟨i.val, by omega⟩ c)) (us W x0) (n + 2 + r.val) j) j := by
  obtain ⟨a, rfl⟩ : ∃ a : Fin 128, r = (⟨0 + a.val, by clear hr hj; omega⟩ : Fin 256) := ⟨⟨r.val - 0, by omega⟩, Fin.ext (by simp only []; omega)⟩
  obtain ⟨b, rfl⟩ : ∃ b : Fin 128, j = (⟨896 + b.val, by clear hr hj; omega⟩ : Fin 1024) := ⟨⟨j.val - 896, by omega⟩, Fin.ext (by simp only []; omega)⟩
  clear hr hj
  unfold sout0_B_1
  refine (View.read_writes_apply_eq_canon _ _ _ _ (scover0_B_1 ..)).trans ?_
  unfold kernelRun0_B
  dsimp only
  rw [Cert.Rows.canon2_miss_row (Val := Elt Ideal) _ _ _ _ _ (by simp; try omega)]
  rw [Cert.Rows.canon2_hit (Val := Elt Ideal) _ _ _ _ _ (by simp; try omega) (by simp; try omega)]
  simp only [Nat.add_sub_cancel_left, Nat.sub_zero, Nat.zero_add, Fin.eta]
  sl_unfold_run_values
  simp only [View.readAt_eq_ld, harg5.read_unread, harg6.read_unread]
  pointwise [k0_pay299, k0_pay300, k0_pay301, k0_pay302, k0_pay303, k0_pay304, k0_pay305, k0_pay306, k0_pay307, k0_pay308, k0_pay309, k0_pay310]
  simp only [Cert.Rows.ld2, Cert.Rows.readCov2, Nat.zero_add, Nat.add_zero]
  simp (disch := (simp <;> omega)) only [win_can_B_7 (hF := hF) (xs0 := xs0), win_rd_B_7 (hF := hF)]
  simp only [hF.cw, hF.cb, tap_eq, ← Nat.add_assoc, Nat.reduceAdd]
  have p := taps_phases (tap W ⟨896 + b.val, by omega⟩) (fun n => cx W (fun i c => xs0 (ix2 ⟨i.val, by omega⟩ c)) (us W x0) (n + 2 + a.val) ⟨896 + b.val, by omega⟩)
  simp only [Nat.reduceAdd, Nat.zero_add] at p
  have q := congrArg (· + W.cb ⟨896 + b.val, by omega⟩) p
  simp only [Nat.zero_add] at q ⊢

  exact q
/-- The convolution's rows 128.. in columns 896... -/
theorem conv_B_1_7 (r : Fin 256) (j : Fin 1024) (hr : 128 ≤ r.val ∧ r.val < 256) (hj : 896 ≤ j.val ∧ j.val < 1024) :
    sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1 xs2 xs3 xs4 (ix2 r j) = conv W (fun n => cx W (fun i c => xs0 (ix2 ⟨i.val, by omega⟩ c)) (us W x0) (n + 2 + r.val) j) j := by
  obtain ⟨a, rfl⟩ : ∃ a : Fin 128, r = (⟨128 + a.val, by clear hr hj; omega⟩ : Fin 256) := ⟨⟨r.val - 128, by omega⟩, Fin.ext (by simp only []; omega)⟩
  obtain ⟨b, rfl⟩ : ∃ b : Fin 128, j = (⟨896 + b.val, by clear hr hj; omega⟩ : Fin 1024) := ⟨⟨j.val - 896, by omega⟩, Fin.ext (by simp only []; omega)⟩
  clear hr hj
  unfold sout0_B_1
  refine (View.read_writes_apply_eq_canon _ _ _ _ (scover0_B_1 ..)).trans ?_
  unfold kernelRun0_B
  dsimp only
  rw [Cert.Rows.canon2_hit (Val := Elt Ideal) _ _ _ _ _ (by simp; try omega) (by simp; try omega)]
  simp only [Nat.add_sub_cancel_left, Nat.sub_zero, Nat.zero_add, Fin.eta]
  sl_unfold_run_values
  simp only [View.readAt_eq_ld, harg5.read_unread, harg6.read_unread]
  pointwise [k0_pay311, k0_pay312, k0_pay313, k0_pay314, k0_pay315, k0_pay316, k0_pay317, k0_pay318, k0_pay319, k0_pay320, k0_pay321, k0_pay322]
  simp only [Cert.Rows.ld2, Cert.Rows.readCov2, Nat.zero_add, Nat.add_zero]
  simp (disch := (simp <;> omega)) only [win_can_B_7 (hF := hF) (xs0 := xs0), win_rd_B_7 (hF := hF)]
  simp only [hF.cw, hF.cb, tap_eq, ← Nat.add_assoc, Nat.reduceAdd]
  have p := taps_phases (tap W ⟨896 + b.val, by omega⟩) (fun n => cx W (fun i c => xs0 (ix2 ⟨i.val, by omega⟩ c)) (us W x0) (n + 130 + a.val) ⟨896 + b.val, by omega⟩)
  simp only [Nat.reduceAdd, Nat.zero_add] at p
  have q := congrArg (· + W.cb ⟨896 + b.val, by omega⟩) p
  simp only [Nat.zero_add] at q ⊢

  exact q

end Cert.KernelIdeal.Mix
end
-- ==== Proof.MixB3.lean ====
module

public import proofs.«01_k».proof.Proof.Gen.KernelIdeal.Value
public import proofs.«01_k».proof.Proof.Rows
public import Idealize.ShloMosaic.Lib.Pointwise
public import Idealize.ShloMosaic.Lib.Tactic.RunNames
public import proofs.«01_k».proof.Proof.MixStep
public import proofs.«01_k».proof.Proof.MixB0
public import proofs.«01_k».proof.Proof.MixBlk2

@[expose] public section

set_option maxRecDepth 16384

noncomputable section

/-! What a step leaves: the carried window, the states, the gated heads, the normalised rows, the result (case B). -/

namespace Cert.KernelIdeal.Mix

open Cert.KernelIdeal Cert.KernelIdeal.Gen Cert.MixSpec Idealize.ShloMosaic Idealize.ShloMosaic.TcCoe Idealize.ShloMosaic.Tactic

variable (W : Wt) (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x7296 .bf16) (harg4 : arg4.IsWhole) (arg5 : Memref sig .tc .vmem S31x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x256 .f32) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S256x256 .bf16) (harg15 : arg15.IsWhole) (arg16 : Memref sig .tc .vmem S256x1024 .f32) (harg16 : arg16.IsWhole) (arg17 : Memref sig .tc .vmem S288x1024 .f32) (harg17 : arg17.IsWhole) (arg18 : Memref sig .tc .vmem S256x1024 .f32) (harg18 : arg18.IsWhole) (arg19 : Memref sig .tc .vmem S4x256x128 .f32) (harg19 : arg19.IsWhole) (arg20 : Memref sig .tc .vmem S256x1024 .bf16) (harg20 : arg20.IsWhole) (arg21 : Memref sig .tc .vmem S256x1024 .bf16) (harg21 : arg21.IsWhole) (hc0 : ¬cond0_0 i) (hc1 : ¬cond0_1 i) (x0 : Vec Ideal S256x1024 .f32) (x1 : Vec Ideal S256x1024 .f32) (x2 : Vec Ideal S1x1024 .f32) (x3 : Vec Ideal S1024x7296 .bf16) (x4 : Vec Ideal S31x1024 .f32) (x5 : Vec Ideal S1x1024 .f32) (x6 : Vec Ideal S1x1024 .f32) (x7 : Vec Ideal S1x1024 .f32) (x8 : Vec Ideal S1024x1024 .bf16) (x9 : Vec Ideal S128x512 .bf16) (x10 : Vec Ideal S1x512 .f32) (x11 : Vec Ideal S1x256 .f32) (x12 : Vec Ideal S1024x1024 .bf16) (x13 : Vec Ideal S1024x1024 .bf16) (x14 : Vec Ideal S256x256 .bf16) (xs0 : Vec Ideal S288x1024 .f32) (xs1 : Vec Ideal S256x1024 .f32) (xs2 : Vec Ideal S4x256x128 .f32) (xs3 : Vec Ideal S256x1024 .bf16) (xs4 : Vec Ideal S256x1024 .bf16)
  (hF : Fit W x2 x3 x4 x5 x6 x7 x8 x9 x10 x11 x12 x13 x14)

include hF

/-- The normalised rows. -/
theorem u_B (r : Fin 256) (j : Fin 1024) : sout0_B_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1 xs2 xs3 xs4 (ix2 r j) = us W x0 r j := by
  unfold sout0_B_4
  refine (View.read_writes_apply_eq_canon _ _ _ _ (scover0_B_4 ..)).trans ?_
  unfold kernelRun0_B
  dsimp only
  sl_unfold_run_values
  rw [Cert.Rows.canon_whole2]
  simp only [View.readAt_eq_ld, Memref.IsWhole.read_unread, Cert.Rows.ld_whole2, Cert.Rows.ld_whole3]
  rw [pay1_eq]
  exact congrFun (u_rows W x0 x2 hF.n1g r) j
set_option maxHeartbeats 2000000 in
/-- The states after the step. -/
theorem st_B (h : Fin 4) (e : Fin 256) (d : Fin 128) :
    sout0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1 xs2 xs3 xs4 (ix3 h e d) = sS W (us W x0) (fun h e d => xs2 (ix3 h e d)) 4 h e d := by
  unfold sout0_B_2
  refine (View.read_writes_apply_eq_canon _ _ _ _ (scover0_B_2 ..)).trans ?_
  unfold kernelRun0_B
  dsimp only
  obtain rfl | rfl | rfl | rfl : h = 0 ∨ h = 1 ∨ h = 2 ∨ h = 3 := by omega
  · refine (canon3_miss 3 0 (by decide) _ _ _ e d).trans ?_
    try unfold kernelRun0_B.sl.HS2_3
    refine (canon3_miss 2 0 (by decide) _ _ _ e d).trans ?_
    try unfold kernelRun0_B.sl.HS2_2
    refine (canon3_miss 1 0 (by decide) _ _ _ e d).trans ?_
    try unfold kernelRun0_B.sl.HS2_1
    refine (canon3_hit 0 0 rfl _ _ _ e d).trans ?_
    sl_unfold_run_values
    simp only [View.readAt_eq_ld, Memref.IsWhole.read_unread, Cert.Rows.ld_whole2, Cert.Rows.ld_whole3]
    exact blk_state_0 (hF := hF) (S := (fun h e d => xs2 (ix3 h e d))) (h0 := (by exact fun e d => ld3_head xs2 0 _ e d)) (e := e) (d := d) ..
  · refine (canon3_miss 3 1 (by decide) _ _ _ e d).trans ?_
    try unfold kernelRun0_B.sl.HS2_3
    refine (canon3_miss 2 1 (by decide) _ _ _ e d).trans ?_
    try unfold kernelRun0_B.sl.HS2_2
    refine (canon3_hit 1 1 rfl _ _ _ e d).trans ?_
    sl_unfold_run_values
    simp only [View.readAt_eq_ld, Memref.IsWhole.read_unread, Cert.Rows.ld_whole2, Cert.Rows.ld_whole3]
    exact blk_state_1 (hF := hF) (S := (fun h e d => xs2 (ix3 h e d))) (h0 := (by exact fun e d => ld3_head xs2 1 _ e d)) (e := e) (d := d) ..
  · refine (canon3_miss 3 2 (by decide) _ _ _ e d).trans ?_
    try unfold kernelRun0_B.sl.HS2_3
    refine (canon3_hit 2 2 rfl _ _ _ e d).trans ?_
    sl_unfold_run_values
    simp only [View.readAt_eq_ld, Memref.IsWhole.read_unread, Cert.Rows.ld_whole2, Cert.Rows.ld_whole3]
    exact blk_state_2 (hF := hF) (S := (fun h e d => xs2 (ix3 h e d))) (h0 := (by exact fun e d => ld3_head xs2 2 _ e d)) (e := e) (d := d) ..
  · refine (canon3_hit 3 3 rfl _ _ _ e d).trans ?_
    sl_unfold_run_values
    simp only [View.readAt_eq_ld, Memref.IsWhole.read_unread, Cert.Rows.ld_whole2, Cert.Rows.ld_whole3]
    exact blk_state_3 (hF := hF) (S := (fun h e d => xs2 (ix3 h e d))) (h0 := (by exact fun e d => ld3_head xs2 3 _ e d)) (e := e) (d := d) ..
/-- The gated heads of the step. -/
theorem ob_B (r : Fin 256) (j : Fin 1024) : sout0_B_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1 xs2 xs3 xs4 (ix2 r j)
      = obS W (us W x0) (fun h e d => xs2 (ix3 h e d)) ⟨r.val / 64, by omega⟩ ⟨j.val / 256, by omega⟩ ⟨r.val % 64, by omega⟩ ⟨j.val % 256, by omega⟩ := by
  unfold sout0_B_3
  refine (View.read_writes_apply_eq_canon _ _ _ _ (scover0_B_3 ..)).trans ?_
  unfold kernelRun0_B
  dsimp only
  obtain g | g | g | g : r.val < 64 ∨ (64 ≤ r.val ∧ r.val < 128) ∨ (128 ≤ r.val ∧ r.val < 192) ∨ 192 ≤ r.val := by omega
  · rw [Cert.Rows.canon2_miss_row (Val := Elt Ideal) _ _ _ _ _ (by simp; try omega)]
    try unfold kernelRun0_B.sl.HS3_3
    rw [Cert.Rows.canon2_miss_row (Val := Elt Ideal) _ _ _ _ _ (by simp; try omega)]
    try unfold kernelRun0_B.sl.HS3_2
    rw [Cert.Rows.canon2_miss_row (Val := Elt Ideal) _ _ _ _ _ (by simp; try omega)]
    try unfold kernelRun0_B.sl.HS3_1
    rw [Cert.Rows.canon2_hit (Val := Elt Ideal) _ _ _ _ _ (by simp; try omega) (by simp; try omega)]
    sl_unfold_run_values
    simp only [View.readAt_eq_ld, Memref.IsWhole.read_unread, Cert.Rows.ld_whole2, Cert.Rows.ld_whole3]
    refine (blk_heads_0 (hF := hF) (S := (fun h e d => xs2 (ix3 h e d))) (h0 := (by exact fun e d => ld3_head xs2 0 _ e d)) (h1 := (by exact fun e d => ld3_head xs2 1 _ e d)) (h2 := (by exact fun e d => ld3_head xs2 2 _ e d)) (h3 := (by exact fun e d => ld3_head xs2 3 _ e d)) ..).trans (obS_eq W (us W x0) (fun h e d => xs2 (ix3 h e d)) _ _ _ _ _ _ _ _ ?_ rfl ?_ rfl) <;> (apply Fin.ext; simp; try omega)
  · rw [Cert.Rows.canon2_miss_row (Val := Elt Ideal) _ _ _ _ _ (by simp; try omega)]
    try unfold kernelRun0_B.sl.HS3_3
    rw [Cert.Rows.canon2_miss_row (Val := Elt Ideal) _ _ _ _ _ (by simp; try omega)]
    try unfold kernelRun0_B.sl.HS3_2
    rw [Cert.Rows.canon2_hit (Val := Elt Ideal) _ _ _ _ _ (by simp; try omega) (by simp; try omega)]
    sl_unfold_run_values
    simp only [View.readAt_eq_ld, Memref.IsWhole.read_unread, Cert.Rows.ld_whole2, Cert.Rows.ld_whole3]
    refine (blk_heads_1 (hF := hF) (S := (fun h e d => xs2 (ix3 h e d))) (h0 := (by exact fun e d => ld3_head xs2 0 _ e d)) (h1 := (by exact fun e d => ld3_head xs2 1 _ e d)) (h2 := (by exact fun e d => ld3_head xs2 2 _ e d)) (h3 := (by exact fun e d => ld3_head xs2 3 _ e d)) ..).trans (obS_eq W (us W x0) (fun h e d => xs2 (ix3 h e d)) _ _ _ _ _ _ _ _ ?_ rfl ?_ rfl) <;> (apply Fin.ext; simp; try omega)
  · rw [Cert.Rows.canon2_miss_row (Val := Elt Ideal) _ _ _ _ _ (by simp; try omega)]
    try unfold kernelRun0_B.sl.HS3_3
    rw [Cert.Rows.canon2_hit (Val := Elt Ideal) _ _ _ _ _ (by simp; try omega) (by simp; try omega)]
    sl_unfold_run_values
    simp only [View.readAt_eq_ld, Memref.IsWhole.read_unread, Cert.Rows.ld_whole2, Cert.Rows.ld_whole3]
    refine (blk_heads_2 (hF := hF) (S := (fun h e d => xs2 (ix3 h e d))) (h0 := (by exact fun e d => ld3_head xs2 0 _ e d)) (h1 := (by exact fun e d => ld3_head xs2 1 _ e d)) (h2 := (by exact fun e d => ld3_head xs2 2 _ e d)) (h3 := (by exact fun e d => ld3_head xs2 3 _ e d)) ..).trans (obS_eq W (us W x0) (fun h e d => xs2 (ix3 h e d)) _ _ _ _ _ _ _ _ ?_ rfl ?_ rfl) <;> (apply Fin.ext; simp; try omega)
  · rw [Cert.Rows.canon2_hit (Val := Elt Ideal) _ _ _ _ _ (by simp; try omega) (by simp; try omega)]
    sl_unfold_run_values
    simp only [View.readAt_eq_ld, Memref.IsWhole.read_unread, Cert.Rows.ld_whole2, Cert.Rows.ld_whole3]
    refine (blk_heads_3 (hF := hF) (S := (fun h e d => xs2 (ix3 h e d))) (h0 := (by exact fun e d => ld3_head xs2 0 _ e d)) (h1 := (by exact fun e d => ld3_head xs2 1 _ e d)) (h2 := (by exact fun e d => ld3_head xs2 2 _ e d)) (h3 := (by exact fun e d => ld3_head xs2 3 _ e d)) ..).trans (obS_eq W (us W x0) (fun h e d => xs2 (ix3 h e d)) _ _ _ _ _ _ _ _ ?_ rfl ?_ rfl) <;> (apply Fin.ext; simp; try omega)
/-- The window's carried rows. -/
theorem halo_B (p : Fin 288) (j : Fin 1024) (h : p.val < 32) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1 xs2 xs3 xs4 (ix2 p j) = glu W (us W x0 ⟨224 + p.val, by omega⟩) j := by
  unfold sout0_B_0
  refine (View.read_writes_apply_eq_canon _ _ _ _ (scover0_B_0 ..)).trans ?_
  unfold kernelRun0_B
  dsimp only
  obtain g | g | g | g | g | g | g | g : j.val < 128 ∨ (128 ≤ j.val ∧ j.val < 256) ∨ (256 ≤ j.val ∧ j.val < 384) ∨ (384 ≤ j.val ∧ j.val < 512) ∨ (512 ≤ j.val ∧ j.val < 640) ∨ (640 ≤ j.val ∧ j.val < 768) ∨ (768 ≤ j.val ∧ j.val < 896) ∨ 896 ≤ j.val := by omega
  · rw [Cert.Rows.canon2_miss_col (Val := Elt Ideal) _ _ _ _ _ (by simp; try omega)]
    unfold kernelRun0_B.sl.HS0_11
    rw [Cert.Rows.canon2_miss_col (Val := Elt Ideal) _ _ _ _ _ (by simp; try omega)]
    unfold kernelRun0_B.sl.HS0_10
    rw [Cert.Rows.canon2_miss_col (Val := Elt Ideal) _ _ _ _ _ (by simp; try omega)]
    unfold kernelRun0_B.sl.HS0_9
    rw [Cert.Rows.canon2_miss_col (Val := Elt Ideal) _ _ _ _ _ (by simp; try omega)]
    unfold kernelRun0_B.sl.HS0_8
    rw [Cert.Rows.canon2_miss_col (Val := Elt Ideal) _ _ _ _ _ (by simp; try omega)]
    unfold kernelRun0_B.sl.HS0_7
    rw [Cert.Rows.canon2_miss_col (Val := Elt Ideal) _ _ _ _ _ (by simp; try omega)]
    unfold kernelRun0_B.sl.HS0_6
    rw [Cert.Rows.canon2_miss_col (Val := Elt Ideal) _ _ _ _ _ (by simp; try omega)]
    unfold kernelRun0_B.sl.HS0_5
    rw [Cert.Rows.canon2_hit (Val := Elt Ideal) _ _ _ _ _ (by simp; try omega) (by simp; try omega)]
    sl_unfold_run_values
    pointwise [k0_pay52, k0_pay78, k0_pay106, k0_pay131, k0_pay156, k0_pay183, k0_pay299, k0_pay323]
    refine (Cert.Rows.readCov2 _ _ _ _ _).trans ((win_can_B_0 (hF := hF) (xs0 := xs0) (h := by simp; try omega) ..).trans ?_)
    rw [cx_hi W _ _ _ _ (by simp; try omega) (by simp; try omega)]
    exact congrArg₂ (fun a b => glu W (us W x0 a) b) (Fin.ext (by simp; try omega)) (Fin.ext (by simp; try omega))
  · rw [Cert.Rows.canon2_miss_col (Val := Elt Ideal) _ _ _ _ _ (by simp; try omega)]
    unfold kernelRun0_B.sl.HS0_11
    rw [Cert.Rows.canon2_miss_col (Val := Elt Ideal) _ _ _ _ _ (by simp; try omega)]
    unfold kernelRun0_B.sl.HS0_10
    rw [Cert.Rows.canon2_miss_col (Val := Elt Ideal) _ _ _ _ _ (by simp; try omega)]
    unfold kernelRun0_B.sl.HS0_9
    rw [Cert.Rows.canon2_miss_col (Val := Elt Ideal) _ _ _ _ _ (by simp; try omega)]
    unfold kernelRun0_B.sl.HS0_8
    rw [Cert.Rows.canon2_miss_col (Val := Elt Ideal) _ _ _ _ _ (by simp; try omega)]
    unfold kernelRun0_B.sl.HS0_7
    rw [Cert.Rows.canon2_miss_col (Val := Elt Ideal) _ _ _ _ _ (by simp; try omega)]
    unfold kernelRun0_B.sl.HS0_6
    rw [Cert.Rows.canon2_hit (Val := Elt Ideal) _ _ _ _ _ (by simp; try omega) (by simp; try omega)]
    sl_unfold_run_values
    pointwise [k0_pay52, k0_pay78, k0_pay106, k0_pay131, k0_pay156, k0_pay183, k0_pay299, k0_pay323]
    refine (Cert.Rows.readCov2 _ _ _ _ _).trans ((win_can_B_1 (hF := hF) (xs0 := xs0) (h := by simp; try omega) ..).trans ?_)
    rw [cx_hi W _ _ _ _ (by simp; try omega) (by simp; try omega)]
    exact congrArg₂ (fun a b => glu W (us W x0 a) b) (Fin.ext (by simp; try omega)) (Fin.ext (by simp; try omega))
  · rw [Cert.Rows.canon2_miss_col (Val := Elt Ideal) _ _ _ _ _ (by simp; try omega)]
    unfold kernelRun0_B.sl.HS0_11
    rw [Cert.Rows.canon2_miss_col (Val := Elt Ideal) _ _ _ _ _ (by simp; try omega)]
    unfold kernelRun0_B.sl.HS0_10
    rw [Cert.Rows.canon2_miss_col (Val := Elt Ideal) _ _ _ _ _ (by simp; try omega)]
    unfold kernelRun0_B.sl.HS0_9
    rw [Cert.Rows.canon2_miss_col (Val := Elt Ideal) _ _ _ _ _ (by simp; try omega)]
    unfold kernelRun0_B.sl.HS0_8
    rw [Cert.Rows.canon2_miss_col (Val := Elt Ideal) _ _ _ _ _ (by simp; try omega)]
    unfold kernelRun0_B.sl.HS0_7
    rw [Cert.Rows.canon2_hit (Val := Elt Ideal) _ _ _ _ _ (by simp; try omega) (by simp; try omega)]
    sl_unfold_run_values
    pointwise [k0_pay52, k0_pay78, k0_pay106, k0_pay131, k0_pay156, k0_pay183, k0_pay299, k0_pay323]
    refine (Cert.Rows.readCov2 _ _ _ _ _).trans ((win_can_B_2 (hF := hF) (xs0 := xs0) (h := by simp; try omega) ..).trans ?_)
    rw [cx_hi W _ _ _ _ (by simp; try omega) (by simp; try omega)]
    exact congrArg₂ (fun a b => glu W (us W x0 a) b) (Fin.ext (by simp; try omega)) (Fin.ext (by simp; try omega))
  · rw [Cert.Rows.canon2_miss_col (Val := Elt Ideal) _ _ _ _ _ (by simp; try omega)]
    unfold kernelRun0_B.sl.HS0_11
    rw [Cert.Rows.canon2_miss_col (Val := Elt Ideal) _ _ _ _ _ (by simp; try omega)]
    unfold kernelRun0_B.sl.HS0_10
    rw [Cert.Rows.canon2_miss_col (Val := Elt Ideal) _ _ _ _ _ (by simp; try omega)]
    unfold kernelRun0_B.sl.HS0_9
    rw [Cert.Rows.canon2_miss_col (Val := Elt Ideal) _ _ _ _ _ (by simp; try omega)]
    unfold kernelRun0_B.sl.HS0_8
    rw [Cert.Rows.canon2_hit (Val := Elt Ideal) _ _ _ _ _ (by simp; try omega) (by simp; try omega)]
    sl_unfold_run_values
    pointwise [k0_pay52, k0_pay78, k0_pay106, k0_pay131, k0_pay156, k0_pay183, k0_pay299, k0_pay323]
    refine (Cert.Rows.readCov2 _ _ _ _ _).trans ((win_can_B_3 (hF := hF) (xs0 := xs0) (h := by simp; try omega) ..).trans ?_)
    rw [cx_hi W _ _ _ _ (by simp; try omega) (by simp; try omega)]
    exact congrArg₂ (fun a b => glu W (us W x0 a) b) (Fin.ext (by simp; try omega)) (Fin.ext (by simp; try omega))
  · rw [Cert.Rows.canon2_miss_col (Val := Elt Ideal) _ _ _ _ _ (by simp; try omega)]
    unfold kernelRun0_B.sl.HS0_11
    rw [Cert.Rows.canon2_miss_col (Val := Elt Ideal) _ _ _ _ _ (by simp; try omega)]
    unfold kernelRun0_B.sl.HS0_10
    rw [Cert.Rows.canon2_miss_col (Val := Elt Ideal) _ _ _ _ _ (by simp; try omega)]
    unfold kernelRun0_B.sl.HS0_9
    rw [Cert.Rows.canon2_hit (Val := Elt Ideal) _ _ _ _ _ (by simp; try omega) (by simp; try omega)]
    sl_unfold_run_values
    pointwise [k0_pay52, k0_pay78, k0_pay106, k0_pay131, k0_pay156, k0_pay183, k0_pay299, k0_pay323]
    refine (Cert.Rows.readCov2 _ _ _ _ _).trans ((win_can_B_4 (hF := hF) (xs0 := xs0) (h := by simp; try omega) ..).trans ?_)
    rw [cx_hi W _ _ _ _ (by simp; try omega) (by simp; try omega)]
    exact congrArg₂ (fun a b => glu W (us W x0 a) b) (Fin.ext (by simp; try omega)) (Fin.ext (by simp; try omega))
  · rw [Cert.Rows.canon2_miss_col (Val := Elt Ideal) _ _ _ _ _ (by simp; try omega)]
    unfold kernelRun0_B.sl.HS0_11
    rw [Cert.Rows.canon2_miss_col (Val := Elt Ideal) _ _ _ _ _ (by simp; try omega)]
    unfold kernelRun0_B.sl.HS0_10
    rw [Cert.Rows.canon2_hit (Val := Elt Ideal) _ _ _ _ _ (by simp; try omega) (by simp; try omega)]
    sl_unfold_run_values
    pointwise [k0_pay52, k0_pay78, k0_pay106, k0_pay131, k0_pay156, k0_pay183, k0_pay299, k0_pay323]
    refine (Cert.Rows.readCov2 _ _ _ _ _).trans ((win_can_B_5 (hF := hF) (xs0 := xs0) (h := by simp; try omega) ..).trans ?_)
    rw [cx_hi W _ _ _ _ (by simp; try omega) (by simp; try omega)]
    exact congrArg₂ (fun a b => glu W (us W x0 a) b) (Fin.ext (by simp; try omega)) (Fin.ext (by simp; try omega))
  · rw [Cert.Rows.canon2_miss_col (Val := Elt Ideal) _ _ _ _ _ (by simp; try omega)]
    unfold kernelRun0_B.sl.HS0_11
    rw [Cert.Rows.canon2_hit (Val := Elt Ideal) _ _ _ _ _ (by simp; try omega) (by simp; try omega)]
    sl_unfold_run_values
    pointwise [k0_pay52, k0_pay78, k0_pay106, k0_pay131, k0_pay156, k0_pay183, k0_pay299, k0_pay323]
    refine (Cert.Rows.readCov2 _ _ _ _ _).trans ((win_can_B_6 (hF := hF) (xs0 := xs0) (h := by simp; try omega) ..).trans ?_)
    rw [cx_hi W _ _ _ _ (by simp; try omega) (by simp; try omega)]
    exact congrArg₂ (fun a b => glu W (us W x0 a) b) (Fin.ext (by simp; try omega)) (Fin.ext (by simp; try omega))
  · rw [Cert.Rows.canon2_hit (Val := Elt Ideal) _ _ _ _ _ (by simp; try omega) (by simp; try omega)]
    sl_unfold_run_values
    pointwise [k0_pay52, k0_pay78, k0_pay106, k0_pay131, k0_pay156, k0_pay183, k0_pay299, k0_pay323]
    refine (Cert.Rows.readCov2 _ _ _ _ _).trans ((win_can_B_7 (hF := hF) (xs0 := xs0) (h := by simp; try omega) ..).trans ?_)
    rw [cx_hi W _ _ _ _ (by simp; try omega) (by simp; try omega)]
    exact congrArg₂ (fun a b => glu W (us W x0 a) b) (Fin.ext (by simp; try omega)) (Fin.ext (by simp; try omega))
/-- The result of the step before. -/
theorem out_B (r : Fin 256) (j : Fin 1024) :
    out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs0 xs1 xs2 xs3 xs4 (ix2 r j) = result W (fun k => x1 (ix2 r k)) (fun k => xs4 (ix2 r k)) (fun k => xs1 (ix2 r k)) (fun k => xs3 (ix2 r k)) j := by
  unfold out0_B_15
  refine (View.read_writes_apply_eq_canon _ _ _ _ (cover0_B_15 ..)).trans ?_
  unfold kernelRun0_B
  dsimp only
  sl_unfold_run_values
  rw [Cert.Rows.canon_whole2]
  simp only [View.readAt_eq_ld, Memref.IsWhole.read_unread, Cert.Rows.ld_whole2, Cert.Rows.ld_whole3]
  refine (out_pay W _ _ _ _ _ _ _ _ _ _ _ hF.lng hF.lnb hF.wgo hF.wco hF.wo (fun k j => wi_ld W _ hF.wi _ _ _ k j) (fun k j => wi_ld W _ hF.wi _ _ _ k j) r j)

end Cert.KernelIdeal.Mix
end
-- ==== Proof.MixC0.lean ====
module

public import proofs.«01_k».proof.Proof.Gen.KernelIdeal.Value
public import proofs.«01_k».proof.Proof.Rows
public import Idealize.ShloMosaic.Lib.Pointwise
public import Idealize.ShloMosaic.Lib.Tactic.RunNames
public import proofs.«01_k».proof.Proof.MixStep
public import proofs.«01_k».proof.Proof.MixBlk

@[expose] public section

set_option maxRecDepth 16384

noncomputable section

/-! The convolution's window of a step, after its own rows are stored and after each group of columns is carried over (case C). -/

namespace Cert.KernelIdeal.Mix

open Cert.KernelIdeal Cert.KernelIdeal.Gen Cert.MixSpec Idealize.ShloMosaic Idealize.ShloMosaic.TcCoe Idealize.ShloMosaic.Tactic

variable (W : Wt) (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x7296 .bf16) (harg4 : arg4.IsWhole) (arg5 : Memref sig .tc .vmem S31x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x256 .f32) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S256x256 .bf16) (harg15 : arg15.IsWhole) (arg16 : Memref sig .tc .vmem S256x1024 .f32) (harg16 : arg16.IsWhole) (arg17 : Memref sig .tc .vmem S288x1024 .f32) (harg17 : arg17.IsWhole) (arg18 : Memref sig .tc .vmem S256x1024 .f32) (harg18 : arg18.IsWhole) (arg19 : Memref sig .tc .vmem S4x256x128 .f32) (harg19 : arg19.IsWhole) (arg20 : Memref sig .tc .vmem S256x1024 .bf16) (harg20 : arg20.IsWhole) (arg21 : Memref sig .tc .vmem S256x1024 .bf16) (harg21 : arg21.IsWhole) (hc0 : ¬cond0_0 i) (hc1 : cond0_1 i) (x0 : Vec Ideal S256x1024 .f32) (x1 : Vec Ideal S256x1024 .f32) (x2 : Vec Ideal S1x1024 .f32) (x3 : Vec Ideal S1024x7296 .bf16) (x4 : Vec Ideal S31x1024 .f32) (x5 : Vec Ideal S1x1024 .f32) (x6 : Vec Ideal S1x1024 .f32) (x7 : Vec Ideal S1x1024 .f32) (x8 : Vec Ideal S1024x1024 .bf16) (x9 : Vec Ideal S128x512 .bf16) (x10 : Vec Ideal S1x512 .f32) (x11 : Vec Ideal S1x256 .f32) (x12 : Vec Ideal S1024x1024 .bf16) (x13 : Vec Ideal S1024x1024 .bf16) (x14 : Vec Ideal S256x256 .bf16) (xs1 : Vec Ideal S256x1024 .f32) (xs3 : Vec Ideal S256x1024 .bf16) (xs4 : Vec Ideal S256x1024 .bf16)
  (hF : Fit W x2 x3 x4 x5 x6 x7 x8 x9 x10 x11 x12 x13 x14)

include hF

/-- The step's own rows of the window. -/
theorem own_can_C (p : Fin 288) (j : Fin 1024) (h : 32 ≤ p.val) :
    View.canon (kernelRun0_C.sl.HS0_5 c arg1 harg1 arg3 harg3 arg4 harg4 x0 x2 x3) (ix2 p j) = glu W (us W x0 ⟨p.val - 32, by omega⟩) j := by
  obtain g | g | g | g : j.val < 256 ∨ (256 ≤ j.val ∧ j.val < 512) ∨ (512 ≤ j.val ∧ j.val < 768) ∨ 768 ≤ j.val := by omega
  · unfold kernelRun0_C.sl.HS0_5
    iterate 3 rw [Cert.Rows.canon2_miss_col (Val := Elt Ideal) _ _ _ _ _ (by simp; try omega)]
    rw [Cert.Rows.canon2_hit (Val := Elt Ideal) _ _ _ _ _ (by simp; try omega) (by simp; try omega)]
    sl_unfold_run_values
    simp only [View.readAt_eq_ld, harg1.read_unread, harg3.read_unread, harg4.read_unread, Cert.Rows.ld_whole2]
    refine (glu_pay_0 W _ _ _ (fun k j => ?_) (fun k j => ?_) _ _).trans ?_
    · exact wi_ld W _ hF.wi _ _ _ k j
    · exact wi_ld W _ hF.wi _ _ _ k j
    · rw [u_rows W x0 x2 hF.n1g]
      congr 1
      exact Fin.ext (by simp; try omega)
  · unfold kernelRun0_C.sl.HS0_5
    iterate 2 rw [Cert.Rows.canon2_miss_col (Val := Elt Ideal) _ _ _ _ _ (by simp; try omega)]
    rw [Cert.Rows.canon2_hit (Val := Elt Ideal) _ _ _ _ _ (by simp; try omega) (by simp; try omega)]
    sl_unfold_run_values
    simp only [View.readAt_eq_ld, harg1.read_unread, harg3.read_unread, harg4.read_unread, Cert.Rows.ld_whole2]
    refine (glu_pay_1 W _ _ _ (fun k j => ?_) (fun k j => ?_) _ _).trans ?_
    · exact wi_ld W _ hF.wi _ _ _ k j
    · exact wi_ld W _ hF.wi _ _ _ k j
    · rw [u_rows W x0 x2 hF.n1g]
      congr 1
      exact Fin.ext (by simp; try omega)
  · unfold kernelRun0_C.sl.HS0_5
    iterate 1 rw [Cert.Rows.canon2_miss_col (Val := Elt Ideal) _ _ _ _ _ (by simp; try omega)]
    rw [Cert.Rows.canon2_hit (Val := Elt Ideal) _ _ _ _ _ (by simp; try omega) (by simp; try omega)]
    sl_unfold_run_values
    simp only [View.readAt_eq_ld, harg1.read_unread, harg3.read_unread, harg4.read_unread, Cert.Rows.ld_whole2]
    refine (glu_pay_2 W _ _ _ (fun k j => ?_) (fun k j => ?_) _ _).trans ?_
    · exact wi_ld W _ hF.wi _ _ _ k j
    · exact wi_ld W _ hF.wi _ _ _ k j
    · rw [u_rows W x0 x2 hF.n1g]
      congr 1
      exact Fin.ext (by simp; try omega)
  · unfold kernelRun0_C.sl.HS0_5
    rw [Cert.Rows.canon2_hit (Val := Elt Ideal) _ _ _ _ _ (by simp; try omega) (by simp; try omega)]
    sl_unfold_run_values
    simp only [View.readAt_eq_ld, harg1.read_unread, harg3.read_unread, harg4.read_unread, Cert.Rows.ld_whole2]
    refine (glu_pay_3 W _ _ _ (fun k j => ?_) (fun k j => ?_) _ _).trans ?_
    · exact wi_ld W _ hF.wi _ _ _ k j
    · exact wi_ld W _ hF.wi _ _ _ k j
    · rw [u_rows W x0 x2 hF.n1g]
      congr 1
      exact Fin.ext (by simp; try omega)
/-- The window when 0 groups of columns are carried over. -/
theorem win_can_C_0 (p : Fin 288) (j : Fin 1024) (h : 32 ≤ p.val ∨ 0 ≤ j.val) :
    View.canon (kernelRun0_C.sl.HS0_5 c arg1 harg1 arg3 harg3 arg4 harg4 x0 x2 x3) (ix2 p j) = cx W (fun _ _ => 0) (us W x0) p.val j := by
  by_cases q : 32 ≤ p.val
  · rw [cx_hi W _ _ _ _ q (by omega)]
    exact own_can_C (hF := hF) (h := q) ..
  · rw [cx_lo W _ _ _ _ (by omega)]
    unfold kernelRun0_C.sl.HS0_5
    iterate 4 rw [Cert.Rows.canon2_miss_row (Val := Elt Ideal) _ _ _ _ _ (by simp; try omega)]
    rw [Cert.Rows.canon2_hit (Val := Elt Ideal) _ _ _ _ _ (by simp; try omega) (by simp; try omega)]
    pointwise [k0_pay5]
/-- The window when 1 groups of columns are carried over. -/
theorem win_can_C_1 (p : Fin 288) (j : Fin 1024) (h : 32 ≤ p.val ∨ 128 ≤ j.val) :
    View.canon (kernelRun0_C.sl.HS0_6 c arg1 harg1 arg3 harg3 arg4 harg4 arg17 x0 x2 x3) (ix2 p j) = cx W (fun _ _ => 0) (us W x0) p.val j := by
  unfold kernelRun0_C.sl.HS0_6
  by_cases q : 32 ≤ p.val
  · rw [Cert.Rows.canon2_miss_row (Val := Elt Ideal) _ _ _ _ _ (by simp; try omega)]
    exact win_can_C_0 (hF := hF) (h := Or.inl q) ..
  · rw [Cert.Rows.canon2_miss_col (Val := Elt Ideal) _ _ _ _ _ (by simp; try omega)]
    exact win_can_C_0 (hF := hF) (h := by omega) ..
/-- The window when 2 groups of columns are carried over. -/
theorem win_can_C_2 (p : Fin 288) (j : Fin 1024) (h : 32 ≤ p.val ∨ 256 ≤ j.val) :
    View.canon (kernelRun0_C.sl.HS0_7 c arg1 harg1 arg3 harg3 arg4 harg4 arg17 x0 x2 x3) (ix2 p j) = cx W (fun _ _ => 0) (us W x0) p.val j := by
  unfold kernelRun0_C.sl.HS0_7
  by_cases q : 32 ≤ p.val
  · rw [Cert.Rows.canon2_miss_row (Val := Elt Ideal) _ _ _ _ _ (by simp; try omega)]
    exact win_can_C_1 (hF := hF) (h := Or.inl q) ..
  · rw [Cert.Rows.canon2_miss_col (Val := Elt Ideal) _ _ _ _ _ (by simp; try omega)]
    exact win_can_C_1 (hF := hF) (h := by omega) ..
/-- The window when 3 groups of columns are carried over. -/
theorem win_can_C_3 (p : Fin 288) (j : Fin 1024) (h : 32 ≤ p.val ∨ 384 ≤ j.val) :
    View.canon (kernelRun0_C.sl.HS0_8 c arg1 harg1 arg3 harg3 arg4 harg4 arg17 x0 x2 x3) (ix2 p j) = cx W (fun _ _ => 0) (us W x0) p.val j := by
  unfold kernelRun0_C.sl.HS0_8
  by_cases q : 32 ≤ p.val
  · rw [Cert.Rows.canon2_miss_row (Val := Elt Ideal) _ _ _ _ _ (by simp; try omega)]
    exact win_can_C_2 (hF := hF) (h := Or.inl q) ..
  · rw [Cert.Rows.canon2_miss_col (Val := Elt Ideal) _ _ _ _ _ (by simp; try omega)]
    exact win_can_C_2 (hF := hF) (h := by omega) ..
/-- The window when 4 groups of columns are carried over. -/
theorem win_can_C_4 (p : Fin 288) (j : Fin 1024) (h : 32 ≤ p.val ∨ 512 ≤ j.val) :
    View.canon (kernelRun0_C.sl.HS0_9 c arg1 harg1 arg3 harg3 arg4 harg4 arg17 x0 x2 x3) (ix2 p j) = cx W (fun _ _ => 0) (us W x0) p.val j := by
  unfold kernelRun0_C.sl.HS0_9
  by_cases q : 32 ≤ p.val
  · rw [Cert.Rows.canon2_miss_row (Val := Elt Ideal) _ _ _ _ _ (by simp; try omega)]
    exact win_can_C_3 (hF := hF) (h := Or.inl q) ..
  · rw [Cert.Rows.canon2_miss_col (Val := Elt Ideal) _ _ _ _ _ (by simp; try omega)]
    exact win_can_C_3 (hF := hF) (h := by omega) ..
/-- The window when 5 groups of columns are carried over. -/
theorem win_can_C_5 (p : Fin 288) (j : Fin 1024) (h : 32 ≤ p.val ∨ 640 ≤ j.val) :
    View.canon (kernelRun0_C.sl.HS0_10 c arg1 harg1 arg3 harg3 arg4 harg4 arg17 x0 x2 x3) (ix2 p j) = cx W (fun _ _ => 0) (us W x0) p.val j := by
  unfold kernelRun0_C.sl.HS0_10
  by_cases q : 32 ≤ p.val
  · rw [Cert.Rows.canon2_miss_row (Val := Elt Ideal) _ _ _ _ _ (by simp; try omega)]
    exact win_can_C_4 (hF := hF) (h := Or.inl q) ..
  · rw [Cert.Rows.canon2_miss_col (Val := Elt Ideal) _ _ _ _ _ (by simp; try omega)]
    exact win_can_C_4 (hF := hF) (h := by omega) ..
/-- The window when 6 groups of columns are carried over. -/
theorem win_can_C_6 (p : Fin 288) (j : Fin 1024) (h : 32 ≤ p.val ∨ 768 ≤ j.val) :
    View.canon (kernelRun0_C.sl.HS0_11 c arg1 harg1 arg3 harg3 arg4 harg4 arg17 x0 x2 x3) (ix2 p j) = cx W (fun _ _ => 0) (us W x0) p.val j := by
  unfold kernelRun0_C.sl.HS0_11
  by_cases q : 32 ≤ p.val
  · rw [Cert.Rows.canon2_miss_row (Val := Elt Ideal) _ _ _ _ _ (by simp; try omega)]
    exact win_can_C_5 (hF := hF) (h := Or.inl q) ..
  · rw [Cert.Rows.canon2_miss_col (Val := Elt Ideal) _ _ _ _ _ (by simp; try omega)]
    exact win_can_C_5 (hF := hF) (h := by omega) ..
/-- The window when 7 groups of columns are carried over. -/
theorem win_can_C_7 (p : Fin 288) (j : Fin 1024) (h : 32 ≤ p.val ∨ 896 ≤ j.val) :
    View.canon (kernelRun0_C.sl.HS0_12 c arg1 harg1 arg3 harg3 arg4 harg4 arg17 x0 x2 x3) (ix2 p j) = cx W (fun _ _ => 0) (us W x0) p.val j := by
  unfold kernelRun0_C.sl.HS0_12
  by_cases q : 32 ≤ p.val
  · rw [Cert.Rows.canon2_miss_row (Val := Elt Ideal) _ _ _ _ _ (by simp; try omega)]
    exact win_can_C_6 (hF := hF) (h := Or.inl q) ..
  · rw [Cert.Rows.canon2_miss_col (Val := Elt Ideal) _ _ _ _ _ (by simp; try omega)]
    exact win_can_C_6 (hF := hF) (h := by omega) ..

end Cert.KernelIdeal.Mix
end
-- ==== Proof.MixC1.lean ====
module

public import proofs.«01_k».proof.Proof.Gen.KernelIdeal.Value
public import proofs.«01_k».proof.Proof.Rows
public import Idealize.ShloMosaic.Lib.Pointwise
public import Idealize.ShloMosaic.Lib.Tactic.RunNames
public import proofs.«01_k».proof.Proof.MixStep
public import proofs.«01_k».proof.Proof.MixC0

@[expose] public section

set_option maxRecDepth 16384

noncomputable section

/-! The convolution's rows of a step (case C). -/

namespace Cert.KernelIdeal.Mix

open Cert.KernelIdeal Cert.KernelIdeal.Gen Cert.MixSpec Idealize.ShloMosaic Idealize.ShloMosaic.TcCoe Idealize.ShloMosaic.Tactic

variable (W : Wt) (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x7296 .bf16) (harg4 : arg4.IsWhole) (arg5 : Memref sig .tc .vmem S31x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x256 .f32) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S256x256 .bf16) (harg15 : arg15.IsWhole) (arg16 : Memref sig .tc .vmem S256x1024 .f32) (harg16 : arg16.IsWhole) (arg17 : Memref sig .tc .vmem S288x1024 .f32) (harg17 : arg17.IsWhole) (arg18 : Memref sig .tc .vmem S256x1024 .f32) (harg18 : arg18.IsWhole) (arg19 : Memref sig .tc .vmem S4x256x128 .f32) (harg19 : arg19.IsWhole) (arg20 : Memref sig .tc .vmem S256x1024 .bf16) (harg20 : arg20.IsWhole) (arg21 : Memref sig .tc .vmem S256x1024 .bf16) (harg21 : arg21.IsWhole) (hc0 : ¬cond0_0 i) (hc1 : cond0_1 i) (x0 : Vec Ideal S256x1024 .f32) (x1 : Vec Ideal S256x1024 .f32) (x2 : Vec Ideal S1x1024 .f32) (x3 : Vec Ideal S1024x7296 .bf16) (x4 : Vec Ideal S31x1024 .f32) (x5 : Vec Ideal S1x1024 .f32) (x6 : Vec Ideal S1x1024 .f32) (x7 : Vec Ideal S1x1024 .f32) (x8 : Vec Ideal S1024x1024 .bf16) (x9 : Vec Ideal S128x512 .bf16) (x10 : Vec Ideal S1x512 .f32) (x11 : Vec Ideal S1x256 .f32) (x12 : Vec Ideal S1024x1024 .bf16) (x13 : Vec Ideal S1024x1024 .bf16) (x14 : Vec Ideal S256x256 .bf16) (xs1 : Vec Ideal S256x1024 .f32) (xs3 : Vec Ideal S256x1024 .bf16) (xs4 : Vec Ideal S256x1024 .bf16)
  (hF : Fit W x2 x3 x4 x5 x6 x7 x8 x9 x10 x11 x12 x13 x14)

include hF

/-- The convolution's rows 0.. in columns 0... -/
theorem conv_C_0_0 (r : Fin 256) (j : Fin 1024) (hr : 0 ≤ r.val ∧ r.val < 128) (hj : 0 ≤ j.val ∧ j.val < 128) :
    sout0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs1 xs3 xs4 (ix2 r j) = conv W (fun n => cx W (fun _ _ => 0) (us W x0) (n + 2 + r.val) j) j := by
  obtain ⟨a, rfl⟩ : ∃ a : Fin 128, r = (⟨0 + a.val, by clear hr hj; omega⟩ : Fin 256) := ⟨⟨r.val - 0, by omega⟩, Fin.ext (by simp only []; omega)⟩
  obtain ⟨b, rfl⟩ : ∃ b : Fin 128, j = (⟨0 + b.val, by clear hr hj; omega⟩ : Fin 1024) := ⟨⟨j.val - 0, by omega⟩, Fin.ext (by simp only []; omega)⟩
  clear hr hj
  unfold sout0_C_1
  refine (View.read_writes_apply_eq_canon _ _ _ _ (scover0_C_1 ..)).trans ?_
  unfold kernelRun0_C
  dsimp only
  iterate 14 rw [Cert.Rows.canon2_miss_col (Val := Elt Ideal) _ _ _ _ _ (by simp; try omega)]
  rw [Cert.Rows.canon2_miss_row (Val := Elt Ideal) _ _ _ _ _ (by simp; try omega)]
  rw [Cert.Rows.canon2_hit (Val := Elt Ideal) _ _ _ _ _ (by simp; try omega) (by simp; try omega)]
  simp only [Nat.add_sub_cancel_left, Nat.sub_zero, Nat.zero_add, Fin.eta]
  sl_unfold_run_values
  simp only [View.readAt_eq_ld, harg5.read_unread, harg6.read_unread]
  pointwise [k0_pay27, k0_pay28, k0_pay29, k0_pay30, k0_pay31, k0_pay32, k0_pay33, k0_pay34, k0_pay35, k0_pay36, k0_pay37, k0_pay38, k0_pay39]
  simp only [Cert.Rows.ld2, Cert.Rows.readCov2, Nat.zero_add, Nat.add_zero]
  simp (disch := (simp <;> omega)) only [win_can_C_0 (hF := hF)]
  simp only [hF.cw, hF.cb, tap_eq, ← Nat.add_assoc, Nat.reduceAdd]
  have p := taps_phases (tap W ⟨0 + b.val, by omega⟩) (fun n => cx W (fun _ _ => 0) (us W x0) (n + 2 + a.val) ⟨0 + b.val, by omega⟩)
  simp only [Nat.reduceAdd, Nat.zero_add] at p
  have q := congrArg (· + W.cb ⟨0 + b.val, by omega⟩) p
  simp only [Nat.zero_add] at q ⊢

  exact q
/-- The convolution's rows 128.. in columns 0... -/
theorem conv_C_1_0 (r : Fin 256) (j : Fin 1024) (hr : 128 ≤ r.val ∧ r.val < 256) (hj : 0 ≤ j.val ∧ j.val < 128) :
    sout0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs1 xs3 xs4 (ix2 r j) = conv W (fun n => cx W (fun _ _ => 0) (us W x0) (n + 2 + r.val) j) j := by
  obtain ⟨a, rfl⟩ : ∃ a : Fin 128, r = (⟨128 + a.val, by clear hr hj; omega⟩ : Fin 256) := ⟨⟨r.val - 128, by omega⟩, Fin.ext (by simp only []; omega)⟩
  obtain ⟨b, rfl⟩ : ∃ b : Fin 128, j = (⟨0 + b.val, by clear hr hj; omega⟩ : Fin 1024) := ⟨⟨j.val - 0, by omega⟩, Fin.ext (by simp only []; omega)⟩
  clear hr hj
  unfold sout0_C_1
  refine (View.read_writes_apply_eq_canon _ _ _ _ (scover0_C_1 ..)).trans ?_
  unfold kernelRun0_C
  dsimp only
  iterate 14 rw [Cert.Rows.canon2_miss_col (Val := Elt Ideal) _ _ _ _ _ (by simp; try omega)]
  rw [Cert.Rows.canon2_hit (Val := Elt Ideal) _ _ _ _ _ (by simp; try omega) (by simp; try omega)]
  simp only [Nat.add_sub_cancel_left, Nat.sub_zero, Nat.zero_add, Fin.eta]
  sl_unfold_run_values
  simp only [View.readAt_eq_ld, harg5.read_unread, harg6.read_unread]
  pointwise [k0_pay40, k0_pay41, k0_pay42, k0_pay43, k0_pay44, k0_pay45, k0_pay46, k0_pay47, k0_pay48, k0_pay49, k0_pay50, k0_pay51]
  simp only [Cert.Rows.ld2, Cert.Rows.readCov2, Nat.zero_add, Nat.add_zero]
  simp (disch := (simp <;> omega)) only [win_can_C_0 (hF := hF)]
  simp only [hF.cw, hF.cb, tap_eq, ← Nat.add_assoc, Nat.reduceAdd]
  have p := taps_phases (tap W ⟨0 + b.val, by omega⟩) (fun n => cx W (fun _ _ => 0) (us W x0) (n + 130 + a.val) ⟨0 + b.val, by omega⟩)
  simp only [Nat.reduceAdd, Nat.zero_add] at p
  have q := congrArg (· + W.cb ⟨0 + b.val, by omega⟩) p
  simp only [Nat.zero_add] at q ⊢

  exact q
/-- The convolution's rows 0.. in columns 128... -/
theorem conv_C_0_1 (r : Fin 256) (j : Fin 1024) (hr : 0 ≤ r.val ∧ r.val < 128) (hj : 128 ≤ j.val ∧ j.val < 256) :
    sout0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs1 xs3 xs4 (ix2 r j) = conv W (fun n => cx W (fun _ _ => 0) (us W x0) (n + 2 + r.val) j) j := by
  obtain ⟨a, rfl⟩ : ∃ a : Fin 128, r = (⟨0 + a.val, by clear hr hj; omega⟩ : Fin 256) := ⟨⟨r.val - 0, by omega⟩, Fin.ext (by simp only []; omega)⟩
  obtain ⟨b, rfl⟩ : ∃ b : Fin 128, j = (⟨128 + b.val, by clear hr hj; omega⟩ : Fin 1024) := ⟨⟨j.val - 128, by omega⟩, Fin.ext (by simp only []; omega)⟩
  clear hr hj
  unfold sout0_C_1
  refine (View.read_writes_apply_eq_canon _ _ _ _ (scover0_C_1 ..)).trans ?_
  unfold kernelRun0_C
  dsimp only
  iterate 12 rw [Cert.Rows.canon2_miss_col (Val := Elt Ideal) _ _ _ _ _ (by simp; try omega)]
  rw [Cert.Rows.canon2_miss_row (Val := Elt Ideal) _ _ _ _ _ (by simp; try omega)]
  rw [Cert.Rows.canon2_hit (Val := Elt Ideal) _ _ _ _ _ (by simp; try omega) (by simp; try omega)]
  simp only [Nat.add_sub_cancel_left, Nat.sub_zero, Nat.zero_add, Fin.eta]
  sl_unfold_run_values
  simp only [View.readAt_eq_ld, harg5.read_unread, harg6.read_unread]
  pointwise [k0_pay52, k0_pay53, k0_pay54, k0_pay55, k0_pay56, k0_pay57, k0_pay58, k0_pay59, k0_pay60, k0_pay61, k0_pay62]
  simp only [Cert.Rows.ld2, Cert.Rows.readCov2, Nat.zero_add, Nat.add_zero]
  simp (disch := (simp <;> omega)) only [win_can_C_1 (hF := hF)]
  simp only [hF.cw, hF.cb, tap_eq, ← Nat.add_assoc, Nat.reduceAdd]
  have p := taps_phases (tap W ⟨128 + b.val, by omega⟩) (fun n => cx W (fun _ _ => 0) (us W x0) (n + 2 + a.val) ⟨128 + b.val, by omega⟩)
  simp only [Nat.reduceAdd, Nat.zero_add] at p
  have q := congrArg (· + W.cb ⟨128 + b.val, by omega⟩) p
  simp only [Nat.zero_add] at q ⊢

  exact q
/-- The convolution's rows 128.. in columns 128... -/
theorem conv_C_1_1 (r : Fin 256) (j : Fin 1024) (hr : 128 ≤ r.val ∧ r.val < 256) (hj : 128 ≤ j.val ∧ j.val < 256) :
    sout0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs1 xs3 xs4 (ix2 r j) = conv W (fun n => cx W (fun _ _ => 0) (us W x0) (n + 2 + r.val) j) j := by
  obtain ⟨a, rfl⟩ : ∃ a : Fin 128, r = (⟨128 + a.val, by clear hr hj; omega⟩ : Fin 256) := ⟨⟨r.val - 128, by omega⟩, Fin.ext (by simp only []; omega)⟩
  obtain ⟨b, rfl⟩ : ∃ b : Fin 128, j = (⟨128 + b.val, by clear hr hj; omega⟩ : Fin 1024) := ⟨⟨j.val - 128, by omega⟩, Fin.ext (by simp only []; omega)⟩
  clear hr hj
  unfold sout0_C_1
  refine (View.read_writes_apply_eq_canon _ _ _ _ (scover0_C_1 ..)).trans ?_
  unfold kernelRun0_C
  dsimp only
  iterate 12 rw [Cert.Rows.canon2_miss_col (Val := Elt Ideal) _ _ _ _ _ (by simp; try omega)]
  rw [Cert.Rows.canon2_hit (Val := Elt Ideal) _ _ _ _ _ (by simp; try omega) (by simp; try omega)]
  simp only [Nat.add_sub_cancel_left, Nat.sub_zero, Nat.zero_add, Fin.eta]
  sl_unfold_run_values
  simp only [View.readAt_eq_ld, harg5.read_unread, harg6.read_unread]
  pointwise [k0_pay63, k0_pay64, k0_pay65, k0_pay66, k0_pay67, k0_pay68, k0_pay69, k0_pay70, k0_pay71, k0_pay72, k0_pay73, k0_pay74, k0_pay75, k0_pay76, k0_pay77]
  simp only [Cert.Rows.ld2, Cert.Rows.readCov2, Nat.zero_add, Nat.add_zero]
  simp (disch := (simp <;> omega)) only [win_can_C_1 (hF := hF)]
  simp only [hF.cw, hF.cb, tap_eq, ← Nat.add_assoc, Nat.reduceAdd]
  have p := taps_phases (tap W ⟨128 + b.val, by omega⟩) (fun n => cx W (fun _ _ => 0) (us W x0) (n + 130 + a.val) ⟨128 + b.val, by omega⟩)
  simp only [Nat.reduceAdd, Nat.zero_add] at p
  have q := congrArg (· + W.cb ⟨128 + b.val, by omega⟩) p
  simp only [Nat.zero_add] at q ⊢

  exact q
/-- The convolution's rows 0.. in columns 256... -/
theorem conv_C_0_2 (r : Fin 256) (j : Fin 1024) (hr : 0 ≤ r.val ∧ r.val < 128) (hj : 256 ≤ j.val ∧ j.val < 384) :
    sout0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs1 xs3 xs4 (ix2 r j) = conv W (fun n => cx W (fun _ _ => 0) (us W x0) (n + 2 + r.val) j) j := by
  obtain ⟨a, rfl⟩ : ∃ a : Fin 128, r = (⟨0 + a.val, by clear hr hj; omega⟩ : Fin 256) := ⟨⟨r.val - 0, by omega⟩, Fin.ext (by simp only []; omega)⟩
  obtain ⟨b, rfl⟩ : ∃ b : Fin 128, j = (⟨256 + b.val, by clear hr hj; omega⟩ : Fin 1024) := ⟨⟨j.val - 256, by omega⟩, Fin.ext (by simp only []; omega)⟩
  clear hr hj
  unfold sout0_C_1
  refine (View.read_writes_apply_eq_canon _ _ _ _ (scover0_C_1 ..)).trans ?_
  unfold kernelRun0_C
  dsimp only
  iterate 10 rw [Cert.Rows.canon2_miss_col (Val := Elt Ideal) _ _ _ _ _ (by simp; try omega)]
  rw [Cert.Rows.canon2_miss_row (Val := Elt Ideal) _ _ _ _ _ (by simp; try omega)]
  rw [Cert.Rows.canon2_hit (Val := Elt Ideal) _ _ _ _ _ (by simp; try omega) (by simp; try omega)]
  simp only [Nat.add_sub_cancel_left, Nat.sub_zero, Nat.zero_add, Fin.eta]
  sl_unfold_run_values
  simp only [View.readAt_eq_ld, harg5.read_unread, harg6.read_unread]
  pointwise [k0_pay78, k0_pay79, k0_pay80, k0_pay81, k0_pay82, k0_pay83, k0_pay84, k0_pay85, k0_pay86, k0_pay87, k0_pay88, k0_pay89, k0_pay90, k0_pay91, k0_pay92]
  simp only [Cert.Rows.ld2, Cert.Rows.readCov2, Nat.zero_add, Nat.add_zero]
  simp (disch := (simp <;> omega)) only [win_can_C_2 (hF := hF)]
  simp only [hF.cw, hF.cb, tap_eq, ← Nat.add_assoc, Nat.reduceAdd]
  have p := taps_phases (tap W ⟨256 + b.val, by omega⟩) (fun n => cx W (fun _ _ => 0) (us W x0) (n + 2 + a.val) ⟨256 + b.val, by omega⟩)
  simp only [Nat.reduceAdd, Nat.zero_add] at p
  have q := congrArg (· + W.cb ⟨256 + b.val, by omega⟩) p
  simp only [Nat.zero_add] at q ⊢

  exact q
/-- The convolution's rows 128.. in columns 256... -/
theorem conv_C_1_2 (r : Fin 256) (j : Fin 1024) (hr : 128 ≤ r.val ∧ r.val < 256) (hj : 256 ≤ j.val ∧ j.val < 384) :
    sout0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs1 xs3 xs4 (ix2 r j) = conv W (fun n => cx W (fun _ _ => 0) (us W x0) (n + 2 + r.val) j) j := by
  obtain ⟨a, rfl⟩ : ∃ a : Fin 128, r = (⟨128 + a.val, by clear hr hj; omega⟩ : Fin 256) := ⟨⟨r.val - 128, by omega⟩, Fin.ext (by simp only []; omega)⟩
  obtain ⟨b, rfl⟩ : ∃ b : Fin 128, j = (⟨256 + b.val, by clear hr hj; omega⟩ : Fin 1024) := ⟨⟨j.val - 256, by omega⟩, Fin.ext (by simp only []; omega)⟩
  clear hr hj
  unfold sout0_C_1
  refine (View.read_writes_apply_eq_canon _ _ _ _ (scover0_C_1 ..)).trans ?_
  unfold kernelRun0_C
  dsimp only
  iterate 10 rw [Cert.Rows.canon2_miss_col (Val := Elt Ideal) _ _ _ _ _ (by simp; try omega)]
  rw [Cert.Rows.canon2_hit (Val := Elt Ideal) _ _ _ _ _ (by simp; try omega) (by simp; try omega)]
  simp only [Nat.add_sub_cancel_left, Nat.sub_zero, Nat.zero_add, Fin.eta]
  sl_unfold_run_values
  simp only [View.readAt_eq_ld, harg5.read_unread, harg6.read_unread]
  pointwise [k0_pay93, k0_pay94, k0_pay95, k0_pay96, k0_pay97, k0_pay98, k0_pay99, k0_pay100, k0_pay101, k0_pay102, k0_pay103, k0_pay104, k0_pay105]
  simp only [Cert.Rows.ld2, Cert.Rows.readCov2, Nat.zero_add, Nat.add_zero]
  simp (disch := (simp <;> omega)) only [win_can_C_2 (hF := hF)]
  simp only [hF.cw, hF.cb, tap_eq, ← Nat.add_assoc, Nat.reduceAdd]
  have p := taps_phases (tap W ⟨256 + b.val, by omega⟩) (fun n => cx W (fun _ _ => 0) (us W x0) (n + 130 + a.val) ⟨256 + b.val, by omega⟩)
  simp only [Nat.reduceAdd, Nat.zero_add] at p
  have q := congrArg (· + W.cb ⟨256 + b.val, by omega⟩) p
  simp only [Nat.zero_add] at q ⊢

  exact q
/-- The convolution's rows 0.. in columns 384... -/
theorem conv_C_0_3 (r : Fin 256) (j : Fin 1024) (hr : 0 ≤ r.val ∧ r.val < 128) (hj : 384 ≤ j.val ∧ j.val < 512) :
    sout0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs1 xs3 xs4 (ix2 r j) = conv W (fun n => cx W (fun _ _ => 0) (us W x0) (n + 2 + r.val) j) j := by
  obtain ⟨a, rfl⟩ : ∃ a : Fin 128, r = (⟨0 + a.val, by clear hr hj; omega⟩ : Fin 256) := ⟨⟨r.val - 0, by omega⟩, Fin.ext (by simp only []; omega)⟩
  obtain ⟨b, rfl⟩ : ∃ b : Fin 128, j = (⟨384 + b.val, by clear hr hj; omega⟩ : Fin 1024) := ⟨⟨j.val - 384, by omega⟩, Fin.ext (by simp only []; omega)⟩
  clear hr hj
  unfold sout0_C_1
  refine (View.read_writes_apply_eq_canon _ _ _ _ (scover0_C_1 ..)).trans ?_
  unfold kernelRun0_C
  dsimp only
  iterate 8 rw [Cert.Rows.canon2_miss_col (Val := Elt Ideal) _ _ _ _ _ (by simp; try omega)]
  rw [Cert.Rows.canon2_miss_row (Val := Elt Ideal) _ _ _ _ _ (by simp; try omega)]
  rw [Cert.Rows.canon2_hit (Val := Elt Ideal) _ _ _ _ _ (by simp; try omega) (by simp; try omega)]
  simp only [Nat.add_sub_cancel_left, Nat.sub_zero, Nat.zero_add, Fin.eta]
  sl_unfold_run_values
  simp only [View.readAt_eq_ld, harg5.read_unread, harg6.read_unread]
  pointwise [k0_pay106, k0_pay107, k0_pay108, k0_pay109, k0_pay110, k0_pay111, k0_pay112, k0_pay113, k0_pay114, k0_pay115, k0_pay116, k0_pay117, k0_pay118]
  simp only [Cert.Rows.ld2, Cert.Rows.readCov2, Nat.zero_add, Nat.add_zero]
  simp (disch := (simp <;> omega)) only [win_can_C_3 (hF := hF)]
  simp only [hF.cw, hF.cb, tap_eq, ← Nat.add_assoc, Nat.reduceAdd]
  have p := taps_phases (tap W ⟨384 + b.val, by omega⟩) (fun n => cx W (fun _ _ => 0) (us W x0) (n + 2 + a.val) ⟨384 + b.val, by omega⟩)
  simp only [Nat.reduceAdd, Nat.zero_add] at p
  have q := congrArg (· + W.cb ⟨384 + b.val, by omega⟩) p
  simp only [Nat.zero_add] at q ⊢

  exact q
/-- The convolution's rows 128.. in columns 384... -/
theorem conv_C_1_3 (r : Fin 256) (j : Fin 1024) (hr : 128 ≤ r.val ∧ r.val < 256) (hj : 384 ≤ j.val ∧ j.val < 512) :
    sout0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs1 xs3 xs4 (ix2 r j) = conv W (fun n => cx W (fun _ _ => 0) (us W x0) (n + 2 + r.val) j) j := by
  obtain ⟨a, rfl⟩ : ∃ a : Fin 128, r = (⟨128 + a.val, by clear hr hj; omega⟩ : Fin 256) := ⟨⟨r.val - 128, by omega⟩, Fin.ext (by simp only []; omega)⟩
  obtain ⟨b, rfl⟩ : ∃ b : Fin 128, j = (⟨384 + b.val, by clear hr hj; omega⟩ : Fin 1024) := ⟨⟨j.val - 384, by omega⟩, Fin.ext (by simp only []; omega)⟩
  clear hr hj
  unfold sout0_C_1
  refine (View.read_writes_apply_eq_canon _ _ _ _ (scover0_C_1 ..)).trans ?_
  unfold kernelRun0_C
  dsimp only
  iterate 8 rw [Cert.Rows.canon2_miss_col (Val := Elt Ideal) _ _ _ _ _ (by simp; try omega)]
  rw [Cert.Rows.canon2_hit (Val := Elt Ideal) _ _ _ _ _ (by simp; try omega) (by simp; try omega)]
  simp only [Nat.add_sub_cancel_left, Nat.sub_zero, Nat.zero_add, Fin.eta]
  sl_unfold_run_values
  simp only [View.readAt_eq_ld, harg5.read_unread, harg6.read_unread]
  pointwise [k0_pay119, k0_pay120, k0_pay121, k0_pay122, k0_pay123, k0_pay124, k0_pay125, k0_pay126, k0_pay127, k0_pay128, k0_pay129, k0_pay130]
  simp only [Cert.Rows.ld2, Cert.Rows.readCov2, Nat.zero_add, Nat.add_zero]
  simp (disch := (simp <;> omega)) only [win_can_C_3 (hF := hF)]
  simp only [hF.cw, hF.cb, tap_eq, ← Nat.add_assoc, Nat.reduceAdd]
  have p := taps_phases (tap W ⟨384 + b.val, by omega⟩) (fun n => cx W (fun _ _ => 0) (us W x0) (n + 130 + a.val) ⟨384 + b.val, by omega⟩)
  simp only [Nat.reduceAdd, Nat.zero_add] at p
  have q := congrArg (· + W.cb ⟨384 + b.val, by omega⟩) p
  simp only [Nat.zero_add] at q ⊢

  exact q

end Cert.KernelIdeal.Mix
end
-- ==== Proof.MixC2.lean ====
module

public import proofs.«01_k».proof.Proof.Gen.KernelIdeal.Value
public import proofs.«01_k».proof.Proof.Rows
public import Idealize.ShloMosaic.Lib.Pointwise
public import Idealize.ShloMosaic.Lib.Tactic.RunNames
public import proofs.«01_k».proof.Proof.MixStep
public import proofs.«01_k».proof.Proof.MixC0

@[expose] public section

set_option maxRecDepth 16384

noncomputable section

/-! The convolution's rows of a step (case C). -/

namespace Cert.KernelIdeal.Mix

open Cert.KernelIdeal Cert.KernelIdeal.Gen Cert.MixSpec Idealize.ShloMosaic Idealize.ShloMosaic.TcCoe Idealize.ShloMosaic.Tactic

variable (W : Wt) (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x7296 .bf16) (harg4 : arg4.IsWhole) (arg5 : Memref sig .tc .vmem S31x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x256 .f32) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S256x256 .bf16) (harg15 : arg15.IsWhole) (arg16 : Memref sig .tc .vmem S256x1024 .f32) (harg16 : arg16.IsWhole) (arg17 : Memref sig .tc .vmem S288x1024 .f32) (harg17 : arg17.IsWhole) (arg18 : Memref sig .tc .vmem S256x1024 .f32) (harg18 : arg18.IsWhole) (arg19 : Memref sig .tc .vmem S4x256x128 .f32) (harg19 : arg19.IsWhole) (arg20 : Memref sig .tc .vmem S256x1024 .bf16) (harg20 : arg20.IsWhole) (arg21 : Memref sig .tc .vmem S256x1024 .bf16) (harg21 : arg21.IsWhole) (hc0 : ¬cond0_0 i) (hc1 : cond0_1 i) (x0 : Vec Ideal S256x1024 .f32) (x1 : Vec Ideal S256x1024 .f32) (x2 : Vec Ideal S1x1024 .f32) (x3 : Vec Ideal S1024x7296 .bf16) (x4 : Vec Ideal S31x1024 .f32) (x5 : Vec Ideal S1x1024 .f32) (x6 : Vec Ideal S1x1024 .f32) (x7 : Vec Ideal S1x1024 .f32) (x8 : Vec Ideal S1024x1024 .bf16) (x9 : Vec Ideal S128x512 .bf16) (x10 : Vec Ideal S1x512 .f32) (x11 : Vec Ideal S1x256 .f32) (x12 : Vec Ideal S1024x1024 .bf16) (x13 : Vec Ideal S1024x1024 .bf16) (x14 : Vec Ideal S256x256 .bf16) (xs1 : Vec Ideal S256x1024 .f32) (xs3 : Vec Ideal S256x1024 .bf16) (xs4 : Vec Ideal S256x1024 .bf16)
  (hF : Fit W x2 x3 x4 x5 x6 x7 x8 x9 x10 x11 x12 x13 x14)

include hF

/-- The convolution's rows 0.. in columns 512... -/
theorem conv_C_0_4 (r : Fin 256) (j : Fin 1024) (hr : 0 ≤ r.val ∧ r.val < 128) (hj : 512 ≤ j.val ∧ j.val < 640) :
    sout0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs1 xs3 xs4 (ix2 r j) = conv W (fun n => cx W (fun _ _ => 0) (us W x0) (n + 2 + r.val) j) j := by
  obtain ⟨a, rfl⟩ : ∃ a : Fin 128, r = (⟨0 + a.val, by clear hr hj; omega⟩ : Fin 256) := ⟨⟨r.val - 0, by omega⟩, Fin.ext (by simp only []; omega)⟩
  obtain ⟨b, rfl⟩ : ∃ b : Fin 128, j = (⟨512 + b.val, by clear hr hj; omega⟩ : Fin 1024) := ⟨⟨j.val - 512, by omega⟩, Fin.ext (by simp only []; omega)⟩
  clear hr hj
  unfold sout0_C_1
  refine (View.read_writes_apply_eq_canon _ _ _ _ (scover0_C_1 ..)).trans ?_
  unfold kernelRun0_C
  dsimp only
  iterate 6 rw [Cert.Rows.canon2_miss_col (Val := Elt Ideal) _ _ _ _ _ (by simp; try omega)]
  rw [Cert.Rows.canon2_miss_row (Val := Elt Ideal) _ _ _ _ _ (by simp; try omega)]
  rw [Cert.Rows.canon2_hit (Val := Elt Ideal) _ _ _ _ _ (by simp; try omega) (by simp; try omega)]
  simp only [Nat.add_sub_cancel_left, Nat.sub_zero, Nat.zero_add, Fin.eta]
  sl_unfold_run_values
  simp only [View.readAt_eq_ld, harg5.read_unread, harg6.read_unread]
  pointwise [k0_pay131, k0_pay132, k0_pay133, k0_pay134, k0_pay135, k0_pay136, k0_pay137, k0_pay138, k0_pay139, k0_pay140, k0_pay141, k0_pay142]
  simp only [Cert.Rows.ld2, Cert.Rows.readCov2, Nat.zero_add, Nat.add_zero]
  simp (disch := (simp <;> omega)) only [win_can_C_4 (hF := hF)]
  simp only [hF.cw, hF.cb, tap_eq, ← Nat.add_assoc, Nat.reduceAdd]
  have p := taps_phases (tap W ⟨512 + b.val, by omega⟩) (fun n => cx W (fun _ _ => 0) (us W x0) (n + 2 + a.val) ⟨512 + b.val, by omega⟩)
  simp only [Nat.reduceAdd, Nat.zero_add] at p
  have q := congrArg (· + W.cb ⟨512 + b.val, by omega⟩) p
  simp only [Nat.zero_add] at q ⊢

  exact q
/-- The convolution's rows 128.. in columns 512... -/
theorem conv_C_1_4 (r : Fin 256) (j : Fin 1024) (hr : 128 ≤ r.val ∧ r.val < 256) (hj : 512 ≤ j.val ∧ j.val < 640) :
    sout0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs1 xs3 xs4 (ix2 r j) = conv W (fun n => cx W (fun _ _ => 0) (us W x0) (n + 2 + r.val) j) j := by
  obtain ⟨a, rfl⟩ : ∃ a : Fin 128, r = (⟨128 + a.val, by clear hr hj; omega⟩ : Fin 256) := ⟨⟨r.val - 128, by omega⟩, Fin.ext (by simp only []; omega)⟩
  obtain ⟨b, rfl⟩ : ∃ b : Fin 128, j = (⟨512 + b.val, by clear hr hj; omega⟩ : Fin 1024) := ⟨⟨j.val - 512, by omega⟩, Fin.ext (by simp only []; omega)⟩
  clear hr hj
  unfold sout0_C_1
  refine (View.read_writes_apply_eq_canon _ _ _ _ (scover0_C_1 ..)).trans ?_
  unfold kernelRun0_C
  dsimp only
  iterate 6 rw [Cert.Rows.canon2_miss_col (Val := Elt Ideal) _ _ _ _ _ (by simp; try omega)]
  rw [Cert.Rows.canon2_hit (Val := Elt Ideal) _ _ _ _ _ (by simp; try omega) (by simp; try omega)]
  simp only [Nat.add_sub_cancel_left, Nat.sub_zero, Nat.zero_add, Fin.eta]
  sl_unfold_run_values
  simp only [View.readAt_eq_ld, harg5.read_unread, harg6.read_unread]
  pointwise [k0_pay143, k0_pay144, k0_pay145, k0_pay146, k0_pay147, k0_pay148, k0_pay149, k0_pay150, k0_pay151, k0_pay152, k0_pay153, k0_pay154, k0_pay155]
  simp only [Cert.Rows.ld2, Cert.Rows.readCov2, Nat.zero_add, Nat.add_zero]
  simp (disch := (simp <;> omega)) only [win_can_C_4 (hF := hF)]
  simp only [hF.cw, hF.cb, tap_eq, ← Nat.add_assoc, Nat.reduceAdd]
  have p := taps_phases (tap W ⟨512 + b.val, by omega⟩) (fun n => cx W (fun _ _ => 0) (us W x0) (n + 130 + a.val) ⟨512 + b.val, by omega⟩)
  simp only [Nat.reduceAdd, Nat.zero_add] at p
  have q := congrArg (· + W.cb ⟨512 + b.val, by omega⟩) p
  simp only [Nat.zero_add] at q ⊢

  exact q
/-- The convolution's rows 0.. in columns 640... -/
theorem conv_C_0_5 (r : Fin 256) (j : Fin 1024) (hr : 0 ≤ r.val ∧ r.val < 128) (hj : 640 ≤ j.val ∧ j.val < 768) :
    sout0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs1 xs3 xs4 (ix2 r j) = conv W (fun n => cx W (fun _ _ => 0) (us W x0) (n + 2 + r.val) j) j := by
  obtain ⟨a, rfl⟩ : ∃ a : Fin 128, r = (⟨0 + a.val, by clear hr hj; omega⟩ : Fin 256) := ⟨⟨r.val - 0, by omega⟩, Fin.ext (by simp only []; omega)⟩
  obtain ⟨b, rfl⟩ : ∃ b : Fin 128, j = (⟨640 + b.val, by clear hr hj; omega⟩ : Fin 1024) := ⟨⟨j.val - 640, by omega⟩, Fin.ext (by simp only []; omega)⟩
  clear hr hj
  unfold sout0_C_1
  refine (View.read_writes_apply_eq_canon _ _ _ _ (scover0_C_1 ..)).trans ?_
  unfold kernelRun0_C
  dsimp only
  iterate 4 rw [Cert.Rows.canon2_miss_col (Val := Elt Ideal) _ _ _ _ _ (by simp; try omega)]
  rw [Cert.Rows.canon2_miss_row (Val := Elt Ideal) _ _ _ _ _ (by simp; try omega)]
  rw [Cert.Rows.canon2_hit (Val := Elt Ideal) _ _ _ _ _ (by simp; try omega) (by simp; try omega)]
  simp only [Nat.add_sub_cancel_left, Nat.sub_zero, Nat.zero_add, Fin.eta]
  sl_unfold_run_values
  simp only [View.readAt_eq_ld, harg5.read_unread, harg6.read_unread]
  pointwise [k0_pay156, k0_pay157, k0_pay158, k0_pay159, k0_pay160, k0_pay161, k0_pay162, k0_pay163, k0_pay164, k0_pay165, k0_pay166, k0_pay167]
  simp only [Cert.Rows.ld2, Cert.Rows.readCov2, Nat.zero_add, Nat.add_zero]
  simp (disch := (simp <;> omega)) only [win_can_C_5 (hF := hF)]
  simp only [hF.cw, hF.cb, tap_eq, ← Nat.add_assoc, Nat.reduceAdd]
  have p := taps_phases (tap W ⟨640 + b.val, by omega⟩) (fun n => cx W (fun _ _ => 0) (us W x0) (n + 2 + a.val) ⟨640 + b.val, by omega⟩)
  simp only [Nat.reduceAdd, Nat.zero_add] at p
  have q := congrArg (· + W.cb ⟨640 + b.val, by omega⟩) p
  simp only [Nat.zero_add] at q ⊢

  exact q
/-- The convolution's rows 128.. in columns 640... -/
theorem conv_C_1_5 (r : Fin 256) (j : Fin 1024) (hr : 128 ≤ r.val ∧ r.val < 256) (hj : 640 ≤ j.val ∧ j.val < 768) :
    sout0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs1 xs3 xs4 (ix2 r j) = conv W (fun n => cx W (fun _ _ => 0) (us W x0) (n + 2 + r.val) j) j := by
  obtain ⟨a, rfl⟩ : ∃ a : Fin 128, r = (⟨128 + a.val, by clear hr hj; omega⟩ : Fin 256) := ⟨⟨r.val - 128, by omega⟩, Fin.ext (by simp only []; omega)⟩
  obtain ⟨b, rfl⟩ : ∃ b : Fin 128, j = (⟨640 + b.val, by clear hr hj; omega⟩ : Fin 1024) := ⟨⟨j.val - 640, by omega⟩, Fin.ext (by simp only []; omega)⟩
  clear hr hj
  unfold sout0_C_1
  refine (View.read_writes_apply_eq_canon _ _ _ _ (scover0_C_1 ..)).trans ?_
  unfold kernelRun0_C
  dsimp only
  iterate 4 rw [Cert.Rows.canon2_miss_col (Val := Elt Ideal) _ _ _ _ _ (by simp; try omega)]
  rw [Cert.Rows.canon2_hit (Val := Elt Ideal) _ _ _ _ _ (by simp; try omega) (by simp; try omega)]
  simp only [Nat.add_sub_cancel_left, Nat.sub_zero, Nat.zero_add, Fin.eta]
  sl_unfold_run_values
  simp only [View.readAt_eq_ld, harg5.read_unread, harg6.read_unread]
  pointwise [k0_pay168, k0_pay169, k0_pay170, k0_pay171, k0_pay172, k0_pay173, k0_pay174, k0_pay175, k0_pay176, k0_pay177, k0_pay178, k0_pay179, k0_pay180, k0_pay181, k0_pay182]
  simp only [Cert.Rows.ld2, Cert.Rows.readCov2, Nat.zero_add, Nat.add_zero]
  simp (disch := (simp <;> omega)) only [win_can_C_5 (hF := hF)]
  simp only [hF.cw, hF.cb, tap_eq, ← Nat.add_assoc, Nat.reduceAdd]
  have p := taps_phases (tap W ⟨640 + b.val, by omega⟩) (fun n => cx W (fun _ _ => 0) (us W x0) (n + 130 + a.val) ⟨640 + b.val, by omega⟩)
  simp only [Nat.reduceAdd, Nat.zero_add] at p
  have q := congrArg (· + W.cb ⟨640 + b.val, by omega⟩) p
  simp only [Nat.zero_add] at q ⊢

  exact q
/-- The convolution's rows 0.. in columns 768... -/
theorem conv_C_0_6 (r : Fin 256) (j : Fin 1024) (hr : 0 ≤ r.val ∧ r.val < 128) (hj : 768 ≤ j.val ∧ j.val < 896) :
    sout0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs1 xs3 xs4 (ix2 r j) = conv W (fun n => cx W (fun _ _ => 0) (us W x0) (n + 2 + r.val) j) j := by
  obtain ⟨a, rfl⟩ : ∃ a : Fin 128, r = (⟨0 + a.val, by clear hr hj; omega⟩ : Fin 256) := ⟨⟨r.val - 0, by omega⟩, Fin.ext (by simp only []; omega)⟩
  obtain ⟨b, rfl⟩ : ∃ b : Fin 128, j = (⟨768 + b.val, by clear hr hj; omega⟩ : Fin 1024) := ⟨⟨j.val - 768, by omega⟩, Fin.ext (by simp only []; omega)⟩
  clear hr hj
  unfold sout0_C_1
  refine (View.read_writes_apply_eq_canon _ _ _ _ (scover0_C_1 ..)).trans ?_
  unfold kernelRun0_C
  dsimp only
  iterate 2 rw [Cert.Rows.canon2_miss_col (Val := Elt Ideal) _ _ _ _ _ (by simp; try omega)]
  rw [Cert.Rows.canon2_miss_row (Val := Elt Ideal) _ _ _ _ _ (by simp; try omega)]
  rw [Cert.Rows.canon2_hit (Val := Elt Ideal) _ _ _ _ _ (by simp; try omega) (by simp; try omega)]
  simp only [Nat.add_sub_cancel_left, Nat.sub_zero, Nat.zero_add, Fin.eta]
  sl_unfold_run_values
  simp only [View.readAt_eq_ld, harg5.read_unread, harg6.read_unread]
  pointwise [k0_pay183, k0_pay271, k0_pay272, k0_pay273, k0_pay274, k0_pay275, k0_pay276, k0_pay277, k0_pay278, k0_pay279, k0_pay280, k0_pay281, k0_pay282, k0_pay283, k0_pay284]
  simp only [Cert.Rows.ld2, Cert.Rows.readCov2, Nat.zero_add, Nat.add_zero]
  simp (disch := (simp <;> omega)) only [win_can_C_6 (hF := hF)]
  simp only [hF.cw, hF.cb, tap_eq, ← Nat.add_assoc, Nat.reduceAdd]
  have p := taps_phases (tap W ⟨768 + b.val, by omega⟩) (fun n => cx W (fun _ _ => 0) (us W x0) (n + 2 + a.val) ⟨768 + b.val, by omega⟩)
  simp only [Nat.reduceAdd, Nat.zero_add] at p
  have q := congrArg (· + W.cb ⟨768 + b.val, by omega⟩) p
  simp only [Nat.zero_add] at q ⊢

  exact q
/-- The convolution's rows 128.. in columns 768... -/
theorem conv_C_1_6 (r : Fin 256) (j : Fin 1024) (hr : 128 ≤ r.val ∧ r.val < 256) (hj : 768 ≤ j.val ∧ j.val < 896) :
    sout0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs1 xs3 xs4 (ix2 r j) = conv W (fun n => cx W (fun _ _ => 0) (us W x0) (n + 2 + r.val) j) j := by
  obtain ⟨a, rfl⟩ : ∃ a : Fin 128, r = (⟨128 + a.val, by clear hr hj; omega⟩ : Fin 256) := ⟨⟨r.val - 128, by omega⟩, Fin.ext (by simp only []; omega)⟩
  obtain ⟨b, rfl⟩ : ∃ b : Fin 128, j = (⟨768 + b.val, by clear hr hj; omega⟩ : Fin 1024) := ⟨⟨j.val - 768, by omega⟩, Fin.ext (by simp only []; omega)⟩
  clear hr hj
  unfold sout0_C_1
  refine (View.read_writes_apply_eq_canon _ _ _ _ (scover0_C_1 ..)).trans ?_
  unfold kernelRun0_C
  dsimp only
  iterate 2 rw [Cert.Rows.canon2_miss_col (Val := Elt Ideal) _ _ _ _ _ (by simp; try omega)]
  rw [Cert.Rows.canon2_hit (Val := Elt Ideal) _ _ _ _ _ (by simp; try omega) (by simp; try omega)]
  simp only [Nat.add_sub_cancel_left, Nat.sub_zero, Nat.zero_add, Fin.eta]
  sl_unfold_run_values
  simp only [View.readAt_eq_ld, harg5.read_unread, harg6.read_unread]
  pointwise [k0_pay285, k0_pay286, k0_pay287, k0_pay288, k0_pay289, k0_pay290, k0_pay291, k0_pay292, k0_pay293, k0_pay294, k0_pay295, k0_pay296, k0_pay297, k0_pay298]
  simp only [Cert.Rows.ld2, Cert.Rows.readCov2, Nat.zero_add, Nat.add_zero]
  simp (disch := (simp <;> omega)) only [win_can_C_6 (hF := hF)]
  simp only [hF.cw, hF.cb, tap_eq, ← Nat.add_assoc, Nat.reduceAdd]
  have p := taps_phases (tap W ⟨768 + b.val, by omega⟩) (fun n => cx W (fun _ _ => 0) (us W x0) (n + 130 + a.val) ⟨768 + b.val, by omega⟩)
  simp only [Nat.reduceAdd, Nat.zero_add] at p
  have q := congrArg (· + W.cb ⟨768 + b.val, by omega⟩) p
  simp only [Nat.zero_add] at q ⊢

  exact q
/-- The convolution's rows 0.. in columns 896... -/
theorem conv_C_0_7 (r : Fin 256) (j : Fin 1024) (hr : 0 ≤ r.val ∧ r.val < 128) (hj : 896 ≤ j.val ∧ j.val < 1024) :
    sout0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs1 xs3 xs4 (ix2 r j) = conv W (fun n => cx W (fun _ _ => 0) (us W x0) (n + 2 + r.val) j) j := by
  obtain ⟨a, rfl⟩ : ∃ a : Fin 128, r = (⟨0 + a.val, by clear hr hj; omega⟩ : Fin 256) := ⟨⟨r.val - 0, by omega⟩, Fin.ext (by simp only []; omega)⟩
  obtain ⟨b, rfl⟩ : ∃ b : Fin 128, j = (⟨896 + b.val, by clear hr hj; omega⟩ : Fin 1024) := ⟨⟨j.val - 896, by omega⟩, Fin.ext (by simp only []; omega)⟩
  clear hr hj
  unfold sout0_C_1
  refine (View.read_writes_apply_eq_canon _ _ _ _ (scover0_C_1 ..)).trans ?_
  unfold kernelRun0_C
  dsimp only
  rw [Cert.Rows.canon2_miss_row (Val := Elt Ideal) _ _ _ _ _ (by simp; try omega)]
  rw [Cert.Rows.canon2_hit (Val := Elt Ideal) _ _ _ _ _ (by simp; try omega) (by simp; try omega)]
  simp only [Nat.add_sub_cancel_left, Nat.sub_zero, Nat.zero_add, Fin.eta]
  sl_unfold_run_values
  simp only [View.readAt_eq_ld, harg5.read_unread, harg6.read_unread]
  pointwise [k0_pay299, k0_pay300, k0_pay301, k0_pay302, k0_pay303, k0_pay304, k0_pay305, k0_pay306, k0_pay307, k0_pay308, k0_pay309, k0_pay310]
  simp only [Cert.Rows.ld2, Cert.Rows.readCov2, Nat.zero_add, Nat.add_zero]
  simp (disch := (simp <;> omega)) only [win_can_C_7 (hF := hF)]
  simp only [hF.cw, hF.cb, tap_eq, ← Nat.add_assoc, Nat.reduceAdd]
  have p := taps_phases (tap W ⟨896 + b.val, by omega⟩) (fun n => cx W (fun _ _ => 0) (us W x0) (n + 2 + a.val) ⟨896 + b.val, by omega⟩)
  simp only [Nat.reduceAdd, Nat.zero_add] at p
  have q := congrArg (· + W.cb ⟨896 + b.val, by omega⟩) p
  simp only [Nat.zero_add] at q ⊢

  exact q
/-- The convolution's rows 128.. in columns 896... -/
theorem conv_C_1_7 (r : Fin 256) (j : Fin 1024) (hr : 128 ≤ r.val ∧ r.val < 256) (hj : 896 ≤ j.val ∧ j.val < 1024) :
    sout0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs1 xs3 xs4 (ix2 r j) = conv W (fun n => cx W (fun _ _ => 0) (us W x0) (n + 2 + r.val) j) j := by
  obtain ⟨a, rfl⟩ : ∃ a : Fin 128, r = (⟨128 + a.val, by clear hr hj; omega⟩ : Fin 256) := ⟨⟨r.val - 128, by omega⟩, Fin.ext (by simp only []; omega)⟩
  obtain ⟨b, rfl⟩ : ∃ b : Fin 128, j = (⟨896 + b.val, by clear hr hj; omega⟩ : Fin 1024) := ⟨⟨j.val - 896, by omega⟩, Fin.ext (by simp only []; omega)⟩
  clear hr hj
  unfold sout0_C_1
  refine (View.read_writes_apply_eq_canon _ _ _ _ (scover0_C_1 ..)).trans ?_
  unfold kernelRun0_C
  dsimp only
  rw [Cert.Rows.canon2_hit (Val := Elt Ideal) _ _ _ _ _ (by simp; try omega) (by simp; try omega)]
  simp only [Nat.add_sub_cancel_left, Nat.sub_zero, Nat.zero_add, Fin.eta]
  sl_unfold_run_values
  simp only [View.readAt_eq_ld, harg5.read_unread, harg6.read_unread]
  pointwise [k0_pay311, k0_pay312, k0_pay313, k0_pay314, k0_pay315, k0_pay316, k0_pay317, k0_pay318, k0_pay319, k0_pay320, k0_pay321, k0_pay322]
  simp only [Cert.Rows.ld2, Cert.Rows.readCov2, Nat.zero_add, Nat.add_zero]
  simp (disch := (simp <;> omega)) only [win_can_C_7 (hF := hF)]
  simp only [hF.cw, hF.cb, tap_eq, ← Nat.add_assoc, Nat.reduceAdd]
  have p := taps_phases (tap W ⟨896 + b.val, by omega⟩) (fun n => cx W (fun _ _ => 0) (us W x0) (n + 130 + a.val) ⟨896 + b.val, by omega⟩)
  simp only [Nat.reduceAdd, Nat.zero_add] at p
  have q := congrArg (· + W.cb ⟨896 + b.val, by omega⟩) p
  simp only [Nat.zero_add] at q ⊢

  exact q

end Cert.KernelIdeal.Mix
end
-- ==== Proof.MixC3.lean ====
module

public import proofs.«01_k».proof.Proof.Gen.KernelIdeal.Value
public import proofs.«01_k».proof.Proof.Rows
public import Idealize.ShloMosaic.Lib.Pointwise
public import Idealize.ShloMosaic.Lib.Tactic.RunNames
public import proofs.«01_k».proof.Proof.MixStep
public import proofs.«01_k».proof.Proof.MixC0
public import proofs.«01_k».proof.Proof.MixBlk2

@[expose] public section

set_option maxRecDepth 16384

noncomputable section

/-! What a step leaves: the carried window, the states, the gated heads, the normalised rows, the result (case C). -/

namespace Cert.KernelIdeal.Mix

open Cert.KernelIdeal Cert.KernelIdeal.Gen Cert.MixSpec Idealize.ShloMosaic Idealize.ShloMosaic.TcCoe Idealize.ShloMosaic.Tactic

variable (W : Wt) (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S1x1024 .f32) (harg3 : arg3.IsWhole) (arg4 : Memref sig .tc .vmem S1024x7296 .bf16) (harg4 : arg4.IsWhole) (arg5 : Memref sig .tc .vmem S31x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1024x1024 .bf16) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x256 .f32) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S256x256 .bf16) (harg15 : arg15.IsWhole) (arg16 : Memref sig .tc .vmem S256x1024 .f32) (harg16 : arg16.IsWhole) (arg17 : Memref sig .tc .vmem S288x1024 .f32) (harg17 : arg17.IsWhole) (arg18 : Memref sig .tc .vmem S256x1024 .f32) (harg18 : arg18.IsWhole) (arg19 : Memref sig .tc .vmem S4x256x128 .f32) (harg19 : arg19.IsWhole) (arg20 : Memref sig .tc .vmem S256x1024 .bf16) (harg20 : arg20.IsWhole) (arg21 : Memref sig .tc .vmem S256x1024 .bf16) (harg21 : arg21.IsWhole) (hc0 : ¬cond0_0 i) (hc1 : cond0_1 i) (x0 : Vec Ideal S256x1024 .f32) (x1 : Vec Ideal S256x1024 .f32) (x2 : Vec Ideal S1x1024 .f32) (x3 : Vec Ideal S1024x7296 .bf16) (x4 : Vec Ideal S31x1024 .f32) (x5 : Vec Ideal S1x1024 .f32) (x6 : Vec Ideal S1x1024 .f32) (x7 : Vec Ideal S1x1024 .f32) (x8 : Vec Ideal S1024x1024 .bf16) (x9 : Vec Ideal S128x512 .bf16) (x10 : Vec Ideal S1x512 .f32) (x11 : Vec Ideal S1x256 .f32) (x12 : Vec Ideal S1024x1024 .bf16) (x13 : Vec Ideal S1024x1024 .bf16) (x14 : Vec Ideal S256x256 .bf16) (xs1 : Vec Ideal S256x1024 .f32) (xs3 : Vec Ideal S256x1024 .bf16) (xs4 : Vec Ideal S256x1024 .bf16)
  (hF : Fit W x2 x3 x4 x5 x6 x7 x8 x9 x10 x11 x12 x13 x14)

include hF

/-- The normalised rows. -/
theorem u_C (r : Fin 256) (j : Fin 1024) : sout0_C_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs1 xs3 xs4 (ix2 r j) = us W x0 r j := by
  unfold sout0_C_4
  refine (View.read_writes_apply_eq_canon _ _ _ _ (scover0_C_4 ..)).trans ?_
  unfold kernelRun0_C
  dsimp only
  sl_unfold_run_values
  rw [Cert.Rows.canon_whole2]
  simp only [View.readAt_eq_ld, Memref.IsWhole.read_unread, Cert.Rows.ld_whole2, Cert.Rows.ld_whole3]
  rw [pay1_eq]
  exact congrFun (u_rows W x0 x2 hF.n1g r) j
set_option maxHeartbeats 2000000 in
/-- The states after the step. -/
theorem st_C (h : Fin 4) (e : Fin 256) (d : Fin 128) :
    sout0_C_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs1 xs3 xs4 (ix3 h e d) = sS W (us W x0) (fun _ _ _ => 0) 4 h e d := by
  unfold sout0_C_2
  refine (View.read_writes_apply_eq_canon _ _ _ _ (scover0_C_2 ..)).trans ?_
  unfold kernelRun0_C
  dsimp only
  obtain rfl | rfl | rfl | rfl : h = 0 ∨ h = 1 ∨ h = 2 ∨ h = 3 := by omega
  · refine (canon3_miss 3 0 (by decide) _ _ _ e d).trans ?_
    try unfold kernelRun0_C.sl.HS2_4
    refine (canon3_miss 2 0 (by decide) _ _ _ e d).trans ?_
    try unfold kernelRun0_C.sl.HS2_3
    refine (canon3_miss 1 0 (by decide) _ _ _ e d).trans ?_
    try unfold kernelRun0_C.sl.HS2_2
    refine (canon3_hit 0 0 rfl _ _ _ e d).trans ?_
    sl_unfold_run_values
    simp only [View.readAt_eq_ld, Memref.IsWhole.read_unread, Cert.Rows.ld_whole2, Cert.Rows.ld_whole3]
    exact blk_state_0 (hF := hF) (S := (fun _ _ _ => 0)) (h0 := (by intro e d; refine (readCov3_head _ _ 0 _ e d).trans ?_; unfold kernelRun0_C.sl.HS2_1; rw [Cert.Rows.canon_whole3]; pointwise [k0_pay6])) (e := e) (d := d) ..
  · refine (canon3_miss 3 1 (by decide) _ _ _ e d).trans ?_
    try unfold kernelRun0_C.sl.HS2_4
    refine (canon3_miss 2 1 (by decide) _ _ _ e d).trans ?_
    try unfold kernelRun0_C.sl.HS2_3
    refine (canon3_hit 1 1 rfl _ _ _ e d).trans ?_
    sl_unfold_run_values
    simp only [View.readAt_eq_ld, Memref.IsWhole.read_unread, Cert.Rows.ld_whole2, Cert.Rows.ld_whole3]
    exact blk_state_1 (hF := hF) (S := (fun _ _ _ => 0)) (h0 := (by intro e d; refine (readCov3_head _ _ 1 _ e d).trans ?_; unfold kernelRun0_C.sl.HS2_2; refine (canon3_miss 0 1 (by decide) _ _ _ e d).trans ?_; unfold kernelRun0_C.sl.HS2_1; rw [Cert.Rows.canon_whole3]; pointwise [k0_pay6])) (e := e) (d := d) ..
  · refine (canon3_miss 3 2 (by decide) _ _ _ e d).trans ?_
    try unfold kernelRun0_C.sl.HS2_4
    refine (canon3_hit 2 2 rfl _ _ _ e d).trans ?_
    sl_unfold_run_values
    simp only [View.readAt_eq_ld, Memref.IsWhole.read_unread, Cert.Rows.ld_whole2, Cert.Rows.ld_whole3]
    exact blk_state_2 (hF := hF) (S := (fun _ _ _ => 0)) (h0 := (by intro e d; refine (readCov3_head _ _ 2 _ e d).trans ?_; unfold kernelRun0_C.sl.HS2_3; refine (canon3_miss 1 2 (by decide) _ _ _ e d).trans ?_; unfold kernelRun0_C.sl.HS2_2; refine (canon3_miss 0 2 (by decide) _ _ _ e d).trans ?_; unfold kernelRun0_C.sl.HS2_1; rw [Cert.Rows.canon_whole3]; pointwise [k0_pay6])) (e := e) (d := d) ..
  · refine (canon3_hit 3 3 rfl _ _ _ e d).trans ?_
    sl_unfold_run_values
    simp only [View.readAt_eq_ld, Memref.IsWhole.read_unread, Cert.Rows.ld_whole2, Cert.Rows.ld_whole3]
    exact blk_state_3 (hF := hF) (S := (fun _ _ _ => 0)) (h0 := (by intro e d; refine (readCov3_head _ _ 3 _ e d).trans ?_; unfold kernelRun0_C.sl.HS2_4; refine (canon3_miss 2 3 (by decide) _ _ _ e d).trans ?_; unfold kernelRun0_C.sl.HS2_3; refine (canon3_miss 1 3 (by decide) _ _ _ e d).trans ?_; unfold kernelRun0_C.sl.HS2_2; refine (canon3_miss 0 3 (by decide) _ _ _ e d).trans ?_; unfold kernelRun0_C.sl.HS2_1; rw [Cert.Rows.canon_whole3]; pointwise [k0_pay6])) (e := e) (d := d) ..
/-- The gated heads of the step. -/
theorem ob_C (r : Fin 256) (j : Fin 1024) : sout0_C_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs1 xs3 xs4 (ix2 r j)
      = obS W (us W x0) (fun _ _ _ => 0) ⟨r.val / 64, by omega⟩ ⟨j.val / 256, by omega⟩ ⟨r.val % 64, by omega⟩ ⟨j.val % 256, by omega⟩ := by
  unfold sout0_C_3
  refine (View.read_writes_apply_eq_canon _ _ _ _ (scover0_C_3 ..)).trans ?_
  unfold kernelRun0_C
  dsimp only
  obtain g | g | g | g : r.val < 64 ∨ (64 ≤ r.val ∧ r.val < 128) ∨ (128 ≤ r.val ∧ r.val < 192) ∨ 192 ≤ r.val := by omega
  · rw [Cert.Rows.canon2_miss_row (Val := Elt Ideal) _ _ _ _ _ (by simp; try omega)]
    try unfold kernelRun0_C.sl.HS3_4
    rw [Cert.Rows.canon2_miss_row (Val := Elt Ideal) _ _ _ _ _ (by simp; try omega)]
    try unfold kernelRun0_C.sl.HS3_3
    rw [Cert.Rows.canon2_miss_row (Val := Elt Ideal) _ _ _ _ _ (by simp; try omega)]
    try unfold kernelRun0_C.sl.HS3_2
    rw [Cert.Rows.canon2_hit (Val := Elt Ideal) _ _ _ _ _ (by simp; try omega) (by simp; try omega)]
    sl_unfold_run_values
    simp only [View.readAt_eq_ld, Memref.IsWhole.read_unread, Cert.Rows.ld_whole2, Cert.Rows.ld_whole3]
    refine (blk_heads_0 (hF := hF) (S := (fun _ _ _ => 0)) (h0 := (by intro e d; refine (readCov3_head _ _ 0 _ e d).trans ?_; unfold kernelRun0_C.sl.HS2_1; rw [Cert.Rows.canon_whole3]; pointwise [k0_pay6])) (h1 := (by intro e d; refine (readCov3_head _ _ 1 _ e d).trans ?_; unfold kernelRun0_C.sl.HS2_2; refine (canon3_miss 0 1 (by decide) _ _ _ e d).trans ?_; unfold kernelRun0_C.sl.HS2_1; rw [Cert.Rows.canon_whole3]; pointwise [k0_pay6])) (h2 := (by intro e d; refine (readCov3_head _ _ 2 _ e d).trans ?_; unfold kernelRun0_C.sl.HS2_3; refine (canon3_miss 1 2 (by decide) _ _ _ e d).trans ?_; unfold kernelRun0_C.sl.HS2_2; refine (canon3_miss 0 2 (by decide) _ _ _ e d).trans ?_; unfold kernelRun0_C.sl.HS2_1; rw [Cert.Rows.canon_whole3]; pointwise [k0_pay6])) (h3 := (by intro e d; refine (readCov3_head _ _ 3 _ e d).trans ?_; unfold kernelRun0_C.sl.HS2_4; refine (canon3_miss 2 3 (by decide) _ _ _ e d).trans ?_; unfold kernelRun0_C.sl.HS2_3; refine (canon3_miss 1 3 (by decide) _ _ _ e d).trans ?_; unfold kernelRun0_C.sl.HS2_2; refine (canon3_miss 0 3 (by decide) _ _ _ e d).trans ?_; unfold kernelRun0_C.sl.HS2_1; rw [Cert.Rows.canon_whole3]; pointwise [k0_pay6])) ..).trans (obS_eq W (us W x0) (fun _ _ _ => 0) _ _ _ _ _ _ _ _ ?_ rfl ?_ rfl) <;> (apply Fin.ext; simp; try omega)
  · rw [Cert.Rows.canon2_miss_row (Val := Elt Ideal) _ _ _ _ _ (by simp; try omega)]
    try unfold kernelRun0_C.sl.HS3_4
    rw [Cert.Rows.canon2_miss_row (Val := Elt Ideal) _ _ _ _ _ (by simp; try omega)]
    try unfold kernelRun0_C.sl.HS3_3
    rw [Cert.Rows.canon2_hit (Val := Elt Ideal) _ _ _ _ _ (by simp; try omega) (by simp; try omega)]
    sl_unfold_run_values
    simp only [View.readAt_eq_ld, Memref.IsWhole.read_unread, Cert.Rows.ld_whole2, Cert.Rows.ld_whole3]
    refine (blk_heads_1 (hF := hF) (S := (fun _ _ _ => 0)) (h0 := (by intro e d; refine (readCov3_head _ _ 0 _ e d).trans ?_; unfold kernelRun0_C.sl.HS2_1; rw [Cert.Rows.canon_whole3]; pointwise [k0_pay6])) (h1 := (by intro e d; refine (readCov3_head _ _ 1 _ e d).trans ?_; unfold kernelRun0_C.sl.HS2_2; refine (canon3_miss 0 1 (by decide) _ _ _ e d).trans ?_; unfold kernelRun0_C.sl.HS2_1; rw [Cert.Rows.canon_whole3]; pointwise [k0_pay6])) (h2 := (by intro e d; refine (readCov3_head _ _ 2 _ e d).trans ?_; unfold kernelRun0_C.sl.HS2_3; refine (canon3_miss 1 2 (by decide) _ _ _ e d).trans ?_; unfold kernelRun0_C.sl.HS2_2; refine (canon3_miss 0 2 (by decide) _ _ _ e d).trans ?_; unfold kernelRun0_C.sl.HS2_1; rw [Cert.Rows.canon_whole3]; pointwise [k0_pay6])) (h3 := (by intro e d; refine (readCov3_head _ _ 3 _ e d).trans ?_; unfold kernelRun0_C.sl.HS2_4; refine (canon3_miss 2 3 (by decide) _ _ _ e d).trans ?_; unfold kernelRun0_C.sl.HS2_3; refine (canon3_miss 1 3 (by decide) _ _ _ e d).trans ?_; unfold kernelRun0_C.sl.HS2_2; refine (canon3_miss 0 3 (by decide) _ _ _ e d).trans ?_; unfold kernelRun0_C.sl.HS2_1; rw [Cert.Rows.canon_whole3]; pointwise [k0_pay6])) ..).trans (obS_eq W (us W x0) (fun _ _ _ => 0) _ _ _ _ _ _ _ _ ?_ rfl ?_ rfl) <;> (apply Fin.ext; simp; try omega)
  · rw [Cert.Rows.canon2_miss_row (Val := Elt Ideal) _ _ _ _ _ (by simp; try omega)]
    try unfold kernelRun0_C.sl.HS3_4
    rw [Cert.Rows.canon2_hit (Val := Elt Ideal) _ _ _ _ _ (by simp; try omega) (by simp; try omega)]
    sl_unfold_run_values
    simp only [View.readAt_eq_ld, Memref.IsWhole.read_unread, Cert.Rows.ld_whole2, Cert.Rows.ld_whole3]
    refine (blk_heads_2 (hF := hF) (S := (fun _ _ _ => 0)) (h0 := (by intro e d; refine (readCov3_head _ _ 0 _ e d).trans ?_; unfold kernelRun0_C.sl.HS2_1; rw [Cert.Rows.canon_whole3]; pointwise [k0_pay6])) (h1 := (by intro e d; refine (readCov3_head _ _ 1 _ e d).trans ?_; unfold kernelRun0_C.sl.HS2_2; refine (canon3_miss 0 1 (by decide) _ _ _ e d).trans ?_; unfold kernelRun0_C.sl.HS2_1; rw [Cert.Rows.canon_whole3]; pointwise [k0_pay6])) (h2 := (by intro e d; refine (readCov3_head _ _ 2 _ e d).trans ?_; unfold kernelRun0_C.sl.HS2_3; refine (canon3_miss 1 2 (by decide) _ _ _ e d).trans ?_; unfold kernelRun0_C.sl.HS2_2; refine (canon3_miss 0 2 (by decide) _ _ _ e d).trans ?_; unfold kernelRun0_C.sl.HS2_1; rw [Cert.Rows.canon_whole3]; pointwise [k0_pay6])) (h3 := (by intro e d; refine (readCov3_head _ _ 3 _ e d).trans ?_; unfold kernelRun0_C.sl.HS2_4; refine (canon3_miss 2 3 (by decide) _ _ _ e d).trans ?_; unfold kernelRun0_C.sl.HS2_3; refine (canon3_miss 1 3 (by decide) _ _ _ e d).trans ?_; unfold kernelRun0_C.sl.HS2_2; refine (canon3_miss 0 3 (by decide) _ _ _ e d).trans ?_; unfold kernelRun0_C.sl.HS2_1; rw [Cert.Rows.canon_whole3]; pointwise [k0_pay6])) ..).trans (obS_eq W (us W x0) (fun _ _ _ => 0) _ _ _ _ _ _ _ _ ?_ rfl ?_ rfl) <;> (apply Fin.ext; simp; try omega)
  · rw [Cert.Rows.canon2_hit (Val := Elt Ideal) _ _ _ _ _ (by simp; try omega) (by simp; try omega)]
    sl_unfold_run_values
    simp only [View.readAt_eq_ld, Memref.IsWhole.read_unread, Cert.Rows.ld_whole2, Cert.Rows.ld_whole3]
    refine (blk_heads_3 (hF := hF) (S := (fun _ _ _ => 0)) (h0 := (by intro e d; refine (readCov3_head _ _ 0 _ e d).trans ?_; unfold kernelRun0_C.sl.HS2_1; rw [Cert.Rows.canon_whole3]; pointwise [k0_pay6])) (h1 := (by intro e d; refine (readCov3_head _ _ 1 _ e d).trans ?_; unfold kernelRun0_C.sl.HS2_2; refine (canon3_miss 0 1 (by decide) _ _ _ e d).trans ?_; unfold kernelRun0_C.sl.HS2_1; rw [Cert.Rows.canon_whole3]; pointwise [k0_pay6])) (h2 := (by intro e d; refine (readCov3_head _ _ 2 _ e d).trans ?_; unfold kernelRun0_C.sl.HS2_3; refine (canon3_miss 1 2 (by decide) _ _ _ e d).trans ?_; unfold kernelRun0_C.sl.HS2_2; refine (canon3_miss 0 2 (by decide) _ _ _ e d).trans ?_; unfold kernelRun0_C.sl.HS2_1; rw [Cert.Rows.canon_whole3]; pointwise [k0_pay6])) (h3 := (by intro e d; refine (readCov3_head _ _ 3 _ e d).trans ?_; unfold kernelRun0_C.sl.HS2_4; refine (canon3_miss 2 3 (by decide) _ _ _ e d).trans ?_; unfold kernelRun0_C.sl.HS2_3; refine (canon3_miss 1 3 (by decide) _ _ _ e d).trans ?_; unfold kernelRun0_C.sl.HS2_2; refine (canon3_miss 0 3 (by decide) _ _ _ e d).trans ?_; unfold kernelRun0_C.sl.HS2_1; rw [Cert.Rows.canon_whole3]; pointwise [k0_pay6])) ..).trans (obS_eq W (us W x0) (fun _ _ _ => 0) _ _ _ _ _ _ _ _ ?_ rfl ?_ rfl) <;> (apply Fin.ext; simp; try omega)
/-- The window's carried rows. -/
theorem halo_C (p : Fin 288) (j : Fin 1024) (h : p.val < 32) :
    sout0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs1 xs3 xs4 (ix2 p j) = glu W (us W x0 ⟨224 + p.val, by omega⟩) j := by
  unfold sout0_C_0
  refine (View.read_writes_apply_eq_canon _ _ _ _ (scover0_C_0 ..)).trans ?_
  unfold kernelRun0_C
  dsimp only
  obtain g | g | g | g | g | g | g | g : j.val < 128 ∨ (128 ≤ j.val ∧ j.val < 256) ∨ (256 ≤ j.val ∧ j.val < 384) ∨ (384 ≤ j.val ∧ j.val < 512) ∨ (512 ≤ j.val ∧ j.val < 640) ∨ (640 ≤ j.val ∧ j.val < 768) ∨ (768 ≤ j.val ∧ j.val < 896) ∨ 896 ≤ j.val := by omega
  · rw [Cert.Rows.canon2_miss_col (Val := Elt Ideal) _ _ _ _ _ (by simp; try omega)]
    unfold kernelRun0_C.sl.HS0_12
    rw [Cert.Rows.canon2_miss_col (Val := Elt Ideal) _ _ _ _ _ (by simp; try omega)]
    unfold kernelRun0_C.sl.HS0_11
    rw [Cert.Rows.canon2_miss_col (Val := Elt Ideal) _ _ _ _ _ (by simp; try omega)]
    unfold kernelRun0_C.sl.HS0_10
    rw [Cert.Rows.canon2_miss_col (Val := Elt Ideal) _ _ _ _ _ (by simp; try omega)]
    unfold kernelRun0_C.sl.HS0_9
    rw [Cert.Rows.canon2_miss_col (Val := Elt Ideal) _ _ _ _ _ (by simp; try omega)]
    unfold kernelRun0_C.sl.HS0_8
    rw [Cert.Rows.canon2_miss_col (Val := Elt Ideal) _ _ _ _ _ (by simp; try omega)]
    unfold kernelRun0_C.sl.HS0_7
    rw [Cert.Rows.canon2_miss_col (Val := Elt Ideal) _ _ _ _ _ (by simp; try omega)]
    unfold kernelRun0_C.sl.HS0_6
    rw [Cert.Rows.canon2_hit (Val := Elt Ideal) _ _ _ _ _ (by simp; try omega) (by simp; try omega)]
    sl_unfold_run_values
    pointwise [k0_pay52, k0_pay78, k0_pay106, k0_pay131, k0_pay156, k0_pay183, k0_pay299, k0_pay323]
    refine (Cert.Rows.readCov2 _ _ _ _ _).trans ((win_can_C_0 (hF := hF) (h := by left; simp; try omega) ..).trans ?_)
    rw [cx_hi W _ _ _ _ (by simp; try omega) (by simp; try omega)]
    exact congrArg₂ (fun a b => glu W (us W x0 a) b) (Fin.ext (by simp; try omega)) (Fin.ext (by simp; try omega))
  · rw [Cert.Rows.canon2_miss_col (Val := Elt Ideal) _ _ _ _ _ (by simp; try omega)]
    unfold kernelRun0_C.sl.HS0_12
    rw [Cert.Rows.canon2_miss_col (Val := Elt Ideal) _ _ _ _ _ (by simp; try omega)]
    unfold kernelRun0_C.sl.HS0_11
    rw [Cert.Rows.canon2_miss_col (Val := Elt Ideal) _ _ _ _ _ (by simp; try omega)]
    unfold kernelRun0_C.sl.HS0_10
    rw [Cert.Rows.canon2_miss_col (Val := Elt Ideal) _ _ _ _ _ (by simp; try omega)]
    unfold kernelRun0_C.sl.HS0_9
    rw [Cert.Rows.canon2_miss_col (Val := Elt Ideal) _ _ _ _ _ (by simp; try omega)]
    unfold kernelRun0_C.sl.HS0_8
    rw [Cert.Rows.canon2_miss_col (Val := Elt Ideal) _ _ _ _ _ (by simp; try omega)]
    unfold kernelRun0_C.sl.HS0_7
    rw [Cert.Rows.canon2_hit (Val := Elt Ideal) _ _ _ _ _ (by simp; try omega) (by simp; try omega)]
    sl_unfold_run_values
    pointwise [k0_pay52, k0_pay78, k0_pay106, k0_pay131, k0_pay156, k0_pay183, k0_pay299, k0_pay323]
    refine (Cert.Rows.readCov2 _ _ _ _ _).trans ((win_can_C_1 (hF := hF) (h := by left; simp; try omega) ..).trans ?_)
    rw [cx_hi W _ _ _ _ (by simp; try omega) (by simp; try omega)]
    exact congrArg₂ (fun a b => glu W (us W x0 a) b) (Fin.ext (by simp; try omega)) (Fin.ext (by simp; try omega))
  · rw [Cert.Rows.canon2_miss_col (Val := Elt Ideal) _ _ _ _ _ (by simp; try omega)]
    unfold kernelRun0_C.sl.HS0_12
    rw [Cert.Rows.canon2_miss_col (Val := Elt Ideal) _ _ _ _ _ (by simp; try omega)]
    unfold kernelRun0_C.sl.HS0_11
    rw [Cert.Rows.canon2_miss_col (Val := Elt Ideal) _ _ _ _ _ (by simp; try omega)]
    unfold kernelRun0_C.sl.HS0_10
    rw [Cert.Rows.canon2_miss_col (Val := Elt Ideal) _ _ _ _ _ (by simp; try omega)]
    unfold kernelRun0_C.sl.HS0_9
    rw [Cert.Rows.canon2_miss_col (Val := Elt Ideal) _ _ _ _ _ (by simp; try omega)]
    unfold kernelRun0_C.sl.HS0_8
    rw [Cert.Rows.canon2_hit (Val := Elt Ideal) _ _ _ _ _ (by simp; try omega) (by simp; try omega)]
    sl_unfold_run_values
    pointwise [k0_pay52, k0_pay78, k0_pay106, k0_pay131, k0_pay156, k0_pay183, k0_pay299, k0_pay323]
    refine (Cert.Rows.readCov2 _ _ _ _ _).trans ((win_can_C_2 (hF := hF) (h := by left; simp; try omega) ..).trans ?_)
    rw [cx_hi W _ _ _ _ (by simp; try omega) (by simp; try omega)]
    exact congrArg₂ (fun a b => glu W (us W x0 a) b) (Fin.ext (by simp; try omega)) (Fin.ext (by simp; try omega))
  · rw [Cert.Rows.canon2_miss_col (Val := Elt Ideal) _ _ _ _ _ (by simp; try omega)]
    unfold kernelRun0_C.sl.HS0_12
    rw [Cert.Rows.canon2_miss_col (Val := Elt Ideal) _ _ _ _ _ (by simp; try omega)]
    unfold kernelRun0_C.sl.HS0_11
    rw [Cert.Rows.canon2_miss_col (Val := Elt Ideal) _ _ _ _ _ (by simp; try omega)]
    unfold kernelRun0_C.sl.HS0_10
    rw [Cert.Rows.canon2_miss_col (Val := Elt Ideal) _ _ _ _ _ (by simp; try omega)]
    unfold kernelRun0_C.sl.HS0_9
    rw [Cert.Rows.canon2_hit (Val := Elt Ideal) _ _ _ _ _ (by simp; try omega) (by simp; try omega)]
    sl_unfold_run_values
    pointwise [k0_pay52, k0_pay78, k0_pay106, k0_pay131, k0_pay156, k0_pay183, k0_pay299, k0_pay323]
    refine (Cert.Rows.readCov2 _ _ _ _ _).trans ((win_can_C_3 (hF := hF) (h := by left; simp; try omega) ..).trans ?_)
    rw [cx_hi W _ _ _ _ (by simp; try omega) (by simp; try omega)]
    exact congrArg₂ (fun a b => glu W (us W x0 a) b) (Fin.ext (by simp; try omega)) (Fin.ext (by simp; try omega))
  · rw [Cert.Rows.canon2_miss_col (Val := Elt Ideal) _ _ _ _ _ (by simp; try omega)]
    unfold kernelRun0_C.sl.HS0_12
    rw [Cert.Rows.canon2_miss_col (Val := Elt Ideal) _ _ _ _ _ (by simp; try omega)]
    unfold kernelRun0_C.sl.HS0_11
    rw [Cert.Rows.canon2_miss_col (Val := Elt Ideal) _ _ _ _ _ (by simp; try omega)]
    unfold kernelRun0_C.sl.HS0_10
    rw [Cert.Rows.canon2_hit (Val := Elt Ideal) _ _ _ _ _ (by simp; try omega) (by simp; try omega)]
    sl_unfold_run_values
    pointwise [k0_pay52, k0_pay78, k0_pay106, k0_pay131, k0_pay156, k0_pay183, k0_pay299, k0_pay323]
    refine (Cert.Rows.readCov2 _ _ _ _ _).trans ((win_can_C_4 (hF := hF) (h := by left; simp; try omega) ..).trans ?_)
    rw [cx_hi W _ _ _ _ (by simp; try omega) (by simp; try omega)]
    exact congrArg₂ (fun a b => glu W (us W x0 a) b) (Fin.ext (by simp; try omega)) (Fin.ext (by simp; try omega))
  · rw [Cert.Rows.canon2_miss_col (Val := Elt Ideal) _ _ _ _ _ (by simp; try omega)]
    unfold kernelRun0_C.sl.HS0_12
    rw [Cert.Rows.canon2_miss_col (Val := Elt Ideal) _ _ _ _ _ (by simp; try omega)]
    unfold kernelRun0_C.sl.HS0_11
    rw [Cert.Rows.canon2_hit (Val := Elt Ideal) _ _ _ _ _ (by simp; try omega) (by simp; try omega)]
    sl_unfold_run_values
    pointwise [k0_pay52, k0_pay78, k0_pay106, k0_pay131, k0_pay156, k0_pay183, k0_pay299, k0_pay323]
    refine (Cert.Rows.readCov2 _ _ _ _ _).trans ((win_can_C_5 (hF := hF) (h := by left; simp; try omega) ..).trans ?_)
    rw [cx_hi W _ _ _ _ (by simp; try omega) (by simp; try omega)]
    exact congrArg₂ (fun a b => glu W (us W x0 a) b) (Fin.ext (by simp; try omega)) (Fin.ext (by simp; try omega))
  · rw [Cert.Rows.canon2_miss_col (Val := Elt Ideal) _ _ _ _ _ (by simp; try omega)]
    unfold kernelRun0_C.sl.HS0_12
    rw [Cert.Rows.canon2_hit (Val := Elt Ideal) _ _ _ _ _ (by simp; try omega) (by simp; try omega)]
    sl_unfold_run_values
    pointwise [k0_pay52, k0_pay78, k0_pay106, k0_pay131, k0_pay156, k0_pay183, k0_pay299, k0_pay323]
    refine (Cert.Rows.readCov2 _ _ _ _ _).trans ((win_can_C_6 (hF := hF) (h := by left; simp; try omega) ..).trans ?_)
    rw [cx_hi W _ _ _ _ (by simp; try omega) (by simp; try omega)]
    exact congrArg₂ (fun a b => glu W (us W x0 a) b) (Fin.ext (by simp; try omega)) (Fin.ext (by simp; try omega))
  · rw [Cert.Rows.canon2_hit (Val := Elt Ideal) _ _ _ _ _ (by simp; try omega) (by simp; try omega)]
    sl_unfold_run_values
    pointwise [k0_pay52, k0_pay78, k0_pay106, k0_pay131, k0_pay156, k0_pay183, k0_pay299, k0_pay323]
    refine (Cert.Rows.readCov2 _ _ _ _ _).trans ((win_can_C_7 (hF := hF) (h := by left; simp; try omega) ..).trans ?_)
    rw [cx_hi W _ _ _ _ (by simp; try omega) (by simp; try omega)]
    exact congrArg₂ (fun a b => glu W (us W x0 a) b) (Fin.ext (by simp; try omega)) (Fin.ext (by simp; try omega))
/-- The result of the step before. -/
theorem out_C (r : Fin 256) (j : Fin 1024) :
    out0_C_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 hc1 x0 x1 x2 x3 x4 x5 x6 x7 x8 x9 x10 x11 x12 x13 x14 xs1 xs3 xs4 (ix2 r j) = result W (fun k => x1 (ix2 r k)) (fun k => xs4 (ix2 r k)) (fun k => xs1 (ix2 r k)) (fun k => xs3 (ix2 r k)) j := by
  unfold out0_C_15
  refine (View.read_writes_apply_eq_canon _ _ _ _ (cover0_C_15 ..)).trans ?_
  unfold kernelRun0_C
  dsimp only
  sl_unfold_run_values
  rw [Cert.Rows.canon_whole2]
  simp only [View.readAt_eq_ld, Memref.IsWhole.read_unread, Cert.Rows.ld_whole2, Cert.Rows.ld_whole3]
  refine (out_pay W _ _ _ _ _ _ _ _ _ _ _ hF.lng hF.lnb hF.wgo hF.wco hF.wo (fun k j => wi_ld W _ hF.wi _ _ _ k j) (fun k j => wi_ld W _ hF.wi _ _ _ k j) r j)

end Cert.KernelIdeal.Mix
end
-- ==== Proof.MixPoint.lean ====
module

public import proofs.«01_k».proof.Proof.MixPtA
public import proofs.«01_k».proof.Proof.MixA1
public import proofs.«01_k».proof.Proof.MixA2
public import proofs.«01_k».proof.Proof.MixA3
public import proofs.«01_k».proof.Proof.MixB1
public import proofs.«01_k».proof.Proof.MixB2
public import proofs.«01_k».proof.Proof.MixB3
public import proofs.«01_k».proof.Proof.MixC1
public import proofs.«01_k».proof.Proof.MixC2
public import proofs.«01_k».proof.Proof.MixC3

@[expose] public section

set_option maxRecDepth 16384

noncomputable section

/-! What each point leaves, token by token. -/

namespace Cert.KernelIdeal.Mix

open Cert.KernelIdeal Cert.KernelIdeal.Gen Cert.MixSpec Idealize.ShloMosaic Idealize.ShloMosaic.TcCoe Idealize.ShloMosaic.Tactic

variable (m : (ℓ : Loc nD τ sig) → Buf (Elt Ideal) ℓ)

theorem fit (c : Dev nD) (t : Fin cfg0.N) : Fit (wt m c) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t) (iblk m c 14 t) where
  n1g k := (blk2 m c t 0 k).trans (v12 m c k)
  wi k j := (blk3 m c t k j).trans (v6 m c k j)
  cw k j := (blk4 m c t k j).trans (v13 m c k j)
  cb k := (blk5 m c t 0 k).trans (v15 m c k)
  lng k := (blk6 m c t 0 k).trans (v17 m c k)
  lnb k := (blk7 m c t 0 k).trans (v19 m c k)
  wco k j := (blk8 m c t k j).trans (v21 m c k j)
  wu k j := (blk9 m c t k j).trans (v9 m c k j)
  bg k := (blk10 m c t 0 k).trans (v23 m c k)
  gng k := (blk11 m c t 0 k).trans (v25 m c k)
  wgo k j := (blk12 m c t k j).trans (v27 m c k j)
  wo k j := (blk13 m c t k j).trans (v29 m c k j)
  tri k j := (blk14 m c t k j).trans (vcst m c k j)

/-- The token rows of a point's block. -/
theorem us_pt (c : Dev nD) (t : Fin cfg0.N) (ht : t.val < 64) (r : Fin 256) :
    us (wt m c) (iblk m c 0 t) r = U (wt m c) (Xs m c) (256 * t.val + r.val) := by
  unfold us U
  congr 1
  funext k
  rw [blk0 m c t r k ⟨256 * t.val + r.val, by omega⟩ (by show 256 * t.val + r.val = _; omega), v10]

/-- The rows the result of a point is added to. -/
theorem x1_pt (c : Dev nD) (t : Fin cfg0.N) (r : Fin 256) :
    (fun k => (iblk m c 1 t : Vec Ideal S256x1024 .f32) (ix2 r k)) = Xs m c (256 * (t.val - 1) + r.val) := by
  funext k
  have hN : t.val < 65 := lt_of_lt_of_eq t.isLt N_0
  rw [blk1 m c t r k ⟨256 * (t.val - 1) + r.val, by omega⟩ rfl, v10]

/-- A statement about every row and column from its sixteen pieces. -/
theorem pieces {P : Fin 256 → Fin 1024 → Prop}
    (h00 : ∀ (r : Fin 256) (j : Fin 1024), 0 ≤ r.val ∧ r.val < 128 → 0 ≤ j.val ∧ j.val < 128 → P r j)
    (h10 : ∀ (r : Fin 256) (j : Fin 1024), 128 ≤ r.val ∧ r.val < 256 → 0 ≤ j.val ∧ j.val < 128 → P r j)
    (h01 : ∀ (r : Fin 256) (j : Fin 1024), 0 ≤ r.val ∧ r.val < 128 → 128 ≤ j.val ∧ j.val < 256 → P r j)
    (h11 : ∀ (r : Fin 256) (j : Fin 1024), 128 ≤ r.val ∧ r.val < 256 → 128 ≤ j.val ∧ j.val < 256 → P r j)
    (h02 : ∀ (r : Fin 256) (j : Fin 1024), 0 ≤ r.val ∧ r.val < 128 → 256 ≤ j.val ∧ j.val < 384 → P r j)
    (h12 : ∀ (r : Fin 256) (j : Fin 1024), 128 ≤ r.val ∧ r.val < 256 → 256 ≤ j.val ∧ j.val < 384 → P r j)
    (h03 : ∀ (r : Fin 256) (j : Fin 1024), 0 ≤ r.val ∧ r.val < 128 → 384 ≤ j.val ∧ j.val < 512 → P r j)
    (h13 : ∀ (r : Fin 256) (j : Fin 1024), 128 ≤ r.val ∧ r.val < 256 → 384 ≤ j.val ∧ j.val < 512 → P r j)
    (h04 : ∀ (r : Fin 256) (j : Fin 1024), 0 ≤ r.val ∧ r.val < 128 → 512 ≤ j.val ∧ j.val < 640 → P r j)
    (h14 : ∀ (r : Fin 256) (j : Fin 1024), 128 ≤ r.val ∧ r.val < 256 → 512 ≤ j.val ∧ j.val < 640 → P r j)
    (h05 : ∀ (r : Fin 256) (j : Fin 1024), 0 ≤ r.val ∧ r.val < 128 → 640 ≤ j.val ∧ j.val < 768 → P r j)
    (h15 : ∀ (r : Fin 256) (j : Fin 1024), 128 ≤ r.val ∧ r.val < 256 → 640 ≤ j.val ∧ j.val < 768 → P r j)
    (h06 : ∀ (r : Fin 256) (j : Fin 1024), 0 ≤ r.val ∧ r.val < 128 → 768 ≤ j.val ∧ j.val < 896 → P r j)
    (h16 : ∀ (r : Fin 256) (j : Fin 1024), 128 ≤ r.val ∧ r.val < 256 → 768 ≤ j.val ∧ j.val < 896 → P r j)
    (h07 : ∀ (r : Fin 256) (j : Fin 1024), 0 ≤ r.val ∧ r.val < 128 → 896 ≤ j.val ∧ j.val < 1024 → P r j)
    (h17 : ∀ (r : Fin 256) (j : Fin 1024), 128 ≤ r.val ∧ r.val < 256 → 896 ≤ j.val ∧ j.val < 1024 → P r j)
    (r : Fin 256) (j : Fin 1024) : P r j :=
  if j0 : j.val < 128 then (if h : r.val < 128 then h00 r j ⟨Nat.zero_le _, h⟩ ⟨Nat.zero_le _, j0⟩ else h10 r j ⟨not_lt.mp h, r.isLt⟩ ⟨Nat.zero_le _, j0⟩) else
  if j1 : j.val < 256 then (if h : r.val < 128 then h01 r j ⟨Nat.zero_le _, h⟩ ⟨not_lt.mp j0, j1⟩ else h11 r j ⟨not_lt.mp h, r.isLt⟩ ⟨not_lt.mp j0, j1⟩) else
  if j2 : j.val < 384 then (if h : r.val < 128 then h02 r j ⟨Nat.zero_le _, h⟩ ⟨not_lt.mp j1, j2⟩ else h12 r j ⟨not_lt.mp h, r.isLt⟩ ⟨not_lt.mp j1, j2⟩) else
  if j3 : j.val < 512 then (if h : r.val < 128 then h03 r j ⟨Nat.zero_le _, h⟩ ⟨not_lt.mp j2, j3⟩ else h13 r j ⟨not_lt.mp h, r.isLt⟩ ⟨not_lt.mp j2, j3⟩) else
  if j4 : j.val < 640 then (if h : r.val < 128 then h04 r j ⟨Nat.zero_le _, h⟩ ⟨not_lt.mp j3, j4⟩ else h14 r j ⟨not_lt.mp h, r.isLt⟩ ⟨not_lt.mp j3, j4⟩) else
  if j5 : j.val < 768 then (if h : r.val < 128 then h05 r j ⟨Nat.zero_le _, h⟩ ⟨not_lt.mp j4, j5⟩ else h15 r j ⟨not_lt.mp h, r.isLt⟩ ⟨not_lt.mp j4, j5⟩) else
  if j6 : j.val < 896 then (if h : r.val < 128 then h06 r j ⟨Nat.zero_le _, h⟩ ⟨not_lt.mp j5, j6⟩ else h16 r j ⟨not_lt.mp h, r.isLt⟩ ⟨not_lt.mp j5, j6⟩) else
  (if h : r.val < 128 then h07 r j ⟨Nat.zero_le _, h⟩ ⟨not_lt.mp j6, j.isLt⟩ else h17 r j ⟨not_lt.mp h, r.isLt⟩ ⟨not_lt.mp j6, j.isLt⟩)

/-- What the points up to a point leave, token by token. -/
structure Inv (c : Dev nD) (n : ℕ) (hn : n < cfg0.N) : Prop where
  halo : ∀ (p : Fin 32) (j : Fin 1024), (outsAt0 m c n hn).2.1 (ix2 (⟨p.val, by omega⟩ : Fin 288) j) = glu (wt m c) (U (wt m c) (Xs m c) (256 * n + (224 + p.val))) j
  conv : ∀ (r : Fin 256) (j : Fin 1024), (outsAt0 m c n hn).2.2.1 (ix2 r j) = A (wt m c) (Xs m c) (256 * n + r.val) j
  st : ∀ (h : Fin 4) (e : Fin 256) (d : Fin 128), (outsAt0 m c n hn).2.2.2.1 (ix3 h e d) = after (wt m c) (Xs m c) (4 * n + 3) (S (wt m c) (Xs m c) (4 * n + 3)) h e d
  ob : ∀ (r : Fin 256) (j : Fin 1024), (outsAt0 m c n hn).2.2.2.2.1 (ix2 r j) = O (wt m c) (Xs m c) (256 * n + r.val) j
  u : ∀ (r : Fin 256) (j : Fin 1024), (outsAt0 m c n hn).2.2.2.2.2 (ix2 r j) = U (wt m c) (Xs m c) (256 * n + r.val) j

theorem S_zero (W : Wt) (X : ℕ → Fin 1024 → EReal) (n : ℕ) (h : n % 128 = 0) : (fun _ _ _ => (0 : EReal)) = S W X n := by
  cases n with
  | zero => rfl
  | succ k => rw [S, if_pos h]

theorem inv_A (c : Dev nD) (t : Fin cfg0.N) (ht : t.val < 64) (h0 : t.val % 65 = 0) (h1 : t.val % 32 = 0) : Inv m c t.val t.isLt where
  halo p j := by
    rw [outsAt0_A m c t h0 h1]
    dsimp only
    exact (halo_A (hF := fit m c t) (p := ⟨p.val, by omega⟩) (j := j) (h := p.isLt) ..).trans (by rw [us_pt m c t ht])
  conv r j := by
    rw [outsAt0_A m c t h0 h1]
    dsimp only
    refine Eq.trans ?_ (conv_seq (wt m c) (Xs m c) t.val (us (wt m c) (iblk m c 0 t)) (us_pt m c t ht) (fun _ _ => 0) (fun _ => rfl) (fun h => absurd h1 h) r j)
    revert r j
    exact pieces
      (fun r j hr hj => conv_A_0_0 (hF := fit m c t) (r := r) (j := j) (hr := hr) (hj := hj) ..)
      (fun r j hr hj => conv_A_1_0 (hF := fit m c t) (r := r) (j := j) (hr := hr) (hj := hj) ..)
      (fun r j hr hj => conv_A_0_1 (hF := fit m c t) (r := r) (j := j) (hr := hr) (hj := hj) ..)
      (fun r j hr hj => conv_A_1_1 (hF := fit m c t) (r := r) (j := j) (hr := hr) (hj := hj) ..)
      (fun r j hr hj => conv_A_0_2 (hF := fit m c t) (r := r) (j := j) (hr := hr) (hj := hj) ..)
      (fun r j hr hj => conv_A_1_2 (hF := fit m c t) (r := r) (j := j) (hr := hr) (hj := hj) ..)
      (fun r j hr hj => conv_A_0_3 (hF := fit m c t) (r := r) (j := j) (hr := hr) (hj := hj) ..)
      (fun r j hr hj => conv_A_1_3 (hF := fit m c t) (r := r) (j := j) (hr := hr) (hj := hj) ..)
      (fun r j hr hj => conv_A_0_4 (hF := fit m c t) (r := r) (j := j) (hr := hr) (hj := hj) ..)
      (fun r j hr hj => conv_A_1_4 (hF := fit m c t) (r := r) (j := j) (hr := hr) (hj := hj) ..)
      (fun r j hr hj => conv_A_0_5 (hF := fit m c t) (r := r) (j := j) (hr := hr) (hj := hj) ..)
      (fun r j hr hj => conv_A_1_5 (hF := fit m c t) (r := r) (j := j) (hr := hr) (hj := hj) ..)
      (fun r j hr hj => conv_A_0_6 (hF := fit m c t) (r := r) (j := j) (hr := hr) (hj := hj) ..)
      (fun r j hr hj => conv_A_1_6 (hF := fit m c t) (r := r) (j := j) (hr := hr) (hj := hj) ..)
      (fun r j hr hj => conv_A_0_7 (hF := fit m c t) (r := r) (j := j) (hr := hr) (hj := hj) ..)
      (fun r j hr hj => conv_A_1_7 (hF := fit m c t) (r := r) (j := j) (hr := hr) (hj := hj) ..)
  st h e d := by
    rw [outsAt0_A m c t h0 h1]
    dsimp only
    refine (st_A (hF := fit m c t) (h := h) (e := e) (d := d) ..).trans ?_
    rw [sS_end (wt m c) (Xs m c) t.val _ (us_pt m c t ht) _ (S_zero _ _ _ (by omega))]
  ob r j := by
    rw [outsAt0_A m c t h0 h1]
    dsimp only
    exact (ob_A (hF := fit m c t) (r := r) (j := j) ..).trans (obS_seq (wt m c) (Xs m c) t.val _ (us_pt m c t ht) _ (S_zero _ _ _ (by omega)) r j)
  u r j := by
    rw [outsAt0_A m c t h0 h1]
    dsimp only
    exact (u_A (hF := fit m c t) (r := r) (j := j) ..).trans (by rw [us_pt m c t ht])

theorem inv_C (c : Dev nD) (t : Fin cfg0.N) (ht : t.val < 64) (h0 : ¬t.val % 65 = 0) (h1 : t.val % 32 = 0) : Inv m c t.val t.isLt where
  halo p j := by
    rw [outsAt0_C m c t h0 h1]
    dsimp only
    exact (halo_C (hF := fit m c t) (p := ⟨p.val, by omega⟩) (j := j) (h := p.isLt) ..).trans (by rw [us_pt m c t ht])
  conv r j := by
    rw [outsAt0_C m c t h0 h1]
    dsimp only
    refine Eq.trans ?_ (conv_seq (wt m c) (Xs m c) t.val (us (wt m c) (iblk m c 0 t)) (us_pt m c t ht) (fun _ _ => 0) (fun _ => rfl) (fun h => absurd h1 h) r j)
    revert r j
    exact pieces
      (fun r j hr hj => conv_C_0_0 (hF := fit m c t) (r := r) (j := j) (hr := hr) (hj := hj) ..)
      (fun r j hr hj => conv_C_1_0 (hF := fit m c t) (r := r) (j := j) (hr := hr) (hj := hj) ..)
      (fun r j hr hj => conv_C_0_1 (hF := fit m c t) (r := r) (j := j) (hr := hr) (hj := hj) ..)
      (fun r j hr hj => conv_C_1_1 (hF := fit m c t) (r := r) (j := j) (hr := hr) (hj := hj) ..)
      (fun r j hr hj => conv_C_0_2 (hF := fit m c t) (r := r) (j := j) (hr := hr) (hj := hj) ..)
      (fun r j hr hj => conv_C_1_2 (hF := fit m c t) (r := r) (j := j) (hr := hr) (hj := hj) ..)
      (fun r j hr hj => conv_C_0_3 (hF := fit m c t) (r := r) (j := j) (hr := hr) (hj := hj) ..)
      (fun r j hr hj => conv_C_1_3 (hF := fit m c t) (r := r) (j := j) (hr := hr) (hj := hj) ..)
      (fun r j hr hj => conv_C_0_4 (hF := fit m c t) (r := r) (j := j) (hr := hr) (hj := hj) ..)
      (fun r j hr hj => conv_C_1_4 (hF := fit m c t) (r := r) (j := j) (hr := hr) (hj := hj) ..)
      (fun r j hr hj => conv_C_0_5 (hF := fit m c t) (r := r) (j := j) (hr := hr) (hj := hj) ..)
      (fun r j hr hj => conv_C_1_5 (hF := fit m c t) (r := r) (j := j) (hr := hr) (hj := hj) ..)
      (fun r j hr hj => conv_C_0_6 (hF := fit m c t) (r := r) (j := j) (hr := hr) (hj := hj) ..)
      (fun r j hr hj => conv_C_1_6 (hF := fit m c t) (r := r) (j := j) (hr := hr) (hj := hj) ..)
      (fun r j hr hj => conv_C_0_7 (hF := fit m c t) (r := r) (j := j) (hr := hr) (hj := hj) ..)
      (fun r j hr hj => conv_C_1_7 (hF := fit m c t) (r := r) (j := j) (hr := hr) (hj := hj) ..)
  st h e d := by
    rw [outsAt0_C m c t h0 h1]
    dsimp only
    refine (st_C (hF := fit m c t) (h := h) (e := e) (d := d) ..).trans ?_
    rw [sS_end (wt m c) (Xs m c) t.val _ (us_pt m c t ht) _ (S_zero _ _ _ (by omega))]
  ob r j := by
    rw [outsAt0_C m c t h0 h1]
    dsimp only
    exact (ob_C (hF := fit m c t) (r := r) (j := j) ..).trans (obS_seq (wt m c) (Xs m c) t.val _ (us_pt m c t ht) _ (S_zero _ _ _ (by omega)) r j)
  u r j := by
    rw [outsAt0_C m c t h0 h1]
    dsimp only
    exact (u_C (hF := fit m c t) (r := r) (j := j) ..).trans (by rw [us_pt m c t ht])

theorem st_prev (c : Dev nD) (t : Fin cfg0.N) (ht : t.val < 64) (h0 : ¬t.val % 65 = 0) (h1 : ¬t.val % 32 = 0) (p : Inv m c (t.val - 1) (Nat.lt_of_le_of_lt (Nat.sub_le _ _) t.isLt)) :
    (fun h e d => (outsAt0 m c (t.val - 1) (Nat.lt_of_le_of_lt (Nat.sub_le _ _) t.isLt)).2.2.2.1 (ix3 h e d)) = S (wt m c) (Xs m c) (4 * t.val) := by
  funext h e d
  rw [p.st, ← S_next (wt m c) (Xs m c) (4 * (t.val - 1) + 3) (by omega)]
  congr 1
  omega

theorem halo_prev (c : Dev nD) (t : Fin cfg0.N) (ht : t.val < 64) (h0 : ¬t.val % 65 = 0) (p : Inv m c (t.val - 1) (Nat.lt_of_le_of_lt (Nat.sub_le _ _) t.isLt))
    (i : Fin 32) (j : Fin 1024) : (outsAt0 m c (t.val - 1) (Nat.lt_of_le_of_lt (Nat.sub_le _ _) t.isLt)).2.1 (ix2 (⟨i.val, by omega⟩ : Fin 288) j) = glu (wt m c) (U (wt m c) (Xs m c) (256 * t.val + i.val - 32)) j := by
  rw [p.halo]
  congr 2
  omega

theorem inv_B (c : Dev nD) (t : Fin cfg0.N) (ht : t.val < 64) (h0 : ¬t.val % 65 = 0) (h1 : ¬t.val % 32 = 0) (p : Inv m c (t.val - 1) (Nat.lt_of_le_of_lt (Nat.sub_le _ _) t.isLt)) : Inv m c t.val t.isLt where
  halo p j := by
    rw [outsAt0_B m c t h0 h1]
    dsimp only
    exact (halo_B (hF := fit m c t) (p := ⟨p.val, by omega⟩) (j := j) (h := p.isLt) ..).trans (by rw [us_pt m c t ht])
  conv r j := by
    rw [outsAt0_B m c t h0 h1]
    dsimp only
    refine Eq.trans ?_ (conv_seq (wt m c) (Xs m c) t.val (us (wt m c) (iblk m c 0 t)) (us_pt m c t ht) (fun i j => (outsAt0 m c (t.val - 1) (Nat.lt_of_le_of_lt (Nat.sub_le _ _) t.isLt)).2.1 (ix2 (⟨i.val, by omega⟩ : Fin 288) j)) (fun h => absurd h h1) (fun _ i j => halo_prev m c t ht h0 p i j) r j)
    revert r j
    exact pieces
      (fun r j hr hj => conv_B_0_0 (hF := fit m c t) (r := r) (j := j) (hr := hr) (hj := hj) ..)
      (fun r j hr hj => conv_B_1_0 (hF := fit m c t) (r := r) (j := j) (hr := hr) (hj := hj) ..)
      (fun r j hr hj => conv_B_0_1 (hF := fit m c t) (r := r) (j := j) (hr := hr) (hj := hj) ..)
      (fun r j hr hj => conv_B_1_1 (hF := fit m c t) (r := r) (j := j) (hr := hr) (hj := hj) ..)
      (fun r j hr hj => conv_B_0_2 (hF := fit m c t) (r := r) (j := j) (hr := hr) (hj := hj) ..)
      (fun r j hr hj => conv_B_1_2 (hF := fit m c t) (r := r) (j := j) (hr := hr) (hj := hj) ..)
      (fun r j hr hj => conv_B_0_3 (hF := fit m c t) (r := r) (j := j) (hr := hr) (hj := hj) ..)
      (fun r j hr hj => conv_B_1_3 (hF := fit m c t) (r := r) (j := j) (hr := hr) (hj := hj) ..)
      (fun r j hr hj => conv_B_0_4 (hF := fit m c t) (r := r) (j := j) (hr := hr) (hj := hj) ..)
      (fun r j hr hj => conv_B_1_4 (hF := fit m c t) (r := r) (j := j) (hr := hr) (hj := hj) ..)
      (fun r j hr hj => conv_B_0_5 (hF := fit m c t) (r := r) (j := j) (hr := hr) (hj := hj) ..)
      (fun r j hr hj => conv_B_1_5 (hF := fit m c t) (r := r) (j := j) (hr := hr) (hj := hj) ..)
      (fun r j hr hj => conv_B_0_6 (hF := fit m c t) (r := r) (j := j) (hr := hr) (hj := hj) ..)
      (fun r j hr hj => conv_B_1_6 (hF := fit m c t) (r := r) (j := j) (hr := hr) (hj := hj) ..)
      (fun r j hr hj => conv_B_0_7 (hF := fit m c t) (r := r) (j := j) (hr := hr) (hj := hj) ..)
      (fun r j hr hj => conv_B_1_7 (hF := fit m c t) (r := r) (j := j) (hr := hr) (hj := hj) ..)
  st h e d := by
    rw [outsAt0_B m c t h0 h1]
    dsimp only
    refine (st_B (hF := fit m c t) (h := h) (e := e) (d := d) ..).trans ?_
    rw [sS_end (wt m c) (Xs m c) t.val _ (us_pt m c t ht) _ (st_prev m c t ht h0 h1 p)]
  ob r j := by
    rw [outsAt0_B m c t h0 h1]
    dsimp only
    exact (ob_B (hF := fit m c t) (r := r) (j := j) ..).trans (obS_seq (wt m c) (Xs m c) t.val _ (us_pt m c t ht) _ (st_prev m c t ht h0 h1 p) r j)
  u r j := by
    rw [outsAt0_B m c t h0 h1]
    dsimp only
    exact (u_B (hF := fit m c t) (r := r) (j := j) ..).trans (by rw [us_pt m c t ht])

/-- Every point before the last leaves its tokens' values. -/
theorem inv (c : Dev nD) : ∀ (n : ℕ) (hn : n < cfg0.N), n < 64 → Inv m c n hn
  | 0, hn, h => inv_A m c ⟨0, hn⟩ h rfl rfl
  | n + 1, hn, h => by
    have p := inv c n (Nat.lt_of_succ_lt hn) (by omega)
    by_cases h1 : (n + 1) % 32 = 0
    · exact inv_C m c ⟨n + 1, hn⟩ h (by show ¬(n + 1) % 65 = 0; omega) h1
    · exact inv_B m c ⟨n + 1, hn⟩ h (by show ¬(n + 1) % 65 = 0; omega) h1 p

/-- The block a point after the first writes: the result rows of the point before's tokens. -/
theorem out_pt (c : Dev nD) (t : Fin cfg0.N) (ht : 1 ≤ t.val) (r : Fin 256) (j : Fin 1024) :
    (outsAt0 m c t.val t.isLt).1 (ix2 r j) = Y (wt m c) (Xs m c) (256 * (t.val - 1) + r.val) j := by
  have hN : t.val < 65 := lt_of_lt_of_eq t.isLt N_0
  have p := inv m c (t.val - 1) (Nat.lt_of_le_of_lt (Nat.sub_le _ _) t.isLt) (by omega)
  have h0 : ¬t.val % 65 = 0 := by omega
  have e : result (wt m c) (fun k => (iblk m c 1 t : Vec Ideal S256x1024 .f32) (ix2 r k)) (fun k => (outsAt0 m c (t.val - 1) (Nat.lt_of_le_of_lt (Nat.sub_le _ _) t.isLt)).2.2.2.2.2 (ix2 r k))
      (fun k => (outsAt0 m c (t.val - 1) (Nat.lt_of_le_of_lt (Nat.sub_le _ _) t.isLt)).2.2.1 (ix2 r k)) (fun k => (outsAt0 m c (t.val - 1) (Nat.lt_of_le_of_lt (Nat.sub_le _ _) t.isLt)).2.2.2.2.1 (ix2 r k)) j = Y (wt m c) (Xs m c) (256 * (t.val - 1) + r.val) j := by
    unfold Y
    rw [x1_pt m c t r, show (fun k => (outsAt0 m c (t.val - 1) (Nat.lt_of_le_of_lt (Nat.sub_le _ _) t.isLt)).2.2.2.2.2 (ix2 r k)) = _ from funext fun k => p.u r k,
      show (fun k => (outsAt0 m c (t.val - 1) (Nat.lt_of_le_of_lt (Nat.sub_le _ _) t.isLt)).2.2.1 (ix2 r k)) = _ from funext fun k => p.conv r k,
      show (fun k => (outsAt0 m c (t.val - 1) (Nat.lt_of_le_of_lt (Nat.sub_le _ _) t.isLt)).2.2.2.2.1 (ix2 r k)) = _ from funext fun k => p.ob r k]
  by_cases h1 : t.val % 32 = 0
  · rw [outsAt0_C m c t h0 h1]
    dsimp only
    exact (out_C (hF := fit m c t) (r := r) (j := j) ..).trans e
  · rw [outsAt0_B m c t h0 h1]
    dsimp only
    exact (out_B (hF := fit m c t) (r := r) (j := j) ..).trans e

end Cert.KernelIdeal.Mix
end
-- ==== Proof.MixArr.lean ====
module

public import proofs.«01_k».proof.Proof.MixPoint
public import Idealize.ShloMosaic.Lib.Pipeline.ValueKit

@[expose] public section

set_option maxRecDepth 16384

noncomputable section

/-! The result array, token by token. -/

namespace Cert.KernelIdeal.Mix

open Cert.KernelIdeal Cert.KernelIdeal.Gen Cert.MixSpec Idealize.ShloMosaic Idealize.ShloMosaic.TcCoe Idealize.ShloMosaic.Tactic

variable (m : (ℓ : Loc nD τ sig) → Buf (Elt Ideal) ℓ)

theorem flush_pos : ∀ t : Fin cfg0.N, (cfg0.win 15).flush t = true → 1 ≤ t.val :=
  (by decide +kernel : ∀ t : Fin grid0.N, _)

theorem idx15 : ∀ t : Fin cfg0.N, (cfg0.win 15).index t (0 : Fin 2) = t.val - 1 ∧ (cfg0.win 15).index t (1 : Fin 2) = 0 :=
  (by decide +kernel : ∀ t : Fin grid0.N, _)

/-- The result rows. -/
def G15 (c : Dev nD) : Vec Ideal S16384x1024 .f32 := fun i => Y (wt m c) (Xs m c) (i 0).val (i 1)

theorem arr15 (c : Dev nD) : (dats m 0 c).arrAt 15 cfg0.N = G15 m c := by
  refine (dats m 0 c).arrAt_eq_of_covers 15 _ (by decide +kernel) fun t hf y => ?_
  blk_simp
  rw [after0_15]
  obtain ⟨h0, h1⟩ := idx15 t
  have hp := flush_pos t hf
  have hy : (y : S256x1024.Idx) = ix2 (y 0 : Fin 256) (y 1 : Fin 1024) := by
    funext a
    match a with
    | ⟨0, _⟩ => rfl
    | ⟨1, _⟩ => rfl
  have e0 : (((win0_15.blk t).view.emb y : S16384x1024.Idx) 0).val = 256 * (t.val - 1) + (y 0 : Fin 256).val := by
    refine (Pipeline.Window.rect_emb_val (cfg0.win 15) t y (0 : Fin 2)).trans ?_
    rw [h0]
    exact congrArg (· + (y 0 : Fin 256).val) (Nat.mul_comm _ 256)
  have e1 : (((win0_15.blk t).view.emb y : S16384x1024.Idx) 1) = (y 1 : Fin 1024) := by
    apply Fin.ext
    exact Pipeline.Window.rect_emb_val_of_index_zero (cfg0.win 15) t (1 : Fin 2) h1 y
  refine (congrArg (outsAt0 m c t.val t.isLt).1 hy).trans ((out_pt m c t hp (y 0) (y 1)).trans ?_)
  unfold G15
  rw [e0, e1]

end Cert.KernelIdeal.Mix
end
-- ==== Proof.MixRefA.lean ====
module

public import proofs.«01_k».proof.Proof.Gen.ReferenceIdeal.Read
public import proofs.«01_k».proof.Proof.MixSpec

@[expose] public section

set_option maxRecDepth 16384

noncomputable section

/-! The mixer's reference, element by element: the normalised rows, the projection, the gated unit. -/

namespace Cert.ReferenceIdeal.Mix

open Cert.ReferenceIdeal Cert.ReferenceIdeal.Gen Cert.ReferenceIdeal.Read Cert.MixSpec Idealize.ShloMosaic Idealize.ShloMosaic.TcCoe

variable (x0 : (⟨S2x8192x1024, .f32⟩ : BufTy).Contents (Elt Ideal)) (x1 : (⟨S1x1024, .f32⟩ : BufTy).Contents (Elt Ideal)) (x2 : (⟨S1x1024x7184, .f32⟩ : BufTy).Contents (Elt Ideal)) (x3 : (⟨S1x31x1024, .f32⟩ : BufTy).Contents (Elt Ideal)) (x4 : (⟨S1x1024, .f32⟩ : BufTy).Contents (Elt Ideal)) (x5 : (⟨S1x1024, .f32⟩ : BufTy).Contents (Elt Ideal)) (x6 : (⟨S1x1024, .f32⟩ : BufTy).Contents (Elt Ideal)) (x7 : (⟨S1x1024x1024, .f32⟩ : BufTy).Contents (Elt Ideal)) (x8 : (⟨S1x16x512, .f32⟩ : BufTy).Contents (Elt Ideal)) (x9 : (⟨S1x512, .f32⟩ : BufTy).Contents (Elt Ideal)) (x10 : (⟨S1x256, .f32⟩ : BufTy).Contents (Elt Ideal)) (x11 : (⟨S1x1024x1024, .f32⟩ : BufTy).Contents (Elt Ideal)) (x12 : (⟨S1x1024x1024, .f32⟩ : BufTy).Contents (Elt Ideal))

/-- Token `n` of the 16384, zero past the end. -/
def Xr (n : ℕ) (k : Fin 1024) : EReal :=
  if h : n < 16384 then x0 (ix3 ⟨n / 8192, by omega⟩ ⟨n % 8192, by omega⟩ k) else 0

/-- The weights, the projection's columns in the kernel's order. -/
def wr : Wt where
  n1g k := x1 (ix2 0 k)
  wi k j := if h : j.val < 5120 then x2 (ix3 0 k ⟨j.val, by omega⟩)
    else if h : j.val < 7168 then x2 (ix3 0 k ⟨j.val + 16, by omega⟩)
    else if h : j.val - 7168 < 16 then x2 (ix3 0 k ⟨5120 + (j.val - 7168), by omega⟩) else 0
  cw j k := x3 (ix3 0 j k)
  cb k := x4 (ix2 0 k)
  lng k := x5 (ix2 0 k)
  lnb k := x6 (ix2 0 k)
  wco k j := x7 (ix3 0 k j)
  wu k j := if h : k.val < 16 then x8 (ix3 0 ⟨k.val, h⟩ j) else 0
  bg j := x9 (ix2 0 j)
  gng e := x10 (ix2 0 e)
  wgo k j := x11 (ix3 0 k j)
  wo k j := x12 (ix3 0 k j)

theorem Xr_row (b : Fin 2) (s : Fin 8192) : (fun k => x0 (ix3 b s k)) = (Xr x0) (8192 * b.val + s.val) := by
  funext k
  rw [Xr, dif_pos (by omega)]
  congr 2
  · exact Fin.ext (by show b.val = (8192 * b.val + s.val) / 8192; omega)
  · exact Fin.ext (by show s.val = (8192 * b.val + s.val) % 8192; omega)

/-- The normalised rows. -/
theorem v13_at (b : Fin 2) (s : Fin 8192) (k : Fin 1024) : val_main_v13 (F := Ideal) x0 x1 (ix3 b s k) = U (wr x1 x2 x3 x4 x5 x6 x7 x8 x9 x10 x11 x12) (Xr x0) (8192 * b.val + s.val) k := by
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13]
  unfold U urow
  rw [← Xr_row]
  rfl

/-- The projected rows. -/
theorem v15_at (b : Fin 2) (s : Fin 8192) (j : Fin 7184) : val_main_v15 (F := Ideal) x0 x1 x2 (ix3 b s j) = ∑ k, U (wr x1 x2 x3 x4 x5 x6 x7 x8 x9 x10 x11 x12) (Xr x0) (8192 * b.val + s.val) k * x2 (ix3 0 k j) := by
  pointwise [val_main_v15, val_main_v14]
  simp only [v13_at x0 x1 x2 x3 x4 x5 x6 x7 x8 x9 x10 x11 x12]

theorem wi_lo (k : Fin 1024) (j : Fin 7296) (h : j.val < 5120) : (wr x1 x2 x3 x4 x5 x6 x7 x8 x9 x10 x11 x12).wi k j = x2 (ix3 0 k ⟨j.val, by omega⟩) := by
  unfold wr; dsimp only; rw [dif_pos h]
theorem wi_mid (k : Fin 1024) (j : Fin 7296) (h : ¬j.val < 5120) (h' : j.val < 7168) : (wr x1 x2 x3 x4 x5 x6 x7 x8 x9 x10 x11 x12).wi k j = x2 (ix3 0 k ⟨j.val + 16, by omega⟩) := by
  unfold wr; dsimp only; rw [dif_neg h, dif_pos h']

theorem v24_at (b : Fin 2) (s : Fin 8192) (j : Fin 1024) : val_main_v24 (F := Ideal) x0 x1 x2 (ix3 b s j) = prj (wr x1 x2 x3 x4 x5 x6 x7 x8 x9 x10 x11 x12) (U (wr x1 x2 x3 x4 x5 x6 x7 x8 x9 x10 x11 x12) (Xr x0) (8192 * b.val + s.val)) 0 (by omega) j := by
  pointwise [val_main_v16, val_main_v24]
  rw [v15_at x0 x1 x2 x3 x4 x5 x6 x7 x8 x9 x10 x11 x12]
  unfold prj
  refine Finset.sum_congr rfl fun k _ => ?_
  rw [wi_lo x1 x2 x3 x4 x5 x6 x7 x8 x9 x10 x11 x12 k _ (by show 0 + j.val < 5120; omega)]
  congr 3
  all_goals exact Fin.ext (by simp; try omega)

theorem v25_at (b : Fin 2) (s : Fin 8192) (j : Fin 1024) : val_main_v25 (F := Ideal) x0 x1 x2 (ix3 b s j) = prj (wr x1 x2 x3 x4 x5 x6 x7 x8 x9 x10 x11 x12) (U (wr x1 x2 x3 x4 x5 x6 x7 x8 x9 x10 x11 x12) (Xr x0) (8192 * b.val + s.val)) 1024 (by omega) j := by
  pointwise [val_main_v16, val_main_v25]
  rw [v15_at x0 x1 x2 x3 x4 x5 x6 x7 x8 x9 x10 x11 x12]
  unfold prj
  refine Finset.sum_congr rfl fun k _ => ?_
  rw [wi_lo x1 x2 x3 x4 x5 x6 x7 x8 x9 x10 x11 x12 k _ (by show 1024 + j.val < 5120; omega)]

theorem v17_at (b : Fin 2) (s : Fin 8192) (j : Fin 512) : val_main_v17 (F := Ideal) x0 x1 x2 (ix3 b s j) = prj (wr x1 x2 x3 x4 x5 x6 x7 x8 x9 x10 x11 x12) (U (wr x1 x2 x3 x4 x5 x6 x7 x8 x9 x10 x11 x12) (Xr x0) (8192 * b.val + s.val)) 2048 (by omega) j := by
  pointwise [val_main_v17]
  rw [v15_at x0 x1 x2 x3 x4 x5 x6 x7 x8 x9 x10 x11 x12]
  unfold prj
  refine Finset.sum_congr rfl fun k _ => ?_
  rw [wi_lo x1 x2 x3 x4 x5 x6 x7 x8 x9 x10 x11 x12 k _ (by show 2048 + j.val < 5120; omega)]

theorem v18_at (b : Fin 2) (s : Fin 8192) (j : Fin 512) : val_main_v18 (F := Ideal) x0 x1 x2 (ix3 b s j) = prj (wr x1 x2 x3 x4 x5 x6 x7 x8 x9 x10 x11 x12) (U (wr x1 x2 x3 x4 x5 x6 x7 x8 x9 x10 x11 x12) (Xr x0) (8192 * b.val + s.val)) 2560 (by omega) j := by
  pointwise [val_main_v18]
  rw [v15_at x0 x1 x2 x3 x4 x5 x6 x7 x8 x9 x10 x11 x12]
  unfold prj
  refine Finset.sum_congr rfl fun k _ => ?_
  rw [wi_lo x1 x2 x3 x4 x5 x6 x7 x8 x9 x10 x11 x12 k _ (by show 2560 + j.val < 5120; omega)]

theorem v19_at (b : Fin 2) (s : Fin 8192) (j : Fin 1024) : val_main_v19 (F := Ideal) x0 x1 x2 (ix3 b s j) = prj (wr x1 x2 x3 x4 x5 x6 x7 x8 x9 x10 x11 x12) (U (wr x1 x2 x3 x4 x5 x6 x7 x8 x9 x10 x11 x12) (Xr x0) (8192 * b.val + s.val)) 3072 (by omega) j := by
  pointwise [val_main_v19]
  rw [v15_at x0 x1 x2 x3 x4 x5 x6 x7 x8 x9 x10 x11 x12]
  unfold prj
  refine Finset.sum_congr rfl fun k _ => ?_
  rw [wi_lo x1 x2 x3 x4 x5 x6 x7 x8 x9 x10 x11 x12 k _ (by show 3072 + j.val < 5120; omega)]

theorem v20_at (b : Fin 2) (s : Fin 8192) (j : Fin 1024) : val_main_v20 (F := Ideal) x0 x1 x2 (ix3 b s j) = prj (wr x1 x2 x3 x4 x5 x6 x7 x8 x9 x10 x11 x12) (U (wr x1 x2 x3 x4 x5 x6 x7 x8 x9 x10 x11 x12) (Xr x0) (8192 * b.val + s.val)) 4096 (by omega) j := by
  pointwise [val_main_v20]
  rw [v15_at x0 x1 x2 x3 x4 x5 x6 x7 x8 x9 x10 x11 x12]
  unfold prj
  refine Finset.sum_congr rfl fun k _ => ?_
  rw [wi_lo x1 x2 x3 x4 x5 x6 x7 x8 x9 x10 x11 x12 k _ (by show 4096 + j.val < 5120; omega)]

theorem v22_at (b : Fin 2) (s : Fin 8192) (j : Fin 1024) : val_main_v22 (F := Ideal) x0 x1 x2 (ix3 b s j) = prj (wr x1 x2 x3 x4 x5 x6 x7 x8 x9 x10 x11 x12) (U (wr x1 x2 x3 x4 x5 x6 x7 x8 x9 x10 x11 x12) (Xr x0) (8192 * b.val + s.val)) 5120 (by omega) j := by
  pointwise [val_main_v22]
  rw [v15_at x0 x1 x2 x3 x4 x5 x6 x7 x8 x9 x10 x11 x12]
  unfold prj
  refine Finset.sum_congr rfl fun k _ => ?_
  rw [wi_mid x1 x2 x3 x4 x5 x6 x7 x8 x9 x10 x11 x12 k _ (by show ¬5120 + j.val < 5120; omega) (by show 5120 + j.val < 7168; omega)]
  congr 3
  all_goals exact Fin.ext (by simp; try omega)

theorem v23_at (b : Fin 2) (s : Fin 8192) (j : Fin 1024) : val_main_v23 (F := Ideal) x0 x1 x2 (ix3 b s j) = prj (wr x1 x2 x3 x4 x5 x6 x7 x8 x9 x10 x11 x12) (U (wr x1 x2 x3 x4 x5 x6 x7 x8 x9 x10 x11 x12) (Xr x0) (8192 * b.val + s.val)) 6144 (by omega) j := by
  pointwise [val_main_v23]
  rw [v15_at x0 x1 x2 x3 x4 x5 x6 x7 x8 x9 x10 x11 x12]
  unfold prj
  refine Finset.sum_congr rfl fun k _ => ?_
  rw [wi_mid x1 x2 x3 x4 x5 x6 x7 x8 x9 x10 x11 x12 k _ (by show ¬6144 + j.val < 5120; omega) (by show 6144 + j.val < 7168; omega)]
  congr 3
  all_goals exact Fin.ext (by simp; try omega)

/-- The gated units. -/
theorem v32_at (b : Fin 2) (s : Fin 8192) (j : Fin 1024) : val_main_v32 (F := Ideal) x0 x1 x2 (ix3 b s j) = glu (wr x1 x2 x3 x4 x5 x6 x7 x8 x9 x10 x11 x12) (U (wr x1 x2 x3 x4 x5 x6 x7 x8 x9 x10 x11 x12) (Xr x0) (8192 * b.val + s.val)) j := by
  pointwise [val_main_v26, val_main_v27, val_main_cst_2, val_main_v28, val_main_v29, val_main_cst_3, val_main_v30, val_main_v31, val_main_v32]
  rw [v24_at x0 x1 x2 x3 x4 x5 x6 x7 x8 x9 x10 x11 x12, v25_at x0 x1 x2 x3 x4 x5 x6 x7 x8 x9 x10 x11 x12]
  unfold glu sg
  simp only [zero_sub]

end Cert.ReferenceIdeal.Mix
end
-- ==== Proof.MixRefB.lean ====
module

public import proofs.«01_k».proof.Proof.MixRefA

@[expose] public section

set_option maxRecDepth 16384

noncomputable section

/-! The mixer's reference, element by element: the convolution branch. -/

namespace Cert.ReferenceIdeal.Mix

open Cert.ReferenceIdeal Cert.ReferenceIdeal.Gen Cert.ReferenceIdeal.Read Cert.MixSpec Idealize.ShloMosaic Idealize.ShloMosaic.TcCoe

variable (x0 : (⟨S2x8192x1024, .f32⟩ : BufTy).Contents (Elt Ideal)) (x1 : (⟨S1x1024, .f32⟩ : BufTy).Contents (Elt Ideal)) (x2 : (⟨S1x1024x7184, .f32⟩ : BufTy).Contents (Elt Ideal)) (x3 : (⟨S1x31x1024, .f32⟩ : BufTy).Contents (Elt Ideal)) (x4 : (⟨S1x1024, .f32⟩ : BufTy).Contents (Elt Ideal)) (x5 : (⟨S1x1024, .f32⟩ : BufTy).Contents (Elt Ideal)) (x6 : (⟨S1x1024, .f32⟩ : BufTy).Contents (Elt Ideal)) (x7 : (⟨S1x1024x1024, .f32⟩ : BufTy).Contents (Elt Ideal)) (x8 : (⟨S1x16x512, .f32⟩ : BufTy).Contents (Elt Ideal)) (x9 : (⟨S1x512, .f32⟩ : BufTy).Contents (Elt Ideal)) (x10 : (⟨S1x256, .f32⟩ : BufTy).Contents (Elt Ideal)) (x11 : (⟨S1x1024x1024, .f32⟩ : BufTy).Contents (Elt Ideal)) (x12 : (⟨S1x1024x1024, .f32⟩ : BufTy).Contents (Elt Ideal))

/-- The gated units behind thirty rows of zeros. -/
theorem v35_at (b : Fin 2) (i : Fin 8222) (j : Fin 1024) :
    val_main_v35 (F := Ideal) x0 x1 x2 (ix3 b i j) = if 30 ≤ i.val then glu (wr x1 x2 x3 x4 x5 x6 x7 x8 x9 x10 x11 x12) (U (wr x1 x2 x3 x4 x5 x6 x7 x8 x9 x10 x11 x12) (Xr x0) (8192 * b.val + (i.val - 30))) j else 0 := by
  pointwise [val_main_v35, val_main_call0_v0, val_main_c]
  have hz : (FloatOps.sitofp (F := Ideal) (w := 32) FTy.f32 0#32 : EReal) = 0 := by
    simp [FloatOps.sitofp]
  by_cases h : 30 ≤ i.val
  · rw [dif_pos ⟨h, by omega⟩, if_pos h, v32_at x0 x1 x2 x3 x4 x5 x6 x7 x8 x9 x10 x11 x12]
  · rw [dif_neg (fun h' => h h'.1), if_neg h, hz]

/-- A row of the padded array is a token of the past. -/
theorem past_at (b : Fin 2) (s : Fin 8192) (c : Fin 1024) (j i : ℕ) (hi : i = j + s.val) (hj : j ≤ 30) :
    (if 30 ≤ i then glu (wr x1 x2 x3 x4 x5 x6 x7 x8 x9 x10 x11 x12) (U (wr x1 x2 x3 x4 x5 x6 x7 x8 x9 x10 x11 x12) (Xr x0) (8192 * b.val + (i - 30))) c else 0) = past (wr x1 x2 x3 x4 x5 x6 x7 x8 x9 x10 x11 x12) (Xr x0) (8192 * b.val + s.val) c j := by
  subst hi
  unfold past
  by_cases h : 30 ≤ j + s.val
  · rw [if_pos h, if_pos (by omega)]
    congr 2
    omega
  · rw [if_neg h, if_neg (by omega)]

theorem tap0 (b : Fin 2) (s : Fin 8192) (c : Fin 1024) : val_main_v41 (F := Ideal) x0 x1 x2 x3 (ix3 b s c) = tap (wr x1 x2 x3 x4 x5 x6 x7 x8 x9 x10 x11 x12) c 0 * past (wr x1 x2 x3 x4 x5 x6 x7 x8 x9 x10 x11 x12) (Xr x0) (8192 * b.val + s.val) c 0 := by
  pointwise [val_main_v33, val_main_v36, val_main_v37, val_main_v38, val_main_v39, val_main_v40, val_main_v41]
  rw [v35_at x0 x1 x2 x3 x4 x5 x6 x7 x8 x9 x10 x11 x12, past_at x0 x1 x2 x3 x4 x5 x6 x7 x8 x9 x10 x11 x12 b s c 0 _ (by simp) (by omega)]
  rfl

theorem tap1 (b : Fin 2) (s : Fin 8192) (c : Fin 1024) : val_main_v47 (F := Ideal) x0 x1 x2 x3 (ix3 b s c) = tap (wr x1 x2 x3 x4 x5 x6 x7 x8 x9 x10 x11 x12) c 1 * past (wr x1 x2 x3 x4 x5 x6 x7 x8 x9 x10 x11 x12) (Xr x0) (8192 * b.val + s.val) c 1 := by
  pointwise [val_main_v33, val_main_v42, val_main_v43, val_main_v44, val_main_v45, val_main_v46, val_main_v47]
  rw [v35_at x0 x1 x2 x3 x4 x5 x6 x7 x8 x9 x10 x11 x12, past_at x0 x1 x2 x3 x4 x5 x6 x7 x8 x9 x10 x11 x12 b s c 1 _ (by simp) (by omega)]
  rfl

theorem tap2 (b : Fin 2) (s : Fin 8192) (c : Fin 1024) : val_main_v54 (F := Ideal) x0 x1 x2 x3 (ix3 b s c) = tap (wr x1 x2 x3 x4 x5 x6 x7 x8 x9 x10 x11 x12) c 2 * past (wr x1 x2 x3 x4 x5 x6 x7 x8 x9 x10 x11 x12) (Xr x0) (8192 * b.val + s.val) c 2 := by
  pointwise [val_main_v33, val_main_v49, val_main_v50, val_main_v51, val_main_v52, val_main_v53, val_main_v54]
  rw [v35_at x0 x1 x2 x3 x4 x5 x6 x7 x8 x9 x10 x11 x12, past_at x0 x1 x2 x3 x4 x5 x6 x7 x8 x9 x10 x11 x12 b s c 2 _ (by simp) (by omega)]
  rfl

theorem tap3 (b : Fin 2) (s : Fin 8192) (c : Fin 1024) : val_main_v61 (F := Ideal) x0 x1 x2 x3 (ix3 b s c) = tap (wr x1 x2 x3 x4 x5 x6 x7 x8 x9 x10 x11 x12) c 3 * past (wr x1 x2 x3 x4 x5 x6 x7 x8 x9 x10 x11 x12) (Xr x0) (8192 * b.val + s.val) c 3 := by
  pointwise [val_main_v33, val_main_v56, val_main_v57, val_main_v58, val_main_v59, val_main_v60, val_main_v61]
  rw [v35_at x0 x1 x2 x3 x4 x5 x6 x7 x8 x9 x10 x11 x12, past_at x0 x1 x2 x3 x4 x5 x6 x7 x8 x9 x10 x11 x12 b s c 3 _ (by simp) (by omega)]
  rfl

theorem tap4 (b : Fin 2) (s : Fin 8192) (c : Fin 1024) : val_main_v68 (F := Ideal) x0 x1 x2 x3 (ix3 b s c) = tap (wr x1 x2 x3 x4 x5 x6 x7 x8 x9 x10 x11 x12) c 4 * past (wr x1 x2 x3 x4 x5 x6 x7 x8 x9 x10 x11 x12) (Xr x0) (8192 * b.val + s.val) c 4 := by
  pointwise [val_main_v33, val_main_v63, val_main_v64, val_main_v65, val_main_v66, val_main_v67, val_main_v68]
  rw [v35_at x0 x1 x2 x3 x4 x5 x6 x7 x8 x9 x10 x11 x12, past_at x0 x1 x2 x3 x4 x5 x6 x7 x8 x9 x10 x11 x12 b s c 4 _ (by simp) (by omega)]
  rfl

theorem tap5 (b : Fin 2) (s : Fin 8192) (c : Fin 1024) : val_main_v75 (F := Ideal) x0 x1 x2 x3 (ix3 b s c) = tap (wr x1 x2 x3 x4 x5 x6 x7 x8 x9 x10 x11 x12) c 5 * past (wr x1 x2 x3 x4 x5 x6 x7 x8 x9 x10 x11 x12) (Xr x0) (8192 * b.val + s.val) c 5 := by
  pointwise [val_main_v33, val_main_v70, val_main_v71, val_main_v72, val_main_v73, val_main_v74, val_main_v75]
  rw [v35_at x0 x1 x2 x3 x4 x5 x6 x7 x8 x9 x10 x11 x12, past_at x0 x1 x2 x3 x4 x5 x6 x7 x8 x9 x10 x11 x12 b s c 5 _ (by simp) (by omega)]
  rfl

theorem tap6 (b : Fin 2) (s : Fin 8192) (c : Fin 1024) : val_main_v82 (F := Ideal) x0 x1 x2 x3 (ix3 b s c) = tap (wr x1 x2 x3 x4 x5 x6 x7 x8 x9 x10 x11 x12) c 6 * past (wr x1 x2 x3 x4 x5 x6 x7 x8 x9 x10 x11 x12) (Xr x0) (8192 * b.val + s.val) c 6 := by
  pointwise [val_main_v33, val_main_v77, val_main_v78, val_main_v79, val_main_v80, val_main_v81, val_main_v82]
  rw [v35_at x0 x1 x2 x3 x4 x5 x6 x7 x8 x9 x10 x11 x12, past_at x0 x1 x2 x3 x4 x5 x6 x7 x8 x9 x10 x11 x12 b s c 6 _ (by simp) (by omega)]
  rfl

theorem tap7 (b : Fin 2) (s : Fin 8192) (c : Fin 1024) : val_main_v89 (F := Ideal) x0 x1 x2 x3 (ix3 b s c) = tap (wr x1 x2 x3 x4 x5 x6 x7 x8 x9 x10 x11 x12) c 7 * past (wr x1 x2 x3 x4 x5 x6 x7 x8 x9 x10 x11 x12) (Xr x0) (8192 * b.val + s.val) c 7 := by
  pointwise [val_main_v33, val_main_v84, val_main_v85, val_main_v86, val_main_v87, val_main_v88, val_main_v89]
  rw [v35_at x0 x1 x2 x3 x4 x5 x6 x7 x8 x9 x10 x11 x12, past_at x0 x1 x2 x3 x4 x5 x6 x7 x8 x9 x10 x11 x12 b s c 7 _ (by simp) (by omega)]
  rfl

theorem tap8 (b : Fin 2) (s : Fin 8192) (c : Fin 1024) : val_main_v96 (F := Ideal) x0 x1 x2 x3 (ix3 b s c) = tap (wr x1 x2 x3 x4 x5 x6 x7 x8 x9 x10 x11 x12) c 8 * past (wr x1 x2 x3 x4 x5 x6 x7 x8 x9 x10 x11 x12) (Xr x0) (8192 * b.val + s.val) c 8 := by
  pointwise [val_main_v33, val_main_v91, val_main_v92, val_main_v93, val_main_v94, val_main_v95, val_main_v96]
  rw [v35_at x0 x1 x2 x3 x4 x5 x6 x7 x8 x9 x10 x11 x12, past_at x0 x1 x2 x3 x4 x5 x6 x7 x8 x9 x10 x11 x12 b s c 8 _ (by simp) (by omega)]
  rfl

theorem tap9 (b : Fin 2) (s : Fin 8192) (c : Fin 1024) : val_main_v103 (F := Ideal) x0 x1 x2 x3 (ix3 b s c) = tap (wr x1 x2 x3 x4 x5 x6 x7 x8 x9 x10 x11 x12) c 9 * past (wr x1 x2 x3 x4 x5 x6 x7 x8 x9 x10 x11 x12) (Xr x0) (8192 * b.val + s.val) c 9 := by
  pointwise [val_main_v33, val_main_v98, val_main_v99, val_main_v100, val_main_v101, val_main_v102, val_main_v103]
  rw [v35_at x0 x1 x2 x3 x4 x5 x6 x7 x8 x9 x10 x11 x12, past_at x0 x1 x2 x3 x4 x5 x6 x7 x8 x9 x10 x11 x12 b s c 9 _ (by simp) (by omega)]
  rfl

theorem tap10 (b : Fin 2) (s : Fin 8192) (c : Fin 1024) : val_main_v110 (F := Ideal) x0 x1 x2 x3 (ix3 b s c) = tap (wr x1 x2 x3 x4 x5 x6 x7 x8 x9 x10 x11 x12) c 10 * past (wr x1 x2 x3 x4 x5 x6 x7 x8 x9 x10 x11 x12) (Xr x0) (8192 * b.val + s.val) c 10 := by
  pointwise [val_main_v33, val_main_v105, val_main_v106, val_main_v107, val_main_v108, val_main_v109, val_main_v110]
  rw [v35_at x0 x1 x2 x3 x4 x5 x6 x7 x8 x9 x10 x11 x12, past_at x0 x1 x2 x3 x4 x5 x6 x7 x8 x9 x10 x11 x12 b s c 10 _ (by simp) (by omega)]
  rfl

theorem tap11 (b : Fin 2) (s : Fin 8192) (c : Fin 1024) : val_main_v117 (F := Ideal) x0 x1 x2 x3 (ix3 b s c) = tap (wr x1 x2 x3 x4 x5 x6 x7 x8 x9 x10 x11 x12) c 11 * past (wr x1 x2 x3 x4 x5 x6 x7 x8 x9 x10 x11 x12) (Xr x0) (8192 * b.val + s.val) c 11 := by
  pointwise [val_main_v33, val_main_v112, val_main_v113, val_main_v114, val_main_v115, val_main_v116, val_main_v117]
  rw [v35_at x0 x1 x2 x3 x4 x5 x6 x7 x8 x9 x10 x11 x12, past_at x0 x1 x2 x3 x4 x5 x6 x7 x8 x9 x10 x11 x12 b s c 11 _ (by simp) (by omega)]
  rfl

theorem tap12 (b : Fin 2) (s : Fin 8192) (c : Fin 1024) : val_main_v124 (F := Ideal) x0 x1 x2 x3 (ix3 b s c) = tap (wr x1 x2 x3 x4 x5 x6 x7 x8 x9 x10 x11 x12) c 12 * past (wr x1 x2 x3 x4 x5 x6 x7 x8 x9 x10 x11 x12) (Xr x0) (8192 * b.val + s.val) c 12 := by
  pointwise [val_main_v33, val_main_v119, val_main_v120, val_main_v121, val_main_v122, val_main_v123, val_main_v124]
  rw [v35_at x0 x1 x2 x3 x4 x5 x6 x7 x8 x9 x10 x11 x12, past_at x0 x1 x2 x3 x4 x5 x6 x7 x8 x9 x10 x11 x12 b s c 12 _ (by simp) (by omega)]
  rfl

theorem tap13 (b : Fin 2) (s : Fin 8192) (c : Fin 1024) : val_main_v131 (F := Ideal) x0 x1 x2 x3 (ix3 b s c) = tap (wr x1 x2 x3 x4 x5 x6 x7 x8 x9 x10 x11 x12) c 13 * past (wr x1 x2 x3 x4 x5 x6 x7 x8 x9 x10 x11 x12) (Xr x0) (8192 * b.val + s.val) c 13 := by
  pointwise [val_main_v33, val_main_v126, val_main_v127, val_main_v128, val_main_v129, val_main_v130, val_main_v131]
  rw [v35_at x0 x1 x2 x3 x4 x5 x6 x7 x8 x9 x10 x11 x12, past_at x0 x1 x2 x3 x4 x5 x6 x7 x8 x9 x10 x11 x12 b s c 13 _ (by simp) (by omega)]
  rfl

theorem tap14 (b : Fin 2) (s : Fin 8192) (c : Fin 1024) : val_main_v138 (F := Ideal) x0 x1 x2 x3 (ix3 b s c) = tap (wr x1 x2 x3 x4 x5 x6 x7 x8 x9 x10 x11 x12) c 14 * past (wr x1 x2 x3 x4 x5 x6 x7 x8 x9 x10 x11 x12) (Xr x0) (8192 * b.val + s.val) c 14 := by
  pointwise [val_main_v33, val_main_v133, val_main_v134, val_main_v135, val_main_v136, val_main_v137, val_main_v138]
  rw [v35_at x0 x1 x2 x3 x4 x5 x6 x7 x8 x9 x10 x11 x12, past_at x0 x1 x2 x3 x4 x5 x6 x7 x8 x9 x10 x11 x12 b s c 14 _ (by simp) (by omega)]
  rfl

theorem tap15 (b : Fin 2) (s : Fin 8192) (c : Fin 1024) : val_main_v145 (F := Ideal) x0 x1 x2 x3 (ix3 b s c) = tap (wr x1 x2 x3 x4 x5 x6 x7 x8 x9 x10 x11 x12) c 15 * past (wr x1 x2 x3 x4 x5 x6 x7 x8 x9 x10 x11 x12) (Xr x0) (8192 * b.val + s.val) c 15 := by
  pointwise [val_main_v33, val_main_v140, val_main_v141, val_main_v142, val_main_v143, val_main_v144, val_main_v145]
  rw [v35_at x0 x1 x2 x3 x4 x5 x6 x7 x8 x9 x10 x11 x12, past_at x0 x1 x2 x3 x4 x5 x6 x7 x8 x9 x10 x11 x12 b s c 15 _ (by simp) (by omega)]
  rfl

theorem tap16 (b : Fin 2) (s : Fin 8192) (c : Fin 1024) : val_main_v152 (F := Ideal) x0 x1 x2 x3 (ix3 b s c) = tap (wr x1 x2 x3 x4 x5 x6 x7 x8 x9 x10 x11 x12) c 16 * past (wr x1 x2 x3 x4 x5 x6 x7 x8 x9 x10 x11 x12) (Xr x0) (8192 * b.val + s.val) c 16 := by
  pointwise [val_main_v33, val_main_v147, val_main_v148, val_main_v149, val_main_v150, val_main_v151, val_main_v152]
  rw [v35_at x0 x1 x2 x3 x4 x5 x6 x7 x8 x9 x10 x11 x12, past_at x0 x1 x2 x3 x4 x5 x6 x7 x8 x9 x10 x11 x12 b s c 16 _ (by simp) (by omega)]
  rfl

theorem tap17 (b : Fin 2) (s : Fin 8192) (c : Fin 1024) : val_main_v159 (F := Ideal) x0 x1 x2 x3 (ix3 b s c) = tap (wr x1 x2 x3 x4 x5 x6 x7 x8 x9 x10 x11 x12) c 17 * past (wr x1 x2 x3 x4 x5 x6 x7 x8 x9 x10 x11 x12) (Xr x0) (8192 * b.val + s.val) c 17 := by
  pointwise [val_main_v33, val_main_v154, val_main_v155, val_main_v156, val_main_v157, val_main_v158, val_main_v159]
  rw [v35_at x0 x1 x2 x3 x4 x5 x6 x7 x8 x9 x10 x11 x12, past_at x0 x1 x2 x3 x4 x5 x6 x7 x8 x9 x10 x11 x12 b s c 17 _ (by simp) (by omega)]
  rfl

theorem tap18 (b : Fin 2) (s : Fin 8192) (c : Fin 1024) : val_main_v166 (F := Ideal) x0 x1 x2 x3 (ix3 b s c) = tap (wr x1 x2 x3 x4 x5 x6 x7 x8 x9 x10 x11 x12) c 18 * past (wr x1 x2 x3 x4 x5 x6 x7 x8 x9 x10 x11 x12) (Xr x0) (8192 * b.val + s.val) c 18 := by
  pointwise [val_main_v33, val_main_v161, val_main_v162, val_main_v163, val_main_v164, val_main_v165, val_main_v166]
  rw [v35_at x0 x1 x2 x3 x4 x5 x6 x7 x8 x9 x10 x11 x12, past_at x0 x1 x2 x3 x4 x5 x6 x7 x8 x9 x10 x11 x12 b s c 18 _ (by simp) (by omega)]
  rfl

theorem tap19 (b : Fin 2) (s : Fin 8192) (c : Fin 1024) : val_main_v173 (F := Ideal) x0 x1 x2 x3 (ix3 b s c) = tap (wr x1 x2 x3 x4 x5 x6 x7 x8 x9 x10 x11 x12) c 19 * past (wr x1 x2 x3 x4 x5 x6 x7 x8 x9 x10 x11 x12) (Xr x0) (8192 * b.val + s.val) c 19 := by
  pointwise [val_main_v33, val_main_v168, val_main_v169, val_main_v170, val_main_v171, val_main_v172, val_main_v173]
  rw [v35_at x0 x1 x2 x3 x4 x5 x6 x7 x8 x9 x10 x11 x12, past_at x0 x1 x2 x3 x4 x5 x6 x7 x8 x9 x10 x11 x12 b s c 19 _ (by simp) (by omega)]
  rfl

theorem tap20 (b : Fin 2) (s : Fin 8192) (c : Fin 1024) : val_main_v180 (F := Ideal) x0 x1 x2 x3 (ix3 b s c) = tap (wr x1 x2 x3 x4 x5 x6 x7 x8 x9 x10 x11 x12) c 20 * past (wr x1 x2 x3 x4 x5 x6 x7 x8 x9 x10 x11 x12) (Xr x0) (8192 * b.val + s.val) c 20 := by
  pointwise [val_main_v33, val_main_v175, val_main_v176, val_main_v177, val_main_v178, val_main_v179, val_main_v180]
  rw [v35_at x0 x1 x2 x3 x4 x5 x6 x7 x8 x9 x10 x11 x12, past_at x0 x1 x2 x3 x4 x5 x6 x7 x8 x9 x10 x11 x12 b s c 20 _ (by simp) (by omega)]
  rfl

theorem tap21 (b : Fin 2) (s : Fin 8192) (c : Fin 1024) : val_main_v187 (F := Ideal) x0 x1 x2 x3 (ix3 b s c) = tap (wr x1 x2 x3 x4 x5 x6 x7 x8 x9 x10 x11 x12) c 21 * past (wr x1 x2 x3 x4 x5 x6 x7 x8 x9 x10 x11 x12) (Xr x0) (8192 * b.val + s.val) c 21 := by
  pointwise [val_main_v33, val_main_v182, val_main_v183, val_main_v184, val_main_v185, val_main_v186, val_main_v187]
  rw [v35_at x0 x1 x2 x3 x4 x5 x6 x7 x8 x9 x10 x11 x12, past_at x0 x1 x2 x3 x4 x5 x6 x7 x8 x9 x10 x11 x12 b s c 21 _ (by simp) (by omega)]
  rfl

theorem tap22 (b : Fin 2) (s : Fin 8192) (c : Fin 1024) : val_main_v194 (F := Ideal) x0 x1 x2 x3 (ix3 b s c) = tap (wr x1 x2 x3 x4 x5 x6 x7 x8 x9 x10 x11 x12) c 22 * past (wr x1 x2 x3 x4 x5 x6 x7 x8 x9 x10 x11 x12) (Xr x0) (8192 * b.val + s.val) c 22 := by
  pointwise [val_main_v33, val_main_v189, val_main_v190, val_main_v191, val_main_v192, val_main_v193, val_main_v194]
  rw [v35_at x0 x1 x2 x3 x4 x5 x6 x7 x8 x9 x10 x11 x12, past_at x0 x1 x2 x3 x4 x5 x6 x7 x8 x9 x10 x11 x12 b s c 22 _ (by simp) (by omega)]
  rfl

theorem tap23 (b : Fin 2) (s : Fin 8192) (c : Fin 1024) : val_main_v201 (F := Ideal) x0 x1 x2 x3 (ix3 b s c) = tap (wr x1 x2 x3 x4 x5 x6 x7 x8 x9 x10 x11 x12) c 23 * past (wr x1 x2 x3 x4 x5 x6 x7 x8 x9 x10 x11 x12) (Xr x0) (8192 * b.val + s.val) c 23 := by
  pointwise [val_main_v33, val_main_v196, val_main_v197, val_main_v198, val_main_v199, val_main_v200, val_main_v201]
  rw [v35_at x0 x1 x2 x3 x4 x5 x6 x7 x8 x9 x10 x11 x12, past_at x0 x1 x2 x3 x4 x5 x6 x7 x8 x9 x10 x11 x12 b s c 23 _ (by simp) (by omega)]
  rfl

theorem tap24 (b : Fin 2) (s : Fin 8192) (c : Fin 1024) : val_main_v208 (F := Ideal) x0 x1 x2 x3 (ix3 b s c) = tap (wr x1 x2 x3 x4 x5 x6 x7 x8 x9 x10 x11 x12) c 24 * past (wr x1 x2 x3 x4 x5 x6 x7 x8 x9 x10 x11 x12) (Xr x0) (8192 * b.val + s.val) c 24 := by
  pointwise [val_main_v33, val_main_v203, val_main_v204, val_main_v205, val_main_v206, val_main_v207, val_main_v208]
  rw [v35_at x0 x1 x2 x3 x4 x5 x6 x7 x8 x9 x10 x11 x12, past_at x0 x1 x2 x3 x4 x5 x6 x7 x8 x9 x10 x11 x12 b s c 24 _ (by simp) (by omega)]
  rfl

theorem tap25 (b : Fin 2) (s : Fin 8192) (c : Fin 1024) : val_main_v215 (F := Ideal) x0 x1 x2 x3 (ix3 b s c) = tap (wr x1 x2 x3 x4 x5 x6 x7 x8 x9 x10 x11 x12) c 25 * past (wr x1 x2 x3 x4 x5 x6 x7 x8 x9 x10 x11 x12) (Xr x0) (8192 * b.val + s.val) c 25 := by
  pointwise [val_main_v33, val_main_v210, val_main_v211, val_main_v212, val_main_v213, val_main_v214, val_main_v215]
  rw [v35_at x0 x1 x2 x3 x4 x5 x6 x7 x8 x9 x10 x11 x12, past_at x0 x1 x2 x3 x4 x5 x6 x7 x8 x9 x10 x11 x12 b s c 25 _ (by simp) (by omega)]
  rfl

theorem tap26 (b : Fin 2) (s : Fin 8192) (c : Fin 1024) : val_main_v222 (F := Ideal) x0 x1 x2 x3 (ix3 b s c) = tap (wr x1 x2 x3 x4 x5 x6 x7 x8 x9 x10 x11 x12) c 26 * past (wr x1 x2 x3 x4 x5 x6 x7 x8 x9 x10 x11 x12) (Xr x0) (8192 * b.val + s.val) c 26 := by
  pointwise [val_main_v33, val_main_v217, val_main_v218, val_main_v219, val_main_v220, val_main_v221, val_main_v222]
  rw [v35_at x0 x1 x2 x3 x4 x5 x6 x7 x8 x9 x10 x11 x12, past_at x0 x1 x2 x3 x4 x5 x6 x7 x8 x9 x10 x11 x12 b s c 26 _ (by simp) (by omega)]
  rfl

theorem tap27 (b : Fin 2) (s : Fin 8192) (c : Fin 1024) : val_main_v229 (F := Ideal) x0 x1 x2 x3 (ix3 b s c) = tap (wr x1 x2 x3 x4 x5 x6 x7 x8 x9 x10 x11 x12) c 27 * past (wr x1 x2 x3 x4 x5 x6 x7 x8 x9 x10 x11 x12) (Xr x0) (8192 * b.val + s.val) c 27 := by
  pointwise [val_main_v33, val_main_v224, val_main_v225, val_main_v226, val_main_v227, val_main_v228, val_main_v229]
  rw [v35_at x0 x1 x2 x3 x4 x5 x6 x7 x8 x9 x10 x11 x12, past_at x0 x1 x2 x3 x4 x5 x6 x7 x8 x9 x10 x11 x12 b s c 27 _ (by simp) (by omega)]
  rfl

theorem tap28 (b : Fin 2) (s : Fin 8192) (c : Fin 1024) : val_main_v236 (F := Ideal) x0 x1 x2 x3 (ix3 b s c) = tap (wr x1 x2 x3 x4 x5 x6 x7 x8 x9 x10 x11 x12) c 28 * past (wr x1 x2 x3 x4 x5 x6 x7 x8 x9 x10 x11 x12) (Xr x0) (8192 * b.val + s.val) c 28 := by
  pointwise [val_main_v33, val_main_v231, val_main_v232, val_main_v233, val_main_v234, val_main_v235, val_main_v236]
  rw [v35_at x0 x1 x2 x3 x4 x5 x6 x7 x8 x9 x10 x11 x12, past_at x0 x1 x2 x3 x4 x5 x6 x7 x8 x9 x10 x11 x12 b s c 28 _ (by simp) (by omega)]
  rfl

theorem tap29 (b : Fin 2) (s : Fin 8192) (c : Fin 1024) : val_main_v243 (F := Ideal) x0 x1 x2 x3 (ix3 b s c) = tap (wr x1 x2 x3 x4 x5 x6 x7 x8 x9 x10 x11 x12) c 29 * past (wr x1 x2 x3 x4 x5 x6 x7 x8 x9 x10 x11 x12) (Xr x0) (8192 * b.val + s.val) c 29 := by
  pointwise [val_main_v33, val_main_v238, val_main_v239, val_main_v240, val_main_v241, val_main_v242, val_main_v243]
  rw [v35_at x0 x1 x2 x3 x4 x5 x6 x7 x8 x9 x10 x11 x12, past_at x0 x1 x2 x3 x4 x5 x6 x7 x8 x9 x10 x11 x12 b s c 29 _ (by simp) (by omega)]
  rfl

theorem tap30 (b : Fin 2) (s : Fin 8192) (c : Fin 1024) : val_main_v250 (F := Ideal) x0 x1 x2 x3 (ix3 b s c) = tap (wr x1 x2 x3 x4 x5 x6 x7 x8 x9 x10 x11 x12) c 30 * past (wr x1 x2 x3 x4 x5 x6 x7 x8 x9 x10 x11 x12) (Xr x0) (8192 * b.val + s.val) c 30 := by
  pointwise [val_main_v33, val_main_v245, val_main_v246, val_main_v247, val_main_v248, val_main_v249, val_main_v250]
  rw [v35_at x0 x1 x2 x3 x4 x5 x6 x7 x8 x9 x10 x11 x12, past_at x0 x1 x2 x3 x4 x5 x6 x7 x8 x9 x10 x11 x12 b s c 30 _ (by simp) (by omega)]
  rfl

/-- The convolved rows. -/
theorem v254_at (b : Fin 2) (s : Fin 8192) (c : Fin 1024) : val_main_v254 (F := Ideal) x0 x1 x2 x3 x4 (ix3 b s c) = A (wr x1 x2 x3 x4 x5 x6 x7 x8 x9 x10 x11 x12) (Xr x0) (8192 * b.val + s.val) c := by
  rw [val_main_v254_apply, val_main_v251_apply, val_main_v244_apply, val_main_v237_apply, val_main_v230_apply, val_main_v223_apply, val_main_v216_apply, val_main_v209_apply, val_main_v202_apply, val_main_v195_apply, val_main_v188_apply, val_main_v181_apply, val_main_v174_apply, val_main_v167_apply, val_main_v160_apply, val_main_v153_apply, val_main_v146_apply, val_main_v139_apply, val_main_v132_apply, val_main_v125_apply, val_main_v118_apply, val_main_v111_apply, val_main_v104_apply, val_main_v97_apply, val_main_v90_apply, val_main_v83_apply, val_main_v76_apply, val_main_v69_apply, val_main_v62_apply, val_main_v55_apply, val_main_v48_apply, tap0 x0 x1 x2 x3 x4 x5 x6 x7 x8 x9 x10 x11 x12, tap1 x0 x1 x2 x3 x4 x5 x6 x7 x8 x9 x10 x11 x12, tap2 x0 x1 x2 x3 x4 x5 x6 x7 x8 x9 x10 x11 x12, tap3 x0 x1 x2 x3 x4 x5 x6 x7 x8 x9 x10 x11 x12, tap4 x0 x1 x2 x3 x4 x5 x6 x7 x8 x9 x10 x11 x12, tap5 x0 x1 x2 x3 x4 x5 x6 x7 x8 x9 x10 x11 x12, tap6 x0 x1 x2 x3 x4 x5 x6 x7 x8 x9 x10 x11 x12, tap7 x0 x1 x2 x3 x4 x5 x6 x7 x8 x9 x10 x11 x12, tap8 x0 x1 x2 x3 x4 x5 x6 x7 x8 x9 x10 x11 x12, tap9 x0 x1 x2 x3 x4 x5 x6 x7 x8 x9 x10 x11 x12, tap10 x0 x1 x2 x3 x4 x5 x6 x7 x8 x9 x10 x11 x12, tap11 x0 x1 x2 x3 x4 x5 x6 x7 x8 x9 x10 x11 x12, tap12 x0 x1 x2 x3 x4 x5 x6 x7 x8 x9 x10 x11 x12, tap13 x0 x1 x2 x3 x4 x5 x6 x7 x8 x9 x10 x11 x12, tap14 x0 x1 x2 x3 x4 x5 x6 x7 x8 x9 x10 x11 x12, tap15 x0 x1 x2 x3 x4 x5 x6 x7 x8 x9 x10 x11 x12, tap16 x0 x1 x2 x3 x4 x5 x6 x7 x8 x9 x10 x11 x12, tap17 x0 x1 x2 x3 x4 x5 x6 x7 x8 x9 x10 x11 x12, tap18 x0 x1 x2 x3 x4 x5 x6 x7 x8 x9 x10 x11 x12, tap19 x0 x1 x2 x3 x4 x5 x6 x7 x8 x9 x10 x11 x12, tap20 x0 x1 x2 x3 x4 x5 x6 x7 x8 x9 x10 x11 x12, tap21 x0 x1 x2 x3 x4 x5 x6 x7 x8 x9 x10 x11 x12, tap22 x0 x1 x2 x3 x4 x5 x6 x7 x8 x9 x10 x11 x12, tap23 x0 x1 x2 x3 x4 x5 x6 x7 x8 x9 x10 x11 x12, tap24 x0 x1 x2 x3 x4 x5 x6 x7 x8 x9 x10 x11 x12, tap25 x0 x1 x2 x3 x4 x5 x6 x7 x8 x9 x10 x11 x12, tap26 x0 x1 x2 x3 x4 x5 x6 x7 x8 x9 x10 x11 x12, tap27 x0 x1 x2 x3 x4 x5 x6 x7 x8 x9 x10 x11 x12, tap28 x0 x1 x2 x3 x4 x5 x6 x7 x8 x9 x10 x11 x12, tap29 x0 x1 x2 x3 x4 x5 x6 x7 x8 x9 x10 x11 x12, tap30 x0 x1 x2 x3 x4 x5 x6 x7 x8 x9 x10 x11 x12]
  unfold A conv taps
  refine congrArg₂ (· + ·) rfl ?_
  pointwise [val_main_v252, val_main_v253, val_main_v34]
  try rfl

/-- The layer-normalised rows. -/
theorem v278_at (b : Fin 2) (s : Fin 8192) (c : Fin 1024) : val_main_v278 (F := Ideal) x0 x1 x2 x3 x4 x5 x6 (ix3 b s c) = ln (wr x1 x2 x3 x4 x5 x6 x7 x8 x9 x10 x11 x12) (A (wr x1 x2 x3 x4 x5 x6 x7 x8 x9 x10 x11 x12) (Xr x0) (8192 * b.val + s.val)) c := by
  pointwise [val_main_v255, val_main_v256, val_main_cst_4, val_main_v257, val_main_v258, val_main_cst_5, val_main_v259, val_main_v260, val_main_v261, val_main_v262, val_main_v263, val_main_cst_6, val_main_v264, val_main_v265, val_main_cst_7, val_main_v266, val_main_v267, val_main_cst_8, val_main_v268, val_main_v269, val_main_v270, val_main_v271, val_main_v272, val_main_v273, val_main_v274, val_main_v275, val_main_v276, val_main_v277, val_main_v278]
  simp only [v254_at x0 x1 x2 x3 x4 x5 x6 x7 x8 x9 x10 x11 x12]
  rfl

/-- The convolution branch. -/
theorem v281_at (b : Fin 2) (s : Fin 8192) (c : Fin 1024) : val_main_v281 (F := Ideal) x0 x1 x2 x3 x4 x5 x6 x7 (ix3 b s c)
    = ∑ k, (ln (wr x1 x2 x3 x4 x5 x6 x7 x8 x9 x10 x11 x12) (A (wr x1 x2 x3 x4 x5 x6 x7 x8 x9 x10 x11 x12) (Xr x0) (8192 * b.val + s.val)) k * sg (ln (wr x1 x2 x3 x4 x5 x6 x7 x8 x9 x10 x11 x12) (A (wr x1 x2 x3 x4 x5 x6 x7 x8 x9 x10 x11 x12) (Xr x0) (8192 * b.val + s.val)) k)) * (wr x1 x2 x3 x4 x5 x6 x7 x8 x9 x10 x11 x12).wco k c := by
  pointwise [val_main_call1_v0, val_main_call1_v1, val_main_call1_cst, val_main_call1_v2, val_main_call1_v3, val_main_call1_cst_0, val_main_call1_v4, val_main_call1_v5, val_main_v279, val_main_v280, val_main_v281]
  simp only [v278_at x0 x1 x2 x3 x4 x5 x6 x7 x8 x9 x10 x11 x12]
  unfold sg
  simp only [zero_sub]
  rfl

end Cert.ReferenceIdeal.Mix
end
-- ==== Proof.MixRefC.lean ====
module

public import proofs.«01_k».proof.Proof.MixRefA
public import proofs.«01_k».proof.Proof.MixBase

@[expose] public section

set_option maxRecDepth 16384

noncomputable section

/-! The mixer's reference, element by element: the decay gates, and the chunks' queries, keys, values and attention. -/

namespace Cert.ReferenceIdeal.Mix

open Cert.ReferenceIdeal Cert.ReferenceIdeal.Gen Cert.ReferenceIdeal.Read Cert.MixSpec Idealize.ShloMosaic Idealize.ShloMosaic.TcCoe Cert.KernelIdeal.Mix

/-! Facts about the operations. -/

theorem neg_softplus (x : EReal) : -(max (-x) 0 + Ideal.log1p (Ideal.exp (-FloatOps.absf (F := Ideal) (φ := .f32) (-x)))) = lsg x := by
  have ha : FloatOps.absf (F := Ideal) (φ := .f32) (-x) = FloatOps.absf (F := Ideal) (φ := .f32) x := by
    show max (-x) (- -x) = max x (-x)
    rw [neg_neg, max_comm]
  rw [ha]
  unfold lsg
  have hL := log1p_exp_ne_bot (0 - FloatOps.absf (F := Ideal) (φ := .f32) x)
  rw [zero_sub] at hL ⊢
  have hm : max (-x) 0 ≠ ⊥ := ne_of_gt (lt_of_lt_of_le EReal.bot_lt_zero (le_max_right _ _))
  rw [EReal.neg_add (Or.inl hm) (Or.inr hL)]
  congr 1
  rcases le_total x 0 with h | h
  · rw [max_eq_left (EReal.neg_le_neg_iff.mp (by simpa using h)), neg_neg, min_eq_left h]
  · rw [max_eq_right (by simpa using EReal.neg_le_neg_iff.mpr h), min_eq_right h, neg_zero]

theorem div_sixteen (x : EReal) : Ideal.div x (Ideal.ofBits FTy.f32 1098907648#32) = x * sixteenth := by
  have h : Ideal.ofBits FTy.f32 1098907648#32 = ((16 : ℝ) : EReal) := by
    show Ideal.ofBits .f32 0x41800000#32 = _
    simp [Ideal.ofBits, Ideal.ieee, -EReal.coe_mul]; norm_num
  rw [h, sixteenth_eq, Ideal.div, if_neg (by norm_num), ← EReal.coe_inv]
  norm_num

theorem sge_at : ∀ i j : Fin 64, IntOp.cmpi CmpIPredicate.sge (IntOp.addi (BitVec.ofNat 32 i.val) 0#32) (BitVec.ofNat 32 j.val) = if j ≤ i then 1#1 else 0#1 := by
  decide +kernel

theorem slt_at : ∀ i j : Fin 128, IntOp.cmpi CmpIPredicate.slt (BitVec.ofNat 32 i.val) (BitVec.ofNat 32 j.val) = if i < j then 1#1 else 0#1 := by
  decide +kernel

theorem select_one (a b : EReal) : Scalar.select 1#1 a b = a := rfl
theorem select_zero (a b : EReal) : Scalar.select 0#1 a b = b := rfl
theorem bit_one : (FloatOps.uitofp (F := Ideal) FTy.f32 1#1 : EReal) = 1 := by simp [FloatOps.uitofp]
theorem bit_zero : (FloatOps.uitofp (F := Ideal) FTy.f32 0#1 : EReal) = 0 := by simp [FloatOps.uitofp]

/-- A sum over the padded columns that vanishes past the sixteenth. -/
theorem sum_pad (f : Fin 128 → EReal) (hf : ∀ j, 16 ≤ j.val → f j = 0) : ∑ j : Fin 128, f j = ∑ j : Fin 16, f ⟨j.val, by omega⟩ := by
  show ∑ j : Fin (16 + 112), f j = _
  rw [Fin.sum_univ_add, Finset.sum_eq_zero (s := (Finset.univ : Finset (Fin 112))) (fun j _ => hf _ (by simp)), add_zero]
  rfl

theorem hk_eq (h : Fin 4) (d : Fin 128) (p : h.val * 128 + d.val < 512) : (⟨h.val * 128 + d.val, p⟩ : Fin 512) = hk h d :=
  Fin.ext (by show h.val * 128 + d.val = 128 * h.val + d.val; omega)
theorem hv_eq (h : Fin 4) (d : Fin 256) (p : h.val * 256 + d.val < 1024) : (⟨h.val * 256 + d.val, p⟩ : Fin 1024) = hv h d :=
  Fin.ext (by show h.val * 256 + d.val = 256 * h.val + d.val; omega)
theorem Uc_eq (w : Wt) (Z : ℕ → Fin 1024 → EReal) (b : Fin 2) (n : Fin 128) (i : Fin 64) :
    U w Z (8192 * b.val + (n.val * 64 + i.val)) = Uc w Z (128 * b.val + n.val) i := by
  unfold Uc; congr 1; omega

variable (x0 : (⟨S2x8192x1024, .f32⟩ : BufTy).Contents (Elt Ideal)) (x1 : (⟨S1x1024, .f32⟩ : BufTy).Contents (Elt Ideal)) (x2 : (⟨S1x1024x7184, .f32⟩ : BufTy).Contents (Elt Ideal)) (x3 : (⟨S1x31x1024, .f32⟩ : BufTy).Contents (Elt Ideal)) (x4 : (⟨S1x1024, .f32⟩ : BufTy).Contents (Elt Ideal)) (x5 : (⟨S1x1024, .f32⟩ : BufTy).Contents (Elt Ideal)) (x6 : (⟨S1x1024, .f32⟩ : BufTy).Contents (Elt Ideal)) (x7 : (⟨S1x1024x1024, .f32⟩ : BufTy).Contents (Elt Ideal)) (x8 : (⟨S1x16x512, .f32⟩ : BufTy).Contents (Elt Ideal)) (x9 : (⟨S1x512, .f32⟩ : BufTy).Contents (Elt Ideal)) (x10 : (⟨S1x256, .f32⟩ : BufTy).Contents (Elt Ideal)) (x11 : (⟨S1x1024x1024, .f32⟩ : BufTy).Contents (Elt Ideal)) (x12 : (⟨S1x1024x1024, .f32⟩ : BufTy).Contents (Elt Ideal))

/-- The decay gate's argument. -/
theorem v287_at (b : Fin 2) (s : Fin 8192) (d : Fin 512) : val_main_v287 (F := Ideal) x0 x1 x2 x8 x9 (ix3 b s d) = gpre (wr x1 x2 x3 x4 x5 x6 x7 x8 x9 x10 x11 x12) (U (wr x1 x2 x3 x4 x5 x6 x7 x8 x9 x10 x11 x12) (Xr x0) (8192 * b.val + s.val)) d := by
  pointwise [val_main_v21, val_main_v282, val_main_v283, val_main_v284, val_main_v285, val_main_v286, val_main_v287]
  simp only [v15_at x0 x1 x2 x3 x4 x5 x6 x7 x8 x9 x10 x11 x12]
  unfold gpre
  rw [sum_pad]
  · refine congrArg₂ (· + ·) (Finset.sum_congr rfl fun j _ => ?_) rfl
    refine congrArg₂ (· * ·) ?_ ?_
    · unfold prj
      refine Finset.sum_congr rfl fun k _ => congrArg _ ?_
      unfold wr
      dsimp only
      rw [dif_neg (show ¬7168 + j.val < 5120 by omega), dif_neg (show ¬7168 + j.val < 7168 by omega), dif_pos (show 7168 + j.val - 7168 < 16 by omega)]
      simp only [Nat.add_sub_cancel_left]
    · unfold wr
      dsimp only
      rw [dif_pos j.isLt]
  · intro j hj
    unfold wr
    dsimp only
    rw [dif_neg (by omega), mul_zero]

/-- The decay gates. -/
theorem v290_at (b : Fin 2) (s : Fin 8192) (d : Fin 512) : val_main_v290 (F := Ideal) x0 x1 x2 x8 x9 (ix3 b s d) = gk (wr x1 x2 x3 x4 x5 x6 x7 x8 x9 x10 x11 x12) (U (wr x1 x2 x3 x4 x5 x6 x7 x8 x9 x10 x11 x12) (Xr x0) (8192 * b.val + s.val)) d := by
  pointwise [val_main_call2_v0, val_main_call2_call0_cst, val_main_call2_call0_v0, val_main_call2_call0_v1, val_main_call2_call0_v2, val_main_call2_call0_v3, val_main_call2_call0_v4, val_main_call2_call0_v5, val_main_call2_call0_v6, val_main_call2_call0_v7, val_main_call2_call0_v8, val_main_call2_call0_v9, val_main_call2_call0_v10, val_main_call2_call0_v11, val_main_call2_v1, val_main_v288, val_main_cst_9, val_main_v289, val_main_v290]
  rw [if_neg (fun h => h rfl), neg_softplus, div_sixteen, v287_at x0 x1 x2 x3 x4 x5 x6 x7 x8 x9 x10 x11 x12]
  rfl

theorem v304_at (b : Fin 2) (h : Fin 4) (n : Fin 128) (i : Fin 64) (d : Fin 128) : val_main_v304 (F := Ideal) x0 x1 x2 x8 x9 (ix5 b h n i d) = gk (wr x1 x2 x3 x4 x5 x6 x7 x8 x9 x10 x11 x12) (Uc (wr x1 x2 x3 x4 x5 x6 x7 x8 x9 x10 x11 x12) (Xr x0) (128 * b.val + n.val) i) (hk h d) := by
  pointwise [val_main_v296, val_main_v303, val_main_v304]
  rw [v290_at x0 x1 x2 x3 x4 x5 x6 x7 x8 x9 x10 x11 x12]
  dsimp only
  rw [Uc_eq, hk_eq]
  try rfl

theorem v300_at (b : Fin 2) (h : Fin 4) (n : Fin 128) (i : Fin 64) (d : Fin 128) : val_main_v300 (F := Ideal) x0 x1 x2 (ix5 b h n i d) = Kc (wr x1 x2 x3 x4 x5 x6 x7 x8 x9 x10 x11 x12) (Xr x0) (128 * b.val + n.val) i (hk h d) := by
  pointwise [val_main_v294, val_main_v299, val_main_v300]
  rw [v18_at x0 x1 x2 x3 x4 x5 x6 x7 x8 x9 x10 x11 x12]
  dsimp only
  rw [Uc_eq, hk_eq]
  try rfl

theorem v298_at (b : Fin 2) (h : Fin 4) (n : Fin 128) (i : Fin 64) (d : Fin 128) : val_main_v298 (F := Ideal) x0 x1 x2 (ix5 b h n i d) = Qc (wr x1 x2 x3 x4 x5 x6 x7 x8 x9 x10 x11 x12) (Xr x0) (128 * b.val + n.val) i (hk h d) * scale := by
  pointwise [val_main_v291, val_main_cst_10, val_main_v292, val_main_v293, val_main_v297, val_main_v298]
  rw [v17_at x0 x1 x2 x3 x4 x5 x6 x7 x8 x9 x10 x11 x12]
  dsimp only
  rw [Uc_eq, hk_eq]
  try rfl

theorem v302_at (b : Fin 2) (h : Fin 4) (n : Fin 128) (i : Fin 64) (e : Fin 256) : val_main_v302 (F := Ideal) x0 x1 x2 (ix5 b h n i e) = Vc (wr x1 x2 x3 x4 x5 x6 x7 x8 x9 x10 x11 x12) (Xr x0) (128 * b.val + n.val) i (hv h e) := by
  pointwise [val_main_v295, val_main_v301, val_main_v302]
  rw [v19_at x0 x1 x2 x3 x4 x5 x6 x7 x8 x9 x10 x11 x12]
  dsimp only
  rw [Uc_eq, hv_eq]
  rfl

theorem v306_at (i j : Fin 64) : val_main_v306 (F := Ideal) (ix2 i j) = if j ≤ i then 1#1 else 0#1 := by
  pointwise [val_main_c_11, val_main_v305, val_main_call3_v0, val_main_call3_c, val_main_call3_v1, val_main_call3_v2, val_main_call3_v3, val_main_call3_v4, val_main_call3_c_0, val_main_call3_v5, val_main_v306]
  rw [sge_at]
  split_ifs <;> rfl

theorem v307_at (i j : Fin 64) : val_main_v307 (F := Ideal) (ix2 i j) = if j ≤ i then (1 : EReal) else 0 := by
  pointwise [val_main_v307]
  rw [v306_at]
  split_ifs
  · exact bit_one
  · exact bit_zero

/-- The running decays. -/
theorem v309_at (b : Fin 2) (h : Fin 4) (n : Fin 128) (i : Fin 64) (d : Fin 128) : val_main_v309 (F := Ideal) x0 x1 x2 x8 x9 (ix5 b h n i d) = Bc (wr x1 x2 x3 x4 x5 x6 x7 x8 x9 x10 x11 x12) (Xr x0) (128 * b.val + n.val) i (hk h d) := by
  pointwise [val_main_v308, val_main_v309]
  unfold Bc csum
  refine Finset.sum_congr rfl fun j _ => ?_
  rw [v304_at x0 x1 x2 x3 x4 x5 x6 x7 x8 x9 x10 x11 x12, v307_at]
  split_ifs
  · rw [mul_one]
  · rw [mul_zero]

theorem v312_at (b : Fin 2) (h : Fin 4) (n : Fin 128) (i : Fin 64) (d : Fin 128) : val_main_v312 (F := Ideal) x0 x1 x2 x8 x9 (ix5 b h n i d) = qd (Bc (wr x1 x2 x3 x4 x5 x6 x7 x8 x9 x10 x11 x12) (Xr x0) (128 * b.val + n.val)) (Qc (wr x1 x2 x3 x4 x5 x6 x7 x8 x9 x10 x11 x12) (Xr x0) (128 * b.val + n.val)) i (hk h d) := by
  pointwise [val_main_v311, val_main_v312]
  rw [v298_at x0 x1 x2 x3 x4 x5 x6 x7 x8 x9 x10 x11 x12, v309_at x0 x1 x2 x3 x4 x5 x6 x7 x8 x9 x10 x11 x12]
  rfl

theorem v315_at (b : Fin 2) (h : Fin 4) (n : Fin 128) (i : Fin 64) (d : Fin 128) : val_main_v315 (F := Ideal) x0 x1 x2 x8 x9 (ix5 b h n i d) = ki (Bc (wr x1 x2 x3 x4 x5 x6 x7 x8 x9 x10 x11 x12) (Xr x0) (128 * b.val + n.val)) (Kc (wr x1 x2 x3 x4 x5 x6 x7 x8 x9 x10 x11 x12) (Xr x0) (128 * b.val + n.val)) i (hk h d) := by
  pointwise [val_main_v313, val_main_v314, val_main_v315]
  rw [v300_at x0 x1 x2 x3 x4 x5 x6 x7 x8 x9 x10 x11 x12, v309_at x0 x1 x2 x3 x4 x5 x6 x7 x8 x9 x10 x11 x12]
  unfold ki
  rw [zero_sub]

theorem v310_at (b : Fin 2) (h : Fin 4) (n : Fin 128) (d : Fin 128) : val_main_v310 (F := Ideal) x0 x1 x2 x8 x9 (ix5 b h n 0 d) = Bc (wr x1 x2 x3 x4 x5 x6 x7 x8 x9 x10 x11 x12) (Xr x0) (128 * b.val + n.val) 63 (hk h d) := by
  pointwise [val_main_v310]
  rw [v309_at x0 x1 x2 x3 x4 x5 x6 x7 x8 x9 x10 x11 x12]

theorem v319_at (b : Fin 2) (h : Fin 4) (n : Fin 128) (i : Fin 64) (d : Fin 128) : val_main_v319 (F := Ideal) x0 x1 x2 x8 x9 (ix5 b h n i d) = ke (Bc (wr x1 x2 x3 x4 x5 x6 x7 x8 x9 x10 x11 x12) (Xr x0) (128 * b.val + n.val)) (Kc (wr x1 x2 x3 x4 x5 x6 x7 x8 x9 x10 x11 x12) (Xr x0) (128 * b.val + n.val)) i (hk h d) := by
  pointwise [val_main_v316, val_main_v317, val_main_v318, val_main_v319]
  rw [v300_at x0 x1 x2 x3 x4 x5 x6 x7 x8 x9 x10 x11 x12, v309_at x0 x1 x2 x3 x4 x5 x6 x7 x8 x9 x10 x11 x12, v310_at x0 x1 x2 x3 x4 x5 x6 x7 x8 x9 x10 x11 x12]
  rfl

/-- The attention within the chunks. -/
theorem v321_at (b : Fin 2) (h : Fin 4) (n : Fin 128) (i j : Fin 64) : val_main_v321 (F := Ideal) x0 x1 x2 x8 x9 (ix5 b h n i j)
    = att (qd (Bc (wr x1 x2 x3 x4 x5 x6 x7 x8 x9 x10 x11 x12) (Xr x0) (128 * b.val + n.val)) (Qc (wr x1 x2 x3 x4 x5 x6 x7 x8 x9 x10 x11 x12) (Xr x0) (128 * b.val + n.val))) (ki (Bc (wr x1 x2 x3 x4 x5 x6 x7 x8 x9 x10 x11 x12) (Xr x0) (128 * b.val + n.val)) (Kc (wr x1 x2 x3 x4 x5 x6 x7 x8 x9 x10 x11 x12) (Xr x0) (128 * b.val + n.val))) h i j := by
  pointwise [val_main_v320, val_main_cst_12, val_main_call4_v0, val_main_call4_v1, val_main_call4_v2, val_main_v321]
  rw [v306_at]
  unfold att
  by_cases hc : j ≤ i
  · rw [if_pos hc, if_pos hc]
    refine Eq.trans (select_one _ _) ?_
    refine Finset.sum_congr rfl fun d _ => ?_
    rw [v312_at x0 x1 x2 x3 x4 x5 x6 x7 x8 x9 x10 x11 x12, v315_at x0 x1 x2 x3 x4 x5 x6 x7 x8 x9 x10 x11 x12]
  · rw [if_neg hc, if_neg hc]
    refine Eq.trans (select_zero _ _) ?_
    exact Ideal.ofBits_zero_f32

theorem v322_at (b : Fin 2) (h : Fin 4) (n : Fin 128) (i : Fin 64) (e : Fin 256) : val_main_v322 (F := Ideal) x0 x1 x2 x8 x9 (ix5 b h n i e)
    = ∑ j : Fin 64, att (qd (Bc (wr x1 x2 x3 x4 x5 x6 x7 x8 x9 x10 x11 x12) (Xr x0) (128 * b.val + n.val)) (Qc (wr x1 x2 x3 x4 x5 x6 x7 x8 x9 x10 x11 x12) (Xr x0) (128 * b.val + n.val))) (ki (Bc (wr x1 x2 x3 x4 x5 x6 x7 x8 x9 x10 x11 x12) (Xr x0) (128 * b.val + n.val)) (Kc (wr x1 x2 x3 x4 x5 x6 x7 x8 x9 x10 x11 x12) (Xr x0) (128 * b.val + n.val))) h i j
        * Vc (wr x1 x2 x3 x4 x5 x6 x7 x8 x9 x10 x11 x12) (Xr x0) (128 * b.val + n.val) j (hv h e) := by
  pointwise [val_main_v322]
  refine Finset.sum_congr rfl fun j _ => ?_
  rw [v321_at x0 x1 x2 x3 x4 x5 x6 x7 x8 x9 x10 x11 x12, v302_at x0 x1 x2 x3 x4 x5 x6 x7 x8 x9 x10 x11 x12]

/-- The chunks' contributions to the state. -/
theorem v323_at (b : Fin 2) (h : Fin 4) (n : Fin 128) (d : Fin 128) (e : Fin 256) : val_main_v323 (F := Ideal) x0 x1 x2 x8 x9 (ix5 b h n d e)
    = kv (Vc (wr x1 x2 x3 x4 x5 x6 x7 x8 x9 x10 x11 x12) (Xr x0) (128 * b.val + n.val)) (ke (Bc (wr x1 x2 x3 x4 x5 x6 x7 x8 x9 x10 x11 x12) (Xr x0) (128 * b.val + n.val)) (Kc (wr x1 x2 x3 x4 x5 x6 x7 x8 x9 x10 x11 x12) (Xr x0) (128 * b.val + n.val))) h e d := by
  pointwise [val_main_v323]
  unfold kv
  refine Finset.sum_congr rfl fun j _ => ?_
  rw [v319_at x0 x1 x2 x3 x4 x5 x6 x7 x8 x9 x10 x11 x12, v302_at x0 x1 x2 x3 x4 x5 x6 x7 x8 x9 x10 x11 x12, mul_comm]

end Cert.ReferenceIdeal.Mix
end
-- ==== Proof.MixRefD.lean ====
module

public import proofs.«01_k».proof.Proof.MixRefC

@[expose] public section

set_option maxRecDepth 16384

noncomputable section

/-! The mixer's reference: the state before a chunk as its closed sum, and the heads' outputs. -/

namespace Cert.ReferenceIdeal.Mix

open Cert.ReferenceIdeal Cert.ReferenceIdeal.Gen Cert.ReferenceIdeal.Read Cert.MixSpec Idealize.ShloMosaic Idealize.ShloMosaic.TcCoe Cert.KernelIdeal.Mix

/-! The decay's sign, and the closed sum of a decayed recursion. -/

theorem log1p_exp_nonneg (x : EReal) : 0 ≤ Ideal.log1p (Ideal.exp x) := by
  induction x with
  | bot =>
    rw [Ideal.exp_bot, Ideal.log1p, add_zero]
    show 0 ≤ Ideal.log ((1 : ℝ) : EReal)
    rw [Ideal.log_coe, if_neg (by norm_num), Real.log_one]
    exact le_refl _
  | top =>
    rw [Ideal.exp_top, Ideal.log1p, show (1 : EReal) + ⊤ = ⊤ from rfl]
    exact le_top
  | coe r =>
    have h : (1 : EReal) + Ideal.exp (r : EReal) = ((1 + Real.exp r : ℝ) : EReal) := by
      rw [Ideal.exp_coe, EReal.coe_add]; rfl
    have hp := Real.exp_pos r
    rw [Ideal.log1p, h, Ideal.log_coe, if_neg (by linarith)]
    exact EReal.coe_nonneg.mpr (Real.log_nonneg (by linarith))

theorem lsg_nonpos (x : EReal) : lsg x ≤ 0 := by
  unfold lsg
  rw [sub_eq_add_neg]
  have h : -(Ideal.log1p (Ideal.exp (0 - FloatOps.absf (F := Ideal) (φ := .f32) x))) ≤ 0 :=
    EReal.neg_le.mpr (by rw [neg_zero]; exact log1p_exp_nonneg _)
  exact (add_le_add (min_le_right _ _) h).trans (le_of_eq (add_zero _))

theorem gk_nonpos (w : Wt) (u : Fin 1024 → EReal) (d : Fin 512) : gk w u d ≤ 0 := by
  unfold gk
  rw [sixteenth_eq]
  exact EReal.mul_nonpos_iff.mpr (Or.inr ⟨lsg_nonpos _, EReal.coe_nonneg.mpr (by norm_num)⟩)

theorem Bc_nonpos (w : Wt) (Z : ℕ → Fin 1024 → EReal) (n : ℕ) (i : Fin 64) (d : Fin 512) : Bc w Z n i d ≤ 0 := by
  unfold Bc csum
  refine Finset.sum_nonpos fun j _ => ?_
  split_ifs
  · exact gk_nonpos _ _ _
  · exact le_refl _

theorem exp_nonneg (x : EReal) : 0 ≤ Ideal.exp x := by
  induction x with
  | bot => exact le_refl _
  | top => exact le_top
  | coe r => exact EReal.coe_nonneg.mpr (Real.exp_pos r).le

theorem exp_ne_top (x : EReal) (h : x ≤ 0) : Ideal.exp x ≠ ⊤ := by
  induction x with
  | bot => exact EReal.zero_ne_top
  | top => exact absurd h (by simp)
  | coe r => exact EReal.coe_ne_top _

theorem exp_add (a b : EReal) (ha : a ≤ 0) (hb : b ≤ 0) : Ideal.exp (a + b) = Ideal.exp a * Ideal.exp b := by
  induction a with
  | bot => rw [EReal.bot_add, Ideal.exp_bot, zero_mul]
  | top => exact absurd ha (by simp)
  | coe r =>
    induction b with
    | bot => rw [EReal.add_bot, Ideal.exp_bot, mul_zero]
    | top => exact absurd hb (by simp)
    | coe s => rw [← EReal.coe_add, Ideal.exp_coe, Ideal.exp_coe, Ideal.exp_coe, Real.exp_add, EReal.coe_mul]

theorem mul_sum' (a : EReal) (h0 : 0 ≤ a) (ht : a ≠ ⊤) (f : Fin 128 → EReal) (s : Finset (Fin 128)) : a * ∑ x ∈ s, f x = ∑ x ∈ s, a * f x := by
  induction s using Finset.induction_on with
  | empty => rw [Finset.sum_empty, Finset.sum_empty, mul_zero]
  | insert x s hx ih => rw [Finset.sum_insert hx, Finset.sum_insert hx, EReal.left_distrib_of_nonneg_of_ne_top h0 ht, ih]

/-- The decay from chunk `m` to the start of chunk `c`. -/
def span (g : Fin 128 → EReal) (c m : ℕ) : EReal :=
  if m < c then Ideal.exp (∑ l : Fin 128, g l * if m < l.val ∧ l.val < c then 1 else 0) else 0

theorem ind_nonpos (g : Fin 128 → EReal) (hg : ∀ l, g l ≤ 0) (p : Prop) [Decidable p] (l : Fin 128) : g l * (if p then 1 else 0) ≤ 0 := by
  split_ifs
  · rw [mul_one]; exact hg l
  · rw [mul_zero]

theorem span_succ (g : Fin 128 → EReal) (hg : ∀ l, g l ≤ 0) (c : Fin 128) (m : ℕ) :
    span g (c.val + 1) m = Ideal.exp (g c) * span g c.val m + if m = c.val then 1 else 0 := by
  unfold span
  rcases Nat.lt_trichotomy m c.val with h | h | h
  · rw [if_pos (Nat.lt_succ_of_lt h), if_pos h, if_neg (Nat.ne_of_lt h), add_zero, ← exp_add _ _ (hg c) (Finset.sum_nonpos fun l _ => ind_nonpos g hg _ l)]
    congr 1
    have e : ∀ l : Fin 128, (g l * if m < l.val ∧ l.val < c.val + 1 then (1 : EReal) else 0) = (if c = l then g l else 0) + g l * if m < l.val ∧ l.val < c.val then (1 : EReal) else 0 := by
      intro l
      by_cases hl : c = l
      · subst hl
        rw [if_pos ⟨h, Nat.lt_succ_self _⟩, if_pos rfl, if_neg (fun q => Nat.lt_irrefl _ q.2), mul_one, mul_zero, add_zero]
      · have hl' : l.val ≠ c.val := fun q => hl (Fin.ext q.symm)
        rw [if_neg hl, zero_add]
        congr 1
        refine if_congr ?_ rfl rfl
        constructor
        · rintro ⟨a, b⟩; exact ⟨a, by omega⟩
        · rintro ⟨a, b⟩; exact ⟨a, by omega⟩
    rw [Finset.sum_congr rfl (fun l _ => e l), Finset.sum_add_distrib, Finset.sum_ite_eq, if_pos (Finset.mem_univ _)]
  · subst h
    rw [if_pos (Nat.lt_succ_self _), if_neg (Nat.lt_irrefl _), if_pos rfl, mul_zero, zero_add, Finset.sum_eq_zero]
    · show Ideal.exp ((0 : ℝ) : EReal) = 1
      rw [Ideal.exp_coe, Real.exp_zero]; rfl
    · intro l _
      rw [if_neg (by omega), mul_zero]
  · rw [if_neg (by omega), if_neg (by omega), if_neg (by omega), mul_zero, add_zero]

/-- The closed sum solves the recursion. -/
theorem closed (g kv : Fin 128 → EReal) (hg : ∀ l, g l ≤ 0) (s : ℕ → EReal) (h0 : s 0 = 0)
    (hs : ∀ c : Fin 128, c.val + 1 < 128 → s (c.val + 1) = Ideal.exp (g c) * s c.val + kv c) :
    ∀ c : ℕ, c < 128 → ∑ m : Fin 128, kv m * span g c m.val = s c
  | 0, _ => by
    rw [h0]
    refine Finset.sum_eq_zero fun m _ => ?_
    unfold span
    rw [if_neg (Nat.not_lt_zero _), mul_zero]
  | c + 1, hc => by
    rw [hs ⟨c, by omega⟩ hc, ← closed g kv hg s h0 hs c (by omega), mul_sum' _ (exp_nonneg _) (exp_ne_top _ (hg _))]
    have e : ∀ m : Fin 128, kv m * span g (c + 1) m.val = Ideal.exp (g ⟨c, by omega⟩) * (kv m * span g c m.val) + if (⟨c, by omega⟩ : Fin 128) = m then kv m else 0 := by
      intro m
      rw [show span g (c + 1) m.val = _ from span_succ g hg ⟨c, by omega⟩ m.val]
      dsimp only
      by_cases h : (⟨c, by omega⟩ : Fin 128) = m
      · subst h
        dsimp only
        rw [if_pos rfl, if_pos rfl]
        have z : span g c c = 0 := by unfold span; rw [if_neg (Nat.lt_irrefl _)]
        rw [z, mul_zero, mul_zero, mul_zero, zero_add, zero_add, mul_one]
      · rw [if_neg h, if_neg (fun q => h (Fin.ext q.symm)), add_zero, add_zero, mul_left_comm]
    rw [Finset.sum_congr rfl (fun m _ => e m), Finset.sum_add_distrib, Finset.sum_ite_eq, if_pos (Finset.mem_univ _)]

variable (x0 : (⟨S2x8192x1024, .f32⟩ : BufTy).Contents (Elt Ideal)) (x1 : (⟨S1x1024, .f32⟩ : BufTy).Contents (Elt Ideal)) (x2 : (⟨S1x1024x7184, .f32⟩ : BufTy).Contents (Elt Ideal)) (x3 : (⟨S1x31x1024, .f32⟩ : BufTy).Contents (Elt Ideal)) (x4 : (⟨S1x1024, .f32⟩ : BufTy).Contents (Elt Ideal)) (x5 : (⟨S1x1024, .f32⟩ : BufTy).Contents (Elt Ideal)) (x6 : (⟨S1x1024, .f32⟩ : BufTy).Contents (Elt Ideal)) (x7 : (⟨S1x1024x1024, .f32⟩ : BufTy).Contents (Elt Ideal)) (x8 : (⟨S1x16x512, .f32⟩ : BufTy).Contents (Elt Ideal)) (x9 : (⟨S1x512, .f32⟩ : BufTy).Contents (Elt Ideal)) (x10 : (⟨S1x256, .f32⟩ : BufTy).Contents (Elt Ideal)) (x11 : (⟨S1x1024x1024, .f32⟩ : BufTy).Contents (Elt Ideal)) (x12 : (⟨S1x1024x1024, .f32⟩ : BufTy).Contents (Elt Ideal))

/-- The decay between chunks. -/
theorem v342_at (b : Fin 2) (h : Fin 4) (c m : Fin 128) (d : Fin 128) : val_main_v342 (F := Ideal) x0 x1 x2 x8 x9 (ix5 b h c m d)
    = span (fun l => Bc (wr x1 x2 x3 x4 x5 x6 x7 x8 x9 x10 x11 x12) (Xr x0) (128 * b.val + l.val) 63 (hk h d)) c.val m.val := by
  pointwise [val_main_v324, val_main_v325, val_main_v326, val_main_v327, val_main_v328, val_main_v329, val_main_v330, val_main_v331, val_main_v332, val_main_v333, val_main_v334, val_main_v335, val_main_v336, val_main_v337, val_main_v338, val_main_v339, val_main_v340, val_main_v341, val_main_cst_13, val_main_call5_v0, val_main_call5_v1, val_main_call5_v2, val_main_v342]
  simp only [slt_at, v310_at x0 x1 x2 x3 x4 x5 x6 x7 x8 x9 x10 x11 x12]
  unfold span
  by_cases hc : m < c
  · rw [if_pos hc, if_pos (Fin.lt_def.mp hc)]
    refine Eq.trans (select_one _ _) (congrArg _ (Finset.sum_congr rfl fun l _ => congrArg _ ?_))
    by_cases h1 : m < l <;> by_cases h2 : l < c
    · rw [if_pos h1, if_pos h2, if_pos ⟨h1, h2⟩]; exact bit_one
    · rw [if_pos h1, if_neg h2, if_neg (fun q => h2 q.2)]; exact bit_zero
    · rw [if_neg h1, if_pos h2, if_neg (fun q => h1 q.1)]; exact bit_zero
    · rw [if_neg h1, if_neg h2, if_neg (fun q => h1 q.1)]; exact bit_zero
  · rw [if_neg hc, if_neg (fun q => hc (Fin.lt_def.mpr q))]
    refine Eq.trans (select_zero _ _) ?_
    exact Ideal.ofBits_zero_f32

theorem S_start (w : Wt) (Z : ℕ → Fin 1024 → EReal) (n : ℕ) (h : n % 128 = 0) : S w Z n = fun _ _ _ => 0 := by
  cases n with
  | zero => rfl
  | succ k => rw [S, if_pos h]

/-- The state before each chunk. -/
theorem v344_at (b : Fin 2) (h : Fin 4) (c : Fin 128) (d : Fin 128) (e : Fin 256) : val_main_v344 (F := Ideal) x0 x1 x2 x8 x9 (ix5 b h c d e)
    = S (wr x1 x2 x3 x4 x5 x6 x7 x8 x9 x10 x11 x12) (Xr x0) (128 * b.val + c.val) h e d := by
  pointwise [val_main_v343, val_main_v344]
  refine Eq.trans (Finset.sum_congr rfl fun m _ => ?_)
    (closed (fun l => Bc (wr x1 x2 x3 x4 x5 x6 x7 x8 x9 x10 x11 x12) (Xr x0) (128 * b.val + l.val) 63 (hk h d))
      (fun m => kv (Vc (wr x1 x2 x3 x4 x5 x6 x7 x8 x9 x10 x11 x12) (Xr x0) (128 * b.val + m.val)) (ke (Bc (wr x1 x2 x3 x4 x5 x6 x7 x8 x9 x10 x11 x12) (Xr x0) (128 * b.val + m.val)) (Kc (wr x1 x2 x3 x4 x5 x6 x7 x8 x9 x10 x11 x12) (Xr x0) (128 * b.val + m.val))) h e d)
      (fun l => Bc_nonpos _ _ _ _ _) (fun n => S (wr x1 x2 x3 x4 x5 x6 x7 x8 x9 x10 x11 x12) (Xr x0) (128 * b.val + n) h e d) ?_ ?_ c.val c.isLt)
  · rw [v323_at x0 x1 x2 x3 x4 x5 x6 x7 x8 x9 x10 x11 x12, v342_at x0 x1 x2 x3 x4 x5 x6 x7 x8 x9 x10 x11 x12]
  · rw [S_start _ _ _ (by omega)]
  · intro n hn
    rw [show 128 * b.val + (n.val + 1) = 128 * b.val + n.val + 1 from rfl, S, if_neg (by omega)]
    rfl

/-- The heads' outputs before their normalisation. -/
theorem v346_at (b : Fin 2) (h : Fin 4) (n : Fin 128) (i : Fin 64) (e : Fin 256) : val_main_v346 (F := Ideal) x0 x1 x2 x8 x9 (ix5 b h n i e)
    = oraw (att (qd (Bc (wr x1 x2 x3 x4 x5 x6 x7 x8 x9 x10 x11 x12) (Xr x0) (128 * b.val + n.val)) (Qc (wr x1 x2 x3 x4 x5 x6 x7 x8 x9 x10 x11 x12) (Xr x0) (128 * b.val + n.val))) (ki (Bc (wr x1 x2 x3 x4 x5 x6 x7 x8 x9 x10 x11 x12) (Xr x0) (128 * b.val + n.val)) (Kc (wr x1 x2 x3 x4 x5 x6 x7 x8 x9 x10 x11 x12) (Xr x0) (128 * b.val + n.val))))
        (Vc (wr x1 x2 x3 x4 x5 x6 x7 x8 x9 x10 x11 x12) (Xr x0) (128 * b.val + n.val)) (qd (Bc (wr x1 x2 x3 x4 x5 x6 x7 x8 x9 x10 x11 x12) (Xr x0) (128 * b.val + n.val)) (Qc (wr x1 x2 x3 x4 x5 x6 x7 x8 x9 x10 x11 x12) (Xr x0) (128 * b.val + n.val))) (S (wr x1 x2 x3 x4 x5 x6 x7 x8 x9 x10 x11 x12) (Xr x0) (128 * b.val + n.val)) h i e := by
  pointwise [val_main_v345, val_main_v346]
  rw [v322_at x0 x1 x2 x3 x4 x5 x6 x7 x8 x9 x10 x11 x12]
  unfold oraw
  refine congrArg₂ (· + ·) rfl (Finset.sum_congr rfl fun d _ => ?_)
  rw [v312_at x0 x1 x2 x3 x4 x5 x6 x7 x8 x9 x10 x11 x12, v344_at x0 x1 x2 x3 x4 x5 x6 x7 x8 x9 x10 x11 x12]

end Cert.ReferenceIdeal.Mix
end
-- ==== Proof.MixRefE.lean ====
module

public import proofs.«01_k».proof.Proof.MixRefB
public import proofs.«01_k».proof.Proof.MixRefD

@[expose] public section

set_option maxRecDepth 16384

noncomputable section

/-! The mixer's reference: the attention branch, the merge and the result rows. -/

namespace Cert.ReferenceIdeal.Mix

open Cert.ReferenceIdeal Cert.ReferenceIdeal.Gen Cert.ReferenceIdeal.Read Cert.MixSpec Idealize.ShloMosaic Idealize.ShloMosaic.TcCoe Cert.KernelIdeal.Mix

variable (x0 : (⟨S2x8192x1024, .f32⟩ : BufTy).Contents (Elt Ideal)) (x1 : (⟨S1x1024, .f32⟩ : BufTy).Contents (Elt Ideal)) (x2 : (⟨S1x1024x7184, .f32⟩ : BufTy).Contents (Elt Ideal)) (x3 : (⟨S1x31x1024, .f32⟩ : BufTy).Contents (Elt Ideal)) (x4 : (⟨S1x1024, .f32⟩ : BufTy).Contents (Elt Ideal)) (x5 : (⟨S1x1024, .f32⟩ : BufTy).Contents (Elt Ideal)) (x6 : (⟨S1x1024, .f32⟩ : BufTy).Contents (Elt Ideal)) (x7 : (⟨S1x1024x1024, .f32⟩ : BufTy).Contents (Elt Ideal)) (x8 : (⟨S1x16x512, .f32⟩ : BufTy).Contents (Elt Ideal)) (x9 : (⟨S1x512, .f32⟩ : BufTy).Contents (Elt Ideal)) (x10 : (⟨S1x256, .f32⟩ : BufTy).Contents (Elt Ideal)) (x11 : (⟨S1x1024x1024, .f32⟩ : BufTy).Contents (Elt Ideal)) (x12 : (⟨S1x1024x1024, .f32⟩ : BufTy).Contents (Elt Ideal))

/-- A head's output at a token, before its normalisation. -/
def orow (w : Wt) (Z : ℕ → Fin 1024 → EReal) (n : ℕ) (h : Fin 4) (e : Fin 256) : EReal :=
  oraw (att (qd (Bc w Z (n / 64)) (Qc w Z (n / 64))) (ki (Bc w Z (n / 64)) (Kc w Z (n / 64)))) (Vc w Z (n / 64)) (qd (Bc w Z (n / 64)) (Qc w Z (n / 64)))
    (S w Z (n / 64)) h ⟨n % 64, by omega⟩ e

theorem v348_at (b : Fin 2) (s : Fin 8192) (h : Fin 4) (e : Fin 256) : val_main_v348 (F := Ideal) x0 x1 x2 x8 x9 (ix4 b s h e) = orow (wr x1 x2 x3 x4 x5 x6 x7 x8 x9 x10 x11 x12) (Xr x0) (8192 * b.val + s.val) h e := by
  pointwise [val_main_v347, val_main_v348]
  rw [v346_at x0 x1 x2 x3 x4 x5 x6 x7 x8 x9 x10 x11 x12]
  unfold orow
  have e1 : (8192 * b.val + s.val) / 64 = 128 * b.val + s.val / 64 := by omega
  have e2 : (⟨(8192 * b.val + s.val) % 64, by omega⟩ : Fin 64) = ⟨s.val % 64, by omega⟩ := Fin.ext (by show (8192 * b.val + s.val) % 64 = s.val % 64; omega)
  rw [e1, e2]

/-- A head's output at a token, normalised. -/
theorem v362_at (b : Fin 2) (s : Fin 8192) (h : Fin 4) (e : Fin 256) : val_main_v362 (F := Ideal) x0 x1 x2 x8 x9 x10 (ix4 b s h e)
    = orow (wr x1 x2 x3 x4 x5 x6 x7 x8 x9 x10 x11 x12) (Xr x0) (8192 * b.val + s.val) h e
      * Ideal.rsqrt (Ideal.div (∑ k, orow (wr x1 x2 x3 x4 x5 x6 x7 x8 x9 x10 x11 x12) (Xr x0) (8192 * b.val + s.val) h k * orow (wr x1 x2 x3 x4 x5 x6 x7 x8 x9 x10 x11 x12) (Xr x0) (8192 * b.val + s.val) h k) widthV + eps) * (wr x1 x2 x3 x4 x5 x6 x7 x8 x9 x10 x11 x12).gng e := by
  have i1 (k : Fin 256) : val_main_v349 (F := Ideal) x0 x1 x2 x8 x9 (idx_main_v350 (idx_main_v351 (idx_main_v357 (ix4 b s h e))) k)
      = orow (wr x1 x2 x3 x4 x5 x6 x7 x8 x9 x10 x11 x12) (Xr x0) (8192 * b.val + s.val) h k * orow (wr x1 x2 x3 x4 x5 x6 x7 x8 x9 x10 x11 x12) (Xr x0) (8192 * b.val + s.val) h k := by
    have e1 : idx_main_v350 (idx_main_v351 (idx_main_v357 (ix4 b s h e))) k = ix4 b s h k := by
      funext a
      match a with
      | ⟨0, _⟩ => rfl
      | ⟨1, _⟩ => rfl
      | ⟨2, _⟩ => rfl
      | ⟨3, _⟩ => rfl
    rw [val_main_v349_apply, e1, v348_at x0 x1 x2 x3 x4 x5 x6 x7 x8 x9 x10 x11 x12]
    rfl
  have i2 : idx_main_v359 (idx_main_v360 (idx_main_v361 (ix4 b s h e))) = ix2 (0 : Fin 1) e := by
    funext a
    match a with
    | ⟨0, _⟩ => rfl
    | ⟨1, _⟩ => exact Fin.ext (Nat.mod_eq_of_lt e.isLt)
  rw [val_main_v362_apply, val_main_v358_apply, val_main_v357_apply, val_main_v356_apply, val_main_v355_apply, val_main_v353_apply, val_main_v351_apply, val_main_v350_apply, val_main_v361_apply, val_main_v360_apply, val_main_v359_apply, val_main_v352_apply, val_main_cst_15_apply, val_main_v354_apply, val_main_cst_16_apply, val_main_cst_14_apply, i2, v348_at x0 x1 x2 x3 x4 x5 x6 x7 x8 x9 x10 x11 x12]
  simp only [i1]
  have hg : x10 (ix2 (0 : Fin 1) e) = (wr x1 x2 x3 x4 x5 x6 x7 x8 x9 x10 x11 x12).gng e := rfl
  rw [hg]
  generalize (wr x1 x2 x3 x4 x5 x6 x7 x8 x9 x10 x11 x12).gng e = g
  generalize orow (wr x1 x2 x3 x4 x5 x6 x7 x8 x9 x10 x11 x12) (Xr x0) (8192 * b.val + s.val) h = f
  show f e * Ideal.rsqrt (Ideal.div (Ideal.ofBits .f32 0x00000000#32 + ∑ k, f k * f k) widthV + eps) * g = _
  rw [Ideal.ofBits_zero_f32, zero_add]

/-- The attention branch's rows. -/
theorem v365_at (b : Fin 2) (s : Fin 8192) (j : Fin 1024) : val_main_v365 (F := Ideal) x0 x1 x2 x8 x9 x10 (ix3 b s j) = O (wr x1 x2 x3 x4 x5 x6 x7 x8 x9 x10 x11 x12) (Xr x0) (8192 * b.val + s.val) j := by
  have i1 : idx_main_v363 (ix3 b s j) = ix4 b s (⟨j.val / 256, by omega⟩ : Fin 4) (⟨j.val % 256, by omega⟩ : Fin 256) := by
    funext a
    match a with
    | ⟨0, _⟩ => exact Fin.ext (by show ((b.val * 8192 + s.val) * 1024 + j.val) / 8388608 = b.val; omega)
    | ⟨1, _⟩ => exact Fin.ext (by show ((b.val * 8192 + s.val) * 1024 + j.val) / 1024 % 8192 = s.val; omega)
    | ⟨2, _⟩ => exact Fin.ext (by show ((b.val * 8192 + s.val) * 1024 + j.val) / 256 % 4 = j.val / 256; omega)
    | ⟨3, _⟩ => exact Fin.ext (by show ((b.val * 8192 + s.val) * 1024 + j.val) % 256 = j.val % 256; omega)
  rw [val_main_v365_apply, val_main_v363_apply, i1, val_main_v364_apply, val_main_call6_v5_apply, val_main_call6_v4_apply, val_main_call6_v3_apply, val_main_call6_v2_apply, val_main_call6_v1_apply, val_main_call6_v0_apply, val_main_call6_cst_apply, val_main_call6_cst_0_apply, v362_at x0 x1 x2 x3 x4 x5 x6 x7 x8 x9 x10 x11 x12, v20_at x0 x1 x2 x3 x4 x5 x6 x7 x8 x9 x10 x11 x12]
  have er : prj (wr x1 x2 x3 x4 x5 x6 x7 x8 x9 x10 x11 x12) (U (wr x1 x2 x3 x4 x5 x6 x7 x8 x9 x10 x11 x12) (Xr x0) (8192 * b.val + s.val)) 4096 (by omega) j
      = Rc (wr x1 x2 x3 x4 x5 x6 x7 x8 x9 x10 x11 x12) (Xr x0) ((8192 * b.val + s.val) / 64) ⟨(8192 * b.val + s.val) % 64, by omega⟩ (hv ⟨j.val / 256, by omega⟩ ⟨j.val % 256, by omega⟩) := by
    unfold Rc Uc
    have a1 : 64 * ((8192 * b.val + s.val) / 64) + (8192 * b.val + s.val) % 64 = 8192 * b.val + s.val := Nat.div_add_mod _ _
    have a2 : hv ⟨j.val / 256, by omega⟩ ⟨j.val % 256, by omega⟩ = j := Fin.ext (Nat.div_add_mod _ _)
    rw [a2]
    dsimp only
    rw [a1]
  unfold O obuf ohead
  dsimp only
  rw [← er]
  unfold orow sg
  generalize prj (wr x1 x2 x3 x4 x5 x6 x7 x8 x9 x10 x11 x12) (U (wr x1 x2 x3 x4 x5 x6 x7 x8 x9 x10 x11 x12) (Xr x0) (8192 * b.val + s.val)) 4096 _ j = u
  rw [zero_sub, ← Ideal.ofBits_one_f32]
  rfl

/-- The result rows. -/
theorem v385_at (b : Fin 2) (s : Fin 8192) (j : Fin 1024) : val_main_v385 (F := Ideal) x0 x1 x2 x3 x4 x5 x6 x7 x8 x9 x10 x11 x12 (ix3 b s j) = Y (wr x1 x2 x3 x4 x5 x6 x7 x8 x9 x10 x11 x12) (Xr x0) (8192 * b.val + s.val) j := by
  pointwise [val_main_v366, val_main_v367, val_main_v368, val_main_v369, val_main_cst_17, val_main_v370, val_main_v371, val_main_cst_18, val_main_v372, val_main_v373, val_main_v374, val_main_v375, val_main_v376, val_main_cst_19, val_main_v377, val_main_v378, val_main_cst_20, val_main_v379, val_main_v380, val_main_v381, val_main_v382, val_main_v383, val_main_v384, val_main_v385]
  simp only [v365_at x0 x1 x2 x3 x4 x5 x6 x7 x8 x9 x10 x11 x12, v281_at x0 x1 x2 x3 x4 x5 x6 x7 x8 x9 x10 x11 x12, v22_at x0 x1 x2 x3 x4 x5 x6 x7 x8 x9 x10 x11 x12, v23_at x0 x1 x2 x3 x4 x5 x6 x7 x8 x9 x10 x11 x12]
  unfold Y result merged sg
  simp only [zero_sub]
  rw [← Xr_row]
  rfl

theorem v386_at (n : Fin 16384) (j : Fin 1024) : val_main_v386 (F := Ideal) x0 x1 x2 x3 x4 x5 x6 x7 x8 x9 x10 x11 x12 (ix2 n j) = Y (wr x1 x2 x3 x4 x5 x6 x7 x8 x9 x10 x11 x12) (Xr x0) n.val j := by
  pointwise [val_main_v386]
  rw [v385_at x0 x1 x2 x3 x4 x5 x6 x7 x8 x9 x10 x11 x12]
  dsimp only
  rw [Nat.div_add_mod]

end Cert.ReferenceIdeal.Mix
end
-- ==== Proof.MixClaims.lean ====
/-
The token mixer's value claim: the kernel's result and the reference's are both `MixSpec.Y` of the same arguments.
-/
module

public import proofs.«01_k».proof.Defs
public import proofs.«01_k».proof.Proof.MixArr
public import proofs.«01_k».proof.Proof.MixRefE
public import proofs.«01_k».proof.Proof.Gen.ReferenceIdeal.Run
public import proofs.«01_k».proof.Proof.Gen.ReferenceIdeal.Read
public import Idealize.ShloMosaic.Lib.Quiescent

@[expose] public section

noncomputable section

open Idealize.ShloMosaic Idealize.ShloMosaic.TcCoe Idealize.SL.Sem

namespace Cert.Proof.Mix

/-- The kernel's result and the reference's are equal, as extended reals, at every index. -/
theorem algebraic : Cert.algebraic_KernelIdeal_ReferenceIdeal := by
  intro m ρ m' ρ' _ hag
  refine ⟨fun c => Cert.KernelIdeal.Mix.G15 m c, (θ_run Cert.KernelIdeal.defs _ _).mono (fun _ h c =>
      ⟨(h c).1.trans (Cert.KernelIdeal.Mix.arr15 m c), (h c).2⟩) (Cert.KernelIdeal.Value.run_blocks (F := Ideal) m ρ), ?_⟩
  refine (θ_run Cert.ReferenceIdeal.defs _ _).mono (fun _ h c => ⟨((h c).1.trans
      (Cert.ReferenceIdeal.Read.val_main_v386_eq (StableHlo.launchContents m' c))).trans ?_, (h c).2⟩)
    (Cert.ReferenceIdeal.Value.run (F := Ideal) m' ρ')
  obtain ⟨e0, e1, e2, e3, e4, e5, e6, e7, e8, e9, e10, e11, e12⟩ := hag c
  rw [show StableHlo.launchContents m' c (Proc.tc.devRef Cert.ReferenceIdeal.main_arg0) = _ from e0,
    show StableHlo.launchContents m' c (Proc.tc.devRef Cert.ReferenceIdeal.main_arg1) = _ from e1,
    show StableHlo.launchContents m' c (Proc.tc.devRef Cert.ReferenceIdeal.main_arg2) = _ from e2,
    show StableHlo.launchContents m' c (Proc.tc.devRef Cert.ReferenceIdeal.main_arg3) = _ from e3,
    show StableHlo.launchContents m' c (Proc.tc.devRef Cert.ReferenceIdeal.main_arg4) = _ from e4,
    show StableHlo.launchContents m' c (Proc.tc.devRef Cert.ReferenceIdeal.main_arg5) = _ from e5,
    show StableHlo.launchContents m' c (Proc.tc.devRef Cert.ReferenceIdeal.main_arg6) = _ from e6,
    show StableHlo.launchContents m' c (Proc.tc.devRef Cert.ReferenceIdeal.main_arg7) = _ from e7,
    show StableHlo.launchContents m' c (Proc.tc.devRef Cert.ReferenceIdeal.main_arg8) = _ from e8,
    show StableHlo.launchContents m' c (Proc.tc.devRef Cert.ReferenceIdeal.main_arg9) = _ from e9,
    show StableHlo.launchContents m' c (Proc.tc.devRef Cert.ReferenceIdeal.main_arg10) = _ from e10,
    show StableHlo.launchContents m' c (Proc.tc.devRef Cert.ReferenceIdeal.main_arg11) = _ from e11,
    show StableHlo.launchContents m' c (Proc.tc.devRef Cert.ReferenceIdeal.main_arg12) = _ from e12]
  funext i
  obtain ⟨n, k, rfl⟩ : ∃ (n : Fin 16384) (k : Fin 1024), i = ix2 n k := ⟨i 0, i 1, by
    funext a; match a with | 0 => rfl | 1 => rfl⟩
  exact Cert.ReferenceIdeal.Mix.v386_at _ _ _ _ _ _ _ _ _ _ _ _ _ n k

end Cert.Proof.Mix

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.FfnClaims
public import proofs.«01_k».proof.Proof.MixClaims
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import Idealize.ShloMosaic.Adequacy
public import Idealize.ShloMosaic.Init

@[expose] public section

noncomputable section

namespace Cert.Proof

open Idealize.ShloMosaic Idealize.SL.Sem Cert.Kernel

/-- The mixer's reference ends with its arguments as they were and every semaphore at zero. -/
theorem frame_r : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  fun m ρ _ => Cert.Kernel.Gen.frame m ρ,
  fun m ρ _ => Cert.KernelIdeal.Gen.frame m ρ,
  frame_r,
  fun m ρ _ => Cert.Kernel2.Gen.frame m ρ,
  fun m ρ _ => Cert.Kernel2Ideal.Gen.frame m ρ,
  Ffn.frame_r,
  trivial,
  Mix.algebraic,
  trivial,
  Ffn.algebraic⟩

end Cert.Proof

end
